-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_gate_operands_finite [hPre_gate_operands_finite : Cert.Pre_gate_operands_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_operands_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).1 = (fun _ => 1#1)
    ∧ (Cert.Pre_gate_operands_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.1 = (fun _ => 1#1)
    ∧ (Cert.Pre_gate_operands_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2 = (fun _ => 1#1)

def Pre_GateGradReferenceIdeal (m : (ℓ : Loc Cert.GateGradReferenceIdeal.nD Cert.GateGradReferenceIdeal.τ Cert.GateGradReferenceIdeal.sig) → Buf (Elt Ideal) ℓ) : Prop :=
  True

def Pre_GateGradReferenceIdeal_gate_operands_finite [hPre_gate_operands_finite : Cert.Pre_gate_operands_finite.Facts] (m : (ℓ : Loc Cert.GateGradReferenceIdeal.nD Cert.GateGradReferenceIdeal.τ Cert.GateGradReferenceIdeal.sig) → Buf (Elt Ideal) ℓ) : Prop :=
  ∀ c : Dev Cert.GateGradReferenceIdeal.nD,
    (Cert.Pre_gate_operands_finite.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3))).1 = (fun _ => 1#1)
    ∧ (Cert.Pre_gate_operands_finite.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3))).2.1 = (fun _ => 1#1)
    ∧ (Cert.Pre_gate_operands_finite.fn (F := Ideal) (m ((c.tc : Thread Cert.GateGradReferenceIdeal.nD Cert.GateGradReferenceIdeal.τ).loc Cert.GateGradReferenceIdeal.main_arg0)) (m ((c.tc : Thread Cert.GateGradReferenceIdeal.nD Cert.GateGradReferenceIdeal.τ).loc Cert.GateGradReferenceIdeal.main_arg1)) (m ((c.tc : Thread Cert.GateGradReferenceIdeal.nD Cert.GateGradReferenceIdeal.τ).loc Cert.GateGradReferenceIdeal.main_arg2)) (m ((c.tc : Thread Cert.GateGradReferenceIdeal.nD Cert.GateGradReferenceIdeal.τ).loc Cert.GateGradReferenceIdeal.main_arg3))).2.2 = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_FfGrad (m : (ℓ : Loc Cert.FfGrad.nD Cert.FfGrad.τ Cert.FfGrad.sig) → Buf (Elt Bits) ℓ) : Prop :=
  True

def Pre_FfGradIdeal (m : (ℓ : Loc Cert.FfGradIdeal.nD Cert.FfGradIdeal.τ Cert.FfGradIdeal.sig) → Buf (Elt Ideal) ℓ) : Prop :=
  True

def Pre_FfGradReferenceIdeal (m : (ℓ : Loc Cert.FfGradReferenceIdeal.nD Cert.FfGradReferenceIdeal.τ Cert.FfGradReferenceIdeal.sig) → Buf (Elt Ideal) ℓ) : Prop :=
  True

def Pre_MlpGrad (m : (ℓ : Loc Cert.MlpGrad.nD Cert.MlpGrad.τ Cert.MlpGrad.sig) → Buf (Elt Bits) ℓ) : Prop :=
  True

def Pre_MlpGradIdeal (m : (ℓ : Loc Cert.MlpGradIdeal.nD Cert.MlpGradIdeal.τ Cert.MlpGradIdeal.sig) → Buf (Elt Ideal) ℓ) : Prop :=
  True

def Pre_MlpGradIdeal_mlp_operands_finite [hPre_mlp_operands_finite : Cert.Pre_mlp_operands_finite.Facts] (m : (ℓ : Loc Cert.MlpGradIdeal.nD Cert.MlpGradIdeal.τ Cert.MlpGradIdeal.sig) → Buf (Elt Ideal) ℓ) : Prop :=
  ∀ c : Dev Cert.MlpGradIdeal.nD,
    (Cert.Pre_mlp_operands_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7))).1 = (fun _ => 1#1)
    ∧ (Cert.Pre_mlp_operands_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7))).2.1 = (fun _ => 1#1)
    ∧ (Cert.Pre_mlp_operands_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7))).2.2.1 = (fun _ => 1#1)
    ∧ (Cert.Pre_mlp_operands_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7))).2.2.2.1 = (fun _ => 1#1)
    ∧ (Cert.Pre_mlp_operands_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7))).2.2.2.2 = (fun _ => 1#1)

def Pre_MlpGradReferenceIdeal (m : (ℓ : Loc Cert.MlpGradReferenceIdeal.nD Cert.MlpGradReferenceIdeal.τ Cert.MlpGradReferenceIdeal.sig) → Buf (Elt Ideal) ℓ) : Prop :=
  True

def Pre_MlpGradReferenceIdeal_mlp_operands_finite [hPre_mlp_operands_finite : Cert.Pre_mlp_operands_finite.Facts] (m : (ℓ : Loc Cert.MlpGradReferenceIdeal.nD Cert.MlpGradReferenceIdeal.τ Cert.MlpGradReferenceIdeal.sig) → Buf (Elt Ideal) ℓ) : Prop :=
  ∀ c : Dev Cert.MlpGradReferenceIdeal.nD,
    (Cert.Pre_mlp_operands_finite.fn (F := Ideal) (m ((c.tc : Thread Cert.MlpGradReferenceIdeal.nD Cert.MlpGradReferenceIdeal.τ).loc Cert.MlpGradReferenceIdeal.main_arg0)) (m ((c.tc : Thread Cert.MlpGradReferenceIdeal.nD Cert.MlpGradReferenceIdeal.τ).loc Cert.MlpGradReferenceIdeal.main_arg1)) (m ((c.tc : Thread Cert.MlpGradReferenceIdeal.nD Cert.MlpGradReferenceIdeal.τ).loc Cert.MlpGradReferenceIdeal.main_arg2)) (m ((c.tc : Thread Cert.MlpGradReferenceIdeal.nD Cert.MlpGradReferenceIdeal.τ).loc Cert.MlpGradReferenceIdeal.main_arg3)) (m ((c.tc : Thread Cert.MlpGradReferenceIdeal.nD Cert.MlpGradReferenceIdeal.τ).loc Cert.MlpGradReferenceIdeal.main_arg4)) (m ((c.tc : Thread Cert.MlpGradReferenceIdeal.nD Cert.MlpGradReferenceIdeal.τ).loc Cert.MlpGradReferenceIdeal.main_arg5)) (m ((c.tc : Thread Cert.MlpGradReferenceIdeal.nD Cert.MlpGradReferenceIdeal.τ).loc Cert.MlpGradReferenceIdeal.main_arg6)) (m ((c.tc : Thread Cert.MlpGradReferenceIdeal.nD Cert.MlpGradReferenceIdeal.τ).loc Cert.MlpGradReferenceIdeal.main_arg7))).1 = (fun _ => 1#1)
    ∧ (Cert.Pre_mlp_operands_finite.fn (F := Ideal) (m ((c.tc : Thread Cert.MlpGradReferenceIdeal.nD Cert.MlpGradReferenceIdeal.τ).loc Cert.MlpGradReferenceIdeal.main_arg0)) (m ((c.tc : Thread Cert.MlpGradReferenceIdeal.nD Cert.MlpGradReferenceIdeal.τ).loc Cert.MlpGradReferenceIdeal.main_arg1)) (m ((c.tc : Thread Cert.MlpGradReferenceIdeal.nD Cert.MlpGradReferenceIdeal.τ).loc Cert.MlpGradReferenceIdeal.main_arg2)) (m ((c.tc : Thread Cert.MlpGradReferenceIdeal.nD Cert.MlpGradReferenceIdeal.τ).loc Cert.MlpGradReferenceIdeal.main_arg3)) (m ((c.tc : Thread Cert.MlpGradReferenceIdeal.nD Cert.MlpGradReferenceIdeal.τ).loc Cert.MlpGradReferenceIdeal.main_arg4)) (m ((c.tc : Thread Cert.MlpGradReferenceIdeal.nD Cert.MlpGradReferenceIdeal.τ).loc Cert.MlpGradReferenceIdeal.main_arg5)) (m ((c.tc : Thread Cert.MlpGradReferenceIdeal.nD Cert.MlpGradReferenceIdeal.τ).loc Cert.MlpGradReferenceIdeal.main_arg6)) (m ((c.tc : Thread Cert.MlpGradReferenceIdeal.nD Cert.MlpGradReferenceIdeal.τ).loc Cert.MlpGradReferenceIdeal.main_arg7))).2.1 = (fun _ => 1#1)
    ∧ (Cert.Pre_mlp_operands_finite.fn (F := Ideal) (m ((c.tc : Thread Cert.MlpGradReferenceIdeal.nD Cert.MlpGradReferenceIdeal.τ).loc Cert.MlpGradReferenceIdeal.main_arg0)) (m ((c.tc : Thread Cert.MlpGradReferenceIdeal.nD Cert.MlpGradReferenceIdeal.τ).loc Cert.MlpGradReferenceIdeal.main_arg1)) (m ((c.tc : Thread Cert.MlpGradReferenceIdeal.nD Cert.MlpGradReferenceIdeal.τ).loc Cert.MlpGradReferenceIdeal.main_arg2)) (m ((c.tc : Thread Cert.MlpGradReferenceIdeal.nD Cert.MlpGradReferenceIdeal.τ).loc Cert.MlpGradReferenceIdeal.main_arg3)) (m ((c.tc : Thread Cert.MlpGradReferenceIdeal.nD Cert.MlpGradReferenceIdeal.τ).loc Cert.MlpGradReferenceIdeal.main_arg4)) (m ((c.tc : Thread Cert.MlpGradReferenceIdeal.nD Cert.MlpGradReferenceIdeal.τ).loc Cert.MlpGradReferenceIdeal.main_arg5)) (m ((c.tc : Thread Cert.MlpGradReferenceIdeal.nD Cert.MlpGradReferenceIdeal.τ).loc Cert.MlpGradReferenceIdeal.main_arg6)) (m ((c.tc : Thread Cert.MlpGradReferenceIdeal.nD Cert.MlpGradReferenceIdeal.τ).loc Cert.MlpGradReferenceIdeal.main_arg7))).2.2.1 = (fun _ => 1#1)
    ∧ (Cert.Pre_mlp_operands_finite.fn (F := Ideal) (m ((c.tc : Thread Cert.MlpGradReferenceIdeal.nD Cert.MlpGradReferenceIdeal.τ).loc Cert.MlpGradReferenceIdeal.main_arg0)) (m ((c.tc : Thread Cert.MlpGradReferenceIdeal.nD Cert.MlpGradReferenceIdeal.τ).loc Cert.MlpGradReferenceIdeal.main_arg1)) (m ((c.tc : Thread Cert.MlpGradReferenceIdeal.nD Cert.MlpGradReferenceIdeal.τ).loc Cert.MlpGradReferenceIdeal.main_arg2)) (m ((c.tc : Thread Cert.MlpGradReferenceIdeal.nD Cert.MlpGradReferenceIdeal.τ).loc Cert.MlpGradReferenceIdeal.main_arg3)) (m ((c.tc : Thread Cert.MlpGradReferenceIdeal.nD Cert.MlpGradReferenceIdeal.τ).loc Cert.MlpGradReferenceIdeal.main_arg4)) (m ((c.tc : Thread Cert.MlpGradReferenceIdeal.nD Cert.MlpGradReferenceIdeal.τ).loc Cert.MlpGradReferenceIdeal.main_arg5)) (m ((c.tc : Thread Cert.MlpGradReferenceIdeal.nD Cert.MlpGradReferenceIdeal.τ).loc Cert.MlpGradReferenceIdeal.main_arg6)) (m ((c.tc : Thread Cert.MlpGradReferenceIdeal.nD Cert.MlpGradReferenceIdeal.τ).loc Cert.MlpGradReferenceIdeal.main_arg7))).2.2.2.1 = (fun _ => 1#1)
    ∧ (Cert.Pre_mlp_operands_finite.fn (F := Ideal) (m ((c.tc : Thread Cert.MlpGradReferenceIdeal.nD Cert.MlpGradReferenceIdeal.τ).loc Cert.MlpGradReferenceIdeal.main_arg0)) (m ((c.tc : Thread Cert.MlpGradReferenceIdeal.nD Cert.MlpGradReferenceIdeal.τ).loc Cert.MlpGradReferenceIdeal.main_arg1)) (m ((c.tc : Thread Cert.MlpGradReferenceIdeal.nD Cert.MlpGradReferenceIdeal.τ).loc Cert.MlpGradReferenceIdeal.main_arg2)) (m ((c.tc : Thread Cert.MlpGradReferenceIdeal.nD Cert.MlpGradReferenceIdeal.τ).loc Cert.MlpGradReferenceIdeal.main_arg3)) (m ((c.tc : Thread Cert.MlpGradReferenceIdeal.nD Cert.MlpGradReferenceIdeal.τ).loc Cert.MlpGradReferenceIdeal.main_arg4)) (m ((c.tc : Thread Cert.MlpGradReferenceIdeal.nD Cert.MlpGradReferenceIdeal.τ).loc Cert.MlpGradReferenceIdeal.main_arg5)) (m ((c.tc : Thread Cert.MlpGradReferenceIdeal.nD Cert.MlpGradReferenceIdeal.τ).loc Cert.MlpGradReferenceIdeal.main_arg6)) (m ((c.tc : Thread Cert.MlpGradReferenceIdeal.nD Cert.MlpGradReferenceIdeal.τ).loc Cert.MlpGradReferenceIdeal.main_arg7))).2.2.2.2 = (fun _ => 1#1)

def Pre_InNormGrad (m : (ℓ : Loc Cert.InNormGrad.nD Cert.InNormGrad.τ Cert.InNormGrad.sig) → Buf (Elt Bits) ℓ) : Prop :=
  True

def Pre_InNormGradIdeal (m : (ℓ : Loc Cert.InNormGradIdeal.nD Cert.InNormGradIdeal.τ Cert.InNormGradIdeal.sig) → Buf (Elt Ideal) ℓ) : Prop :=
  True

def Pre_InNormGradIdeal_norm_operands_finite [hPre_norm_operands_finite : Cert.Pre_norm_operands_finite.Facts] (m : (ℓ : Loc Cert.InNormGradIdeal.nD Cert.InNormGradIdeal.τ Cert.InNormGradIdeal.sig) → Buf (Elt Ideal) ℓ) : Prop :=
  ∀ c : Dev Cert.InNormGradIdeal.nD,
    (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.2.1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.2.2.1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.2.2.2.1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.2.2.2.2.1 = (fun _ => 1#1)
    ∧ (Cert.Pre_norm_operands_finite.fn (F := Ideal) (m ((c.tc : Thread Cert.InNormGradIdeal.nD Cert.InNormGradIdeal.τ).loc Cert.InNormGradIdeal.main_arg0)) (m ((c.tc : Thread Cert.InNormGradIdeal.nD Cert.InNormGradIdeal.τ).loc Cert.InNormGradIdeal.main_arg1)) (m ((c.tc : Thread Cert.InNormGradIdeal.nD Cert.InNormGradIdeal.τ).loc Cert.InNormGradIdeal.main_arg2)) (m ((c.tc : Thread Cert.InNormGradIdeal.nD Cert.InNormGradIdeal.τ).loc Cert.InNormGradIdeal.main_arg3)) (m ((c.tc : Thread Cert.InNormGradIdeal.nD Cert.InNormGradIdeal.τ).loc Cert.InNormGradIdeal.main_arg4)) (m ((c.tc : Thread Cert.InNormGradIdeal.nD Cert.InNormGradIdeal.τ).loc Cert.InNormGradIdeal.main_arg5)) (m ((c.tc : Thread Cert.InNormGradIdeal.nD Cert.InNormGradIdeal.τ).loc Cert.InNormGradIdeal.main_arg6)) (m ((c.tc : Thread Cert.InNormGradIdeal.nD Cert.InNormGradIdeal.τ).loc Cert.InNormGradIdeal.main_arg7)) (m ((c.tc : Thread Cert.InNormGradIdeal.nD Cert.InNormGradIdeal.τ).loc Cert.InNormGradIdeal.main_arg8))).2.2.2.2.2.2 = (fun _ => 1#1)

def Pre_InNormGradReferenceIdeal (m : (ℓ : Loc Cert.InNormGradReferenceIdeal.nD Cert.InNormGradReferenceIdeal.τ Cert.InNormGradReferenceIdeal.sig) → Buf (Elt Ideal) ℓ) : Prop :=
  True

def Pre_InNormGradReferenceIdeal_norm_operands_finite [hPre_norm_operands_finite : Cert.Pre_norm_operands_finite.Facts] (m : (ℓ : Loc Cert.InNormGradReferenceIdeal.nD Cert.InNormGradReferenceIdeal.τ Cert.InNormGradReferenceIdeal.sig) → Buf (Elt Ideal) ℓ) : Prop :=
  ∀ c : Dev Cert.InNormGradReferenceIdeal.nD,
    (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.2.1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.2.2.1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.2.2.2.1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.2.2.2.2.1 = (fun _ => 1#1)
    ∧ (Cert.Pre_norm_operands_finite.fn (F := Ideal) (m ((c.tc : Thread Cert.InNormGradReferenceIdeal.nD Cert.InNormGradReferenceIdeal.τ).loc Cert.InNormGradReferenceIdeal.main_arg0)) (m ((c.tc : Thread Cert.InNormGradReferenceIdeal.nD Cert.InNormGradReferenceIdeal.τ).loc Cert.InNormGradReferenceIdeal.main_arg1)) (m ((c.tc : Thread Cert.InNormGradReferenceIdeal.nD Cert.InNormGradReferenceIdeal.τ).loc Cert.InNormGradReferenceIdeal.main_arg2)) (m ((c.tc : Thread Cert.InNormGradReferenceIdeal.nD Cert.InNormGradReferenceIdeal.τ).loc Cert.InNormGradReferenceIdeal.main_arg3)) (m ((c.tc : Thread Cert.InNormGradReferenceIdeal.nD Cert.InNormGradReferenceIdeal.τ).loc Cert.InNormGradReferenceIdeal.main_arg4)) (m ((c.tc : Thread Cert.InNormGradReferenceIdeal.nD Cert.InNormGradReferenceIdeal.τ).loc Cert.InNormGradReferenceIdeal.main_arg5)) (m ((c.tc : Thread Cert.InNormGradReferenceIdeal.nD Cert.InNormGradReferenceIdeal.τ).loc Cert.InNormGradReferenceIdeal.main_arg6)) (m ((c.tc : Thread Cert.InNormGradReferenceIdeal.nD Cert.InNormGradReferenceIdeal.τ).loc Cert.InNormGradReferenceIdeal.main_arg7)) (m ((c.tc : Thread Cert.InNormGradReferenceIdeal.nD Cert.InNormGradReferenceIdeal.τ).loc Cert.InNormGradReferenceIdeal.main_arg8))).2.2.2.2.2.2 = (fun _ => 1#1)

def Pre_DownFinal (m : (ℓ : Loc Cert.DownFinal.nD Cert.DownFinal.τ Cert.DownFinal.sig) → Buf (Elt Bits) ℓ) : Prop :=
  True

def Pre_DownFinalIdeal (m : (ℓ : Loc Cert.DownFinalIdeal.nD Cert.DownFinalIdeal.τ Cert.DownFinalIdeal.sig) → Buf (Elt Ideal) ℓ) : Prop :=
  True

def Pre_DownFinalIdeal_final_operands_finite [hPre_final_operands_finite : Cert.Pre_final_operands_finite.Facts] (m : (ℓ : Loc Cert.DownFinalIdeal.nD Cert.DownFinalIdeal.τ Cert.DownFinalIdeal.sig) → Buf (Elt Ideal) ℓ) : Prop :=
  ∀ c : Dev Cert.DownFinalIdeal.nD,
    (Cert.Pre_final_operands_finite.fn (F := Ideal) (m ((c.tc : Thread Cert.DownFinalIdeal.nD Cert.DownFinalIdeal.τ).loc Cert.DownFinalIdeal.main_arg0)) (m ((c.tc : Thread Cert.DownFinalIdeal.nD Cert.DownFinalIdeal.τ).loc Cert.DownFinalIdeal.main_arg1)) (m ((c.tc : Thread Cert.DownFinalIdeal.nD Cert.DownFinalIdeal.τ).loc Cert.DownFinalIdeal.main_arg2)) (m ((c.tc : Thread Cert.DownFinalIdeal.nD Cert.DownFinalIdeal.τ).loc Cert.DownFinalIdeal.main_arg3)) (m ((c.tc : Thread Cert.DownFinalIdeal.nD Cert.DownFinalIdeal.τ).loc Cert.DownFinalIdeal.main_arg4))).1 = (fun _ => 1#1)
    ∧ (Cert.Pre_final_operands_finite.fn (F := Ideal) (m ((c.tc : Thread Cert.DownFinalIdeal.nD Cert.DownFinalIdeal.τ).loc Cert.DownFinalIdeal.main_arg0)) (m ((c.tc : Thread Cert.DownFinalIdeal.nD Cert.DownFinalIdeal.τ).loc Cert.DownFinalIdeal.main_arg1)) (m ((c.tc : Thread Cert.DownFinalIdeal.nD Cert.DownFinalIdeal.τ).loc Cert.DownFinalIdeal.main_arg2)) (m ((c.tc : Thread Cert.DownFinalIdeal.nD Cert.DownFinalIdeal.τ).loc Cert.DownFinalIdeal.main_arg3)) (m ((c.tc : Thread Cert.DownFinalIdeal.nD Cert.DownFinalIdeal.τ).loc Cert.DownFinalIdeal.main_arg4))).2 = (fun _ => 1#1)

def Pre_DownFinalReferenceIdeal (m : (ℓ : Loc Cert.DownFinalReferenceIdeal.nD Cert.DownFinalReferenceIdeal.τ Cert.DownFinalReferenceIdeal.sig) → Buf (Elt Ideal) ℓ) : Prop :=
  True

def Pre_DownFinalReferenceIdeal_final_operands_finite [hPre_final_operands_finite : Cert.Pre_final_operands_finite.Facts] (m : (ℓ : Loc Cert.DownFinalReferenceIdeal.nD Cert.DownFinalReferenceIdeal.τ Cert.DownFinalReferenceIdeal.sig) → Buf (Elt Ideal) ℓ) : Prop :=
  ∀ c : Dev Cert.DownFinalReferenceIdeal.nD,
    (Cert.Pre_final_operands_finite.fn (F := Ideal) (m ((c.tc : Thread Cert.DownFinalReferenceIdeal.nD Cert.DownFinalReferenceIdeal.τ).loc Cert.DownFinalReferenceIdeal.main_arg0)) (m ((c.tc : Thread Cert.DownFinalReferenceIdeal.nD Cert.DownFinalReferenceIdeal.τ).loc Cert.DownFinalReferenceIdeal.main_arg1)) (m ((c.tc : Thread Cert.DownFinalReferenceIdeal.nD Cert.DownFinalReferenceIdeal.τ).loc Cert.DownFinalReferenceIdeal.main_arg2)) (m ((c.tc : Thread Cert.DownFinalReferenceIdeal.nD Cert.DownFinalReferenceIdeal.τ).loc Cert.DownFinalReferenceIdeal.main_arg3)) (m ((c.tc : Thread Cert.DownFinalReferenceIdeal.nD Cert.DownFinalReferenceIdeal.τ).loc Cert.DownFinalReferenceIdeal.main_arg4))).1 = (fun _ => 1#1)
    ∧ (Cert.Pre_final_operands_finite.fn (F := Ideal) (m ((c.tc : Thread Cert.DownFinalReferenceIdeal.nD Cert.DownFinalReferenceIdeal.τ).loc Cert.DownFinalReferenceIdeal.main_arg0)) (m ((c.tc : Thread Cert.DownFinalReferenceIdeal.nD Cert.DownFinalReferenceIdeal.τ).loc Cert.DownFinalReferenceIdeal.main_arg1)) (m ((c.tc : Thread Cert.DownFinalReferenceIdeal.nD Cert.DownFinalReferenceIdeal.τ).loc Cert.DownFinalReferenceIdeal.main_arg2)) (m ((c.tc : Thread Cert.DownFinalReferenceIdeal.nD Cert.DownFinalReferenceIdeal.τ).loc Cert.DownFinalReferenceIdeal.main_arg3)) (m ((c.tc : Thread Cert.DownFinalReferenceIdeal.nD Cert.DownFinalReferenceIdeal.τ).loc Cert.DownFinalReferenceIdeal.main_arg4))).2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1ReferenceIdeal (m : (ℓ : Loc Cert.Norm1ReferenceIdeal.nD Cert.Norm1ReferenceIdeal.τ Cert.Norm1ReferenceIdeal.sig) → Buf (Elt Ideal) ℓ) : Prop :=
  True

def Pre_PoolGrad (m : (ℓ : Loc Cert.PoolGrad.nD Cert.PoolGrad.τ Cert.PoolGrad.sig) → Buf (Elt Bits) ℓ) : Prop :=
  True

def Pre_PoolGradIdeal (m : (ℓ : Loc Cert.PoolGradIdeal.nD Cert.PoolGradIdeal.τ Cert.PoolGradIdeal.sig) → Buf (Elt Ideal) ℓ) : Prop :=
  True

def Pre_PoolGradReferenceIdeal (m : (ℓ : Loc Cert.PoolGradReferenceIdeal.nD Cert.PoolGradReferenceIdeal.τ Cert.PoolGradReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_ForgetGrad (m : (ℓ : Loc Cert.ForgetGrad.nD Cert.ForgetGrad.τ Cert.ForgetGrad.sig) → Buf (Elt Bits) ℓ) : Prop :=
  True

def Pre_ForgetGradIdeal (m : (ℓ : Loc Cert.ForgetGradIdeal.nD Cert.ForgetGradIdeal.τ Cert.ForgetGradIdeal.sig) → Buf (Elt Ideal) ℓ) : Prop :=
  True

def Pre_ForgetGradIdeal_forget_gradient_below_infinity [hPre_forget_gradient_below_infinity : Cert.Pre_forget_gradient_below_infinity.Facts] (m : (ℓ : Loc Cert.ForgetGradIdeal.nD Cert.ForgetGradIdeal.τ Cert.ForgetGradIdeal.sig) → Buf (Elt Ideal) ℓ) : Prop :=
  ∀ c : Dev Cert.ForgetGradIdeal.nD,
    (Cert.Pre_forget_gradient_below_infinity.fn (F := Ideal) (m ((c.tc : Thread Cert.ForgetGradIdeal.nD Cert.ForgetGradIdeal.τ).loc Cert.ForgetGradIdeal.main_arg0)) (m ((c.tc : Thread Cert.ForgetGradIdeal.nD Cert.ForgetGradIdeal.τ).loc Cert.ForgetGradIdeal.main_arg1)) (m ((c.tc : Thread Cert.ForgetGradIdeal.nD Cert.ForgetGradIdeal.τ).loc Cert.ForgetGradIdeal.main_arg2))) = (fun _ => 1#1)

def Pre_ForgetGradReferenceIdeal (m : (ℓ : Loc Cert.ForgetGradReferenceIdeal.nD Cert.ForgetGradReferenceIdeal.τ Cert.ForgetGradReferenceIdeal.sig) → Buf (Elt Ideal) ℓ) : Prop :=
  True

def Pre_ForgetGradReferenceIdeal_forget_gradient_below_infinity [hPre_forget_gradient_below_infinity : Cert.Pre_forget_gradient_below_infinity.Facts] (m : (ℓ : Loc Cert.ForgetGradReferenceIdeal.nD Cert.ForgetGradReferenceIdeal.τ Cert.ForgetGradReferenceIdeal.sig) → Buf (Elt Ideal) ℓ) : Prop :=
  ∀ c : Dev Cert.ForgetGradReferenceIdeal.nD,
    (Cert.Pre_forget_gradient_below_infinity.fn (F := Ideal) (m ((c.tc : Thread Cert.ForgetGradReferenceIdeal.nD Cert.ForgetGradReferenceIdeal.τ).loc Cert.ForgetGradReferenceIdeal.main_arg0)) (m ((c.tc : Thread Cert.ForgetGradReferenceIdeal.nD Cert.ForgetGradReferenceIdeal.τ).loc Cert.ForgetGradReferenceIdeal.main_arg1)) (m ((c.tc : Thread Cert.ForgetGradReferenceIdeal.nD Cert.ForgetGradReferenceIdeal.τ).loc Cert.ForgetGradReferenceIdeal.main_arg2))) = (fun _ => 1#1)

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradIdeal_pre_gate_operands_finite [hGateGradIdeal : Cert.GateGradIdeal.Facts] [hPre_gate_operands_finite : Cert.Pre_gate_operands_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_operands_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_GateGradReferenceIdeal_pre_gate_operands_finite [hGateGradReferenceIdeal : Cert.GateGradReferenceIdeal.Facts] [hPre_gate_operands_finite : Cert.Pre_gate_operands_finite.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal_gate_operands_finite m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_FfGrad [hFfGrad : Cert.FfGrad.Facts] : Prop :=
  ∀ (m : (ℓ : Loc Cert.FfGrad.nD Cert.FfGrad.τ Cert.FfGrad.sig) → Buf (Elt Bits) ℓ) (g : Dev Cert.FfGrad.nD → PrngReg), Pre_FfGrad m →
    θ_run (Cert.FfGrad.defs (F := Bits)) (onTc (τ := Cert.FfGrad.τ) (Cert.FfGrad.main (F := Bits))) ⟨m, fun _ => 0, g⟩ (fun r => (∀ c : Dev Cert.FfGrad.nD,
      r.2.mem ((c.tc : Thread Cert.FfGrad.nD Cert.FfGrad.τ).loc Cert.FfGrad.main_arg0) = m ((c.tc : Thread Cert.FfGrad.nD Cert.FfGrad.τ).loc Cert.FfGrad.main_arg0)
      ∧ r.2.mem ((c.tc : Thread Cert.FfGrad.nD Cert.FfGrad.τ).loc Cert.FfGrad.main_arg1) = m ((c.tc : Thread Cert.FfGrad.nD Cert.FfGrad.τ).loc Cert.FfGrad.main_arg1))
      ∧ r.2.sem = fun _ => 0)

def quiescent_FfGradIdeal [hFfGradIdeal : Cert.FfGradIdeal.Facts] : Prop :=
  ∀ (m : (ℓ : Loc Cert.FfGradIdeal.nD Cert.FfGradIdeal.τ Cert.FfGradIdeal.sig) → Buf (Elt Ideal) ℓ) (g : Dev Cert.FfGradIdeal.nD → PrngReg), Pre_FfGradIdeal m →
    θ_run (Cert.FfGradIdeal.defs (F := Ideal)) (onTc (τ := Cert.FfGradIdeal.τ) (Cert.FfGradIdeal.main (F := Ideal))) ⟨m, fun _ => 0, g⟩ (fun r => (∀ c : Dev Cert.FfGradIdeal.nD,
      r.2.mem ((c.tc : Thread Cert.FfGradIdeal.nD Cert.FfGradIdeal.τ).loc Cert.FfGradIdeal.main_arg0) = m ((c.tc : Thread Cert.FfGradIdeal.nD Cert.FfGradIdeal.τ).loc Cert.FfGradIdeal.main_arg0)
      ∧ r.2.mem ((c.tc : Thread Cert.FfGradIdeal.nD Cert.FfGradIdeal.τ).loc Cert.FfGradIdeal.main_arg1) = m ((c.tc : Thread Cert.FfGradIdeal.nD Cert.FfGradIdeal.τ).loc Cert.FfGradIdeal.main_arg1))
      ∧ r.2.sem = fun _ => 0)

def quiescent_FfGradReferenceIdeal [hFfGradReferenceIdeal : Cert.FfGradReferenceIdeal.Facts] : Prop :=
  ∀ (m : (ℓ : Loc Cert.FfGradReferenceIdeal.nD Cert.FfGradReferenceIdeal.τ Cert.FfGradReferenceIdeal.sig) → Buf (Elt Ideal) ℓ) (g : Dev Cert.FfGradReferenceIdeal.nD → PrngReg), Pre_FfGradReferenceIdeal m →
    θ_run (Cert.FfGradReferenceIdeal.defs (F := Ideal)) (onTc (τ := Cert.FfGradReferenceIdeal.τ) (Cert.FfGradReferenceIdeal.main (F := Ideal))) ⟨m, fun _ => 0, g⟩ (fun r => (∀ c : Dev Cert.FfGradReferenceIdeal.nD,
      r.2.mem ((c.tc : Thread Cert.FfGradReferenceIdeal.nD Cert.FfGradReferenceIdeal.τ).loc Cert.FfGradReferenceIdeal.main_arg0) = m ((c.tc : Thread Cert.FfGradReferenceIdeal.nD Cert.FfGradReferenceIdeal.τ).loc Cert.FfGradReferenceIdeal.main_arg0)
      ∧ r.2.mem ((c.tc : Thread Cert.FfGradReferenceIdeal.nD Cert.FfGradReferenceIdeal.τ).loc Cert.FfGradReferenceIdeal.main_arg1) = m ((c.tc : Thread Cert.FfGradReferenceIdeal.nD Cert.FfGradReferenceIdeal.τ).loc Cert.FfGradReferenceIdeal.main_arg1))
      ∧ r.2.sem = fun _ => 0)

def quiescent_MlpGrad [hMlpGrad : Cert.MlpGrad.Facts] : Prop :=
  ∀ (m : (ℓ : Loc Cert.MlpGrad.nD Cert.MlpGrad.τ Cert.MlpGrad.sig) → Buf (Elt Bits) ℓ) (g : Dev Cert.MlpGrad.nD → PrngReg), Pre_MlpGrad m →
    θ_run (Cert.MlpGrad.defs (F := Bits)) (onTc (τ := Cert.MlpGrad.τ) (Cert.MlpGrad.main (F := Bits))) ⟨m, fun _ => 0, g⟩ (fun r => (∀ c : Dev Cert.MlpGrad.nD,
      r.2.mem ((c.tc : Thread Cert.MlpGrad.nD Cert.MlpGrad.τ).loc Cert.MlpGrad.main_arg0) = m ((c.tc : Thread Cert.MlpGrad.nD Cert.MlpGrad.τ).loc Cert.MlpGrad.main_arg0)
      ∧ r.2.mem ((c.tc : Thread Cert.MlpGrad.nD Cert.MlpGrad.τ).loc Cert.MlpGrad.main_arg1) = m ((c.tc : Thread Cert.MlpGrad.nD Cert.MlpGrad.τ).loc Cert.MlpGrad.main_arg1)
      ∧ r.2.mem ((c.tc : Thread Cert.MlpGrad.nD Cert.MlpGrad.τ).loc Cert.MlpGrad.main_arg2) = m ((c.tc : Thread Cert.MlpGrad.nD Cert.MlpGrad.τ).loc Cert.MlpGrad.main_arg2)
      ∧ r.2.mem ((c.tc : Thread Cert.MlpGrad.nD Cert.MlpGrad.τ).loc Cert.MlpGrad.main_arg3) = m ((c.tc : Thread Cert.MlpGrad.nD Cert.MlpGrad.τ).loc Cert.MlpGrad.main_arg3)
      ∧ r.2.mem ((c.tc : Thread Cert.MlpGrad.nD Cert.MlpGrad.τ).loc Cert.MlpGrad.main_arg4) = m ((c.tc : Thread Cert.MlpGrad.nD Cert.MlpGrad.τ).loc Cert.MlpGrad.main_arg4)
      ∧ r.2.mem ((c.tc : Thread Cert.MlpGrad.nD Cert.MlpGrad.τ).loc Cert.MlpGrad.main_arg5) = m ((c.tc : Thread Cert.MlpGrad.nD Cert.MlpGrad.τ).loc Cert.MlpGrad.main_arg5)
      ∧ r.2.mem ((c.tc : Thread Cert.MlpGrad.nD Cert.MlpGrad.τ).loc Cert.MlpGrad.main_arg6) = m ((c.tc : Thread Cert.MlpGrad.nD Cert.MlpGrad.τ).loc Cert.MlpGrad.main_arg6)
      ∧ r.2.mem ((c.tc : Thread Cert.MlpGrad.nD Cert.MlpGrad.τ).loc Cert.MlpGrad.main_arg7) = m ((c.tc : Thread Cert.MlpGrad.nD Cert.MlpGrad.τ).loc Cert.MlpGrad.main_arg7))
      ∧ r.2.sem = fun _ => 0)

def quiescent_MlpGradIdeal [hMlpGradIdeal : Cert.MlpGradIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
      ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
      ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
      ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7))
      ∧ r.2.sem = fun _ => 0)

def quiescent_MlpGradIdeal_pre_mlp_operands_finite [hMlpGradIdeal : Cert.MlpGradIdeal.Facts] [hPre_mlp_operands_finite : Cert.Pre_mlp_operands_finite.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal_mlp_operands_finite m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
      ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
      ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
      ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7))
      ∧ r.2.sem = fun _ => 0)

def quiescent_MlpGradReferenceIdeal [hMlpGradReferenceIdeal : Cert.MlpGradReferenceIdeal.Facts] : Prop :=
  ∀ (m : (ℓ : Loc Cert.MlpGradReferenceIdeal.nD Cert.MlpGradReferenceIdeal.τ Cert.MlpGradReferenceIdeal.sig) → Buf (Elt Ideal) ℓ) (g : Dev Cert.MlpGradReferenceIdeal.nD → PrngReg), Pre_MlpGradReferenceIdeal m →
    θ_run (Cert.MlpGradReferenceIdeal.defs (F := Ideal)) (onTc (τ := Cert.MlpGradReferenceIdeal.τ) (Cert.MlpGradReferenceIdeal.main (F := Ideal))) ⟨m, fun _ => 0, g⟩ (fun r => (∀ c : Dev Cert.MlpGradReferenceIdeal.nD,
      r.2.mem ((c.tc : Thread Cert.MlpGradReferenceIdeal.nD Cert.MlpGradReferenceIdeal.τ).loc Cert.MlpGradReferenceIdeal.main_arg0) = m ((c.tc : Thread Cert.MlpGradReferenceIdeal.nD Cert.MlpGradReferenceIdeal.τ).loc Cert.MlpGradReferenceIdeal.main_arg0)
      ∧ r.2.mem ((c.tc : Thread Cert.MlpGradReferenceIdeal.nD Cert.MlpGradReferenceIdeal.τ).loc Cert.MlpGradReferenceIdeal.main_arg1) = m ((c.tc : Thread Cert.MlpGradReferenceIdeal.nD Cert.MlpGradReferenceIdeal.τ).loc Cert.MlpGradReferenceIdeal.main_arg1)
      ∧ r.2.mem ((c.tc : Thread Cert.MlpGradReferenceIdeal.nD Cert.MlpGradReferenceIdeal.τ).loc Cert.MlpGradReferenceIdeal.main_arg2) = m ((c.tc : Thread Cert.MlpGradReferenceIdeal.nD Cert.MlpGradReferenceIdeal.τ).loc Cert.MlpGradReferenceIdeal.main_arg2)
      ∧ r.2.mem ((c.tc : Thread Cert.MlpGradReferenceIdeal.nD Cert.MlpGradReferenceIdeal.τ).loc Cert.MlpGradReferenceIdeal.main_arg3) = m ((c.tc : Thread Cert.MlpGradReferenceIdeal.nD Cert.MlpGradReferenceIdeal.τ).loc Cert.MlpGradReferenceIdeal.main_arg3)
      ∧ r.2.mem ((c.tc : Thread Cert.MlpGradReferenceIdeal.nD Cert.MlpGradReferenceIdeal.τ).loc Cert.MlpGradReferenceIdeal.main_arg4) = m ((c.tc : Thread Cert.MlpGradReferenceIdeal.nD Cert.MlpGradReferenceIdeal.τ).loc Cert.MlpGradReferenceIdeal.main_arg4)
      ∧ r.2.mem ((c.tc : Thread Cert.MlpGradReferenceIdeal.nD Cert.MlpGradReferenceIdeal.τ).loc Cert.MlpGradReferenceIdeal.main_arg5) = m ((c.tc : Thread Cert.MlpGradReferenceIdeal.nD Cert.MlpGradReferenceIdeal.τ).loc Cert.MlpGradReferenceIdeal.main_arg5)
      ∧ r.2.mem ((c.tc : Thread Cert.MlpGradReferenceIdeal.nD Cert.MlpGradReferenceIdeal.τ).loc Cert.MlpGradReferenceIdeal.main_arg6) = m ((c.tc : Thread Cert.MlpGradReferenceIdeal.nD Cert.MlpGradReferenceIdeal.τ).loc Cert.MlpGradReferenceIdeal.main_arg6)
      ∧ r.2.mem ((c.tc : Thread Cert.MlpGradReferenceIdeal.nD Cert.MlpGradReferenceIdeal.τ).loc Cert.MlpGradReferenceIdeal.main_arg7) = m ((c.tc : Thread Cert.MlpGradReferenceIdeal.nD Cert.MlpGradReferenceIdeal.τ).loc Cert.MlpGradReferenceIdeal.main_arg7))
      ∧ r.2.sem = fun _ => 0)

def quiescent_MlpGradReferenceIdeal_pre_mlp_operands_finite [hMlpGradReferenceIdeal : Cert.MlpGradReferenceIdeal.Facts] [hPre_mlp_operands_finite : Cert.Pre_mlp_operands_finite.Facts] : Prop :=
  ∀ (m : (ℓ : Loc Cert.MlpGradReferenceIdeal.nD Cert.MlpGradReferenceIdeal.τ Cert.MlpGradReferenceIdeal.sig) → Buf (Elt Ideal) ℓ) (g : Dev Cert.MlpGradReferenceIdeal.nD → PrngReg), Pre_MlpGradReferenceIdeal_mlp_operands_finite m →
    θ_run (Cert.MlpGradReferenceIdeal.defs (F := Ideal)) (onTc (τ := Cert.MlpGradReferenceIdeal.τ) (Cert.MlpGradReferenceIdeal.main (F := Ideal))) ⟨m, fun _ => 0, g⟩ (fun r => (∀ c : Dev Cert.MlpGradReferenceIdeal.nD,
      r.2.mem ((c.tc : Thread Cert.MlpGradReferenceIdeal.nD Cert.MlpGradReferenceIdeal.τ).loc Cert.MlpGradReferenceIdeal.main_arg0) = m ((c.tc : Thread Cert.MlpGradReferenceIdeal.nD Cert.MlpGradReferenceIdeal.τ).loc Cert.MlpGradReferenceIdeal.main_arg0)
      ∧ r.2.mem ((c.tc : Thread Cert.MlpGradReferenceIdeal.nD Cert.MlpGradReferenceIdeal.τ).loc Cert.MlpGradReferenceIdeal.main_arg1) = m ((c.tc : Thread Cert.MlpGradReferenceIdeal.nD Cert.MlpGradReferenceIdeal.τ).loc Cert.MlpGradReferenceIdeal.main_arg1)
      ∧ r.2.mem ((c.tc : Thread Cert.MlpGradReferenceIdeal.nD Cert.MlpGradReferenceIdeal.τ).loc Cert.MlpGradReferenceIdeal.main_arg2) = m ((c.tc : Thread Cert.MlpGradReferenceIdeal.nD Cert.MlpGradReferenceIdeal.τ).loc Cert.MlpGradReferenceIdeal.main_arg2)
      ∧ r.2.mem ((c.tc : Thread Cert.MlpGradReferenceIdeal.nD Cert.MlpGradReferenceIdeal.τ).loc Cert.MlpGradReferenceIdeal.main_arg3) = m ((c.tc : Thread Cert.MlpGradReferenceIdeal.nD Cert.MlpGradReferenceIdeal.τ).loc Cert.MlpGradReferenceIdeal.main_arg3)
      ∧ r.2.mem ((c.tc : Thread Cert.MlpGradReferenceIdeal.nD Cert.MlpGradReferenceIdeal.τ).loc Cert.MlpGradReferenceIdeal.main_arg4) = m ((c.tc : Thread Cert.MlpGradReferenceIdeal.nD Cert.MlpGradReferenceIdeal.τ).loc Cert.MlpGradReferenceIdeal.main_arg4)
      ∧ r.2.mem ((c.tc : Thread Cert.MlpGradReferenceIdeal.nD Cert.MlpGradReferenceIdeal.τ).loc Cert.MlpGradReferenceIdeal.main_arg5) = m ((c.tc : Thread Cert.MlpGradReferenceIdeal.nD Cert.MlpGradReferenceIdeal.τ).loc Cert.MlpGradReferenceIdeal.main_arg5)
      ∧ r.2.mem ((c.tc : Thread Cert.MlpGradReferenceIdeal.nD Cert.MlpGradReferenceIdeal.τ).loc Cert.MlpGradReferenceIdeal.main_arg6) = m ((c.tc : Thread Cert.MlpGradReferenceIdeal.nD Cert.MlpGradReferenceIdeal.τ).loc Cert.MlpGradReferenceIdeal.main_arg6)
      ∧ r.2.mem ((c.tc : Thread Cert.MlpGradReferenceIdeal.nD Cert.MlpGradReferenceIdeal.τ).loc Cert.MlpGradReferenceIdeal.main_arg7) = m ((c.tc : Thread Cert.MlpGradReferenceIdeal.nD Cert.MlpGradReferenceIdeal.τ).loc Cert.MlpGradReferenceIdeal.main_arg7))
      ∧ r.2.sem = fun _ => 0)

def quiescent_InNormGrad [hInNormGrad : Cert.InNormGrad.Facts] : Prop :=
  ∀ (m : (ℓ : Loc Cert.InNormGrad.nD Cert.InNormGrad.τ Cert.InNormGrad.sig) → Buf (Elt Bits) ℓ) (g : Dev Cert.InNormGrad.nD → PrngReg), Pre_InNormGrad m →
    θ_run (Cert.InNormGrad.defs (F := Bits)) (onTc (τ := Cert.InNormGrad.τ) (Cert.InNormGrad.main (F := Bits))) ⟨m, fun _ => 0, g⟩ (fun r => (∀ c : Dev Cert.InNormGrad.nD,
      r.2.mem ((c.tc : Thread Cert.InNormGrad.nD Cert.InNormGrad.τ).loc Cert.InNormGrad.main_arg0) = m ((c.tc : Thread Cert.InNormGrad.nD Cert.InNormGrad.τ).loc Cert.InNormGrad.main_arg0)
      ∧ r.2.mem ((c.tc : Thread Cert.InNormGrad.nD Cert.InNormGrad.τ).loc Cert.InNormGrad.main_arg1) = m ((c.tc : Thread Cert.InNormGrad.nD Cert.InNormGrad.τ).loc Cert.InNormGrad.main_arg1)
      ∧ r.2.mem ((c.tc : Thread Cert.InNormGrad.nD Cert.InNormGrad.τ).loc Cert.InNormGrad.main_arg2) = m ((c.tc : Thread Cert.InNormGrad.nD Cert.InNormGrad.τ).loc Cert.InNormGrad.main_arg2)
      ∧ r.2.mem ((c.tc : Thread Cert.InNormGrad.nD Cert.InNormGrad.τ).loc Cert.InNormGrad.main_arg3) = m ((c.tc : Thread Cert.InNormGrad.nD Cert.InNormGrad.τ).loc Cert.InNormGrad.main_arg3)
      ∧ r.2.mem ((c.tc : Thread Cert.InNormGrad.nD Cert.InNormGrad.τ).loc Cert.InNormGrad.main_arg4) = m ((c.tc : Thread Cert.InNormGrad.nD Cert.InNormGrad.τ).loc Cert.InNormGrad.main_arg4)
      ∧ r.2.mem ((c.tc : Thread Cert.InNormGrad.nD Cert.InNormGrad.τ).loc Cert.InNormGrad.main_arg5) = m ((c.tc : Thread Cert.InNormGrad.nD Cert.InNormGrad.τ).loc Cert.InNormGrad.main_arg5)
      ∧ r.2.mem ((c.tc : Thread Cert.InNormGrad.nD Cert.InNormGrad.τ).loc Cert.InNormGrad.main_arg6) = m ((c.tc : Thread Cert.InNormGrad.nD Cert.InNormGrad.τ).loc Cert.InNormGrad.main_arg6)
      ∧ r.2.mem ((c.tc : Thread Cert.InNormGrad.nD Cert.InNormGrad.τ).loc Cert.InNormGrad.main_arg7) = m ((c.tc : Thread Cert.InNormGrad.nD Cert.InNormGrad.τ).loc Cert.InNormGrad.main_arg7)
      ∧ r.2.mem ((c.tc : Thread Cert.InNormGrad.nD Cert.InNormGrad.τ).loc Cert.InNormGrad.main_arg8) = m ((c.tc : Thread Cert.InNormGrad.nD Cert.InNormGrad.τ).loc Cert.InNormGrad.main_arg8))
      ∧ r.2.sem = fun _ => 0)

def quiescent_InNormGradIdeal [hInNormGradIdeal : Cert.InNormGradIdeal.Facts] : Prop :=
  ∀ (m : (ℓ : Loc Cert.InNormGradIdeal.nD Cert.InNormGradIdeal.τ Cert.InNormGradIdeal.sig) → Buf (Elt Ideal) ℓ) (g : Dev Cert.InNormGradIdeal.nD → PrngReg), Pre_InNormGradIdeal m →
    θ_run (Cert.InNormGradIdeal.defs (F := Ideal)) (onTc (τ := Cert.InNormGradIdeal.τ) (Cert.InNormGradIdeal.main (F := Ideal))) ⟨m, fun _ => 0, g⟩ (fun r => (∀ c : Dev Cert.InNormGradIdeal.nD,
      r.2.mem ((c.tc : Thread Cert.InNormGradIdeal.nD Cert.InNormGradIdeal.τ).loc Cert.InNormGradIdeal.main_arg0) = m ((c.tc : Thread Cert.InNormGradIdeal.nD Cert.InNormGradIdeal.τ).loc Cert.InNormGradIdeal.main_arg0)
      ∧ r.2.mem ((c.tc : Thread Cert.InNormGradIdeal.nD Cert.InNormGradIdeal.τ).loc Cert.InNormGradIdeal.main_arg1) = m ((c.tc : Thread Cert.InNormGradIdeal.nD Cert.InNormGradIdeal.τ).loc Cert.InNormGradIdeal.main_arg1)
      ∧ r.2.mem ((c.tc : Thread Cert.InNormGradIdeal.nD Cert.InNormGradIdeal.τ).loc Cert.InNormGradIdeal.main_arg2) = m ((c.tc : Thread Cert.InNormGradIdeal.nD Cert.InNormGradIdeal.τ).loc Cert.InNormGradIdeal.main_arg2)
      ∧ r.2.mem ((c.tc : Thread Cert.InNormGradIdeal.nD Cert.InNormGradIdeal.τ).loc Cert.InNormGradIdeal.main_arg3) = m ((c.tc : Thread Cert.InNormGradIdeal.nD Cert.InNormGradIdeal.τ).loc Cert.InNormGradIdeal.main_arg3)
      ∧ r.2.mem ((c.tc : Thread Cert.InNormGradIdeal.nD Cert.InNormGradIdeal.τ).loc Cert.InNormGradIdeal.main_arg4) = m ((c.tc : Thread Cert.InNormGradIdeal.nD Cert.InNormGradIdeal.τ).loc Cert.InNormGradIdeal.main_arg4)
      ∧ r.2.mem ((c.tc : Thread Cert.InNormGradIdeal.nD Cert.InNormGradIdeal.τ).loc Cert.InNormGradIdeal.main_arg5) = m ((c.tc : Thread Cert.InNormGradIdeal.nD Cert.InNormGradIdeal.τ).loc Cert.InNormGradIdeal.main_arg5)
      ∧ r.2.mem ((c.tc : Thread Cert.InNormGradIdeal.nD Cert.InNormGradIdeal.τ).loc Cert.InNormGradIdeal.main_arg6) = m ((c.tc : Thread Cert.InNormGradIdeal.nD Cert.InNormGradIdeal.τ).loc Cert.InNormGradIdeal.main_arg6)
      ∧ r.2.mem ((c.tc : Thread Cert.InNormGradIdeal.nD Cert.InNormGradIdeal.τ).loc Cert.InNormGradIdeal.main_arg7) = m ((c.tc : Thread Cert.InNormGradIdeal.nD Cert.InNormGradIdeal.τ).loc Cert.InNormGradIdeal.main_arg7)
      ∧ r.2.mem ((c.tc : Thread Cert.InNormGradIdeal.nD Cert.InNormGradIdeal.τ).loc Cert.InNormGradIdeal.main_arg8) = m ((c.tc : Thread Cert.InNormGradIdeal.nD Cert.InNormGradIdeal.τ).loc Cert.InNormGradIdeal.main_arg8))
      ∧ r.2.sem = fun _ => 0)

def quiescent_InNormGradIdeal_pre_norm_operands_finite [hInNormGradIdeal : Cert.InNormGradIdeal.Facts] [hPre_norm_operands_finite : Cert.Pre_norm_operands_finite.Facts] : Prop :=
  ∀ (m : (ℓ : Loc Cert.InNormGradIdeal.nD Cert.InNormGradIdeal.τ Cert.InNormGradIdeal.sig) → Buf (Elt Ideal) ℓ) (g : Dev Cert.InNormGradIdeal.nD → PrngReg), Pre_InNormGradIdeal_norm_operands_finite m →
    θ_run (Cert.InNormGradIdeal.defs (F := Ideal)) (onTc (τ := Cert.InNormGradIdeal.τ) (Cert.InNormGradIdeal.main (F := Ideal))) ⟨m, fun _ => 0, g⟩ (fun r => (∀ c : Dev Cert.InNormGradIdeal.nD,
      r.2.mem ((c.tc : Thread Cert.InNormGradIdeal.nD Cert.InNormGradIdeal.τ).loc Cert.InNormGradIdeal.main_arg0) = m ((c.tc : Thread Cert.InNormGradIdeal.nD Cert.InNormGradIdeal.τ).loc Cert.InNormGradIdeal.main_arg0)
      ∧ r.2.mem ((c.tc : Thread Cert.InNormGradIdeal.nD Cert.InNormGradIdeal.τ).loc Cert.InNormGradIdeal.main_arg1) = m ((c.tc : Thread Cert.InNormGradIdeal.nD Cert.InNormGradIdeal.τ).loc Cert.InNormGradIdeal.main_arg1)
      ∧ r.2.mem ((c.tc : Thread Cert.InNormGradIdeal.nD Cert.InNormGradIdeal.τ).loc Cert.InNormGradIdeal.main_arg2) = m ((c.tc : Thread Cert.InNormGradIdeal.nD Cert.InNormGradIdeal.τ).loc Cert.InNormGradIdeal.main_arg2)
      ∧ r.2.mem ((c.tc : Thread Cert.InNormGradIdeal.nD Cert.InNormGradIdeal.τ).loc Cert.InNormGradIdeal.main_arg3) = m ((c.tc : Thread Cert.InNormGradIdeal.nD Cert.InNormGradIdeal.τ).loc Cert.InNormGradIdeal.main_arg3)
      ∧ r.2.mem ((c.tc : Thread Cert.InNormGradIdeal.nD Cert.InNormGradIdeal.τ).loc Cert.InNormGradIdeal.main_arg4) = m ((c.tc : Thread Cert.InNormGradIdeal.nD Cert.InNormGradIdeal.τ).loc Cert.InNormGradIdeal.main_arg4)
      ∧ r.2.mem ((c.tc : Thread Cert.InNormGradIdeal.nD Cert.InNormGradIdeal.τ).loc Cert.InNormGradIdeal.main_arg5) = m ((c.tc : Thread Cert.InNormGradIdeal.nD Cert.InNormGradIdeal.τ).loc Cert.InNormGradIdeal.main_arg5)
      ∧ r.2.mem ((c.tc : Thread Cert.InNormGradIdeal.nD Cert.InNormGradIdeal.τ).loc Cert.InNormGradIdeal.main_arg6) = m ((c.tc : Thread Cert.InNormGradIdeal.nD Cert.InNormGradIdeal.τ).loc Cert.InNormGradIdeal.main_arg6)
      ∧ r.2.mem ((c.tc : Thread Cert.InNormGradIdeal.nD Cert.InNormGradIdeal.τ).loc Cert.InNormGradIdeal.main_arg7) = m ((c.tc : Thread Cert.InNormGradIdeal.nD Cert.InNormGradIdeal.τ).loc Cert.InNormGradIdeal.main_arg7)
      ∧ r.2.mem ((c.tc : Thread Cert.InNormGradIdeal.nD Cert.InNormGradIdeal.τ).loc Cert.InNormGradIdeal.main_arg8) = m ((c.tc : Thread Cert.InNormGradIdeal.nD Cert.InNormGradIdeal.τ).loc Cert.InNormGradIdeal.main_arg8))
      ∧ r.2.sem = fun _ => 0)

def quiescent_InNormGradReferenceIdeal [hInNormGradReferenceIdeal : Cert.InNormGradReferenceIdeal.Facts] : Prop :=
  ∀ (m : (ℓ : Loc Cert.InNormGradReferenceIdeal.nD Cert.InNormGradReferenceIdeal.τ Cert.InNormGradReferenceIdeal.sig) → Buf (Elt Ideal) ℓ) (g : Dev Cert.InNormGradReferenceIdeal.nD → PrngReg), Pre_InNormGradReferenceIdeal m →
    θ_run (Cert.InNormGradReferenceIdeal.defs (F := Ideal)) (onTc (τ := Cert.InNormGradReferenceIdeal.τ) (Cert.InNormGradReferenceIdeal.main (F := Ideal))) ⟨m, fun _ => 0, g⟩ (fun r => (∀ c : Dev Cert.InNormGradReferenceIdeal.nD,
      r.2.mem ((c.tc : Thread Cert.InNormGradReferenceIdeal.nD Cert.InNormGradReferenceIdeal.τ).loc Cert.InNormGradReferenceIdeal.main_arg0) = m ((c.tc : Thread Cert.InNormGradReferenceIdeal.nD Cert.InNormGradReferenceIdeal.τ).loc Cert.InNormGradReferenceIdeal.main_arg0)
      ∧ r.2.mem ((c.tc : Thread Cert.InNormGradReferenceIdeal.nD Cert.InNormGradReferenceIdeal.τ).loc Cert.InNormGradReferenceIdeal.main_arg1) = m ((c.tc : Thread Cert.InNormGradReferenceIdeal.nD Cert.InNormGradReferenceIdeal.τ).loc Cert.InNormGradReferenceIdeal.main_arg1)
      ∧ r.2.mem ((c.tc : Thread Cert.InNormGradReferenceIdeal.nD Cert.InNormGradReferenceIdeal.τ).loc Cert.InNormGradReferenceIdeal.main_arg2) = m ((c.tc : Thread Cert.InNormGradReferenceIdeal.nD Cert.InNormGradReferenceIdeal.τ).loc Cert.InNormGradReferenceIdeal.main_arg2)
      ∧ r.2.mem ((c.tc : Thread Cert.InNormGradReferenceIdeal.nD Cert.InNormGradReferenceIdeal.τ).loc Cert.InNormGradReferenceIdeal.main_arg3) = m ((c.tc : Thread Cert.InNormGradReferenceIdeal.nD Cert.InNormGradReferenceIdeal.τ).loc Cert.InNormGradReferenceIdeal.main_arg3)
      ∧ r.2.mem ((c.tc : Thread Cert.InNormGradReferenceIdeal.nD Cert.InNormGradReferenceIdeal.τ).loc Cert.InNormGradReferenceIdeal.main_arg4) = m ((c.tc : Thread Cert.InNormGradReferenceIdeal.nD Cert.InNormGradReferenceIdeal.τ).loc Cert.InNormGradReferenceIdeal.main_arg4)
      ∧ r.2.mem ((c.tc : Thread Cert.InNormGradReferenceIdeal.nD Cert.InNormGradReferenceIdeal.τ).loc Cert.InNormGradReferenceIdeal.main_arg5) = m ((c.tc : Thread Cert.InNormGradReferenceIdeal.nD Cert.InNormGradReferenceIdeal.τ).loc Cert.InNormGradReferenceIdeal.main_arg5)
      ∧ r.2.mem ((c.tc : Thread Cert.InNormGradReferenceIdeal.nD Cert.InNormGradReferenceIdeal.τ).loc Cert.InNormGradReferenceIdeal.main_arg6) = m ((c.tc : Thread Cert.InNormGradReferenceIdeal.nD Cert.InNormGradReferenceIdeal.τ).loc Cert.InNormGradReferenceIdeal.main_arg6)
      ∧ r.2.mem ((c.tc : Thread Cert.InNormGradReferenceIdeal.nD Cert.InNormGradReferenceIdeal.τ).loc Cert.InNormGradReferenceIdeal.main_arg7) = m ((c.tc : Thread Cert.InNormGradReferenceIdeal.nD Cert.InNormGradReferenceIdeal.τ).loc Cert.InNormGradReferenceIdeal.main_arg7)
      ∧ r.2.mem ((c.tc : Thread Cert.InNormGradReferenceIdeal.nD Cert.InNormGradReferenceIdeal.τ).loc Cert.InNormGradReferenceIdeal.main_arg8) = m ((c.tc : Thread Cert.InNormGradReferenceIdeal.nD Cert.InNormGradReferenceIdeal.τ).loc Cert.InNormGradReferenceIdeal.main_arg8))
      ∧ r.2.sem = fun _ => 0)

def quiescent_InNormGradReferenceIdeal_pre_norm_operands_finite [hInNormGradReferenceIdeal : Cert.InNormGradReferenceIdeal.Facts] [hPre_norm_operands_finite : Cert.Pre_norm_operands_finite.Facts] : Prop :=
  ∀ (m : (ℓ : Loc Cert.InNormGradReferenceIdeal.nD Cert.InNormGradReferenceIdeal.τ Cert.InNormGradReferenceIdeal.sig) → Buf (Elt Ideal) ℓ) (g : Dev Cert.InNormGradReferenceIdeal.nD → PrngReg), Pre_InNormGradReferenceIdeal_norm_operands_finite m →
    θ_run (Cert.InNormGradReferenceIdeal.defs (F := Ideal)) (onTc (τ := Cert.InNormGradReferenceIdeal.τ) (Cert.InNormGradReferenceIdeal.main (F := Ideal))) ⟨m, fun _ => 0, g⟩ (fun r => (∀ c : Dev Cert.InNormGradReferenceIdeal.nD,
      r.2.mem ((c.tc : Thread Cert.InNormGradReferenceIdeal.nD Cert.InNormGradReferenceIdeal.τ).loc Cert.InNormGradReferenceIdeal.main_arg0) = m ((c.tc : Thread Cert.InNormGradReferenceIdeal.nD Cert.InNormGradReferenceIdeal.τ).loc Cert.InNormGradReferenceIdeal.main_arg0)
      ∧ r.2.mem ((c.tc : Thread Cert.InNormGradReferenceIdeal.nD Cert.InNormGradReferenceIdeal.τ).loc Cert.InNormGradReferenceIdeal.main_arg1) = m ((c.tc : Thread Cert.InNormGradReferenceIdeal.nD Cert.InNormGradReferenceIdeal.τ).loc Cert.InNormGradReferenceIdeal.main_arg1)
      ∧ r.2.mem ((c.tc : Thread Cert.InNormGradReferenceIdeal.nD Cert.InNormGradReferenceIdeal.τ).loc Cert.InNormGradReferenceIdeal.main_arg2) = m ((c.tc : Thread Cert.InNormGradReferenceIdeal.nD Cert.InNormGradReferenceIdeal.τ).loc Cert.InNormGradReferenceIdeal.main_arg2)
      ∧ r.2.mem ((c.tc : Thread Cert.InNormGradReferenceIdeal.nD Cert.InNormGradReferenceIdeal.τ).loc Cert.InNormGradReferenceIdeal.main_arg3) = m ((c.tc : Thread Cert.InNormGradReferenceIdeal.nD Cert.InNormGradReferenceIdeal.τ).loc Cert.InNormGradReferenceIdeal.main_arg3)
      ∧ r.2.mem ((c.tc : Thread Cert.InNormGradReferenceIdeal.nD Cert.InNormGradReferenceIdeal.τ).loc Cert.InNormGradReferenceIdeal.main_arg4) = m ((c.tc : Thread Cert.InNormGradReferenceIdeal.nD Cert.InNormGradReferenceIdeal.τ).loc Cert.InNormGradReferenceIdeal.main_arg4)
      ∧ r.2.mem ((c.tc : Thread Cert.InNormGradReferenceIdeal.nD Cert.InNormGradReferenceIdeal.τ).loc Cert.InNormGradReferenceIdeal.main_arg5) = m ((c.tc : Thread Cert.InNormGradReferenceIdeal.nD Cert.InNormGradReferenceIdeal.τ).loc Cert.InNormGradReferenceIdeal.main_arg5)
      ∧ r.2.mem ((c.tc : Thread Cert.InNormGradReferenceIdeal.nD Cert.InNormGradReferenceIdeal.τ).loc Cert.InNormGradReferenceIdeal.main_arg6) = m ((c.tc : Thread Cert.InNormGradReferenceIdeal.nD Cert.InNormGradReferenceIdeal.τ).loc Cert.InNormGradReferenceIdeal.main_arg6)
      ∧ r.2.mem ((c.tc : Thread Cert.InNormGradReferenceIdeal.nD Cert.InNormGradReferenceIdeal.τ).loc Cert.InNormGradReferenceIdeal.main_arg7) = m ((c.tc : Thread Cert.InNormGradReferenceIdeal.nD Cert.InNormGradReferenceIdeal.τ).loc Cert.InNormGradReferenceIdeal.main_arg7)
      ∧ r.2.mem ((c.tc : Thread Cert.InNormGradReferenceIdeal.nD Cert.InNormGradReferenceIdeal.τ).loc Cert.InNormGradReferenceIdeal.main_arg8) = m ((c.tc : Thread Cert.InNormGradReferenceIdeal.nD Cert.InNormGradReferenceIdeal.τ).loc Cert.InNormGradReferenceIdeal.main_arg8))
      ∧ r.2.sem = fun _ => 0)

def quiescent_DownFinal [hDownFinal : Cert.DownFinal.Facts] : Prop :=
  ∀ (m : (ℓ : Loc Cert.DownFinal.nD Cert.DownFinal.τ Cert.DownFinal.sig) → Buf (Elt Bits) ℓ) (g : Dev Cert.DownFinal.nD → PrngReg), Pre_DownFinal m →
    θ_run (Cert.DownFinal.defs (F := Bits)) (onTc (τ := Cert.DownFinal.τ) (Cert.DownFinal.main (F := Bits))) ⟨m, fun _ => 0, g⟩ (fun r => (∀ c : Dev Cert.DownFinal.nD,
      r.2.mem ((c.tc : Thread Cert.DownFinal.nD Cert.DownFinal.τ).loc Cert.DownFinal.main_arg0) = m ((c.tc : Thread Cert.DownFinal.nD Cert.DownFinal.τ).loc Cert.DownFinal.main_arg0)
      ∧ r.2.mem ((c.tc : Thread Cert.DownFinal.nD Cert.DownFinal.τ).loc Cert.DownFinal.main_arg1) = m ((c.tc : Thread Cert.DownFinal.nD Cert.DownFinal.τ).loc Cert.DownFinal.main_arg1)
      ∧ r.2.mem ((c.tc : Thread Cert.DownFinal.nD Cert.DownFinal.τ).loc Cert.DownFinal.main_arg2) = m ((c.tc : Thread Cert.DownFinal.nD Cert.DownFinal.τ).loc Cert.DownFinal.main_arg2)
      ∧ r.2.mem ((c.tc : Thread Cert.DownFinal.nD Cert.DownFinal.τ).loc Cert.DownFinal.main_arg3) = m ((c.tc : Thread Cert.DownFinal.nD Cert.DownFinal.τ).loc Cert.DownFinal.main_arg3)
      ∧ r.2.mem ((c.tc : Thread Cert.DownFinal.nD Cert.DownFinal.τ).loc Cert.DownFinal.main_arg4) = m ((c.tc : Thread Cert.DownFinal.nD Cert.DownFinal.τ).loc Cert.DownFinal.main_arg4))
      ∧ r.2.sem = fun _ => 0)

def quiescent_DownFinalIdeal [hDownFinalIdeal : Cert.DownFinalIdeal.Facts] : Prop :=
  ∀ (m : (ℓ : Loc Cert.DownFinalIdeal.nD Cert.DownFinalIdeal.τ Cert.DownFinalIdeal.sig) → Buf (Elt Ideal) ℓ) (g : Dev Cert.DownFinalIdeal.nD → PrngReg), Pre_DownFinalIdeal m →
    θ_run (Cert.DownFinalIdeal.defs (F := Ideal)) (onTc (τ := Cert.DownFinalIdeal.τ) (Cert.DownFinalIdeal.main (F := Ideal))) ⟨m, fun _ => 0, g⟩ (fun r => (∀ c : Dev Cert.DownFinalIdeal.nD,
      r.2.mem ((c.tc : Thread Cert.DownFinalIdeal.nD Cert.DownFinalIdeal.τ).loc Cert.DownFinalIdeal.main_arg0) = m ((c.tc : Thread Cert.DownFinalIdeal.nD Cert.DownFinalIdeal.τ).loc Cert.DownFinalIdeal.main_arg0)
      ∧ r.2.mem ((c.tc : Thread Cert.DownFinalIdeal.nD Cert.DownFinalIdeal.τ).loc Cert.DownFinalIdeal.main_arg1) = m ((c.tc : Thread Cert.DownFinalIdeal.nD Cert.DownFinalIdeal.τ).loc Cert.DownFinalIdeal.main_arg1)
      ∧ r.2.mem ((c.tc : Thread Cert.DownFinalIdeal.nD Cert.DownFinalIdeal.τ).loc Cert.DownFinalIdeal.main_arg2) = m ((c.tc : Thread Cert.DownFinalIdeal.nD Cert.DownFinalIdeal.τ).loc Cert.DownFinalIdeal.main_arg2)
      ∧ r.2.mem ((c.tc : Thread Cert.DownFinalIdeal.nD Cert.DownFinalIdeal.τ).loc Cert.DownFinalIdeal.main_arg3) = m ((c.tc : Thread Cert.DownFinalIdeal.nD Cert.DownFinalIdeal.τ).loc Cert.DownFinalIdeal.main_arg3)
      ∧ r.2.mem ((c.tc : Thread Cert.DownFinalIdeal.nD Cert.DownFinalIdeal.τ).loc Cert.DownFinalIdeal.main_arg4) = m ((c.tc : Thread Cert.DownFinalIdeal.nD Cert.DownFinalIdeal.τ).loc Cert.DownFinalIdeal.main_arg4))
      ∧ r.2.sem = fun _ => 0)

def quiescent_DownFinalIdeal_pre_final_operands_finite [hDownFinalIdeal : Cert.DownFinalIdeal.Facts] [hPre_final_operands_finite : Cert.Pre_final_operands_finite.Facts] : Prop :=
  ∀ (m : (ℓ : Loc Cert.DownFinalIdeal.nD Cert.DownFinalIdeal.τ Cert.DownFinalIdeal.sig) → Buf (Elt Ideal) ℓ) (g : Dev Cert.DownFinalIdeal.nD → PrngReg), Pre_DownFinalIdeal_final_operands_finite m →
    θ_run (Cert.DownFinalIdeal.defs (F := Ideal)) (onTc (τ := Cert.DownFinalIdeal.τ) (Cert.DownFinalIdeal.main (F := Ideal))) ⟨m, fun _ => 0, g⟩ (fun r => (∀ c : Dev Cert.DownFinalIdeal.nD,
      r.2.mem ((c.tc : Thread Cert.DownFinalIdeal.nD Cert.DownFinalIdeal.τ).loc Cert.DownFinalIdeal.main_arg0) = m ((c.tc : Thread Cert.DownFinalIdeal.nD Cert.DownFinalIdeal.τ).loc Cert.DownFinalIdeal.main_arg0)
      ∧ r.2.mem ((c.tc : Thread Cert.DownFinalIdeal.nD Cert.DownFinalIdeal.τ).loc Cert.DownFinalIdeal.main_arg1) = m ((c.tc : Thread Cert.DownFinalIdeal.nD Cert.DownFinalIdeal.τ).loc Cert.DownFinalIdeal.main_arg1)
      ∧ r.2.mem ((c.tc : Thread Cert.DownFinalIdeal.nD Cert.DownFinalIdeal.τ).loc Cert.DownFinalIdeal.main_arg2) = m ((c.tc : Thread Cert.DownFinalIdeal.nD Cert.DownFinalIdeal.τ).loc Cert.DownFinalIdeal.main_arg2)
      ∧ r.2.mem ((c.tc : Thread Cert.DownFinalIdeal.nD Cert.DownFinalIdeal.τ).loc Cert.DownFinalIdeal.main_arg3) = m ((c.tc : Thread Cert.DownFinalIdeal.nD Cert.DownFinalIdeal.τ).loc Cert.DownFinalIdeal.main_arg3)
      ∧ r.2.mem ((c.tc : Thread Cert.DownFinalIdeal.nD Cert.DownFinalIdeal.τ).loc Cert.DownFinalIdeal.main_arg4) = m ((c.tc : Thread Cert.DownFinalIdeal.nD Cert.DownFinalIdeal.τ).loc Cert.DownFinalIdeal.main_arg4))
      ∧ r.2.sem = fun _ => 0)

def quiescent_DownFinalReferenceIdeal [hDownFinalReferenceIdeal : Cert.DownFinalReferenceIdeal.Facts] : Prop :=
  ∀ (m : (ℓ : Loc Cert.DownFinalReferenceIdeal.nD Cert.DownFinalReferenceIdeal.τ Cert.DownFinalReferenceIdeal.sig) → Buf (Elt Ideal) ℓ) (g : Dev Cert.DownFinalReferenceIdeal.nD → PrngReg), Pre_DownFinalReferenceIdeal m →
    θ_run (Cert.DownFinalReferenceIdeal.defs (F := Ideal)) (onTc (τ := Cert.DownFinalReferenceIdeal.τ) (Cert.DownFinalReferenceIdeal.main (F := Ideal))) ⟨m, fun _ => 0, g⟩ (fun r => (∀ c : Dev Cert.DownFinalReferenceIdeal.nD,
      r.2.mem ((c.tc : Thread Cert.DownFinalReferenceIdeal.nD Cert.DownFinalReferenceIdeal.τ).loc Cert.DownFinalReferenceIdeal.main_arg0) = m ((c.tc : Thread Cert.DownFinalReferenceIdeal.nD Cert.DownFinalReferenceIdeal.τ).loc Cert.DownFinalReferenceIdeal.main_arg0)
      ∧ r.2.mem ((c.tc : Thread Cert.DownFinalReferenceIdeal.nD Cert.DownFinalReferenceIdeal.τ).loc Cert.DownFinalReferenceIdeal.main_arg1) = m ((c.tc : Thread Cert.DownFinalReferenceIdeal.nD Cert.DownFinalReferenceIdeal.τ).loc Cert.DownFinalReferenceIdeal.main_arg1)
      ∧ r.2.mem ((c.tc : Thread Cert.DownFinalReferenceIdeal.nD Cert.DownFinalReferenceIdeal.τ).loc Cert.DownFinalReferenceIdeal.main_arg2) = m ((c.tc : Thread Cert.DownFinalReferenceIdeal.nD Cert.DownFinalReferenceIdeal.τ).loc Cert.DownFinalReferenceIdeal.main_arg2)
      ∧ r.2.mem ((c.tc : Thread Cert.DownFinalReferenceIdeal.nD Cert.DownFinalReferenceIdeal.τ).loc Cert.DownFinalReferenceIdeal.main_arg3) = m ((c.tc : Thread Cert.DownFinalReferenceIdeal.nD Cert.DownFinalReferenceIdeal.τ).loc Cert.DownFinalReferenceIdeal.main_arg3)
      ∧ r.2.mem ((c.tc : Thread Cert.DownFinalReferenceIdeal.nD Cert.DownFinalReferenceIdeal.τ).loc Cert.DownFinalReferenceIdeal.main_arg4) = m ((c.tc : Thread Cert.DownFinalReferenceIdeal.nD Cert.DownFinalReferenceIdeal.τ).loc Cert.DownFinalReferenceIdeal.main_arg4))
      ∧ r.2.sem = fun _ => 0)

def quiescent_DownFinalReferenceIdeal_pre_final_operands_finite [hDownFinalReferenceIdeal : Cert.DownFinalReferenceIdeal.Facts] [hPre_final_operands_finite : Cert.Pre_final_operands_finite.Facts] : Prop :=
  ∀ (m : (ℓ : Loc Cert.DownFinalReferenceIdeal.nD Cert.DownFinalReferenceIdeal.τ Cert.DownFinalReferenceIdeal.sig) → Buf (Elt Ideal) ℓ) (g : Dev Cert.DownFinalReferenceIdeal.nD → PrngReg), Pre_DownFinalReferenceIdeal_final_operands_finite m →
    θ_run (Cert.DownFinalReferenceIdeal.defs (F := Ideal)) (onTc (τ := Cert.DownFinalReferenceIdeal.τ) (Cert.DownFinalReferenceIdeal.main (F := Ideal))) ⟨m, fun _ => 0, g⟩ (fun r => (∀ c : Dev Cert.DownFinalReferenceIdeal.nD,
      r.2.mem ((c.tc : Thread Cert.DownFinalReferenceIdeal.nD Cert.DownFinalReferenceIdeal.τ).loc Cert.DownFinalReferenceIdeal.main_arg0) = m ((c.tc : Thread Cert.DownFinalReferenceIdeal.nD Cert.DownFinalReferenceIdeal.τ).loc Cert.DownFinalReferenceIdeal.main_arg0)
      ∧ r.2.mem ((c.tc : Thread Cert.DownFinalReferenceIdeal.nD Cert.DownFinalReferenceIdeal.τ).loc Cert.DownFinalReferenceIdeal.main_arg1) = m ((c.tc : Thread Cert.DownFinalReferenceIdeal.nD Cert.DownFinalReferenceIdeal.τ).loc Cert.DownFinalReferenceIdeal.main_arg1)
      ∧ r.2.mem ((c.tc : Thread Cert.DownFinalReferenceIdeal.nD Cert.DownFinalReferenceIdeal.τ).loc Cert.DownFinalReferenceIdeal.main_arg2) = m ((c.tc : Thread Cert.DownFinalReferenceIdeal.nD Cert.DownFinalReferenceIdeal.τ).loc Cert.DownFinalReferenceIdeal.main_arg2)
      ∧ r.2.mem ((c.tc : Thread Cert.DownFinalReferenceIdeal.nD Cert.DownFinalReferenceIdeal.τ).loc Cert.DownFinalReferenceIdeal.main_arg3) = m ((c.tc : Thread Cert.DownFinalReferenceIdeal.nD Cert.DownFinalReferenceIdeal.τ).loc Cert.DownFinalReferenceIdeal.main_arg3)
      ∧ r.2.mem ((c.tc : Thread Cert.DownFinalReferenceIdeal.nD Cert.DownFinalReferenceIdeal.τ).loc Cert.DownFinalReferenceIdeal.main_arg4) = m ((c.tc : Thread Cert.DownFinalReferenceIdeal.nD Cert.DownFinalReferenceIdeal.τ).loc Cert.DownFinalReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3)
      ∧ r.2.mem ((c.tc : Thread Cert.OutNormReferenceIdeal.nD Cert.OutNormReferenceIdeal.τ).loc Cert.OutNormReferenceIdeal.main_arg4) = m ((c.tc : Thread Cert.OutNormReferenceIdeal.nD Cert.OutNormReferenceIdeal.τ).loc Cert.OutNormReferenceIdeal.main_arg4))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1)
      ∧ r.2.mem ((c.tc : Thread Cert.InGradReferenceIdeal.nD Cert.InGradReferenceIdeal.τ).loc Cert.InGradReferenceIdeal.main_arg2) = m ((c.tc : Thread Cert.InGradReferenceIdeal.nD Cert.InGradReferenceIdeal.τ).loc Cert.InGradReferenceIdeal.main_arg2)
      ∧ r.2.mem ((c.tc : Thread Cert.InGradReferenceIdeal.nD Cert.InGradReferenceIdeal.τ).loc Cert.InGradReferenceIdeal.main_arg3) = m ((c.tc : Thread Cert.InGradReferenceIdeal.nD Cert.InGradReferenceIdeal.τ).loc Cert.InGradReferenceIdeal.main_arg3)
      ∧ r.2.mem ((c.tc : Thread Cert.InGradReferenceIdeal.nD Cert.InGradReferenceIdeal.τ).loc Cert.InGradReferenceIdeal.main_arg4) = m ((c.tc : Thread Cert.InGradReferenceIdeal.nD Cert.InGradReferenceIdeal.τ).loc Cert.InGradReferenceIdeal.main_arg4)
      ∧ r.2.mem ((c.tc : Thread Cert.InGradReferenceIdeal.nD Cert.InGradReferenceIdeal.τ).loc Cert.InGradReferenceIdeal.main_arg5) = m ((c.tc : Thread Cert.InGradReferenceIdeal.nD Cert.InGradReferenceIdeal.τ).loc Cert.InGradReferenceIdeal.main_arg5))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1ReferenceIdeal [hNorm1ReferenceIdeal : Cert.Norm1ReferenceIdeal.Facts] : Prop :=
  ∀ (m : (ℓ : Loc Cert.Norm1ReferenceIdeal.nD Cert.Norm1ReferenceIdeal.τ Cert.Norm1ReferenceIdeal.sig) → Buf (Elt Ideal) ℓ) (g : Dev Cert.Norm1ReferenceIdeal.nD → PrngReg), Pre_Norm1ReferenceIdeal m →
    θ_run (Cert.Norm1ReferenceIdeal.defs (F := Ideal)) (onTc (τ := Cert.Norm1ReferenceIdeal.τ) (Cert.Norm1ReferenceIdeal.main (F := Ideal))) ⟨m, fun _ => 0, g⟩ (fun r => (∀ c : Dev Cert.Norm1ReferenceIdeal.nD,
      r.2.mem ((c.tc : Thread Cert.Norm1ReferenceIdeal.nD Cert.Norm1ReferenceIdeal.τ).loc Cert.Norm1ReferenceIdeal.main_arg0) = m ((c.tc : Thread Cert.Norm1ReferenceIdeal.nD Cert.Norm1ReferenceIdeal.τ).loc Cert.Norm1ReferenceIdeal.main_arg0)
      ∧ r.2.mem ((c.tc : Thread Cert.Norm1ReferenceIdeal.nD Cert.Norm1ReferenceIdeal.τ).loc Cert.Norm1ReferenceIdeal.main_arg1) = m ((c.tc : Thread Cert.Norm1ReferenceIdeal.nD Cert.Norm1ReferenceIdeal.τ).loc Cert.Norm1ReferenceIdeal.main_arg1))
      ∧ r.2.sem = fun _ => 0)

def quiescent_PoolGrad [hPoolGrad : Cert.PoolGrad.Facts] : Prop :=
  ∀ (m : (ℓ : Loc Cert.PoolGrad.nD Cert.PoolGrad.τ Cert.PoolGrad.sig) → Buf (Elt Bits) ℓ) (g : Dev Cert.PoolGrad.nD → PrngReg), Pre_PoolGrad m →
    θ_run (Cert.PoolGrad.defs (F := Bits)) (onTc (τ := Cert.PoolGrad.τ) (Cert.PoolGrad.main (F := Bits))) ⟨m, fun _ => 0, g⟩ (fun r => (∀ c : Dev Cert.PoolGrad.nD,
      r.2.mem ((c.tc : Thread Cert.PoolGrad.nD Cert.PoolGrad.τ).loc Cert.PoolGrad.main_arg0) = m ((c.tc : Thread Cert.PoolGrad.nD Cert.PoolGrad.τ).loc Cert.PoolGrad.main_arg0)
      ∧ r.2.mem ((c.tc : Thread Cert.PoolGrad.nD Cert.PoolGrad.τ).loc Cert.PoolGrad.main_arg1) = m ((c.tc : Thread Cert.PoolGrad.nD Cert.PoolGrad.τ).loc Cert.PoolGrad.main_arg1)
      ∧ r.2.mem ((c.tc : Thread Cert.PoolGrad.nD Cert.PoolGrad.τ).loc Cert.PoolGrad.main_arg2) = m ((c.tc : Thread Cert.PoolGrad.nD Cert.PoolGrad.τ).loc Cert.PoolGrad.main_arg2)
      ∧ r.2.mem ((c.tc : Thread Cert.PoolGrad.nD Cert.PoolGrad.τ).loc Cert.PoolGrad.main_arg3) = m ((c.tc : Thread Cert.PoolGrad.nD Cert.PoolGrad.τ).loc Cert.PoolGrad.main_arg3))
      ∧ r.2.sem = fun _ => 0)

def quiescent_PoolGradIdeal [hPoolGradIdeal : Cert.PoolGradIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ r.2.sem = fun _ => 0)

def quiescent_PoolGradReferenceIdeal [hPoolGradReferenceIdeal : Cert.PoolGradReferenceIdeal.Facts] : Prop :=
  ∀ (m : (ℓ : Loc Cert.PoolGradReferenceIdeal.nD Cert.PoolGradReferenceIdeal.τ Cert.PoolGradReferenceIdeal.sig) → Buf (Elt Ideal) ℓ) (g : Dev Cert.PoolGradReferenceIdeal.nD → PrngReg), Pre_PoolGradReferenceIdeal m →
    θ_run (Cert.PoolGradReferenceIdeal.defs (F := Ideal)) (onTc (τ := Cert.PoolGradReferenceIdeal.τ) (Cert.PoolGradReferenceIdeal.main (F := Ideal))) ⟨m, fun _ => 0, g⟩ (fun r => (∀ c : Dev Cert.PoolGradReferenceIdeal.nD,
      r.2.mem ((c.tc : Thread Cert.PoolGradReferenceIdeal.nD Cert.PoolGradReferenceIdeal.τ).loc Cert.PoolGradReferenceIdeal.main_arg0) = m ((c.tc : Thread Cert.PoolGradReferenceIdeal.nD Cert.PoolGradReferenceIdeal.τ).loc Cert.PoolGradReferenceIdeal.main_arg0)
      ∧ r.2.mem ((c.tc : Thread Cert.PoolGradReferenceIdeal.nD Cert.PoolGradReferenceIdeal.τ).loc Cert.PoolGradReferenceIdeal.main_arg1) = m ((c.tc : Thread Cert.PoolGradReferenceIdeal.nD Cert.PoolGradReferenceIdeal.τ).loc Cert.PoolGradReferenceIdeal.main_arg1)
      ∧ r.2.mem ((c.tc : Thread Cert.PoolGradReferenceIdeal.nD Cert.PoolGradReferenceIdeal.τ).loc Cert.PoolGradReferenceIdeal.main_arg2) = m ((c.tc : Thread Cert.PoolGradReferenceIdeal.nD Cert.PoolGradReferenceIdeal.τ).loc Cert.PoolGradReferenceIdeal.main_arg2)
      ∧ r.2.mem ((c.tc : Thread Cert.PoolGradReferenceIdeal.nD Cert.PoolGradReferenceIdeal.τ).loc Cert.PoolGradReferenceIdeal.main_arg3) = m ((c.tc : Thread Cert.PoolGradReferenceIdeal.nD Cert.PoolGradReferenceIdeal.τ).loc Cert.PoolGradReferenceIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1))
      ∧ r.2.sem = fun _ => 0)

def quiescent_ForgetGrad [hForgetGrad : Cert.ForgetGrad.Facts] : Prop :=
  ∀ (m : (ℓ : Loc Cert.ForgetGrad.nD Cert.ForgetGrad.τ Cert.ForgetGrad.sig) → Buf (Elt Bits) ℓ) (g : Dev Cert.ForgetGrad.nD → PrngReg), Pre_ForgetGrad m →
    θ_run (Cert.ForgetGrad.defs (F := Bits)) (onTc (τ := Cert.ForgetGrad.τ) (Cert.ForgetGrad.main (F := Bits))) ⟨m, fun _ => 0, g⟩ (fun r => (∀ c : Dev Cert.ForgetGrad.nD,
      r.2.mem ((c.tc : Thread Cert.ForgetGrad.nD Cert.ForgetGrad.τ).loc Cert.ForgetGrad.main_arg0) = m ((c.tc : Thread Cert.ForgetGrad.nD Cert.ForgetGrad.τ).loc Cert.ForgetGrad.main_arg0)
      ∧ r.2.mem ((c.tc : Thread Cert.ForgetGrad.nD Cert.ForgetGrad.τ).loc Cert.ForgetGrad.main_arg1) = m ((c.tc : Thread Cert.ForgetGrad.nD Cert.ForgetGrad.τ).loc Cert.ForgetGrad.main_arg1)
      ∧ r.2.mem ((c.tc : Thread Cert.ForgetGrad.nD Cert.ForgetGrad.τ).loc Cert.ForgetGrad.main_arg2) = m ((c.tc : Thread Cert.ForgetGrad.nD Cert.ForgetGrad.τ).loc Cert.ForgetGrad.main_arg2))
      ∧ r.2.sem = fun _ => 0)

def quiescent_ForgetGradIdeal [hForgetGradIdeal : Cert.ForgetGradIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg), Pre_ForgetGradIdeal m →
    θ_run (Cert.ForgetGradIdeal.defs (F := Ideal)) (onTc (τ := Cert.ForgetGradIdeal.τ) (Cert.ForgetGradIdeal.main (F := Ideal))) ⟨m, fun _ => 0, g⟩ (fun r => (∀ c : Dev Cert.ForgetGradIdeal.nD,
      r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
      ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
      ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2))
      ∧ r.2.sem = fun _ => 0)

def quiescent_ForgetGradIdeal_pre_forget_gradient_below_infinity [hForgetGradIdeal : Cert.ForgetGradIdeal.Facts] [hPre_forget_gradient_below_infinity : Cert.Pre_forget_gradient_below_infinity.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg), Pre_ForgetGradIdeal_forget_gradient_below_infinity m →
    θ_run (Cert.ForgetGradIdeal.defs (F := Ideal)) (onTc (τ := Cert.ForgetGradIdeal.τ) (Cert.ForgetGradIdeal.main (F := Ideal))) ⟨m, fun _ => 0, g⟩ (fun r => (∀ c : Dev Cert.ForgetGradIdeal.nD,
      r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
      ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
      ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2))
      ∧ r.2.sem = fun _ => 0)

def quiescent_ForgetGradReferenceIdeal [hForgetGradReferenceIdeal : Cert.ForgetGradReferenceIdeal.Facts] : Prop :=
  ∀ (m : (ℓ : Loc Cert.ForgetGradReferenceIdeal.nD Cert.ForgetGradReferenceIdeal.τ Cert.ForgetGradReferenceIdeal.sig) → Buf (Elt Ideal) ℓ) (g : Dev Cert.ForgetGradReferenceIdeal.nD → PrngReg), Pre_ForgetGradReferenceIdeal m →
    θ_run (Cert.ForgetGradReferenceIdeal.defs (F := Ideal)) (onTc (τ := Cert.ForgetGradReferenceIdeal.τ) (Cert.ForgetGradReferenceIdeal.main (F := Ideal))) ⟨m, fun _ => 0, g⟩ (fun r => (∀ c : Dev Cert.ForgetGradReferenceIdeal.nD,
      r.2.mem ((c.tc : Thread Cert.ForgetGradReferenceIdeal.nD Cert.ForgetGradReferenceIdeal.τ).loc Cert.ForgetGradReferenceIdeal.main_arg0) = m ((c.tc : Thread Cert.ForgetGradReferenceIdeal.nD Cert.ForgetGradReferenceIdeal.τ).loc Cert.ForgetGradReferenceIdeal.main_arg0)
      ∧ r.2.mem ((c.tc : Thread Cert.ForgetGradReferenceIdeal.nD Cert.ForgetGradReferenceIdeal.τ).loc Cert.ForgetGradReferenceIdeal.main_arg1) = m ((c.tc : Thread Cert.ForgetGradReferenceIdeal.nD Cert.ForgetGradReferenceIdeal.τ).loc Cert.ForgetGradReferenceIdeal.main_arg1)
      ∧ r.2.mem ((c.tc : Thread Cert.ForgetGradReferenceIdeal.nD Cert.ForgetGradReferenceIdeal.τ).loc Cert.ForgetGradReferenceIdeal.main_arg2) = m ((c.tc : Thread Cert.ForgetGradReferenceIdeal.nD Cert.ForgetGradReferenceIdeal.τ).loc Cert.ForgetGradReferenceIdeal.main_arg2))
      ∧ r.2.sem = fun _ => 0)

def quiescent_ForgetGradReferenceIdeal_pre_forget_gradient_below_infinity [hForgetGradReferenceIdeal : Cert.ForgetGradReferenceIdeal.Facts] [hPre_forget_gradient_below_infinity : Cert.Pre_forget_gradient_below_infinity.Facts] : Prop :=
  ∀ (m : (ℓ : Loc Cert.ForgetGradReferenceIdeal.nD Cert.ForgetGradReferenceIdeal.τ Cert.ForgetGradReferenceIdeal.sig) → Buf (Elt Ideal) ℓ) (g : Dev Cert.ForgetGradReferenceIdeal.nD → PrngReg), Pre_ForgetGradReferenceIdeal_forget_gradient_below_infinity m →
    θ_run (Cert.ForgetGradReferenceIdeal.defs (F := Ideal)) (onTc (τ := Cert.ForgetGradReferenceIdeal.τ) (Cert.ForgetGradReferenceIdeal.main (F := Ideal))) ⟨m, fun _ => 0, g⟩ (fun r => (∀ c : Dev Cert.ForgetGradReferenceIdeal.nD,
      r.2.mem ((c.tc : Thread Cert.ForgetGradReferenceIdeal.nD Cert.ForgetGradReferenceIdeal.τ).loc Cert.ForgetGradReferenceIdeal.main_arg0) = m ((c.tc : Thread Cert.ForgetGradReferenceIdeal.nD Cert.ForgetGradReferenceIdeal.τ).loc Cert.ForgetGradReferenceIdeal.main_arg0)
      ∧ r.2.mem ((c.tc : Thread Cert.ForgetGradReferenceIdeal.nD Cert.ForgetGradReferenceIdeal.τ).loc Cert.ForgetGradReferenceIdeal.main_arg1) = m ((c.tc : Thread Cert.ForgetGradReferenceIdeal.nD Cert.ForgetGradReferenceIdeal.τ).loc Cert.ForgetGradReferenceIdeal.main_arg1)
      ∧ r.2.mem ((c.tc : Thread Cert.ForgetGradReferenceIdeal.nD Cert.ForgetGradReferenceIdeal.τ).loc Cert.ForgetGradReferenceIdeal.main_arg2) = m ((c.tc : Thread Cert.ForgetGradReferenceIdeal.nD Cert.ForgetGradReferenceIdeal.τ).loc Cert.ForgetGradReferenceIdeal.main_arg2))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1)
      ∧ r.2.mem ((c.tc : Thread Cert.OutGradReferenceIdeal.nD Cert.OutGradReferenceIdeal.τ).loc Cert.OutGradReferenceIdeal.main_arg2) = m ((c.tc : Thread Cert.OutGradReferenceIdeal.nD Cert.OutGradReferenceIdeal.τ).loc Cert.OutGradReferenceIdeal.main_arg2))
      ∧ r.2.sem = fun _ => 0)

def preserves_Kernel_KernelIdeal : Prop :=
  IdealRules.named_const.Statement Cert.KernelIdeal.κ "mask" .f32 0xF149F2CA#32 ⊥

def preserves_GateGrad_GateGradIdeal : Prop :=
  True

def algebraic_GateGradIdeal_GateGradReferenceIdeal_pre_gate_operands_finite [hGateGradIdeal : Cert.GateGradIdeal.Facts] [hGateGradReferenceIdeal : Cert.GateGradReferenceIdeal.Facts] [hPre_gate_operands_finite : Cert.Pre_gate_operands_finite.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal_gate_operands_finite m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)
      ∧ m' ((c.tc : Thread Cert.GateGradReferenceIdeal.nD Cert.GateGradReferenceIdeal.τ).loc Cert.GateGradReferenceIdeal.main_arg3) = m ((c.tc : Thread Cert.GateGradIdeal.nD Cert.GateGradIdeal.τ).loc Cert.GateGradIdeal.main_arg3)) →
    ∃ (v0 : (c : Dev Cert.GateGradIdeal.nD) → Buf (Elt Ideal) ((c.tc : Thread Cert.GateGradIdeal.nD Cert.GateGradIdeal.τ).loc Cert.GateGradIdeal.main_v0_0)) (v1 : (c : Dev Cert.GateGradIdeal.nD) → Buf (Elt Ideal) ((c.tc : Thread Cert.GateGradIdeal.nD Cert.GateGradIdeal.τ).loc Cert.GateGradIdeal.main_v0_1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0_0) = v0 c
          ∧ r.2.mem ((c.tc : Thread Cert.GateGradIdeal.nD Cert.GateGradIdeal.τ).loc Cert.GateGradIdeal.main_v0_1) = v1 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v11) = v0 c
          ∧ r.2.mem ((c.tc : Thread Cert.GateGradReferenceIdeal.nD Cert.GateGradReferenceIdeal.τ).loc Cert.GateGradReferenceIdeal.main_v9) = v1 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2)
          ∧ r.2.mem ((c.tc : Thread Cert.GateGradReferenceIdeal.nD Cert.GateGradReferenceIdeal.τ).loc Cert.GateGradReferenceIdeal.main_arg3) = m' ((c.tc : Thread Cert.GateGradReferenceIdeal.nD Cert.GateGradReferenceIdeal.τ).loc Cert.GateGradReferenceIdeal.main_arg3))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v6) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_FfGrad_FfGradIdeal : Prop :=
  True

def algebraic_FfGradIdeal_FfGradReferenceIdeal [hFfGradIdeal : Cert.FfGradIdeal.Facts] [hFfGradReferenceIdeal : Cert.FfGradReferenceIdeal.Facts] : Prop :=
  ∀ (m : (ℓ : Loc Cert.FfGradIdeal.nD Cert.FfGradIdeal.τ Cert.FfGradIdeal.sig) → Buf (Elt Ideal) ℓ) (g : Dev Cert.FfGradIdeal.nD → PrngReg)
    (m' : (ℓ : Loc Cert.FfGradReferenceIdeal.nD Cert.FfGradReferenceIdeal.τ Cert.FfGradReferenceIdeal.sig) → Buf (Elt Ideal) ℓ) (g' : Dev Cert.FfGradReferenceIdeal.nD → PrngReg), Pre_FfGradIdeal m →
    (∀ c : Dev Cert.FfGradIdeal.nD,
      m' ((c.tc : Thread Cert.FfGradReferenceIdeal.nD Cert.FfGradReferenceIdeal.τ).loc Cert.FfGradReferenceIdeal.main_arg0) = m ((c.tc : Thread Cert.FfGradIdeal.nD Cert.FfGradIdeal.τ).loc Cert.FfGradIdeal.main_arg0)
      ∧ m' ((c.tc : Thread Cert.FfGradReferenceIdeal.nD Cert.FfGradReferenceIdeal.τ).loc Cert.FfGradReferenceIdeal.main_arg1) = m ((c.tc : Thread Cert.FfGradIdeal.nD Cert.FfGradIdeal.τ).loc Cert.FfGradIdeal.main_arg1)) →
    ∃ (v0 : (c : Dev Cert.FfGradIdeal.nD) → Buf (Elt Ideal) ((c.tc : Thread Cert.FfGradIdeal.nD Cert.FfGradIdeal.τ).loc Cert.FfGradIdeal.main_v0)),
      θ_run (Cert.FfGradIdeal.defs (F := Ideal)) (onTc (τ := Cert.FfGradIdeal.τ) (Cert.FfGradIdeal.main (F := Ideal))) ⟨m, fun _ => 0, g⟩ (fun r => ∀ c : Dev Cert.FfGradIdeal.nD,
          r.2.mem ((c.tc : Thread Cert.FfGradIdeal.nD Cert.FfGradIdeal.τ).loc Cert.FfGradIdeal.main_v0) = v0 c
          ∧ r.2.mem ((c.tc : Thread Cert.FfGradIdeal.nD Cert.FfGradIdeal.τ).loc Cert.FfGradIdeal.main_arg0) = m ((c.tc : Thread Cert.FfGradIdeal.nD Cert.FfGradIdeal.τ).loc Cert.FfGradIdeal.main_arg0)
          ∧ r.2.mem ((c.tc : Thread Cert.FfGradIdeal.nD Cert.FfGradIdeal.τ).loc Cert.FfGradIdeal.main_arg1) = m ((c.tc : Thread Cert.FfGradIdeal.nD Cert.FfGradIdeal.τ).loc Cert.FfGradIdeal.main_arg1))
      ∧ θ_run (Cert.FfGradReferenceIdeal.defs (F := Ideal)) (onTc (τ := Cert.FfGradReferenceIdeal.τ) (Cert.FfGradReferenceIdeal.main (F := Ideal))) ⟨m', fun _ => 0, g'⟩ (fun r => ∀ c : Dev Cert.FfGradReferenceIdeal.nD,
          r.2.mem ((c.tc : Thread Cert.FfGradReferenceIdeal.nD Cert.FfGradReferenceIdeal.τ).loc Cert.FfGradReferenceIdeal.main_v8) = v0 c
          ∧ r.2.mem ((c.tc : Thread Cert.FfGradReferenceIdeal.nD Cert.FfGradReferenceIdeal.τ).loc Cert.FfGradReferenceIdeal.main_arg0) = m' ((c.tc : Thread Cert.FfGradReferenceIdeal.nD Cert.FfGradReferenceIdeal.τ).loc Cert.FfGradReferenceIdeal.main_arg0)
          ∧ r.2.mem ((c.tc : Thread Cert.FfGradReferenceIdeal.nD Cert.FfGradReferenceIdeal.τ).loc Cert.FfGradReferenceIdeal.main_arg1) = m' ((c.tc : Thread Cert.FfGradReferenceIdeal.nD Cert.FfGradReferenceIdeal.τ).loc Cert.FfGradReferenceIdeal.main_arg1))

def preserves_MlpGrad_MlpGradIdeal : Prop :=
  True

def algebraic_MlpGradIdeal_MlpGradReferenceIdeal_pre_mlp_operands_finite [hMlpGradIdeal : Cert.MlpGradIdeal.Facts] [hMlpGradReferenceIdeal : Cert.MlpGradReferenceIdeal.Facts] [hPre_mlp_operands_finite : Cert.Pre_mlp_operands_finite.Facts] : Prop :=
  ∀ (m : (ℓ : Loc Cert.MlpGradIdeal.nD Cert.MlpGradIdeal.τ Cert.MlpGradIdeal.sig) → Buf (Elt Ideal) ℓ) (g : Dev Cert.MlpGradIdeal.nD → PrngReg)
    (m' : (ℓ : Loc Cert.MlpGradReferenceIdeal.nD Cert.MlpGradReferenceIdeal.τ Cert.MlpGradReferenceIdeal.sig) → Buf (Elt Ideal) ℓ) (g' : Dev Cert.MlpGradReferenceIdeal.nD → PrngReg), Pre_MlpGradIdeal_mlp_operands_finite m →
    (∀ c : Dev Cert.MlpGradIdeal.nD,
      m' ((c.tc : Thread Cert.MlpGradReferenceIdeal.nD Cert.MlpGradReferenceIdeal.τ).loc Cert.MlpGradReferenceIdeal.main_arg0) = m ((c.tc : Thread Cert.MlpGradIdeal.nD Cert.MlpGradIdeal.τ).loc Cert.MlpGradIdeal.main_arg0)
      ∧ m' ((c.tc : Thread Cert.MlpGradReferenceIdeal.nD Cert.MlpGradReferenceIdeal.τ).loc Cert.MlpGradReferenceIdeal.main_arg1) = m ((c.tc : Thread Cert.MlpGradIdeal.nD Cert.MlpGradIdeal.τ).loc Cert.MlpGradIdeal.main_arg1)
      ∧ m' ((c.tc : Thread Cert.MlpGradReferenceIdeal.nD Cert.MlpGradReferenceIdeal.τ).loc Cert.MlpGradReferenceIdeal.main_arg2) = m ((c.tc : Thread Cert.MlpGradIdeal.nD Cert.MlpGradIdeal.τ).loc Cert.MlpGradIdeal.main_arg2)
      ∧ m' ((c.tc : Thread Cert.MlpGradReferenceIdeal.nD Cert.MlpGradReferenceIdeal.τ).loc Cert.MlpGradReferenceIdeal.main_arg3) = m ((c.tc : Thread Cert.MlpGradIdeal.nD Cert.MlpGradIdeal.τ).loc Cert.MlpGradIdeal.main_arg3)
      ∧ m' ((c.tc : Thread Cert.MlpGradReferenceIdeal.nD Cert.MlpGradReferenceIdeal.τ).loc Cert.MlpGradReferenceIdeal.main_arg4) = m ((c.tc : Thread Cert.MlpGradIdeal.nD Cert.MlpGradIdeal.τ).loc Cert.MlpGradIdeal.main_arg4)
      ∧ m' ((c.tc : Thread Cert.MlpGradReferenceIdeal.nD Cert.MlpGradReferenceIdeal.τ).loc Cert.MlpGradReferenceIdeal.main_arg5) = m ((c.tc : Thread Cert.MlpGradIdeal.nD Cert.MlpGradIdeal.τ).loc Cert.MlpGradIdeal.main_arg5)
      ∧ m' ((c.tc : Thread Cert.MlpGradReferenceIdeal.nD Cert.MlpGradReferenceIdeal.τ).loc Cert.MlpGradReferenceIdeal.main_arg6) = m ((c.tc : Thread Cert.MlpGradIdeal.nD Cert.MlpGradIdeal.τ).loc Cert.MlpGradIdeal.main_arg6)
      ∧ m' ((c.tc : Thread Cert.MlpGradReferenceIdeal.nD Cert.MlpGradReferenceIdeal.τ).loc Cert.MlpGradReferenceIdeal.main_arg7) = m ((c.tc : Thread Cert.MlpGradIdeal.nD Cert.MlpGradIdeal.τ).loc Cert.MlpGradIdeal.main_arg7)) →
    ∃ (v0 : (c : Dev Cert.MlpGradIdeal.nD) → Buf (Elt Ideal) ((c.tc : Thread Cert.MlpGradIdeal.nD Cert.MlpGradIdeal.τ).loc Cert.MlpGradIdeal.main_v8_0)) (v1 : (c : Dev Cert.MlpGradIdeal.nD) → Buf (Elt Ideal) ((c.tc : Thread Cert.MlpGradIdeal.nD Cert.MlpGradIdeal.τ).loc Cert.MlpGradIdeal.main_v8_1)) (v2 : (c : Dev Cert.MlpGradIdeal.nD) → Buf (Elt Ideal) ((c.tc : Thread Cert.MlpGradIdeal.nD Cert.MlpGradIdeal.τ).loc Cert.MlpGradIdeal.main_v8_2)),
      θ_run (Cert.MlpGradIdeal.defs (F := Ideal)) (onTc (τ := Cert.MlpGradIdeal.τ) (Cert.MlpGradIdeal.main (F := Ideal))) ⟨m, fun _ => 0, g⟩ (fun r => ∀ c : Dev Cert.MlpGradIdeal.nD,
          r.2.mem ((c.tc : Thread Cert.MlpGradIdeal.nD Cert.MlpGradIdeal.τ).loc Cert.MlpGradIdeal.main_v8_0) = v0 c
          ∧ r.2.mem ((c.tc : Thread Cert.MlpGradIdeal.nD Cert.MlpGradIdeal.τ).loc Cert.MlpGradIdeal.main_v8_1) = v1 c
          ∧ r.2.mem ((c.tc : Thread Cert.MlpGradIdeal.nD Cert.MlpGradIdeal.τ).loc Cert.MlpGradIdeal.main_v8_2) = v2 c
          ∧ r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
          ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
          ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
          ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
          ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
          ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
          ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
          ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7))
      ∧ θ_run (Cert.MlpGradReferenceIdeal.defs (F := Ideal)) (onTc (τ := Cert.MlpGradReferenceIdeal.τ) (Cert.MlpGradReferenceIdeal.main (F := Ideal))) ⟨m', fun _ => 0, g'⟩ (fun r => ∀ c : Dev Cert.MlpGradReferenceIdeal.nD,
          r.2.mem ((c.tc : Thread Cert.MlpGradReferenceIdeal.nD Cert.MlpGradReferenceIdeal.τ).loc Cert.MlpGradReferenceIdeal.main_v45) = v0 c
          ∧ r.2.mem ((c.tc : Thread Cert.MlpGradReferenceIdeal.nD Cert.MlpGradReferenceIdeal.τ).loc Cert.MlpGradReferenceIdeal.main_v49) = v1 c
          ∧ r.2.mem ((c.tc : Thread Cert.MlpGradReferenceIdeal.nD Cert.MlpGradReferenceIdeal.τ).loc Cert.MlpGradReferenceIdeal.main_v28) = v2 c
          ∧ r.2.mem ((c.tc : Thread Cert.MlpGradReferenceIdeal.nD Cert.MlpGradReferenceIdeal.τ).loc Cert.MlpGradReferenceIdeal.main_arg0) = m' ((c.tc : Thread Cert.MlpGradReferenceIdeal.nD Cert.MlpGradReferenceIdeal.τ).loc Cert.MlpGradReferenceIdeal.main_arg0)
          ∧ r.2.mem ((c.tc : Thread Cert.MlpGradReferenceIdeal.nD Cert.MlpGradReferenceIdeal.τ).loc Cert.MlpGradReferenceIdeal.main_arg1) = m' ((c.tc : Thread Cert.MlpGradReferenceIdeal.nD Cert.MlpGradReferenceIdeal.τ).loc Cert.MlpGradReferenceIdeal.main_arg1)
          ∧ r.2.mem ((c.tc : Thread Cert.MlpGradReferenceIdeal.nD Cert.MlpGradReferenceIdeal.τ).loc Cert.MlpGradReferenceIdeal.main_arg2) = m' ((c.tc : Thread Cert.MlpGradReferenceIdeal.nD Cert.MlpGradReferenceIdeal.τ).loc Cert.MlpGradReferenceIdeal.main_arg2)
          ∧ r.2.mem ((c.tc : Thread Cert.MlpGradReferenceIdeal.nD Cert.MlpGradReferenceIdeal.τ).loc Cert.MlpGradReferenceIdeal.main_arg3) = m' ((c.tc : Thread Cert.MlpGradReferenceIdeal.nD Cert.MlpGradReferenceIdeal.τ).loc Cert.MlpGradReferenceIdeal.main_arg3)
          ∧ r.2.mem ((c.tc : Thread Cert.MlpGradReferenceIdeal.nD Cert.MlpGradReferenceIdeal.τ).loc Cert.MlpGradReferenceIdeal.main_arg4) = m' ((c.tc : Thread Cert.MlpGradReferenceIdeal.nD Cert.MlpGradReferenceIdeal.τ).loc Cert.MlpGradReferenceIdeal.main_arg4)
          ∧ r.2.mem ((c.tc : Thread Cert.MlpGradReferenceIdeal.nD Cert.MlpGradReferenceIdeal.τ).loc Cert.MlpGradReferenceIdeal.main_arg5) = m' ((c.tc : Thread Cert.MlpGradReferenceIdeal.nD Cert.MlpGradReferenceIdeal.τ).loc Cert.MlpGradReferenceIdeal.main_arg5)
          ∧ r.2.mem ((c.tc : Thread Cert.MlpGradReferenceIdeal.nD Cert.MlpGradReferenceIdeal.τ).loc Cert.MlpGradReferenceIdeal.main_arg6) = m' ((c.tc : Thread Cert.MlpGradReferenceIdeal.nD Cert.MlpGradReferenceIdeal.τ).loc Cert.MlpGradReferenceIdeal.main_arg6)
          ∧ r.2.mem ((c.tc : Thread Cert.MlpGradReferenceIdeal.nD Cert.MlpGradReferenceIdeal.τ).loc Cert.MlpGradReferenceIdeal.main_arg7) = m' ((c.tc : Thread Cert.MlpGradReferenceIdeal.nD Cert.MlpGradReferenceIdeal.τ).loc Cert.MlpGradReferenceIdeal.main_arg7))

def preserves_InNormGrad_InNormGradIdeal : Prop :=
  True

def algebraic_InNormGradIdeal_InNormGradReferenceIdeal_pre_norm_operands_finite [hInNormGradIdeal : Cert.InNormGradIdeal.Facts] [hInNormGradReferenceIdeal : Cert.InNormGradReferenceIdeal.Facts] [hPre_norm_operands_finite : Cert.Pre_norm_operands_finite.Facts] : Prop :=
  ∀ (m : (ℓ : Loc Cert.InNormGradIdeal.nD Cert.InNormGradIdeal.τ Cert.InNormGradIdeal.sig) → Buf (Elt Ideal) ℓ) (g : Dev Cert.InNormGradIdeal.nD → PrngReg)
    (m' : (ℓ : Loc Cert.InNormGradReferenceIdeal.nD Cert.InNormGradReferenceIdeal.τ Cert.InNormGradReferenceIdeal.sig) → Buf (Elt Ideal) ℓ) (g' : Dev Cert.InNormGradReferenceIdeal.nD → PrngReg), Pre_InNormGradIdeal_norm_operands_finite m →
    (∀ c : Dev Cert.InNormGradIdeal.nD,
      m' ((c.tc : Thread Cert.InNormGradReferenceIdeal.nD Cert.InNormGradReferenceIdeal.τ).loc Cert.InNormGradReferenceIdeal.main_arg0) = m ((c.tc : Thread Cert.InNormGradIdeal.nD Cert.InNormGradIdeal.τ).loc Cert.InNormGradIdeal.main_arg0)
      ∧ m' ((c.tc : Thread Cert.InNormGradReferenceIdeal.nD Cert.InNormGradReferenceIdeal.τ).loc Cert.InNormGradReferenceIdeal.main_arg1) = m ((c.tc : Thread Cert.InNormGradIdeal.nD Cert.InNormGradIdeal.τ).loc Cert.InNormGradIdeal.main_arg1)
      ∧ m' ((c.tc : Thread Cert.InNormGradReferenceIdeal.nD Cert.InNormGradReferenceIdeal.τ).loc Cert.InNormGradReferenceIdeal.main_arg2) = m ((c.tc : Thread Cert.InNormGradIdeal.nD Cert.InNormGradIdeal.τ).loc Cert.InNormGradIdeal.main_arg2)
      ∧ m' ((c.tc : Thread Cert.InNormGradReferenceIdeal.nD Cert.InNormGradReferenceIdeal.τ).loc Cert.InNormGradReferenceIdeal.main_arg3) = m ((c.tc : Thread Cert.InNormGradIdeal.nD Cert.InNormGradIdeal.τ).loc Cert.InNormGradIdeal.main_arg3)
      ∧ m' ((c.tc : Thread Cert.InNormGradReferenceIdeal.nD Cert.InNormGradReferenceIdeal.τ).loc Cert.InNormGradReferenceIdeal.main_arg4) = m ((c.tc : Thread Cert.InNormGradIdeal.nD Cert.InNormGradIdeal.τ).loc Cert.InNormGradIdeal.main_arg4)
      ∧ m' ((c.tc : Thread Cert.InNormGradReferenceIdeal.nD Cert.InNormGradReferenceIdeal.τ).loc Cert.InNormGradReferenceIdeal.main_arg5) = m ((c.tc : Thread Cert.InNormGradIdeal.nD Cert.InNormGradIdeal.τ).loc Cert.InNormGradIdeal.main_arg5)
      ∧ m' ((c.tc : Thread Cert.InNormGradReferenceIdeal.nD Cert.InNormGradReferenceIdeal.τ).loc Cert.InNormGradReferenceIdeal.main_arg6) = m ((c.tc : Thread Cert.InNormGradIdeal.nD Cert.InNormGradIdeal.τ).loc Cert.InNormGradIdeal.main_arg6)
      ∧ m' ((c.tc : Thread Cert.InNormGradReferenceIdeal.nD Cert.InNormGradReferenceIdeal.τ).loc Cert.InNormGradReferenceIdeal.main_arg7) = m ((c.tc : Thread Cert.InNormGradIdeal.nD Cert.InNormGradIdeal.τ).loc Cert.InNormGradIdeal.main_arg7)
      ∧ m' ((c.tc : Thread Cert.InNormGradReferenceIdeal.nD Cert.InNormGradReferenceIdeal.τ).loc Cert.InNormGradReferenceIdeal.main_arg8) = m ((c.tc : Thread Cert.InNormGradIdeal.nD Cert.InNormGradIdeal.τ).loc Cert.InNormGradIdeal.main_arg8)) →
    ∃ (v0 : (c : Dev Cert.InNormGradIdeal.nD) → Buf (Elt Ideal) ((c.tc : Thread Cert.InNormGradIdeal.nD Cert.InNormGradIdeal.τ).loc Cert.InNormGradIdeal.main_v8_0)) (v1 : (c : Dev Cert.InNormGradIdeal.nD) → Buf (Elt Ideal) ((c.tc : Thread Cert.InNormGradIdeal.nD Cert.InNormGradIdeal.τ).loc Cert.InNormGradIdeal.main_v8_1)),
      θ_run (Cert.InNormGradIdeal.defs (F := Ideal)) (onTc (τ := Cert.InNormGradIdeal.τ) (Cert.InNormGradIdeal.main (F := Ideal))) ⟨m, fun _ => 0, g⟩ (fun r => ∀ c : Dev Cert.InNormGradIdeal.nD,
          r.2.mem ((c.tc : Thread Cert.InNormGradIdeal.nD Cert.InNormGradIdeal.τ).loc Cert.InNormGradIdeal.main_v8_0) = v0 c
          ∧ r.2.mem ((c.tc : Thread Cert.InNormGradIdeal.nD Cert.InNormGradIdeal.τ).loc Cert.InNormGradIdeal.main_v8_1) = v1 c
          ∧ r.2.mem ((c.tc : Thread Cert.InNormGradIdeal.nD Cert.InNormGradIdeal.τ).loc Cert.InNormGradIdeal.main_arg0) = m ((c.tc : Thread Cert.InNormGradIdeal.nD Cert.InNormGradIdeal.τ).loc Cert.InNormGradIdeal.main_arg0)
          ∧ r.2.mem ((c.tc : Thread Cert.InNormGradIdeal.nD Cert.InNormGradIdeal.τ).loc Cert.InNormGradIdeal.main_arg1) = m ((c.tc : Thread Cert.InNormGradIdeal.nD Cert.InNormGradIdeal.τ).loc Cert.InNormGradIdeal.main_arg1)
          ∧ r.2.mem ((c.tc : Thread Cert.InNormGradIdeal.nD Cert.InNormGradIdeal.τ).loc Cert.InNormGradIdeal.main_arg2) = m ((c.tc : Thread Cert.InNormGradIdeal.nD Cert.InNormGradIdeal.τ).loc Cert.InNormGradIdeal.main_arg2)
          ∧ r.2.mem ((c.tc : Thread Cert.InNormGradIdeal.nD Cert.InNormGradIdeal.τ).loc Cert.InNormGradIdeal.main_arg3) = m ((c.tc : Thread Cert.InNormGradIdeal.nD Cert.InNormGradIdeal.τ).loc Cert.InNormGradIdeal.main_arg3)
          ∧ r.2.mem ((c.tc : Thread Cert.InNormGradIdeal.nD Cert.InNormGradIdeal.τ).loc Cert.InNormGradIdeal.main_arg4) = m ((c.tc : Thread Cert.InNormGradIdeal.nD Cert.InNormGradIdeal.τ).loc Cert.InNormGradIdeal.main_arg4)
          ∧ r.2.mem ((c.tc : Thread Cert.InNormGradIdeal.nD Cert.InNormGradIdeal.τ).loc Cert.InNormGradIdeal.main_arg5) = m ((c.tc : Thread Cert.InNormGradIdeal.nD Cert.InNormGradIdeal.τ).loc Cert.InNormGradIdeal.main_arg5)
          ∧ r.2.mem ((c.tc : Thread Cert.InNormGradIdeal.nD Cert.InNormGradIdeal.τ).loc Cert.InNormGradIdeal.main_arg6) = m ((c.tc : Thread Cert.InNormGradIdeal.nD Cert.InNormGradIdeal.τ).loc Cert.InNormGradIdeal.main_arg6)
          ∧ r.2.mem ((c.tc : Thread Cert.InNormGradIdeal.nD Cert.InNormGradIdeal.τ).loc Cert.InNormGradIdeal.main_arg7) = m ((c.tc : Thread Cert.InNormGradIdeal.nD Cert.InNormGradIdeal.τ).loc Cert.InNormGradIdeal.main_arg7)
          ∧ r.2.mem ((c.tc : Thread Cert.InNormGradIdeal.nD Cert.InNormGradIdeal.τ).loc Cert.InNormGradIdeal.main_arg8) = m ((c.tc : Thread Cert.InNormGradIdeal.nD Cert.InNormGradIdeal.τ).loc Cert.InNormGradIdeal.main_arg8))
      ∧ θ_run (Cert.InNormGradReferenceIdeal.defs (F := Ideal)) (onTc (τ := Cert.InNormGradReferenceIdeal.τ) (Cert.InNormGradReferenceIdeal.main (F := Ideal))) ⟨m', fun _ => 0, g'⟩ (fun r => ∀ c : Dev Cert.InNormGradReferenceIdeal.nD,
          r.2.mem ((c.tc : Thread Cert.InNormGradReferenceIdeal.nD Cert.InNormGradReferenceIdeal.τ).loc Cert.InNormGradReferenceIdeal.main_v68) = v0 c
          ∧ r.2.mem ((c.tc : Thread Cert.InNormGradReferenceIdeal.nD Cert.InNormGradReferenceIdeal.τ).loc Cert.InNormGradReferenceIdeal.main_v51) = v1 c
          ∧ r.2.mem ((c.tc : Thread Cert.InNormGradReferenceIdeal.nD Cert.InNormGradReferenceIdeal.τ).loc Cert.InNormGradReferenceIdeal.main_arg0) = m' ((c.tc : Thread Cert.InNormGradReferenceIdeal.nD Cert.InNormGradReferenceIdeal.τ).loc Cert.InNormGradReferenceIdeal.main_arg0)
          ∧ r.2.mem ((c.tc : Thread Cert.InNormGradReferenceIdeal.nD Cert.InNormGradReferenceIdeal.τ).loc Cert.InNormGradReferenceIdeal.main_arg1) = m' ((c.tc : Thread Cert.InNormGradReferenceIdeal.nD Cert.InNormGradReferenceIdeal.τ).loc Cert.InNormGradReferenceIdeal.main_arg1)
          ∧ r.2.mem ((c.tc : Thread Cert.InNormGradReferenceIdeal.nD Cert.InNormGradReferenceIdeal.τ).loc Cert.InNormGradReferenceIdeal.main_arg2) = m' ((c.tc : Thread Cert.InNormGradReferenceIdeal.nD Cert.InNormGradReferenceIdeal.τ).loc Cert.InNormGradReferenceIdeal.main_arg2)
          ∧ r.2.mem ((c.tc : Thread Cert.InNormGradReferenceIdeal.nD Cert.InNormGradReferenceIdeal.τ).loc Cert.InNormGradReferenceIdeal.main_arg3) = m' ((c.tc : Thread Cert.InNormGradReferenceIdeal.nD Cert.InNormGradReferenceIdeal.τ).loc Cert.InNormGradReferenceIdeal.main_arg3)
          ∧ r.2.mem ((c.tc : Thread Cert.InNormGradReferenceIdeal.nD Cert.InNormGradReferenceIdeal.τ).loc Cert.InNormGradReferenceIdeal.main_arg4) = m' ((c.tc : Thread Cert.InNormGradReferenceIdeal.nD Cert.InNormGradReferenceIdeal.τ).loc Cert.InNormGradReferenceIdeal.main_arg4)
          ∧ r.2.mem ((c.tc : Thread Cert.InNormGradReferenceIdeal.nD Cert.InNormGradReferenceIdeal.τ).loc Cert.InNormGradReferenceIdeal.main_arg5) = m' ((c.tc : Thread Cert.InNormGradReferenceIdeal.nD Cert.InNormGradReferenceIdeal.τ).loc Cert.InNormGradReferenceIdeal.main_arg5)
          ∧ r.2.mem ((c.tc : Thread Cert.InNormGradReferenceIdeal.nD Cert.InNormGradReferenceIdeal.τ).loc Cert.InNormGradReferenceIdeal.main_arg6) = m' ((c.tc : Thread Cert.InNormGradReferenceIdeal.nD Cert.InNormGradReferenceIdeal.τ).loc Cert.InNormGradReferenceIdeal.main_arg6)
          ∧ r.2.mem ((c.tc : Thread Cert.InNormGradReferenceIdeal.nD Cert.InNormGradReferenceIdeal.τ).loc Cert.InNormGradReferenceIdeal.main_arg7) = m' ((c.tc : Thread Cert.InNormGradReferenceIdeal.nD Cert.InNormGradReferenceIdeal.τ).loc Cert.InNormGradReferenceIdeal.main_arg7)
          ∧ r.2.mem ((c.tc : Thread Cert.InNormGradReferenceIdeal.nD Cert.InNormGradReferenceIdeal.τ).loc Cert.InNormGradReferenceIdeal.main_arg8) = m' ((c.tc : Thread Cert.InNormGradReferenceIdeal.nD Cert.InNormGradReferenceIdeal.τ).loc Cert.InNormGradReferenceIdeal.main_arg8))

def preserves_DownFinal_DownFinalIdeal : Prop :=
  True

def algebraic_DownFinalIdeal_DownFinalReferenceIdeal_pre_final_operands_finite [hDownFinalIdeal : Cert.DownFinalIdeal.Facts] [hDownFinalReferenceIdeal : Cert.DownFinalReferenceIdeal.Facts] [hPre_final_operands_finite : Cert.Pre_final_operands_finite.Facts] : Prop :=
  ∀ (m : (ℓ : Loc Cert.DownFinalIdeal.nD Cert.DownFinalIdeal.τ Cert.DownFinalIdeal.sig) → Buf (Elt Ideal) ℓ) (g : Dev Cert.DownFinalIdeal.nD → PrngReg)
    (m' : (ℓ : Loc Cert.DownFinalReferenceIdeal.nD Cert.DownFinalReferenceIdeal.τ Cert.DownFinalReferenceIdeal.sig) → Buf (Elt Ideal) ℓ) (g' : Dev Cert.DownFinalReferenceIdeal.nD → PrngReg), Pre_DownFinalIdeal_final_operands_finite m →
    (∀ c : Dev Cert.DownFinalIdeal.nD,
      m' ((c.tc : Thread Cert.DownFinalReferenceIdeal.nD Cert.DownFinalReferenceIdeal.τ).loc Cert.DownFinalReferenceIdeal.main_arg0) = m ((c.tc : Thread Cert.DownFinalIdeal.nD Cert.DownFinalIdeal.τ).loc Cert.DownFinalIdeal.main_arg0)
      ∧ m' ((c.tc : Thread Cert.DownFinalReferenceIdeal.nD Cert.DownFinalReferenceIdeal.τ).loc Cert.DownFinalReferenceIdeal.main_arg1) = m ((c.tc : Thread Cert.DownFinalIdeal.nD Cert.DownFinalIdeal.τ).loc Cert.DownFinalIdeal.main_arg1)
      ∧ m' ((c.tc : Thread Cert.DownFinalReferenceIdeal.nD Cert.DownFinalReferenceIdeal.τ).loc Cert.DownFinalReferenceIdeal.main_arg2) = m ((c.tc : Thread Cert.DownFinalIdeal.nD Cert.DownFinalIdeal.τ).loc Cert.DownFinalIdeal.main_arg2)
      ∧ m' ((c.tc : Thread Cert.DownFinalReferenceIdeal.nD Cert.DownFinalReferenceIdeal.τ).loc Cert.DownFinalReferenceIdeal.main_arg3) = m ((c.tc : Thread Cert.DownFinalIdeal.nD Cert.DownFinalIdeal.τ).loc Cert.DownFinalIdeal.main_arg3)
      ∧ m' ((c.tc : Thread Cert.DownFinalReferenceIdeal.nD Cert.DownFinalReferenceIdeal.τ).loc Cert.DownFinalReferenceIdeal.main_arg4) = m ((c.tc : Thread Cert.DownFinalIdeal.nD Cert.DownFinalIdeal.τ).loc Cert.DownFinalIdeal.main_arg4)) →
    ∃ (v0 : (c : Dev Cert.DownFinalIdeal.nD) → Buf (Elt Ideal) ((c.tc : Thread Cert.DownFinalIdeal.nD Cert.DownFinalIdeal.τ).loc Cert.DownFinalIdeal.main_v0_0)) (v1 : (c : Dev Cert.DownFinalIdeal.nD) → Buf (Elt Ideal) ((c.tc : Thread Cert.DownFinalIdeal.nD Cert.DownFinalIdeal.τ).loc Cert.DownFinalIdeal.main_v0_1)) (v2 : (c : Dev Cert.DownFinalIdeal.nD) → Buf (Elt Ideal) ((c.tc : Thread Cert.DownFinalIdeal.nD Cert.DownFinalIdeal.τ).loc Cert.DownFinalIdeal.main_v0_2)),
      θ_run (Cert.DownFinalIdeal.defs (F := Ideal)) (onTc (τ := Cert.DownFinalIdeal.τ) (Cert.DownFinalIdeal.main (F := Ideal))) ⟨m, fun _ => 0, g⟩ (fun r => ∀ c : Dev Cert.DownFinalIdeal.nD,
          r.2.mem ((c.tc : Thread Cert.DownFinalIdeal.nD Cert.DownFinalIdeal.τ).loc Cert.DownFinalIdeal.main_v0_0) = v0 c
          ∧ r.2.mem ((c.tc : Thread Cert.DownFinalIdeal.nD Cert.DownFinalIdeal.τ).loc Cert.DownFinalIdeal.main_v0_1) = v1 c
          ∧ r.2.mem ((c.tc : Thread Cert.DownFinalIdeal.nD Cert.DownFinalIdeal.τ).loc Cert.DownFinalIdeal.main_v0_2) = v2 c
          ∧ r.2.mem ((c.tc : Thread Cert.DownFinalIdeal.nD Cert.DownFinalIdeal.τ).loc Cert.DownFinalIdeal.main_arg0) = m ((c.tc : Thread Cert.DownFinalIdeal.nD Cert.DownFinalIdeal.τ).loc Cert.DownFinalIdeal.main_arg0)
          ∧ r.2.mem ((c.tc : Thread Cert.DownFinalIdeal.nD Cert.DownFinalIdeal.τ).loc Cert.DownFinalIdeal.main_arg1) = m ((c.tc : Thread Cert.DownFinalIdeal.nD Cert.DownFinalIdeal.τ).loc Cert.DownFinalIdeal.main_arg1)
          ∧ r.2.mem ((c.tc : Thread Cert.DownFinalIdeal.nD Cert.DownFinalIdeal.τ).loc Cert.DownFinalIdeal.main_arg2) = m ((c.tc : Thread Cert.DownFinalIdeal.nD Cert.DownFinalIdeal.τ).loc Cert.DownFinalIdeal.main_arg2)
          ∧ r.2.mem ((c.tc : Thread Cert.DownFinalIdeal.nD Cert.DownFinalIdeal.τ).loc Cert.DownFinalIdeal.main_arg3) = m ((c.tc : Thread Cert.DownFinalIdeal.nD Cert.DownFinalIdeal.τ).loc Cert.DownFinalIdeal.main_arg3)
          ∧ r.2.mem ((c.tc : Thread Cert.DownFinalIdeal.nD Cert.DownFinalIdeal.τ).loc Cert.DownFinalIdeal.main_arg4) = m ((c.tc : Thread Cert.DownFinalIdeal.nD Cert.DownFinalIdeal.τ).loc Cert.DownFinalIdeal.main_arg4))
      ∧ θ_run (Cert.DownFinalReferenceIdeal.defs (F := Ideal)) (onTc (τ := Cert.DownFinalReferenceIdeal.τ) (Cert.DownFinalReferenceIdeal.main (F := Ideal))) ⟨m', fun _ => 0, g'⟩ (fun r => ∀ c : Dev Cert.DownFinalReferenceIdeal.nD,
          r.2.mem ((c.tc : Thread Cert.DownFinalReferenceIdeal.nD Cert.DownFinalReferenceIdeal.τ).loc Cert.DownFinalReferenceIdeal.main_v52) = v0 c
          ∧ r.2.mem ((c.tc : Thread Cert.DownFinalReferenceIdeal.nD Cert.DownFinalReferenceIdeal.τ).loc Cert.DownFinalReferenceIdeal.main_v68) = v1 c
          ∧ r.2.mem ((c.tc : Thread Cert.DownFinalReferenceIdeal.nD Cert.DownFinalReferenceIdeal.τ).loc Cert.DownFinalReferenceIdeal.main_v36) = v2 c
          ∧ r.2.mem ((c.tc : Thread Cert.DownFinalReferenceIdeal.nD Cert.DownFinalReferenceIdeal.τ).loc Cert.DownFinalReferenceIdeal.main_arg0) = m' ((c.tc : Thread Cert.DownFinalReferenceIdeal.nD Cert.DownFinalReferenceIdeal.τ).loc Cert.DownFinalReferenceIdeal.main_arg0)
          ∧ r.2.mem ((c.tc : Thread Cert.DownFinalReferenceIdeal.nD Cert.DownFinalReferenceIdeal.τ).loc Cert.DownFinalReferenceIdeal.main_arg1) = m' ((c.tc : Thread Cert.DownFinalReferenceIdeal.nD Cert.DownFinalReferenceIdeal.τ).loc Cert.DownFinalReferenceIdeal.main_arg1)
          ∧ r.2.mem ((c.tc : Thread Cert.DownFinalReferenceIdeal.nD Cert.DownFinalReferenceIdeal.τ).loc Cert.DownFinalReferenceIdeal.main_arg2) = m' ((c.tc : Thread Cert.DownFinalReferenceIdeal.nD Cert.DownFinalReferenceIdeal.τ).loc Cert.DownFinalReferenceIdeal.main_arg2)
          ∧ r.2.mem ((c.tc : Thread Cert.DownFinalReferenceIdeal.nD Cert.DownFinalReferenceIdeal.τ).loc Cert.DownFinalReferenceIdeal.main_arg3) = m' ((c.tc : Thread Cert.DownFinalReferenceIdeal.nD Cert.DownFinalReferenceIdeal.τ).loc Cert.DownFinalReferenceIdeal.main_arg3)
          ∧ r.2.mem ((c.tc : Thread Cert.DownFinalReferenceIdeal.nD Cert.DownFinalReferenceIdeal.τ).loc Cert.DownFinalReferenceIdeal.main_arg4) = m' ((c.tc : Thread Cert.DownFinalReferenceIdeal.nD Cert.DownFinalReferenceIdeal.τ).loc Cert.DownFinalReferenceIdeal.main_arg4))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v8) = v0 c
          ∧ r.2.mem ((c.tc : Thread Cert.GateUpReferenceIdeal.nD Cert.GateUpReferenceIdeal.τ).loc Cert.GateUpReferenceIdeal.main_v9) = v1 c
          ∧ r.2.mem ((c.tc : Thread Cert.GateUpReferenceIdeal.nD Cert.GateUpReferenceIdeal.τ).loc Cert.GateUpReferenceIdeal.main_v12) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_v6) = v1 c
          ∧ r.2.mem ((c.tc : Thread Cert.InProjReferenceIdeal.nD Cert.InProjReferenceIdeal.τ).loc Cert.InProjReferenceIdeal.main_v7) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutNorm_OutNormIdeal : Prop :=
  True

def algebraic_OutNormIdeal_OutNormReferenceIdeal [hOutNormIdeal : Cert.OutNormIdeal.Facts] [hOutNormReferenceIdeal : Cert.OutNormReferenceIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormIdeal m →
    (∀ c : Dev Cert.OutNormIdeal.nD,
      m' ((c.tc : Thread Cert.OutNormReferenceIdeal.nD Cert.OutNormReferenceIdeal.τ).loc Cert.OutNormReferenceIdeal.main_arg0) = m ((c.tc : Thread Cert.OutNormIdeal.nD Cert.OutNormIdeal.τ).loc Cert.OutNormIdeal.main_arg0)
      ∧ m' ((c.tc : Thread Cert.OutNormReferenceIdeal.nD Cert.OutNormReferenceIdeal.τ).loc Cert.OutNormReferenceIdeal.main_arg1) = m ((c.tc : Thread Cert.OutNormIdeal.nD Cert.OutNormIdeal.τ).loc Cert.OutNormIdeal.main_arg1)
      ∧ m' ((c.tc : Thread Cert.OutNormReferenceIdeal.nD Cert.OutNormReferenceIdeal.τ).loc Cert.OutNormReferenceIdeal.main_arg2) = m ((c.tc : Thread Cert.OutNormIdeal.nD Cert.OutNormIdeal.τ).loc Cert.OutNormIdeal.main_arg2)
      ∧ m' ((c.tc : Thread Cert.OutNormReferenceIdeal.nD Cert.OutNormReferenceIdeal.τ).loc Cert.OutNormReferenceIdeal.main_arg3) = m ((c.tc : Thread Cert.OutNormIdeal.nD Cert.OutNormIdeal.τ).loc Cert.OutNormIdeal.main_arg3)
      ∧ m' ((c.tc : Thread Cert.OutNormReferenceIdeal.nD Cert.OutNormReferenceIdeal.τ).loc Cert.OutNormReferenceIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)) (v2 : (c : Dev Cert.OutNormIdeal.nD) → Buf (Elt Ideal) ((c.tc : Thread Cert.OutNormIdeal.nD Cert.OutNormIdeal.τ).loc Cert.OutNormIdeal.main_v0_2)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_v0_2) = v2 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v4) = v0 c
          ∧ r.2.mem ((c.tc : Thread Cert.OutNormReferenceIdeal.nD Cert.OutNormReferenceIdeal.τ).loc Cert.OutNormReferenceIdeal.main_v17) = v1 c
          ∧ r.2.mem ((c.tc : Thread Cert.OutNormReferenceIdeal.nD Cert.OutNormReferenceIdeal.τ).loc Cert.OutNormReferenceIdeal.main_v25) = v2 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3)
          ∧ r.2.mem ((c.tc : Thread Cert.OutNormReferenceIdeal.nD Cert.OutNormReferenceIdeal.τ).loc Cert.OutNormReferenceIdeal.main_arg4) = m' ((c.tc : Thread Cert.OutNormReferenceIdeal.nD Cert.OutNormReferenceIdeal.τ).loc Cert.OutNormReferenceIdeal.main_arg4))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)
      ∧ m' ((c.tc : Thread Cert.InGradReferenceIdeal.nD Cert.InGradReferenceIdeal.τ).loc Cert.InGradReferenceIdeal.main_arg2) = m ((c.tc : Thread Cert.InGradIdeal.nD Cert.InGradIdeal.τ).loc Cert.InGradIdeal.main_arg2)
      ∧ m' ((c.tc : Thread Cert.InGradReferenceIdeal.nD Cert.InGradReferenceIdeal.τ).loc Cert.InGradReferenceIdeal.main_arg3) = m ((c.tc : Thread Cert.InGradIdeal.nD Cert.InGradIdeal.τ).loc Cert.InGradIdeal.main_arg3)
      ∧ m' ((c.tc : Thread Cert.InGradReferenceIdeal.nD Cert.InGradReferenceIdeal.τ).loc Cert.InGradReferenceIdeal.main_arg4) = m ((c.tc : Thread Cert.InGradIdeal.nD Cert.InGradIdeal.τ).loc Cert.InGradIdeal.main_arg4)
      ∧ m' ((c.tc : Thread Cert.InGradReferenceIdeal.nD Cert.InGradReferenceIdeal.τ).loc Cert.InGradReferenceIdeal.main_arg5) = m ((c.tc : Thread Cert.InGradIdeal.nD Cert.InGradIdeal.τ).loc Cert.InGradIdeal.main_arg5)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v10) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1)
          ∧ r.2.mem ((c.tc : Thread Cert.InGradReferenceIdeal.nD Cert.InGradReferenceIdeal.τ).loc Cert.InGradReferenceIdeal.main_arg2) = m' ((c.tc : Thread Cert.InGradReferenceIdeal.nD Cert.InGradReferenceIdeal.τ).loc Cert.InGradReferenceIdeal.main_arg2)
          ∧ r.2.mem ((c.tc : Thread Cert.InGradReferenceIdeal.nD Cert.InGradReferenceIdeal.τ).loc Cert.InGradReferenceIdeal.main_arg3) = m' ((c.tc : Thread Cert.InGradReferenceIdeal.nD Cert.InGradReferenceIdeal.τ).loc Cert.InGradReferenceIdeal.main_arg3)
          ∧ r.2.mem ((c.tc : Thread Cert.InGradReferenceIdeal.nD Cert.InGradReferenceIdeal.τ).loc Cert.InGradReferenceIdeal.main_arg4) = m' ((c.tc : Thread Cert.InGradReferenceIdeal.nD Cert.InGradReferenceIdeal.τ).loc Cert.InGradReferenceIdeal.main_arg4)
          ∧ r.2.mem ((c.tc : Thread Cert.InGradReferenceIdeal.nD Cert.InGradReferenceIdeal.τ).loc Cert.InGradReferenceIdeal.main_arg5) = m' ((c.tc : Thread Cert.InGradReferenceIdeal.nD Cert.InGradReferenceIdeal.τ).loc Cert.InGradReferenceIdeal.main_arg5))

def preserves_Norm1_Norm1Ideal : Prop :=
  True

def algebraic_Norm1Ideal_Norm1ReferenceIdeal [hNorm1Ideal : Cert.Norm1Ideal.Facts] [hNorm1ReferenceIdeal : Cert.Norm1ReferenceIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1ReferenceIdeal.nD Cert.Norm1ReferenceIdeal.τ Cert.Norm1ReferenceIdeal.sig) → Buf (Elt Ideal) ℓ) (g' : Dev Cert.Norm1ReferenceIdeal.nD → PrngReg), Pre_Norm1Ideal m →
    (∀ c : Dev Cert.Norm1Ideal.nD,
      m' ((c.tc : Thread Cert.Norm1ReferenceIdeal.nD Cert.Norm1ReferenceIdeal.τ).loc Cert.Norm1ReferenceIdeal.main_arg0) = m ((c.tc : Thread Cert.Norm1Ideal.nD Cert.Norm1Ideal.τ).loc Cert.Norm1Ideal.main_arg0)
      ∧ m' ((c.tc : Thread Cert.Norm1ReferenceIdeal.nD Cert.Norm1ReferenceIdeal.τ).loc Cert.Norm1ReferenceIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v0_0)) (v1 : (c : Dev Cert.Norm1Ideal.nD) → Buf (Elt Ideal) ((c.tc : Thread Cert.Norm1Ideal.nD Cert.Norm1Ideal.τ).loc Cert.Norm1Ideal.main_v0_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0_0) = v0 c
          ∧ r.2.mem ((c.tc : Thread Cert.Norm1Ideal.nD Cert.Norm1Ideal.τ).loc Cert.Norm1Ideal.main_v0_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1ReferenceIdeal.defs (F := Ideal)) (onTc (τ := Cert.Norm1ReferenceIdeal.τ) (Cert.Norm1ReferenceIdeal.main (F := Ideal))) ⟨m', fun _ => 0, g'⟩ (fun r => ∀ c : Dev Cert.Norm1ReferenceIdeal.nD,
          r.2.mem ((c.tc : Thread Cert.Norm1ReferenceIdeal.nD Cert.Norm1ReferenceIdeal.τ).loc Cert.Norm1ReferenceIdeal.main_v12) = v0 c
          ∧ r.2.mem ((c.tc : Thread Cert.Norm1ReferenceIdeal.nD Cert.Norm1ReferenceIdeal.τ).loc Cert.Norm1ReferenceIdeal.main_v20) = v1 c
          ∧ r.2.mem ((c.tc : Thread Cert.Norm1ReferenceIdeal.nD Cert.Norm1ReferenceIdeal.τ).loc Cert.Norm1ReferenceIdeal.main_arg0) = m' ((c.tc : Thread Cert.Norm1ReferenceIdeal.nD Cert.Norm1ReferenceIdeal.τ).loc Cert.Norm1ReferenceIdeal.main_arg0)
          ∧ r.2.mem ((c.tc : Thread Cert.Norm1ReferenceIdeal.nD Cert.Norm1ReferenceIdeal.τ).loc Cert.Norm1ReferenceIdeal.main_arg1) = m' ((c.tc : Thread Cert.Norm1ReferenceIdeal.nD Cert.Norm1ReferenceIdeal.τ).loc Cert.Norm1ReferenceIdeal.main_arg1))

def preserves_PoolGrad_PoolGradIdeal : Prop :=
  True

def algebraic_PoolGradIdeal_PoolGradReferenceIdeal [hPoolGradIdeal : Cert.PoolGradIdeal.Facts] [hPoolGradReferenceIdeal : Cert.PoolGradReferenceIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg)
    (m' : (ℓ : Loc Cert.PoolGradReferenceIdeal.nD Cert.PoolGradReferenceIdeal.τ Cert.PoolGradReferenceIdeal.sig) → Buf (Elt Ideal) ℓ) (g' : Dev Cert.PoolGradReferenceIdeal.nD → PrngReg), Pre_PoolGradIdeal m →
    (∀ c : Dev Cert.PoolGradIdeal.nD,
      m' ((c.tc : Thread Cert.PoolGradReferenceIdeal.nD Cert.PoolGradReferenceIdeal.τ).loc Cert.PoolGradReferenceIdeal.main_arg0) = m ((c.tc : Thread Cert.PoolGradIdeal.nD Cert.PoolGradIdeal.τ).loc Cert.PoolGradIdeal.main_arg0)
      ∧ m' ((c.tc : Thread Cert.PoolGradReferenceIdeal.nD Cert.PoolGradReferenceIdeal.τ).loc Cert.PoolGradReferenceIdeal.main_arg1) = m ((c.tc : Thread Cert.PoolGradIdeal.nD Cert.PoolGradIdeal.τ).loc Cert.PoolGradIdeal.main_arg1)
      ∧ m' ((c.tc : Thread Cert.PoolGradReferenceIdeal.nD Cert.PoolGradReferenceIdeal.τ).loc Cert.PoolGradReferenceIdeal.main_arg2) = m ((c.tc : Thread Cert.PoolGradIdeal.nD Cert.PoolGradIdeal.τ).loc Cert.PoolGradIdeal.main_arg2)
      ∧ m' ((c.tc : Thread Cert.PoolGradReferenceIdeal.nD Cert.PoolGradReferenceIdeal.τ).loc Cert.PoolGradReferenceIdeal.main_arg3) = m ((c.tc : Thread Cert.PoolGradIdeal.nD Cert.PoolGradIdeal.τ).loc Cert.PoolGradIdeal.main_arg3)) →
    ∃ (v0 : (c : Dev Cert.PoolGradIdeal.nD) → Buf (Elt Ideal) ((c.tc : Thread Cert.PoolGradIdeal.nD Cert.PoolGradIdeal.τ).loc Cert.PoolGradIdeal.main_v0_0)) (v1 : (c : Dev Cert.PoolGradIdeal.nD) → Buf (Elt Ideal) ((c.tc : Thread Cert.PoolGradIdeal.nD Cert.PoolGradIdeal.τ).loc Cert.PoolGradIdeal.main_v0_1)) (v2 : (c : Dev Cert.PoolGradIdeal.nD) → Buf (Elt Ideal) ((c.tc : Thread Cert.PoolGradIdeal.nD Cert.PoolGradIdeal.τ).loc Cert.PoolGradIdeal.main_v0_2)),
      θ_run (Cert.PoolGradIdeal.defs (F := Ideal)) (onTc (τ := Cert.PoolGradIdeal.τ) (Cert.PoolGradIdeal.main (F := Ideal))) ⟨m, fun _ => 0, g⟩ (fun r => ∀ c : Dev Cert.PoolGradIdeal.nD,
          r.2.mem ((c.tc : Thread Cert.PoolGradIdeal.nD Cert.PoolGradIdeal.τ).loc Cert.PoolGradIdeal.main_v0_0) = v0 c
          ∧ r.2.mem ((c.tc : Thread Cert.PoolGradIdeal.nD Cert.PoolGradIdeal.τ).loc Cert.PoolGradIdeal.main_v0_1) = v1 c
          ∧ r.2.mem ((c.tc : Thread Cert.PoolGradIdeal.nD Cert.PoolGradIdeal.τ).loc Cert.PoolGradIdeal.main_v0_2) = v2 c
          ∧ r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
          ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
          ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
          ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ θ_run (Cert.PoolGradReferenceIdeal.defs (F := Ideal)) (onTc (τ := Cert.PoolGradReferenceIdeal.τ) (Cert.PoolGradReferenceIdeal.main (F := Ideal))) ⟨m', fun _ => 0, g'⟩ (fun r => ∀ c : Dev Cert.PoolGradReferenceIdeal.nD,
          r.2.mem ((c.tc : Thread Cert.PoolGradReferenceIdeal.nD Cert.PoolGradReferenceIdeal.τ).loc Cert.PoolGradReferenceIdeal.main_v158) = v0 c
          ∧ r.2.mem ((c.tc : Thread Cert.PoolGradReferenceIdeal.nD Cert.PoolGradReferenceIdeal.τ).loc Cert.PoolGradReferenceIdeal.main_v18) = v1 c
          ∧ r.2.mem ((c.tc : Thread Cert.PoolGradReferenceIdeal.nD Cert.PoolGradReferenceIdeal.τ).loc Cert.PoolGradReferenceIdeal.main_v10) = v2 c
          ∧ r.2.mem ((c.tc : Thread Cert.PoolGradReferenceIdeal.nD Cert.PoolGradReferenceIdeal.τ).loc Cert.PoolGradReferenceIdeal.main_arg0) = m' ((c.tc : Thread Cert.PoolGradReferenceIdeal.nD Cert.PoolGradReferenceIdeal.τ).loc Cert.PoolGradReferenceIdeal.main_arg0)
          ∧ r.2.mem ((c.tc : Thread Cert.PoolGradReferenceIdeal.nD Cert.PoolGradReferenceIdeal.τ).loc Cert.PoolGradReferenceIdeal.main_arg1) = m' ((c.tc : Thread Cert.PoolGradReferenceIdeal.nD Cert.PoolGradReferenceIdeal.τ).loc Cert.PoolGradReferenceIdeal.main_arg1)
          ∧ r.2.mem ((c.tc : Thread Cert.PoolGradReferenceIdeal.nD Cert.PoolGradReferenceIdeal.τ).loc Cert.PoolGradReferenceIdeal.main_arg2) = m' ((c.tc : Thread Cert.PoolGradReferenceIdeal.nD Cert.PoolGradReferenceIdeal.τ).loc Cert.PoolGradReferenceIdeal.main_arg2)
          ∧ r.2.mem ((c.tc : Thread Cert.PoolGradReferenceIdeal.nD Cert.PoolGradReferenceIdeal.τ).loc Cert.PoolGradReferenceIdeal.main_arg3) = m' ((c.tc : Thread Cert.PoolGradReferenceIdeal.nD Cert.PoolGradReferenceIdeal.τ).loc Cert.PoolGradReferenceIdeal.main_arg3))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v102) = v0 c
          ∧ r.2.mem ((c.tc : Thread Cert.PoolReferenceIdeal.nD Cert.PoolReferenceIdeal.τ).loc Cert.PoolReferenceIdeal.main_v109) = v1 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_Forget_ForgetIdeal : Prop :=
  True

def algebraic_ForgetIdeal_ForgetReferenceIdeal [hForgetIdeal : Cert.ForgetIdeal.Facts] [hForgetReferenceIdeal : Cert.ForgetReferenceIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetIdeal m →
    (∀ c : Dev Cert.ForgetIdeal.nD,
      m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0)
      ∧ m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v7)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v7) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v6) = v0 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1))

def preserves_ForgetGrad_ForgetGradIdeal : Prop :=
  True

def algebraic_ForgetGradIdeal_ForgetGradReferenceIdeal_pre_forget_gradient_below_infinity [hForgetGradIdeal : Cert.ForgetGradIdeal.Facts] [hForgetGradReferenceIdeal : Cert.ForgetGradReferenceIdeal.Facts] [hPre_forget_gradient_below_infinity : Cert.Pre_forget_gradient_below_infinity.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg)
    (m' : (ℓ : Loc Cert.ForgetGradReferenceIdeal.nD Cert.ForgetGradReferenceIdeal.τ Cert.ForgetGradReferenceIdeal.sig) → Buf (Elt Ideal) ℓ) (g' : Dev Cert.ForgetGradReferenceIdeal.nD → PrngReg), Pre_ForgetGradIdeal_forget_gradient_below_infinity m →
    (∀ c : Dev Cert.ForgetGradIdeal.nD,
      m' ((c.tc : Thread Cert.ForgetGradReferenceIdeal.nD Cert.ForgetGradReferenceIdeal.τ).loc Cert.ForgetGradReferenceIdeal.main_arg0) = m ((c.tc : Thread Cert.ForgetGradIdeal.nD Cert.ForgetGradIdeal.τ).loc Cert.ForgetGradIdeal.main_arg0)
      ∧ m' ((c.tc : Thread Cert.ForgetGradReferenceIdeal.nD Cert.ForgetGradReferenceIdeal.τ).loc Cert.ForgetGradReferenceIdeal.main_arg1) = m ((c.tc : Thread Cert.ForgetGradIdeal.nD Cert.ForgetGradIdeal.τ).loc Cert.ForgetGradIdeal.main_arg1)
      ∧ m' ((c.tc : Thread Cert.ForgetGradReferenceIdeal.nD Cert.ForgetGradReferenceIdeal.τ).loc Cert.ForgetGradReferenceIdeal.main_arg2) = m ((c.tc : Thread Cert.ForgetGradIdeal.nD Cert.ForgetGradIdeal.τ).loc Cert.ForgetGradIdeal.main_arg2)) →
    ∃ (v0 : (c : Dev Cert.ForgetGradIdeal.nD) → Buf (Elt Ideal) ((c.tc : Thread Cert.ForgetGradIdeal.nD Cert.ForgetGradIdeal.τ).loc Cert.ForgetGradIdeal.main_v8_0)) (v1 : (c : Dev Cert.ForgetGradIdeal.nD) → Buf (Elt Ideal) ((c.tc : Thread Cert.ForgetGradIdeal.nD Cert.ForgetGradIdeal.τ).loc Cert.ForgetGradIdeal.main_v8_1)),
      θ_run (Cert.ForgetGradIdeal.defs (F := Ideal)) (onTc (τ := Cert.ForgetGradIdeal.τ) (Cert.ForgetGradIdeal.main (F := Ideal))) ⟨m, fun _ => 0, g⟩ (fun r => ∀ c : Dev Cert.ForgetGradIdeal.nD,
          r.2.mem ((c.tc : Thread Cert.ForgetGradIdeal.nD Cert.ForgetGradIdeal.τ).loc Cert.ForgetGradIdeal.main_v8_0) = v0 c
          ∧ r.2.mem ((c.tc : Thread Cert.ForgetGradIdeal.nD Cert.ForgetGradIdeal.τ).loc Cert.ForgetGradIdeal.main_v8_1) = v1 c
          ∧ r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
          ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
          ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2))
      ∧ θ_run (Cert.ForgetGradReferenceIdeal.defs (F := Ideal)) (onTc (τ := Cert.ForgetGradReferenceIdeal.τ) (Cert.ForgetGradReferenceIdeal.main (F := Ideal))) ⟨m', fun _ => 0, g'⟩ (fun r => ∀ c : Dev Cert.ForgetGradReferenceIdeal.nD,
          r.2.mem ((c.tc : Thread Cert.ForgetGradReferenceIdeal.nD Cert.ForgetGradReferenceIdeal.τ).loc Cert.ForgetGradReferenceIdeal.main_v12) = v0 c
          ∧ r.2.mem ((c.tc : Thread Cert.ForgetGradReferenceIdeal.nD Cert.ForgetGradReferenceIdeal.τ).loc Cert.ForgetGradReferenceIdeal.main_v14) = v1 c
          ∧ r.2.mem ((c.tc : Thread Cert.ForgetGradReferenceIdeal.nD Cert.ForgetGradReferenceIdeal.τ).loc Cert.ForgetGradReferenceIdeal.main_arg0) = m' ((c.tc : Thread Cert.ForgetGradReferenceIdeal.nD Cert.ForgetGradReferenceIdeal.τ).loc Cert.ForgetGradReferenceIdeal.main_arg0)
          ∧ r.2.mem ((c.tc : Thread Cert.ForgetGradReferenceIdeal.nD Cert.ForgetGradReferenceIdeal.τ).loc Cert.ForgetGradReferenceIdeal.main_arg1) = m' ((c.tc : Thread Cert.ForgetGradReferenceIdeal.nD Cert.ForgetGradReferenceIdeal.τ).loc Cert.ForgetGradReferenceIdeal.main_arg1)
          ∧ r.2.mem ((c.tc : Thread Cert.ForgetGradReferenceIdeal.nD Cert.ForgetGradReferenceIdeal.τ).loc Cert.ForgetGradReferenceIdeal.main_arg2) = m' ((c.tc : Thread Cert.ForgetGradReferenceIdeal.nD Cert.ForgetGradReferenceIdeal.τ).loc Cert.ForgetGradReferenceIdeal.main_arg2))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)
      ∧ m' ((c.tc : Thread Cert.OutGradReferenceIdeal.nD Cert.OutGradReferenceIdeal.τ).loc Cert.OutGradReferenceIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v7) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1)
          ∧ r.2.mem ((c.tc : Thread Cert.OutGradReferenceIdeal.nD Cert.OutGradReferenceIdeal.τ).loc Cert.OutGradReferenceIdeal.main_arg2) = m' ((c.tc : Thread Cert.OutGradReferenceIdeal.nD Cert.OutGradReferenceIdeal.τ).loc Cert.OutGradReferenceIdeal.main_arg2))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradReferenceIdeal : Cert.GateGradReferenceIdeal.Facts) (hDownGrad : Cert.DownGrad.Facts) (hDownGradIdeal : Cert.DownGradIdeal.Facts) (hDownGradReferenceIdeal : Cert.DownGradReferenceIdeal.Facts) (hFfGrad : Cert.FfGrad.Facts) (hFfGradIdeal : Cert.FfGradIdeal.Facts) (hFfGradReferenceIdeal : Cert.FfGradReferenceIdeal.Facts) (hMlpGrad : Cert.MlpGrad.Facts) (hMlpGradIdeal : Cert.MlpGradIdeal.Facts) (hMlpGradReferenceIdeal : Cert.MlpGradReferenceIdeal.Facts) (hInNormGrad : Cert.InNormGrad.Facts) (hInNormGradIdeal : Cert.InNormGradIdeal.Facts) (hInNormGradReferenceIdeal : Cert.InNormGradReferenceIdeal.Facts) (hDownFinal : Cert.DownFinal.Facts) (hDownFinalIdeal : Cert.DownFinalIdeal.Facts) (hDownFinalReferenceIdeal : Cert.DownFinalReferenceIdeal.Facts) (hGateUp : Cert.GateUp.Facts) (hGateUpIdeal : Cert.GateUpIdeal.Facts) (hGateUpReferenceIdeal : Cert.GateUpReferenceIdeal.Facts) (hInProj : Cert.InProj.Facts) (hInProjIdeal : Cert.InProjIdeal.Facts) (hInProjReferenceIdeal : Cert.InProjReferenceIdeal.Facts) (hOutNorm : Cert.OutNorm.Facts) (hOutNormIdeal : Cert.OutNormIdeal.Facts) (hOutNormReferenceIdeal : Cert.OutNormReferenceIdeal.Facts) (hInGrad : Cert.InGrad.Facts) (hInGradIdeal : Cert.InGradIdeal.Facts) (hInGradReferenceIdeal : Cert.InGradReferenceIdeal.Facts) (hNorm1 : Cert.Norm1.Facts) (hNorm1Ideal : Cert.Norm1Ideal.Facts) (hNorm1ReferenceIdeal : Cert.Norm1ReferenceIdeal.Facts) (hPoolGrad : Cert.PoolGrad.Facts) (hPoolGradIdeal : Cert.PoolGradIdeal.Facts) (hPoolGradReferenceIdeal : Cert.PoolGradReferenceIdeal.Facts) (hPool : Cert.Pool.Facts) (hPoolIdeal : Cert.PoolIdeal.Facts) (hPoolReferenceIdeal : Cert.PoolReferenceIdeal.Facts) (hForget : Cert.Forget.Facts) (hForgetIdeal : Cert.ForgetIdeal.Facts) (hForgetReferenceIdeal : Cert.ForgetReferenceIdeal.Facts) (hForgetGrad : Cert.ForgetGrad.Facts) (hForgetGradIdeal : Cert.ForgetGradIdeal.Facts) (hForgetGradReferenceIdeal : Cert.ForgetGradReferenceIdeal.Facts) (hOutGrad : Cert.OutGrad.Facts) (hOutGradIdeal : Cert.OutGradIdeal.Facts) (hOutGradReferenceIdeal : Cert.OutGradReferenceIdeal.Facts) (hPre_gate_operands_finite : Cert.Pre_gate_operands_finite.Facts) (hPre_mlp_operands_finite : Cert.Pre_mlp_operands_finite.Facts) (hPre_norm_operands_finite : Cert.Pre_norm_operands_finite.Facts) (hPre_final_operands_finite : Cert.Pre_final_operands_finite.Facts) (hPre_forget_gradient_below_infinity : Cert.Pre_forget_gradient_below_infinity.Facts),
    quiescent_Kernel (hKernel := hKernel)
    ∧ quiescent_KernelIdeal (hKernelIdeal := hKernelIdeal)
    ∧ quiescent_ReferenceIdeal (hReferenceIdeal := hReferenceIdeal)
    ∧ quiescent_GateGrad (hGateGrad := hGateGrad)
    ∧ quiescent_GateGradIdeal (hGateGradIdeal := hGateGradIdeal)
    ∧ quiescent_GateGradIdeal_pre_gate_operands_finite (hGateGradIdeal := hGateGradIdeal) (hPre_gate_operands_finite := hPre_gate_operands_finite)
    ∧ quiescent_GateGradReferenceIdeal (hGateGradReferenceIdeal := hGateGradReferenceIdeal)
    ∧ quiescent_GateGradReferenceIdeal_pre_gate_operands_finite (hGateGradReferenceIdeal := hGateGradReferenceIdeal) (hPre_gate_operands_finite := hPre_gate_operands_finite)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_FfGrad (hFfGrad := hFfGrad)
    ∧ quiescent_FfGradIdeal (hFfGradIdeal := hFfGradIdeal)
    ∧ quiescent_FfGradReferenceIdeal (hFfGradReferenceIdeal := hFfGradReferenceIdeal)
    ∧ quiescent_MlpGrad (hMlpGrad := hMlpGrad)
    ∧ quiescent_MlpGradIdeal (hMlpGradIdeal := hMlpGradIdeal)
    ∧ quiescent_MlpGradIdeal_pre_mlp_operands_finite (hMlpGradIdeal := hMlpGradIdeal) (hPre_mlp_operands_finite := hPre_mlp_operands_finite)
    ∧ quiescent_MlpGradReferenceIdeal (hMlpGradReferenceIdeal := hMlpGradReferenceIdeal)
    ∧ quiescent_MlpGradReferenceIdeal_pre_mlp_operands_finite (hMlpGradReferenceIdeal := hMlpGradReferenceIdeal) (hPre_mlp_operands_finite := hPre_mlp_operands_finite)
    ∧ quiescent_InNormGrad (hInNormGrad := hInNormGrad)
    ∧ quiescent_InNormGradIdeal (hInNormGradIdeal := hInNormGradIdeal)
    ∧ quiescent_InNormGradIdeal_pre_norm_operands_finite (hInNormGradIdeal := hInNormGradIdeal) (hPre_norm_operands_finite := hPre_norm_operands_finite)
    ∧ quiescent_InNormGradReferenceIdeal (hInNormGradReferenceIdeal := hInNormGradReferenceIdeal)
    ∧ quiescent_InNormGradReferenceIdeal_pre_norm_operands_finite (hInNormGradReferenceIdeal := hInNormGradReferenceIdeal) (hPre_norm_operands_finite := hPre_norm_operands_finite)
    ∧ quiescent_DownFinal (hDownFinal := hDownFinal)
    ∧ quiescent_DownFinalIdeal (hDownFinalIdeal := hDownFinalIdeal)
    ∧ quiescent_DownFinalIdeal_pre_final_operands_finite (hDownFinalIdeal := hDownFinalIdeal) (hPre_final_operands_finite := hPre_final_operands_finite)
    ∧ quiescent_DownFinalReferenceIdeal (hDownFinalReferenceIdeal := hDownFinalReferenceIdeal)
    ∧ quiescent_DownFinalReferenceIdeal_pre_final_operands_finite (hDownFinalReferenceIdeal := hDownFinalReferenceIdeal) (hPre_final_operands_finite := hPre_final_operands_finite)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutNorm (hOutNorm := hOutNorm)
    ∧ quiescent_OutNormIdeal (hOutNormIdeal := hOutNormIdeal)
    ∧ quiescent_OutNormReferenceIdeal (hOutNormReferenceIdeal := hOutNormReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_Norm1 (hNorm1 := hNorm1)
    ∧ quiescent_Norm1Ideal (hNorm1Ideal := hNorm1Ideal)
    ∧ quiescent_Norm1ReferenceIdeal (hNorm1ReferenceIdeal := hNorm1ReferenceIdeal)
    ∧ quiescent_PoolGrad (hPoolGrad := hPoolGrad)
    ∧ quiescent_PoolGradIdeal (hPoolGradIdeal := hPoolGradIdeal)
    ∧ quiescent_PoolGradReferenceIdeal (hPoolGradReferenceIdeal := hPoolGradReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Forget (hForget := hForget)
    ∧ quiescent_ForgetIdeal (hForgetIdeal := hForgetIdeal)
    ∧ quiescent_ForgetReferenceIdeal (hForgetReferenceIdeal := hForgetReferenceIdeal)
    ∧ quiescent_ForgetGrad (hForgetGrad := hForgetGrad)
    ∧ quiescent_ForgetGradIdeal (hForgetGradIdeal := hForgetGradIdeal)
    ∧ quiescent_ForgetGradIdeal_pre_forget_gradient_below_infinity (hForgetGradIdeal := hForgetGradIdeal) (hPre_forget_gradient_below_infinity := hPre_forget_gradient_below_infinity)
    ∧ quiescent_ForgetGradReferenceIdeal (hForgetGradReferenceIdeal := hForgetGradReferenceIdeal)
    ∧ quiescent_ForgetGradReferenceIdeal_pre_forget_gradient_below_infinity (hForgetGradReferenceIdeal := hForgetGradReferenceIdeal) (hPre_forget_gradient_below_infinity := hPre_forget_gradient_below_infinity)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ preserves_Kernel_KernelIdeal
    ∧ preserves_GateGrad_GateGradIdeal
    ∧ algebraic_GateGradIdeal_GateGradReferenceIdeal_pre_gate_operands_finite (hGateGradIdeal := hGateGradIdeal) (hGateGradReferenceIdeal := hGateGradReferenceIdeal) (hPre_gate_operands_finite := hPre_gate_operands_finite)
    ∧ preserves_DownGrad_DownGradIdeal
    ∧ algebraic_DownGradIdeal_DownGradReferenceIdeal (hDownGradIdeal := hDownGradIdeal) (hDownGradReferenceIdeal := hDownGradReferenceIdeal)
    ∧ preserves_FfGrad_FfGradIdeal
    ∧ algebraic_FfGradIdeal_FfGradReferenceIdeal (hFfGradIdeal := hFfGradIdeal) (hFfGradReferenceIdeal := hFfGradReferenceIdeal)
    ∧ preserves_MlpGrad_MlpGradIdeal
    ∧ algebraic_MlpGradIdeal_MlpGradReferenceIdeal_pre_mlp_operands_finite (hMlpGradIdeal := hMlpGradIdeal) (hMlpGradReferenceIdeal := hMlpGradReferenceIdeal) (hPre_mlp_operands_finite := hPre_mlp_operands_finite)
    ∧ preserves_InNormGrad_InNormGradIdeal
    ∧ algebraic_InNormGradIdeal_InNormGradReferenceIdeal_pre_norm_operands_finite (hInNormGradIdeal := hInNormGradIdeal) (hInNormGradReferenceIdeal := hInNormGradReferenceIdeal) (hPre_norm_operands_finite := hPre_norm_operands_finite)
    ∧ preserves_DownFinal_DownFinalIdeal
    ∧ algebraic_DownFinalIdeal_DownFinalReferenceIdeal_pre_final_operands_finite (hDownFinalIdeal := hDownFinalIdeal) (hDownFinalReferenceIdeal := hDownFinalReferenceIdeal) (hPre_final_operands_finite := hPre_final_operands_finite)
    ∧ preserves_GateUp_GateUpIdeal
    ∧ algebraic_GateUpIdeal_GateUpReferenceIdeal (hGateUpIdeal := hGateUpIdeal) (hGateUpReferenceIdeal := hGateUpReferenceIdeal)
    ∧ preserves_InProj_InProjIdeal
    ∧ algebraic_InProjIdeal_InProjReferenceIdeal (hInProjIdeal := hInProjIdeal) (hInProjReferenceIdeal := hInProjReferenceIdeal)
    ∧ preserves_OutNorm_OutNormIdeal
    ∧ algebraic_OutNormIdeal_OutNormReferenceIdeal (hOutNormIdeal := hOutNormIdeal) (hOutNormReferenceIdeal := hOutNormReferenceIdeal)
    ∧ preserves_InGrad_InGradIdeal
    ∧ algebraic_InGradIdeal_InGradReferenceIdeal (hInGradIdeal := hInGradIdeal) (hInGradReferenceIdeal := hInGradReferenceIdeal)
    ∧ preserves_Norm1_Norm1Ideal
    ∧ algebraic_Norm1Ideal_Norm1ReferenceIdeal (hNorm1Ideal := hNorm1Ideal) (hNorm1ReferenceIdeal := hNorm1ReferenceIdeal)
    ∧ preserves_PoolGrad_PoolGradIdeal
    ∧ algebraic_PoolGradIdeal_PoolGradReferenceIdeal (hPoolGradIdeal := hPoolGradIdeal) (hPoolGradReferenceIdeal := hPoolGradReferenceIdeal)
    ∧ preserves_Pool_PoolIdeal
    ∧ algebraic_PoolIdeal_PoolReferenceIdeal (hPoolIdeal := hPoolIdeal) (hPoolReferenceIdeal := hPoolReferenceIdeal)
    ∧ preserves_Forget_ForgetIdeal
    ∧ algebraic_ForgetIdeal_ForgetReferenceIdeal (hForgetIdeal := hForgetIdeal) (hForgetReferenceIdeal := hForgetReferenceIdeal)
    ∧ preserves_ForgetGrad_ForgetGradIdeal
    ∧ algebraic_ForgetGradIdeal_ForgetGradReferenceIdeal_pre_forget_gradient_below_infinity (hForgetGradIdeal := hForgetGradIdeal) (hForgetGradReferenceIdeal := hForgetGradReferenceIdeal) (hPre_forget_gradient_below_infinity := hPre_forget_gradient_below_infinity)
    ∧ preserves_OutGrad_OutGradIdeal
    ∧ algebraic_OutGradIdeal_OutGradReferenceIdeal (hOutGradIdeal := hOutGradIdeal) (hOutGradReferenceIdeal := hOutGradReferenceIdeal)
-- ==== Pre_final_operands_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x2816 .bf16) (main_arg1 : FVec F S2816x1024 .bf16) (main_arg2 : FVec F S4096x1024 .f32) (main_arg3 : FVec F S1x1024 .f32) (main_arg4 : FVec F S4096x1024 .f32) : IVec S1x1024 1 × IVec S4096x1024 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S4096x1024 .f32 := Host.absf main_arg4
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_forget_gradient_below_infinity.lean ====
abbrev S8x4096 : Shape := ⟨2, ![8, 4096]⟩
abbrev S4096x128 : Shape := ⟨2, ![4096, 128]⟩
abbrev S1x8 : Shape := ⟨2, ![1, 8]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : FVec F S8x4096 .f32) (main_arg1 : FVec F S4096x128 .f32) (main_arg2 : FVec F S1x8 .f32) : IVec S8x4096 1 :=
  let main_cst : FVec F S_ .f32 := constant S_ .f32 0x7F800000#32
  let main_v0 : FVec F S8x4096 .f32 := broadcastInDim S8x4096 ![] bcast_S_S8x4096 main_cst
  let main_v1 : IVec S8x4096 1 := cmpf .olt main_arg0 main_v0
  main_v1
-- ==== Pre_gate_operands_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S4096x2816 .bf16 := Host.absf main_arg3
  let main_cst_1 : FVec F S_ .bf16 := constant S_ .bf16 0x7F80#16
  let main_v7 : FVec F S4096x2816 .bf16 := broadcastInDim S4096x2816 ![] bcast_S_S4096x2816 main_cst_1
  let main_v8 : IVec S4096x2816 1 := cmpf .olt main_v6 main_v7
  (main_v2, main_v5, main_v8)
-- ==== Pre_mlp_operands_finite.lean ====
abbrev S4096x2816 : Shape := ⟨2, ![4096, 2816]⟩
abbrev S2816x1024 : Shape := ⟨2, ![2816, 1024]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S4096x2816 .bf16) (main_arg2 : FVec F S2816x1024 .bf16) (main_arg3 : FVec F S2816x1024 .bf16) (main_arg4 : FVec F S1024x1024 .bf16) (main_arg5 : FVec F S4096x1024 .f32) (main_arg6 : FVec F S1x1024 .f32) (main_arg7 : FVec F S4096x1024 .f32) : IVec S4096x2816 1 × IVec S4096x2816 1 × IVec S2816x1024 1 × IVec S2816x1024 1 × IVec S1x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S4096x2816 .bf16 := Host.absf main_arg1
  let main_cst_0 : FVec F S_ .bf16 := constant S_ .bf16 0x7F80#16
  let main_v4 : FVec F S4096x2816 .bf16 := broadcastInDim S4096x2816 ![] bcast_S_S4096x2816 main_cst_0
  let main_v5 : IVec S4096x2816 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S1x1024 .f32 := Host.absf main_arg6
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_norm_operands_finite.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S2176x1024 : S_.BroadcastsInDim S2176x1024 (![] : Fin 0 → Fin S2176x1024.rank)
  bcast_S_S1x1024 : S_.BroadcastsInDim S1x1024 (![] : Fin 0 → Fin S1x1024.rank)

variable [Facts]

def fn_part1 {F : FTy → Type} [FloatOps F] (main_arg7 : FVec F S1x1024 .f32) (main_v2 : IVec S4096x512 1) (main_v5 : IVec S4096x512 1) (main_v8 : IVec S4096x512 1) (main_v11 : IVec S4096x512 1) (main_v14 : IVec S4096x128 1) (main_v17 : IVec S2176x1024 1) : IVec S4096x512 1 × IVec S4096x512 1 × IVec S4096x512 1 × IVec S4096x512 1 × IVec S4096x128 1 × IVec S2176x1024 1 × IVec S1x1024 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S4096x128 .bf16) (main_arg5 : FVec F S2176x1024 .bf16) (main_arg6 : FVec F S4096x1024 .f32) (main_arg7 : FVec F S1x1024 .f32) (main_arg8 : FVec F S4096x1024 .f32) : IVec S4096x512 1 × IVec S4096x512 1 × IVec S4096x512 1 × IVec S4096x512 1 × IVec S4096x128 1 × IVec S2176x1024 1 × IVec S1x1024 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_v3 : FVec F S4096x512 .bf16 := Host.absf main_arg1
  let main_cst_0 : FVec F S_ .bf16 := constant S_ .bf16 0x7F80#16
  let main_v4 : FVec F S4096x512 .bf16 := broadcastInDim S4096x512 ![] bcast_S_S4096x512 main_cst_0
  let main_v5 : IVec S4096x512 1 := cmpf .olt main_v3 main_v4
  let main_v6 : FVec F S4096x512 .bf16 := Host.absf main_arg2
  let main_cst_1 : FVec F S_ .bf16 := constant S_ .bf16 0x7F80#16
  let main_v7 : FVec F S4096x512 .bf16 := broadcastInDim S4096x512 ![] bcast_S_S4096x512 main_cst_1
  let main_v8 : IVec S4096x512 1 := cmpf .olt main_v6 main_v7
  let main_v9 : FVec F S4096x512 .bf16 := Host.absf main_arg3
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_v12 : FVec F S4096x128 .bf16 := Host.absf main_arg4
  let main_cst_3 : FVec F S_ .bf16 := constant S_ .bf16 0x7F80#16
  let main_v13 : FVec F S4096x128 .bf16 := broadcastInDim S4096x128 ![] bcast_S_S4096x128 main_cst_3
  let main_v14 : IVec S4096x128 1 := cmpf .olt main_v12 main_v13
  let main_v15 : FVec F S2176x1024 .bf16 := Host.absf main_arg5
  let main_cst_4 : FVec F S_ .bf16 := constant S_ .bf16 0x7F80#16
  let main_v16 : FVec F S2176x1024 .bf16 := broadcastInDim S2176x1024 ![] bcast_S_S2176x1024 main_cst_4
  let main_v17 : IVec S2176x1024 1 := cmpf .olt main_v15 main_v16
  fn_part1 (F := F) main_arg7 main_v2 main_v5 main_v8 main_v11 main_v14 main_v17
-- ==== Kernel.lean ====
abbrev S4096x1536 : Shape := ⟨2, ![4096, 1536]⟩
abbrev S8x4096 : Shape := ⟨2, ![8, 4096]⟩
abbrev S4096x1024 : Shape := ⟨2, ![4096, 1024]⟩
abbrev S4096x512 : Shape := ⟨2, ![4096, 512]⟩
abbrev S4096x8x64 : Shape := ⟨3, ![4096, 8, 64]⟩
abbrev S8x4096x64 : Shape := ⟨3, ![8, 4096, 64]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x16x256 : Shape := ⟨4, ![4, 2, 16, 256]⟩
abbrev S4x16x2x256 : Shape := ⟨4, ![4, 16, 2, 256]⟩
abbrev S4x2x4096 : Shape := ⟨3, ![4, 2, 4096]⟩
abbrev S4x4096x2 : Shape := ⟨3, ![4, 4096, 2]⟩
abbrev S4x16x8x256 : Shape := ⟨4, ![4, 16, 8, 256]⟩
abbrev S4096x128 : Shape := ⟨2, ![4096, 128]⟩
abbrev S1x16x2x256 : Shape := ⟨4, ![1, 16, 2, 256]⟩
abbrev S1x4096x2 : Shape := ⟨3, ![1, 4096, 2]⟩
abbrev S1x16x8x256 : Shape := ⟨4, ![1, 16, 8, 256]⟩
abbrev S16x144x256 : Shape := ⟨3, ![16, 144, 256]⟩
abbrev S16x8x256 : Shape := ⟨3, ![16, 8, 256]⟩
abbrev S32x256x128 : Shape := ⟨3, ![32, 256, 128]⟩
abbrev S16x144x512 : Shape := ⟨3, ![16, 144, 512]⟩
abbrev S16x128x512 : Shape := ⟨3, ![16, 128, 512]⟩
abbrev S8x256x256 : Shape := ⟨3, ![8, 256, 256]⟩
abbrev S256x128 : Shape := ⟨2, ![256, 128]⟩
abbrev S8x128 : Shape := ⟨2, ![8, 128]⟩
abbrev S8x256 : Shape := ⟨2, ![8, 256]⟩
abbrev S1x8x256 : Shape := ⟨3, ![1, 8, 256]⟩
abbrev S144x256 : Shape := ⟨2, ![144, 256]⟩
abbrev S1x144x256 : Shape := ⟨3, ![1, 144, 256]⟩
abbrev S1x256x2 : Shape := ⟨3, ![1, 256, 2]⟩
abbrev S256x2 : Shape := ⟨2, ![256, 2]⟩
abbrev S256x1 : Shape := ⟨2, ![256, 1]⟩
abbrev S1x256x128 : Shape := ⟨3, ![1, 256, 128]⟩
abbrev S128x256 : Shape := ⟨2, ![128, 256]⟩
abbrev S128x512 : Shape := ⟨2, ![128, 512]⟩
abbrev S16x512 : Shape := ⟨2, ![16, 512]⟩
abbrev S144x512 : Shape := ⟨2, ![144, 512]⟩
abbrev S1x144x512 : Shape := ⟨3, ![1, 144, 512]⟩
abbrev S1x128x512 : Shape := ⟨3, ![1, 128, 512]⟩
abbrev S256x256 : Shape := ⟨2, ![256, 256]⟩
abbrev S1x256x256 : Shape := ⟨3, ![1, 256, 256]⟩
abbrev S1x1x2x256 : Shape := ⟨4, ![1, 1, 2, 256]⟩
abbrev S2x256 : Shape := ⟨2, ![2, 256]⟩
abbrev S1x256 : Shape := ⟨2, ![1, 256]⟩
abbrev S256x512 : Shape := ⟨2, ![256, 512]⟩
abbrev S512x256 : Shape := ⟨2, ![512, 256]⟩
abbrev S1x1x8x256 : Shape := ⟨4, ![1, 1, 8, 256]⟩

abbrev nBuf : Space → Nat
  | .hbm => 66
  | .vmem => 33
  | .smem => 0
  | _ => 0

abbrev bufTy : (tb : Table) → Fin (tcTables nBuf tb) → BufTy
  | .hbm, ⟨0, _⟩ => ⟨S4096x1536, .bf16⟩
  | .hbm, ⟨1, _⟩ => ⟨S8x4096, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S_, .f32⟩
  | .hbm, ⟨9, _⟩ => ⟨S8x4096x64, .f32⟩
  | .hbm, ⟨10, _⟩ => ⟨S8x4096x64, .f32⟩
  | .hbm, ⟨11, _⟩ => ⟨S4096x512, .f32⟩
  | .hbm, ⟨12, _⟩ => ⟨S4096x8x64, .f32⟩
  | .hbm, ⟨13, _⟩ => ⟨S8x4096x64, .f32⟩
  | .hbm, ⟨14, _⟩ => ⟨S8x4096x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S4096x512, .bf16⟩
  | .hbm, ⟨45, _⟩ => ⟨S4096x512, .f32⟩
  | .hbm, ⟨46, _⟩ => ⟨S4096x8x64, .f32⟩
  | .hbm, ⟨47, _⟩ => ⟨S8x4096x64, .f32⟩
  | .hbm, ⟨48, _⟩ => ⟨S8x4096x64, .f32⟩
  | .hbm, ⟨49, _⟩ => ⟨S4096x8x64, .f32⟩
  | .hbm, ⟨50, _⟩ => ⟨S4096x512, .f32⟩
  | .hbm, ⟨51, _⟩ => ⟨S4096x512, .bf16⟩
  | .hbm, ⟨52, _⟩ => ⟨S8x4096, .f32⟩
  | .hbm, ⟨53, _⟩ => ⟨S8x4096, .f32⟩
  | .hbm, ⟨54, _⟩ => ⟨S4x2x16x256, .f32⟩
  | .hbm, ⟨55, _⟩ => ⟨S4x16x2x256, .f32⟩
  | .hbm, ⟨56, _⟩ => ⟨S4x2x16x256, .f32⟩
  | .hbm, ⟨57, _⟩ => ⟨S4x16x2x256, .f32⟩
  | .hbm, ⟨58, _⟩ => ⟨S4x16x2x256, .f32⟩
  | .hbm, ⟨59, _⟩ => ⟨S4x2x4096, .f32⟩
  | .hbm, ⟨60, _⟩ => ⟨S4x4096x2, .f32⟩
  | .hbm, ⟨61, _⟩ => ⟨S4096x512, .bf16⟩
  | .hbm, ⟨62, _⟩ => ⟨S4096x512, .bf16⟩
  | .hbm, ⟨63, _⟩ => ⟨S4096x512, .bf16⟩
  | .hbm, ⟨64, _⟩ => ⟨S4x16x8x256, .f32⟩
  | .hbm, ⟨65, _⟩ => ⟨S4x16x8x256, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S1x16x2x256, .f32⟩
  | .local _ .vmem, ⟨11, _⟩ => ⟨S1x16x2x256, .f32⟩
  | .local _ .vmem, ⟨12, _⟩ => ⟨S1x4096x2, .f32⟩
  | .local _ .vmem, ⟨13, _⟩ => ⟨S1x4096x2, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S1x16x8x256, .f32⟩
  | .local _ .vmem, ⟨21, _⟩ => ⟨S1x16x8x256, .f32⟩
  | .local _ .vmem, ⟨22, _⟩ => ⟨S1x16x8x256, .f32⟩
  | .local _ .vmem, ⟨23, _⟩ => ⟨S1x16x8x256, .f32⟩
  | .local _ .vmem, ⟨24, _⟩ => ⟨S16x144x256, .f32⟩
  | .local _ .vmem, ⟨25, _⟩ => ⟨S16x8x256, .f32⟩
  | .local _ .vmem, ⟨26, _⟩ => ⟨S32x256x128, .bf16⟩
  | .local _ .vmem, ⟨27, _⟩ => ⟨S32x256x128, .bf16⟩
  | .local _ .vmem, ⟨28, _⟩ => ⟨S4096x128, .bf16⟩
  | .local _ .vmem, ⟨29, _⟩ => ⟨S16x144x512, .bf16⟩
  | .local _ .vmem, ⟨30, _⟩ => ⟨S16x144x512, .bf16⟩
  | .local _ .vmem, ⟨31, _⟩ => ⟨S16x128x512, .bf16⟩
  | .local _ .vmem, ⟨32, _⟩ => ⟨S8x256x256, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51_0 : Ref sig .tc := ⟨.hbm, 61, rfl⟩
abbrev main_v51_1 : Ref sig .tc := ⟨.hbm, 62, rfl⟩
abbrev main_v51_2 : Ref sig .tc := ⟨.hbm, 63, rfl⟩
abbrev main_v51_3 : Ref sig .tc := ⟨.hbm, 64, rfl⟩
abbrev main_v51_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32 : BitVec 32 := 256#32
  let v19 : BitVec 32 := Scalar.muli arg22 c256_i32
  v19
def k0_off1 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v19 : BitVec 32 := Scalar.muli arg22 c256_i32
  let v20 : BitVec 32 := v19
  let v21 : Index := Scalar.indexCast v20
  let c0 : Index := 0#32
  ![v21.toNat, 0]
def k0_off2 (k0_t1 : Fin k0_t1_loop.trips) : Fin 3 → Nat :=
  let c0_i32 : BitVec 32 := 0#32
  let c1_i32 : BitVec 32 := 1#32
  let arg22 : BitVec 32 := Scf.iv c0_i32 c1_i32 k0_t1
  let v43 : Index := Scalar.indexCast arg22
  let c0_18 : Index := 0#32
  let c0_19 : Index := 0#32
  ![v43.toNat, 0, 0]
def k0_off3 (k0_t1 : Fin k0_t1_loop.trips) : Fin 3 → Nat :=
  let c0_i32 : BitVec 32 := 0#32
  let c1_i32 : BitVec 32 := 1#32
  let arg22 : BitVec 32 := Scf.iv c0_i32 c1_i32 k0_t1
  let v53 : Index := Scalar.indexCast arg22
  let c0_22 : Index := 0#32
  let c0_23 : Index := 0#32
  ![v53.toNat, 0, 0]
def k0_off4 (k0_t1 : Fin k0_t1_loop.trips) : Fin 3 → Nat :=
  let c0_26 : Index := 0#32
  let c0_i32 : BitVec 32 := 0#32
  let c1_i32 : BitVec 32 := 1#32
  let arg22 : BitVec 32 := Scf.iv c0_i32 c1_i32 k0_t1
  let c256_i32 : BitVec 32 := 256#32
  let v19 : BitVec 32 := Scalar.muli arg22 c256_i32
  let v20 : BitVec 32 := v19
  let v63 : Index := Scalar.indexCast v20
  let c0_27 : Index := 0#32
  ![0, v63.toNat, 0]
def k0_off5 (k0_t1 : Fin k0_t1_loop.trips) (c0_i32_33 : BitVec 32) : Fin 3 → Nat :=
  let c0_i32 : BitVec 32 := 0#32
  let c1_i32 : BitVec 32 := 1#32
  let arg22 : BitVec 32 := Scf.iv c0_i32 c1_i32 k0_t1
  let v107 : BitVec 32 := Scalar.addi c0_i32_33 arg22
  let v108 : Index := Scalar.indexCast v107
  let c0_34 : Index := 0#32
  let c0_35 : Index := 0#32
  ![v108.toNat, 0, 0]
def k0_off6 (k0_t1 : Fin k0_t1_loop.trips) : Fin 3 → Nat :=
  let c0_i32 : BitVec 32 := 0#32
  let c1_i32 : BitVec 32 := 1#32
  let arg22 : BitVec 32 := Scf.iv c0_i32 c1_i32 k0_t1
  let v280 : Index := Scalar.indexCast arg22
  let c0_78 : Index := 0#32
  let c0_79 : Index := 0#32
  ![v280.toNat, 0, 0]
def k0_off7 (k0_t1 : Fin k0_t1_loop.trips) : Fin 3 → Nat :=
  let c0_i32 : BitVec 32 := 0#32
  let c1_i32 : BitVec 32 := 1#32
  let arg22 : BitVec 32 := Scf.iv c0_i32 c1_i32 k0_t1
  let v349 : Index := Scalar.indexCast arg22
  let c0_102 : Index := 0#32
  let c0_103 : Index := 0#32
  ![v349.toNat, 0, 0]
@[reducible] def k0_t2_loop : Scf.Loop 32 :=
  let c0_i32_5 : BitVec 32 := 0#32
  let c16_i32_6 : BitVec 32 := 16#32
  let v17 : BitVec 32 := Scalar.addi c0_i32_5 c16_i32_6
  let c1_i32_7 : BitVec 32 := 1#32
  ⟨c0_i32_5, v17, c1_i32_7⟩
def k0_mult2 (k0_t2 : Fin k0_t2_loop.trips) : BitVec 32 :=
  let c0_i32_5 : BitVec 32 := 0#32
  let c1_i32_7 : BitVec 32 := 1#32
  let arg22 : BitVec 32 := Scf.iv c0_i32_5 c1_i32_7 k0_t2
  let c256_i32 : BitVec 32 := 256#32
  let v19 : BitVec 32 := Scalar.muli arg22 c256_i32
  v19
def k0_off8 (k0_t2 : Fin k0_t2_loop.trips) : Fin 2 → Nat :=
  let c0_i32_5 : BitVec 32 := 0#32
  let c1_i32_7 : BitVec 32 := 1#32
  let arg22 : BitVec 32 := Scf.iv c0_i32_5 c1_i32_7 k0_t2
  let c256_i32 : BitVec 32 := 256#32
  let v19 : BitVec 32 := Scalar.muli arg22 c256_i32
  let v20 : BitVec 32 := v19
  let v21 : Index := Scalar.indexCast v20
  let c0 : Index := 0#32
  ![v21.toNat, 0]
def k0_off9 (k0_t2 : Fin k0_t2_loop.trips) : Fin 3 → Nat :=
  let c0_i32_5 : BitVec 32 := 0#32
  let c1_i32_7 : BitVec 32 := 1#32
  let arg22 : BitVec 32 := Scf.iv c0_i32_5 c1_i32_7 k0_t2
  let v26 : Index := Scalar.indexCast arg22
  let c0_14 : Index := 0#32
  let c0_15 : Index := 0#32
  ![v26.toNat, 0, 0]
def k0_mult3 (k0_t2 : Fin k0_t2_loop.trips) : BitVec 32 :=
  let c0_i32_5 : BitVec 32 := 0#32
  let c1_i32_7 : BitVec 32 := 1#32
  let arg22 : BitVec 32 := Scf.iv c0_i32_5 c1_i32_7 k0_t2
  let c15_i32 : BitVec 32 := 15#32
  let v29 : BitVec 32 := Scalar.minsi arg22 c15_i32
  let c256_i32_16 : BitVec 32 := 256#32
  let v30 : BitVec 32 := Scalar.muli v29 c256_i32_16
  v30
def k0_off10 (k0_t2 : Fin k0_t2_loop.trips) : Fin 2 → Nat :=
  let c0_i32_5 : BitVec 32 := 0#32
  let c1_i32_7 : BitVec 32 := 1#32
  let arg22 : BitVec 32 := Scf.iv c0_i32_5 c1_i32_7 k0_t2
  let c15_i32 : BitVec 32 := 15#32
  let v29 : BitVec 32 := Scalar.minsi arg22 c15_i32
  let c256_i32_16 : BitVec 32 := 256#32
  let v30 : BitVec 32 := Scalar.muli v29 c256_i32_16
  let v31 : BitVec 32 := v30
  let v32 : Index := Scalar.indexCast v31
  let c0_17 : Index := 0#32
  ![v32.toNat, 0]
def k0_off11 (k0_t2 : Fin k0_t2_loop.trips) (c0_i32_18 : BitVec 32) : Fin 3 → Nat :=
  let c0_i32_5 : BitVec 32 := 0#32
  let c1_i32_7 : BitVec 32 := 1#32
  let arg22 : BitVec 32 := Scf.iv c0_i32_5 c1_i32_7 k0_t2
  let v34 : BitVec 32 := Scalar.addi c0_i32_18 arg22
  let v35 : Index := Scalar.indexCast v34
  let c0_19 : Index := 0#32
  let c0_20 : Index := 0#32
  ![v35.toNat, 0, 0]
def k0_off12 (k0_t2 : Fin k0_t2_loop.trips) (c0_i32_21 : BitVec 32) : Fin 3 → Nat :=
  let c0_i32_5 : BitVec 32 := 0#32
  let c1_i32_7 : BitVec 32 := 1#32
  let arg22 : BitVec 32 := Scf.iv c0_i32_5 c1_i32_7 k0_t2
  let c15_i32 : BitVec 32 := 15#32
  let v29 : BitVec 32 := Scalar.minsi arg22 c15_i32
  let v38 : BitVec 32 := Scalar.addi c0_i32_21 v29
  let v39 : Index := Scalar.indexCast v38
  let c0_22 : Index := 0#32
  let c0_23 : Index := 0#32
  ![v39.toNat, 0, 0]
def k0_mult4 (k0_t2 : Fin k0_t2_loop.trips) : BitVec 32 :=
  let c0_i32_5 : BitVec 32 := 0#32
  let c1_i32_7 : BitVec 32 := 1#32
  let arg22 : BitVec 32 := Scf.iv c0_i32_5 c1_i32_7 k0_t2
  let c1_i32_43 : BitVec 32 := 1#32
  let v66 : BitVec 32 := Scalar.addi arg22 c1_i32_43
  let c15_i32_44 : BitVec 32 := 15#32
  let v67 : BitVec 32 := Scalar.minsi v66 c15_i32_44
  let c256_i32_45 : BitVec 32 := 256#32
  let v68 : BitVec 32 := Scalar.muli v67 c256_i32_45
  v68
def k0_off13 (k0_t2 : Fin k0_t2_loop.trips) : Fin 2 → Nat :=
  let c0_i32_5 : BitVec 32 := 0#32
  let c1_i32_7 : BitVec 32 := 1#32
  let arg22 : BitVec 32 := Scf.iv c0_i32_5 c1_i32_7 k0_t2
  let c1_i32_43 : BitVec 32 := 1#32
  let v66 : BitVec 32 := Scalar.addi arg22 c1_i32_43
  let c15_i32_44 : BitVec 32 := 15#32
  let v67 : BitVec 32 := Scalar.minsi v66 c15_i32_44
  let c256_i32_45 : BitVec 32 := 256#32
  let v68 : BitVec 32 := Scalar.muli v67 c256_i32_45
  let v69 : BitVec 32 := v68
  let v70 : Index := Scalar.indexCast v69
  let c0_46 : Index := 0#32
  ![v70.toNat, 0]
def k0_off14 (k0_t2 : Fin k0_t2_loop.trips) (c0_i32_50 : BitVec 32) : Fin 3 → Nat :=
  let c0_i32_5 : BitVec 32 := 0#32
  let c1_i32_7 : BitVec 32 := 1#32
  let arg22 : BitVec 32 := Scf.iv c0_i32_5 c1_i32_7 k0_t2
  let c1_i32_43 : BitVec 32 := 1#32
  let v66 : BitVec 32 := Scalar.addi arg22 c1_i32_43
  let c15_i32_44 : BitVec 32 := 15#32
  let v67 : BitVec 32 := Scalar.minsi v66 c15_i32_44
  let v76 : BitVec 32 := Scalar.addi c0_i32_50 v67
  let v77 : Index := Scalar.indexCast v76
  let c0_51 : Index := 0#32
  let c0_52 : Index := 0#32
  ![v77.toNat, 0, 0]
def k0_off15 (k0_t2 : Fin k0_t2_loop.trips) : Fin 4 → Nat :=
  let c0_74 : Index := 0#32
  let c0_i32_5 : BitVec 32 := 0#32
  let c1_i32_7 : BitVec 32 := 1#32
  let arg22 : BitVec 32 := Scf.iv c0_i32_5 c1_i32_7 k0_t2
  let c15_i32_73 : BitVec 32 := 15#32
  let v106 : BitVec 32 := Scalar.minsi arg22 c15_i32_73
  let v107 : Index := Scalar.indexCast v106
  let c0_75 : Index := 0#32
  let c0_76 : Index := 0#32
  ![0, v107.toNat, 0, 0]
def k0_off16 (k0_t2 : Fin k0_t2_loop.trips) : Fin 3 → Nat :=
  let c0_i32_5 : BitVec 32 := 0#32
  let c1_i32_7 : BitVec 32 := 1#32
  let arg22 : BitVec 32 := Scf.iv c0_i32_5 c1_i32_7 k0_t2
  let c15_i32_73 : BitVec 32 := 15#32
  let v106 : BitVec 32 := Scalar.minsi arg22 c15_i32_73
  let v114 : Index := Scalar.indexCast v106
  let c0_80 : Index := 0#32
  let c0_81 : Index := 0#32
  ![v114.toNat, 0, 0]
def k0_off17 (k0_t2 : Fin k0_t2_loop.trips) : Fin 3 → Nat :=
  let c0_i32_5 : BitVec 32 := 0#32
  let c1_i32_7 : BitVec 32 := 1#32
  let arg22 : BitVec 32 := Scf.iv c0_i32_5 c1_i32_7 k0_t2
  let c15_i32_73 : BitVec 32 := 15#32
  let v106 : BitVec 32 := Scalar.minsi arg22 c15_i32_73
  let v155 : Index := Scalar.indexCast v106
  let c0_96 : Index := 0#32
  let c0_97 : Index := 0#32
  ![v155.toNat, 0, 0]
def k0_off18 (k0_t2 : Fin k0_t2_loop.trips) : Fin 3 → Nat :=
  let c0_i32_5 : BitVec 32 := 0#32
  let c1_i32_7 : BitVec 32 := 1#32
  let arg22 : BitVec 32 := Scf.iv c0_i32_5 c1_i32_7 k0_t2
  let c15_i32_73 : BitVec 32 := 15#32
  let v106 : BitVec 32 := Scalar.minsi arg22 c15_i32_73
  let v161 : Index := Scalar.indexCast v106
  let c0_99 : Index := 0#32
  let c0_100 : Index := 0#32
  ![v161.toNat, 0, 0]
def k0_off19 (k0_t2 : Fin k0_t2_loop.trips) : Fin 3 → Nat :=
  let c0_i32_5 : BitVec 32 := 0#32
  let c1_i32_7 : BitVec 32 := 1#32
  let arg22 : BitVec 32 := Scf.iv c0_i32_5 c1_i32_7 k0_t2
  let c15_i32_73 : BitVec 32 := 15#32
  let v106 : BitVec 32 := Scalar.minsi arg22 c15_i32_73
  let v167 : Index := Scalar.indexCast v106
  let c0_102 : Index := 0#32
  let c0_103 : Index := 0#32
  ![v167.toNat, 0, 0]
@[reducible] def k0_t3_loop (k0_t2 : Fin k0_t2_loop.trips) : Scf.Loop 32 :=
  let c0_i32_109 : BitVec 32 := 0#32
  let c16_i32_107 : BitVec 32 := 16#32
  let c0_i32_5 : BitVec 32 := 0#32
  let c1_i32_7 : BitVec 32 := 1#32
  let arg22 : BitVec 32 := Scf.iv c0_i32_5 c1_i32_7 k0_t2
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_111 : BitVec 32 := 1#32
  ⟨c0_i32_109, v183, c1_i32_111⟩
def k0_mult5 (k0_t2 : Fin k0_t2_loop.trips) (k0_t3 : Fin (k0_t3_loop k0_t2).trips) : BitVec 32 :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_120 : BitVec 32 := 1#32
  let v205 : BitVec 32 := Scalar.addi v204 c1_i32_120
  let c15_i32_121 : BitVec 32 := 15#32
  let v206 : BitVec 32 := Scalar.minsi v205 c15_i32_121
  let c256_i32_122 : BitVec 32 := 256#32
  let v207 : BitVec 32 := Scalar.muli v206 c256_i32_122
  v207
def k0_off20 (k0_t2 : Fin k0_t2_loop.trips) (k0_t3 : Fin (k0_t3_loop k0_t2).trips) (c1_i32_120 : BitVec 32) : Fin 2 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let v205 : BitVec 32 := Scalar.addi v204 c1_i32_120
  let c15_i32_121 : BitVec 32 := 15#32
  let v206 : BitVec 32 := Scalar.minsi v205 c15_i32_121
  let c256_i32_122 : BitVec 32 := 256#32
  let v207 : BitVec 32 := Scalar.muli v206 c256_i32_122
  let v208 : BitVec 32 := v207
  let v209 : Index := Scalar.indexCast v208
  let c0_123 : Index := 0#32
  ![v209.toNat, 0]
def k0_off21 (k0_t2 : Fin k0_t2_loop.trips) (c0_i32_124 : BitVec 32) : Fin 3 → Nat :=
  let c0_i32_5 : BitVec 32 := 0#32
  let c1_i32_7 : BitVec 32 := 1#32
  let arg22 : BitVec 32 := Scf.iv c0_i32_5 c1_i32_7 k0_t2
  let v211 : BitVec 32 := Scalar.addi c0_i32_124 arg22
  let v212 : Index := Scalar.indexCast v211
  let c0_125 : Index := 0#32
  let c0_126 : Index := 0#32
  ![v212.toNat, 0, 0]
def k0_off22 (k0_t2 : Fin k0_t2_loop.trips) (k0_t3 : Fin (k0_t3_loop k0_t2).trips) (c0_i32_127 : BitVec 32) (c1_i32_120 : BitVec 32) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let v205 : BitVec 32 := Scalar.addi v204 c1_i32_120
  let c15_i32_121 : BitVec 32 := 15#32
  let v206 : BitVec 32 := Scalar.minsi v205 c15_i32_121
  let v215 : BitVec 32 := Scalar.addi c0_i32_127 v206
  let v216 : Index := Scalar.indexCast v215
  let c0_128 : Index := 0#32
  let c0_129 : Index := 0#32
  ![v216.toNat, 0, 0]
def k0_off23 (k0_t2 : Fin k0_t2_loop.trips) (k0_t3 : Fin (k0_t3_loop k0_t2).trips) : Fin 4 → Nat :=
  let c0_153 : Index := 0#32
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c15_i32_152 : BitVec 32 := 15#32
  let v243 : BitVec 32 := Scalar.minsi v204 c15_i32_152
  let v244 : Index := Scalar.indexCast v243
  let c0_154 : Index := 0#32
  let c0_155 : Index := 0#32
  ![0, v244.toNat, 0, 0]
def k0_off24 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c15_i32_152 : BitVec 32 := 15#32
  let v243 : BitVec 32 := Scalar.minsi v204 c15_i32_152
  let v251 : Index := Scalar.indexCast v243
  let c0_159 : Index := 0#32
  let c0_160 : Index := 0#32
  ![v251.toNat, 0, 0]
def k0_off25 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c15_i32_152 : BitVec 32 := 15#32
  let v243 : BitVec 32 := Scalar.minsi v204 c15_i32_152
  let v282 : Index := Scalar.indexCast v243
  let c0_173 : Index := 0#32
  let c0_174 : Index := 0#32
  ![v282.toNat, 0, 0]
def k0_off26 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c15_i32_152 : BitVec 32 := 15#32
  let v243 : BitVec 32 := Scalar.minsi v204 c15_i32_152
  let v288 : Index := Scalar.indexCast v243
  let c0_176 : Index := 0#32
  let c0_177 : Index := 0#32
  ![v288.toNat, 0, 0]
def k0_off27 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c15_i32_152 : BitVec 32 := 15#32
  let v243 : BitVec 32 := Scalar.minsi v204 c15_i32_152
  let v294 : Index := Scalar.indexCast v243
  let c0_179 : Index := 0#32
  let c0_180 : Index := 0#32
  ![v294.toNat, 0, 0]
def k0_mult6 (k0_t2 : Fin k0_t2_loop.trips) (k0_t3 : Fin (k0_t3_loop k0_t2).trips) : BitVec 32 :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c2_i32_184 : BitVec 32 := 2#32
  let v304 : BitVec 32 := Scalar.addi v204 c2_i32_184
  let c15_i32_185 : BitVec 32 := 15#32
  let v305 : BitVec 32 := Scalar.minsi v304 c15_i32_185
  let c256_i32_186 : BitVec 32 := 256#32
  let v306 : BitVec 32 := Scalar.muli v305 c256_i32_186
  v306
def k0_off28 (k0_t2 : Fin k0_t2_loop.trips) (k0_t3 : Fin (k0_t3_loop k0_t2).trips) : Fin 4 → Nat :=
  let c0_218 : Index := 0#32
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v344 : Index := Scalar.indexCast v343
  let c0_219 : Index := 0#32
  let c0_220 : Index := 0#32
  ![0, v344.toNat, 0, 0]
def k0_off29 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v351 : Index := Scalar.indexCast v343
  let c0_224 : Index := 0#32
  let c0_225 : Index := 0#32
  ![v351.toNat, 0, 0]
def k0_off30 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v382 : Index := Scalar.indexCast v343
  let c0_238 : Index := 0#32
  let c0_239 : Index := 0#32
  ![v382.toNat, 0, 0]
def k0_off31 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v388 : Index := Scalar.indexCast v343
  let c0_241 : Index := 0#32
  let c0_242 : Index := 0#32
  ![v388.toNat, 0, 0]
def k0_off32 (k0_t2 : Fin k0_t2_loop.trips) (k0_t3 : Fin (k0_t3_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c1_i32_111 : BitVec 32 := 1#32
  let arg23 : BitVec 32 := Scf.iv c0_i32_109 c1_i32_111 k0_t3
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v394 : Index := Scalar.indexCast v343
  let c0_244 : Index := 0#32
  let c0_245 : Index := 0#32
  ![v394.toNat, 0, 0]
@[reducible] def k0_t4_loop (k0_t2 : Fin k0_t2_loop.trips) : Scf.Loop 32 :=
  let c0_i32_109 : BitVec 32 := 0#32
  let c16_i32_107 : BitVec 32 := 16#32
  let c0_i32_5 : BitVec 32 := 0#32
  let c1_i32_7 : BitVec 32 := 1#32
  let arg22 : BitVec 32 := Scf.iv c0_i32_5 c1_i32_7 k0_t2
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let v180 : BitVec 32 := Scalar.addi c0_i32_109 v179
  let c1_i32_112 : BitVec 32 := 1#32
  ⟨v183, v180, c1_i32_112⟩
def k0_mult7 (k0_t2 : Fin k0_t2_loop.trips) (k0_t4 : Fin (k0_t4_loop k0_t2).trips) : BitVec 32 :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_120 : BitVec 32 := 1#32
  let v205 : BitVec 32 := Scalar.addi v204 c1_i32_120
  let c15_i32_121 : BitVec 32 := 15#32
  let v206 : BitVec 32 := Scalar.minsi v205 c15_i32_121
  let c256_i32_122 : BitVec 32 := 256#32
  let v207 : BitVec 32 := Scalar.muli v206 c256_i32_122
  v207
def k0_off33 (k0_t2 : Fin k0_t2_loop.trips) (k0_t4 : Fin (k0_t4_loop k0_t2).trips) (c1_i32_120 : BitVec 32) : Fin 2 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let v205 : BitVec 32 := Scalar.addi v204 c1_i32_120
  let c15_i32_121 : BitVec 32 := 15#32
  let v206 : BitVec 32 := Scalar.minsi v205 c15_i32_121
  let c256_i32_122 : BitVec 32 := 256#32
  let v207 : BitVec 32 := Scalar.muli v206 c256_i32_122
  let v208 : BitVec 32 := v207
  let v209 : Index := Scalar.indexCast v208
  let c0_123 : Index := 0#32
  ![v209.toNat, 0]
def k0_off34 (k0_t2 : Fin k0_t2_loop.trips) (c0_i32_124 : BitVec 32) : Fin 3 → Nat :=
  let c0_i32_5 : BitVec 32 := 0#32
  let c1_i32_7 : BitVec 32 := 1#32
  let arg22 : BitVec 32 := Scf.iv c0_i32_5 c1_i32_7 k0_t2
  let v211 : BitVec 32 := Scalar.addi c0_i32_124 arg22
  let v212 : Index := Scalar.indexCast v211
  let c0_125 : Index := 0#32
  let c0_126 : Index := 0#32
  ![v212.toNat, 0, 0]
def k0_off35 (k0_t2 : Fin k0_t2_loop.trips) (k0_t4 : Fin (k0_t4_loop k0_t2).trips) (c0_i32_127 : BitVec 32) (c1_i32_120 : BitVec 32) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let v205 : BitVec 32 := Scalar.addi v204 c1_i32_120
  let c15_i32_121 : BitVec 32 := 15#32
  let v206 : BitVec 32 := Scalar.minsi v205 c15_i32_121
  let v215 : BitVec 32 := Scalar.addi c0_i32_127 v206
  let v216 : Index := Scalar.indexCast v215
  let c0_128 : Index := 0#32
  let c0_129 : Index := 0#32
  ![v216.toNat, 0, 0]
def k0_off36 (k0_t2 : Fin k0_t2_loop.trips) (k0_t4 : Fin (k0_t4_loop k0_t2).trips) : Fin 4 → Nat :=
  let c0_153 : Index := 0#32
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c15_i32_152 : BitVec 32 := 15#32
  let v243 : BitVec 32 := Scalar.minsi v204 c15_i32_152
  let v244 : Index := Scalar.indexCast v243
  let c0_154 : Index := 0#32
  let c0_155 : Index := 0#32
  ![0, v244.toNat, 0, 0]
def k0_off37 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c15_i32_152 : BitVec 32 := 15#32
  let v243 : BitVec 32 := Scalar.minsi v204 c15_i32_152
  let v251 : Index := Scalar.indexCast v243
  let c0_159 : Index := 0#32
  let c0_160 : Index := 0#32
  ![v251.toNat, 0, 0]
def k0_off38 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c15_i32_152 : BitVec 32 := 15#32
  let v243 : BitVec 32 := Scalar.minsi v204 c15_i32_152
  let v282 : Index := Scalar.indexCast v243
  let c0_173 : Index := 0#32
  let c0_174 : Index := 0#32
  ![v282.toNat, 0, 0]
def k0_off39 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c15_i32_152 : BitVec 32 := 15#32
  let v243 : BitVec 32 := Scalar.minsi v204 c15_i32_152
  let v288 : Index := Scalar.indexCast v243
  let c0_176 : Index := 0#32
  let c0_177 : Index := 0#32
  ![v288.toNat, 0, 0]
def k0_off40 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c15_i32_152 : BitVec 32 := 15#32
  let v243 : BitVec 32 := Scalar.minsi v204 c15_i32_152
  let v294 : Index := Scalar.indexCast v243
  let c0_179 : Index := 0#32
  let c0_180 : Index := 0#32
  ![v294.toNat, 0, 0]
def k0_mult8 (k0_t2 : Fin k0_t2_loop.trips) (k0_t4 : Fin (k0_t4_loop k0_t2).trips) : BitVec 32 :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c2_i32_184 : BitVec 32 := 2#32
  let v304 : BitVec 32 := Scalar.addi v204 c2_i32_184
  let c15_i32_185 : BitVec 32 := 15#32
  let v305 : BitVec 32 := Scalar.minsi v304 c15_i32_185
  let c256_i32_186 : BitVec 32 := 256#32
  let v306 : BitVec 32 := Scalar.muli v305 c256_i32_186
  v306
def k0_off41 (k0_t2 : Fin k0_t2_loop.trips) (k0_t4 : Fin (k0_t4_loop k0_t2).trips) : Fin 4 → Nat :=
  let c0_218 : Index := 0#32
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v344 : Index := Scalar.indexCast v343
  let c0_219 : Index := 0#32
  let c0_220 : Index := 0#32
  ![0, v344.toNat, 0, 0]
def k0_off42 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v351 : Index := Scalar.indexCast v343
  let c0_224 : Index := 0#32
  let c0_225 : Index := 0#32
  ![v351.toNat, 0, 0]
def k0_off43 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v382 : Index := Scalar.indexCast v343
  let c0_238 : Index := 0#32
  let c0_239 : Index := 0#32
  ![v382.toNat, 0, 0]
def k0_off44 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v388 : Index := Scalar.indexCast v343
  let c0_241 : Index := 0#32
  let c0_242 : Index := 0#32
  ![v388.toNat, 0, 0]
def k0_off45 (k0_t2 : Fin k0_t2_loop.trips) (k0_t4 : Fin (k0_t4_loop k0_t2).trips) : Fin 3 → Nat :=
  let c0_i32_5 : BitVec 32 := 0#32
  let c1_i32_7 : BitVec 32 := 1#32
  let arg22 : BitVec 32 := Scf.iv c0_i32_5 c1_i32_7 k0_t2
  let c1_i32_119 : BitVec 32 := 1#32
  let v202 : BitVec 32 := Scalar.addi arg22 c1_i32_119
  let c2_i32 : BitVec 32 := 2#32
  let c0_i32_109 : BitVec 32 := 0#32
  let c16_i32_107 : BitVec 32 := 16#32
  let v177 : BitVec 32 := Scalar.subi c16_i32_107 arg22
  let c1_i32_108 : BitVec 32 := 1#32
  let v178 : BitVec 32 := Scalar.shrui v177 c1_i32_108
  let v179 : BitVec 32 := Scalar.subi v178 c0_i32_109
  let c1_i32_110 : BitVec 32 := 1#32
  let v181 : BitVec 32 := Scalar.divsi v179 c1_i32_110
  let v182 : BitVec 32 := Scalar.muli v181 c1_i32_110
  let v183 : BitVec 32 := Scalar.addi c0_i32_109 v182
  let c1_i32_112 : BitVec 32 := 1#32
  let arg23 : BitVec 32 := Scf.iv v183 c1_i32_112 k0_t4
  let v203 : BitVec 32 := Scalar.muli c2_i32 arg23
  let v204 : BitVec 32 := Scalar.addi v202 v203
  let c1_i32_216 : BitVec 32 := 1#32
  let v342 : BitVec 32 := Scalar.addi v204 c1_i32_216
  let c15_i32_217 : BitVec 32 := 15#32
  let v343 : BitVec 32 := Scalar.minsi v342 c15_i32_217
  let v394 : Index := Scalar.indexCast v343
  let c0_244 : Index := 0#32
  let c0_245 : Index := 0#32
  ![v394.toNat, 0, 0]
def k0_off46 (k0_t2 : Fin k0_t2_loop.trips) : Fin 4 → Nat :=
  let c0_116 : Index := 0#32
  let c0_i32_5 : BitVec 32 := 0#32
  let c1_i32_7 : BitVec 32 := 1#32
  let arg22 : BitVec 32 := Scf.iv c0_i32_5 c1_i32_7 k0_t2
  let v198 : Index := Scalar.indexCast arg22
  let c0_117 : Index := 0#32
  let c0_118 : Index := 0#32
  ![0, v198.toNat, 0, 0]
@[reducible] def k0_t5_loop : Scf.Loop 32 :=
  let c0_i32_9 : BitVec 32 := 0#32
  let c16_i32_10 : BitVec 32 := 16#32
  let v18 : BitVec 32 := Scalar.addi c0_i32_9 c16_i32_10
  let c1_i32_11 : BitVec 32 := 1#32
  ⟨c0_i32_9, v18, c1_i32_11⟩
def k0_off47 (k0_t5 : Fin k0_t5_loop.trips) : Fin 3 → Nat :=
  let c0_i32_9 : BitVec 32 := 0#32
  let c1_i32_11 : BitVec 32 := 1#32
  let arg22 : BitVec 32 := Scf.iv c0_i32_9 c1_i32_11 k0_t5
  let v19 : Index := Scalar.indexCast arg22
  let c0 : Index := 0#32
  let c0_13 : Index := 0#32
  ![v19.toNat, 0, 0]
def k0_mult9 (k0_t5 : Fin k0_t5_loop.trips) : BitVec 32 :=
  let c0_i32_9 : BitVec 32 := 0#32
  let c1_i32_11 : BitVec 32 := 1#32
  let arg22 : BitVec 32 := Scf.iv c0_i32_9 c1_i32_11 k0_t5
  let c256_i32 : BitVec 32 := 256#32
  let v27 : BitVec 32 := Scalar.muli arg22 c256_i32
  v27
def k0_off48 (k0_t5 : Fin k0_t5_loop.trips) : Fin 2 → Nat :=
  let c0_i32_9 : BitVec 32 := 0#32
  let c1_i32_11 : BitVec 32 := 1#32
  let arg22 : BitVec 32 := Scf.iv c0_i32_9 c1_i32_11 k0_t5
  let c256_i32 : BitVec 32 := 256#32
  let v27 : BitVec 32 := Scalar.muli arg22 c256_i32
  let v28 : BitVec 32 := v27
  let v29 : Index := Scalar.indexCast v28
  let c0_15 : Index := 0#32
  ![v29.toNat, 0]
def k0_off49 (k0_t5 : Fin k0_t5_loop.trips) : Fin 4 → Nat :=
  let c0_16 : Index := 0#32
  let c0_i32_9 : BitVec 32 := 0#32
  let c1_i32_11 : BitVec 32 := 1#32
  let arg22 : BitVec 32 := Scf.iv c0_i32_9 c1_i32_11 k0_t5
  let v32 : Index := Scalar.indexCast arg22
  let c0_17 : Index := 0#32
  let c0_18 : Index := 0#32
  ![0, v32.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S8x4096 : Shape := ⟨2, ![8, 4096]⟩
abbrev S4096x1024 : Shape := ⟨2, ![4096, 1024]⟩
abbrev S4096x512 : Shape := ⟨2, ![4096, 512]⟩
abbrev S4096x8x64 : Shape := ⟨3, ![4096, 8, 64]⟩
abbrev S8x4096x64 : Shape := ⟨3, ![8, 4096, 64]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4x2x16x1x256 : Shape := ⟨5, ![4, 2, 16, 1, 256]⟩
abbrev S4x16x2x1x256 : Shape := ⟨5, ![4, 16, 2, 1, 256]⟩
abbrev S4x16x2x4x256 : Shape := ⟨5, ![4, 16, 2, 4, 256]⟩
abbrev S4x16x8x256 : Shape := ⟨4, ![4, 16, 8, 256]⟩

abbrev nBuf : Space → Nat
  | .hbm => 144
  | .vmem => 0
  | .smem => 0
  | _ => 0

abbrev hbmTy0_0 (i : Nat) : BufTy := match i % 128 with
  | 0 => ⟨S4096x1536, .bf16⟩
  | 1 => ⟨S8x4096, .f32⟩
  | 2 => ⟨S4096x1024, .f32⟩
  | 3 => ⟨S4096x512, .bf16⟩
  | 4 => ⟨S4096x512, .bf16⟩
  | 5 => ⟨S4096x512, .bf16⟩
  | 6 => ⟨S4096x512, .f32⟩
  | 7 => ⟨S4096x512, .bf16⟩
  | 8 => ⟨S4096x512, .f32⟩
  | 9 => ⟨S4096x8x64, .f32⟩
  | 10 => ⟨S8x4096x64, .f32⟩
  | 11 => ⟨S_, .f32⟩
  | 12 => ⟨S8x4096x64, .f32⟩
  | 13 => ⟨S8x4096x64, .f32⟩
  | 14 => ⟨S4096x512, .f32⟩
  | 15 => ⟨S4096x8x64, .f32⟩
  | 16 => ⟨S8x4096x64, .f32⟩
  | 17 => ⟨S8x4096x4096, .f32⟩
  | 18 => ⟨S8x4096x1, .f32⟩
  | 19 => ⟨S8x4096x4096, .f32⟩
  | 20 => ⟨S8x4096x4096, .f32⟩
  | 21 => ⟨S8x1x4096, .f32⟩
  | 22 => ⟨S8x4096x4096, .f32⟩
  | 23 => ⟨S8x4096x4096, .f32⟩
  | 24 => ⟨S4096, .i32⟩
  | 25 => ⟨S1x4096, .i32⟩
  | 26 => ⟨S4096, .i32⟩
  | 27 => ⟨S4096x1, .i32⟩
  | 28 => ⟨S4096x4096, .i32⟩
  | 29 => ⟨S4096x4096, .i32⟩
  | 30 => ⟨S4096x4096, .i1⟩
  | 31 => ⟨S_, .f32⟩
  | 32 => ⟨S_, .f32⟩
  | 33 => ⟨S8x4096x4096, .i1⟩
  | 34 => ⟨S8x4096x4096, .f32⟩
  | 35 => ⟨S8x4096x4096, .f32⟩
  | 36 => ⟨S_, .f32⟩
  | 37 => ⟨S8x4096x4096, .f32⟩
  | 38 => ⟨S_, .f32⟩
  | 39 => ⟨S8x4096, .f32⟩
  | 40 => ⟨S8x4096x1, .f32⟩
  | 41 => ⟨S8x4096x4096, .f32⟩
  | 42 => ⟨S8x4096x4096, .i1⟩
  | 43 => ⟨S8x4096x4096, .f32⟩
  | 44 => ⟨S_, .f32⟩
  | 45 => ⟨S8x4096, .f32⟩
  | 46 => ⟨S_, .f32⟩
  | 47 => ⟨S8x4096, .f32⟩
  | 48 => ⟨S8x4096, .f32⟩
  | 49 => ⟨S_, .f32⟩
  | 50 => ⟨S8x4096, .f32⟩
  | 51 => ⟨S8x4096, .i1⟩
  | 52 => ⟨S_, .f32⟩
  | 53 => ⟨S8x4096, .f32⟩
  | 54 => ⟨S8x4096, .i1⟩
  | 55 => ⟨S_, .f32⟩
  | 56 => ⟨S8x4096, .f32⟩
  | 57 => ⟨S_, .f32⟩
  | 58 => ⟨S8x4096, .f32⟩
  | 59 => ⟨S_, .f32⟩
  | 60 => ⟨S8x4096, .f32⟩
  | 61 => ⟨S8x4096, .f32⟩
  | 62 => ⟨S8x4096, .f32⟩
  | 63 => ⟨S8x4096x1, .f32⟩
  | 64 => ⟨S8x4096x4096, .f32⟩
  | 65 => ⟨S8x4096x4096, .f32⟩
  | 66 => ⟨S8x4096x4096, .f32⟩
  | 67 => ⟨S_, .f32⟩
  | 68 => ⟨S8x4096, .f32⟩
  | 69 => ⟨S8x4096x1, .f32⟩
  | 70 => ⟨S8x4096x4096, .f32⟩
  | 71 => ⟨S8x4096x4096, .f32⟩
  | 72 => ⟨S8x4096x1, .f32⟩
  | 73 => ⟨S_, .f32⟩
  | 74 => ⟨S8x4096x1, .f32⟩
  | 75 => ⟨S8x4096x1, .f32⟩
  | 76 => ⟨S4096x512, .f32⟩
  | 77 => ⟨S4096x8x64, .f32⟩
  | 78 => ⟨S8x4096x64, .f32⟩
  | 79 => ⟨S8x4096x64, .f32⟩
  | 80 => ⟨S4096x8x64, .f32⟩
  | 81 => ⟨S4096x512, .f32⟩
  | 82 => ⟨S4096x512, .bf16⟩
  | 83 => ⟨S4096x512, .f32⟩
  | 84 => ⟨S4096x8x64, .f32⟩
  | 85 => ⟨S8x4096x64, .f32⟩
  | 86 => ⟨S8x64x4096, .f32⟩
  | 87 => ⟨S8x4096x64, .f32⟩
  | 88 => ⟨S8x4096x4096, .f32⟩
  | 89 => ⟨S4096x8x64, .f32⟩
  | 90 => ⟨S4096x512, .f32⟩
  | 91 => ⟨S4096x512, .bf16⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x1, .f32⟩
  | 99 => ⟨S8x4096x4096, .f32⟩
  | 100 => ⟨S8x4096x4096, .f32⟩
  | 101 => ⟨S_, .f32⟩
  | 102 => ⟨S8x4096, .f32⟩
  | 103 => ⟨S8x4096x4096, .f32⟩
  | 104 => ⟨S8x4096x4096, .f32⟩
  | 105 => ⟨S8x4096x4096, .f32⟩
  | 106 => ⟨S_, .f32⟩
  | 107 => ⟨S8x4096x4096, .f32⟩
  | 108 => ⟨S8x4096x4096, .f32⟩
  | 109 => ⟨S8x4096x4096, .f32⟩
  | 110 => ⟨S_, .f32⟩
  | 111 => ⟨S8x4096, .f32⟩
  | 112 => ⟨S8x1x4096, .f32⟩
  | 113 => ⟨S_, .f32⟩
  | 114 => ⟨S8x4096, .f32⟩
  | 115 => ⟨S_, .f32⟩
  | 116 => ⟨S8x4096, .f32⟩
  | 117 => ⟨S8x4096x1, .f32⟩
  | 118 => ⟨S_, .f32⟩
  | 119 => ⟨S8x4096, .f32⟩
  | 120 => ⟨S8x4096x64, .f32⟩
  | 121 => ⟨S8x4096x64, .f32⟩
  | 122 => ⟨S4096x8x64, .f32⟩
  | 123 => ⟨S4096x512, .f32⟩
  | 124 => ⟨S4096x512, .bf16⟩
  | 125 => ⟨S_, .f32⟩
  | 126 => ⟨S8x4096x64, .f32⟩
  | 127 => ⟨S8x4096x64, .f32⟩
  | _ => ⟨S4096x1536, .bf16⟩

abbrev hbmTy0_1 (i : Nat) : BufTy := match i % 128 with
  | 0 => ⟨S4096x8x64, .f32⟩
  | 1 => ⟨S4096x512, .f32⟩
  | 2 => ⟨S4096x512, .bf16⟩
  | 3 => ⟨S8x4096, .f32⟩
  | 4 => ⟨S4x2x16x1x256, .f32⟩
  | 5 => ⟨S4x16x2x1x256, .f32⟩
  | 6 => ⟨S_, .i32⟩
  | 7 => ⟨S_, .f32⟩
  | 8 => ⟨S4x16x2x4x256, .f32⟩
  | 9 => ⟨S4x16x8x256, .f32⟩
  | 10 => ⟨S4x2x16x1x256, .f32⟩
  | 11 => ⟨S4x16x2x1x256, .f32⟩
  | 12 => ⟨S_, .i32⟩
  | 13 => ⟨S_, .f32⟩
  | 14 => ⟨S4x16x2x4x256, .f32⟩
  | 15 => ⟨S4x16x8x256, .f32⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_17 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c : Ref sig .tc := ⟨.hbm, 134, rfl⟩
abbrev main_call2_v0 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_18 : Ref sig .tc := ⟨.hbm, 140, rfl⟩
abbrev main_call3_v0 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== GateGrad.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateGradReferenceIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .bf16⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DownGrad.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownGradReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .bf16⟩
  | .hbm, ⟨3, _⟩ => ⟨S2816x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfGrad.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FfGradReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .bf16⟩
  | .hbm, ⟨3, _⟩ => ⟨S1024x2816, .bf16⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpGrad.lean ====
abbrev S4096x2816 : Shape := ⟨2, ![4096, 2816]⟩
abbrev S2816x1024 : Shape := ⟨2, ![2816, 1024]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 22
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1, .f32⟩
  | .local _ .vmem, ⟨10, _⟩ => ⟨S256x1, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpGradReferenceIdeal.lean ====
abbrev S4096x2816 : Shape := ⟨2, ![4096, 2816]⟩
abbrev S2816x1024 : Shape := ⟨2, ![2816, 1024]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2816, .bf16⟩
  | .hbm, ⟨28, _⟩ => ⟨S1024x2816, .f32⟩
  | .hbm, ⟨29, _⟩ => ⟨S4096x2816, .f32⟩
  | .hbm, ⟨30, _⟩ => ⟨S1024x2816, .bf16⟩
  | .hbm, ⟨31, _⟩ => ⟨S1024x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S1024x1024, .f32⟩
  | .hbm, ⟨65, _⟩ => ⟨S4096x1024, .f32⟩
  | .hbm, ⟨66, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== InNormGrad.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x512 : Shape := ⟨2, ![512, 512]⟩
abbrev S512x128 : Shape := ⟨2, ![512, 128]⟩
abbrev S512x1024 : Shape := ⟨2, ![512, 1024]⟩
abbrev S512x1 : Shape := ⟨2, ![512, 1]⟩
abbrev S128x1024 : Shape := ⟨2, ![128, 1024]⟩
abbrev S512 : Shape := ⟨1, ![512]⟩
abbrev S1024 : Shape := ⟨1, ![1024]⟩

abbrev nBuf : Space → Nat
  | .hbm => 22
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InNormGradReferenceIdeal.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x512 : Shape := ⟨2, ![1024, 512]⟩
abbrev S128x1024 : Shape := ⟨2, ![128, 1024]⟩
abbrev S1024x128 : Shape := ⟨2, ![1024, 128]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S512x1024, .bf16⟩
  | .hbm, ⟨29, _⟩ => ⟨S1024x512, .bf16⟩
  | .hbm, ⟨30, _⟩ => ⟨S1024x512, .f32⟩
  | .hbm, ⟨31, _⟩ => ⟨S4096x512, .f32⟩
  | .hbm, ⟨32, _⟩ => ⟨S512x1024, .bf16⟩
  | .hbm, ⟨33, _⟩ => ⟨S1024x512, .bf16⟩
  | .hbm, ⟨34, _⟩ => ⟨S1024x512, .f32⟩
  | .hbm, ⟨35, _⟩ => ⟨S4096x512, .f32⟩
  | .hbm, ⟨36, _⟩ => ⟨S512x1024, .bf16⟩
  | .hbm, ⟨37, _⟩ => ⟨S1024x512, .bf16⟩
  | .hbm, ⟨38, _⟩ => ⟨S1024x512, .f32⟩
  | .hbm, ⟨39, _⟩ => ⟨S4096x512, .f32⟩
  | .hbm, ⟨40, _⟩ => ⟨S512x1024, .bf16⟩
  | .hbm, ⟨41, _⟩ => ⟨S1024x512, .bf16⟩
  | .hbm, ⟨42, _⟩ => ⟨S1024x512, .f32⟩
  | .hbm, ⟨43, _⟩ => ⟨S4096x512, .f32⟩
  | .hbm, ⟨44, _⟩ => ⟨S128x1024, .bf16⟩
  | .hbm, ⟨45, _⟩ => ⟨S1024x128, .bf16⟩
  | .hbm, ⟨46, _⟩ => ⟨S1024x128, .f32⟩
  | .hbm, ⟨47, _⟩ => ⟨S4096x128, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x128, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== DownFinal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownFinalReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== GateUp.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S1024x2816, .bf16⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== InProj.lean ====
abbrev S4096x1024 : Shape := ⟨2, ![4096, 1024]⟩
abbrev S2176x1024 : Shape := ⟨2, ![2176, 1024]⟩
abbrev S4096x1536 : Shape := ⟨2, ![4096, 1536]⟩
abbrev S4096x512 : Shape := ⟨2, ![4096, 512]⟩
abbrev S4096x128 : Shape := ⟨2, ![4096, 128]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S1536x1024 : Shape := ⟨2, ![1536, 1024]⟩
abbrev S512x1024 : Shape := ⟨2, ![512, 1024]⟩
abbrev S128x1024 : Shape := ⟨2, ![128, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2176x1024, .bf16⟩
  | .hbm, ⟨2, _⟩ => ⟨S4096x1536, .bf16⟩
  | .hbm, ⟨3, _⟩ => ⟨S4096x512, .f32⟩
  | .hbm, ⟨4, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S1024x1536, .bf16⟩
  | .local _ .vmem, ⟨4, _⟩ => ⟨S1024x1536, .bf16⟩
  | .local _ .vmem, ⟨5, _⟩ => ⟨S1024x512, .f32⟩
  | .local _ .vmem, ⟨6, _⟩ => ⟨S1024x512, .f32⟩
  | .local _ .vmem, ⟨7, _⟩ => ⟨S1024x128, .f32⟩
  | .local _ .vmem, ⟨8, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjReferenceIdeal.lean ====
abbrev S4096x1024 : Shape := ⟨2, ![4096, 1024]⟩
abbrev S2176x1024 : Shape := ⟨2, ![2176, 1024]⟩
abbrev S1024x2176 : Shape := ⟨2, ![1024, 2176]⟩
abbrev S4096x2176 : Shape := ⟨2, ![4096, 2176]⟩
abbrev S4096x1536 : Shape := ⟨2, ![4096, 1536]⟩
abbrev S4096x512 : Shape := ⟨2, ![4096, 512]⟩
abbrev S4096x128 : Shape := ⟨2, ![4096, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2176x1024, .bf16⟩
  | .hbm, ⟨2, _⟩ => ⟨S4096x1024, .f32⟩
  | .hbm, ⟨3, _⟩ => ⟨S1024x2176, .bf16⟩
  | .hbm, ⟨4, _⟩ => ⟨S1024x2176, .f32⟩
  | .hbm, ⟨5, _⟩ => ⟨S4096x2176, .f32⟩
  | .hbm, ⟨6, _⟩ => ⟨S4096x1536, .f32⟩
  | .hbm, ⟨7, _⟩ => ⟨S4096x1536, .bf16⟩
  | .hbm, ⟨8, _⟩ => ⟨S4096x512, .f32⟩
  | .hbm, ⟨9, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutNorm.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1, .f32⟩
  | .local _ .vmem, ⟨13, _⟩ => ⟨S512x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutNormReferenceIdeal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InGrad.lean ====
abbrev S4096x512 : Shape := ⟨2, ![4096, 512]⟩
abbrev S4096x128 : Shape := ⟨2, ![4096, 128]⟩
abbrev S4096x1024 : Shape := ⟨2, ![4096, 1024]⟩
abbrev S2056x1024 : Shape := ⟨2, ![2056, 1024]⟩
abbrev S1024x512 : Shape := ⟨2, ![1024, 512]⟩
abbrev S1024x128 : Shape := ⟨2, ![1024, 128]⟩
abbrev S1024x1024 : Shape := ⟨2, ![1024, 1024]⟩
abbrev S512x1024 : Shape := ⟨2, ![512, 1024]⟩
abbrev S128x1024 : Shape := ⟨2, ![128, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x512, .bf16⟩
  | .hbm, ⟨5, _⟩ => ⟨S4096x1024, .bf16⟩
  | .hbm, ⟨6, _⟩ => ⟨S2056x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S2056x1024, .bf16⟩
  | .local _ .vmem, ⟨13, _⟩ => ⟨S2056x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_32 : BitVec 32 := 0#32
  let v42 : BitVec 1 := Scalar.cmpi .ne v41 c0_i32_32
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2056x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InGradReferenceIdeal.lean ====
abbrev S4096x512 : Shape := ⟨2, ![4096, 512]⟩
abbrev S4096x128 : Shape := ⟨2, ![4096, 128]⟩
abbrev S4096x1024 : Shape := ⟨2, ![4096, 1024]⟩
abbrev S4096x8 : Shape := ⟨2, ![4096, 8]⟩
abbrev S4096x2056 : Shape := ⟨2, ![4096, 2056]⟩
abbrev S_ : Shape := ⟨0, ![]⟩
abbrev S1024x2056 : Shape := ⟨2, ![1024, 2056]⟩
abbrev S2056x1024 : Shape := ⟨2, ![2056, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x512, .bf16⟩
  | .hbm, ⟨5, _⟩ => ⟨S4096x1024, .bf16⟩
  | .hbm, ⟨6, _⟩ => ⟨S4096x8, .bf16⟩
  | .hbm, ⟨7, _⟩ => ⟨S4096x2056, .bf16⟩
  | .hbm, ⟨8, _⟩ => ⟨S4096x2056, .f32⟩
  | .hbm, ⟨9, _⟩ => ⟨S_, .bf16⟩
  | .hbm, ⟨10, _⟩ => ⟨S1024x2056, .bf16⟩
  | .hbm, ⟨11, _⟩ => ⟨S4096x1024, .f32⟩
  | .hbm, ⟨12, _⟩ => ⟨S1024x2056, .f32⟩
  | .hbm, ⟨13, _⟩ => ⟨S4096x2056, .f32⟩
  | .hbm, ⟨14, _⟩ => ⟨S2056x1024, .f32⟩
  | .hbm, ⟨15, _⟩ => ⟨S1024x2056, .f32⟩
  | .hbm, ⟨16, _⟩ => ⟨S1024x2056, .bf16⟩
  | .hbm, ⟨17, _⟩ => ⟨S2056x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Norm1.lean ====
abbrev S4096x1024 : Shape := ⟨2, ![4096, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Norm1ReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== PoolGrad.lean ====
abbrev S4096x1024 : Shape := ⟨2, ![4096, 1024]⟩
abbrev S4096x512 : Shape := ⟨2, ![4096, 512]⟩
abbrev S4x128x128 : Shape := ⟨3, ![4, 128, 128]⟩
abbrev S1x512 : Shape := ⟨2, ![1, 512]⟩
abbrev S512x512 : Shape := ⟨2, ![512, 512]⟩
abbrev S16x512 : Shape := ⟨2, ![16, 512]⟩
abbrev S1x128x128 : Shape := ⟨3, ![1, 128, 128]⟩
abbrev S128x128 : Shape := ⟨2, ![128, 128]⟩
abbrev S512x128 : Shape := ⟨2, ![512, 128]⟩
abbrev S1x128 : Shape := ⟨2, ![1, 128]⟩
abbrev S128 : Shape := ⟨1, ![128]⟩
abbrev S512x1 : Shape := ⟨2, ![512, 1]⟩
abbrev S16x128 : Shape := ⟨2, ![16, 128]⟩
abbrev S528x128 : Shape := ⟨2, ![528, 128]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4x128x128, .f32⟩
  | .hbm, ⟨3, _⟩ => ⟨S1x512, .f32⟩
  | .hbm, ⟨4, _⟩ => ⟨S4096x512, .bf16⟩
  | .hbm, ⟨5, _⟩ => ⟨S4x128x128, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S4x128x128, .f32⟩
  | .local _ .vmem, ⟨9, _⟩ => ⟨S1x512, .f32⟩
  | .local _ .vmem, ⟨10, _⟩ => ⟨S16x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolGradReferenceIdeal.lean ====
abbrev S4096x1024 : Shape := ⟨2, ![4096, 1024]⟩
abbrev S4096x512 : Shape := ⟨2, ![4096, 512]⟩
abbrev S4x128x128 : Shape := ⟨3, ![4, 128, 128]⟩
abbrev S1x512 : Shape := ⟨2, ![1, 512]⟩
abbrev S4096x4x128 : Shape := ⟨3, ![4096, 4, 128]⟩
abbrev S4x128x4096 : Shape := ⟨3, ![4, 128, 4096]⟩
abbrev S_ : Shape := ⟨0, ![]⟩
abbrev S512 : Shape := ⟨1, ![512]⟩
abbrev S4x4096x128 : Shape := ⟨3, ![4, 4096, 128]⟩
abbrev S4096 : Shape := ⟨1, ![4096]⟩
abbrev S4096x128 : Shape := ⟨2, ![4096, 128]⟩
abbrev S1x4096 : Shape := ⟨2, ![1, 4096]⟩
abbrev S4096x1 : Shape := ⟨2, ![4096, 1]⟩
abbrev S4096x4096 : Shape := ⟨2, ![4096, 4096]⟩
abbrev S128x4096 : Shape := ⟨2, ![128, 4096]⟩

abbrev nBuf : Space → Nat
  | .hbm => 197
  | .vmem => 0
  | .smem => 0
  | _ => 0

abbrev hbmTy0_0 (i : Nat) : BufTy := match i % 128 with
  | 0 => ⟨S4096x1024, .f32⟩
  | 1 => ⟨S4096x512, .bf16⟩
  | 2 => ⟨S4x128x128, .f32⟩
  | 3 => ⟨S1x512, .f32⟩
  | 4 => ⟨S4096x512, .f32⟩
  | 5 => ⟨S4096x4x128, .f32⟩
  | 6 => ⟨S4x128x4096, .f32⟩
  | 7 => ⟨S4096x4x128, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S512, .f32⟩
  | 15 => ⟨S1x512, .f32⟩
  | 16 => ⟨S4096x512, .f32⟩
  | 17 => ⟨S4096x512, .f32⟩
  | 18 => ⟨S4096x4x128, .f32⟩
  | 19 => ⟨S4x128x4096, .f32⟩
  | 20 => ⟨S4x4096x128, .f32⟩
  | 21 => ⟨S4096x4x128, .f32⟩
  | 22 => ⟨S4x128x128, .f32⟩
  | 23 => ⟨S4x128x128, .f32⟩
  | 24 => ⟨S4096x512, .f32⟩
  | 25 => ⟨S_, .f32⟩
  | 26 => ⟨S4096x512, .f32⟩
  | 27 => ⟨S4096, .i32⟩
  | 28 => ⟨S4096x128, .f32⟩
  | 29 => ⟨S1x4096, .i32⟩
  | 30 => ⟨S4096x1, .i32⟩
  | 31 => ⟨S4096x4096, .i32⟩
  | 32 => ⟨S4096x4096, .i32⟩
  | 33 => ⟨S4096x4096, .i1⟩
  | 34 => ⟨S4096x1, .i32⟩
  | 35 => ⟨S1x4096, .i32⟩
  | 36 => ⟨S_, .i32⟩
  | 37 => ⟨S1x4096, .i32⟩
  | 38 => ⟨S1x4096, .i32⟩
  | 39 => ⟨S4096x4096, .i32⟩
  | 40 => ⟨S4096x4096, .i32⟩
  | 41 => ⟨S4096x4096, .i1⟩
  | 42 => ⟨S4096x4096, .i1⟩
  | 43 => ⟨S_, .f32⟩
  | 44 => ⟨S_, .f32⟩
  | 45 => ⟨S4096x4096, .f32⟩
  | 46 => ⟨S4096x4096, .f32⟩
  | 47 => ⟨S4096x4096, .f32⟩
  | 48 => ⟨S4096x128, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S4096x1, .f32⟩
  | 57 => ⟨S4096x128, .f32⟩
  | 58 => ⟨S4096x128, .f32⟩
  | 59 => ⟨S4096x128, .f32⟩
  | 60 => ⟨S4096x128, .f32⟩
  | 61 => ⟨S1x4096, .i32⟩
  | 62 => ⟨S4096x1, .i32⟩
  | 63 => ⟨S4096x4096, .i32⟩
  | 64 => ⟨S4096x4096, .i32⟩
  | 65 => ⟨S4096x4096, .i1⟩
  | 66 => ⟨S4096x1, .i32⟩
  | 67 => ⟨S1x4096, .i32⟩
  | 68 => ⟨S_, .i32⟩
  | 69 => ⟨S1x4096, .i32⟩
  | 70 => ⟨S1x4096, .i32⟩
  | 71 => ⟨S4096x4096, .i32⟩
  | 72 => ⟨S4096x4096, .i32⟩
  | 73 => ⟨S4096x4096, .i1⟩
  | 74 => ⟨S4096x4096, .i1⟩
  | 75 => ⟨S_, .f32⟩
  | 76 => ⟨S_, .f32⟩
  | 77 => ⟨S4096x4096, .f32⟩
  | 78 => ⟨S4096x4096, .f32⟩
  | 79 => ⟨S4096x4096, .f32⟩
  | 80 => ⟨S4096x128, .f32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .f32⟩
  | 88 => ⟨S4096x1, .f32⟩
  | 89 => ⟨S4096x128, .f32⟩
  | 90 => ⟨S4096x128, .f32⟩
  | 91 => ⟨S4096x128, .f32⟩
  | 92 => ⟨S4096x128, .f32⟩
  | 93 => ⟨S1x4096, .i32⟩
  | 94 => ⟨S4096x1, .i32⟩
  | 95 => ⟨S4096x4096, .i32⟩
  | 96 => ⟨S4096x4096, .i32⟩
  | 97 => ⟨S4096x4096, .i1⟩
  | 98 => ⟨S4096x1, .i32⟩
  | 99 => ⟨S1x4096, .i32⟩
  | 100 => ⟨S_, .i32⟩
  | 101 => ⟨S1x4096, .i32⟩
  | 102 => ⟨S1x4096, .i32⟩
  | 103 => ⟨S4096x4096, .i32⟩
  | 104 => ⟨S4096x4096, .i32⟩
  | 105 => ⟨S4096x4096, .i1⟩
  | 106 => ⟨S4096x4096, .i1⟩
  | 107 => ⟨S_, .f32⟩
  | 108 => ⟨S_, .f32⟩
  | 109 => ⟨S4096x4096, .f32⟩
  | 110 => ⟨S4096x4096, .f32⟩
  | 111 => ⟨S4096x4096, .f32⟩
  | 112 => ⟨S4096x128, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S4096, .f32⟩
  | 120 => ⟨S4096x1, .f32⟩
  | 121 => ⟨S4096x128, .f32⟩
  | 122 => ⟨S4096x128, .f32⟩
  | 123 => ⟨S4096x128, .f32⟩
  | 124 => ⟨S4096x128, .f32⟩
  | 125 => ⟨S1x4096, .i32⟩
  | 126 => ⟨S4096x1, .i32⟩
  | 127 => ⟨S4096x4096, .i32⟩
  | _ => ⟨S4096x1024, .f32⟩

abbrev hbmTy0_1 (i : Nat) : BufTy := match i % 128 with
  | 0 => ⟨S4096x4096, .i32⟩
  | 1 => ⟨S4096x4096, .i1⟩
  | 2 => ⟨S4096x1, .i32⟩
  | 3 => ⟨S1x4096, .i32⟩
  | 4 => ⟨S_, .i32⟩
  | 5 => ⟨S1x4096, .i32⟩
  | 6 => ⟨S1x4096, .i32⟩
  | 7 => ⟨S4096x4096, .i32⟩
  | 8 => ⟨S4096x4096, .i32⟩
  | 9 => ⟨S4096x4096, .i1⟩
  | 10 => ⟨S4096x4096, .i1⟩
  | 11 => ⟨S_, .f32⟩
  | 12 => ⟨S_, .f32⟩
  | 13 => ⟨S4096x4096, .f32⟩
  | 14 => ⟨S4096x4096, .f32⟩
  | 15 => ⟨S4096x4096, .f32⟩
  | 16 => ⟨S4096x128, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S4096x1, .f32⟩
  | 25 => ⟨S4096x128, .f32⟩
  | 26 => ⟨S4096x128, .f32⟩
  | 27 => ⟨S4096x128, .f32⟩
  | 28 => ⟨S4096x512, .f32⟩
  | 29 => ⟨S4096x128, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S128x4096, .f32⟩
  | 37 => ⟨S4096x128, .f32⟩
  | 38 => ⟨S4096x128, .f32⟩
  | 39 => ⟨S_, .f32⟩
  | 40 => ⟨S4096x512, .f32⟩
  | 41 => ⟨S4096x128, .f32⟩
  | 42 => ⟨S4096x128, .f32⟩
  | 43 => ⟨S4096x128, .f32⟩
  | 44 => ⟨S128x4096, .f32⟩
  | 45 => ⟨S4096x128, .f32⟩
  | 46 => ⟨S4096x128, .f32⟩
  | 47 => ⟨S_, .f32⟩
  | 48 => ⟨S4096x512, .f32⟩
  | 49 => ⟨S4096x512, .f32⟩
  | 50 => ⟨S4096x128, .f32⟩
  | 51 => ⟨S4096x128, .f32⟩
  | 52 => ⟨S4096x128, .f32⟩
  | 53 => ⟨S128x4096, .f32⟩
  | 54 => ⟨S4096x128, .f32⟩
  | 55 => ⟨S4096x128, .f32⟩
  | 56 => ⟨S_, .f32⟩
  | 57 => ⟨S4096x512, .f32⟩
  | 58 => ⟨S4096x512, .f32⟩
  | 59 => ⟨S4096x128, .f32⟩
  | 60 => ⟨S4096x128, .f32⟩
  | 61 => ⟨S4096x128, .f32⟩
  | 62 => ⟨S128x4096, .f32⟩
  | 63 => ⟨S4096x128, .f32⟩
  | 64 => ⟨S4096x128, .f32⟩
  | 65 => ⟨S_, .f32⟩
  | 66 => ⟨S4096x512, .f32⟩
  | 67 => ⟨S4096x512, .f32⟩
  | 68 => ⟨S4096x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_cst_7 : Ref sig .tc := ⟨.hbm, 76, rfl⟩
abbrev main_call1_v0 : Ref sig .tc := ⟨.hbm, 77, rfl⟩
abbrev main_call1_v1 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_v63 : Ref sig .tc := ⟨.hbm, 82, rfl⟩
abbrev main_v64 : Ref sig .tc := ⟨.hbm, 83, rfl⟩
abbrev main_c_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_cst_12 : Ref sig .tc := ⟨.hbm, 108, rfl⟩
abbrev main_call2_v0 : Ref sig .tc := ⟨.hbm, 109, rfl⟩
abbrev main_call2_v1 : Ref sig .tc := ⟨.hbm, 110, rfl⟩
abbrev main_v86 : Ref sig .tc := ⟨.hbm, 111, rfl⟩
abbrev main_v87 : Ref sig .tc := ⟨.hbm, 112, rfl⟩
abbrev main_c_13 : Ref sig .tc := ⟨.hbm, 113, rfl⟩
abbrev main_v88 : Ref sig .tc := ⟨.hbm, 114, rfl⟩
abbrev main_v89 : Ref sig .tc := ⟨.hbm, 115, rfl⟩
abbrev main_c_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_c_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_16 : Ref sig .tc := ⟨.hbm, 139, rfl⟩
abbrev main_cst_17 : Ref sig .tc := ⟨.hbm, 140, rfl⟩
abbrev main_call3_v0 : Ref sig .tc := ⟨.hbm, 141, rfl⟩
abbrev main_call3_v1 : Ref sig .tc := ⟨.hbm, 142, rfl⟩
abbrev main_v111 : Ref sig .tc := ⟨.hbm, 143, rfl⟩
abbrev main_v112 : Ref sig .tc := ⟨.hbm, 144, rfl⟩
abbrev main_c_18 : Ref sig .tc := ⟨.hbm, 145, rfl⟩
abbrev main_v113 : Ref sig .tc := ⟨.hbm, 146, rfl⟩
abbrev main_v114 : Ref sig .tc := ⟨.hbm, 147, rfl⟩
abbrev main_c_19 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_20 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_21 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_22 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_23 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩

abbrev nD : Nat := 1
abbrev τ : Topo := Topo.v7x

variable {F : FTy → Type} [FloatOps F]
-- ==== Pool.lean ====
abbrev S4096x512 : Shape := ⟨2, ![4096, 512]⟩
abbrev S4x128x128 : Shape := ⟨3, ![4, 128, 128]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S1x512, .f32⟩
  | .hbm, ⟨3, _⟩ => ⟨S4096x512, .bf16⟩
  | .hbm, ⟨4, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S4x128x128, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolReferenceIdeal.lean ====
abbrev S4096x512 : Shape := ⟨2, ![4096, 512]⟩
abbrev S4x128x128 : Shape := ⟨3, ![4, 128, 128]⟩
abbrev S1x512 : Shape := ⟨2, ![1, 512]⟩
abbrev S4096 : Shape := ⟨1, ![4096]⟩
abbrev S4096x128 : Shape := ⟨2, ![4096, 128]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4x128 : Shape := ⟨3, ![4096, 4, 128]⟩
abbrev S4x128x4096 : Shape := ⟨3, ![4, 128, 4096]⟩

abbrev nBuf : Space → Nat
  | .hbm => 141
  | .vmem => 0
  | .smem => 0
  | _ => 0

abbrev hbmTy0_0 (i : Nat) : BufTy := match i % 128 with
  | 0 => ⟨S4096x512, .f32⟩
  | 1 => ⟨S4x128x128, .f32⟩
  | 2 => ⟨S1x512, .f32⟩
  | 3 => ⟨S4096, .i32⟩
  | 4 => ⟨S4096x128, .f32⟩
  | 5 => ⟨S1x4096, .i32⟩
  | 6 => ⟨S4096x1, .i32⟩
  | 7 => ⟨S4096x4096, .i32⟩
  | 8 => ⟨S4096x4096, .i32⟩
  | 9 => ⟨S4096x4096, .i1⟩
  | 10 => ⟨S4096x1, .i32⟩
  | 11 => ⟨S1x4096, .i32⟩
  | 12 => ⟨S_, .i32⟩
  | 13 => ⟨S1x4096, .i32⟩
  | 14 => ⟨S1x4096, .i32⟩
  | 15 => ⟨S4096x4096, .i32⟩
  | 16 => ⟨S4096x4096, .i32⟩
  | 17 => ⟨S4096x4096, .i1⟩
  | 18 => ⟨S4096x4096, .i1⟩
  | 19 => ⟨S_, .f32⟩
  | 20 => ⟨S_, .f32⟩
  | 21 => ⟨S4096x4096, .f32⟩
  | 22 => ⟨S4096x4096, .f32⟩
  | 23 => ⟨S4096x4096, .f32⟩
  | 24 => ⟨S4096x128, .f32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .f32⟩
  | 32 => ⟨S4096x1, .f32⟩
  | 33 => ⟨S4096x128, .f32⟩
  | 34 => ⟨S4096x128, .f32⟩
  | 35 => ⟨S4096x128, .f32⟩
  | 36 => ⟨S4096x128, .f32⟩
  | 37 => ⟨S1x4096, .i32⟩
  | 38 => ⟨S4096x1, .i32⟩
  | 39 => ⟨S4096x4096, .i32⟩
  | 40 => ⟨S4096x4096, .i32⟩
  | 41 => ⟨S4096x4096, .i1⟩
  | 42 => ⟨S4096x1, .i32⟩
  | 43 => ⟨S1x4096, .i32⟩
  | 44 => ⟨S_, .i32⟩
  | 45 => ⟨S1x4096, .i32⟩
  | 46 => ⟨S1x4096, .i32⟩
  | 47 => ⟨S4096x4096, .i32⟩
  | 48 => ⟨S4096x4096, .i32⟩
  | 49 => ⟨S4096x4096, .i1⟩
  | 50 => ⟨S4096x4096, .i1⟩
  | 51 => ⟨S_, .f32⟩
  | 52 => ⟨S_, .f32⟩
  | 53 => ⟨S4096x4096, .f32⟩
  | 54 => ⟨S4096x4096, .f32⟩
  | 55 => ⟨S4096x4096, .f32⟩
  | 56 => ⟨S4096x128, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S4096x1, .f32⟩
  | 65 => ⟨S4096x128, .f32⟩
  | 66 => ⟨S4096x128, .f32⟩
  | 67 => ⟨S4096x128, .f32⟩
  | 68 => ⟨S4096x128, .f32⟩
  | 69 => ⟨S1x4096, .i32⟩
  | 70 => ⟨S4096x1, .i32⟩
  | 71 => ⟨S4096x4096, .i32⟩
  | 72 => ⟨S4096x4096, .i32⟩
  | 73 => ⟨S4096x4096, .i1⟩
  | 74 => ⟨S4096x1, .i32⟩
  | 75 => ⟨S1x4096, .i32⟩
  | 76 => ⟨S_, .i32⟩
  | 77 => ⟨S1x4096, .i32⟩
  | 78 => ⟨S1x4096, .i32⟩
  | 79 => ⟨S4096x4096, .i32⟩
  | 80 => ⟨S4096x4096, .i32⟩
  | 81 => ⟨S4096x4096, .i1⟩
  | 82 => ⟨S4096x4096, .i1⟩
  | 83 => ⟨S_, .f32⟩
  | 84 => ⟨S_, .f32⟩
  | 85 => ⟨S4096x4096, .f32⟩
  | 86 => ⟨S4096x4096, .f32⟩
  | 87 => ⟨S4096x4096, .f32⟩
  | 88 => ⟨S4096x128, .f32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S4096, .f32⟩
  | 96 => ⟨S4096x1, .f32⟩
  | 97 => ⟨S4096x128, .f32⟩
  | 98 => ⟨S4096x128, .f32⟩
  | 99 => ⟨S4096x128, .f32⟩
  | 100 => ⟨S4096x128, .f32⟩
  | 101 => ⟨S1x4096, .i32⟩
  | 102 => ⟨S4096x1, .i32⟩
  | 103 => ⟨S4096x4096, .i32⟩
  | 104 => ⟨S4096x4096, .i32⟩
  | 105 => ⟨S4096x4096, .i1⟩
  | 106 => ⟨S4096x1, .i32⟩
  | 107 => ⟨S1x4096, .i32⟩
  | 108 => ⟨S_, .i32⟩
  | 109 => ⟨S1x4096, .i32⟩
  | 110 => ⟨S1x4096, .i32⟩
  | 111 => ⟨S4096x4096, .i32⟩
  | 112 => ⟨S4096x4096, .i32⟩
  | 113 => ⟨S4096x4096, .i1⟩
  | 114 => ⟨S4096x4096, .i1⟩
  | 115 => ⟨S_, .f32⟩
  | 116 => ⟨S_, .f32⟩
  | 117 => ⟨S4096x4096, .f32⟩
  | 118 => ⟨S4096x4096, .f32⟩
  | 119 => ⟨S4096x4096, .f32⟩
  | 120 => ⟨S4096x128, .f32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S4096, .f32⟩
  | _ => ⟨S4096x512, .f32⟩

abbrev hbmTy0_1 (i : Nat) : BufTy := match i % 128 with
  | 0 => ⟨S4096x1, .f32⟩
  | 1 => ⟨S4096x128, .f32⟩
  | 2 => ⟨S4096x128, .f32⟩
  | 3 => ⟨S4096x128, .f32⟩
  | 4 => ⟨S4096x512, .f32⟩
  | 5 => ⟨S4096x512, .bf16⟩
  | 6 => ⟨S4096x4x128, .f32⟩
  | 7 => ⟨S4x128x4096, .f32⟩
  | 8 => ⟨S4096x4x128, .f32⟩
  | 9 => ⟨S4096x512, .f32⟩
  | 10 => ⟨S4096x512, .f32⟩
  | 11 => ⟨S4096x512, .f32⟩
  | 12 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_cst_10 : Ref sig .tc := ⟨.hbm, 84, rfl⟩
abbrev main_call2_v0 : Ref sig .tc := ⟨.hbm, 85, rfl⟩
abbrev main_call2_v1 : Ref sig .tc := ⟨.hbm, 86, rfl⟩
abbrev main_v65 : Ref sig .tc := ⟨.hbm, 87, rfl⟩
abbrev main_v66 : Ref sig .tc := ⟨.hbm, 88, rfl⟩
abbrev main_c_11 : Ref sig .tc := ⟨.hbm, 89, rfl⟩
abbrev main_v67 : Ref sig .tc := ⟨.hbm, 90, rfl⟩
abbrev main_v68 : Ref sig .tc := ⟨.hbm, 91, rfl⟩
abbrev main_c_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_cst_15 : Ref sig .tc := ⟨.hbm, 116, rfl⟩
abbrev main_call3_v0 : Ref sig .tc := ⟨.hbm, 117, rfl⟩
abbrev main_call3_v1 : Ref sig .tc := ⟨.hbm, 118, rfl⟩
abbrev main_v90 : Ref sig .tc := ⟨.hbm, 119, rfl⟩
abbrev main_v91 : Ref sig .tc := ⟨.hbm, 120, rfl⟩
abbrev main_c_16 : Ref sig .tc := ⟨.hbm, 121, rfl⟩
abbrev main_v92 : Ref sig .tc := ⟨.hbm, 122, rfl⟩
abbrev main_v93 : Ref sig .tc := ⟨.hbm, 123, rfl⟩
abbrev main_c_17 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]
-- ==== Forget.lean ====
abbrev S4096x128 : Shape := ⟨2, ![4096, 128]⟩
abbrev S1x8 : Shape := ⟨2, ![1, 8]⟩
abbrev S4096x8 : Shape := ⟨2, ![4096, 8]⟩
abbrev S8x4096 : Shape := ⟨2, ![8, 4096]⟩
abbrev S256x128 : Shape := ⟨2, ![256, 128]⟩
abbrev S8 : Shape := ⟨1, ![8]⟩
abbrev S8x32 : Shape := ⟨2, ![8, 32]⟩
abbrev S256 : Shape := ⟨1, ![256]⟩
abbrev S256x1 : Shape := ⟨2, ![256, 1]⟩
abbrev S128x128 : Shape := ⟨2, ![128, 128]⟩
abbrev S256x256 : Shape := ⟨2, ![256, 256]⟩

abbrev nBuf : Space → Nat
  | .hbm => 10
  | .vmem => 3
  | .smem => 0
  | _ => 0

abbrev bufTy : (tb : Table) → Fin (tcTables nBuf tb) → BufTy
  | .hbm, ⟨0, _⟩ => ⟨S4096x128, .f32⟩
  | .hbm, ⟨1, _⟩ => ⟨S1x8, .f32⟩
  | .hbm, ⟨2, _⟩ => ⟨S4096x8, .f32⟩
  | .hbm, ⟨3, _⟩ => ⟨S8x4096, .f32⟩
  | .hbm, ⟨4, _⟩ => ⟨S256x128, .f32⟩
  | .hbm, ⟨5, _⟩ => ⟨S8, .f32⟩
  | .hbm, ⟨6, _⟩ => ⟨S8x32, .f32⟩
  | .hbm, ⟨7, _⟩ => ⟨S256, .f32⟩
  | .hbm, ⟨8, _⟩ => ⟨S256x1, .f32⟩
  | .hbm, ⟨9, _⟩ => ⟨S256x128, .f32⟩
  | .local _ .vmem, ⟨0, _⟩ => ⟨S256x128, .f32⟩
  | .local _ .vmem, ⟨1, _⟩ => ⟨S256x1, .f32⟩
  | .local _ .vmem, ⟨2, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ForgetReferenceIdeal.lean ====
abbrev S4096x128 : Shape := ⟨2, ![4096, 128]⟩
abbrev S1x8 : Shape := ⟨2, ![1, 8]⟩
abbrev S4096x8 : Shape := ⟨2, ![4096, 8]⟩
abbrev S_ : Shape := ⟨0, ![]⟩
abbrev S8x4096 : Shape := ⟨2, ![8, 4096]⟩
abbrev S256x128 : Shape := ⟨2, ![256, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S_, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .i1⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S8x4096, .f32⟩
  | .hbm, ⟨25, _⟩ => ⟨S256x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== ForgetGrad.lean ====
abbrev S8x4096 : Shape := ⟨2, ![8, 4096]⟩
abbrev S4096x128 : Shape := ⟨2, ![4096, 128]⟩
abbrev S1x8 : Shape := ⟨2, ![1, 8]⟩
abbrev S256x128 : Shape := ⟨2, ![256, 128]⟩
abbrev S4096x8 : Shape := ⟨2, ![4096, 8]⟩
abbrev S8 : Shape := ⟨1, ![8]⟩
abbrev S8x32 : Shape := ⟨2, ![8, 32]⟩
abbrev S256 : Shape := ⟨1, ![256]⟩
abbrev S256x1 : Shape := ⟨2, ![256, 1]⟩
abbrev S8x128 : Shape := ⟨2, ![8, 128]⟩
abbrev S128x128 : Shape := ⟨2, ![128, 128]⟩
abbrev S256x256 : Shape := ⟨2, ![256, 256]⟩
abbrev S8x256 : Shape := ⟨2, ![8, 256]⟩

abbrev nBuf : Space → Nat
  | .hbm => 13
  | .vmem => 5
  | .smem => 0
  | _ => 0

abbrev bufTy : (tb : Table) → Fin (tcTables nBuf tb) → BufTy
  | .hbm, ⟨0, _⟩ => ⟨S8x4096, .f32⟩
  | .hbm, ⟨1, _⟩ => ⟨S4096x128, .f32⟩
  | .hbm, ⟨2, _⟩ => ⟨S1x8, .f32⟩
  | .hbm, ⟨3, _⟩ => ⟨S256x128, .f32⟩
  | .hbm, ⟨4, _⟩ => ⟨S4096x8, .f32⟩
  | .hbm, ⟨5, _⟩ => ⟨S8x4096, .f32⟩
  | .hbm, ⟨6, _⟩ => ⟨S256x128, .f32⟩
  | .hbm, ⟨7, _⟩ => ⟨S8, .f32⟩
  | .hbm, ⟨8, _⟩ => ⟨S8x32, .f32⟩
  | .hbm, ⟨9, _⟩ => ⟨S256, .f32⟩
  | .hbm, ⟨10, _⟩ => ⟨S256x1, .f32⟩
  | .hbm, ⟨11, _⟩ => ⟨S256x128, .f32⟩
  | .hbm, ⟨12, _⟩ => ⟨S8x128, .f32⟩
  | .local _ .vmem, ⟨0, _⟩ => ⟨S256x128, .f32⟩
  | .local _ .vmem, ⟨1, _⟩ => ⟨S256x128, .f32⟩
  | .local _ .vmem, ⟨2, _⟩ => ⟨S256x1, .f32⟩
  | .local _ .vmem, ⟨3, _⟩ => ⟨S256x128, .f32⟩
  | .local _ .vmem, ⟨4, _⟩ => ⟨S8x128, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ForgetGradReferenceIdeal.lean ====
abbrev S8x4096 : Shape := ⟨2, ![8, 4096]⟩
abbrev S4096x128 : Shape := ⟨2, ![4096, 128]⟩
abbrev S1x8 : Shape := ⟨2, ![1, 8]⟩
abbrev S4096x8 : Shape := ⟨2, ![4096, 8]⟩
abbrev S_ : Shape := ⟨0, ![]⟩
abbrev S8 : Shape := ⟨1, ![8]⟩
abbrev S256x128 : Shape := ⟨2, ![256, 128]⟩
abbrev S8x1 : Shape := ⟨2, ![8, 1]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x128, .f32⟩
  | .hbm, ⟨2, _⟩ => ⟨S1x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x8, .f32⟩
  | .hbm, ⟨23, _⟩ => ⟨S4096x8, .i1⟩
  | .hbm, ⟨24, _⟩ => ⟨S_, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .i1⟩
  | .hbm, ⟨30, _⟩ => ⟨S_, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .i1⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S8x4096, .f32⟩
  | .hbm, ⟨55, _⟩ => ⟨S_, .f32⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S_, .f32⟩
  | .hbm, ⟨60, _⟩ => ⟨S8x4096, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S_, .f32⟩
  | .hbm, ⟨66, _⟩ => ⟨S8, .f32⟩
  | .hbm, ⟨67, _⟩ => ⟨S1x8, .f32⟩
  | .hbm, ⟨68, _⟩ => ⟨S8x4096, .f32⟩
  | .hbm, ⟨69, _⟩ => ⟨S256x128, .f32⟩
  | .hbm, ⟨70, _⟩ => ⟨S8x1, .f32⟩
  | .hbm, ⟨71, _⟩ => ⟨S8x128, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_v4 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩

abbrev nD : Nat := 1
abbrev τ : Topo := Topo.v7x

variable {F : FTy → Type} [FloatOps F]
-- ==== OutGrad.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutGradReferenceIdeal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S_, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Finite.lean ====
/-
  WHAT "EVERY ENTRY IS FINITE" SAYS: an extended real whose magnitude compares below the pattern of infinity is neither
  of the two infinities.
-/
module

public import Idealize.ShloMosaic.Lib.Pointwise
public import Idealize.ShloMosaic.Lib.StableHlo

@[expose] public section

noncomputable section

open Idealize.ShloMosaic

namespace Cert.Finite

theorem of_lt (x : EReal) (b : EReal) (e : b = ⊤) (h : Ideal.cmp .olt (max x (-x)) b = 1#1) : x ≠ ⊥ ∧ x ≠ ⊤ := by
  subst e
  refine ⟨?_, ?_⟩ <;> rintro rfl <;> simp [Ideal.cmp] at h

theorem f32 (x : EReal) (h : Ideal.cmp .olt (max x (-x)) (Ideal.ofBits .f32 0x7F800000#32) = 1#1) : x ≠ ⊥ ∧ x ≠ ⊤ :=
  of_lt x _ (by simp [Ideal.ofBits, Ideal.ieee]) h

theorem bf16 (x : EReal) (h : Ideal.cmp .olt (max x (-x)) (Ideal.ofBits .bf16 0x7F80#16) = 1#1) : x ≠ ⊥ ∧ x ≠ ⊤ :=
  of_lt x _ (by simp [Ideal.ofBits, Ideal.ieee]) h

theorem coe (r : ℝ) : (r : EReal) ≠ ⊥ ∧ (r : EReal) ≠ ⊤ := ⟨EReal.coe_ne_bot r, EReal.coe_ne_top r⟩

/-- A finite extended real is a real number. -/
theorem real (a : EReal) (h : a ≠ ⊥ ∧ a ≠ ⊤) : ∃ r : ℝ, a = r := ⟨a.toReal, (EReal.coe_toReal h.2 h.1).symm⟩

theorem mul (a b : EReal) (ha : a ≠ ⊥ ∧ a ≠ ⊤) (hb : b ≠ ⊥ ∧ b ≠ ⊤) : a * b ≠ ⊥ ∧ a * b ≠ ⊤ := by
  obtain ⟨r, rfl⟩ := real a ha
  obtain ⟨s, rfl⟩ := real b hb
  rw [← EReal.coe_mul]
  exact coe _

/-- A finite sum of products of finite numbers is finite. -/
theorem sum_mul {ι : Type} (s : Finset ι) (a b : ι → EReal) (ha : ∀ k, a k ≠ ⊥ ∧ a k ≠ ⊤) (hb : ∀ k, b k ≠ ⊥ ∧ b k ≠ ⊤) :
    ∃ r : ℝ, ∑ k ∈ s, a k * b k = r := by
  choose a' ha' using fun k => (⟨(a k).toReal, (EReal.coe_toReal (ha k).2 (ha k).1).symm⟩ : ∃ r : ℝ, a k = r)
  choose b' hb' using fun k => (⟨(b k).toReal, (EReal.coe_toReal (hb k).2 (hb k).1).symm⟩ : ∃ r : ℝ, b k = r)
  refine ⟨∑ k ∈ s, a' k * b' k, ?_⟩
  simp only [ha', hb', ← EReal.coe_mul]
  induction s using Finset.cons_induction with
  | empty => simp
  | cons k s hk ih => rw [Finset.sum_cons, Finset.sum_cons, EReal.coe_add, ih]

end Cert.Finite

end
-- ==== Proof.Gate.Value.lean ====
/-
  WHAT THE GATE'S BACKWARD CALL COMPUTES: its two result arrays at an index, as sums over the operands. Each of the sixteen
  points reads a block of 256 rows of every row-cut operand and the whole down weight, and writes back the same 256 rows
  of both results, so the blocks put together are the whole arrays.
-/
module

public import proofs.«01_k».proof.Defs
public import proofs.«01_k».proof.Proof.Gen.GateGradIdeal.Value
public import proofs.«01_k».proof.Proof.Gen.GateGradReferenceIdeal.Run
public import proofs.«01_k».proof.Proof.Finite
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.GateGradIdeal.Hand

open Cert.GateGradIdeal Cert.GateGradIdeal.Gen

theorem hz : (![0, 0] : Fin 2 → Nat) = fun _ => 0 := funext fun a => by fin_cases a <;> rfl

/-- The gradient of the activation: the product of the result's gradient with the transposed down weight, at row `r` and
    feature `f`. -/
def dact (dx : S4096x1024.Idx → EReal) (w : S2816x1024.Idx → EReal) (r : Fin 4096) (f : Fin 2816) : EReal :=
  ∑ k : Fin 1024, dx (ix2 r k) * w (ix2 f k)

/-- The kernel's gradient of the gate. -/
def dgate (dx : S4096x1024.Idx → EReal) (w : S2816x1024.Idx → EReal) (g u : S4096x2816.Idx → EReal) (i : S4096x2816.Idx) : EReal :=
  dact dx w (i 0) (i 1) * u i * (Ideal.logistic (g i) * (1 + g i * (1 - Ideal.logistic (g i))))

/-- The kernel's gradient of the factor beside the gate. -/
def dup (dx : S4096x1024.Idx → EReal) (w : S2816x1024.Idx → EReal) (g : S4096x2816.Idx → EReal) (i : S4096x2816.Idx) : EReal :=
  dact dx w (i 0) (i 1) * (g i * Ideal.logistic (g i))

theorem pay5_apply (x0 : Vec Ideal S256x1024 .f32) (x1 : Vec Ideal S2816x1024 .bf16) (x2 x3 : Vec Ideal S256x2816 .bf16) (r : Fin 256) (f : Fin 2816) :
    k0_pay5 x0 x1 x2 x3 (ix2 r f) = (∑ k : Fin 1024, (show EReal from x0 (ix2 r k)) * (show EReal from x1 (ix2 f k))) * (show EReal from x3 (ix2 r f))
      * (Ideal.logistic (x2 (ix2 r f)) * (1 + (show EReal from x2 (ix2 r f)) * (1 - Ideal.logistic (x2 (ix2 r f))))) := by
  unfold_payloads
  pointwise

theorem pay4_apply (x0 : Vec Ideal S256x1024 .f32) (x1 : Vec Ideal S2816x1024 .bf16) (x2 : Vec Ideal S256x2816 .bf16) (r : Fin 256) (f : Fin 2816) :
    k0_pay4 x0 x1 x2 (ix2 r f) = (∑ k : Fin 1024, (show EReal from x0 (ix2 r k)) * (show EReal from x1 (ix2 f k)))
      * ((show EReal from x2 (ix2 r f)) * Ideal.logistic (x2 (ix2 r f))) := by
  unfold_payloads
  pointwise

variable (m : (ℓ : Loc nD τ sig) → Buf (Elt Ideal) ℓ) (ρ : Dev nD → PrngReg)

/-- The row of the whole arrays that row `k` of point `t`'s block is. -/
def row (t : Fin cfg0.N) (k : Fin 256) : Fin 4096 := ⟨t.val * 256 + k.val, by have := t.isLt; have : cfg0.N = 16 := N_0; omega⟩

/-- Point `t`'s block of operand 0: its 256 rows. -/
theorem iblk0 (c : Dev nD) (t : Fin cfg0.N) (r : Fin 256) (k : Fin 1024) :
    (iblk m c 0 t : Vec Ideal S256x1024 .f32) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

/-- Every point's block of the down weight is the whole weight. -/
theorem iblk1 (c : Dev nD) (t : Fin cfg0.N) (f : Fin 2816) (k : Fin 1024) :
    (iblk m c 1 t : Vec Ideal S2816x1024 .bf16) (ix2 f k) = m (c.tc.loc main_arg1) (ix2 f k) := by
  have hi : win0_1.index t 0 = 0 ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 2816 + 1 * f.val = f.val; rw [hi.1]; omega
  | ⟨1, _⟩ => show win0_1.index t 1 * 1024 + 1 * k.val = k.val; rw [hi.2]; omega

/-- Point `t`'s block of operand 2: its 256 rows. -/
theorem iblk2 (c : Dev nD) (t : Fin cfg0.N) (r : Fin 256) (k : Fin 2816) :
    (iblk m c 2 t : Vec Ideal S256x2816 .bf16) (ix2 r k) = m (c.tc.loc main_arg2) (ix2 (row t r) k) := by
  have hi : win0_2.index t 0 = t.val ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [hi.1]; omega
  | ⟨1, _⟩ => show win0_2.index t 1 * 2816 + 1 * k.val = k.val; rw [hi.2]; omega

/-- Point `t`'s block of operand 3: its 256 rows. -/
theorem iblk3 (c : Dev nD) (t : Fin cfg0.N) (r : Fin 256) (k : Fin 2816) :
    (iblk m c 3 t : Vec Ideal S256x2816 .bf16) (ix2 r k) = m (c.tc.loc main_arg3) (ix2 (row t r) k) := by
  have hi : win0_3.index t 0 = t.val ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 256 + 1 * r.val = t.val * 256 + r.val; rw [hi.1]; omega
  | ⟨1, _⟩ => show win0_3.index t 1 * 2816 + 1 * k.val = k.val; rw [hi.2]; omega

/-- Where point `t`'s block of result 0 lies: at its 256 rows. -/
theorem blk4_apply (t : Fin cfg0.N) (G : S4096x2816.Idx → EReal) (r : Fin 256) (f : Fin 2816) :
    ((win0_4.blk t).view.read (Elt Ideal) G : Vec Ideal S256x2816 .bf16) (ix2 r f) = G (ix2 (row t r) f) := by
  have hi : win0_4.index t 0 = t.val ∧ win0_4.index t 1 = 0 := by revert t; decide
  rw [View.read_apply]
  show G _ = G _
  congr 1
  funext a
  apply Fin.ext
  match a with
  | ⟨0, _⟩ => show win0_4.index t 0 * 256 + 1 * r.val = t.val * 256 + r.val; rw [hi.1]; omega
  | ⟨1, _⟩ => show win0_4.index t 1 * 2816 + 1 * f.val = f.val; rw [hi.2]; omega

/-- What the body computes for result 0 at point `t`, at an index of the block. -/
theorem point4 (c : Dev nD) (t : Fin cfg0.N) (r : Fin 256) (f : Fin 2816) :
    k0_pay5 (iblk m c 0 t) (iblk m c 1 t) (iblk m c 2 t) (iblk m c 3 t) (ix2 r f) = dgate (m (c.tc.loc main_arg0)) (m (c.tc.loc main_arg1)) (m (c.tc.loc main_arg2)) (m (c.tc.loc main_arg3)) (ix2 (row t r) f) := by
  rw [pay5_apply]
  simp only [iblk0, iblk1, iblk2, iblk3]
  rfl

/-- What point `t` writes back of result 0. -/
theorem flushed4_eq (c : Dev nD) (t : Fin cfg0.N) :
    (dats m 0 c).flushed 4 t = (win0_4.blk t).view.read (Elt Ideal) (dgate (m (c.tc.loc main_arg0)) (m (c.tc.loc main_arg1)) (m (c.tc.loc main_arg2)) (m (c.tc.loc main_arg3))) := by
  rw [Value.flushed4]
  unfold out0_4
  rw [View.canon_unit_zero hz]
  simp only [View.ld_unit_zero (S := S256x1024) hz, View.ld_unit_zero (S := S2816x1024) hz, View.ld_unit_zero (S := S256x2816) hz]
  funext i
  rw [eq_ix2 i]
  refine Eq.trans ?_ (blk4_apply t _ (i 0) (i 1)).symm
  exact point4 m c t (i 0) (i 1)

theorem mem_blk4 (t : Fin cfg0.N) (i : S4096x2816.Idx) :
    i ∈ ((cfg0.win 4).blk t).view.set ↔ t.val * 256 ≤ (i 0 : Nat) ∧ (i 0 : Nat) < t.val * 256 + 256 := by
  show i ∈ ((View.whole main_v0_0).slice (win0_4.rect t)).set ↔ _
  rw [View.set_slice_whole, Rect.mem_set_unit]
  have h1 : (i 1 : Nat) < 2816 := (i 1).isLt
  have e : win0_4.index t 0 * win0_4.size 0 = t.val * 256 ∧ win0_4.xsize (grid0.coords t) 0 = 256
      ∧ win0_4.index t 1 * win0_4.size 1 = 0 ∧ win0_4.xsize (grid0.coords t) 1 = 2816 := by revert t; decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0; rw [e.1, e.2.1]; exact h
    | ⟨1, _⟩ => show win0_4.index t 1 * win0_4.size 1 ≤ (i 1 : Nat) ∧ (i 1 : Nat) < win0_4.index t 1 * win0_4.size 1 + win0_4.xsize (grid0.coords t) 1; rw [e.2.2.1, e.2.2.2]; omega

theorem cover4 (i : S4096x2816.Idx) :
    ∃ t : Fin cfg0.N, (cfg0.win 4).flush t = true ∧ i ∈ ((cfg0.win 4).blk t).view.set := by
  have h0 : (i 0 : Nat) < 4096 := (i 0).isLt
  have hN : cfg0.N = 16 := N_0
  refine ⟨⟨(i 0 : Nat) / 256, by omega⟩, flush0_4 _, ?_⟩
  rw [mem_blk4]
  dsimp only
  omega

/-- Result 0 after the run. -/
theorem final4 (c : Dev nD) : (dats m 0 c).arrAt 4 cfg0.N = dgate (m (c.tc.loc main_arg0)) (m (c.tc.loc main_arg1)) (m (c.tc.loc main_arg2)) (m (c.tc.loc main_arg3)) :=
  (dats m 0 c).arrAt_eq_of_cover 4 _ (fun t _ => flushed4_eq m c t) cover4

/-- Where point `t`'s block of result 1 lies: at its 256 rows. -/
theorem blk5_apply (t : Fin cfg0.N) (G : S4096x2816.Idx → EReal) (r : Fin 256) (f : Fin 2816) :
    ((win0_5.blk t).view.read (Elt Ideal) G : Vec Ideal S256x2816 .bf16) (ix2 r f) = G (ix2 (row t r) f) := by
  have hi : win0_5.index t 0 = t.val ∧ win0_5.index t 1 = 0 := by revert t; decide
  rw [View.read_apply]
  show G _ = G _
  congr 1
  funext a
  apply Fin.ext
  match a with
  | ⟨0, _⟩ => show win0_5.index t 0 * 256 + 1 * r.val = t.val * 256 + r.val; rw [hi.1]; omega
  | ⟨1, _⟩ => show win0_5.index t 1 * 2816 + 1 * f.val = f.val; rw [hi.2]; omega

/-- What the body computes for result 1 at point `t`, at an index of the block. -/
theorem point5 (c : Dev nD) (t : Fin cfg0.N) (r : Fin 256) (f : Fin 2816) :
    k0_pay4 (iblk m c 0 t) (iblk m c 1 t) (iblk m c 2 t) (ix2 r f) = dup (m (c.tc.loc main_arg0)) (m (c.tc.loc main_arg1)) (m (c.tc.loc main_arg2)) (ix2 (row t r) f) := by
  rw [pay4_apply]
  simp only [iblk0, iblk1, iblk2]
  rfl

/-- What point `t` writes back of result 1. -/
theorem flushed5_eq (c : Dev nD) (t : Fin cfg0.N) :
    (dats m 0 c).flushed 5 t = (win0_5.blk t).view.read (Elt Ideal) (dup (m (c.tc.loc main_arg0)) (m (c.tc.loc main_arg1)) (m (c.tc.loc main_arg2))) := by
  rw [Value.flushed5]
  unfold out0_5
  rw [View.canon_unit_zero hz]
  simp only [View.ld_unit_zero (S := S256x1024) hz, View.ld_unit_zero (S := S2816x1024) hz, View.ld_unit_zero (S := S256x2816) hz]
  funext i
  rw [eq_ix2 i]
  refine Eq.trans ?_ (blk5_apply t _ (i 0) (i 1)).symm
  exact point5 m c t (i 0) (i 1)

theorem mem_blk5 (t : Fin cfg0.N) (i : S4096x2816.Idx) :
    i ∈ ((cfg0.win 5).blk t).view.set ↔ t.val * 256 ≤ (i 0 : Nat) ∧ (i 0 : Nat) < t.val * 256 + 256 := by
  show i ∈ ((View.whole main_v0_1).slice (win0_5.rect t)).set ↔ _
  rw [View.set_slice_whole, Rect.mem_set_unit]
  have h1 : (i 1 : Nat) < 2816 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 2816 := by revert t; decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0; rw [e.1, e.2.1]; exact h
    | ⟨1, _⟩ => show win0_5.index t 1 * win0_5.size 1 ≤ (i 1 : Nat) ∧ (i 1 : Nat) < win0_5.index t 1 * win0_5.size 1 + win0_5.xsize (grid0.coords t) 1; rw [e.2.2.1, e.2.2.2]; omega

theorem cover5 (i : S4096x2816.Idx) :
    ∃ t : Fin cfg0.N, (cfg0.win 5).flush t = true ∧ i ∈ ((cfg0.win 5).blk t).view.set := by
  have h0 : (i 0 : Nat) < 4096 := (i 0).isLt
  have hN : cfg0.N = 16 := N_0
  refine ⟨⟨(i 0 : Nat) / 256, by omega⟩, flush0_5 _, ?_⟩
  rw [mem_blk5]
  dsimp only
  omega

/-- Result 1 after the run. -/
theorem final5 (c : Dev nD) : (dats m 0 c).arrAt 5 cfg0.N = dup (m (c.tc.loc main_arg0)) (m (c.tc.loc main_arg1)) (m (c.tc.loc main_arg2)) :=
  (dats m 0 c).arrAt_eq_of_cover 5 _ (fun t _ => flushed5_eq m c t) cover5

/-- The two programs' results at an index, from finite operands: the reference's derivative of the gate written as a sum
    and the kernel's as a product are the same number. -/
theorem real_eq (d s g : ℝ) : (d : EReal) * ((s : EReal) * (1 + g * (1 - s))) = d * s + g * d * (s * (1 - s)) := by
  norm_cast
  ring

theorem agree_at (d g : EReal) (hb : d ≠ ⊥) (ht : d ≠ ⊤) :
    d * (Ideal.logistic g * (1 + g * (1 - Ideal.logistic g))) = d * Ideal.logistic g + g * d * (Ideal.logistic g * (1 - Ideal.logistic g)) := by
  lift d to ℝ using ⟨ht, hb⟩
  induction g using EReal.rec with
  | bot => simp
  | top =>
    have h : (1 - 1 : EReal) = 0 := by rw [← EReal.coe_one, ← EReal.coe_sub]; simp
    simp [h]
  | coe g =>
    rw [Ideal.logistic_coe]
    exact real_eq _ _ _

/-- The precondition's shape facts. -/
instance preFacts : Cert.Pre_gate_operands_finite.Facts := ⟨by decide, by decide, by decide⟩

theorem agrees : algebraic_GateGradIdeal_GateGradReferenceIdeal_pre_gate_operands_finite := by
  intro m g m' g' hpre hm
  refine ⟨fun c => dgate (m (c.tc.loc main_arg0)) (m (c.tc.loc main_arg1)) (m (c.tc.loc main_arg2)) (m (c.tc.loc main_arg3)),
    fun c => dup (m (c.tc.loc main_arg0)) (m (c.tc.loc main_arg1)) (m (c.tc.loc main_arg2)),
    (θ_run defs _ _).mono (fun r h c => ⟨(h c).1.trans (final4 m c), (h c).2.1.trans (final5 m c), (h c).2.2⟩) (Cert.GateGradIdeal.Value.run_blocks m g), ?_⟩
  refine (θ_run Cert.GateGradReferenceIdeal.defs _ _).mono (fun r h c => ⟨(h c).1.trans ?_, (h c).2.1.trans ?_, (h c).2.2⟩) (Cert.GateGradReferenceIdeal.Value.run m' g')
  · obtain ⟨e0, e1, e2, e3⟩ := hm c
    rw [e0, e1, e2, e3]
    beta_reduce
    have f0 (i) := Cert.Finite.f32 _ (congrFun (hpre c).1 i)
    have f1 (i) := Cert.Finite.bf16 _ (congrFun (hpre c).2.1 i)
    have f3 (i) := Cert.Finite.bf16 _ (congrFun (hpre c).2.2 i)
    revert f0 f1 f3
    generalize m (c.tc.loc main_arg0) = x
    generalize m (c.tc.loc main_arg1) = w
    generalize m (c.tc.loc main_arg2) = ga
    generalize m (c.tc.loc main_arg3) = u
    intro f0 f1 f3
    funext i
    rw [eq_ix2 i]
    generalize i 0 = p
    generalize i 1 = q
    pointwise
    obtain ⟨d, hd⟩ := Cert.Finite.sum_mul Finset.univ (fun k : Fin 1024 => (show EReal from x (ix2 p k))) (fun k => (show EReal from w (ix2 q k)))
      (fun k => f0 _) (fun k => f1 _)
    have hf := Cert.Finite.mul _ _ (hd ▸ Cert.Finite.coe d) (f3 (ix2 p q))
    exact (agree_at _ (ga (ix2 p q)) hf.1 hf.2).symm
  · obtain ⟨e0, e1, e2, e3⟩ := hm c
    rw [e0, e1, e2]
    beta_reduce
    generalize m (c.tc.loc main_arg0) = x
    generalize m (c.tc.loc main_arg1) = w
    generalize m (c.tc.loc main_arg2) = ga
    funext i
    rw [eq_ix2 i]
    generalize i 0 = p
    generalize i 1 = q
    pointwise
    exact mul_comm _ _

end Cert.GateGradIdeal.Hand

end
-- ==== Proof.Down.Value.lean ====
/-
  WHAT THE DOWN WEIGHT'S GRADIENT CALL COMPUTES: the result at an index is the sum, over all 4096 rows, of the products of the two operands'
  entries there. Each of the four points adds the product of its 1024 rows to the running sum that the kernel carries
  between points, starting from zero; the last point writes the sum back. The reference is the one product over all rows.
-/
module

public import proofs.«01_k».proof.Defs
public import proofs.«01_k».proof.Proof.Gen.DownGradIdeal.Value
public import proofs.«01_k».proof.Proof.Gen.DownGradReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.DownGradIdeal.Hand

open Cert.DownGradIdeal Cert.DownGradIdeal.Gen Cert.DownGradIdeal.Value

theorem hz : (![0, 0] : Fin 2 → Nat) = fun _ => 0 := funext fun a => by fin_cases a <;> rfl

section Cases

variable {F : FTy → Type} [FloatOps F]
variable (c : Dev nD) (i : grid0.Coords) (a1 : Memref sig .tc .vmem S1024x2816 .bf16) (h1 : a1.IsWhole)
  (a2 : Memref sig .tc .vmem S1024x1024 .f32) (h2 : a2.IsWhole) (a3 : Memref sig .tc .vmem S2816x1024 .bf16) (h3 : a3.IsWhole)
  (a4 : Memref sig .tc .vmem S2816x1024 .f32) (h4 : a4.IsWhole) (x0 : Vec F S1024x2816 .bf16) (x1 : Vec F S1024x1024 .f32)

/-- The first point leaves its product added to zero in the running sum. -/
theorem sum_A (hc0 : cond0_0 i) (hc1 : ¬cond0_1 i) :
    sout0_A_0 c i a1 h1 a2 h2 a3 h3 a4 h4 hc0 hc1 x0 x1 = k0_pay2 x1 x0 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S2816x1024) hz, View.readCov_unit_zero (S := S2816x1024) _ hz]
  simp only [View.readAt_eq_ld, h1.read_unread, h2.read_unread, View.ld_unit_zero (S := S1024x2816) hz,
    View.ld_unit_zero (S := S1024x1024) hz]

/-- A middle point adds its product to the running sum. -/
theorem sum_B (hc0 : ¬cond0_0 i) (hc1 : ¬cond0_1 i) (xs : Vec F S2816x1024 .f32) :
    sout0_B_0 c i a1 h1 a2 h2 a3 h3 a4 h4 hc0 hc1 x0 x1 xs = k0_pay2 x1 x0 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S1024x2816) hz,
    View.ld_unit_zero (S := S1024x1024) hz, View.ld_unit_zero (S := S2816x1024) hz]

/-- The last point writes back the running sum with its own product added. -/
theorem out_C (hc0 : ¬cond0_0 i) (hc1 : cond0_1 i) (xs : Vec F S2816x1024 .f32) :
    out0_C_2 c i a1 h1 a2 h2 a3 h3 a4 h4 hc0 hc1 x0 x1 xs = k0_pay3 (k0_pay2 x1 x0 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S2816x1024) _ hz]
  simp only [View.readAt_eq_ld, h1.read_unread, h2.read_unread, h4.read_unread, View.ld_unit_zero (S := S1024x2816) hz,
    View.ld_unit_zero (S := S1024x1024) hz, View.ld_unit_zero (S := S2816x1024) hz]

end Cases

variable (m : (ℓ : Loc nD τ sig) → Buf (Elt Ideal) ℓ) (ρ : Dev nD → PrngReg)

/-- Point `t`'s block of the first operand. -/
theorem iblk0 (c : Dev nD) (t : Fin cfg0.N) (k : Fin 1024) (p : Fin 2816) :
    (iblk m c 0 t : Vec Ideal S1024x2816 .bf16) (ix2 k p)
      = m (c.tc.loc main_arg0) (ix2 (⟨t.val * 1024 + k.val, by have := t.isLt; have : cfg0.N = 4 := N_0; omega⟩ : Fin 4096) p) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 1024 + 1 * k.val = t.val * 1024 + k.val; rw [hi.1]; omega
  | ⟨1, _⟩ => show win0_0.index t 1 * 2816 + 1 * p.val = p.val; rw [hi.2]; omega

/-- Point `t`'s block of the second operand. -/
theorem iblk1 (c : Dev nD) (t : Fin cfg0.N) (k : Fin 1024) (q : Fin 1024) :
    (iblk m c 1 t : Vec Ideal S1024x1024 .f32) (ix2 k q)
      = m (c.tc.loc main_arg1) (ix2 (⟨t.val * 1024 + k.val, by have := t.isLt; have : cfg0.N = 4 := N_0; omega⟩ : Fin 4096) q) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 1024 + 1 * k.val = t.val * 1024 + k.val; rw [hi.1]; omega
  | ⟨1, _⟩ => show win0_1.index t 1 * 1024 + 1 * q.val = q.val; rw [hi.2]; omega

theorem pay1_apply (p : Fin 2816) (q : Fin 1024) : (k0_pay1 : FVec Ideal S2816x1024 .f32) (ix2 p q) = (0 : EReal) := by
  unfold k0_pay1
  rw [shapeCast_self]
  exact Ideal.ofBits_zero_f32

theorem pay2_apply (b : Vec Ideal S1024x1024 .f32) (a : Vec Ideal S1024x2816 .bf16) (acc : Vec Ideal S2816x1024 .f32)
    (p : Fin 2816) (q : Fin 1024) :
    k0_pay2 b a acc (ix2 p q) = (acc (ix2 p q) + ∑ k : Fin 1024, a (ix2 k p) * b (ix2 k q) : EReal) := by
  unfold k0_pay2
  rw [shapeCast_self]
  pointwise

theorem pay3_apply (x : Vec Ideal S2816x1024 .f32) (p : Fin 2816) (q : Fin 1024) :
    k0_pay3 x (ix2 p q) = (x (ix2 p q) : EReal) := rfl

/-- The result array as the four points' steps, one after the other. -/
theorem result_steps (c : Dev nD) : G2 m c = k0_pay3 (k0_pay2 (iblk m c 1 t0_3) (iblk m c 0 t0_3)
      (k0_pay2 (iblk m c 1 t0_2) (iblk m c 0 t0_2) (k0_pay2 (iblk m c 1 t0_1) (iblk m c 0 t0_1)
        (k0_pay2 (iblk m c 1 t0_0) (iblk m c 0 t0_0) (k0_pay1 (F := Ideal)))))) := by
  rw [G2_last]
  show (stAt0 m c t0_3.val t0_3.isLt (stAt0 m c t0_2.val t0_2.isLt (stAt0 m c t0_1.val t0_1.isLt
    (stAt0 m c t0_0.val t0_0.isLt junk0)))).1 = _
  rw [stAt0_C m c t0_3 _ (by decide) (by decide)]
  dsimp only
  rw [out_C, stAt0_B m c t0_2 _ (by decide) (by decide)]
  dsimp only
  rw [sum_B, stAt0_B m c t0_1 _ (by decide) (by decide)]
  dsimp only
  rw [sum_B, stAt0_A m c t0_0 _ (by decide) (by decide)]
  dsimp only
  rw [sum_A]

/-- The result at an index: the sum over all rows. -/
theorem result_apply (c : Dev nD) (p : Fin 2816) (q : Fin 1024) :
    G2 m c (ix2 p q) = (∑ s : Fin 4096, (show EReal from m (c.tc.loc main_arg0) (ix2 s p)) * (show EReal from m (c.tc.loc main_arg1) (ix2 s q))) := by
  rw [result_steps, pay3_apply, pay2_apply, pay2_apply, pay2_apply, pay2_apply, pay1_apply, zero_add,
    Fin.sum_univ_tiles 4 1024 rfl, Fin.sum_univ_four]
  simp only [iblk0, iblk1]
  rfl

/-- The reference's result at an index is the same sum. -/
theorem agrees : algebraic_DownGradIdeal_DownGradReferenceIdeal := by
  intro m g m' g' _ hm
  refine ⟨fun c => G2 m c, Cert.DownGradIdeal.Value.run m g, ?_⟩
  refine (θ_run Cert.DownGradReferenceIdeal.defs _ _).mono (fun r h c => ⟨(h c).1.trans ?_, (h c).2⟩) (Cert.DownGradReferenceIdeal.Value.run m' g')
  obtain ⟨e0, e1⟩ := hm c
  rw [e0, e1]
  funext i
  rw [eq_ix2 i]
  refine Eq.trans ?_ (result_apply m c (i 0) (i 1)).symm
  generalize m (c.tc.loc main_arg0) = x
  generalize m (c.tc.loc main_arg1) = y
  generalize i 0 = p
  generalize i 1 = q
  pointwise
  exact Finset.sum_congr rfl fun k _ => mul_comm _ _

end Cert.DownGradIdeal.Hand

end
-- ==== Proof.Ff.Value.lean ====
/-
  WHAT THE CALL OF THE TWO OTHER FEED-FORWARD WEIGHTS' GRADIENTS COMPUTES: the result at an index is the sum, over all 4096 rows, of the products of the two operands'
  entries there. Each of the four points adds the product of its 1024 rows to the running sum that the kernel carries
  between points, starting from zero; the last point writes the sum back. The reference is the one product over all rows.
-/
module

public import proofs.«01_k».proof.Defs
public import proofs.«01_k».proof.Proof.Gen.FfGradIdeal.Value
public import proofs.«01_k».proof.Proof.Gen.FfGradReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.FfGradIdeal.Hand

open Cert.FfGradIdeal Cert.FfGradIdeal.Gen Cert.FfGradIdeal.Value

theorem hz : (![0, 0] : Fin 2 → Nat) = fun _ => 0 := funext fun a => by fin_cases a <;> rfl

section Cases

variable {F : FTy → Type} [FloatOps F]
variable (c : Dev nD) (i : grid0.Coords) (a1 : Memref sig .tc .vmem S1024x2816 .bf16) (h1 : a1.IsWhole)
  (a2 : Memref sig .tc .vmem S1024x1024 .bf16) (h2 : a2.IsWhole) (a3 : Memref sig .tc .vmem S2816x1024 .bf16) (h3 : a3.IsWhole)
  (a4 : Memref sig .tc .vmem S2816x1024 .f32) (h4 : a4.IsWhole) (x0 : Vec F S1024x2816 .bf16) (x1 : Vec F S1024x1024 .bf16)

/-- The first point leaves its product added to zero in the running sum. -/
theorem sum_A (hc0 : cond0_0 i) (hc1 : ¬cond0_1 i) :
    sout0_A_0 c i a1 h1 a2 h2 a3 h3 a4 h4 hc0 hc1 x0 x1 = k0_pay2 x1 x0 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S2816x1024) hz, View.readCov_unit_zero (S := S2816x1024) _ hz]
  simp only [View.readAt_eq_ld, h1.read_unread, h2.read_unread, View.ld_unit_zero (S := S1024x2816) hz,
    View.ld_unit_zero (S := S1024x1024) hz]

/-- A middle point adds its product to the running sum. -/
theorem sum_B (hc0 : ¬cond0_0 i) (hc1 : ¬cond0_1 i) (xs : Vec F S2816x1024 .f32) :
    sout0_B_0 c i a1 h1 a2 h2 a3 h3 a4 h4 hc0 hc1 x0 x1 xs = k0_pay2 x1 x0 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S1024x2816) hz,
    View.ld_unit_zero (S := S1024x1024) hz, View.ld_unit_zero (S := S2816x1024) hz]

/-- The last point writes back the running sum with its own product added. -/
theorem out_C (hc0 : ¬cond0_0 i) (hc1 : cond0_1 i) (xs : Vec F S2816x1024 .f32) :
    out0_C_2 c i a1 h1 a2 h2 a3 h3 a4 h4 hc0 hc1 x0 x1 xs = k0_pay3 (k0_pay2 x1 x0 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S2816x1024) _ hz]
  simp only [View.readAt_eq_ld, h1.read_unread, h2.read_unread, h4.read_unread, View.ld_unit_zero (S := S1024x2816) hz,
    View.ld_unit_zero (S := S1024x1024) hz, View.ld_unit_zero (S := S2816x1024) hz]

end Cases

variable (m : (ℓ : Loc nD τ sig) → Buf (Elt Ideal) ℓ) (ρ : Dev nD → PrngReg)

/-- Point `t`'s block of the first operand. -/
theorem iblk0 (c : Dev nD) (t : Fin cfg0.N) (k : Fin 1024) (p : Fin 2816) :
    (iblk m c 0 t : Vec Ideal S1024x2816 .bf16) (ix2 k p)
      = m (c.tc.loc main_arg0) (ix2 (⟨t.val * 1024 + k.val, by have := t.isLt; have : cfg0.N = 4 := N_0; omega⟩ : Fin 4096) p) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 1024 + 1 * k.val = t.val * 1024 + k.val; rw [hi.1]; omega
  | ⟨1, _⟩ => show win0_0.index t 1 * 2816 + 1 * p.val = p.val; rw [hi.2]; omega

/-- Point `t`'s block of the second operand. -/
theorem iblk1 (c : Dev nD) (t : Fin cfg0.N) (k : Fin 1024) (q : Fin 1024) :
    (iblk m c 1 t : Vec Ideal S1024x1024 .bf16) (ix2 k q)
      = m (c.tc.loc main_arg1) (ix2 (⟨t.val * 1024 + k.val, by have := t.isLt; have : cfg0.N = 4 := N_0; omega⟩ : Fin 4096) q) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 1024 + 1 * k.val = t.val * 1024 + k.val; rw [hi.1]; omega
  | ⟨1, _⟩ => show win0_1.index t 1 * 1024 + 1 * q.val = q.val; rw [hi.2]; omega

theorem pay1_apply (p : Fin 2816) (q : Fin 1024) : (k0_pay1 : FVec Ideal S2816x1024 .f32) (ix2 p q) = (0 : EReal) := by
  unfold k0_pay1
  rw [shapeCast_self]
  exact Ideal.ofBits_zero_f32

theorem pay2_apply (b : Vec Ideal S1024x1024 .bf16) (a : Vec Ideal S1024x2816 .bf16) (acc : Vec Ideal S2816x1024 .f32)
    (p : Fin 2816) (q : Fin 1024) :
    k0_pay2 b a acc (ix2 p q) = (acc (ix2 p q) + ∑ k : Fin 1024, a (ix2 k p) * b (ix2 k q) : EReal) := by
  unfold k0_pay2
  rw [shapeCast_self]
  pointwise

theorem pay3_apply (x : Vec Ideal S2816x1024 .f32) (p : Fin 2816) (q : Fin 1024) :
    k0_pay3 x (ix2 p q) = (x (ix2 p q) : EReal) := rfl

/-- The result array as the four points' steps, one after the other. -/
theorem result_steps (c : Dev nD) : G2 m c = k0_pay3 (k0_pay2 (iblk m c 1 t0_3) (iblk m c 0 t0_3)
      (k0_pay2 (iblk m c 1 t0_2) (iblk m c 0 t0_2) (k0_pay2 (iblk m c 1 t0_1) (iblk m c 0 t0_1)
        (k0_pay2 (iblk m c 1 t0_0) (iblk m c 0 t0_0) (k0_pay1 (F := Ideal)))))) := by
  rw [G2_last]
  show (stAt0 m c t0_3.val t0_3.isLt (stAt0 m c t0_2.val t0_2.isLt (stAt0 m c t0_1.val t0_1.isLt
    (stAt0 m c t0_0.val t0_0.isLt junk0)))).1 = _
  rw [stAt0_C m c t0_3 _ (by decide) (by decide)]
  dsimp only
  rw [out_C, stAt0_B m c t0_2 _ (by decide) (by decide)]
  dsimp only
  rw [sum_B, stAt0_B m c t0_1 _ (by decide) (by decide)]
  dsimp only
  rw [sum_B, stAt0_A m c t0_0 _ (by decide) (by decide)]
  dsimp only
  rw [sum_A]

/-- The result at an index: the sum over all rows. -/
theorem result_apply (c : Dev nD) (p : Fin 2816) (q : Fin 1024) :
    G2 m c (ix2 p q) = (∑ s : Fin 4096, (show EReal from m (c.tc.loc main_arg0) (ix2 s p)) * (show EReal from m (c.tc.loc main_arg1) (ix2 s q))) := by
  rw [result_steps, pay3_apply, pay2_apply, pay2_apply, pay2_apply, pay2_apply, pay1_apply, zero_add,
    Fin.sum_univ_tiles 4 1024 rfl, Fin.sum_univ_four]
  simp only [iblk0, iblk1]
  rfl

/-- The reference's result at an index is the same sum. -/
theorem agrees : algebraic_FfGradIdeal_FfGradReferenceIdeal := by
  intro m g m' g' _ hm
  refine ⟨fun c => G2 m c, Cert.FfGradIdeal.Value.run m g, ?_⟩
  refine (θ_run Cert.FfGradReferenceIdeal.defs _ _).mono (fun r h c => ⟨(h c).1.trans ?_, (h c).2⟩) (Cert.FfGradReferenceIdeal.Value.run m' g')
  obtain ⟨e0, e1⟩ := hm c
  rw [e0, e1]
  funext i
  rw [eq_ix2 i]
  refine Eq.trans ?_ (result_apply m c (i 0) (i 1)).symm
  generalize m (c.tc.loc main_arg0) = x
  generalize m (c.tc.loc main_arg1) = y
  generalize i 0 = p
  generalize i 1 = q
  pointwise

end Cert.FfGradIdeal.Hand

end
-- ==== Proof.Norm.lean ====
/-
  THE GRADIENT OF A ROW THROUGH ITS NORM: the kernel's form and the reference's are the same extended real, where the
  gradient of the normed row and the scale are finite. The row itself may be anything: where an entry is infinite the
  norm's factor is zero, and both forms are.
-/
module

public import proofs.«01_k».proof.Proof.Finite
public import Idealize.ShloMosaic.Lib.Pointwise

@[expose] public section

noncomputable section

open Idealize.ShloMosaic

namespace Cert.Norm

theorem c1024 : Ideal.ofBits .f32 0x44800000#32 = ((1024 : ℝ) : EReal) := by
  simp [Ideal.ofBits, Ideal.ieee, -EReal.coe_mul]; norm_num

theorem cHalf : Ideal.ofBits .f32 0xBF000000#32 = ((-(1 / 2) : ℝ) : EReal) := by
  simp [Ideal.ofBits, Ideal.ieee, -EReal.coe_mul, -EReal.coe_neg]; norm_num

theorem cEps : ∃ e : ℝ, 0 < e ∧ Ideal.ofBits .f32 0x358637BD#32 = (e : EReal) := by
  refine ⟨(1 * (2 ^ 23 + 407485 : ℕ) * (2 : ℝ) ^ ((107 : ℤ) - 127 - 23)), by positivity, ?_⟩
  simp [Ideal.ofBits, Ideal.ieee, -EReal.coe_mul]

theorem sum_coe {ι : Type} (s : Finset ι) (f : ι → ℝ) : (∑ k ∈ s, (f k : EReal)) = ((∑ k ∈ s, f k : ℝ) : EReal) := by
  induction s using Finset.cons_induction with
  | empty => simp
  | cons k s hk ih => rw [Finset.sum_cons, Finset.sum_cons, EReal.coe_add, ih]

theorem div_real (a b : ℝ) (hb : b ≠ 0) : Ideal.div (a : EReal) (b : EReal) = ((a / b : ℝ) : EReal) := by
  rw [Ideal.div_coe hb, ← EReal.coe_mul]
  congr 1
  ring

theorem rsqrt_real (v : ℝ) (hv : 0 < v) : Ideal.rsqrt (v : EReal) = (((Real.sqrt v)⁻¹ : ℝ) : EReal) := by
  rw [Ideal.rsqrt_coe, if_neg (by linarith), if_neg (by linarith)]

/-- The mean square of a row, and the small number added. -/
def meanSq (x : Fin 1024 → EReal) : EReal :=
  Ideal.div (∑ k : Fin 1024, x k * x k) (Ideal.ofBits .f32 0x44800000#32) + Ideal.ofBits .f32 0x358637BD#32

/-- Where an entry of the row is infinite, so is the mean square. -/
theorem meanSq_top (x : Fin 1024 → EReal) (k : Fin 1024) (hk : x k = ⊥ ∨ x k = ⊤) : meanSq x = ⊤ := by
  obtain ⟨e, he, hE⟩ := cEps
  have sq : ∀ y : EReal, 0 ≤ y * y := fun y => by
    rcases le_total 0 y with h | h
    · exact mul_nonneg h h
    · have : 0 ≤ -y := by rwa [EReal.neg_nonneg]
      have := mul_nonneg this this
      rwa [neg_mul_neg] at this
  have h1 : x k * x k = ⊤ := by rcases hk with h | h <;> rw [h] <;> rfl
  have h2 : (∑ j : Fin 1024, x j * x j) = ⊤ := by
    rw [← Finset.add_sum_erase _ _ (Finset.mem_univ k), h1]
    refine EReal.top_add_of_ne_bot (ne_of_gt (lt_of_lt_of_le ?_ (Finset.sum_nonneg fun j _ => sq (x j))))
    exact EReal.bot_lt_zero
  have h3 : (⊤ : EReal) * ((1 / 1024 : ℝ) : EReal) = ⊤ := EReal.top_mul_coe_of_pos (by norm_num)
  unfold meanSq
  rw [h2, c1024, Ideal.div_coe (by norm_num), h3, hE]
  exact EReal.top_add_coe e

theorem finite_or (x : Fin 1024 → EReal) : (∀ k, x k ≠ ⊥ ∧ x k ≠ ⊤) ∨ ∃ k, x k = ⊥ ∨ x k = ⊤ := by
  by_cases h : ∃ k, x k = ⊥ ∨ x k = ⊤
  · exact .inr h
  · exact .inl fun k => ⟨fun e => h ⟨k, .inl e⟩, fun e => h ⟨k, .inr e⟩⟩

/-- The normed row is finite, whatever the row. -/
theorem normed_finite (x : Fin 1024 → EReal) (k : Fin 1024) :
    x k * Ideal.rsqrt (meanSq x) ≠ ⊥ ∧ x k * Ideal.rsqrt (meanSq x) ≠ ⊤ := by
  rcases finite_or x with hx | ⟨j, hj⟩
  · obtain ⟨e, he, hE⟩ := cEps
    choose X hX using fun k => Cert.Finite.real (x k) (hx k)
    have hv : 0 < (∑ k : Fin 1024, X k * X k) / 1024 + e := by
      have : 0 ≤ ∑ k : Fin 1024, X k * X k := Finset.sum_nonneg fun k _ => mul_self_nonneg _
      positivity
    unfold meanSq
    simp only [hX, c1024, hE, ← EReal.coe_mul, sum_coe, div_real _ (1024 : ℝ) (by norm_num), ← EReal.coe_add, rsqrt_real _ hv]
    exact Cert.Finite.coe _
  · rw [meanSq_top x j hj, Ideal.rsqrt_top, mul_zero]
    exact Cert.Finite.coe 0

/-- Over the reals, with `v` the mean square and `1 / √v` the factor, whose cube is the factor over `v`. -/
theorem norm_real (x h g : Fin 1024 → ℝ) (v : ℝ) (hv : 0 < v) (q : Fin 1024) :
    (Real.sqrt v)⁻¹ * (h q * g q - x q * (Real.sqrt v)⁻¹ * ((∑ l : Fin 1024, h l * g l * (x l * (Real.sqrt v)⁻¹)) / 1024))
      = h q * g q * (Real.sqrt v)⁻¹ + (x q * ((∑ l : Fin 1024, x l * (h l * g l)) * (-(1 / 2) * ((Real.sqrt v)⁻¹ / v)) / 1024)
        + (∑ l : Fin 1024, x l * (h l * g l)) * (-(1 / 2) * ((Real.sqrt v)⁻¹ / v)) / 1024 * x q) := by
  have e : (∑ l : Fin 1024, h l * g l * (x l * (Real.sqrt v)⁻¹)) = (Real.sqrt v)⁻¹ * ∑ l : Fin 1024, x l * (h l * g l) := by
    rw [Finset.mul_sum]
    exact Finset.sum_congr rfl fun l _ => by ring
  have h2 : (Real.sqrt v)⁻¹ / v = (Real.sqrt v)⁻¹ * ((Real.sqrt v)⁻¹ * (Real.sqrt v)⁻¹) := by
    rw [← mul_inv, Real.mul_self_sqrt hv.le]
    rfl
  rw [e, h2]
  ring

/-- The reference's part of the gradient that comes through the mean square. -/
def through (x h g : Fin 1024 → EReal) : EReal :=
  ∑ _z : Fin 1, Ideal.div ((∑ l : Fin 1024, x l * (h l * g l)) * (Ideal.ofBits .f32 0xBF000000#32
    * Ideal.div (Ideal.rsqrt (meanSq x)) (meanSq x))) (Ideal.ofBits .f32 0x44800000#32)

/-- The kernel's gradient of a row through its norm is the reference's. -/
theorem norm_eq (x h g : Fin 1024 → EReal) (hh : ∀ k, h k ≠ ⊥ ∧ h k ≠ ⊤) (hg : ∀ k, g k ≠ ⊥ ∧ g k ≠ ⊤) (q : Fin 1024) :
    Ideal.rsqrt (meanSq x) * (h q * g q - x q * Ideal.rsqrt (meanSq x)
        * Ideal.div (∑ l : Fin 1024, h l * g l * (x l * Ideal.rsqrt (meanSq x))) (Ideal.ofBits .f32 0x44800000#32))
      = h q * g q * Ideal.rsqrt (meanSq x) + (x q * through x h g + through x h g * x q) := by
  rcases finite_or x with hx | ⟨j, hj⟩
  · obtain ⟨e, he, hE⟩ := cEps
    choose X hX using fun k => Cert.Finite.real (x k) (hx k)
    choose H hH using fun k => Cert.Finite.real (h k) (hh k)
    choose G hG using fun k => Cert.Finite.real (g k) (hg k)
    have hv : 0 < (∑ k : Fin 1024, X k * X k) / 1024 + e := by
      have : 0 ≤ ∑ k : Fin 1024, X k * X k := Finset.sum_nonneg fun k _ => mul_self_nonneg _
      positivity
    unfold through meanSq
    simp only [Finset.univ_unique, Finset.sum_singleton, hX, hH, hG, c1024, cHalf, hE, ← EReal.coe_mul, sum_coe, div_real _ (1024 : ℝ) (by norm_num),
      ← EReal.coe_add, rsqrt_real _ hv, div_real _ _ hv.ne', ← EReal.coe_sub]
    rw [norm_real X H G _ hv q]
  · have ht : through x h g = 0 := by
      have hd : Ideal.div 0 (⊤ : EReal) = 0 := by
        unfold Ideal.div
        rw [if_neg (by simp), zero_mul]
      unfold through
      rw [meanSq_top x j hj, Ideal.rsqrt_top, hd, mul_zero, mul_zero, c1024, Ideal.div_coe (by norm_num), zero_mul]
      simp
    rw [ht, meanSq_top x j hj, Ideal.rsqrt_top]
    simp

end Cert.Norm

end
-- ==== Proof.Mlp.Value.lean ====
/-
  WHAT THE SECOND NORM'S BACKWARD CALL COMPUTES: its three result arrays at an index. Each of the sixteen points reads a
  block of 256 rows of every row-cut operand and the whole weights; it writes back the same 256 rows of the gradient of the
  block's input and of its product with the output weight, and adds its rows' part of the norm scale's gradient to a running
  sum, which the last point writes back.
-/
module

public import proofs.«01_k».proof.Defs
public import proofs.«01_k».proof.Proof.Gen.MlpGradIdeal.Value
public import proofs.«01_k».proof.Proof.Gen.MlpGradReferenceIdeal.Run
public import proofs.«01_k».proof.Proof.Finite
public import proofs.«01_k».proof.Proof.Norm
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.MlpGradIdeal.Hand

open Cert.MlpGradIdeal Cert.MlpGradIdeal.Gen

theorem hz : (![0, 0] : Fin 2 → Nat) = fun _ => 0 := funext fun a => by fin_cases a <;> rfl

/-! ## What each point leaves in the three results' blocks -/

section Cases

variable {F : FTy → Type} [FloatOps F]
variable (c : Dev nD) (i : grid0.Coords)
  (a1 : Memref sig .tc .vmem S256x2816 .bf16) (h1 : a1.IsWhole)
  (a2 : Memref sig .tc .vmem S256x2816 .bf16) (h2 : a2.IsWhole)
  (a3 : Memref sig .tc .vmem S2816x1024 .bf16) (h3 : a3.IsWhole)
  (a4 : Memref sig .tc .vmem S2816x1024 .bf16) (h4 : a4.IsWhole)
  (a5 : Memref sig .tc .vmem S1024x1024 .bf16) (h5 : a5.IsWhole)
  (a6 : Memref sig .tc .vmem S256x1024 .f32) (h6 : a6.IsWhole)
  (a7 : Memref sig .tc .vmem S256x1 .f32) (h7 : a7.IsWhole)
  (a8 : Memref sig .tc .vmem S1x1024 .f32) (h8 : a8.IsWhole)
  (a9 : Memref sig .tc .vmem S256x1024 .f32) (h9 : a9.IsWhole)
  (a10 : Memref sig .tc .vmem S256x1024 .f32) (h10 : a10.IsWhole)
  (a11 : Memref sig .tc .vmem S256x1024 .f32) (h11 : a11.IsWhole)
  (a12 : Memref sig .tc .vmem S1x1024 .f32) (h12 : a12.IsWhole)
  (x0 : Vec F S256x2816 .bf16) (x1 : Vec F S256x2816 .bf16) (x2 : Vec F S2816x1024 .bf16) (x3 : Vec F S2816x1024 .bf16) (x4 : Vec F S1024x1024 .bf16) (x5 : Vec F S256x1024 .f32) (x6 : Vec F S256x1 .f32) (x7 : Vec F S1x1024 .f32) (x8 : Vec F S256x1024 .f32)

/-- The first point's block of the gradient of the block's input. -/
theorem out_A_9 (hc0 : cond0_0 i) :
    out0_A_9 c i a1 h1 a2 h2 a3 h3 a4 h4 a5 h5 a6 h6 a7 h7 a8 h8 a9 h9 a10 h10 a11 h11 a12 h12 hc0 x0 x1 x2 x3 x4 x5 x6 x7 x8 = k0_pay7 x0 x2 x1 x3 x5 x6 x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 hc0 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

/-- The first point's block of its product with the output weight. -/
theorem out_A_10 (hc0 : cond0_0 i) :
    out0_A_10 c i a1 h1 a2 h2 a3 h3 a4 h4 a5 h5 a6 h6 a7 h7 a8 h8 a9 h9 a10 h10 a11 h11 a12 h12 hc0 x0 x1 x2 x3 x4 x5 x6 x7 x8 = k0_pay2 (k0_pay7 x0 x2 x1 x3 x5 x6 x7 x8) x4 := by
  unfold out0_A_10
  rw [View.read_writes_eq_canon _ _ _ (cover0_A_10 c i a1 h1 a2 h2 a3 h3 a4 h4 a5 h5 a6 h6 a7 h7 a8 h8 a9 h9 a10 h10 a11 h11 a12 h12 hc0 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

/-- The first point adds its rows' part of the norm scale's gradient to zero. -/
theorem out_A_11 (hc0 : cond0_0 i) :
    out0_A_11 c i a1 h1 a2 h2 a3 h3 a4 h4 a5 h5 a6 h6 a7 h7 a8 h8 a9 h9 a10 h10 a11 h11 a12 h12 hc0 x0 x1 x2 x3 x4 x5 x6 x7 x8 = k0_pay1 (k0_pay8 x0 x2 x1 x3 x5 x6) k0_pay3 := by
  unfold out0_A_11
  rw [View.read_writes_eq_canon _ _ _ (cover0_A_11 c i a1 h1 a2 h2 a3 h3 a4 h4 a5 h5 a6 h6 a7 h7 a8 h8 a9 h9 a10 h10 a11 h11 a12 h12 hc0 x0 x1 x2 x3 x4 x5 x6 x7 x8)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

/-- A later point's block of the gradient of the block's input. -/
theorem out_B_9 (hc0 : ¬cond0_0 i) (xs : Vec F S1x1024 .f32) :
    out0_B_9 c i a1 h1 a2 h2 a3 h3 a4 h4 a5 h5 a6 h6 a7 h7 a8 h8 a9 h9 a10 h10 a11 h11 a12 h12 hc0 x0 x1 x2 x3 x4 x5 x6 x7 x8 xs = k0_pay7 x0 x2 x1 x3 x5 x6 x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 hc0 x0 x1 x2 x3 x4 x5 x6 x7 x8 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

/-- A later point's block of its product with the output weight. -/
theorem out_B_10 (hc0 : ¬cond0_0 i) (xs : Vec F S1x1024 .f32) :
    out0_B_10 c i a1 h1 a2 h2 a3 h3 a4 h4 a5 h5 a6 h6 a7 h7 a8 h8 a9 h9 a10 h10 a11 h11 a12 h12 hc0 x0 x1 x2 x3 x4 x5 x6 x7 x8 xs = k0_pay2 (k0_pay7 x0 x2 x1 x3 x5 x6 x7 x8) x4 := by
  unfold out0_B_10
  rw [View.read_writes_eq_canon _ _ _ (cover0_B_10 c i a1 h1 a2 h2 a3 h3 a4 h4 a5 h5 a6 h6 a7 h7 a8 h8 a9 h9 a10 h10 a11 h11 a12 h12 hc0 x0 x1 x2 x3 x4 x5 x6 x7 x8 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

/-- A later point adds its rows' part to the running sum. -/
theorem out_B_11 (hc0 : ¬cond0_0 i) (xs : Vec F S1x1024 .f32) :
    out0_B_11 c i a1 h1 a2 h2 a3 h3 a4 h4 a5 h5 a6 h6 a7 h7 a8 h8 a9 h9 a10 h10 a11 h11 a12 h12 hc0 x0 x1 x2 x3 x4 x5 x6 x7 x8 xs = k0_pay1 (k0_pay8 x0 x2 x1 x3 x5 x6) xs := by
  unfold out0_B_11
  rw [View.read_writes_eq_canon _ _ _ (cover0_B_11 c i a1 h1 a2 h2 a3 h3 a4 h4 a5 h5 a6 h6 a7 h7 a8 h8 a9 h9 a10 h10 a11 h11 a12 h12 hc0 x0 x1 x2 x3 x4 x5 x6 x7 x8 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S256x2816) hz, View.ld_unit_zero (S := S2816x1024) hz,
    View.ld_unit_zero (S := S1024x1024) hz, View.ld_unit_zero (S := S256x1024) hz, View.ld_unit_zero (S := S256x1) hz, View.ld_unit_zero (S := S1x1024) hz]

end Cases

variable (m : (ℓ : Loc nD τ sig) → Buf (Elt Ideal) ℓ) (ρ : Dev nD → PrngReg)

/-- The row of the whole arrays that row `k` of point `t`'s block is. -/
def row (t : Fin cfg0.N) (k : Fin 256) : Fin 4096 := ⟨t.val * 256 + k.val, by have := t.isLt; have : cfg0.N = 16 := N_0; omega⟩

/-! ## The blocks read -/

/-- Point `t`'s block of operand 0: its 256 rows. -/
theorem iblk0 (c : Dev nD) (t : Fin cfg0.N) (r : Fin 256) (k : Fin 2816) :
    (iblk m c 0 t : Vec Ideal S256x2816 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [hi.1]; omega
  | ⟨1, _⟩ => show win0_0.index t 1 * 2816 + 1 * k.val = k.val; rw [hi.2]; omega

/-- Point `t`'s block of operand 1: its 256 rows. -/
theorem iblk1 (c : Dev nD) (t : Fin cfg0.N) (r : Fin 256) (k : Fin 2816) :
    (iblk m c 1 t : Vec Ideal S256x2816 .bf16) (ix2 r k) = m (c.tc.loc main_arg1) (ix2 (row t r) k) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [hi.1]; omega
  | ⟨1, _⟩ => show win0_1.index t 1 * 2816 + 1 * k.val = k.val; rw [hi.2]; omega

/-- Every point's block of operand 2 is the whole array. -/
theorem iblk2 (c : Dev nD) (t : Fin cfg0.N) (r : Fin 2816) (k : Fin 1024) :
    (iblk m c 2 t : Vec Ideal S2816x1024 .bf16) (ix2 r k) = m (c.tc.loc main_arg2) (ix2 (r) k) := by
  have hi : win0_2.index t 0 = 0 ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 2816 + 1 * r.val = r.val; rw [hi.1]; omega
  | ⟨1, _⟩ => show win0_2.index t 1 * 1024 + 1 * k.val = k.val; rw [hi.2]; omega

/-- Every point's block of operand 3 is the whole array. -/
theorem iblk3 (c : Dev nD) (t : Fin cfg0.N) (r : Fin 2816) (k : Fin 1024) :
    (iblk m c 3 t : Vec Ideal S2816x1024 .bf16) (ix2 r k) = m (c.tc.loc main_arg3) (ix2 (r) k) := by
  have hi : win0_3.index t 0 = 0 ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 2816 + 1 * r.val = r.val; rw [hi.1]; omega
  | ⟨1, _⟩ => show win0_3.index t 1 * 1024 + 1 * k.val = k.val; rw [hi.2]; omega

/-- Every point's block of operand 4 is the whole array. -/
theorem iblk4 (c : Dev nD) (t : Fin cfg0.N) (r : Fin 1024) (k : Fin 1024) :
    (iblk m c 4 t : Vec Ideal S1024x1024 .bf16) (ix2 r k) = m (c.tc.loc main_arg4) (ix2 (r) k) := by
  have hi : win0_4.index t 0 = 0 ∧ win0_4.index t 1 = 0 := by revert t; decide
  unfold iblk
  rw [View.read_apply]
  show m (c.tc.loc main_arg4) _ = m (c.tc.loc main_arg4) _
  congr 1
  funext a
  apply Fin.ext
  match a with
  | ⟨0, _⟩ => show win0_4.index t 0 * 1024 + 1 * r.val = r.val; rw [hi.1]; omega
  | ⟨1, _⟩ => show win0_4.index t 1 * 1024 + 1 * k.val = k.val; rw [hi.2]; omega

/-- Point `t`'s block of operand 5: its 256 rows. -/
theorem iblk5 (c : Dev nD) (t : Fin cfg0.N) (r : Fin 256) (k : Fin 1024) :
    (iblk m c 5 t : Vec Ideal S256x1024 .f32) (ix2 r k) = m (c.tc.loc main_arg5) (ix2 (row t r) k) := by
  have hi : win0_5.index t 0 = t.val ∧ win0_5.index t 1 = 0 := by revert t; decide
  unfold iblk
  rw [View.read_apply]
  show m (c.tc.loc main_arg5) _ = m (c.tc.loc main_arg5) _
  congr 1
  funext a
  apply Fin.ext
  match a with
  | ⟨0, _⟩ => show win0_5.index t 0 * 256 + 1 * r.val = t.val * 256 + r.val; rw [hi.1]; omega
  | ⟨1, _⟩ => show win0_5.index t 1 * 1024 + 1 * k.val = k.val; rw [hi.2]; omega

/-- Every point's block of operand 7 is the whole array. -/
theorem iblk7 (c : Dev nD) (t : Fin cfg0.N) (r : Fin 1) (k : Fin 1024) :
    (iblk m c 7 t : Vec Ideal S1x1024 .f32) (ix2 r k) = m (c.tc.loc main_arg6) (ix2 (r) k) := by
  have hi : win0_7.index t 0 = 0 ∧ win0_7.index t 1 = 0 := by revert t; decide
  unfold iblk
  rw [View.read_apply]
  show m (c.tc.loc main_arg6) _ = m (c.tc.loc main_arg6) _
  congr 1
  funext a
  apply Fin.ext
  match a with
  | ⟨0, _⟩ => show win0_7.index t 0 * 1 + 1 * r.val = r.val; rw [hi.1]; omega
  | ⟨1, _⟩ => show win0_7.index t 1 * 1024 + 1 * k.val = k.val; rw [hi.2]; omega

/-- Point `t`'s block of operand 8: its 256 rows. -/
theorem iblk8 (c : Dev nD) (t : Fin cfg0.N) (r : Fin 256) (k : Fin 1024) :
    (iblk m c 8 t : Vec Ideal S256x1024 .f32) (ix2 r k) = m (c.tc.loc main_arg7) (ix2 (row t r) k) := by
  have hi : win0_8.index t 0 = t.val ∧ win0_8.index t 1 = 0 := by revert t; decide
  unfold iblk
  rw [View.read_apply]
  show m (c.tc.loc main_arg7) _ = m (c.tc.loc main_arg7) _
  congr 1
  funext a
  apply Fin.ext
  match a with
  | ⟨0, _⟩ => show win0_8.index t 0 * 256 + 1 * r.val = t.val * 256 + r.val; rw [hi.1]; omega
  | ⟨1, _⟩ => show win0_8.index t 1 * 1024 + 1 * k.val = k.val; rw [hi.2]; omega

/-- Point `t`'s block of operand 6: its 256 rows. -/
theorem iblk6 (c : Dev nD) (t : Fin cfg0.N) (r : Fin 256) (k : Fin 1) :
    (iblk m c 6 t : Vec Ideal S256x1 .f32) (ix2 r k) = V m c main_v7 (ix2 (row t r) k) := by
  have hi : win0_6.index t 0 = t.val ∧ win0_6.index t 1 = 0 := by revert t; decide
  unfold iblk
  rw [View.read_apply]
  show V m c main_v7 _ = V m c main_v7 _
  congr 1
  funext a
  apply Fin.ext
  match a with
  | ⟨0, _⟩ => show win0_6.index t 0 * 256 + 1 * r.val = t.val * 256 + r.val; rw [hi.1]; omega
  | ⟨1, _⟩ => show win0_6.index t 1 * 1 + 1 * k.val = k.val; rw [hi.2]; omega

/-- One over the root of a row's mean square. -/
def rinv (x : S4096x1024.Idx → EReal) (s : Fin 4096) : EReal :=
  Ideal.rsqrt (Ideal.div (∑ k : Fin 1024, x (ix2 s k) * x (ix2 s k)) (Ideal.ofBits .f32 0x44800000#32) + Ideal.ofBits .f32 0x358637BD#32)

/-- The host computes that factor of every row before the call. -/
theorem host_rinv (c : Dev nD) (s : Fin 4096) (z : Fin 1) : V m c main_v7 (ix2 s z) = rinv (m (c.tc.loc main_arg5)) s := by
  have h : V m c main_v7 = (Host.rsqrt (addf (Host.divf (broadcastInDim S4096x1 ![0] bcast_S4096_S4096x1_0 (Host.reduceAdd (mulf (show FVec Ideal S4096x1024 .f32 from m (c.tc.loc main_arg5)) (show FVec Ideal S4096x1024 .f32 from m (c.tc.loc main_arg5))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))) : FVec Ideal S4096x1 .f32) := by
    show StableHlo.after hostOps0 _ _ = _
    after_results
  rw [h]
  generalize m (c.tc.loc main_arg5) = x
  pointwise
  rfl

/-! ## The payloads at an index -/

theorem pay4_apply (x0 : Vec Ideal S256x2816 .bf16) (x2 : Vec Ideal S2816x1024 .bf16) (x1 : Vec Ideal S256x2816 .bf16) (x3 : Vec Ideal S2816x1024 .bf16)
    (r : Fin 256) (k : Fin 1024) :
    k0_pay4 x0 x2 x1 x3 (ix2 r k) = (∑ f : Fin 2816, (show EReal from x0 (ix2 r f)) * (show EReal from x2 (ix2 f k)))
      + ∑ f : Fin 2816, (show EReal from x1 (ix2 r f)) * (show EReal from x3 (ix2 f k)) := by
  unfold_payloads
  pointwise

theorem pay6_apply (x5 : Vec Ideal S256x1024 .f32) (x6 : Vec Ideal S256x1 .f32) (r : Fin 256) (k : Fin 1024) :
    k0_pay6 x5 x6 (ix2 r k) = (show EReal from x5 (ix2 r k)) * (show EReal from x6 (ix2 r 0)) := by
  unfold_payloads
  pointwise

theorem pay7_apply (x0 : Vec Ideal S256x2816 .bf16) (x2 : Vec Ideal S2816x1024 .bf16) (x1 : Vec Ideal S256x2816 .bf16) (x3 : Vec Ideal S2816x1024 .bf16)
    (x5 : Vec Ideal S256x1024 .f32) (x6 : Vec Ideal S256x1 .f32) (x7 : Vec Ideal S1x1024 .f32) (x8 : Vec Ideal S256x1024 .f32)
    (r : Fin 256) (k : Fin 1024) :
    k0_pay7 x0 x2 x1 x3 x5 x6 x7 x8 (ix2 r k) = (show EReal from x8 (ix2 r k)) + (show EReal from x6 (ix2 r 0))
      * ((show EReal from k0_pay4 x0 x2 x1 x3 (ix2 r k)) * (show EReal from x7 (ix2 0 k)) - (show EReal from k0_pay6 x5 x6 (ix2 r k))
        * Ideal.div (∑ l : Fin 1024, (show EReal from k0_pay4 x0 x2 x1 x3 (ix2 r l)) * (show EReal from x7 (ix2 0 l)) * (show EReal from k0_pay6 x5 x6 (ix2 r l))) (Ideal.ofBits .f32 0x44800000#32)) := by
  have e : k0_pay5 x6 (ix2 r 0) = x6 (ix2 r 0) := by
    unfold k0_pay5
    rw [shapeCast_self]
  rw [← e]
  unfold k0_pay7
  generalize k0_pay4 x0 x2 x1 x3 = dh
  generalize k0_pay6 x5 x6 = xn
  generalize k0_pay5 x6 = rr
  pointwise

theorem pay2_apply (d : Vec Ideal S256x1024 .f32) (x4 : Vec Ideal S1024x1024 .bf16) (r : Fin 256) (j : Fin 1024) :
    k0_pay2 d x4 (ix2 r j) = ∑ k : Fin 1024, (show EReal from d (ix2 r k)) * (show EReal from x4 (ix2 j k)) := by
  unfold_payloads
  pointwise

theorem pay8_apply (x0 : Vec Ideal S256x2816 .bf16) (x2 : Vec Ideal S2816x1024 .bf16) (x1 : Vec Ideal S256x2816 .bf16) (x3 : Vec Ideal S2816x1024 .bf16)
    (x5 : Vec Ideal S256x1024 .f32) (x6 : Vec Ideal S256x1 .f32) (z : Fin 1) (k : Fin 1024) :
    k0_pay8 x0 x2 x1 x3 x5 x6 (ix2 z k) = ∑ r : Fin 256, (show EReal from k0_pay4 x0 x2 x1 x3 (ix2 r k)) * (show EReal from k0_pay6 x5 x6 (ix2 r k)) := by
  unfold k0_pay8
  generalize k0_pay4 x0 x2 x1 x3 = dh
  generalize k0_pay6 x5 x6 = xn
  pointwise

theorem pay1_apply (a b : Vec Ideal S1x1024 .f32) (z : Fin 1) (k : Fin 1024) :
    k0_pay1 a b (ix2 z k) = (show EReal from b (ix2 z k)) + (show EReal from a (ix2 z k)) := by
  unfold_payloads
  pointwise

theorem pay3_apply (z : Fin 1) (k : Fin 1024) : (k0_pay3 : FVec Ideal S1x1024 .f32) (ix2 z k) = (0 : EReal) := by
  unfold_payloads
  pointwise

/-! ## The results at an index -/

/-- The gradient of the normed input times its scale, at row `s` and column `k`: the two products added. -/
def dhid (dg du : S4096x2816.Idx → EReal) (wg wu : S2816x1024.Idx → EReal) (s : Fin 4096) (k : Fin 1024) : EReal :=
  (∑ f : Fin 2816, dg (ix2 s f) * wg (ix2 f k)) + ∑ f : Fin 2816, du (ix2 s f) * wu (ix2 f k)

/-- The normed input, without its scale. -/
def xnorm (x : S4096x1024.Idx → EReal) (s : Fin 4096) (k : Fin 1024) : EReal := x (ix2 s k) * rinv x s

/-- The gradient of the block's input, as the kernel writes it. -/
def dx1 (dg du : S4096x2816.Idx → EReal) (wg wu : S2816x1024.Idx → EReal) (x : S4096x1024.Idx → EReal) (g : S1x1024.Idx → EReal)
    (d : S4096x1024.Idx → EReal) (i : S4096x1024.Idx) : EReal :=
  d (ix2 (i 0) (i 1)) + rinv x (i 0) * (dhid dg du wg wu (i 0) (i 1) * g (ix2 0 (i 1)) - xnorm x (i 0) (i 1)
    * Ideal.div (∑ l : Fin 1024, dhid dg du wg wu (i 0) l * g (ix2 0 l) * xnorm x (i 0) l) (Ideal.ofBits .f32 0x44800000#32))

/-- Its product with the output weight. -/
def dmix (dx : S4096x1024.Idx → EReal) (w : S1024x1024.Idx → EReal) (i : S4096x1024.Idx) : EReal :=
  ∑ k : Fin 1024, dx (ix2 (i 0) k) * w (ix2 (i 1) k)

/-- The norm scale's gradient. -/
def dscale (dg du : S4096x2816.Idx → EReal) (wg wu : S2816x1024.Idx → EReal) (x : S4096x1024.Idx → EReal) (i : S1x1024.Idx) : EReal :=
  ∑ s : Fin 4096, dhid dg du wg wu s (i 1) * xnorm x s (i 1)

/-- The three results of device `c`'s operands. -/
def res0 (c : Dev nD) : S4096x1024.Idx → EReal := dx1 (m (c.tc.loc main_arg0)) (m (c.tc.loc main_arg1)) (m (c.tc.loc main_arg2)) (m (c.tc.loc main_arg3)) (m (c.tc.loc main_arg5)) (m (c.tc.loc main_arg6)) (m (c.tc.loc main_arg7))
def res1 (c : Dev nD) : S4096x1024.Idx → EReal := dmix (res0 m c) (m (c.tc.loc main_arg4))
def res2 (c : Dev nD) : S1x1024.Idx → EReal := dscale (m (c.tc.loc main_arg0)) (m (c.tc.loc main_arg1)) (m (c.tc.loc main_arg2)) (m (c.tc.loc main_arg3)) (m (c.tc.loc main_arg5))

theorem point4 (c : Dev nD) (t : Fin cfg0.N) (r : Fin 256) (k : Fin 1024) :
    k0_pay4 (iblk m c 0 t) (iblk m c 2 t) (iblk m c 1 t) (iblk m c 3 t) (ix2 r k) = dhid (m (c.tc.loc main_arg0)) (m (c.tc.loc main_arg1)) (m (c.tc.loc main_arg2)) (m (c.tc.loc main_arg3)) (row t r) k := by
  rw [pay4_apply]
  simp only [iblk0, iblk1, iblk2, iblk3]
  rfl

theorem point6 (c : Dev nD) (t : Fin cfg0.N) (r : Fin 256) (k : Fin 1024) :
    k0_pay6 (iblk m c 5 t) (iblk m c 6 t) (ix2 r k) = xnorm (m (c.tc.loc main_arg5)) (row t r) k := by
  rw [pay6_apply]
  simp only [iblk5, iblk6]
  exact congrArg (fun z : EReal => (show EReal from (m (c.tc.loc main_arg5)) (ix2 (row t r) k)) * z) (host_rinv m c (row t r) 0)

/-- What the body computes for result 0 at point `t`, at an index of the block. -/
theorem point9 (c : Dev nD) (t : Fin cfg0.N) (r : Fin 256) (k : Fin 1024) :
    k0_pay7 (iblk m c 0 t) (iblk m c 2 t) (iblk m c 1 t) (iblk m c 3 t) (iblk m c 5 t) (iblk m c 6 t) (iblk m c 7 t) (iblk m c 8 t) (ix2 r k) = res0 m c (ix2 (row t r) k) := by
  rw [pay7_apply]
  simp only [point4, point6, iblk6, iblk7, iblk8]
  have h := host_rinv m c (row t r) 0
  generalize V m c main_v7 = v at h ⊢
  rw [h]
  rfl

/-- What the body computes for result 1 at point `t`, at an index of the block. -/
theorem point10 (c : Dev nD) (t : Fin cfg0.N) (r : Fin 256) (j : Fin 1024) :
    k0_pay2 (k0_pay7 (iblk m c 0 t) (iblk m c 2 t) (iblk m c 1 t) (iblk m c 3 t) (iblk m c 5 t) (iblk m c 6 t) (iblk m c 7 t) (iblk m c 8 t)) (iblk m c 4 t) (ix2 r j) = res1 m c (ix2 (row t r) j) := by
  rw [pay2_apply]
  simp only [point9, iblk4]
  rfl

/-- One point's part of the norm scale's gradient. -/
theorem point11 (c : Dev nD) (t : Fin cfg0.N) (z : Fin 1) (k : Fin 1024) :
    k0_pay8 (iblk m c 0 t) (iblk m c 2 t) (iblk m c 1 t) (iblk m c 3 t) (iblk m c 5 t) (iblk m c 6 t) (ix2 z k)
      = ∑ r : Fin 256, dhid (m (c.tc.loc main_arg0)) (m (c.tc.loc main_arg1)) (m (c.tc.loc main_arg2)) (m (c.tc.loc main_arg3)) (row t r) k * xnorm (m (c.tc.loc main_arg5)) (row t r) k := by
  rw [pay8_apply]
  simp only [point4, point6]

/-! ## The result arrays after the run -/

theorem outs9 (c : Dev nD) (t : Fin cfg0.N) : (outsAt0 m c t.val t.isLt).1
    = k0_pay7 (iblk m c 0 t) (iblk m c 2 t) (iblk m c 1 t) (iblk m c 3 t) (iblk m c 5 t) (iblk m c 6 t) (iblk m c 7 t) (iblk m c 8 t) := by
  by_cases h : t.val % 16 = 0
  · rw [outsAt0_A m c t h]
    dsimp only
    rw [out_A_9]
  · rw [outsAt0_B m c t h]
    dsimp only
    rw [out_B_9]

theorem outs10 (c : Dev nD) (t : Fin cfg0.N) : (outsAt0 m c t.val t.isLt).2.1
    = k0_pay2 (k0_pay7 (iblk m c 0 t) (iblk m c 2 t) (iblk m c 1 t) (iblk m c 3 t) (iblk m c 5 t) (iblk m c 6 t) (iblk m c 7 t) (iblk m c 8 t)) (iblk m c 4 t) := by
  by_cases h : t.val % 16 = 0
  · rw [outsAt0_A m c t h]
    dsimp only
    rw [out_A_10]
  · rw [outsAt0_B m c t h]
    dsimp only
    rw [out_B_10]

/-- Where point `t`'s block of result 0 lies: at its 256 rows. -/
theorem blk9_apply (t : Fin cfg0.N) (G : S4096x1024.Idx → EReal) (r : Fin 256) (f : Fin 1024) :
    ((win0_9.blk t).view.read (Elt Ideal) G : Vec Ideal S256x1024 .f32) (ix2 r f) = G (ix2 (row t r) f) := by
  have hi : win0_9.index t 0 = t.val ∧ win0_9.index t 1 = 0 := by revert t; decide
  rw [View.read_apply]
  show G _ = G _
  congr 1
  funext a
  apply Fin.ext
  match a with
  | ⟨0, _⟩ => show win0_9.index t 0 * 256 + 1 * r.val = t.val * 256 + r.val; rw [hi.1]; omega
  | ⟨1, _⟩ => show win0_9.index t 1 * 1024 + 1 * f.val = f.val; rw [hi.2]; omega

/-- What point `t` writes back of result 0. -/
theorem flushed9_eq (c : Dev nD) (t : Fin cfg0.N) :
    (dats m 0 c).flushed 9 t = (win0_9.blk t).view.read (Elt Ideal) (res0 m c) := by
  rw [Value.flushed9, outs9]
  funext i
  rw [eq_ix2 i]
  refine Eq.trans ?_ (blk9_apply t _ (i 0) (i 1)).symm
  exact point9 m c t (i 0) (i 1)

theorem mem_blk9 (t : Fin cfg0.N) (i : S4096x1024.Idx) :
    i ∈ ((cfg0.win 9).blk t).view.set ↔ t.val * 256 ≤ (i 0 : Nat) ∧ (i 0 : Nat) < t.val * 256 + 256 := by
  show i ∈ ((View.whole main_v8_0).slice (win0_9.rect t)).set ↔ _
  rw [View.set_slice_whole, Rect.mem_set_unit]
  have h1 : (i 1 : Nat) < 1024 := (i 1).isLt
  have e : win0_9.index t 0 * win0_9.size 0 = t.val * 256 ∧ win0_9.xsize (grid0.coords t) 0 = 256
      ∧ win0_9.index t 1 * win0_9.size 1 = 0 ∧ win0_9.xsize (grid0.coords t) 1 = 1024 := by revert t; decide +kernel
  refine ⟨fun h => ?_, fun h a => ?_⟩
  · have : win0_9.index t 0 * win0_9.size 0 ≤ (i 0 : Nat) ∧ (i 0 : Nat) < win0_9.index t 0 * win0_9.size 0 + win0_9.xsize (grid0.coords t) 0 := h 0
    rw [e.1, e.2.1] at this; exact this
  · match a with
    | ⟨0, _⟩ => show win0_9.index t 0 * win0_9.size 0 ≤ (i 0 : Nat) ∧ (i 0 : Nat) < win0_9.index t 0 * win0_9.size 0 + win0_9.xsize (grid0.coords t) 0; rw [e.1, e.2.1]; exact h
    | ⟨1, _⟩ => show win0_9.index t 1 * win0_9.size 1 ≤ (i 1 : Nat) ∧ (i 1 : Nat) < win0_9.index t 1 * win0_9.size 1 + win0_9.xsize (grid0.coords t) 1; rw [e.2.2.1, e.2.2.2]; omega

theorem cover9 (i : S4096x1024.Idx) :
    ∃ t : Fin cfg0.N, (cfg0.win 9).flush t = true ∧ i ∈ ((cfg0.win 9).blk t).view.set := by
  have h0 : (i 0 : Nat) < 4096 := (i 0).isLt
  have hN : cfg0.N = 16 := N_0
  refine ⟨⟨(i 0 : Nat) / 256, by omega⟩, flush0_9 _, ?_⟩
  rw [mem_blk9]
  dsimp only
  omega

/-- Result 0 after the run. -/
theorem final9 (c : Dev nD) : (dats m 0 c).arrAt 9 cfg0.N = res0 m c :=
  (dats m 0 c).arrAt_eq_of_cover 9 _ (fun t _ => flushed9_eq m c t) cover9

/-- Where point `t`'s block of result 1 lies: at its 256 rows. -/
theorem blk10_apply (t : Fin cfg0.N) (G : S4096x1024.Idx → EReal) (r : Fin 256) (f : Fin 1024) :
    ((win0_10.blk t).view.read (Elt Ideal) G : Vec Ideal S256x1024 .f32) (ix2 r f) = G (ix2 (row t r) f) := by
  have hi : win0_10.index t 0 = t.val ∧ win0_10.index t 1 = 0 := by revert t; decide
  rw [View.read_apply]
  show G _ = G _
  congr 1
  funext a
  apply Fin.ext
  match a with
  | ⟨0, _⟩ => show win0_10.index t 0 * 256 + 1 * r.val = t.val * 256 + r.val; rw [hi.1]; omega
  | ⟨1, _⟩ => show win0_10.index t 1 * 1024 + 1 * f.val = f.val; rw [hi.2]; omega

/-- What point `t` writes back of result 1. -/
theorem flushed10_eq (c : Dev nD) (t : Fin cfg0.N) :
    (dats m 0 c).flushed 10 t = (win0_10.blk t).view.read (Elt Ideal) (res1 m c) := by
  rw [Value.flushed10, outs10]
  funext i
  rw [eq_ix2 i]
  refine Eq.trans ?_ (blk10_apply t _ (i 0) (i 1)).symm
  exact point10 m c t (i 0) (i 1)

theorem mem_blk10 (t : Fin cfg0.N) (i : S4096x1024.Idx) :
    i ∈ ((cfg0.win 10).blk t).view.set ↔ t.val * 256 ≤ (i 0 : Nat) ∧ (i 0 : Nat) < t.val * 256 + 256 := by
  show i ∈ ((View.whole main_v8_1).slice (win0_10.rect t)).set ↔ _
  rw [View.set_slice_whole, Rect.mem_set_unit]
  have h1 : (i 1 : Nat) < 1024 := (i 1).isLt
  have e : win0_10.index t 0 * win0_10.size 0 = t.val * 256 ∧ win0_10.xsize (grid0.coords t) 0 = 256
      ∧ win0_10.index t 1 * win0_10.size 1 = 0 ∧ win0_10.xsize (grid0.coords t) 1 = 1024 := by revert t; decide +kernel
  refine ⟨fun h => ?_, fun h a => ?_⟩
  · have : win0_10.index t 0 * win0_10.size 0 ≤ (i 0 : Nat) ∧ (i 0 : Nat) < win0_10.index t 0 * win0_10.size 0 + win0_10.xsize (grid0.coords t) 0 := h 0
    rw [e.1, e.2.1] at this; exact this
  · match a with
    | ⟨0, _⟩ => show win0_10.index t 0 * win0_10.size 0 ≤ (i 0 : Nat) ∧ (i 0 : Nat) < win0_10.index t 0 * win0_10.size 0 + win0_10.xsize (grid0.coords t) 0; rw [e.1, e.2.1]; exact h
    | ⟨1, _⟩ => show win0_10.index t 1 * win0_10.size 1 ≤ (i 1 : Nat) ∧ (i 1 : Nat) < win0_10.index t 1 * win0_10.size 1 + win0_10.xsize (grid0.coords t) 1; rw [e.2.2.1, e.2.2.2]; omega

theorem cover10 (i : S4096x1024.Idx) :
    ∃ t : Fin cfg0.N, (cfg0.win 10).flush t = true ∧ i ∈ ((cfg0.win 10).blk t).view.set := by
  have h0 : (i 0 : Nat) < 4096 := (i 0).isLt
  have hN : cfg0.N = 16 := N_0
  refine ⟨⟨(i 0 : Nat) / 256, by omega⟩, flush0_10 _, ?_⟩
  rw [mem_blk10]
  dsimp only
  omega

/-- Result 1 after the run. -/
theorem final10 (c : Dev nD) : (dats m 0 c).arrAt 10 cfg0.N = res1 m c :=
  (dats m 0 c).arrAt_eq_of_cover 10 _ (fun t _ => flushed10_eq m c t) cover10

/-- One point's part of the norm scale's gradient, by the point's number. -/
def part (c : Dev nD) (k : Fin 1024) (n : ℕ) : EReal :=
  if h : n < cfg0.N then ∑ r : Fin 256, dhid (m (c.tc.loc main_arg0)) (m (c.tc.loc main_arg1)) (m (c.tc.loc main_arg2)) (m (c.tc.loc main_arg3)) (row ⟨n, h⟩ r) k * xnorm (m (c.tc.loc main_arg5)) (row ⟨n, h⟩ r) k else 0

/-- After point `n` the running sum holds the parts of the points up to it. -/
theorem sums (c : Dev nD) (z : Fin 1) (k : Fin 1024) : ∀ (n : ℕ) (h : n < cfg0.N),
    (outsAt0 m c n h).2.2 (ix2 z k) = ∑ t ∈ Finset.range (n + 1), part m c k t
  | 0, h => by
    rw [show outsAt0 m c 0 h = _ from outsAt0_A m c ⟨0, h⟩ (Nat.zero_mod _)]
    dsimp only
    rw [out_A_11, pay1_apply, pay3_apply, zero_add, point11, Finset.sum_range_one, part, dif_pos h]
  | n + 1, h => by
    have hN : cfg0.N = 16 := N_0
    rw [show outsAt0 m c (n + 1) h = _ from outsAt0_B m c ⟨n + 1, h⟩ (by show ¬(n + 1) % 16 = 0; omega)]
    dsimp only
    rw [out_B_11, pay1_apply, Finset.sum_range_succ, point11, part, dif_pos h]
    congr 1
    exact sums c z k n (Nat.lt_of_succ_lt h)

/-- All sixteen points' parts together are the sum over all rows. -/
theorem parts_eq (c : Dev nD) (z : Fin 1) (k : Fin 1024) : (∑ t ∈ Finset.range 16, part m c k t) = res2 m c (ix2 z k) := by
  have hN : cfg0.N = 16 := N_0
  show _ = ∑ s : Fin 4096, dhid (m (c.tc.loc main_arg0)) (m (c.tc.loc main_arg1)) (m (c.tc.loc main_arg2)) (m (c.tc.loc main_arg3)) s k * xnorm (m (c.tc.loc main_arg5)) s k
  rw [Fin.sum_univ_tiles 16 256 rfl, Finset.sum_range]
  refine Finset.sum_congr rfl fun t _ => ?_
  rw [part, dif_pos (by omega)]
  rfl

/-- What the last point writes back of result 2. -/
theorem flushed11_eq (c : Dev nD) (t : Fin cfg0.N) (ht : (cfg0.win 11).flush t = true) :
    (dats m 0 c).flushed 11 t = (win0_11.blk t).view.read (Elt Ideal) (res2 m c) := by
  have hN : cfg0.N = 16 := N_0
  have h15 : t = t0_15 := Fin.ext (by have := (flush0_11 t).mp ht; have := t.isLt; show t.val = 15; omega)
  subst h15
  rw [Value.flushed11]
  funext i
  rw [eq_ix2 i]
  have hi : win0_11.index t0_15 0 = 0 ∧ win0_11.index t0_15 1 = 0 := by decide
  refine (sums m c (i 0) (i 1) 15 t0_15.isLt).trans ?_
  rw [View.read_apply]
  show _ = res2 m c _
  have e : res2 m c ((win0_11.blk t0_15).view.emb (ix2 (i 0) (i 1))) = res2 m c (ix2 (i 0) (i 1)) := by
    congr 1
    funext a
    apply Fin.ext
    match a with
    | ⟨0, _⟩ => show win0_11.index t0_15 0 * 1 + 1 * (i 0).val = (i 0).val; rw [hi.1]; omega
    | ⟨1, _⟩ => show win0_11.index t0_15 1 * 1024 + 1 * (i 1).val = (i 1).val; rw [hi.2]; omega
  refine Eq.trans ?_ e.symm
  exact parts_eq m c (i 0) (i 1)

theorem cover11 (i : S1x1024.Idx) :
    ∃ t : Fin cfg0.N, (cfg0.win 11).flush t = true ∧ i ∈ ((cfg0.win 11).blk t).view.set := by
  have h0 : (i 0 : Nat) < 1 := (i 0).isLt
  have h1 : (i 1 : Nat) < 1024 := (i 1).isLt
  have hN : cfg0.N = 16 := N_0
  refine ⟨t0_15, (flush0_11 _).mpr rfl, ?_⟩
  show i ∈ ((View.whole main_v8_2).slice (win0_11.rect t0_15)).set
  rw [View.set_slice_whole, Rect.mem_set_unit]
  have e : win0_11.index t0_15 0 * win0_11.size 0 = 0 ∧ win0_11.xsize (grid0.coords t0_15) 0 = 1
      ∧ win0_11.index t0_15 1 * win0_11.size 1 = 0 ∧ win0_11.xsize (grid0.coords t0_15) 1 = 1024 := by decide +kernel
  intro a
  match a with
  | ⟨0, _⟩ => show win0_11.index t0_15 0 * win0_11.size 0 ≤ (i 0 : Nat) ∧ (i 0 : Nat) < win0_11.index t0_15 0 * win0_11.size 0 + win0_11.xsize (grid0.coords t0_15) 0; rw [e.1, e.2.1]; omega
  | ⟨1, _⟩ => show win0_11.index t0_15 1 * win0_11.size 1 ≤ (i 1 : Nat) ∧ (i 1 : Nat) < win0_11.index t0_15 1 * win0_11.size 1 + win0_11.xsize (grid0.coords t0_15) 1; rw [e.2.2.1, e.2.2.2]; omega

/-- Result 2 after the run. -/
theorem final11 (c : Dev nD) : (dats m 0 c).arrAt 11 cfg0.N = res2 m c :=
  (dats m 0 c).arrAt_eq_of_cover 11 _ (fun t ht => flushed11_eq m c t ht) cover11

/-! ## The two programs' numbers agree -/

/-- The precondition's shape facts. -/
instance preFacts : Cert.Pre_mlp_operands_finite.Facts := ⟨by decide, by decide, by decide, by decide⟩

/-- The reference's gradient of the block's input is the kernel's. -/
theorem ref0 (a0 a1 : S4096x2816.Idx → EReal) (a2 a3 : S2816x1024.Idx → EReal) (a5 : S4096x1024.Idx → EReal) (a6 : S1x1024.Idx → EReal) (a7 : S4096x1024.Idx → EReal)
    (f0 : ∀ i, a0 i ≠ ⊥ ∧ a0 i ≠ ⊤) (f1 : ∀ i, a1 i ≠ ⊥ ∧ a1 i ≠ ⊤) (f2 : ∀ i, a2 i ≠ ⊥ ∧ a2 i ≠ ⊤) (f3 : ∀ i, a3 i ≠ ⊥ ∧ a3 i ≠ ⊤)
    (f6 : ∀ i, a6 i ≠ ⊥ ∧ a6 i ≠ ⊤)
    (m : (ℓ : Loc Cert.MlpGradReferenceIdeal.nD Cert.MlpGradReferenceIdeal.τ Cert.MlpGradReferenceIdeal.sig) → Buf (Elt Ideal) ℓ)
    (c : Dev Cert.MlpGradReferenceIdeal.nD)
    (e0 : m ((c.tc : Thread _ _).loc Cert.MlpGradReferenceIdeal.main_arg0) = a0) (e1 : m ((c.tc : Thread _ _).loc Cert.MlpGradReferenceIdeal.main_arg1) = a1)
    (e2 : m ((c.tc : Thread _ _).loc Cert.MlpGradReferenceIdeal.main_arg2) = a2) (e3 : m ((c.tc : Thread _ _).loc Cert.MlpGradReferenceIdeal.main_arg3) = a3)
    (e5 : m ((c.tc : Thread _ _).loc Cert.MlpGradReferenceIdeal.main_arg5) = a5) (e6 : m ((c.tc : Thread _ _).loc Cert.MlpGradReferenceIdeal.main_arg6) = a6)
    (e7 : m ((c.tc : Thread _ _).loc Cert.MlpGradReferenceIdeal.main_arg7) = a7) :
    Cert.MlpGradReferenceIdeal.Value.res_main_v45 m c = dx1 a0 a1 a2 a3 a5 a6 a7 := by
  unfold Cert.MlpGradReferenceIdeal.Value.res_main_v45
  rw [e0, e1, e2, e3, e5, e6, e7]
  funext i
  rw [eq_ix2 i]
  generalize i 0 = p
  generalize i 1 = q
  pointwise
  simp only [add_comm (∑ f : Fin 2816, a1 _ * a3 _)]
  have hh : ∀ k, dhid a0 a1 a2 a3 p k ≠ ⊥ ∧ dhid a0 a1 a2 a3 p k ≠ ⊤ := fun k => by
    obtain ⟨u, hu⟩ := Cert.Finite.sum_mul Finset.univ (fun f : Fin 2816 => a0 (ix2 p f)) (fun f => a2 (ix2 f k)) (fun f => f0 _) (fun f => f2 _)
    obtain ⟨v, hv⟩ := Cert.Finite.sum_mul Finset.univ (fun f : Fin 2816 => a1 (ix2 p f)) (fun f => a3 (ix2 f k)) (fun f => f1 _) (fun f => f3 _)
    unfold dhid
    rw [hu, hv, ← EReal.coe_add]
    exact Cert.Finite.coe _
  have key := Cert.Norm.norm_eq (fun k => a5 (ix2 p k)) (dhid a0 a1 a2 a3 p) (fun k => a6 (ix2 0 k)) hh (fun k => f6 _) q
  rw [add_assoc, add_assoc]
  exact congrArg (fun z : EReal => a7 (ix2 p q) + z) key.symm

/-- The reference's product with the output weight is that of its gradient. -/
theorem ref1 (m : (ℓ : Loc Cert.MlpGradReferenceIdeal.nD Cert.MlpGradReferenceIdeal.τ Cert.MlpGradReferenceIdeal.sig) → Buf (Elt Ideal) ℓ)
    (c : Dev Cert.MlpGradReferenceIdeal.nD) (w : S1024x1024.Idx → EReal)
    (e4 : m ((c.tc : Thread _ _).loc Cert.MlpGradReferenceIdeal.main_arg4) = w) :
    Cert.MlpGradReferenceIdeal.Value.res_main_v49 m c = dmix (Cert.MlpGradReferenceIdeal.Value.res_main_v45 m c) w := by
  have h : Cert.MlpGradReferenceIdeal.Value.res_main_v49 m c = Host.dotGeneral Cert.MlpGradReferenceIdeal.dot_S4096x1024_S1024x1024_S4096x1024_1_1_0_0_n_n none
      (show FVec Ideal S4096x1024 .f32 from Cert.MlpGradReferenceIdeal.Value.res_main_v45 m c)
      (extf .f32 (show FVec Ideal S1024x1024 .bf16 from m ((c.tc : Thread _ _).loc Cert.MlpGradReferenceIdeal.main_arg4)) (by decide)) := rfl
  rw [h, e4]
  generalize Cert.MlpGradReferenceIdeal.Value.res_main_v45 m c = y
  funext i
  rw [eq_ix2 i]
  generalize i 0 = p
  generalize i 1 = q
  pointwise
  rfl

theorem agrees : algebraic_MlpGradIdeal_MlpGradReferenceIdeal_pre_mlp_operands_finite := by
  intro m g m' g' hpre hm
  refine ⟨fun c => res0 m c, fun c => res1 m c, fun c => res2 m c,
    (θ_run defs _ _).mono (fun r h c => ⟨(h c).1.trans (final9 m c), (h c).2.1.trans (final10 m c), (h c).2.2.1.trans (final11 m c), (h c).2.2.2⟩)
      (Cert.MlpGradIdeal.Value.run_blocks m g), ?_⟩
  have key : ∀ c : Dev nD, Cert.MlpGradReferenceIdeal.Value.res_main_v45 m' c = res0 m c := fun c => by
    obtain ⟨e0, e1, e2, e3, e4, e5, e6, e7⟩ := hm c
    exact ref0 _ _ _ _ _ _ _
      (fun i => Cert.Finite.bf16 _ (congrFun (hpre c).1 i)) (fun i => Cert.Finite.bf16 _ (congrFun (hpre c).2.1 i))
      (fun i => Cert.Finite.bf16 _ (congrFun (hpre c).2.2.1 i)) (fun i => Cert.Finite.bf16 _ (congrFun (hpre c).2.2.2.1 i))
      (fun i => Cert.Finite.f32 _ (congrFun (hpre c).2.2.2.2 i)) m' c e0 e1 e2 e3 e5 e6 e7
  refine (θ_run Cert.MlpGradReferenceIdeal.defs _ _).mono (fun r h c => ⟨(h c).1.trans (key c), (h c).2.1.trans ?_, (h c).2.2.1.trans ?_, (h c).2.2.2⟩)
    (Cert.MlpGradReferenceIdeal.Value.run m' g')
  · obtain ⟨e0, e1, e2, e3, e4, e5, e6, e7⟩ := hm c
    rw [ref1 m' c _ e4]
    exact congrArg (fun y => dmix y _) (key c)
  · obtain ⟨e0, e1, e2, e3, e4, e5, e6, e7⟩ := hm c
    rw [e0, e1, e2, e3, e5]
    show _ = dscale (m (c.tc.loc main_arg0)) (m (c.tc.loc main_arg1)) (m (c.tc.loc main_arg2)) (m (c.tc.loc main_arg3)) (m (c.tc.loc main_arg5))
    generalize m (c.tc.loc main_arg0) = a0
    generalize m (c.tc.loc main_arg1) = a1
    generalize m (c.tc.loc main_arg2) = a2
    generalize m (c.tc.loc main_arg3) = a3
    generalize m (c.tc.loc main_arg5) = a5
    funext i
    rw [eq_ix2 i]
    generalize i 0 = p
    generalize i 1 = q
    pointwise
    unfold dscale dhid xnorm rinv
    exact Finset.sum_congr rfl fun s _ => (mul_comm _ _).trans (congrArg (· * _) (add_comm _ _))

end Cert.MlpGradIdeal.Hand

end
-- ==== Proof.InNorm.Value.lean ====
/-
  WHAT THE FIRST NORM'S BACKWARD CALL COMPUTES: its two result arrays at an index. Each of the eight points reads a block of
  512 rows of every row-cut operand and the whole weight, whose five row pieces meet the gradients of the queries, the keys,
  the values, the pool input and the forget logits; it writes back the same 512 rows of the gradient of the block's input and
  adds its rows' part of the norm scale's gradient to a running sum, which the last point writes back.
-/
module

public import proofs.«01_k».proof.Defs
public import proofs.«01_k».proof.Proof.Gen.InNormGradIdeal.Value
public import proofs.«01_k».proof.Proof.Gen.InNormGradReferenceIdeal.Run
public import proofs.«01_k».proof.Proof.Finite
public import proofs.«01_k».proof.Proof.Norm
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.InNormGradIdeal.Hand

open Cert.InNormGradIdeal Cert.InNormGradIdeal.Gen

theorem hz : (![0, 0] : Fin 2 → Nat) = fun _ => 0 := funext fun a => by fin_cases a <;> rfl

section Pieces

/-- The rows of the weight that meet operand 0. -/
abbrev piece_q := Rect.unit (s := S2176x1024) ![0, 0] S512x1024.size inb_S2176x1024_S512x1024_0_0

theorem ld_q (X : S2176x1024.Idx → Elt Ideal .bf16) (f : Fin 512) (k : Fin 1024) :
    (View.ld (Val := Elt Ideal) (S := S2176x1024) (e' := .bf16) X piece_q : Vec Ideal S512x1024 .bf16) (ix2 f k) = X (ix2 (⟨0 + f.val, by omega⟩ : Fin 2176) k) := by
  show X _ = X _
  congr 1
  funext a
  apply Fin.ext
  match a with
  | ⟨0, _⟩ => show 0 + 1 * f.val = 0 + f.val; omega
  | ⟨1, _⟩ => show 0 + 1 * k.val = k.val; omega

/-- The rows of the weight that meet operand 1. -/
abbrev piece_k := Rect.unit (s := S2176x1024) ![512, 0] S512x1024.size inb_S2176x1024_S512x1024_512_0

theorem ld_k (X : S2176x1024.Idx → Elt Ideal .bf16) (f : Fin 512) (k : Fin 1024) :
    (View.ld (Val := Elt Ideal) (S := S2176x1024) (e' := .bf16) X piece_k : Vec Ideal S512x1024 .bf16) (ix2 f k) = X (ix2 (⟨512 + f.val, by omega⟩ : Fin 2176) k) := by
  show X _ = X _
  congr 1
  funext a
  apply Fin.ext
  match a with
  | ⟨0, _⟩ => show 512 + 1 * f.val = 512 + f.val; omega
  | ⟨1, _⟩ => show 0 + 1 * k.val = k.val; omega

/-- The rows of the weight that meet operand 2. -/
abbrev piece_v := Rect.unit (s := S2176x1024) ![1024, 0] S512x1024.size inb_S2176x1024_S512x1024_1024_0

theorem ld_v (X : S2176x1024.Idx → Elt Ideal .bf16) (f : Fin 512) (k : Fin 1024) :
    (View.ld (Val := Elt Ideal) (S := S2176x1024) (e' := .bf16) X piece_v : Vec Ideal S512x1024 .bf16) (ix2 f k) = X (ix2 (⟨1024 + f.val, by omega⟩ : Fin 2176) k) := by
  show X _ = X _
  congr 1
  funext a
  apply Fin.ext
  match a with
  | ⟨0, _⟩ => show 1024 + 1 * f.val = 1024 + f.val; omega
  | ⟨1, _⟩ => show 0 + 1 * k.val = k.val; omega

/-- The rows of the weight that meet operand 3. -/
abbrev piece_u := Rect.unit (s := S2176x1024) ![1536, 0] S512x1024.size inb_S2176x1024_S512x1024_1536_0

theorem ld_u (X : S2176x1024.Idx → Elt Ideal .bf16) (f : Fin 512) (k : Fin 1024) :
    (View.ld (Val := Elt Ideal) (S := S2176x1024) (e' := .bf16) X piece_u : Vec Ideal S512x1024 .bf16) (ix2 f k) = X (ix2 (⟨1536 + f.val, by omega⟩ : Fin 2176) k) := by
  show X _ = X _
  congr 1
  funext a
  apply Fin.ext
  match a with
  | ⟨0, _⟩ => show 1536 + 1 * f.val = 1536 + f.val; omega
  | ⟨1, _⟩ => show 0 + 1 * k.val = k.val; omega

/-- The rows of the weight that meet operand 4. -/
abbrev piece_f := Rect.unit (s := S2176x1024) ![2048, 0] S128x1024.size inb_S2176x1024_S128x1024_2048_0

theorem ld_f (X : S2176x1024.Idx → Elt Ideal .bf16) (f : Fin 128) (k : Fin 1024) :
    (View.ld (Val := Elt Ideal) (S := S2176x1024) (e' := .bf16) X piece_f : Vec Ideal S128x1024 .bf16) (ix2 f k) = X (ix2 (⟨2048 + f.val, by omega⟩ : Fin 2176) k) := by
  show X _ = X _
  congr 1
  funext a
  apply Fin.ext
  match a with
  | ⟨0, _⟩ => show 2048 + 1 * f.val = 2048 + f.val; omega
  | ⟨1, _⟩ => show 0 + 1 * k.val = k.val; omega

end Pieces

/-! ## What each point leaves in the results' blocks -/

section Cases

variable {F : FTy → Type} [FloatOps F]
variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .bf16) (h4 : a4.IsWhole)
  (a5 : Memref sig .tc .vmem S512x128 .bf16) (h5 : a5.IsWhole)
  (a6 : Memref sig .tc .vmem S2176x1024 .bf16) (h6 : a6.IsWhole)
  (a7 : Memref sig .tc .vmem S512x1024 .f32) (h7 : a7.IsWhole)
  (a8 : Memref sig .tc .vmem S512x1 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .f32) (h11 : a11.IsWhole)
  (a12 : Memref sig .tc .vmem S1x1024 .f32) (h12 : a12.IsWhole)
  (x0 : Vec F S512x512 .bf16) (x1 : Vec F S512x512 .bf16) (x2 : Vec F S512x512 .bf16) (x3 : Vec F S512x512 .bf16) (x4 : Vec F S512x128 .bf16) (x5 : Vec F S2176x1024 .bf16) (x6 : Vec F S512x1024 .f32) (x7 : Vec F S512x1 .f32) (x8 : Vec F S1x1024 .f32) (x9 : Vec F S512x1024 .f32)

/-- The first point leaves its block of result 0. -/
theorem out_A_10 (hc0 : cond0_0 i) :
    out0_A_10 c i a1 h1 a2 h2 a3 h3 a4 h4 a5 h5 a6 h6 a7 h7 a8 h8 a9 h9 a10 h10 a11 h11 a12 h12 hc0 x0 x1 x2 x3 x4 x5 x6 x7 x8 x9 = k0_pay2 (k0_pay5 x0 (View.ld (Val := Elt F) (S := S2176x1024) (e' := .bf16) x5 piece_q) x1 (View.ld (Val := Elt F) (S := S2176x1024) (e' := .bf16) x5 piece_k) x2 (View.ld (Val := Elt F) (S := S2176x1024) (e' := .bf16) x5 piece_v) x3 (View.ld (Val := Elt F) (S := S2176x1024) (e' := .bf16) x5 piece_u) x4 (View.ld (Val := Elt F) (S := S2176x1024) (e' := .bf16) x5 piece_f)) x6 (k0_pay6 x7) x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 hc0 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S1x1024) hz, View.ld_unit_zero (S := S2176x1024) hz, View.ld_unit_zero (S := S512x1) hz, View.ld_unit_zero (S := S512x1024) hz, View.ld_unit_zero (S := S512x128) hz, View.ld_unit_zero (S := S512x512) hz]

/-- The first point starts the sum of result 1 from zero. -/
theorem out_A_11 (hc0 : cond0_0 i) :
    out0_A_11 c i a1 h1 a2 h2 a3 h3 a4 h4 a5 h5 a6 h6 a7 h7 a8 h8 a9 h9 a10 h10 a11 h11 a12 h12 hc0 x0 x1 x2 x3 x4 x5 x6 x7 x8 x9 = k0_pay3 (k0_pay5 x0 (View.ld (Val := Elt F) (S := S2176x1024) (e' := .bf16) x5 piece_q) x1 (View.ld (Val := Elt F) (S := S2176x1024) (e' := .bf16) x5 piece_k) x2 (View.ld (Val := Elt F) (S := S2176x1024) (e' := .bf16) x5 piece_v) x3 (View.ld (Val := Elt F) (S := S2176x1024) (e' := .bf16) x5 piece_u) x4 (View.ld (Val := Elt F) (S := S2176x1024) (e' := .bf16) x5 piece_f)) x6 (k0_pay6 x7) k0_pay4 := by
  unfold out0_A_11
  rw [View.read_writes_eq_canon _ _ _ (cover0_A_11 c i a1 h1 a2 h2 a3 h3 a4 h4 a5 h5 a6 h6 a7 h7 a8 h8 a9 h9 a10 h10 a11 h11 a12 h12 hc0 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, View.ld_unit_zero (S := S1x1024) hz, View.ld_unit_zero (S := S2176x1024) hz, View.ld_unit_zero (S := S512x1) hz, View.ld_unit_zero (S := S512x1024) hz, View.ld_unit_zero (S := S512x128) hz, View.ld_unit_zero (S := S512x512) hz]

/-- A later point leaves its block of result 0. -/
theorem out_B_10 (hc0 : ¬cond0_0 i) (s11 : Vec F S1x1024 .f32) :
    out0_B_10 c i a1 h1 a2 h2 a3 h3 a4 h4 a5 h5 a6 h6 a7 h7 a8 h8 a9 h9 a10 h10 a11 h11 a12 h12 hc0 x0 x1 x2 x3 x4 x5 x6 x7 x8 x9 s11 = k0_pay2 (k0_pay5 x0 (View.ld (Val := Elt F) (S := S2176x1024) (e' := .bf16) x5 piece_q) x1 (View.ld (Val := Elt F) (S := S2176x1024) (e' := .bf16) x5 piece_k) x2 (View.ld (Val := Elt F) (S := S2176x1024) (e' := .bf16) x5 piece_v) x3 (View.ld (Val := Elt F) (S := S2176x1024) (e' := .bf16) x5 piece_u) x4 (View.ld (Val := Elt F) (S := S2176x1024) (e' := .bf16) x5 piece_f)) x6 (k0_pay6 x7) x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 hc0 x0 x1 x2 x3 x4 x5 x6 x7 x8 x9 s11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread, View.ld_unit_zero (S := S1x1024) hz, View.ld_unit_zero (S := S2176x1024) hz, View.ld_unit_zero (S := S512x1) hz, View.ld_unit_zero (S := S512x1024) hz, View.ld_unit_zero (S := S512x128) hz, View.ld_unit_zero (S := S512x512) hz]

/-- A later point adds its rows' part of result 1 to the running sum. -/
theorem out_B_11 (hc0 : ¬cond0_0 i) (s11 : Vec F S1x1024 .f32) :
    out0_B_11 c i a1 h1 a2 h2 a3 h3 a4 h4 a5 h5 a6 h6 a7 h7 a8 h8 a9 h9 a10 h10 a11 h11 a12 h12 hc0 x0 x1 x2 x3 x4 x5 x6 x7 x8 x9 s11 = k0_pay3 (k0_pay5 x0 (View.ld (Val := Elt F) (S := S2176x1024) (e' := .bf16) x5 piece_q) x1 (View.ld (Val := Elt F) (S := S2176x1024) (e' := .bf16) x5 piece_k) x2 (View.ld (Val := Elt F) (S := S2176x1024) (e' := .bf16) x5 piece_v) x3 (View.ld (Val := Elt F) (S := S2176x1024) (e' := .bf16) x5 piece_u) x4 (View.ld (Val := Elt F) (S := S2176x1024) (e' := .bf16) x5 piece_f)) x6 (k0_pay6 x7) s11 := by
  unfold out0_B_11
  rw [View.read_writes_eq_canon _ _ _ (cover0_B_11 c i a1 h1 a2 h2 a3 h3 a4 h4 a5 h5 a6 h6 a7 h7 a8 h8 a9 h9 a10 h10 a11 h11 a12 h12 hc0 x0 x1 x2 x3 x4 x5 x6 x7 x8 x9 s11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread, View.ld_unit_zero (S := S1x1024) hz, View.ld_unit_zero (S := S2176x1024) hz, View.ld_unit_zero (S := S512x1) hz, View.ld_unit_zero (S := S512x1024) hz, View.ld_unit_zero (S := S512x128) hz, View.ld_unit_zero (S := S512x512) hz]

end Cases

variable (m : (ℓ : Loc nD τ sig) → Buf (Elt Ideal) ℓ) (ρ : Dev nD → PrngReg)

/-- The row of the whole arrays that row `k` of point `t`'s block is. -/
def row (t : Fin cfg0.N) (k : Fin 512) : Fin 4096 := ⟨t.val * 512 + k.val, by have := t.isLt; have : cfg0.N = 8 := N_0; omega⟩

/-- Point `t`'s block of operand 0: its 512 rows. -/
theorem iblk0 (c : Dev nD) (t : Fin cfg0.N) (r : Fin 512) (k : Fin 512) :
    (iblk m c 0 t : Vec Ideal S512x512 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- Point `t`'s block of operand 1: its 512 rows. -/
theorem iblk1 (c : Dev nD) (t : Fin cfg0.N) (r : Fin 512) (k : Fin 512) :
    (iblk m c 1 t : Vec Ideal S512x512 .bf16) (ix2 r k) = m (c.tc.loc main_arg1) (ix2 (row t r) k) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

/-- Point `t`'s block of operand 2: its 512 rows. -/
theorem iblk2 (c : Dev nD) (t : Fin cfg0.N) (r : Fin 512) (k : Fin 512) :
    (iblk m c 2 t : Vec Ideal S512x512 .bf16) (ix2 r k) = m (c.tc.loc main_arg2) (ix2 (row t r) k) := by
  have hi : win0_2.index t 0 = t.val ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 512 + 1 * r.val = t.val * 512 + r.val; rw [hi.1]; omega
  | ⟨1, _⟩ => show win0_2.index t 1 * 512 + 1 * k.val = k.val; rw [hi.2]; omega

/-- Point `t`'s block of operand 3: its 512 rows. -/
theorem iblk3 (c : Dev nD) (t : Fin cfg0.N) (r : Fin 512) (k : Fin 512) :
    (iblk m c 3 t : Vec Ideal S512x512 .bf16) (ix2 r k) = m (c.tc.loc main_arg3) (ix2 (row t r) k) := by
  have hi : win0_3.index t 0 = t.val ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 512 + 1 * r.val = t.val * 512 + r.val; rw [hi.1]; omega
  | ⟨1, _⟩ => show win0_3.index t 1 * 512 + 1 * k.val = k.val; rw [hi.2]; omega

/-- Point `t`'s block of operand 4: its 512 rows. -/
theorem iblk4 (c : Dev nD) (t : Fin cfg0.N) (r : Fin 512) (k : Fin 128) :
    (iblk m c 4 t : Vec Ideal S512x128 .bf16) (ix2 r k) = m (c.tc.loc main_arg4) (ix2 (row t r) k) := by
  have hi : win0_4.index t 0 = t.val ∧ win0_4.index t 1 = 0 := by revert t; decide
  unfold iblk
  rw [View.read_apply]
  show m (c.tc.loc main_arg4) _ = m (c.tc.loc main_arg4) _
  congr 1
  funext a
  apply Fin.ext
  match a with
  | ⟨0, _⟩ => show win0_4.index t 0 * 512 + 1 * r.val = t.val * 512 + r.val; rw [hi.1]; omega
  | ⟨1, _⟩ => show win0_4.index t 1 * 128 + 1 * k.val = k.val; rw [hi.2]; omega

/-- Every point's block of operand 5 is the whole operand. -/
theorem iblk5 (c : Dev nD) (t : Fin cfg0.N) (r : Fin 2176) (k : Fin 1024) :
    (iblk m c 5 t : Vec Ideal S2176x1024 .bf16) (ix2 r k) = m (c.tc.loc main_arg5) (ix2 r k) := by
  have hi : win0_5.index t 0 = 0 ∧ win0_5.index t 1 = 0 := by revert t; decide
  unfold iblk
  rw [View.read_apply]
  show m (c.tc.loc main_arg5) _ = m (c.tc.loc main_arg5) _
  congr 1
  funext a
  apply Fin.ext
  match a with
  | ⟨0, _⟩ => show win0_5.index t 0 * 2176 + 1 * r.val = r.val; rw [hi.1]; omega
  | ⟨1, _⟩ => show win0_5.index t 1 * 1024 + 1 * k.val = k.val; rw [hi.2]; omega

/-- Point `t`'s block of operand 6: its 512 rows. -/
theorem iblk6 (c : Dev nD) (t : Fin cfg0.N) (r : Fin 512) (k : Fin 1024) :
    (iblk m c 6 t : Vec Ideal S512x1024 .f32) (ix2 r k) = m (c.tc.loc main_arg6) (ix2 (row t r) k) := by
  have hi : win0_6.index t 0 = t.val ∧ win0_6.index t 1 = 0 := by revert t; decide
  unfold iblk
  rw [View.read_apply]
  show m (c.tc.loc main_arg6) _ = m (c.tc.loc main_arg6) _
  congr 1
  funext a
  apply Fin.ext
  match a with
  | ⟨0, _⟩ => show win0_6.index t 0 * 512 + 1 * r.val = t.val * 512 + r.val; rw [hi.1]; omega
  | ⟨1, _⟩ => show win0_6.index t 1 * 1024 + 1 * k.val = k.val; rw [hi.2]; omega

/-- Point `t`'s block of operand 7: its 512 rows. -/
theorem iblk7 (c : Dev nD) (t : Fin cfg0.N) (r : Fin 512) (k : Fin 1) :
    (iblk m c 7 t : Vec Ideal S512x1 .f32) (ix2 r k) = V m c main_v7 (ix2 (row t r) k) := by
  have hi : win0_7.index t 0 = t.val ∧ win0_7.index t 1 = 0 := by revert t; decide
  unfold iblk
  rw [View.read_apply]
  show V m c main_v7 _ = V m c main_v7 _
  congr 1
  funext a
  apply Fin.ext
  match a with
  | ⟨0, _⟩ => show win0_7.index t 0 * 512 + 1 * r.val = t.val * 512 + r.val; rw [hi.1]; omega
  | ⟨1, _⟩ => show win0_7.index t 1 * 1 + 1 * k.val = k.val; rw [hi.2]; omega

/-- Every point's block of operand 8 is the whole operand. -/
theorem iblk8 (c : Dev nD) (t : Fin cfg0.N) (r : Fin 1) (k : Fin 1024) :
    (iblk m c 8 t : Vec Ideal S1x1024 .f32) (ix2 r k) = m (c.tc.loc main_arg7) (ix2 r k) := by
  have hi : win0_8.index t 0 = 0 ∧ win0_8.index t 1 = 0 := by revert t; decide
  unfold iblk
  rw [View.read_apply]
  show m (c.tc.loc main_arg7) _ = m (c.tc.loc main_arg7) _
  congr 1
  funext a
  apply Fin.ext
  match a with
  | ⟨0, _⟩ => show win0_8.index t 0 * 1 + 1 * r.val = r.val; rw [hi.1]; omega
  | ⟨1, _⟩ => show win0_8.index t 1 * 1024 + 1 * k.val = k.val; rw [hi.2]; omega

/-- Point `t`'s block of operand 9: its 512 rows. -/
theorem iblk9 (c : Dev nD) (t : Fin cfg0.N) (r : Fin 512) (k : Fin 1024) :
    (iblk m c 9 t : Vec Ideal S512x1024 .f32) (ix2 r k) = m (c.tc.loc main_arg8) (ix2 (row t r) k) := by
  have hi : win0_9.index t 0 = t.val ∧ win0_9.index t 1 = 0 := by revert t; decide
  unfold iblk
  rw [View.read_apply]
  show m (c.tc.loc main_arg8) _ = m (c.tc.loc main_arg8) _
  congr 1
  funext a
  apply Fin.ext
  match a with
  | ⟨0, _⟩ => show win0_9.index t 0 * 512 + 1 * r.val = t.val * 512 + r.val; rw [hi.1]; omega
  | ⟨1, _⟩ => show win0_9.index t 1 * 1024 + 1 * k.val = k.val; rw [hi.2]; omega

/-- One over the root of a row's mean square. -/
def rinv (x : S4096x1024.Idx → EReal) (s : Fin 4096) : EReal := Ideal.rsqrt (Cert.Norm.meanSq fun k => x (ix2 s k))

/-- The host computes that factor of every row before the call. -/
theorem host_rinv (c : Dev nD) (s : Fin 4096) (z : Fin 1) : V m c main_v7 (ix2 s z) = rinv (m (c.tc.loc main_arg6)) s := by
  have h : V m c main_v7 = (Host.rsqrt (addf (Host.divf (broadcastInDim S4096x1 ![0] bcast_S4096_S4096x1_0 (Host.reduceAdd (mulf (show FVec Ideal S4096x1024 .f32 from m (c.tc.loc main_arg6)) (show FVec Ideal S4096x1024 .f32 from m (c.tc.loc main_arg6))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))) : FVec Ideal S4096x1 .f32) := by
    show StableHlo.after hostOps0 _ _ = _
    after_results
  rw [h]
  generalize m (c.tc.loc main_arg6) = x
  pointwise
  rfl

/-! ## The payloads at an index -/

theorem pay5_apply (x0 : Vec Ideal S512x512 .bf16) (w0 : Vec Ideal S512x1024 .bf16) (x1 : Vec Ideal S512x512 .bf16) (w1 : Vec Ideal S512x1024 .bf16) (x2 : Vec Ideal S512x512 .bf16) (w2 : Vec Ideal S512x1024 .bf16) (x3 : Vec Ideal S512x512 .bf16) (w3 : Vec Ideal S512x1024 .bf16) (x4 : Vec Ideal S512x128 .bf16) (w4 : Vec Ideal S128x1024 .bf16) (r : Fin 512) (k : Fin 1024) :
    k0_pay5 x0 w0 x1 w1 x2 w2 x3 w3 x4 w4 (ix2 r k) = (∑ f : Fin 512, (show EReal from x0 (ix2 r f)) * (show EReal from w0 (ix2 f k))) + (∑ f : Fin 512, (show EReal from x1 (ix2 r f)) * (show EReal from w1 (ix2 f k))) + (∑ f : Fin 512, (show EReal from x2 (ix2 r f)) * (show EReal from w2 (ix2 f k))) + (∑ f : Fin 512, (show EReal from x3 (ix2 r f)) * (show EReal from w3 (ix2 f k))) + (∑ f : Fin 128, (show EReal from x4 (ix2 r f)) * (show EReal from w4 (ix2 f k))) := by
  unfold_payloads
  pointwise

theorem pay6_apply (x7 : Vec Ideal S512x1 .f32) : k0_pay6 x7 = x7 := by
  unfold k0_pay6
  rw [shapeCast_self]

theorem pay2_apply (dh x : Vec Ideal S512x1024 .f32) (rr : Vec Ideal S512x1 .f32) (g : Vec Ideal S1x1024 .f32) (d : Vec Ideal S512x1024 .f32)
    (r : Fin 512) (k : Fin 1024) :
    k0_pay2 dh x rr g d (ix2 r k) = (show EReal from d (ix2 r k)) + (show EReal from rr (ix2 r 0))
      * ((show EReal from dh (ix2 r k)) * (show EReal from g (ix2 0 k)) - (show EReal from x (ix2 r k)) * (show EReal from rr (ix2 r 0))
        * Ideal.div (∑ l : Fin 1024, (show EReal from dh (ix2 r l)) * (show EReal from g (ix2 0 l)) * ((show EReal from x (ix2 r l)) * (show EReal from rr (ix2 r 0)))) (Ideal.ofBits .f32 0x44800000#32)) := by
  unfold_payloads
  pointwise

theorem pay3_apply (dh x : Vec Ideal S512x1024 .f32) (rr : Vec Ideal S512x1 .f32) (s : Vec Ideal S1x1024 .f32) (z : Fin 1) (k : Fin 1024) :
    k0_pay3 dh x rr s (ix2 z k) = (show EReal from s (ix2 z k))
      + ∑ r : Fin 512, (show EReal from dh (ix2 r k)) * ((show EReal from x (ix2 r k)) * (show EReal from rr (ix2 r 0))) := by
  unfold_payloads
  pointwise

theorem pay4_apply (z : Fin 1) (k : Fin 1024) : (k0_pay4 : FVec Ideal S1x1024 .f32) (ix2 z k) = (0 : EReal) := by
  unfold_payloads
  pointwise

/-! ## The results at an index -/

/-- The gradient of the normed input times its scale, at row `s` and column `k`: the five products added. -/
def dhid (dq : S4096x512.Idx → EReal) (dk : S4096x512.Idx → EReal) (dv : S4096x512.Idx → EReal) (du : S4096x512.Idx → EReal) (df : S4096x128.Idx → EReal) (w : S2176x1024.Idx → EReal) (s : Fin 4096) (k : Fin 1024) : EReal :=
  (∑ f : Fin 512, dq (ix2 s f) * w (ix2 (⟨0 + f.val, by omega⟩ : Fin 2176) k)) + (∑ f : Fin 512, dk (ix2 s f) * w (ix2 (⟨512 + f.val, by omega⟩ : Fin 2176) k)) + (∑ f : Fin 512, dv (ix2 s f) * w (ix2 (⟨1024 + f.val, by omega⟩ : Fin 2176) k)) + (∑ f : Fin 512, du (ix2 s f) * w (ix2 (⟨1536 + f.val, by omega⟩ : Fin 2176) k)) + (∑ f : Fin 128, df (ix2 s f) * w (ix2 (⟨2048 + f.val, by omega⟩ : Fin 2176) k))

/-- The normed input, without its scale. -/
def xnorm (x : S4096x1024.Idx → EReal) (s : Fin 4096) (k : Fin 1024) : EReal := x (ix2 s k) * rinv x s

/-- The gradient of the block's input, as the kernel writes it, from the gradient `h` of the normed one. -/
def dx0 (h : Fin 4096 → Fin 1024 → EReal) (x : S4096x1024.Idx → EReal) (g : S1x1024.Idx → EReal) (d : S4096x1024.Idx → EReal) (i : S4096x1024.Idx) : EReal :=
  d (ix2 (i 0) (i 1)) + rinv x (i 0) * (h (i 0) (i 1) * g (ix2 0 (i 1)) - xnorm x (i 0) (i 1)
    * Ideal.div (∑ l : Fin 1024, h (i 0) l * g (ix2 0 l) * xnorm x (i 0) l) (Ideal.ofBits .f32 0x44800000#32))

/-- The norm scale's gradient. -/
def dscale (h : Fin 4096 → Fin 1024 → EReal) (x : S4096x1024.Idx → EReal) (i : S1x1024.Idx) : EReal :=
  ∑ s : Fin 4096, h s (i 1) * xnorm x s (i 1)

/-- The two results of device `c`'s operands. -/
def hid (c : Dev nD) : Fin 4096 → Fin 1024 → EReal := dhid (m (c.tc.loc main_arg0)) (m (c.tc.loc main_arg1)) (m (c.tc.loc main_arg2)) (m (c.tc.loc main_arg3)) (m (c.tc.loc main_arg4)) (m (c.tc.loc main_arg5))
def res0 (c : Dev nD) : S4096x1024.Idx → EReal := dx0 (hid m c) (m (c.tc.loc main_arg6)) (m (c.tc.loc main_arg7)) (m (c.tc.loc main_arg8))
def res1 (c : Dev nD) : S1x1024.Idx → EReal := dscale (hid m c) (m (c.tc.loc main_arg6))

theorem point5 (c : Dev nD) (t : Fin cfg0.N) (r : Fin 512) (k : Fin 1024) :
    k0_pay5 (iblk m c 0 t) (View.ld (Val := Elt Ideal) (S := S2176x1024) (e' := .bf16) (iblk m c 5 t) piece_q) (iblk m c 1 t) (View.ld (Val := Elt Ideal) (S := S2176x1024) (e' := .bf16) (iblk m c 5 t) piece_k) (iblk m c 2 t) (View.ld (Val := Elt Ideal) (S := S2176x1024) (e' := .bf16) (iblk m c 5 t) piece_v) (iblk m c 3 t) (View.ld (Val := Elt Ideal) (S := S2176x1024) (e' := .bf16) (iblk m c 5 t) piece_u) (iblk m c 4 t) (View.ld (Val := Elt Ideal) (S := S2176x1024) (e' := .bf16) (iblk m c 5 t) piece_f) (ix2 r k) = hid m c (row t r) k := by
  rw [pay5_apply]
  exact (congrArg₂ (fun a b : EReal => a + b) (congrArg₂ (fun a b : EReal => a + b) (congrArg₂ (fun a b : EReal => a + b) (congrArg₂ (fun a b : EReal => a + b) (Finset.sum_congr rfl fun f _ => congrArg₂ (fun a b : EReal => a * b) (iblk0 m c t r f) ((ld_q _ f k).trans (iblk5 m c t _ k)))
    (Finset.sum_congr rfl fun f _ => congrArg₂ (fun a b : EReal => a * b) (iblk1 m c t r f) ((ld_k _ f k).trans (iblk5 m c t _ k))))
    (Finset.sum_congr rfl fun f _ => congrArg₂ (fun a b : EReal => a * b) (iblk2 m c t r f) ((ld_v _ f k).trans (iblk5 m c t _ k))))
    (Finset.sum_congr rfl fun f _ => congrArg₂ (fun a b : EReal => a * b) (iblk3 m c t r f) ((ld_u _ f k).trans (iblk5 m c t _ k))))
    (Finset.sum_congr rfl fun f _ => congrArg₂ (fun a b : EReal => a * b) (iblk4 m c t r f) ((ld_f _ f k).trans (iblk5 m c t _ k))))

theorem outs10 (c : Dev nD) (t : Fin cfg0.N) : (outsAt0 m c t.val t.isLt).1 = k0_pay2 (k0_pay5 (iblk m c 0 t) (View.ld (Val := Elt Ideal) (S := S2176x1024) (e' := .bf16) (iblk m c 5 t) piece_q) (iblk m c 1 t) (View.ld (Val := Elt Ideal) (S := S2176x1024) (e' := .bf16) (iblk m c 5 t) piece_k) (iblk m c 2 t) (View.ld (Val := Elt Ideal) (S := S2176x1024) (e' := .bf16) (iblk m c 5 t) piece_v) (iblk m c 3 t) (View.ld (Val := Elt Ideal) (S := S2176x1024) (e' := .bf16) (iblk m c 5 t) piece_u) (iblk m c 4 t) (View.ld (Val := Elt Ideal) (S := S2176x1024) (e' := .bf16) (iblk m c 5 t) piece_f)) (iblk m c 6 t) (k0_pay6 (iblk m c 7 t)) (iblk m c 8 t) (iblk m c 9 t) := by
  by_cases h : t.val % 8 = 0
  · rw [outsAt0_A m c t h]
    dsimp only
    rw [out_A_10]
  · rw [outsAt0_B m c t h]
    dsimp only
    rw [out_B_10]

/-- Where point `t`'s block of result 0 lies: at its 512 rows. -/
theorem blk10_apply (t : Fin cfg0.N) (G : S4096x1024.Idx → EReal) (r : Fin 512) (f : Fin 1024) :
    ((win0_10.blk t).view.read (Elt Ideal) G : Vec Ideal S512x1024 .f32) (ix2 r f) = G (ix2 (row t r) f) := by
  have hi : win0_10.index t 0 = t.val ∧ win0_10.index t 1 = 0 := by revert t; decide
  rw [View.read_apply]
  show G _ = G _
  congr 1
  funext a
  apply Fin.ext
  match a with
  | ⟨0, _⟩ => show win0_10.index t 0 * 512 + 1 * r.val = t.val * 512 + r.val; rw [hi.1]; omega
  | ⟨1, _⟩ => show win0_10.index t 1 * 1024 + 1 * f.val = f.val; rw [hi.2]; omega

/-- What the body computes for result 0 at point `t`, at an index of the block. -/
theorem point10 (c : Dev nD) (t : Fin cfg0.N) (r : Fin 512) (k : Fin 1024) :
    k0_pay2 (k0_pay5 (iblk m c 0 t) (View.ld (Val := Elt Ideal) (S := S2176x1024) (e' := .bf16) (iblk m c 5 t) piece_q) (iblk m c 1 t) (View.ld (Val := Elt Ideal) (S := S2176x1024) (e' := .bf16) (iblk m c 5 t) piece_k) (iblk m c 2 t) (View.ld (Val := Elt Ideal) (S := S2176x1024) (e' := .bf16) (iblk m c 5 t) piece_v) (iblk m c 3 t) (View.ld (Val := Elt Ideal) (S := S2176x1024) (e' := .bf16) (iblk m c 5 t) piece_u) (iblk m c 4 t) (View.ld (Val := Elt Ideal) (S := S2176x1024) (e' := .bf16) (iblk m c 5 t) piece_f)) (iblk m c 6 t) (k0_pay6 (iblk m c 7 t)) (iblk m c 8 t) (iblk m c 9 t) (ix2 r k) = res0 m c (ix2 (row t r) k) := by
  rw [pay2_apply]
  simp only [point5, pay6_apply, iblk6, iblk7, iblk8, iblk9]
  have h := host_rinv m c (row t r) 0
  generalize V m c main_v7 = v at h ⊢
  rw [h]
  rfl

/-- What point `t` writes back of result 0. -/
theorem flushed10_eq (c : Dev nD) (t : Fin cfg0.N) :
    (dats m 0 c).flushed 10 t = (win0_10.blk t).view.read (Elt Ideal) (res0 m c) := by
  rw [Value.flushed10, outs10]
  funext i
  rw [eq_ix2 i]
  refine Eq.trans ?_ (blk10_apply t _ (i 0) (i 1)).symm
  exact point10 m c t (i 0) (i 1)

theorem mem_blk10 (t : Fin cfg0.N) (i : S4096x1024.Idx) :
    i ∈ ((cfg0.win 10).blk t).view.set ↔ t.val * 512 ≤ (i 0 : Nat) ∧ (i 0 : Nat) < t.val * 512 + 512 := by
  show i ∈ ((View.whole main_v8_0).slice (win0_10.rect t)).set ↔ _
  rw [View.set_slice_whole, Rect.mem_set_unit]
  have h1 : (i 1 : Nat) < 1024 := (i 1).isLt
  have e : win0_10.index t 0 * win0_10.size 0 = t.val * 512 ∧ win0_10.xsize (grid0.coords t) 0 = 512
      ∧ win0_10.index t 1 * win0_10.size 1 = 0 ∧ win0_10.xsize (grid0.coords t) 1 = 1024 := by revert t; decide +kernel
  refine ⟨fun h => ?_, fun h a => ?_⟩
  · have : win0_10.index t 0 * win0_10.size 0 ≤ (i 0 : Nat) ∧ (i 0 : Nat) < win0_10.index t 0 * win0_10.size 0 + win0_10.xsize (grid0.coords t) 0 := h 0
    rw [e.1, e.2.1] at this; exact this
  · match a with
    | ⟨0, _⟩ => show win0_10.index t 0 * win0_10.size 0 ≤ (i 0 : Nat) ∧ (i 0 : Nat) < win0_10.index t 0 * win0_10.size 0 + win0_10.xsize (grid0.coords t) 0; rw [e.1, e.2.1]; exact h
    | ⟨1, _⟩ => show win0_10.index t 1 * win0_10.size 1 ≤ (i 1 : Nat) ∧ (i 1 : Nat) < win0_10.index t 1 * win0_10.size 1 + win0_10.xsize (grid0.coords t) 1; rw [e.2.2.1, e.2.2.2]; omega

theorem cover10 (i : S4096x1024.Idx) :
    ∃ t : Fin cfg0.N, (cfg0.win 10).flush t = true ∧ i ∈ ((cfg0.win 10).blk t).view.set := by
  have h0 : (i 0 : Nat) < 4096 := (i 0).isLt
  have hN : cfg0.N = 8 := N_0
  refine ⟨⟨(i 0 : Nat) / 512, by omega⟩, flush0_10 _, ?_⟩
  rw [mem_blk10]
  dsimp only
  omega

/-- Result 0 after the run. -/
theorem final10 (c : Dev nD) : (dats m 0 c).arrAt 10 cfg0.N = res0 m c :=
  (dats m 0 c).arrAt_eq_of_cover 10 _ (fun t _ => flushed10_eq m c t) cover10

/-- One point's part of the norm scale's gradient. -/
theorem point11 (c : Dev nD) (t : Fin cfg0.N) (s : Vec Ideal S1x1024 .f32) (z : Fin 1) (k : Fin 1024) :
    k0_pay3 (k0_pay5 (iblk m c 0 t) (View.ld (Val := Elt Ideal) (S := S2176x1024) (e' := .bf16) (iblk m c 5 t) piece_q) (iblk m c 1 t) (View.ld (Val := Elt Ideal) (S := S2176x1024) (e' := .bf16) (iblk m c 5 t) piece_k) (iblk m c 2 t) (View.ld (Val := Elt Ideal) (S := S2176x1024) (e' := .bf16) (iblk m c 5 t) piece_v) (iblk m c 3 t) (View.ld (Val := Elt Ideal) (S := S2176x1024) (e' := .bf16) (iblk m c 5 t) piece_u) (iblk m c 4 t) (View.ld (Val := Elt Ideal) (S := S2176x1024) (e' := .bf16) (iblk m c 5 t) piece_f)) (iblk m c 6 t) (k0_pay6 (iblk m c 7 t)) s (ix2 z k)
      = (show EReal from s (ix2 z k)) + ∑ r : Fin 512, hid m c (row t r) k * xnorm (m (c.tc.loc main_arg6)) (row t r) k := by
  refine (pay3_apply _ _ _ _ _ _).trans (congrArg (fun y : EReal => (show EReal from s (ix2 z k)) + y) (Finset.sum_congr rfl fun r _ => ?_))
  have h6 : k0_pay6 (iblk m c 7 t) (ix2 r 0) = rinv (m (c.tc.loc main_arg6)) (row t r) :=
    ((congrFun (pay6_apply (iblk m c 7 t)) _).trans (iblk7 m c t r 0)).trans (host_rinv m c (row t r) 0)
  exact congrArg₂ (fun a b : EReal => a * b) (point5 m c t r k) (congrArg₂ (fun a b : EReal => a * b) (iblk6 m c t r k) h6)

/-- One point's part of result 1, by the point's number. -/
def part11 (c : Dev nD) (k : Fin 1024) (n : ℕ) : EReal :=
  if h : n < cfg0.N then ∑ r : Fin 512, hid m c (row ⟨n, h⟩ r) k * xnorm (m (c.tc.loc main_arg6)) (row ⟨n, h⟩ r) k else 0

/-- After point `n` the running sum holds the parts of the points up to it. -/
theorem sums11 (c : Dev nD) (z : Fin 1) (k : Fin 1024) : ∀ (n : ℕ) (h : n < cfg0.N),
    (outsAt0 m c n h).2 (ix2 z k) = ∑ t ∈ Finset.range (n + 1), part11 m c k t
  | 0, h => by
    rw [show outsAt0 m c 0 h = _ from outsAt0_A m c ⟨0, h⟩ (Nat.zero_mod _)]
    dsimp only
    rw [out_A_11, point11, pay4_apply, zero_add, Finset.sum_range_one, part11, dif_pos h]
  | n + 1, h => by
    have hN : cfg0.N = 8 := N_0
    rw [show outsAt0 m c (n + 1) h = _ from outsAt0_B m c ⟨n + 1, h⟩ (by show ¬(n + 1) % 8 = 0; omega)]
    dsimp only
    rw [out_B_11, point11, Finset.sum_range_succ, part11, dif_pos h]
    congr 1
    exact sums11 c z k n (Nat.lt_of_succ_lt h)

/-- All points' parts together are the sum over all rows. -/
theorem parts11 (c : Dev nD) (z : Fin 1) (k : Fin 1024) : (∑ t ∈ Finset.range 8, part11 m c k t) = res1 m c (ix2 z k) := by
  have hN : cfg0.N = 8 := N_0
  show _ = ∑ s : Fin 4096, hid m c s k * xnorm (m (c.tc.loc main_arg6)) s k
  rw [Fin.sum_univ_tiles 8 512 rfl, Finset.sum_range]
  refine Finset.sum_congr rfl fun t _ => ?_
  rw [part11, dif_pos (by omega)]
  rfl

/-- What the last point writes back of result 1. -/
theorem flushed11_eq (c : Dev nD) (t : Fin cfg0.N) (ht : (cfg0.win 11).flush t = true) :
    (dats m 0 c).flushed 11 t = (win0_11.blk t).view.read (Elt Ideal) (res1 m c) := by
  have hN : cfg0.N = 8 := N_0
  have hl : t = t0_7 := Fin.ext (by have := (flush0_11 t).mp ht; have := t.isLt; show t.val = 7; omega)
  subst hl
  rw [Value.flushed11]
  funext i
  rw [eq_ix2 i]
  have hi : win0_11.index t0_7 0 = 0 ∧ win0_11.index t0_7 1 = 0 := by decide
  refine (sums11 m c (i 0) (i 1) 7 t0_7.isLt).trans ?_
  rw [View.read_apply]
  show _ = res1 m c _
  have e : res1 m c ((win0_11.blk t0_7).view.emb (ix2 (i 0) (i 1))) = res1 m c (ix2 (i 0) (i 1)) := by
    congr 1
    funext a
    apply Fin.ext
    match a with
    | ⟨0, _⟩ => show win0_11.index t0_7 0 * 1 + 1 * (i 0).val = (i 0).val; rw [hi.1]; omega
    | ⟨1, _⟩ => show win0_11.index t0_7 1 * 1024 + 1 * (i 1).val = (i 1).val; rw [hi.2]; omega
  refine Eq.trans ?_ e.symm
  exact parts11 m c (i 0) (i 1)

theorem cover11 (i : S1x1024.Idx) :
    ∃ t : Fin cfg0.N, (cfg0.win 11).flush t = true ∧ i ∈ ((cfg0.win 11).blk t).view.set := by
  have h0 : (i 0 : Nat) < 1 := (i 0).isLt
  have h1 : (i 1 : Nat) < 1024 := (i 1).isLt
  have hN : cfg0.N = 8 := N_0
  refine ⟨t0_7, (flush0_11 _).mpr rfl, ?_⟩
  show i ∈ ((View.whole main_v8_1).slice (win0_11.rect t0_7)).set
  rw [View.set_slice_whole, Rect.mem_set_unit]
  have e : win0_11.index t0_7 0 * win0_11.size 0 = 0 ∧ win0_11.xsize (grid0.coords t0_7) 0 = 1
      ∧ win0_11.index t0_7 1 * win0_11.size 1 = 0 ∧ win0_11.xsize (grid0.coords t0_7) 1 = 1024 := by decide +kernel
  intro a
  match a with
  | ⟨0, _⟩ => show win0_11.index t0_7 0 * win0_11.size 0 ≤ (i 0 : Nat) ∧ (i 0 : Nat) < win0_11.index t0_7 0 * win0_11.size 0 + win0_11.xsize (grid0.coords t0_7) 0; rw [e.1, e.2.1]; omega
  | ⟨1, _⟩ => show win0_11.index t0_7 1 * win0_11.size 1 ≤ (i 1 : Nat) ∧ (i 1 : Nat) < win0_11.index t0_7 1 * win0_11.size 1 + win0_11.xsize (grid0.coords t0_7) 1; rw [e.2.2.1, e.2.2.2]; omega

/-- Result 1 after the run. -/
theorem final11 (c : Dev nD) : (dats m 0 c).arrAt 11 cfg0.N = res1 m c :=
  (dats m 0 c).arrAt_eq_of_cover 11 _ (fun t ht => flushed11_eq m c t ht) cover11

/-! ## The two programs' numbers agree -/

/-- The precondition's shape facts. -/
instance preFacts : Cert.Pre_norm_operands_finite.Facts := ⟨by decide, by decide, by decide, by decide⟩

/-- The five products added from the last to the first. -/
theorem dhid_rev (dq : S4096x512.Idx → EReal) (dk : S4096x512.Idx → EReal) (dv : S4096x512.Idx → EReal) (du : S4096x512.Idx → EReal) (df : S4096x128.Idx → EReal) (w : S2176x1024.Idx → EReal) (s : Fin 4096) (k : Fin 1024) :
    dhid dq dk dv du df w s k = (∑ f : Fin 128, df (ix2 s f) * w (ix2 (⟨2048 + f.val, by omega⟩ : Fin 2176) k)) + (∑ f : Fin 512, du (ix2 s f) * w (ix2 (⟨1536 + f.val, by omega⟩ : Fin 2176) k)) + (∑ f : Fin 512, dv (ix2 s f) * w (ix2 (⟨1024 + f.val, by omega⟩ : Fin 2176) k)) + (∑ f : Fin 512, dk (ix2 s f) * w (ix2 (⟨512 + f.val, by omega⟩ : Fin 2176) k)) + (∑ f : Fin 512, dq (ix2 s f) * w (ix2 (⟨0 + f.val, by omega⟩ : Fin 2176) k)) := by
  unfold dhid
  ac_rfl

theorem dhid_finite (a0 : S4096x512.Idx → EReal) (a1 : S4096x512.Idx → EReal) (a2 : S4096x512.Idx → EReal) (a3 : S4096x512.Idx → EReal) (a4 : S4096x128.Idx → EReal) (a5 : S2176x1024.Idx → EReal) (a6 : S4096x1024.Idx → EReal) (a7 : S1x1024.Idx → EReal) (a8 : S4096x1024.Idx → EReal) (f0 : ∀ i, a0 i ≠ ⊥ ∧ a0 i ≠ ⊤) (f1 : ∀ i, a1 i ≠ ⊥ ∧ a1 i ≠ ⊤) (f2 : ∀ i, a2 i ≠ ⊥ ∧ a2 i ≠ ⊤) (f3 : ∀ i, a3 i ≠ ⊥ ∧ a3 i ≠ ⊤) (f4 : ∀ i, a4 i ≠ ⊥ ∧ a4 i ≠ ⊤) (f5 : ∀ i, a5 i ≠ ⊥ ∧ a5 i ≠ ⊤) (s : Fin 4096) (k : Fin 1024) :
    dhid a0 a1 a2 a3 a4 a5 s k ≠ ⊥ ∧ dhid a0 a1 a2 a3 a4 a5 s k ≠ ⊤ := by
  obtain ⟨r0, h0⟩ := Cert.Finite.sum_mul Finset.univ (fun f : Fin 512 => a0 (ix2 s f)) (fun f => a5 (ix2 (⟨0 + f.val, by omega⟩ : Fin 2176) k)) (fun f => f0 _) (fun f => f5 _)
  obtain ⟨r1, h1⟩ := Cert.Finite.sum_mul Finset.univ (fun f : Fin 512 => a1 (ix2 s f)) (fun f => a5 (ix2 (⟨512 + f.val, by omega⟩ : Fin 2176) k)) (fun f => f1 _) (fun f => f5 _)
  obtain ⟨r2, h2⟩ := Cert.Finite.sum_mul Finset.univ (fun f : Fin 512 => a2 (ix2 s f)) (fun f => a5 (ix2 (⟨1024 + f.val, by omega⟩ : Fin 2176) k)) (fun f => f2 _) (fun f => f5 _)
  obtain ⟨r3, h3⟩ := Cert.Finite.sum_mul Finset.univ (fun f : Fin 512 => a3 (ix2 s f)) (fun f => a5 (ix2 (⟨1536 + f.val, by omega⟩ : Fin 2176) k)) (fun f => f3 _) (fun f => f5 _)
  obtain ⟨r4, h4⟩ := Cert.Finite.sum_mul Finset.univ (fun f : Fin 128 => a4 (ix2 s f)) (fun f => a5 (ix2 (⟨2048 + f.val, by omega⟩ : Fin 2176) k)) (fun f => f4 _) (fun f => f5 _)
  unfold dhid
  rw [h0, h1, h2, h3, h4, ← EReal.coe_add, ← EReal.coe_add, ← EReal.coe_add, ← EReal.coe_add]
  exact Cert.Finite.coe _

/-- The reference's gradient of the block's input is the kernel's. -/
theorem ref0 (a0 : S4096x512.Idx → EReal) (a1 : S4096x512.Idx → EReal) (a2 : S4096x512.Idx → EReal) (a3 : S4096x512.Idx → EReal) (a4 : S4096x128.Idx → EReal) (a5 : S2176x1024.Idx → EReal) (a6 : S4096x1024.Idx → EReal) (a7 : S1x1024.Idx → EReal) (a8 : S4096x1024.Idx → EReal)
    (f0 : ∀ i, a0 i ≠ ⊥ ∧ a0 i ≠ ⊤) (f1 : ∀ i, a1 i ≠ ⊥ ∧ a1 i ≠ ⊤) (f2 : ∀ i, a2 i ≠ ⊥ ∧ a2 i ≠ ⊤) (f3 : ∀ i, a3 i ≠ ⊥ ∧ a3 i ≠ ⊤) (f4 : ∀ i, a4 i ≠ ⊥ ∧ a4 i ≠ ⊤) (f5 : ∀ i, a5 i ≠ ⊥ ∧ a5 i ≠ ⊤) (f7 : ∀ i, a7 i ≠ ⊥ ∧ a7 i ≠ ⊤)
    (m : (ℓ : Loc Cert.InNormGradReferenceIdeal.nD Cert.InNormGradReferenceIdeal.τ Cert.InNormGradReferenceIdeal.sig) → Buf (Elt Ideal) ℓ) (c : Dev Cert.InNormGradReferenceIdeal.nD)
    (e0 : m ((c.tc : Thread _ _).loc Cert.InNormGradReferenceIdeal.main_arg0) = a0) (e1 : m ((c.tc : Thread _ _).loc Cert.InNormGradReferenceIdeal.main_arg1) = a1) (e2 : m ((c.tc : Thread _ _).loc Cert.InNormGradReferenceIdeal.main_arg2) = a2) (e3 : m ((c.tc : Thread _ _).loc Cert.InNormGradReferenceIdeal.main_arg3) = a3) (e4 : m ((c.tc : Thread _ _).loc Cert.InNormGradReferenceIdeal.main_arg4) = a4) (e5 : m ((c.tc : Thread _ _).loc Cert.InNormGradReferenceIdeal.main_arg5) = a5) (e6 : m ((c.tc : Thread _ _).loc Cert.InNormGradReferenceIdeal.main_arg6) = a6) (e7 : m ((c.tc : Thread _ _).loc Cert.InNormGradReferenceIdeal.main_arg7) = a7) (e8 : m ((c.tc : Thread _ _).loc Cert.InNormGradReferenceIdeal.main_arg8) = a8) :
    Cert.InNormGradReferenceIdeal.Value.res_main_v68 m c = dx0 (dhid a0 a1 a2 a3 a4 a5) a6 a7 a8 := by
  unfold Cert.InNormGradReferenceIdeal.Value.res_main_v68
  rw [e0, e1, e2, e3, e4, e5, e6, e7, e8]
  funext i
  rw [eq_ix2 i]
  generalize i 0 = p
  generalize i 1 = q
  pointwise
  rw [add_assoc, add_assoc]
  have hh := dhid_finite a0 a1 a2 a3 a4 a5 a6 a7 a8 f0 f1 f2 f3 f4 f5 p
  have key := Cert.Norm.norm_eq (fun k => a6 (ix2 p k)) (dhid a0 a1 a2 a3 a4 a5 p) (fun k => a7 (ix2 0 k)) hh (fun k => f7 _) q
  have hr : dhid a0 a1 a2 a3 a4 a5 p = fun k => _ := funext fun k => dhid_rev a0 a1 a2 a3 a4 a5 p k
  refine Eq.trans ?_ (congrArg (fun z : EReal => a8 (ix2 p q) + z) key.symm)
  rw [hr]
  rfl

theorem agrees : algebraic_InNormGradIdeal_InNormGradReferenceIdeal_pre_norm_operands_finite := by
  intro m g m' g' hpre hm
  refine ⟨fun c => res0 m c, fun c => res1 m c,
    (θ_run defs _ _).mono (fun r h c => ⟨(h c).1.trans (final10 m c), (h c).2.1.trans (final11 m c), (h c).2.2⟩)
      (Cert.InNormGradIdeal.Value.run_blocks m g), ?_⟩
  refine (θ_run Cert.InNormGradReferenceIdeal.defs _ _).mono (fun r h c => ⟨(h c).1.trans ?_, (h c).2.1.trans ?_, (h c).2.2⟩)
    (Cert.InNormGradReferenceIdeal.Value.run m' g')
  · obtain ⟨e0, e1, e2, e3, e4, e5, e6, e7, e8⟩ := hm c
    exact ref0 _ _ _ _ _ _ _ _ _
      (fun i => Cert.Finite.bf16 _ (congrFun (hpre c).1 i)) (fun i => Cert.Finite.bf16 _ (congrFun (hpre c).2.1 i))
      (fun i => Cert.Finite.bf16 _ (congrFun (hpre c).2.2.1 i)) (fun i => Cert.Finite.bf16 _ (congrFun (hpre c).2.2.2.1 i))
      (fun i => Cert.Finite.bf16 _ (congrFun (hpre c).2.2.2.2.1 i)) (fun i => Cert.Finite.bf16 _ (congrFun (hpre c).2.2.2.2.2.1 i))
      (fun i => Cert.Finite.f32 _ (congrFun (hpre c).2.2.2.2.2.2 i)) m' c e0 e1 e2 e3 e4 e5 e6 e7 e8
  · obtain ⟨e0, e1, e2, e3, e4, e5, e6, e7, e8⟩ := hm c
    rw [e0, e1, e2, e3, e4, e5, e6]
    show _ = dscale (dhid (m (c.tc.loc main_arg0)) (m (c.tc.loc main_arg1)) (m (c.tc.loc main_arg2)) (m (c.tc.loc main_arg3)) (m (c.tc.loc main_arg4)) (m (c.tc.loc main_arg5))) (m (c.tc.loc main_arg6))

    generalize m (c.tc.loc main_arg0) = a0
    generalize m (c.tc.loc main_arg1) = a1
    generalize m (c.tc.loc main_arg2) = a2
    generalize m (c.tc.loc main_arg3) = a3
    generalize m (c.tc.loc main_arg4) = a4
    generalize m (c.tc.loc main_arg5) = a5
    generalize m (c.tc.loc main_arg6) = a6
    funext i
    rw [eq_ix2 i]
    generalize i 0 = p
    generalize i 1 = q
    pointwise
    unfold dscale
    refine Finset.sum_congr rfl fun s _ => (mul_comm _ _).trans ?_
    exact congrArg (fun h : EReal => h * xnorm a6 s q) (dhid_rev a0 a1 a2 a3 a4 a5 s q).symm

end Cert.InNormGradIdeal.Hand

end
-- ==== Proof.DownFinal.Value.lean ====
/-
  WHAT THE LAST FEED-FORWARD PRODUCT'S CALL COMPUTES: its three result arrays at an index. Each of the eight points reads a
  block of 512 rows of the feed-forward activations, of the residual and of the targets, and the whole weight and norm scale.
  It writes back the same 512 rows of the gradient of the sum of the residual and the product, and adds its rows' parts of the
  squared errors and of the norm scale's gradient to two running sums, which the last point writes back.
-/
module

public import proofs.«01_k».proof.Defs
public import proofs.«01_k».proof.Proof.Gen.DownFinalIdeal.Value
public import proofs.«01_k».proof.Proof.Gen.DownFinalReferenceIdeal.Run
public import proofs.«01_k».proof.Proof.Finite
public import proofs.«01_k».proof.Proof.Norm
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.DownFinalIdeal.Hand

open Cert.DownFinalIdeal Cert.DownFinalIdeal.Gen

theorem hz : (![0, 0] : Fin 2 → Nat) = fun _ => 0 := funext fun a => by fin_cases a <;> rfl

/-! ## What each point leaves in the results' blocks -/

section Cases

variable {F : FTy → Type} [FloatOps F]
variable (c : Dev nD) (i : grid0.Coords)
  (a1 : Memref sig .tc .vmem S512x2816 .bf16) (h1 : a1.IsWhole)
  (a2 : Memref sig .tc .vmem S2816x1024 .bf16) (h2 : a2.IsWhole)
  (a3 : Memref sig .tc .vmem S512x1024 .f32) (h3 : a3.IsWhole)
  (a4 : Memref sig .tc .vmem S1x1024 .f32) (h4 : a4.IsWhole)
  (a5 : Memref sig .tc .vmem S512x1024 .f32) (h5 : a5.IsWhole)
  (a6 : Memref sig .tc .vmem S512x1024 .f32) (h6 : a6.IsWhole)
  (a7 : Memref sig .tc .vmem S1x1024 .f32) (h7 : a7.IsWhole)
  (a8 : Memref sig .tc .vmem S1x1024 .f32) (h8 : a8.IsWhole)
  (x0 : Vec F S512x2816 .bf16) (x1 : Vec F S2816x1024 .bf16) (x2 : Vec F S512x1024 .f32) (x3 : Vec F S1x1024 .f32) (x4 : Vec F S512x1024 .f32)

/-- The first point leaves its block of result 0. -/
theorem out_A_5 (hc0 : cond0_0 i) :
    out0_A_5 c i a1 h1 a2 h2 a3 h3 a4 h4 a5 h5 a6 h6 a7 h7 a8 h8 hc0 x0 x1 x2 x3 x4 = k0_pay2 (k0_pay6 x2 x0 x1) (k0_pay7 x2 x0 x1) x3 (k0_pay10 x2 x0 x1 x3 x4) := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S1x1024) hz, View.ld_unit_zero (S := S2816x1024) hz, View.ld_unit_zero (S := S512x1024) hz, View.ld_unit_zero (S := S512x2816) hz]

/-- The first point starts the sum of result 1 from zero. -/
theorem out_A_6 (hc0 : cond0_0 i) :
    out0_A_6 c i a1 h1 a2 h2 a3 h3 a4 h4 a5 h5 a6 h6 a7 h7 a8 h8 hc0 x0 x1 x2 x3 x4 = k0_pay9 x2 x0 x1 x3 x4 k0_pay3 := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, View.ld_unit_zero (S := S1x1024) hz, View.ld_unit_zero (S := S2816x1024) hz, View.ld_unit_zero (S := S512x1024) hz, View.ld_unit_zero (S := S512x2816) hz]

/-- The first point starts the sum of result 2 from zero. -/
theorem out_A_7 (hc0 : cond0_0 i) :
    out0_A_7 c i a1 h1 a2 h2 a3 h3 a4 h4 a5 h5 a6 h6 a7 h7 a8 h8 hc0 x0 x1 x2 x3 x4 = k0_pay1 (k0_pay7 x2 x0 x1) (k0_pay10 x2 x0 x1 x3 x4) k0_pay4 := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, View.ld_unit_zero (S := S1x1024) hz, View.ld_unit_zero (S := S2816x1024) hz, View.ld_unit_zero (S := S512x1024) hz, View.ld_unit_zero (S := S512x2816) hz]

/-- A later point leaves its block of result 0. -/
theorem out_B_5 (hc0 : ¬cond0_0 i) (s6 : Vec F S1x1024 .f32) (s7 : Vec F S1x1024 .f32) :
    out0_B_5 c i a1 h1 a2 h2 a3 h3 a4 h4 a5 h5 a6 h6 a7 h7 a8 h8 hc0 x0 x1 x2 x3 x4 s6 s7 = k0_pay2 (k0_pay6 x2 x0 x1) (k0_pay7 x2 x0 x1) x3 (k0_pay10 x2 x0 x1 x3 x4) := by
  unfold out0_B_5
  rw [View.read_writes_eq_canon _ _ _ (cover0_B_5 c i a1 h1 a2 h2 a3 h3 a4 h4 a5 h5 a6 h6 a7 h7 a8 h8 hc0 x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S1x1024) hz, View.ld_unit_zero (S := S2816x1024) hz, View.ld_unit_zero (S := S512x1024) hz, View.ld_unit_zero (S := S512x2816) hz]

/-- A later point adds its rows' part of result 1 to the running sum. -/
theorem out_B_6 (hc0 : ¬cond0_0 i) (s6 : Vec F S1x1024 .f32) (s7 : Vec F S1x1024 .f32) :
    out0_B_6 c i a1 h1 a2 h2 a3 h3 a4 h4 a5 h5 a6 h6 a7 h7 a8 h8 hc0 x0 x1 x2 x3 x4 s6 s7 = k0_pay9 x2 x0 x1 x3 x4 s6 := by
  unfold out0_B_6
  rw [View.read_writes_eq_canon _ _ _ (cover0_B_6 c i a1 h1 a2 h2 a3 h3 a4 h4 a5 h5 a6 h6 a7 h7 a8 h8 hc0 x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S1x1024) hz, View.ld_unit_zero (S := S2816x1024) hz, View.ld_unit_zero (S := S512x1024) hz, View.ld_unit_zero (S := S512x2816) hz]

/-- A later point adds its rows' part of result 2 to the running sum. -/
theorem out_B_7 (hc0 : ¬cond0_0 i) (s6 : Vec F S1x1024 .f32) (s7 : Vec F S1x1024 .f32) :
    out0_B_7 c i a1 h1 a2 h2 a3 h3 a4 h4 a5 h5 a6 h6 a7 h7 a8 h8 hc0 x0 x1 x2 x3 x4 s6 s7 = k0_pay1 (k0_pay7 x2 x0 x1) (k0_pay10 x2 x0 x1 x3 x4) s7 := by
  unfold out0_B_7
  rw [View.read_writes_eq_canon _ _ _ (cover0_B_7 c i a1 h1 a2 h2 a3 h3 a4 h4 a5 h5 a6 h6 a7 h7 a8 h8 hc0 x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S1x1024) hz, View.ld_unit_zero (S := S2816x1024) hz, View.ld_unit_zero (S := S512x1024) hz, View.ld_unit_zero (S := S512x2816) hz]

end Cases

variable (m : (ℓ : Loc nD τ sig) → Buf (Elt Ideal) ℓ) (ρ : Dev nD → PrngReg)

/-- The row of the whole arrays that row `k` of point `t`'s block is. -/
def row (t : Fin cfg0.N) (k : Fin 512) : Fin 4096 := ⟨t.val * 512 + k.val, by have := t.isLt; have : cfg0.N = 8 := N_0; omega⟩

/-- Point `t`'s block of operand 0: its 512 rows. -/
theorem iblk0 (c : Dev nD) (t : Fin cfg0.N) (r : Fin 512) (k : Fin 2816) :
    (iblk m c 0 t : Vec Ideal S512x2816 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 2816 + 1 * k.val = k.val; rw [hi.2]; omega

/-- Every point's block of operand 1 is the whole operand. -/
theorem iblk1 (c : Dev nD) (t : Fin cfg0.N) (r : Fin 2816) (k : Fin 1024) :
    (iblk m c 1 t : Vec Ideal S2816x1024 .bf16) (ix2 r k) = m (c.tc.loc main_arg1) (ix2 r k) := by
  have hi : win0_1.index t 0 = 0 ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 2816 + 1 * r.val = r.val; rw [hi.1]; omega
  | ⟨1, _⟩ => show win0_1.index t 1 * 1024 + 1 * k.val = k.val; rw [hi.2]; omega

/-- Point `t`'s block of operand 2: its 512 rows. -/
theorem iblk2 (c : Dev nD) (t : Fin cfg0.N) (r : Fin 512) (k : Fin 1024) :
    (iblk m c 2 t : Vec Ideal S512x1024 .f32) (ix2 r k) = m (c.tc.loc main_arg2) (ix2 (row t r) k) := by
  have hi : win0_2.index t 0 = t.val ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 512 + 1 * r.val = t.val * 512 + r.val; rw [hi.1]; omega
  | ⟨1, _⟩ => show win0_2.index t 1 * 1024 + 1 * k.val = k.val; rw [hi.2]; omega

/-- Every point's block of operand 3 is the whole operand. -/
theorem iblk3 (c : Dev nD) (t : Fin cfg0.N) (r : Fin 1) (k : Fin 1024) :
    (iblk m c 3 t : Vec Ideal S1x1024 .f32) (ix2 r k) = m (c.tc.loc main_arg3) (ix2 r k) := by
  have hi : win0_3.index t 0 = 0 ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 1 + 1 * r.val = r.val; rw [hi.1]; omega
  | ⟨1, _⟩ => show win0_3.index t 1 * 1024 + 1 * k.val = k.val; rw [hi.2]; omega

/-- Point `t`'s block of operand 4: its 512 rows. -/
theorem iblk4 (c : Dev nD) (t : Fin cfg0.N) (r : Fin 512) (k : Fin 1024) :
    (iblk m c 4 t : Vec Ideal S512x1024 .f32) (ix2 r k) = m (c.tc.loc main_arg4) (ix2 (row t r) k) := by
  have hi : win0_4.index t 0 = t.val ∧ win0_4.index t 1 = 0 := by revert t; decide
  unfold iblk
  rw [View.read_apply]
  show m (c.tc.loc main_arg4) _ = m (c.tc.loc main_arg4) _
  congr 1
  funext a
  apply Fin.ext
  match a with
  | ⟨0, _⟩ => show win0_4.index t 0 * 512 + 1 * r.val = t.val * 512 + r.val; rw [hi.1]; omega
  | ⟨1, _⟩ => show win0_4.index t 1 * 1024 + 1 * k.val = k.val; rw [hi.2]; omega

/-! ## The payloads at an index -/

/-- One over the root of a row's mean square. -/
def rinv (y : Fin 1024 → EReal) : EReal := Ideal.rsqrt (Cert.Norm.meanSq y)

/-- A row's error: the normed row, scaled, less the target. -/
def err (y : Fin 1024 → EReal) (g t : Fin 1024 → EReal) (k : Fin 1024) : EReal := y k * rinv y * g k - t k

/-- The gradient of the scaled, normed row: the error over the row's length. -/
def grad (y : Fin 1024 → EReal) (g t : Fin 1024 → EReal) (k : Fin 1024) : EReal := err y g t k * Ideal.ofBits .f32 0x3A800000#32

/-- A block's residual with the product added. -/
def bsum (x : S512x1024.Idx → EReal) (h : S512x2816.Idx → EReal) (w : S2816x1024.Idx → EReal) (r : Fin 512) (k : Fin 1024) : EReal :=
  x (ix2 r k) + ∑ f : Fin 2816, h (ix2 r f) * w (ix2 f k)

theorem pay5_apply (v3 : Vec Ideal S512x1024 .f32) (v4 : Vec Ideal S512x2816 .bf16) (v5 : Vec Ideal S2816x1024 .bf16) (r : Fin 512) (k : Fin 1024) : k0_pay5 v3 v4 v5 (ix2 r k) = bsum v3 v4 v5 r k := by
  unfold_payloads
  pointwise
  rfl

theorem pay6_apply (v3 : Vec Ideal S512x1024 .f32) (v4 : Vec Ideal S512x2816 .bf16) (v5 : Vec Ideal S2816x1024 .bf16) (r : Fin 512) (z : Fin 1) : k0_pay6 v3 v4 v5 (ix2 r z) = rinv (bsum v3 v4 v5 r) := by
  unfold k0_pay6
  have h := pay5_apply v3 v4 v5 r
  generalize k0_pay5 v3 v4 v5 = y at h ⊢
  pointwise
  simp only [h]
  rfl

theorem pay7_apply (v3 : Vec Ideal S512x1024 .f32) (v4 : Vec Ideal S512x2816 .bf16) (v5 : Vec Ideal S2816x1024 .bf16) (r : Fin 512) (k : Fin 1024) : k0_pay7 v3 v4 v5 (ix2 r k) = bsum v3 v4 v5 r k * rinv (bsum v3 v4 v5 r) := by
  unfold k0_pay7
  have h1 := pay5_apply v3 v4 v5 r k
  have h2 := pay6_apply v3 v4 v5 r 0
  generalize k0_pay5 v3 v4 v5 = y at h1 ⊢
  generalize k0_pay6 v3 v4 v5 = z at h2 ⊢
  pointwise
  simp only [h1, h2]

theorem pay8_apply (v3 : Vec Ideal S512x1024 .f32) (v4 : Vec Ideal S512x2816 .bf16) (v5 : Vec Ideal S2816x1024 .bf16) (v18 : Vec Ideal S1x1024 .f32) (v21 : Vec Ideal S512x1024 .f32) (r : Fin 512) (k : Fin 1024) :
    k0_pay8 v3 v4 v5 v18 v21 (ix2 r k) = err (bsum v3 v4 v5 r) (fun k => v18 (ix2 0 k)) (fun k => v21 (ix2 r k)) k := by
  unfold k0_pay8
  have h1 := pay7_apply v3 v4 v5 r k
  generalize k0_pay7 v3 v4 v5 = y at h1 ⊢
  pointwise
  simp only [h1]
  rfl

theorem pay10_apply (v3 : Vec Ideal S512x1024 .f32) (v4 : Vec Ideal S512x2816 .bf16) (v5 : Vec Ideal S2816x1024 .bf16) (v18 : Vec Ideal S1x1024 .f32) (v21 : Vec Ideal S512x1024 .f32) (r : Fin 512) (k : Fin 1024) :
    k0_pay10 v3 v4 v5 v18 v21 (ix2 r k) = grad (bsum v3 v4 v5 r) (fun k => v18 (ix2 0 k)) (fun k => v21 (ix2 r k)) k := by
  unfold k0_pay10
  have h1 := pay8_apply v3 v4 v5 v18 v21 r k
  generalize k0_pay8 v3 v4 v5 v18 v21 = y at h1 ⊢
  pointwise
  simp only [h1]
  rfl

theorem pay9_apply (v3 : Vec Ideal S512x1024 .f32) (v4 : Vec Ideal S512x2816 .bf16) (v5 : Vec Ideal S2816x1024 .bf16) (v18 : Vec Ideal S1x1024 .f32) (v21 : Vec Ideal S512x1024 .f32) (s : Vec Ideal S1x1024 .f32) (z : Fin 1) (k : Fin 1024) :
    k0_pay9 v3 v4 v5 v18 v21 s (ix2 z k) = (show EReal from s (ix2 z k))
      + ∑ r : Fin 512, err (bsum v3 v4 v5 r) (fun k => v18 (ix2 0 k)) (fun k => v21 (ix2 r k)) k * err (bsum v3 v4 v5 r) (fun k => v18 (ix2 0 k)) (fun k => v21 (ix2 r k)) k := by
  unfold k0_pay9
  have h1 := fun r => pay8_apply v3 v4 v5 v18 v21 r k
  generalize k0_pay8 v3 v4 v5 v18 v21 = y at h1 ⊢
  pointwise
  simp only [h1]

theorem pay1_apply (v17 v31 : Vec Ideal S512x1024 .f32) (s : Vec Ideal S1x1024 .f32) (z : Fin 1) (k : Fin 1024) :
    k0_pay1 v17 v31 s (ix2 z k) = (show EReal from s (ix2 z k)) + ∑ r : Fin 512, (show EReal from v31 (ix2 r k)) * (show EReal from v17 (ix2 r k)) := by
  unfold_payloads
  pointwise

theorem pay2_apply (v15 : Vec Ideal S512x1 .f32) (v17 : Vec Ideal S512x1024 .f32) (v18 : Vec Ideal S1x1024 .f32) (v31 : Vec Ideal S512x1024 .f32) (r : Fin 512) (k : Fin 1024) :
    k0_pay2 v15 v17 v18 v31 (ix2 r k) = (show EReal from v15 (ix2 r 0)) * ((show EReal from v31 (ix2 r k)) * (show EReal from v18 (ix2 0 k)) - (show EReal from v17 (ix2 r k))
      * Ideal.div (∑ l : Fin 1024, (show EReal from v31 (ix2 r l)) * (show EReal from v18 (ix2 0 l)) * (show EReal from v17 (ix2 r l))) (Ideal.ofBits .f32 0x44800000#32)) := by
  unfold_payloads
  pointwise

theorem pay3_apply (z : Fin 1) (k : Fin 1024) : (k0_pay3 : FVec Ideal S1x1024 .f32) (ix2 z k) = (0 : EReal) := by
  unfold_payloads
  pointwise

theorem pay4_apply (z : Fin 1) (k : Fin 1024) : (k0_pay4 : FVec Ideal S1x1024 .f32) (ix2 z k) = (0 : EReal) := by
  unfold_payloads
  pointwise

/-! ## The results at an index -/

/-- The residual with the product added. -/
def total (h : S4096x2816.Idx → EReal) (w : S2816x1024.Idx → EReal) (x : S4096x1024.Idx → EReal) (s : Fin 4096) (k : Fin 1024) : EReal :=
  x (ix2 s k) + ∑ f : Fin 2816, h (ix2 s f) * w (ix2 f k)

/-- The gradient of a row `y`, as the kernel writes it. -/
def dsum (y g t : Fin 1024 → EReal) (k : Fin 1024) : EReal :=
  rinv y * (grad y g t k * g k - y k * rinv y * Ideal.div (∑ l : Fin 1024, grad y g t l * g l * (y l * rinv y)) (Ideal.ofBits .f32 0x44800000#32))

/-- The three results of any operands, from the sums `y`, the scale and the targets. -/
def dx (y : Fin 4096 → Fin 1024 → EReal) (g : S1x1024.Idx → EReal) (t : S4096x1024.Idx → EReal) (i : S4096x1024.Idx) : EReal :=
  dsum (y (i 0)) (fun k => g (ix2 0 k)) (fun k => t (ix2 (i 0) k)) (i 1)

def sq (y : Fin 4096 → Fin 1024 → EReal) (g : S1x1024.Idx → EReal) (t : S4096x1024.Idx → EReal) (i : S1x1024.Idx) : EReal :=
  ∑ s : Fin 4096, err (y s) (fun k => g (ix2 0 k)) (fun k => t (ix2 s k)) (i 1) * err (y s) (fun k => g (ix2 0 k)) (fun k => t (ix2 s k)) (i 1)

def dscale (y : Fin 4096 → Fin 1024 → EReal) (g : S1x1024.Idx → EReal) (t : S4096x1024.Idx → EReal) (i : S1x1024.Idx) : EReal :=
  ∑ s : Fin 4096, grad (y s) (fun k => g (ix2 0 k)) (fun k => t (ix2 s k)) (i 1) * (y s (i 1) * rinv (y s))

/-- Device `c`'s sums, scale and targets, and its results. -/
def Y (c : Dev nD) : Fin 4096 → Fin 1024 → EReal := total (m (c.tc.loc main_arg0)) (m (c.tc.loc main_arg1)) (m (c.tc.loc main_arg2))
def gs (c : Dev nD) (k : Fin 1024) : EReal := (m (c.tc.loc main_arg3)) (ix2 0 k)
def ts (c : Dev nD) (s : Fin 4096) (k : Fin 1024) : EReal := (m (c.tc.loc main_arg4)) (ix2 s k)
def res0 (c : Dev nD) : S4096x1024.Idx → EReal := dx (Y m c) (m (c.tc.loc main_arg3)) (m (c.tc.loc main_arg4))
def res1 (c : Dev nD) : S1x1024.Idx → EReal := sq (Y m c) (m (c.tc.loc main_arg3)) (m (c.tc.loc main_arg4))
def res2 (c : Dev nD) : S1x1024.Idx → EReal := dscale (Y m c) (m (c.tc.loc main_arg3)) (m (c.tc.loc main_arg4))

/-- A block's sums are the whole's at the block's rows; so are its scale and targets. -/
theorem bsum_eq (c : Dev nD) (t : Fin cfg0.N) (r : Fin 512) : bsum (iblk m c 2 t) (iblk m c 0 t) (iblk m c 1 t) r = Y m c (row t r) := by
  funext d
  exact congrArg₂ (fun a b : EReal => a + b) (iblk2 m c t r d)
    (Finset.sum_congr rfl fun f _ => congrArg₂ (fun a b : EReal => a * b) (iblk0 m c t r f) (iblk1 m c t f d))

theorem gs_eq (c : Dev nD) (t : Fin cfg0.N) : (fun k : Fin 1024 => (show EReal from (iblk m c 3 t : Vec Ideal S1x1024 .f32) (ix2 0 k))) = gs m c :=
  funext fun k => iblk3 m c t 0 k

theorem ts_eq (c : Dev nD) (t : Fin cfg0.N) (r : Fin 512) : (fun k : Fin 1024 => (show EReal from (iblk m c 4 t : Vec Ideal S512x1024 .f32) (ix2 r k))) = ts m c (row t r) :=
  funext fun k => iblk4 m c t r k

theorem point7' (c : Dev nD) (t : Fin cfg0.N) (r : Fin 512) (k : Fin 1024) :
    k0_pay7 (iblk m c 2 t) (iblk m c 0 t) (iblk m c 1 t) (ix2 r k) = Y m c (row t r) k * rinv (Y m c (row t r)) :=
  (pay7_apply _ _ _ r k).trans (congrArg (fun y : Fin 1024 → EReal => y k * rinv y) (bsum_eq m c t r))

theorem point6' (c : Dev nD) (t : Fin cfg0.N) (r : Fin 512) (k : Fin 1) :
    k0_pay6 (iblk m c 2 t) (iblk m c 0 t) (iblk m c 1 t) (ix2 r k) = rinv (Y m c (row t r)) :=
  (pay6_apply _ _ _ r k).trans (congrArg rinv (bsum_eq m c t r))

theorem err_eq (c : Dev nD) (t : Fin cfg0.N) (r : Fin 512) :
    err (bsum (iblk m c 2 t) (iblk m c 0 t) (iblk m c 1 t) r) (fun k : Fin 1024 => (show EReal from (iblk m c 3 t : Vec Ideal S1x1024 .f32) (ix2 0 k)))
      (fun k : Fin 1024 => (show EReal from (iblk m c 4 t : Vec Ideal S512x1024 .f32) (ix2 r k))) = err (Y m c (row t r)) (gs m c) (ts m c (row t r)) := by
  rw [bsum_eq, gs_eq, ts_eq]

theorem point10' (c : Dev nD) (t : Fin cfg0.N) (r : Fin 512) (k : Fin 1024) :
    k0_pay10 (iblk m c 2 t) (iblk m c 0 t) (iblk m c 1 t) (iblk m c 3 t) (iblk m c 4 t) (ix2 r k) = grad (Y m c (row t r)) (gs m c) (ts m c (row t r)) k :=
  (pay10_apply _ _ _ _ _ r k).trans (congrArg (fun e : Fin 1024 → EReal => e k * Ideal.ofBits .f32 0x3A800000#32) (err_eq m c t r))

theorem outs5 (c : Dev nD) (t : Fin cfg0.N) : (outsAt0 m c t.val t.isLt).1 = k0_pay2 (k0_pay6 (iblk m c 2 t) (iblk m c 0 t) (iblk m c 1 t)) (k0_pay7 (iblk m c 2 t) (iblk m c 0 t) (iblk m c 1 t)) (iblk m c 3 t) (k0_pay10 (iblk m c 2 t) (iblk m c 0 t) (iblk m c 1 t) (iblk m c 3 t) (iblk m c 4 t)) := by
  by_cases h : t.val % 8 = 0
  · rw [outsAt0_A m c t h]
    dsimp only
    rw [out_A_5]
  · rw [outsAt0_B m c t h]
    dsimp only
    rw [out_B_5]

/-- Where point `t`'s block of result 0 lies: at its 512 rows. -/
theorem blk5_apply (t : Fin cfg0.N) (G : S4096x1024.Idx → EReal) (r : Fin 512) (f : Fin 1024) :
    ((win0_5.blk t).view.read (Elt Ideal) G : Vec Ideal S512x1024 .f32) (ix2 r f) = G (ix2 (row t r) f) := by
  have hi : win0_5.index t 0 = t.val ∧ win0_5.index t 1 = 0 := by revert t; decide
  rw [View.read_apply]
  show G _ = G _
  congr 1
  funext a
  apply Fin.ext
  match a with
  | ⟨0, _⟩ => show win0_5.index t 0 * 512 + 1 * r.val = t.val * 512 + r.val; rw [hi.1]; omega
  | ⟨1, _⟩ => show win0_5.index t 1 * 1024 + 1 * f.val = f.val; rw [hi.2]; omega

/-- What the body computes for result 0 at point `t`, at an index of the block. -/
theorem point5 (c : Dev nD) (t : Fin cfg0.N) (r : Fin 512) (k : Fin 1024) :
    k0_pay2 (k0_pay6 (iblk m c 2 t) (iblk m c 0 t) (iblk m c 1 t)) (k0_pay7 (iblk m c 2 t) (iblk m c 0 t) (iblk m c 1 t)) (iblk m c 3 t) (k0_pay10 (iblk m c 2 t) (iblk m c 0 t) (iblk m c 1 t) (iblk m c 3 t) (iblk m c 4 t)) (ix2 r k) = res0 m c (ix2 (row t r) k) := by
  refine (pay2_apply _ _ _ _ r k).trans ?_
  have mul {a b a' b' : EReal} (h : a = a') (h' : b = b') : a * b = a' * b' := by rw [h, h']
  refine mul (point6' m c t r 0) (congrArg₂ (fun a b : EReal => a - b) (mul (point10' m c t r k) (iblk3 m c t 0 k)) (mul (point7' m c t r k)
    (congrArg (fun a : EReal => Ideal.div a (Ideal.ofBits .f32 0x44800000#32)) (Finset.sum_congr rfl fun l _ => mul (mul (point10' m c t r l) (iblk3 m c t 0 l)) (point7' m c t r l)))))

/-- What point `t` writes back of result 0. -/
theorem flushed5_eq (c : Dev nD) (t : Fin cfg0.N) :
    (dats m 0 c).flushed 5 t = (win0_5.blk t).view.read (Elt Ideal) (res0 m c) := by
  rw [Value.flushed5, outs5]
  funext i
  rw [eq_ix2 i]
  refine Eq.trans ?_ (blk5_apply t _ (i 0) (i 1)).symm
  exact point5 m c t (i 0) (i 1)

theorem mem_blk5 (t : Fin cfg0.N) (i : S4096x1024.Idx) :
    i ∈ ((cfg0.win 5).blk t).view.set ↔ t.val * 512 ≤ (i 0 : Nat) ∧ (i 0 : Nat) < t.val * 512 + 512 := by
  show i ∈ ((View.whole main_v0_0).slice (win0_5.rect t)).set ↔ _
  rw [View.set_slice_whole, Rect.mem_set_unit]
  have h1 : (i 1 : Nat) < 1024 := (i 1).isLt
  have e : win0_5.index t 0 * win0_5.size 0 = t.val * 512 ∧ win0_5.xsize (grid0.coords t) 0 = 512
      ∧ win0_5.index t 1 * win0_5.size 1 = 0 ∧ win0_5.xsize (grid0.coords t) 1 = 1024 := by revert t; decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0; rw [e.1, e.2.1]; exact h
    | ⟨1, _⟩ => show win0_5.index t 1 * win0_5.size 1 ≤ (i 1 : Nat) ∧ (i 1 : Nat) < win0_5.index t 1 * win0_5.size 1 + win0_5.xsize (grid0.coords t) 1; rw [e.2.2.1, e.2.2.2]; omega

theorem cover5 (i : S4096x1024.Idx) :
    ∃ t : Fin cfg0.N, (cfg0.win 5).flush t = true ∧ i ∈ ((cfg0.win 5).blk t).view.set := by
  have h0 : (i 0 : Nat) < 4096 := (i 0).isLt
  have hN : cfg0.N = 8 := N_0
  refine ⟨⟨(i 0 : Nat) / 512, by omega⟩, flush0_5 _, ?_⟩
  rw [mem_blk5]
  dsimp only
  omega

/-- Result 0 after the run. -/
theorem final5 (c : Dev nD) : (dats m 0 c).arrAt 5 cfg0.N = res0 m c :=
  (dats m 0 c).arrAt_eq_of_cover 5 _ (fun t _ => flushed5_eq m c t) cover5

/-- One point's part of the squared errors. -/
theorem point6 (c : Dev nD) (t : Fin cfg0.N) (s : Vec Ideal S1x1024 .f32) (z : Fin 1) (k : Fin 1024) :
    k0_pay9 (iblk m c 2 t) (iblk m c 0 t) (iblk m c 1 t) (iblk m c 3 t) (iblk m c 4 t) s (ix2 z k) = (show EReal from s (ix2 z k)) + ∑ r : Fin 512, err (Y m c (row t r)) (gs m c) (ts m c (row t r)) k * err (Y m c (row t r)) (gs m c) (ts m c (row t r)) k :=
  (pay9_apply _ _ _ _ _ _ z k).trans (congrArg (fun y : EReal => (show EReal from s (ix2 z k)) + y)
    (Finset.sum_congr rfl fun r _ => congrArg (fun e : Fin 1024 → EReal => e k * e k) (err_eq m c t r)))

/-- One point's part of result 1, by the point's number. -/
def part6 (c : Dev nD) (k : Fin 1024) (n : ℕ) : EReal :=
  if h : n < cfg0.N then ∑ r : Fin 512, err (Y m c (row ⟨n, h⟩ r)) (gs m c) (ts m c (row ⟨n, h⟩ r)) k * err (Y m c (row ⟨n, h⟩ r)) (gs m c) (ts m c (row ⟨n, h⟩ r)) k else 0

/-- After point `n` the running sum holds the parts of the points up to it. -/
theorem sums6 (c : Dev nD) (z : Fin 1) (k : Fin 1024) : ∀ (n : ℕ) (h : n < cfg0.N),
    (outsAt0 m c n h).2.1 (ix2 z k) = ∑ t ∈ Finset.range (n + 1), part6 m c k t
  | 0, h => by
    rw [show outsAt0 m c 0 h = _ from outsAt0_A m c ⟨0, h⟩ (Nat.zero_mod _)]
    dsimp only
    rw [out_A_6, point6, pay3_apply, zero_add, Finset.sum_range_one, part6, dif_pos h]
  | n + 1, h => by
    have hN : cfg0.N = 8 := N_0
    rw [show outsAt0 m c (n + 1) h = _ from outsAt0_B m c ⟨n + 1, h⟩ (by show ¬(n + 1) % 8 = 0; omega)]
    dsimp only
    rw [out_B_6, point6, Finset.sum_range_succ, part6, dif_pos h]
    congr 1
    exact sums6 c z k n (Nat.lt_of_succ_lt h)

/-- All points' parts together are the sum over all rows. -/
theorem parts6 (c : Dev nD) (z : Fin 1) (k : Fin 1024) : (∑ t ∈ Finset.range 8, part6 m c k t) = res1 m c (ix2 z k) := by
  have hN : cfg0.N = 8 := N_0
  show _ = ∑ s : Fin 4096, err (Y m c s) (gs m c) (ts m c s) k * err (Y m c s) (gs m c) (ts m c s) k
  rw [Fin.sum_univ_tiles 8 512 rfl, Finset.sum_range]
  refine Finset.sum_congr rfl fun t _ => ?_
  rw [part6, dif_pos (by omega)]
  rfl

/-- What the last point writes back of result 1. -/
theorem flushed6_eq (c : Dev nD) (t : Fin cfg0.N) (ht : (cfg0.win 6).flush t = true) :
    (dats m 0 c).flushed 6 t = (win0_6.blk t).view.read (Elt Ideal) (res1 m c) := by
  have hN : cfg0.N = 8 := N_0
  have hl : t = t0_7 := Fin.ext (by have := (flush0_6 t).mp ht; have := t.isLt; show t.val = 7; omega)
  subst hl
  rw [Value.flushed6]
  funext i
  rw [eq_ix2 i]
  have hi : win0_6.index t0_7 0 = 0 ∧ win0_6.index t0_7 1 = 0 := by decide
  refine (sums6 m c (i 0) (i 1) 7 t0_7.isLt).trans ?_
  rw [View.read_apply]
  show _ = res1 m c _
  have e : res1 m c ((win0_6.blk t0_7).view.emb (ix2 (i 0) (i 1))) = res1 m c (ix2 (i 0) (i 1)) := by
    congr 1
    funext a
    apply Fin.ext
    match a with
    | ⟨0, _⟩ => show win0_6.index t0_7 0 * 1 + 1 * (i 0).val = (i 0).val; rw [hi.1]; omega
    | ⟨1, _⟩ => show win0_6.index t0_7 1 * 1024 + 1 * (i 1).val = (i 1).val; rw [hi.2]; omega
  refine Eq.trans ?_ e.symm
  exact parts6 m c (i 0) (i 1)

theorem cover6 (i : S1x1024.Idx) :
    ∃ t : Fin cfg0.N, (cfg0.win 6).flush t = true ∧ i ∈ ((cfg0.win 6).blk t).view.set := by
  have h0 : (i 0 : Nat) < 1 := (i 0).isLt
  have h1 : (i 1 : Nat) < 1024 := (i 1).isLt
  have hN : cfg0.N = 8 := N_0
  refine ⟨t0_7, (flush0_6 _).mpr rfl, ?_⟩
  show i ∈ ((View.whole main_v0_1).slice (win0_6.rect t0_7)).set
  rw [View.set_slice_whole, Rect.mem_set_unit]
  have e : win0_6.index t0_7 0 * win0_6.size 0 = 0 ∧ win0_6.xsize (grid0.coords t0_7) 0 = 1
      ∧ win0_6.index t0_7 1 * win0_6.size 1 = 0 ∧ win0_6.xsize (grid0.coords t0_7) 1 = 1024 := by decide +kernel
  intro a
  match a with
  | ⟨0, _⟩ => show win0_6.index t0_7 0 * win0_6.size 0 ≤ (i 0 : Nat) ∧ (i 0 : Nat) < win0_6.index t0_7 0 * win0_6.size 0 + win0_6.xsize (grid0.coords t0_7) 0; rw [e.1, e.2.1]; omega
  | ⟨1, _⟩ => show win0_6.index t0_7 1 * win0_6.size 1 ≤ (i 1 : Nat) ∧ (i 1 : Nat) < win0_6.index t0_7 1 * win0_6.size 1 + win0_6.xsize (grid0.coords t0_7) 1; rw [e.2.2.1, e.2.2.2]; omega

/-- Result 1 after the run. -/
theorem final6 (c : Dev nD) : (dats m 0 c).arrAt 6 cfg0.N = res1 m c :=
  (dats m 0 c).arrAt_eq_of_cover 6 _ (fun t ht => flushed6_eq m c t ht) cover6

/-- One point's part of the norm scale's gradient. -/
theorem point7 (c : Dev nD) (t : Fin cfg0.N) (s : Vec Ideal S1x1024 .f32) (z : Fin 1) (k : Fin 1024) :
    k0_pay1 (k0_pay7 (iblk m c 2 t) (iblk m c 0 t) (iblk m c 1 t)) (k0_pay10 (iblk m c 2 t) (iblk m c 0 t) (iblk m c 1 t) (iblk m c 3 t) (iblk m c 4 t)) s (ix2 z k) = (show EReal from s (ix2 z k)) + ∑ r : Fin 512, grad (Y m c (row t r)) (gs m c) (ts m c (row t r)) k * (Y m c (row t r) k * rinv (Y m c (row t r))) :=
  (pay1_apply _ _ _ z k).trans (congrArg (fun y : EReal => (show EReal from s (ix2 z k)) + y)
    (Finset.sum_congr rfl fun r _ => congrArg₂ (fun a b : EReal => a * b) (point10' m c t r k) (point7' m c t r k)))

/-- One point's part of result 2, by the point's number. -/
def part7 (c : Dev nD) (k : Fin 1024) (n : ℕ) : EReal :=
  if h : n < cfg0.N then ∑ r : Fin 512, grad (Y m c (row ⟨n, h⟩ r)) (gs m c) (ts m c (row ⟨n, h⟩ r)) k * (Y m c (row ⟨n, h⟩ r) k * rinv (Y m c (row ⟨n, h⟩ r))) else 0

/-- After point `n` the running sum holds the parts of the points up to it. -/
theorem sums7 (c : Dev nD) (z : Fin 1) (k : Fin 1024) : ∀ (n : ℕ) (h : n < cfg0.N),
    (outsAt0 m c n h).2.2 (ix2 z k) = ∑ t ∈ Finset.range (n + 1), part7 m c k t
  | 0, h => by
    rw [show outsAt0 m c 0 h = _ from outsAt0_A m c ⟨0, h⟩ (Nat.zero_mod _)]
    dsimp only
    rw [out_A_7, point7, pay4_apply, zero_add, Finset.sum_range_one, part7, dif_pos h]
  | n + 1, h => by
    have hN : cfg0.N = 8 := N_0
    rw [show outsAt0 m c (n + 1) h = _ from outsAt0_B m c ⟨n + 1, h⟩ (by show ¬(n + 1) % 8 = 0; omega)]
    dsimp only
    rw [out_B_7, point7, Finset.sum_range_succ, part7, dif_pos h]
    congr 1
    exact sums7 c z k n (Nat.lt_of_succ_lt h)

/-- All points' parts together are the sum over all rows. -/
theorem parts7 (c : Dev nD) (z : Fin 1) (k : Fin 1024) : (∑ t ∈ Finset.range 8, part7 m c k t) = res2 m c (ix2 z k) := by
  have hN : cfg0.N = 8 := N_0
  show _ = ∑ s : Fin 4096, grad (Y m c s) (gs m c) (ts m c s) k * (Y m c s k * rinv (Y m c s))
  rw [Fin.sum_univ_tiles 8 512 rfl, Finset.sum_range]
  refine Finset.sum_congr rfl fun t _ => ?_
  rw [part7, dif_pos (by omega)]
  rfl

/-- What the last point writes back of result 2. -/
theorem flushed7_eq (c : Dev nD) (t : Fin cfg0.N) (ht : (cfg0.win 7).flush t = true) :
    (dats m 0 c).flushed 7 t = (win0_7.blk t).view.read (Elt Ideal) (res2 m c) := by
  have hN : cfg0.N = 8 := N_0
  have hl : t = t0_7 := Fin.ext (by have := (flush0_7 t).mp ht; have := t.isLt; show t.val = 7; omega)
  subst hl
  rw [Value.flushed7]
  funext i
  rw [eq_ix2 i]
  have hi : win0_7.index t0_7 0 = 0 ∧ win0_7.index t0_7 1 = 0 := by decide
  refine (sums7 m c (i 0) (i 1) 7 t0_7.isLt).trans ?_
  rw [View.read_apply]
  show _ = res2 m c _
  have e : res2 m c ((win0_7.blk t0_7).view.emb (ix2 (i 0) (i 1))) = res2 m c (ix2 (i 0) (i 1)) := by
    congr 1
    funext a
    apply Fin.ext
    match a with
    | ⟨0, _⟩ => show win0_7.index t0_7 0 * 1 + 1 * (i 0).val = (i 0).val; rw [hi.1]; omega
    | ⟨1, _⟩ => show win0_7.index t0_7 1 * 1024 + 1 * (i 1).val = (i 1).val; rw [hi.2]; omega
  refine Eq.trans ?_ e.symm
  exact parts7 m c (i 0) (i 1)

theorem cover7 (i : S1x1024.Idx) :
    ∃ t : Fin cfg0.N, (cfg0.win 7).flush t = true ∧ i ∈ ((cfg0.win 7).blk t).view.set := by
  have h0 : (i 0 : Nat) < 1 := (i 0).isLt
  have h1 : (i 1 : Nat) < 1024 := (i 1).isLt
  have hN : cfg0.N = 8 := N_0
  refine ⟨t0_7, (flush0_7 _).mpr rfl, ?_⟩
  show i ∈ ((View.whole main_v0_2).slice (win0_7.rect t0_7)).set
  rw [View.set_slice_whole, Rect.mem_set_unit]
  have e : win0_7.index t0_7 0 * win0_7.size 0 = 0 ∧ win0_7.xsize (grid0.coords t0_7) 0 = 1
      ∧ win0_7.index t0_7 1 * win0_7.size 1 = 0 ∧ win0_7.xsize (grid0.coords t0_7) 1 = 1024 := by decide +kernel
  intro a
  match a with
  | ⟨0, _⟩ => show win0_7.index t0_7 0 * win0_7.size 0 ≤ (i 0 : Nat) ∧ (i 0 : Nat) < win0_7.index t0_7 0 * win0_7.size 0 + win0_7.xsize (grid0.coords t0_7) 0; rw [e.1, e.2.1]; omega
  | ⟨1, _⟩ => show win0_7.index t0_7 1 * win0_7.size 1 ≤ (i 1 : Nat) ∧ (i 1 : Nat) < win0_7.index t0_7 1 * win0_7.size 1 + win0_7.xsize (grid0.coords t0_7) 1; rw [e.2.2.1, e.2.2.2]; omega

/-- Result 2 after the run. -/
theorem final7 (c : Dev nD) : (dats m 0 c).arrAt 7 cfg0.N = res2 m c :=
  (dats m 0 c).arrAt_eq_of_cover 7 _ (fun t ht => flushed7_eq m c t ht) cover7

/-! ## The two programs' numbers agree -/

/-- The precondition's shape facts. -/
instance preFacts : Cert.Pre_final_operands_finite.Facts := ⟨by decide, by decide⟩

/-- The reference's gradient of the scaled, normed row: one half over the row's length, times twice the error. -/
def refgrad (y g t : Fin 1024 → EReal) (k : Fin 1024) : EReal :=
  Ideal.div (Ideal.ofBits .f32 0x3F000000#32) (Ideal.ofBits .f32 0x44800000#32) * (Ideal.ofBits .f32 0x40000000#32 * err y g t k)

theorem cHalf : Ideal.ofBits .f32 0x3F000000#32 = ((1 / 2 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cPart : Ideal.ofBits .f32 0x3A800000#32 = ((1 / 1024 : ℝ) : EReal) := by
  simp [Ideal.ofBits, Ideal.ieee, -EReal.coe_mul]; norm_num

theorem refgrad_eq (y g t : Fin 1024 → EReal) : refgrad y g t = grad y g t := by
  funext k
  unfold refgrad grad
  rw [cHalf, cTwo, cPart, Cert.Norm.c1024, Cert.Norm.div_real _ _ (by norm_num), ← mul_assoc, ← EReal.coe_mul, mul_comm]
  congr 2
  norm_num

/-- The gradient at the scaled, normed row is finite where the scale and the targets are. -/
theorem grad_finite (y g t : Fin 1024 → EReal) (hg : ∀ k, g k ≠ ⊥ ∧ g k ≠ ⊤) (ht : ∀ k, t k ≠ ⊥ ∧ t k ≠ ⊤) (k : Fin 1024) :
    grad y g t k ≠ ⊥ ∧ grad y g t k ≠ ⊤ := by
  obtain ⟨a, ha⟩ := Cert.Finite.real _ (Cert.Norm.normed_finite y k)
  obtain ⟨b, hb⟩ := Cert.Finite.real _ (hg k)
  obtain ⟨d, hd⟩ := Cert.Finite.real _ (ht k)
  have h : grad y g t k = (((a * b - d) * (1 / 1024) : ℝ) : EReal) := by
    show (y k * Ideal.rsqrt (Cert.Norm.meanSq y) * g k - t k) * _ = _
    rw [ha, hb, hd, cPart, ← EReal.coe_mul, ← EReal.coe_sub, ← EReal.coe_mul]
  rw [h]
  exact Cert.Finite.coe _

/-- The reference's gradient of a row is the kernel's. -/
theorem ref_dsum (y g t : Fin 1024 → EReal) (hg : ∀ k, g k ≠ ⊥ ∧ g k ≠ ⊤) (ht : ∀ k, t k ≠ ⊥ ∧ t k ≠ ⊤) (q : Fin 1024) :
    refgrad y g t q * g q * Ideal.rsqrt (Cert.Norm.meanSq y) + (y q * Cert.Norm.through y (refgrad y g t) g + Cert.Norm.through y (refgrad y g t) g * y q) = dsum y g t q := by
  rw [refgrad_eq]
  exact (Cert.Norm.norm_eq y (grad y g t) g (grad_finite y g t hg ht) hg q).symm

set_option maxHeartbeats 2000000 in
theorem agrees : algebraic_DownFinalIdeal_DownFinalReferenceIdeal_pre_final_operands_finite := by
  intro m g m' g' hpre hm
  refine ⟨fun c => res0 m c, fun c => res1 m c, fun c => res2 m c,
    (θ_run defs _ _).mono (fun r h c => ⟨(h c).1.trans (final5 m c), (h c).2.1.trans (final6 m c), (h c).2.2.1.trans (final7 m c), (h c).2.2.2⟩)
      (Cert.DownFinalIdeal.Value.run_blocks m g), ?_⟩
  refine (θ_run Cert.DownFinalReferenceIdeal.defs _ _).mono (fun r h c => ⟨(h c).1.trans ?_, (h c).2.1.trans ?_, (h c).2.2.1.trans ?_, (h c).2.2.2⟩)
    (Cert.DownFinalReferenceIdeal.Value.run m' g')
  · obtain ⟨e0, e1, e2, e3, e4⟩ := hm c
    have fg : ∀ i, (m (c.tc.loc main_arg3)) i ≠ (⊥ : EReal) ∧ (m (c.tc.loc main_arg3)) i ≠ (⊤ : EReal) := fun i => Cert.Finite.f32 _ (congrFun (hpre c).1 i)
    have ft : ∀ i, (m (c.tc.loc main_arg4)) i ≠ (⊥ : EReal) ∧ (m (c.tc.loc main_arg4)) i ≠ (⊤ : EReal) := fun i => Cert.Finite.f32 _ (congrFun (hpre c).2 i)
    show _ = dx (total (m (c.tc.loc main_arg0)) (m (c.tc.loc main_arg1)) (m (c.tc.loc main_arg2))) (m (c.tc.loc main_arg3)) (m (c.tc.loc main_arg4))
    unfold Cert.DownFinalReferenceIdeal.Value.res_main_v52
    rw [e0, e1, e2, e3, e4]

    generalize m (c.tc.loc main_arg0) = a0
    generalize m (c.tc.loc main_arg1) = a1
    generalize m (c.tc.loc main_arg2) = a2
    generalize m (c.tc.loc main_arg3) = a3 at fg ⊢
    generalize m (c.tc.loc main_arg4) = a4 at ft ⊢
    funext i
    rw [eq_ix2 i]
    generalize i 0 = p
    generalize i 1 = q
    pointwise
    rw [add_assoc]
    exact ref_dsum (total a0 a1 a2 p) (fun k => a3 (ix2 0 k)) (fun k => a4 (ix2 p k)) (fun k => fg _) (fun k => ft _) q

  · obtain ⟨e0, e1, e2, e3, e4⟩ := hm c
    rw [e0, e1, e2, e3, e4]
    show _ = sq (total (m (c.tc.loc main_arg0)) (m (c.tc.loc main_arg1)) (m (c.tc.loc main_arg2))) (m (c.tc.loc main_arg3)) (m (c.tc.loc main_arg4))
    generalize m (c.tc.loc main_arg0) = a0
    generalize m (c.tc.loc main_arg1) = a1
    generalize m (c.tc.loc main_arg2) = a2
    generalize m (c.tc.loc main_arg3) = a3
    generalize m (c.tc.loc main_arg4) = a4
    funext i
    rw [eq_ix2 i]
    generalize i 0 = p
    generalize i 1 = q
    pointwise
    rfl

  · obtain ⟨e0, e1, e2, e3, e4⟩ := hm c
    rw [e0, e1, e2, e3, e4]
    show _ = dscale (total (m (c.tc.loc main_arg0)) (m (c.tc.loc main_arg1)) (m (c.tc.loc main_arg2))) (m (c.tc.loc main_arg3)) (m (c.tc.loc main_arg4))
    generalize m (c.tc.loc main_arg0) = a0
    generalize m (c.tc.loc main_arg1) = a1
    generalize m (c.tc.loc main_arg2) = a2
    generalize m (c.tc.loc main_arg3) = a3
    generalize m (c.tc.loc main_arg4) = a4
    funext i
    rw [eq_ix2 i]
    generalize i 0 = p
    generalize i 1 = q
    pointwise
    exact Finset.sum_congr rfl fun s _ => (mul_comm _ _).trans (congrArg (fun e : EReal => e * (total a0 a1 a2 s q * rinv (total a0 a1 a2 s)))
      (congrFun (refgrad_eq (total a0 a1 a2 s) (fun k => a3 (ix2 0 k)) (fun k => a4 (ix2 s k))) q))

end Cert.DownFinalIdeal.Hand

end
-- ==== Proof.GateUp.Value.lean ====
/-
  WHAT THE CALL OF THE FEED-FORWARD'S TWO FIRST PRODUCTS COMPUTES: its three result arrays at an index. Each of the sixteen
  points reads a block of 256 rows of the normed input and both whole weights, and writes back the same 256 rows of the
  gate, of the factor beside it, and of the activation.
-/
module

public import proofs.«01_k».proof.Defs
public import proofs.«01_k».proof.Proof.Gen.GateUpIdeal.Value
public import proofs.«01_k».proof.Proof.Gen.GateUpReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.GateUpIdeal.Hand

open Cert.GateUpIdeal Cert.GateUpIdeal.Gen

theorem hz : (![0, 0] : Fin 2 → Nat) = fun _ => 0 := funext fun a => by fin_cases a <;> rfl

/-- A product of the input with a transposed weight, at row `r` and feature `f`. -/
def prod (h : S4096x1024.Idx → EReal) (w : S2816x1024.Idx → EReal) (i : S4096x2816.Idx) : EReal :=
  ∑ k : Fin 1024, h (ix2 (i 0) k) * w (ix2 (i 1) k)

/-- The activation: the gate times its logistic, times the factor beside it. -/
def act (h : S4096x1024.Idx → EReal) (wg wu : S2816x1024.Idx → EReal) (i : S4096x2816.Idx) : EReal :=
  prod h wg i * Ideal.logistic (prod h wg i) * prod h wu i

theorem pay3_apply (x : Vec Ideal S256x1024 .bf16) (w : Vec Ideal S2816x1024 .bf16) (r : Fin 256) (f : Fin 2816) :
    k0_pay3 x w (ix2 r f) = ∑ k : Fin 1024, (show EReal from x (ix2 r k)) * (show EReal from w (ix2 f k)) := by
  unfold_payloads
  pointwise

theorem pay4_apply (x : Vec Ideal S256x1024 .bf16) (w : Vec Ideal S2816x1024 .bf16) (r : Fin 256) (f : Fin 2816) :
    k0_pay4 x w (ix2 r f) = ∑ k : Fin 1024, (show EReal from x (ix2 r k)) * (show EReal from w (ix2 f k)) := by
  unfold_payloads
  pointwise

theorem pay5_apply (x : Vec Ideal S256x1024 .bf16) (w u : Vec Ideal S2816x1024 .bf16) (r : Fin 256) (f : Fin 2816) :
    k0_pay5 x w u (ix2 r f) = (∑ k : Fin 1024, (show EReal from x (ix2 r k)) * (show EReal from w (ix2 f k)))
      * Ideal.logistic (∑ k : Fin 1024, (show EReal from x (ix2 r k)) * (show EReal from w (ix2 f k)))
      * (∑ k : Fin 1024, (show EReal from x (ix2 r k)) * (show EReal from u (ix2 f k))) := by
  unfold_payloads
  pointwise

variable (m : (ℓ : Loc nD τ sig) → Buf (Elt Ideal) ℓ) (ρ : Dev nD → PrngReg)

/-- The row of the whole arrays that row `k` of point `t`'s block is. -/
def row (t : Fin cfg0.N) (k : Fin 256) : Fin 4096 := ⟨t.val * 256 + k.val, by have := t.isLt; have : cfg0.N = 16 := N_0; omega⟩

/-- Point `t`'s block of operand 0: its 256 rows. -/
theorem iblk0 (c : Dev nD) (t : Fin cfg0.N) (r : Fin 256) (k : Fin 1024) :
    (iblk m c 0 t : Vec Ideal S256x1024 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

/-- Every point's block of operand 1 is the whole operand. -/
theorem iblk1 (c : Dev nD) (t : Fin cfg0.N) (r : Fin 2816) (k : Fin 1024) :
    (iblk m c 1 t : Vec Ideal S2816x1024 .bf16) (ix2 r k) = m (c.tc.loc main_arg1) (ix2 r k) := by
  have hi : win0_1.index t 0 = 0 ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 2816 + 1 * r.val = r.val; rw [hi.1]; omega
  | ⟨1, _⟩ => show win0_1.index t 1 * 1024 + 1 * k.val = k.val; rw [hi.2]; omega

/-- Every point's block of operand 2 is the whole operand. -/
theorem iblk2 (c : Dev nD) (t : Fin cfg0.N) (r : Fin 2816) (k : Fin 1024) :
    (iblk m c 2 t : Vec Ideal S2816x1024 .bf16) (ix2 r k) = m (c.tc.loc main_arg2) (ix2 r k) := by
  have hi : win0_2.index t 0 = 0 ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 2816 + 1 * r.val = r.val; rw [hi.1]; omega
  | ⟨1, _⟩ => show win0_2.index t 1 * 1024 + 1 * k.val = k.val; rw [hi.2]; omega

/-- Where point `t`'s block of result 0 lies: at its 256 rows. -/
theorem blk3_apply (t : Fin cfg0.N) (G : S4096x2816.Idx → EReal) (r : Fin 256) (f : Fin 2816) :
    ((win0_3.blk t).view.read (Elt Ideal) G : Vec Ideal S256x2816 .bf16) (ix2 r f) = G (ix2 (row t r) f) := by
  have hi : win0_3.index t 0 = t.val ∧ win0_3.index t 1 = 0 := by revert t; decide
  rw [View.read_apply]
  show G _ = G _
  congr 1
  funext a
  apply Fin.ext
  match a with
  | ⟨0, _⟩ => show win0_3.index t 0 * 256 + 1 * r.val = t.val * 256 + r.val; rw [hi.1]; omega
  | ⟨1, _⟩ => show win0_3.index t 1 * 2816 + 1 * f.val = f.val; rw [hi.2]; omega

/-- What the body computes for result 0 at point `t`, at an index of the block. -/
theorem point3 (c : Dev nD) (t : Fin cfg0.N) (r : Fin 256) (f : Fin 2816) :
    k0_pay3 (iblk m c 0 t) (iblk m c 1 t) (ix2 r f) = prod (m (c.tc.loc main_arg0)) (m (c.tc.loc main_arg1)) (ix2 (row t r) f) := by
  rw [pay3_apply]
  simp only [iblk0, iblk1]
  rfl

/-- What point `t` writes back of result 0. -/
theorem flushed3_eq (c : Dev nD) (t : Fin cfg0.N) :
    (dats m 0 c).flushed 3 t = (win0_3.blk t).view.read (Elt Ideal) (prod (m (c.tc.loc main_arg0)) (m (c.tc.loc main_arg1))) := by
  rw [Value.flushed3]
  unfold out0_3
  rw [View.canon_unit_zero hz]
  simp only [View.ld_unit_zero (S := S256x1024) hz, View.ld_unit_zero (S := S2816x1024) hz]
  funext i
  rw [eq_ix2 i]
  refine Eq.trans ?_ (blk3_apply t _ (i 0) (i 1)).symm
  exact point3 m c t (i 0) (i 1)

theorem mem_blk3 (t : Fin cfg0.N) (i : S4096x2816.Idx) :
    i ∈ ((cfg0.win 3).blk t).view.set ↔ t.val * 256 ≤ (i 0 : Nat) ∧ (i 0 : Nat) < t.val * 256 + 256 := by
  show i ∈ ((View.whole main_v0_0).slice (win0_3.rect t)).set ↔ _
  rw [View.set_slice_whole, Rect.mem_set_unit]
  have h1 : (i 1 : Nat) < 2816 := (i 1).isLt
  have e : win0_3.index t 0 * win0_3.size 0 = t.val * 256 ∧ win0_3.xsize (grid0.coords t) 0 = 256
      ∧ win0_3.index t 1 * win0_3.size 1 = 0 ∧ win0_3.xsize (grid0.coords t) 1 = 2816 := by revert t; decide +kernel
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0; rw [e.1, e.2.1]; exact h
    | ⟨1, _⟩ => show win0_3.index t 1 * win0_3.size 1 ≤ (i 1 : Nat) ∧ (i 1 : Nat) < win0_3.index t 1 * win0_3.size 1 + win0_3.xsize (grid0.coords t) 1; rw [e.2.2.1, e.2.2.2]; omega

theorem cover3 (i : S4096x2816.Idx) :
    ∃ t : Fin cfg0.N, (cfg0.win 3).flush t = true ∧ i ∈ ((cfg0.win 3).blk t).view.set := by
  have h0 : (i 0 : Nat) < 4096 := (i 0).isLt
  have hN : cfg0.N = 16 := N_0
  refine ⟨⟨(i 0 : Nat) / 256, by omega⟩, flush0_3 _, ?_⟩
  rw [mem_blk3]
  dsimp only
  omega

/-- Result 0 after the run. -/
theorem final3 (c : Dev nD) : (dats m 0 c).arrAt 3 cfg0.N = prod (m (c.tc.loc main_arg0)) (m (c.tc.loc main_arg1)) :=
  (dats m 0 c).arrAt_eq_of_cover 3 _ (fun t _ => flushed3_eq m c t) cover3

/-- Where point `t`'s block of result 1 lies: at its 256 rows. -/
theorem blk4_apply (t : Fin cfg0.N) (G : S4096x2816.Idx → EReal) (r : Fin 256) (f : Fin 2816) :
    ((win0_4.blk t).view.read (Elt Ideal) G : Vec Ideal S256x2816 .bf16) (ix2 r f) = G (ix2 (row t r) f) := by
  have hi : win0_4.index t 0 = t.val ∧ win0_4.index t 1 = 0 := by revert t; decide
  rw [View.read_apply]
  show G _ = G _
  congr 1
  funext a
  apply Fin.ext
  match a with
  | ⟨0, _⟩ => show win0_4.index t 0 * 256 + 1 * r.val = t.val * 256 + r.val; rw [hi.1]; omega
  | ⟨1, _⟩ => show win0_4.index t 1 * 2816 + 1 * f.val = f.val; rw [hi.2]; omega

/-- What the body computes for result 1 at point `t`, at an index of the block. -/
theorem point4 (c : Dev nD) (t : Fin cfg0.N) (r : Fin 256) (f : Fin 2816) :
    k0_pay4 (iblk m c 0 t) (iblk m c 2 t) (ix2 r f) = prod (m (c.tc.loc main_arg0)) (m (c.tc.loc main_arg2)) (ix2 (row t r) f) := by
  rw [pay4_apply]
  simp only [iblk0, iblk2]
  rfl

/-- What point `t` writes back of result 1. -/
theorem flushed4_eq (c : Dev nD) (t : Fin cfg0.N) :
    (dats m 0 c).flushed 4 t = (win0_4.blk t).view.read (Elt Ideal) (prod (m (c.tc.loc main_arg0)) (m (c.tc.loc main_arg2))) := by
  rw [Value.flushed4]
  unfold out0_4
  rw [View.canon_unit_zero hz]
  simp only [View.ld_unit_zero (S := S256x1024) hz, View.ld_unit_zero (S := S2816x1024) hz]
  funext i
  rw [eq_ix2 i]
  refine Eq.trans ?_ (blk4_apply t _ (i 0) (i 1)).symm
  exact point4 m c t (i 0) (i 1)

theorem mem_blk4 (t : Fin cfg0.N) (i : S4096x2816.Idx) :
    i ∈ ((cfg0.win 4).blk t).view.set ↔ t.val * 256 ≤ (i 0 : Nat) ∧ (i 0 : Nat) < t.val * 256 + 256 := by
  show i ∈ ((View.whole main_v0_1).slice (win0_4.rect t)).set ↔ _
  rw [View.set_slice_whole, Rect.mem_set_unit]
  have h1 : (i 1 : Nat) < 2816 := (i 1).isLt
  have e : win0_4.index t 0 * win0_4.size 0 = t.val * 256 ∧ win0_4.xsize (grid0.coords t) 0 = 256
      ∧ win0_4.index t 1 * win0_4.size 1 = 0 ∧ win0_4.xsize (grid0.coords t) 1 = 2816 := by revert t; decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0; rw [e.1, e.2.1]; exact h
    | ⟨1, _⟩ => show win0_4.index t 1 * win0_4.size 1 ≤ (i 1 : Nat) ∧ (i 1 : Nat) < win0_4.index t 1 * win0_4.size 1 + win0_4.xsize (grid0.coords t) 1; rw [e.2.2.1, e.2.2.2]; omega

theorem cover4 (i : S4096x2816.Idx) :
    ∃ t : Fin cfg0.N, (cfg0.win 4).flush t = true ∧ i ∈ ((cfg0.win 4).blk t).view.set := by
  have h0 : (i 0 : Nat) < 4096 := (i 0).isLt
  have hN : cfg0.N = 16 := N_0
  refine ⟨⟨(i 0 : Nat) / 256, by omega⟩, flush0_4 _, ?_⟩
  rw [mem_blk4]
  dsimp only
  omega

/-- Result 1 after the run. -/
theorem final4 (c : Dev nD) : (dats m 0 c).arrAt 4 cfg0.N = prod (m (c.tc.loc main_arg0)) (m (c.tc.loc main_arg2)) :=
  (dats m 0 c).arrAt_eq_of_cover 4 _ (fun t _ => flushed4_eq m c t) cover4

/-- Where point `t`'s block of result 2 lies: at its 256 rows. -/
theorem blk5_apply (t : Fin cfg0.N) (G : S4096x2816.Idx → EReal) (r : Fin 256) (f : Fin 2816) :
    ((win0_5.blk t).view.read (Elt Ideal) G : Vec Ideal S256x2816 .bf16) (ix2 r f) = G (ix2 (row t r) f) := by
  have hi : win0_5.index t 0 = t.val ∧ win0_5.index t 1 = 0 := by revert t; decide
  rw [View.read_apply]
  show G _ = G _
  congr 1
  funext a
  apply Fin.ext
  match a with
  | ⟨0, _⟩ => show win0_5.index t 0 * 256 + 1 * r.val = t.val * 256 + r.val; rw [hi.1]; omega
  | ⟨1, _⟩ => show win0_5.index t 1 * 2816 + 1 * f.val = f.val; rw [hi.2]; omega

/-- What the body computes for result 2 at point `t`, at an index of the block. -/
theorem point5 (c : Dev nD) (t : Fin cfg0.N) (r : Fin 256) (f : Fin 2816) :
    k0_pay5 (iblk m c 0 t) (iblk m c 1 t) (iblk m c 2 t) (ix2 r f) = act (m (c.tc.loc main_arg0)) (m (c.tc.loc main_arg1)) (m (c.tc.loc main_arg2)) (ix2 (row t r) f) := by
  rw [pay5_apply]
  simp only [iblk0, iblk1, iblk2]
  rfl

/-- What point `t` writes back of result 2. -/
theorem flushed5_eq (c : Dev nD) (t : Fin cfg0.N) :
    (dats m 0 c).flushed 5 t = (win0_5.blk t).view.read (Elt Ideal) (act (m (c.tc.loc main_arg0)) (m (c.tc.loc main_arg1)) (m (c.tc.loc main_arg2))) := by
  rw [Value.flushed5]
  unfold out0_5
  rw [View.canon_unit_zero hz]
  simp only [View.ld_unit_zero (S := S256x1024) hz, View.ld_unit_zero (S := S2816x1024) hz]
  funext i
  rw [eq_ix2 i]
  refine Eq.trans ?_ (blk5_apply t _ (i 0) (i 1)).symm
  exact point5 m c t (i 0) (i 1)

theorem mem_blk5 (t : Fin cfg0.N) (i : S4096x2816.Idx) :
    i ∈ ((cfg0.win 5).blk t).view.set ↔ t.val * 256 ≤ (i 0 : Nat) ∧ (i 0 : Nat) < t.val * 256 + 256 := by
  show i ∈ ((View.whole main_v0_2).slice (win0_5.rect t)).set ↔ _
  rw [View.set_slice_whole, Rect.mem_set_unit]
  have h1 : (i 1 : Nat) < 2816 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 2816 := by revert t; decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0; rw [e.1, e.2.1]; exact h
    | ⟨1, _⟩ => show win0_5.index t 1 * win0_5.size 1 ≤ (i 1 : Nat) ∧ (i 1 : Nat) < win0_5.index t 1 * win0_5.size 1 + win0_5.xsize (grid0.coords t) 1; rw [e.2.2.1, e.2.2.2]; omega

theorem cover5 (i : S4096x2816.Idx) :
    ∃ t : Fin cfg0.N, (cfg0.win 5).flush t = true ∧ i ∈ ((cfg0.win 5).blk t).view.set := by
  have h0 : (i 0 : Nat) < 4096 := (i 0).isLt
  have hN : cfg0.N = 16 := N_0
  refine ⟨⟨(i 0 : Nat) / 256, by omega⟩, flush0_5 _, ?_⟩
  rw [mem_blk5]
  dsimp only
  omega

/-- Result 2 after the run. -/
theorem final5 (c : Dev nD) : (dats m 0 c).arrAt 5 cfg0.N = act (m (c.tc.loc main_arg0)) (m (c.tc.loc main_arg1)) (m (c.tc.loc main_arg2)) :=
  (dats m 0 c).arrAt_eq_of_cover 5 _ (fun t _ => flushed5_eq m c t) cover5

theorem agrees : algebraic_GateUpIdeal_GateUpReferenceIdeal := by
  intro m g m' g' _ hm
  refine ⟨fun c => prod (m (c.tc.loc main_arg0)) (m (c.tc.loc main_arg1)), fun c => prod (m (c.tc.loc main_arg0)) (m (c.tc.loc main_arg2)), fun c => act (m (c.tc.loc main_arg0)) (m (c.tc.loc main_arg1)) (m (c.tc.loc main_arg2)),
    (θ_run defs _ _).mono (fun r h c => ⟨(h c).1.trans (final3 m c), (h c).2.1.trans (final4 m c), (h c).2.2.1.trans (final5 m c), (h c).2.2.2⟩)
      (Cert.GateUpIdeal.Value.run_blocks m g), ?_⟩
  refine (θ_run Cert.GateUpReferenceIdeal.defs _ _).mono
    (fun r h c => ⟨(h c).1.trans ?_, (h c).2.1.trans ?_, (h c).2.2.1.trans ?_, (h c).2.2.2⟩) (Cert.GateUpReferenceIdeal.Value.run m' g')
  all_goals
    obtain ⟨e0, e1, e2⟩ := hm c
    simp only [e0, e1, e2]
    beta_reduce
    generalize m (c.tc.loc main_arg0) = x
    generalize m (c.tc.loc main_arg1) = w
    generalize m (c.tc.loc main_arg2) = u
    funext i
    rw [eq_ix2 i]
    generalize i 0 = p
    generalize i 1 = q
    pointwise
    try rfl

end Cert.GateUpIdeal.Hand

end
-- ==== Proof.InProj.Value.lean ====
/-
  WHAT THE INPUT PROJECTION COMPUTES: its three result arrays at an index. Each of the four points reads a block of 1024
  rows of the normed input and the whole weight, and writes back the same 1024 rows of the queries, keys and values, of the
  pooling input, and of the forget logits, each the product with its own rows of the weight.
-/
module

public import proofs.«01_k».proof.Defs
public import proofs.«01_k».proof.Proof.Gen.InProjIdeal.Value
public import proofs.«01_k».proof.Proof.Gen.InProjReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.InProjIdeal.Hand

open Cert.InProjIdeal Cert.InProjIdeal.Gen

theorem hz : (![0, 0] : Fin 2 → Nat) = fun _ => 0 := funext fun a => by fin_cases a <;> rfl

/-- The product of the input with row `o + j` of the weight. -/
def prod (h : S4096x1024.Idx → EReal) (w : S2176x1024.Idx → EReal) (r : Fin 4096) (j : Fin 2176) : EReal :=
  ∑ k : Fin 1024, h (ix2 r k) * w (ix2 j k)

/-- The queries, keys and values: the first 1536 rows of the weight. -/
def qkv (h : S4096x1024.Idx → EReal) (w : S2176x1024.Idx → EReal) (i : S4096x1536.Idx) : EReal :=
  prod h w (i 0) ⟨(i 1 : Nat), by have : (i 1 : Nat) < 1536 := (i 1).isLt; omega⟩

/-- The pooling input: the next 512 rows. -/
def pool (h : S4096x1024.Idx → EReal) (w : S2176x1024.Idx → EReal) (i : S4096x512.Idx) : EReal :=
  prod h w (i 0) ⟨1536 + (i 1 : Nat), by have : (i 1 : Nat) < 512 := (i 1).isLt; omega⟩

/-- The forget logits: the last 128 rows. -/
def logit (h : S4096x1024.Idx → EReal) (w : S2176x1024.Idx → EReal) (i : S4096x128.Idx) : EReal :=
  prod h w (i 0) ⟨2048 + (i 1 : Nat), by have : (i 1 : Nat) < 128 := (i 1).isLt; omega⟩

theorem pay1_apply (x : Vec Ideal S1024x1024 .bf16) (w : Vec Ideal S1536x1024 .bf16) (r : Fin 1024) (f : Fin 1536) :
    k0_pay1 x w (ix2 r f) = ∑ k : Fin 1024, (show EReal from x (ix2 r k)) * (show EReal from w (ix2 f k)) := by
  unfold_payloads
  pointwise

/-- The rows of the weight that the body reads for result 0. -/
theorem ld1 (X : S2176x1024.Idx → Elt Ideal .bf16) (f : Fin 1536) (k : Fin 1024) :
    (View.ld (Val := Elt Ideal) (S := S2176x1024) (e' := .bf16) X r0_1 : Vec Ideal S1536x1024 .bf16) (ix2 f k) = X (ix2 (⟨f.val, by omega⟩ : Fin 2176) k) := by
  show X _ = X _
  congr 1
  funext a
  apply Fin.ext
  match a with
  | ⟨0, _⟩ => show 0 + 1 * f.val = f.val; omega
  | ⟨1, _⟩ => show 0 + 1 * k.val = k.val; omega

theorem pay2_apply (x : Vec Ideal S1024x1024 .bf16) (w : Vec Ideal S512x1024 .bf16) (r : Fin 1024) (f : Fin 512) :
    k0_pay2 x w (ix2 r f) = ∑ k : Fin 1024, (show EReal from x (ix2 r k)) * (show EReal from w (ix2 f k)) := by
  unfold_payloads
  pointwise

/-- The rows of the weight that the body reads for result 1. -/
theorem ld2 (X : S2176x1024.Idx → Elt Ideal .bf16) (f : Fin 512) (k : Fin 1024) :
    (View.ld (Val := Elt Ideal) (S := S2176x1024) (e' := .bf16) X r0_3 : Vec Ideal S512x1024 .bf16) (ix2 f k) = X (ix2 (⟨1536 + f.val, by omega⟩ : Fin 2176) k) := by
  show X _ = X _
  congr 1
  funext a
  apply Fin.ext
  match a with
  | ⟨0, _⟩ => show 1536 + 1 * f.val = 1536 + f.val; omega
  | ⟨1, _⟩ => show 0 + 1 * k.val = k.val; omega

theorem pay3_apply (x : Vec Ideal S1024x1024 .bf16) (w : Vec Ideal S128x1024 .bf16) (r : Fin 1024) (f : Fin 128) :
    k0_pay3 x w (ix2 r f) = ∑ k : Fin 1024, (show EReal from x (ix2 r k)) * (show EReal from w (ix2 f k)) := by
  unfold_payloads
  pointwise

/-- The rows of the weight that the body reads for result 2. -/
theorem ld3 (X : S2176x1024.Idx → Elt Ideal .bf16) (f : Fin 128) (k : Fin 1024) :
    (View.ld (Val := Elt Ideal) (S := S2176x1024) (e' := .bf16) X r0_5 : Vec Ideal S128x1024 .bf16) (ix2 f k) = X (ix2 (⟨2048 + f.val, by omega⟩ : Fin 2176) k) := by
  show X _ = X _
  congr 1
  funext a
  apply Fin.ext
  match a with
  | ⟨0, _⟩ => show 2048 + 1 * f.val = 2048 + f.val; omega
  | ⟨1, _⟩ => show 0 + 1 * k.val = k.val; omega

variable (m : (ℓ : Loc nD τ sig) → Buf (Elt Ideal) ℓ) (ρ : Dev nD → PrngReg)

/-- The row of the whole arrays that row `k` of point `t`'s block is. -/
def row (t : Fin cfg0.N) (k : Fin 1024) : Fin 4096 := ⟨t.val * 1024 + k.val, by have := t.isLt; have : cfg0.N = 4 := N_0; omega⟩

/-- Point `t`'s block of operand 0: its 1024 rows. -/
theorem iblk0 (c : Dev nD) (t : Fin cfg0.N) (r : Fin 1024) (k : Fin 1024) :
    (iblk m c 0 t : Vec Ideal S1024x1024 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

/-- Every point's block of operand 1 is the whole operand. -/
theorem iblk1 (c : Dev nD) (t : Fin cfg0.N) (r : Fin 2176) (k : Fin 1024) :
    (iblk m c 1 t : Vec Ideal S2176x1024 .bf16) (ix2 r k) = m (c.tc.loc main_arg1) (ix2 r k) := by
  have hi : win0_1.index t 0 = 0 ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 2176 + 1 * r.val = r.val; rw [hi.1]; omega
  | ⟨1, _⟩ => show win0_1.index t 1 * 1024 + 1 * k.val = k.val; rw [hi.2]; omega

/-- Where point `t`'s block of result 0 lies: at its 1024 rows. -/
theorem blk2_apply (t : Fin cfg0.N) (G : S4096x1536.Idx → EReal) (r : Fin 1024) (f : Fin 1536) :
    ((win0_2.blk t).view.read (Elt Ideal) G : Vec Ideal S1024x1536 .bf16) (ix2 r f) = G (ix2 (row t r) f) := by
  have hi : win0_2.index t 0 = t.val ∧ win0_2.index t 1 = 0 := by revert t; decide
  rw [View.read_apply]
  show G _ = G _
  congr 1
  funext a
  apply Fin.ext
  match a with
  | ⟨0, _⟩ => show win0_2.index t 0 * 1024 + 1 * r.val = t.val * 1024 + r.val; rw [hi.1]; omega
  | ⟨1, _⟩ => show win0_2.index t 1 * 1536 + 1 * f.val = f.val; rw [hi.2]; omega

/-- What the body computes for result 0 at point `t`, at an index of the block. -/
theorem point2 (c : Dev nD) (t : Fin cfg0.N) (r : Fin 1024) (f : Fin 1536) :
    k0_pay1 (iblk m c 0 t) (View.ld (Val := Elt Ideal) (S := S2176x1024) (e' := .bf16) (iblk m c 1 t) r0_1) (ix2 r f) = qkv (m (c.tc.loc main_arg0)) (m (c.tc.loc main_arg1)) (ix2 (row t r) f) := by
  rw [pay1_apply]
  exact Finset.sum_congr rfl fun k _ => congrArg₂ (fun a b : EReal => a * b) (iblk0 m c t r k) ((ld1 _ f k).trans (iblk1 m c t _ k))

/-- What point `t` writes back of result 0. -/
theorem flushed2_eq (c : Dev nD) (t : Fin cfg0.N) :
    (dats m 0 c).flushed 2 t = (win0_2.blk t).view.read (Elt Ideal) (qkv (m (c.tc.loc main_arg0)) (m (c.tc.loc main_arg1))) := by
  rw [Value.flushed2]
  unfold out0_2
  rw [View.canon_unit_zero hz]
  simp only [View.ld_unit_zero (S := S1024x1024) hz]
  funext i
  rw [eq_ix2 i]
  refine Eq.trans ?_ (blk2_apply t _ (i 0) (i 1)).symm
  exact point2 m c t (i 0) (i 1)

theorem mem_blk2 (t : Fin cfg0.N) (i : S4096x1536.Idx) :
    i ∈ ((cfg0.win 2).blk t).view.set ↔ t.val * 1024 ≤ (i 0 : Nat) ∧ (i 0 : Nat) < t.val * 1024 + 1024 := by
  show i ∈ ((View.whole main_v0_0).slice (win0_2.rect t)).set ↔ _
  rw [View.set_slice_whole, Rect.mem_set_unit]
  have h1 : (i 1 : Nat) < 1536 := (i 1).isLt
  have e : win0_2.index t 0 * win0_2.size 0 = t.val * 1024 ∧ win0_2.xsize (grid0.coords t) 0 = 1024
      ∧ win0_2.index t 1 * win0_2.size 1 = 0 ∧ win0_2.xsize (grid0.coords t) 1 = 1536 := by revert t; decide +kernel
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e.1, e.2.1] at this; exact this
  · match a with
    | ⟨0, _⟩ => show win0_2.index t 0 * win0_2.size 0 ≤ (i 0 : Nat) ∧ (i 0 : Nat) < win0_2.index t 0 * win0_2.size 0 + win0_2.xsize (grid0.coords t) 0; rw [e.1, e.2.1]; exact h
    | ⟨1, _⟩ => show win0_2.index t 1 * win0_2.size 1 ≤ (i 1 : Nat) ∧ (i 1 : Nat) < win0_2.index t 1 * win0_2.size 1 + win0_2.xsize (grid0.coords t) 1; rw [e.2.2.1, e.2.2.2]; omega

theorem cover2 (i : S4096x1536.Idx) :
    ∃ t : Fin cfg0.N, (cfg0.win 2).flush t = true ∧ i ∈ ((cfg0.win 2).blk t).view.set := by
  have h0 : (i 0 : Nat) < 4096 := (i 0).isLt
  have hN : cfg0.N = 4 := N_0
  refine ⟨⟨(i 0 : Nat) / 1024, by omega⟩, flush0_2 _, ?_⟩
  rw [mem_blk2]
  dsimp only
  omega

/-- Result 0 after the run. -/
theorem final2 (c : Dev nD) : (dats m 0 c).arrAt 2 cfg0.N = qkv (m (c.tc.loc main_arg0)) (m (c.tc.loc main_arg1)) :=
  (dats m 0 c).arrAt_eq_of_cover 2 _ (fun t _ => flushed2_eq m c t) cover2

/-- Where point `t`'s block of result 1 lies: at its 1024 rows. -/
theorem blk3_apply (t : Fin cfg0.N) (G : S4096x512.Idx → EReal) (r : Fin 1024) (f : Fin 512) :
    ((win0_3.blk t).view.read (Elt Ideal) G : Vec Ideal S1024x512 .f32) (ix2 r f) = G (ix2 (row t r) f) := by
  have hi : win0_3.index t 0 = t.val ∧ win0_3.index t 1 = 0 := by revert t; decide
  rw [View.read_apply]
  show G _ = G _
  congr 1
  funext a
  apply Fin.ext
  match a with
  | ⟨0, _⟩ => show win0_3.index t 0 * 1024 + 1 * r.val = t.val * 1024 + r.val; rw [hi.1]; omega
  | ⟨1, _⟩ => show win0_3.index t 1 * 512 + 1 * f.val = f.val; rw [hi.2]; omega

/-- What the body computes for result 1 at point `t`, at an index of the block. -/
theorem point3 (c : Dev nD) (t : Fin cfg0.N) (r : Fin 1024) (f : Fin 512) :
    k0_pay2 (iblk m c 0 t) (View.ld (Val := Elt Ideal) (S := S2176x1024) (e' := .bf16) (iblk m c 1 t) r0_3) (ix2 r f) = pool (m (c.tc.loc main_arg0)) (m (c.tc.loc main_arg1)) (ix2 (row t r) f) := by
  rw [pay2_apply]
  exact Finset.sum_congr rfl fun k _ => congrArg₂ (fun a b : EReal => a * b) (iblk0 m c t r k) ((ld2 _ f k).trans (iblk1 m c t _ k))

/-- What point `t` writes back of result 1. -/
theorem flushed3_eq (c : Dev nD) (t : Fin cfg0.N) :
    (dats m 0 c).flushed 3 t = (win0_3.blk t).view.read (Elt Ideal) (pool (m (c.tc.loc main_arg0)) (m (c.tc.loc main_arg1))) := by
  rw [Value.flushed3]
  unfold out0_3
  rw [View.canon_unit_zero hz]
  simp only [View.ld_unit_zero (S := S1024x1024) hz]
  funext i
  rw [eq_ix2 i]
  refine Eq.trans ?_ (blk3_apply t _ (i 0) (i 1)).symm
  exact point3 m c t (i 0) (i 1)

theorem mem_blk3 (t : Fin cfg0.N) (i : S4096x512.Idx) :
    i ∈ ((cfg0.win 3).blk t).view.set ↔ t.val * 1024 ≤ (i 0 : Nat) ∧ (i 0 : Nat) < t.val * 1024 + 1024 := by
  show i ∈ ((View.whole main_v0_1).slice (win0_3.rect t)).set ↔ _
  rw [View.set_slice_whole, Rect.mem_set_unit]
  have h1 : (i 1 : Nat) < 512 := (i 1).isLt
  have e : win0_3.index t 0 * win0_3.size 0 = t.val * 1024 ∧ win0_3.xsize (grid0.coords t) 0 = 1024
      ∧ win0_3.index t 1 * win0_3.size 1 = 0 ∧ win0_3.xsize (grid0.coords t) 1 = 512 := by revert t; decide +kernel
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0; rw [e.1, e.2.1]; exact h
    | ⟨1, _⟩ => show win0_3.index t 1 * win0_3.size 1 ≤ (i 1 : Nat) ∧ (i 1 : Nat) < win0_3.index t 1 * win0_3.size 1 + win0_3.xsize (grid0.coords t) 1; rw [e.2.2.1, e.2.2.2]; omega

theorem cover3 (i : S4096x512.Idx) :
    ∃ t : Fin cfg0.N, (cfg0.win 3).flush t = true ∧ i ∈ ((cfg0.win 3).blk t).view.set := by
  have h0 : (i 0 : Nat) < 4096 := (i 0).isLt
  have hN : cfg0.N = 4 := N_0
  refine ⟨⟨(i 0 : Nat) / 1024, by omega⟩, flush0_3 _, ?_⟩
  rw [mem_blk3]
  dsimp only
  omega

/-- Result 1 after the run. -/
theorem final3 (c : Dev nD) : (dats m 0 c).arrAt 3 cfg0.N = pool (m (c.tc.loc main_arg0)) (m (c.tc.loc main_arg1)) :=
  (dats m 0 c).arrAt_eq_of_cover 3 _ (fun t _ => flushed3_eq m c t) cover3

/-- Where point `t`'s block of result 2 lies: at its 1024 rows. -/
theorem blk4_apply (t : Fin cfg0.N) (G : S4096x128.Idx → EReal) (r : Fin 1024) (f : Fin 128) :
    ((win0_4.blk t).view.read (Elt Ideal) G : Vec Ideal S1024x128 .f32) (ix2 r f) = G (ix2 (row t r) f) := by
  have hi : win0_4.index t 0 = t.val ∧ win0_4.index t 1 = 0 := by revert t; decide
  rw [View.read_apply]
  show G _ = G _
  congr 1
  funext a
  apply Fin.ext
  match a with
  | ⟨0, _⟩ => show win0_4.index t 0 * 1024 + 1 * r.val = t.val * 1024 + r.val; rw [hi.1]; omega
  | ⟨1, _⟩ => show win0_4.index t 1 * 128 + 1 * f.val = f.val; rw [hi.2]; omega

/-- What the body computes for result 2 at point `t`, at an index of the block. -/
theorem point4 (c : Dev nD) (t : Fin cfg0.N) (r : Fin 1024) (f : Fin 128) :
    k0_pay3 (iblk m c 0 t) (View.ld (Val := Elt Ideal) (S := S2176x1024) (e' := .bf16) (iblk m c 1 t) r0_5) (ix2 r f) = logit (m (c.tc.loc main_arg0)) (m (c.tc.loc main_arg1)) (ix2 (row t r) f) := by
  rw [pay3_apply]
  exact Finset.sum_congr rfl fun k _ => congrArg₂ (fun a b : EReal => a * b) (iblk0 m c t r k) ((ld3 _ f k).trans (iblk1 m c t _ k))

/-- What point `t` writes back of result 2. -/
theorem flushed4_eq (c : Dev nD) (t : Fin cfg0.N) :
    (dats m 0 c).flushed 4 t = (win0_4.blk t).view.read (Elt Ideal) (logit (m (c.tc.loc main_arg0)) (m (c.tc.loc main_arg1))) := by
  rw [Value.flushed4]
  unfold out0_4
  rw [View.canon_unit_zero hz]
  simp only [View.ld_unit_zero (S := S1024x1024) hz]
  funext i
  rw [eq_ix2 i]
  refine Eq.trans ?_ (blk4_apply t _ (i 0) (i 1)).symm
  exact point4 m c t (i 0) (i 1)

theorem mem_blk4 (t : Fin cfg0.N) (i : S4096x128.Idx) :
    i ∈ ((cfg0.win 4).blk t).view.set ↔ t.val * 1024 ≤ (i 0 : Nat) ∧ (i 0 : Nat) < t.val * 1024 + 1024 := by
  show i ∈ ((View.whole main_v0_2).slice (win0_4.rect t)).set ↔ _
  rw [View.set_slice_whole, Rect.mem_set_unit]
  have h1 : (i 1 : Nat) < 128 := (i 1).isLt
  have e : win0_4.index t 0 * win0_4.size 0 = t.val * 1024 ∧ win0_4.xsize (grid0.coords t) 0 = 1024
      ∧ win0_4.index t 1 * win0_4.size 1 = 0 ∧ win0_4.xsize (grid0.coords t) 1 = 128 := by revert t; decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0; rw [e.1, e.2.1]; exact h
    | ⟨1, _⟩ => show win0_4.index t 1 * win0_4.size 1 ≤ (i 1 : Nat) ∧ (i 1 : Nat) < win0_4.index t 1 * win0_4.size 1 + win0_4.xsize (grid0.coords t) 1; rw [e.2.2.1, e.2.2.2]; omega

theorem cover4 (i : S4096x128.Idx) :
    ∃ t : Fin cfg0.N, (cfg0.win 4).flush t = true ∧ i ∈ ((cfg0.win 4).blk t).view.set := by
  have h0 : (i 0 : Nat) < 4096 := (i 0).isLt
  have hN : cfg0.N = 4 := N_0
  refine ⟨⟨(i 0 : Nat) / 1024, by omega⟩, flush0_4 _, ?_⟩
  rw [mem_blk4]
  dsimp only
  omega

/-- Result 2 after the run. -/
theorem final4 (c : Dev nD) : (dats m 0 c).arrAt 4 cfg0.N = logit (m (c.tc.loc main_arg0)) (m (c.tc.loc main_arg1)) :=
  (dats m 0 c).arrAt_eq_of_cover 4 _ (fun t _ => flushed4_eq m c t) cover4

theorem agrees : algebraic_InProjIdeal_InProjReferenceIdeal := by
  intro m g m' g' _ hm
  refine ⟨fun c => qkv (m (c.tc.loc main_arg0)) (m (c.tc.loc main_arg1)), fun c => pool (m (c.tc.loc main_arg0)) (m (c.tc.loc main_arg1)), fun c => logit (m (c.tc.loc main_arg0)) (m (c.tc.loc main_arg1)),
    (θ_run defs _ _).mono (fun r h c => ⟨(h c).1.trans (final2 m c), (h c).2.1.trans (final3 m c), (h c).2.2.1.trans (final4 m c), (h c).2.2.2⟩)
      (Cert.InProjIdeal.Value.run_blocks m g), ?_⟩
  refine (θ_run Cert.InProjReferenceIdeal.defs _ _).mono
    (fun r h c => ⟨(h c).1.trans ?_, (h c).2.1.trans ?_, (h c).2.2.1.trans ?_, (h c).2.2.2⟩) (Cert.InProjReferenceIdeal.Value.run m' g')
  all_goals
    obtain ⟨e0, e1⟩ := hm c
    simp only [e0, e1]
    beta_reduce
    generalize m (c.tc.loc main_arg0) = x
    generalize m (c.tc.loc main_arg1) = w
    funext i
    rw [eq_ix2 i]
    generalize i 0 = p
    generalize i 1 = q
    pointwise
    try rfl

end Cert.InProjIdeal.Hand

end
-- ==== Proof.OutNorm.Value.lean ====
/-
  WHAT THE OUTPUT PROJECTION'S CALL COMPUTES: its three result arrays at an index. Each of the eight points reads a block of
  512 rows of both mixers' outputs and of the residual, and the whole weight, and writes back the same 512 rows of the sum of
  the residual and the product, of its norm, and of the norm's factor. The product is taken over the attention's half and the
  pooling's half; the reference takes it over both, one beside the other.
-/
module

public import proofs.«01_k».proof.Defs
public import proofs.«01_k».proof.Proof.Gen.OutNormIdeal.Value
public import proofs.«01_k».proof.Proof.Gen.OutNormReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.OutNormIdeal.Hand

open Cert.OutNormIdeal Cert.OutNormIdeal.Gen

theorem hz : (![0, 0] : Fin 2 → Nat) = fun _ => 0 := funext fun a => by fin_cases a <;> rfl

/-- The residual with the two halves' products added, at row `r` and column `d`. -/
def mix (x0 x1 : S4096x512.Idx → EReal) (w : S1024x1024.Idx → EReal) (x : S4096x1024.Idx → EReal) (r : Fin 4096) (d : Fin 1024) : EReal :=
  x (ix2 r d) + (∑ k : Fin 512, x0 (ix2 r k) * w (ix2 (⟨k.val, by omega⟩ : Fin 1024) d))
    + ∑ k : Fin 512, x1 (ix2 r k) * w (ix2 (⟨512 + k.val, by omega⟩ : Fin 1024) d)

/-- The norm's factor of a row. -/
def factor (y : Fin 1024 → EReal) : EReal :=
  Ideal.rsqrt (Ideal.div (∑ k : Fin 1024, y k * y k) (Ideal.ofBits .f32 0x44800000#32) + Ideal.ofBits .f32 0x358637BD#32)

def res (x0 x1 : S4096x512.Idx → EReal) (w : S1024x1024.Idx → EReal) (x : S4096x1024.Idx → EReal) (i : S4096x1024.Idx) : EReal :=
  mix x0 x1 w x (i 0) (i 1)

def fac (x0 x1 : S4096x512.Idx → EReal) (w : S1024x1024.Idx → EReal) (x : S4096x1024.Idx → EReal) (i : S4096x1.Idx) : EReal :=
  factor (mix x0 x1 w x (i 0))

def normed (x0 x1 : S4096x512.Idx → EReal) (w : S1024x1024.Idx → EReal) (x : S4096x1024.Idx → EReal) (s : S1x1024.Idx → EReal) (i : S4096x1024.Idx) : EReal :=
  mix x0 x1 w x (i 0) (i 1) * factor (mix x0 x1 w x (i 0)) * s (ix2 0 (i 1))

/-- A block's rows of `mix`. -/
def bmix (x0 x1 : S512x512.Idx → EReal) (w0 w1 : S512x1024.Idx → EReal) (x : S512x1024.Idx → EReal) (r : Fin 512) (d : Fin 1024) : EReal :=
  x (ix2 r d) + (∑ k : Fin 512, x0 (ix2 r k) * w0 (ix2 k d)) + ∑ k : Fin 512, x1 (ix2 r k) * w1 (ix2 k d)

theorem pay1_apply (x : Vec Ideal S512x1024 .f32) (x0 : Vec Ideal S512x512 .bf16) (w0 : Vec Ideal S512x1024 .bf16) (x1 : Vec Ideal S512x512 .bf16)
    (w1 : Vec Ideal S512x1024 .bf16) (r : Fin 512) (f : Fin 1024) : k0_pay1 x x0 w0 x1 w1 (ix2 r f) = bmix x0 x1 w0 w1 x r f := by
  unfold_payloads
  pointwise
  rfl

theorem pay2_apply (x : Vec Ideal S512x1024 .f32) (x0 : Vec Ideal S512x512 .bf16) (w0 : Vec Ideal S512x1024 .bf16) (x1 : Vec Ideal S512x512 .bf16)
    (w1 : Vec Ideal S512x1024 .bf16) (r : Fin 512) (f : Fin 1) : k0_pay2 x x0 w0 x1 w1 (ix2 r f) = factor (bmix x0 x1 w0 w1 x r) := by
  unfold k0_pay2
  have h := pay1_apply x x0 w0 x1 w1 r
  generalize k0_pay1 x x0 w0 x1 w1 = y at h ⊢
  pointwise
  simp only [h]
  rfl

theorem pay3_apply (x : Vec Ideal S512x1024 .f32) (x0 : Vec Ideal S512x512 .bf16) (w0 : Vec Ideal S512x1024 .bf16) (x1 : Vec Ideal S512x512 .bf16)
    (w1 : Vec Ideal S512x1024 .bf16) (s : Vec Ideal S1x1024 .f32) (r : Fin 512) (f : Fin 1024) :
    k0_pay3 x x0 w0 x1 w1 s (ix2 r f) = bmix x0 x1 w0 w1 x r f * factor (bmix x0 x1 w0 w1 x r) * (show EReal from s (ix2 0 f)) := by
  unfold k0_pay3
  have h1 := pay1_apply x x0 w0 x1 w1 r f
  have h2 := pay2_apply x x0 w0 x1 w1 r 0
  generalize k0_pay1 x x0 w0 x1 w1 = y at h1 ⊢
  generalize k0_pay2 x x0 w0 x1 w1 = z at h2 ⊢
  pointwise
  simp only [h1, h2]

/-- The first 512 rows of the weight. -/
theorem ld1 (X : S1024x1024.Idx → Elt Ideal .bf16) (f : Fin 512) (k : Fin 1024) :
    (View.ld (Val := Elt Ideal) (S := S1024x1024) (e' := .bf16) X r0_2 : Vec Ideal S512x1024 .bf16) (ix2 f k) = X (ix2 (⟨f.val, by omega⟩ : Fin 1024) k) := by
  show X _ = X _
  congr 1
  funext a
  apply Fin.ext
  match a with
  | ⟨0, _⟩ => show 0 + 1 * f.val = f.val; omega
  | ⟨1, _⟩ => show 0 + 1 * k.val = k.val; omega

/-- The last 512 rows of the weight. -/
theorem ld2 (X : S1024x1024.Idx → Elt Ideal .bf16) (f : Fin 512) (k : Fin 1024) :
    (View.ld (Val := Elt Ideal) (S := S1024x1024) (e' := .bf16) X r0_3 : Vec Ideal S512x1024 .bf16) (ix2 f k) = X (ix2 (⟨512 + f.val, by omega⟩ : Fin 1024) k) := by
  show X _ = X _
  congr 1
  funext a
  apply Fin.ext
  match a with
  | ⟨0, _⟩ => show 512 + 1 * f.val = 512 + f.val; omega
  | ⟨1, _⟩ => show 0 + 1 * k.val = k.val; omega

variable (m : (ℓ : Loc nD τ sig) → Buf (Elt Ideal) ℓ) (ρ : Dev nD → PrngReg)

/-- The row of the whole arrays that row `k` of point `t`'s block is. -/
def row (t : Fin cfg0.N) (k : Fin 512) : Fin 4096 := ⟨t.val * 512 + k.val, by have := t.isLt; have : cfg0.N = 8 := N_0; omega⟩

/-- Point `t`'s block of operand 0: its 512 rows. -/
theorem iblk0 (c : Dev nD) (t : Fin cfg0.N) (r : Fin 512) (k : Fin 512) :
    (iblk m c 0 t : Vec Ideal S512x512 .bf16) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- Point `t`'s block of operand 1: its 512 rows. -/
theorem iblk1 (c : Dev nD) (t : Fin cfg0.N) (r : Fin 512) (k : Fin 512) :
    (iblk m c 1 t : Vec Ideal S512x512 .bf16) (ix2 r k) = m (c.tc.loc main_arg1) (ix2 (row t r) k) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

/-- Every point's block of operand 2 is the whole operand. -/
theorem iblk2 (c : Dev nD) (t : Fin cfg0.N) (r : Fin 1024) (k : Fin 1024) :
    (iblk m c 2 t : Vec Ideal S1024x1024 .bf16) (ix2 r k) = m (c.tc.loc main_arg2) (ix2 r k) := by
  have hi : win0_2.index t 0 = 0 ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 1024 + 1 * r.val = r.val; rw [hi.1]; omega
  | ⟨1, _⟩ => show win0_2.index t 1 * 1024 + 1 * k.val = k.val; rw [hi.2]; omega

/-- Point `t`'s block of operand 3: its 512 rows. -/
theorem iblk3 (c : Dev nD) (t : Fin cfg0.N) (r : Fin 512) (k : Fin 1024) :
    (iblk m c 3 t : Vec Ideal S512x1024 .f32) (ix2 r k) = m (c.tc.loc main_arg3) (ix2 (row t r) k) := by
  have hi : win0_3.index t 0 = t.val ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 512 + 1 * r.val = t.val * 512 + r.val; rw [hi.1]; omega
  | ⟨1, _⟩ => show win0_3.index t 1 * 1024 + 1 * k.val = k.val; rw [hi.2]; omega

/-- Every point's block of operand 4 is the whole operand. -/
theorem iblk4 (c : Dev nD) (t : Fin cfg0.N) (r : Fin 1) (k : Fin 1024) :
    (iblk m c 4 t : Vec Ideal S1x1024 .f32) (ix2 r k) = m (c.tc.loc main_arg4) (ix2 r k) := by
  have hi : win0_4.index t 0 = 0 ∧ win0_4.index t 1 = 0 := by revert t; decide
  unfold iblk
  rw [View.read_apply]
  show m (c.tc.loc main_arg4) _ = m (c.tc.loc main_arg4) _
  congr 1
  funext a
  apply Fin.ext
  match a with
  | ⟨0, _⟩ => show win0_4.index t 0 * 1 + 1 * r.val = r.val; rw [hi.1]; omega
  | ⟨1, _⟩ => show win0_4.index t 1 * 1024 + 1 * k.val = k.val; rw [hi.2]; omega

/-- A block's `mix` is the whole's at the block's rows. -/
theorem bmix_eq (c : Dev nD) (t : Fin cfg0.N) (r : Fin 512) : bmix (iblk m c 0 t) (iblk m c 1 t) (View.ld (Val := Elt Ideal) (S := S1024x1024) (e' := .bf16) (iblk m c 2 t) r0_2) (View.ld (Val := Elt Ideal) (S := S1024x1024) (e' := .bf16) (iblk m c 2 t) r0_3) (iblk m c 3 t) r = mix (m (c.tc.loc main_arg0)) (m (c.tc.loc main_arg1)) (m (c.tc.loc main_arg2)) (m (c.tc.loc main_arg3)) (row t r) := by
  funext d
  unfold bmix
  exact congrArg₂ (fun a b : EReal => a + b) (congrArg₂ (fun a b : EReal => a + b) (iblk3 m c t r d)
      (Finset.sum_congr rfl fun k _ => congrArg₂ (fun a b : EReal => a * b) (iblk0 m c t r k) ((ld1 _ k d).trans (iblk2 m c t _ d))))
    (Finset.sum_congr rfl fun k _ => congrArg₂ (fun a b : EReal => a * b) (iblk1 m c t r k) ((ld2 _ k d).trans (iblk2 m c t _ d)))

/-- Where point `t`'s block of result 0 lies: at its 512 rows. -/
theorem blk5_apply (t : Fin cfg0.N) (G : S4096x1024.Idx → EReal) (r : Fin 512) (f : Fin 1024) :
    ((win0_5.blk t).view.read (Elt Ideal) G : Vec Ideal S512x1024 .f32) (ix2 r f) = G (ix2 (row t r) f) := by
  have hi : win0_5.index t 0 = t.val ∧ win0_5.index t 1 = 0 := by revert t; decide
  rw [View.read_apply]
  show G _ = G _
  congr 1
  funext a
  apply Fin.ext
  match a with
  | ⟨0, _⟩ => show win0_5.index t 0 * 512 + 1 * r.val = t.val * 512 + r.val; rw [hi.1]; omega
  | ⟨1, _⟩ => show win0_5.index t 1 * 1024 + 1 * f.val = f.val; rw [hi.2]; omega

/-- What the body computes for result 0 at point `t`, at an index of the block. -/
theorem point5 (c : Dev nD) (t : Fin cfg0.N) (r : Fin 512) (f : Fin 1024) :
    k0_pay1 (iblk m c 3 t) (iblk m c 0 t) (View.ld (Val := Elt Ideal) (S := S1024x1024) (e' := .bf16) (iblk m c 2 t) r0_2) (iblk m c 1 t) (View.ld (Val := Elt Ideal) (S := S1024x1024) (e' := .bf16) (iblk m c 2 t) r0_3) (ix2 r f) = res (m (c.tc.loc main_arg0)) (m (c.tc.loc main_arg1)) (m (c.tc.loc main_arg2)) (m (c.tc.loc main_arg3)) (ix2 (row t r) f) := by
  rw [pay1_apply, bmix_eq]
  rfl

/-- What point `t` writes back of result 0. -/
theorem flushed5_eq (c : Dev nD) (t : Fin cfg0.N) :
    (dats m 0 c).flushed 5 t = (win0_5.blk t).view.read (Elt Ideal) (res (m (c.tc.loc main_arg0)) (m (c.tc.loc main_arg1)) (m (c.tc.loc main_arg2)) (m (c.tc.loc main_arg3))) := by
  rw [Value.flushed5]
  unfold out0_5
  rw [View.canon_unit_zero hz]
  simp only [View.ld_unit_zero (S := S512x1024) hz, View.ld_unit_zero (S := S512x512) hz, View.ld_unit_zero (S := S1x1024) hz]
  funext i
  rw [eq_ix2 i]
  refine Eq.trans ?_ (blk5_apply t _ (i 0) (i 1)).symm
  exact point5 m c t (i 0) (i 1)

theorem mem_blk5 (t : Fin cfg0.N) (i : S4096x1024.Idx) :
    i ∈ ((cfg0.win 5).blk t).view.set ↔ t.val * 512 ≤ (i 0 : Nat) ∧ (i 0 : Nat) < t.val * 512 + 512 := by
  show i ∈ ((View.whole main_v0_0).slice (win0_5.rect t)).set ↔ _
  rw [View.set_slice_whole, Rect.mem_set_unit]
  have h1 : (i 1 : Nat) < 1024 := (i 1).isLt
  have e : win0_5.index t 0 * win0_5.size 0 = t.val * 512 ∧ win0_5.xsize (grid0.coords t) 0 = 512
      ∧ win0_5.index t 1 * win0_5.size 1 = 0 ∧ win0_5.xsize (grid0.coords t) 1 = 1024 := by revert t; decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0; rw [e.1, e.2.1]; exact h
    | ⟨1, _⟩ => show win0_5.index t 1 * win0_5.size 1 ≤ (i 1 : Nat) ∧ (i 1 : Nat) < win0_5.index t 1 * win0_5.size 1 + win0_5.xsize (grid0.coords t) 1; rw [e.2.2.1, e.2.2.2]; omega

theorem cover5 (i : S4096x1024.Idx) :
    ∃ t : Fin cfg0.N, (cfg0.win 5).flush t = true ∧ i ∈ ((cfg0.win 5).blk t).view.set := by
  have h0 : (i 0 : Nat) < 4096 := (i 0).isLt
  have hN : cfg0.N = 8 := N_0
  refine ⟨⟨(i 0 : Nat) / 512, by omega⟩, flush0_5 _, ?_⟩
  rw [mem_blk5]
  dsimp only
  omega

/-- Result 0 after the run. -/
theorem final5 (c : Dev nD) : (dats m 0 c).arrAt 5 cfg0.N = res (m (c.tc.loc main_arg0)) (m (c.tc.loc main_arg1)) (m (c.tc.loc main_arg2)) (m (c.tc.loc main_arg3)) :=
  (dats m 0 c).arrAt_eq_of_cover 5 _ (fun t _ => flushed5_eq m c t) cover5

/-- Where point `t`'s block of result 1 lies: at its 512 rows. -/
theorem blk6_apply (t : Fin cfg0.N) (G : S4096x1024.Idx → EReal) (r : Fin 512) (f : Fin 1024) :
    ((win0_6.blk t).view.read (Elt Ideal) G : Vec Ideal S512x1024 .bf16) (ix2 r f) = G (ix2 (row t r) f) := by
  have hi : win0_6.index t 0 = t.val ∧ win0_6.index t 1 = 0 := by revert t; decide
  rw [View.read_apply]
  show G _ = G _
  congr 1
  funext a
  apply Fin.ext
  match a with
  | ⟨0, _⟩ => show win0_6.index t 0 * 512 + 1 * r.val = t.val * 512 + r.val; rw [hi.1]; omega
  | ⟨1, _⟩ => show win0_6.index t 1 * 1024 + 1 * f.val = f.val; rw [hi.2]; omega

/-- What the body computes for result 1 at point `t`, at an index of the block. -/
theorem point6 (c : Dev nD) (t : Fin cfg0.N) (r : Fin 512) (f : Fin 1024) :
    k0_pay3 (iblk m c 3 t) (iblk m c 0 t) (View.ld (Val := Elt Ideal) (S := S1024x1024) (e' := .bf16) (iblk m c 2 t) r0_2) (iblk m c 1 t) (View.ld (Val := Elt Ideal) (S := S1024x1024) (e' := .bf16) (iblk m c 2 t) r0_3) (iblk m c 4 t) (ix2 r f) = normed (m (c.tc.loc main_arg0)) (m (c.tc.loc main_arg1)) (m (c.tc.loc main_arg2)) (m (c.tc.loc main_arg3)) (m (c.tc.loc main_arg4)) (ix2 (row t r) f) := by
  rw [pay3_apply, bmix_eq, iblk4]
  rfl

/-- What point `t` writes back of result 1. -/
theorem flushed6_eq (c : Dev nD) (t : Fin cfg0.N) :
    (dats m 0 c).flushed 6 t = (win0_6.blk t).view.read (Elt Ideal) (normed (m (c.tc.loc main_arg0)) (m (c.tc.loc main_arg1)) (m (c.tc.loc main_arg2)) (m (c.tc.loc main_arg3)) (m (c.tc.loc main_arg4))) := by
  rw [Value.flushed6]
  unfold out0_6
  rw [View.canon_unit_zero hz]
  simp only [View.ld_unit_zero (S := S512x1024) hz, View.ld_unit_zero (S := S512x512) hz, View.ld_unit_zero (S := S1x1024) hz]
  funext i
  rw [eq_ix2 i]
  refine Eq.trans ?_ (blk6_apply t _ (i 0) (i 1)).symm
  exact point6 m c t (i 0) (i 1)

theorem mem_blk6 (t : Fin cfg0.N) (i : S4096x1024.Idx) :
    i ∈ ((cfg0.win 6).blk t).view.set ↔ t.val * 512 ≤ (i 0 : Nat) ∧ (i 0 : Nat) < t.val * 512 + 512 := by
  show i ∈ ((View.whole main_v0_1).slice (win0_6.rect t)).set ↔ _
  rw [View.set_slice_whole, Rect.mem_set_unit]
  have h1 : (i 1 : Nat) < 1024 := (i 1).isLt
  have e : win0_6.index t 0 * win0_6.size 0 = t.val * 512 ∧ win0_6.xsize (grid0.coords t) 0 = 512
      ∧ win0_6.index t 1 * win0_6.size 1 = 0 ∧ win0_6.xsize (grid0.coords t) 1 = 1024 := by revert t; decide +kernel
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0; rw [e.1, e.2.1]; exact h
    | ⟨1, _⟩ => show win0_6.index t 1 * win0_6.size 1 ≤ (i 1 : Nat) ∧ (i 1 : Nat) < win0_6.index t 1 * win0_6.size 1 + win0_6.xsize (grid0.coords t) 1; rw [e.2.2.1, e.2.2.2]; omega

theorem cover6 (i : S4096x1024.Idx) :
    ∃ t : Fin cfg0.N, (cfg0.win 6).flush t = true ∧ i ∈ ((cfg0.win 6).blk t).view.set := by
  have h0 : (i 0 : Nat) < 4096 := (i 0).isLt
  have hN : cfg0.N = 8 := N_0
  refine ⟨⟨(i 0 : Nat) / 512, by omega⟩, flush0_6 _, ?_⟩
  rw [mem_blk6]
  dsimp only
  omega

/-- Result 1 after the run. -/
theorem final6 (c : Dev nD) : (dats m 0 c).arrAt 6 cfg0.N = normed (m (c.tc.loc main_arg0)) (m (c.tc.loc main_arg1)) (m (c.tc.loc main_arg2)) (m (c.tc.loc main_arg3)) (m (c.tc.loc main_arg4)) :=
  (dats m 0 c).arrAt_eq_of_cover 6 _ (fun t _ => flushed6_eq m c t) cover6

/-- Where point `t`'s block of result 2 lies: at its 512 rows. -/
theorem blk7_apply (t : Fin cfg0.N) (G : S4096x1.Idx → EReal) (r : Fin 512) (f : Fin 1) :
    ((win0_7.blk t).view.read (Elt Ideal) G : Vec Ideal S512x1 .f32) (ix2 r f) = G (ix2 (row t r) f) := by
  have hi : win0_7.index t 0 = t.val ∧ win0_7.index t 1 = 0 := by revert t; decide
  rw [View.read_apply]
  show G _ = G _
  congr 1
  funext a
  apply Fin.ext
  match a with
  | ⟨0, _⟩ => show win0_7.index t 0 * 512 + 1 * r.val = t.val * 512 + r.val; rw [hi.1]; omega
  | ⟨1, _⟩ => show win0_7.index t 1 * 1 + 1 * f.val = f.val; rw [hi.2]; omega

/-- What the body computes for result 2 at point `t`, at an index of the block. -/
theorem point7 (c : Dev nD) (t : Fin cfg0.N) (r : Fin 512) (f : Fin 1) :
    k0_pay2 (iblk m c 3 t) (iblk m c 0 t) (View.ld (Val := Elt Ideal) (S := S1024x1024) (e' := .bf16) (iblk m c 2 t) r0_2) (iblk m c 1 t) (View.ld (Val := Elt Ideal) (S := S1024x1024) (e' := .bf16) (iblk m c 2 t) r0_3) (ix2 r f) = fac (m (c.tc.loc main_arg0)) (m (c.tc.loc main_arg1)) (m (c.tc.loc main_arg2)) (m (c.tc.loc main_arg3)) (ix2 (row t r) f) := by
  rw [pay2_apply, bmix_eq]
  rfl

/-- What point `t` writes back of result 2. -/
theorem flushed7_eq (c : Dev nD) (t : Fin cfg0.N) :
    (dats m 0 c).flushed 7 t = (win0_7.blk t).view.read (Elt Ideal) (fac (m (c.tc.loc main_arg0)) (m (c.tc.loc main_arg1)) (m (c.tc.loc main_arg2)) (m (c.tc.loc main_arg3))) := by
  rw [Value.flushed7]
  unfold out0_7
  rw [View.canon_unit_zero hz]
  simp only [View.ld_unit_zero (S := S512x1024) hz, View.ld_unit_zero (S := S512x512) hz, View.ld_unit_zero (S := S1x1024) hz]
  funext i
  rw [eq_ix2 i]
  refine Eq.trans ?_ (blk7_apply t _ (i 0) (i 1)).symm
  exact point7 m c t (i 0) (i 1)

theorem mem_blk7 (t : Fin cfg0.N) (i : S4096x1.Idx) :
    i ∈ ((cfg0.win 7).blk t).view.set ↔ t.val * 512 ≤ (i 0 : Nat) ∧ (i 0 : Nat) < t.val * 512 + 512 := by
  show i ∈ ((View.whole main_v0_2).slice (win0_7.rect t)).set ↔ _
  rw [View.set_slice_whole, Rect.mem_set_unit]
  have h1 : (i 1 : Nat) < 1 := (i 1).isLt
  have e : win0_7.index t 0 * win0_7.size 0 = t.val * 512 ∧ win0_7.xsize (grid0.coords t) 0 = 512
      ∧ win0_7.index t 1 * win0_7.size 1 = 0 ∧ win0_7.xsize (grid0.coords t) 1 = 1 := by revert t; decide +kernel
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0; rw [e.1, e.2.1]; exact h
    | ⟨1, _⟩ => show win0_7.index t 1 * win0_7.size 1 ≤ (i 1 : Nat) ∧ (i 1 : Nat) < win0_7.index t 1 * win0_7.size 1 + win0_7.xsize (grid0.coords t) 1; rw [e.2.2.1, e.2.2.2]; omega

theorem cover7 (i : S4096x1.Idx) :
    ∃ t : Fin cfg0.N, (cfg0.win 7).flush t = true ∧ i ∈ ((cfg0.win 7).blk t).view.set := by
  have h0 : (i 0 : Nat) < 4096 := (i 0).isLt
  have hN : cfg0.N = 8 := N_0
  refine ⟨⟨(i 0 : Nat) / 512, by omega⟩, flush0_7 _, ?_⟩
  rw [mem_blk7]
  dsimp only
  omega

/-- Result 2 after the run. -/
theorem final7 (c : Dev nD) : (dats m 0 c).arrAt 7 cfg0.N = fac (m (c.tc.loc main_arg0)) (m (c.tc.loc main_arg1)) (m (c.tc.loc main_arg2)) (m (c.tc.loc main_arg3)) :=
  (dats m 0 c).arrAt_eq_of_cover 7 _ (fun t _ => flushed7_eq m c t) cover7

/-- The reference's `mix`, over both halves one beside the other. -/
theorem mix_eq (x y : S4096x512.Idx → EReal) (w : S1024x1024.Idx → EReal) (z : S4096x1024.Idx → EReal) (p : Fin 4096) :
    (fun q : Fin 1024 => z (ix2 p q) + ((∑ k : Fin 512, x (ix2 p k) * w (ix2 (⟨k.val, by omega⟩ : Fin 1024) q))
      + ∑ k : Fin 512, y (ix2 p k) * w (ix2 (⟨512 + k.val, by omega⟩ : Fin 1024) q))) = mix x y w z p :=
  funext fun _ => (add_assoc _ _ _).symm

theorem agrees : algebraic_OutNormIdeal_OutNormReferenceIdeal := by
  intro m g m' g' _ hm
  refine ⟨fun c => res (m (c.tc.loc main_arg0)) (m (c.tc.loc main_arg1)) (m (c.tc.loc main_arg2)) (m (c.tc.loc main_arg3)), fun c => normed (m (c.tc.loc main_arg0)) (m (c.tc.loc main_arg1)) (m (c.tc.loc main_arg2)) (m (c.tc.loc main_arg3)) (m (c.tc.loc main_arg4)), fun c => fac (m (c.tc.loc main_arg0)) (m (c.tc.loc main_arg1)) (m (c.tc.loc main_arg2)) (m (c.tc.loc main_arg3)),
    (θ_run defs _ _).mono (fun r h c => ⟨(h c).1.trans (final5 m c), (h c).2.1.trans (final6 m c), (h c).2.2.1.trans (final7 m c), (h c).2.2.2⟩)
      (Cert.OutNormIdeal.Value.run_blocks m g), ?_⟩
  refine (θ_run Cert.OutNormReferenceIdeal.defs _ _).mono
    (fun r h c => ⟨(h c).1.trans ?_, (h c).2.1.trans ?_, (h c).2.2.1.trans ?_, (h c).2.2.2⟩) (Cert.OutNormReferenceIdeal.Value.run m' g')
  all_goals
    obtain ⟨e0, e1, e2, e3, e4⟩ := hm c
    beta_reduce
    funext i
    rw [eq_ix2 i]
    generalize i 0 = p
    generalize i 1 = q
    pointwise
    simp only [e0, e1, e2, e3, e4]
    generalize m (c.tc.loc main_arg0) = x
    generalize m (c.tc.loc main_arg1) = y
    generalize m (c.tc.loc main_arg2) = w
    generalize m (c.tc.loc main_arg3) = z
    generalize m (c.tc.loc main_arg4) = s
    have e := mix_eq x y w z p
    first
    | exact congrFun e q
    | (show _ = mix x y w z p q * factor (mix x y w z p) * s (ix2 0 q); rw [← e]; rfl)
    | (show _ = factor (mix x y w z p); rw [← e]; rfl)

end Cert.OutNormIdeal.Hand

end
-- ==== Proof.In.Value.lean ====
/-
  WHAT THE INPUT WEIGHT'S GRADIENT CALL COMPUTES: the result at an index is the sum, over all 4096 rows, of the products of the
  operands' entries there. The rows of the result are stacked: the five gradients of the input products (of the forget gate's only the 8 lanes that are not padding), one after the other.
  Each of the four points adds the product of its 1024 rows, one group of the result's rows at a time, to the running sum that
  the kernel carries between points, starting from zero; the last point writes the sum back. The reference is the one product
  of all operands, one beside the other.
-/
module

public import proofs.«01_k».proof.Defs
public import proofs.«01_k».proof.Proof.Gen.InGradIdeal.Value
public import proofs.«01_k».proof.Proof.Gen.InGradReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.InGradIdeal.Hand

open Cert.InGradIdeal Cert.InGradIdeal.Gen Cert.InGradIdeal.Value

theorem hz : (![0, 0] : Fin 2 → Nat) = fun _ => 0 := funext fun a => by fin_cases a <;> rfl

/-- Reading an array of pieces, the latest first: at an index in the latest, its value; at any other, what the rest gives. -/
theorem canon_step {Val : EltTy → Type} [∀ e, Nonempty (Val e)] {s : Shape} {e : EltTy} (p : View.Piece Val s e) (L : List (View.Piece Val s e))
    (G : s.Idx → Val e) (y : s.Idx) (hp : ∀ x, p.2 x = G (p.1.emb x)) (hL : y ∉ p.1.set → View.canon L y = G y) :
    View.canon (p :: L) y = G y := by
  by_cases hy : y ∈ p.1.set
  · obtain ⟨x, hx⟩ : ∃ x, p.1.emb x = y := LoadRect.exists_idx_of_mem p.1.toLoadRect hy
    subst hx
    exact (View.canon_cons_emb p.1 p.2 L x).trans (hp x)
  · exact (View.canon_cons_of_not_mem p L hy).trans (hL hy)

/-- The entry of the stacked row `p`, from one row of each operand. -/
def pick (x0 : Fin 512 → EReal) (x1 : Fin 512 → EReal) (x2 : Fin 512 → EReal) (x3 : Fin 128 → EReal) (x4 : Fin 512 → EReal) (p : Fin 2056) : EReal :=
  if h0 : p.val < 512 then x0 ⟨p.val, by omega⟩
  else if h1 : p.val < 1024 then x1 ⟨p.val - 512, by omega⟩
  else if h2 : p.val < 1536 then x2 ⟨p.val - 1024, by omega⟩
  else if h3 : p.val < 1544 then x3 ⟨p.val - 1536, by omega⟩
  else x4 ⟨p.val - 1544, by omega⟩

theorem pick0 (x0 : Fin 512 → EReal) (x1 : Fin 512 → EReal) (x2 : Fin 512 → EReal) (x3 : Fin 128 → EReal) (x4 : Fin 512 → EReal) (k : Fin 512) :
    pick x0 x1 x2 x3 x4 ⟨k.val, by omega⟩ = x0 ⟨k.val, by omega⟩ := by
  have := k.isLt
  unfold pick
  rw [dif_pos (by dsimp only; omega)]

theorem pick1 (x0 : Fin 512 → EReal) (x1 : Fin 512 → EReal) (x2 : Fin 512 → EReal) (x3 : Fin 128 → EReal) (x4 : Fin 512 → EReal) (k : Fin 512) :
    pick x0 x1 x2 x3 x4 ⟨512 + k.val, by omega⟩ = x1 ⟨k.val, by omega⟩ := by
  have := k.isLt
  unfold pick
  rw [dif_neg (by dsimp only; omega)]
  rw [dif_pos (by dsimp only; omega)]
  exact congrArg x1 (Fin.ext (by dsimp only; omega))

theorem pick2 (x0 : Fin 512 → EReal) (x1 : Fin 512 → EReal) (x2 : Fin 512 → EReal) (x3 : Fin 128 → EReal) (x4 : Fin 512 → EReal) (k : Fin 512) :
    pick x0 x1 x2 x3 x4 ⟨1024 + k.val, by omega⟩ = x2 ⟨k.val, by omega⟩ := by
  have := k.isLt
  unfold pick
  rw [dif_neg (by dsimp only; omega)]
  rw [dif_neg (by dsimp only; omega)]
  rw [dif_pos (by dsimp only; omega)]
  exact congrArg x2 (Fin.ext (by dsimp only; omega))

theorem pick3 (x0 : Fin 512 → EReal) (x1 : Fin 512 → EReal) (x2 : Fin 512 → EReal) (x3 : Fin 128 → EReal) (x4 : Fin 512 → EReal) (k : Fin 8) :
    pick x0 x1 x2 x3 x4 ⟨1536 + k.val, by omega⟩ = x3 ⟨k.val, by omega⟩ := by
  have := k.isLt
  unfold pick
  rw [dif_neg (by dsimp only; omega)]
  rw [dif_neg (by dsimp only; omega)]
  rw [dif_neg (by dsimp only; omega)]
  rw [dif_pos (by dsimp only; omega)]
  exact congrArg x3 (Fin.ext (by dsimp only; omega))

theorem pick4 (x0 : Fin 512 → EReal) (x1 : Fin 512 → EReal) (x2 : Fin 512 → EReal) (x3 : Fin 128 → EReal) (x4 : Fin 512 → EReal) (k : Fin 512) :
    pick x0 x1 x2 x3 x4 ⟨1544 + k.val, by omega⟩ = x4 ⟨k.val, by omega⟩ := by
  have := k.isLt
  unfold pick
  rw [dif_neg (by dsimp only; omega)]
  rw [dif_neg (by dsimp only; omega)]
  rw [dif_neg (by dsimp only; omega)]
  rw [dif_neg (by dsimp only; omega)]
  exact congrArg x4 (Fin.ext (by dsimp only; omega))

/-- A point's step: the products of its 1024 rows added to the running sum. -/
def upd (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (acc : Vec Ideal S2056x1024 .f32) : Vec Ideal S2056x1024 .f32 := fun i =>
  (acc i + ∑ s : Fin 1024, pick (fun k => x0 (ix2 s k)) (fun k => x1 (ix2 s k)) (fun k => x2 (ix2 s k)) (fun k => x3 (ix2 s k)) (fun k => x4 (ix2 s k)) (i 0) * x5 (ix2 s (i 1)) : EReal)

theorem mem_rows (o h : Nat) (inb : ∀ a, (![o, 0] : Fin 2 → Nat) a + (![h, 1024] : Fin 2 → Nat) a ≤ S2056x1024.size a) (y : S2056x1024.Idx) (h0 : o ≤ (y 0).val)
    (h1 : (y 0).val < o + h) : y ∈ (Rect.unit (s := S2056x1024) ![o, 0] ![h, 1024] inb).set :=
  Rect.mem_set_unit.mpr fun a => match a with
    | ⟨0, _⟩ => ⟨h0, h1⟩
    | ⟨1, _⟩ => ⟨Nat.zero_le _, (y 1).isLt⟩

theorem not_mem_rows (o h : Nat) (inb : ∀ a, (![o, 0] : Fin 2 → Nat) a + (![h, 1024] : Fin 2 → Nat) a ≤ S2056x1024.size a) (y : S2056x1024.Idx)
    (hy : (y 0).val < o ∨ o + h ≤ (y 0).val) : y ∉ (Rect.unit (s := S2056x1024) ![o, 0] ![h, 1024] inb).set := fun hm => by
  have h : o ≤ (y 0).val ∧ (y 0).val < o + h := Rect.mem_set_unit.mp hm 0
  omega

theorem skip (o h : Nat) (inb : ∀ a, (![o, 0] : Fin 2 → Nat) a + (![h, 1024] : Fin 2 → Nat) a ≤ S2056x1024.size a)
    (w : (Rect.unit (s := S2056x1024) ![o, 0] ![h, 1024] inb).shape.Idx → Elt Ideal .f32) (L : List (View.Piece (Elt Ideal) S2056x1024 .f32)) (y : S2056x1024.Idx)
    (hy : (y 0).val < o ∨ o + h ≤ (y 0).val) : View.canon (⟨Rect.unit (s := S2056x1024) ![o, 0] ![h, 1024] inb, w⟩ :: L) y = View.canon L y :=
  View.canon_cons_of_not_mem _ L (not_mem_rows o h inb y hy)

theorem prod0 (x5 : Vec Ideal S1024x1024 .bf16) (x0 : Vec Ideal S1024x512 .bf16) (acc : Vec Ideal S512x1024 .f32) (p : Fin 512) (q : Fin 1024) :
    k0_pay5 x5 x0 acc (ix2 p q) = (acc (ix2 p q) + ∑ s : Fin 1024, x0 (ix2 s p) * x5 (ix2 s q) : EReal) := by
  unfold_payloads
  rw [shapeCast_self]
  pointwise
  try rfl

theorem idx0 (p : Fin 512) (q : Fin 1024) : (Rect.unit (s := S2056x1024) ![0, 0] S512x1024.size inb_S2056x1024_S512x1024_0_0).idx (ix2 p q) = ix2 (⟨p.val, by omega⟩ : Fin 2056) q := by
  funext a
  apply Fin.ext
  match a with
  | ⟨0, _⟩ => show 0 + 1 * p.val = p.val; omega
  | ⟨1, _⟩ => show 0 + 1 * q.val = q.val; omega

/-- The group of rows from 0: the step's values there. -/
theorem piece0 (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (xs : Vec Ideal S2056x1024 .f32) (acc : Vec Ideal S512x1024 .f32)
    (h : ∀ y, acc y = xs ((Rect.unit (s := S2056x1024) ![0, 0] S512x1024.size inb_S2056x1024_S512x1024_0_0).idx y)) (y : S512x1024.Idx) :
    k0_pay5 x5 x0 acc y = upd x0 x1 x2 x3 x4 x5 xs ((Rect.unit (s := S2056x1024) ![0, 0] S512x1024.size inb_S2056x1024_S512x1024_0_0).idx y) := by
  rw [eq_ix2 y]
  refine (prod0 x5 x0 acc (y 0) (y 1)).trans ?_
  have hy := h (ix2 (y 0) (y 1))
  rw [idx0 (y 0) (y 1)] at hy ⊢
  refine congrArg₂ (fun a b : EReal => a + b) hy (Finset.sum_congr rfl fun s _ => congrArg (fun a : EReal => a * x5 (ix2 s (y 1))) ?_)
  exact (pick0 (fun k => x0 (ix2 s k)) (fun k => x1 (ix2 s k)) (fun k => x2 (ix2 s k)) (fun k => x3 (ix2 s k)) (fun k => x4 (ix2 s k)) (y 0)).symm

theorem prod1 (x5 : Vec Ideal S1024x1024 .bf16) (x1 : Vec Ideal S1024x512 .bf16) (acc : Vec Ideal S512x1024 .f32) (p : Fin 512) (q : Fin 1024) :
    k0_pay6 x5 x1 acc (ix2 p q) = (acc (ix2 p q) + ∑ s : Fin 1024, x1 (ix2 s p) * x5 (ix2 s q) : EReal) := by
  unfold_payloads
  rw [shapeCast_self]
  pointwise
  try rfl

theorem idx1 (p : Fin 512) (q : Fin 1024) : (Rect.unit (s := S2056x1024) ![512, 0] S512x1024.size inb_S2056x1024_S512x1024_512_0).idx (ix2 p q) = ix2 (⟨512 + p.val, by omega⟩ : Fin 2056) q := by
  funext a
  apply Fin.ext
  match a with
  | ⟨0, _⟩ => show 512 + 1 * p.val = 512 + p.val; omega
  | ⟨1, _⟩ => show 0 + 1 * q.val = q.val; omega

/-- The group of rows from 512: the step's values there. -/
theorem piece1 (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (xs : Vec Ideal S2056x1024 .f32) (acc : Vec Ideal S512x1024 .f32)
    (h : ∀ y, acc y = xs ((Rect.unit (s := S2056x1024) ![512, 0] S512x1024.size inb_S2056x1024_S512x1024_512_0).idx y)) (y : S512x1024.Idx) :
    k0_pay6 x5 x1 acc y = upd x0 x1 x2 x3 x4 x5 xs ((Rect.unit (s := S2056x1024) ![512, 0] S512x1024.size inb_S2056x1024_S512x1024_512_0).idx y) := by
  rw [eq_ix2 y]
  refine (prod1 x5 x1 acc (y 0) (y 1)).trans ?_
  have hy := h (ix2 (y 0) (y 1))
  rw [idx1 (y 0) (y 1)] at hy ⊢
  refine congrArg₂ (fun a b : EReal => a + b) hy (Finset.sum_congr rfl fun s _ => congrArg (fun a : EReal => a * x5 (ix2 s (y 1))) ?_)
  exact (pick1 (fun k => x0 (ix2 s k)) (fun k => x1 (ix2 s k)) (fun k => x2 (ix2 s k)) (fun k => x3 (ix2 s k)) (fun k => x4 (ix2 s k)) (y 0)).symm

theorem prod2 (x5 : Vec Ideal S1024x1024 .bf16) (x2 : Vec Ideal S1024x512 .bf16) (acc : Vec Ideal S512x1024 .f32) (p : Fin 512) (q : Fin 1024) :
    k0_pay7 x5 x2 acc (ix2 p q) = (acc (ix2 p q) + ∑ s : Fin 1024, x2 (ix2 s p) * x5 (ix2 s q) : EReal) := by
  unfold_payloads
  rw [shapeCast_self]
  pointwise
  try rfl

theorem idx2 (p : Fin 512) (q : Fin 1024) : (Rect.unit (s := S2056x1024) ![1024, 0] S512x1024.size inb_S2056x1024_S512x1024_1024_0).idx (ix2 p q) = ix2 (⟨1024 + p.val, by omega⟩ : Fin 2056) q := by
  funext a
  apply Fin.ext
  match a with
  | ⟨0, _⟩ => show 1024 + 1 * p.val = 1024 + p.val; omega
  | ⟨1, _⟩ => show 0 + 1 * q.val = q.val; omega

/-- The group of rows from 1024: the step's values there. -/
theorem piece2 (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (xs : Vec Ideal S2056x1024 .f32) (acc : Vec Ideal S512x1024 .f32)
    (h : ∀ y, acc y = xs ((Rect.unit (s := S2056x1024) ![1024, 0] S512x1024.size inb_S2056x1024_S512x1024_1024_0).idx y)) (y : S512x1024.Idx) :
    k0_pay7 x5 x2 acc y = upd x0 x1 x2 x3 x4 x5 xs ((Rect.unit (s := S2056x1024) ![1024, 0] S512x1024.size inb_S2056x1024_S512x1024_1024_0).idx y) := by
  rw [eq_ix2 y]
  refine (prod2 x5 x2 acc (y 0) (y 1)).trans ?_
  have hy := h (ix2 (y 0) (y 1))
  rw [idx2 (y 0) (y 1)] at hy ⊢
  refine congrArg₂ (fun a b : EReal => a + b) hy (Finset.sum_congr rfl fun s _ => congrArg (fun a : EReal => a * x5 (ix2 s (y 1))) ?_)
  exact (pick2 (fun k => x0 (ix2 s k)) (fun k => x1 (ix2 s k)) (fun k => x2 (ix2 s k)) (fun k => x3 (ix2 s k)) (fun k => x4 (ix2 s k)) (y 0)).symm

theorem prod3 (x5 : Vec Ideal S1024x1024 .bf16) (x3 : Vec Ideal S1024x128 .bf16) (acc : Vec Ideal S8x1024 .f32) (p : Fin 8) (q : Fin 1024) :
    k0_pay1 (k0_pay8 x5 x3) acc (ix2 p q) = (acc (ix2 p q) + ∑ s : Fin 1024, x3 (ix2 s (⟨p.val, by omega⟩ : Fin 128)) * x5 (ix2 s q) : EReal) := by
  unfold_payloads
  rw [shapeCast_self]
  pointwise
  try rfl

theorem idx3 (p : Fin 8) (q : Fin 1024) : (Rect.unit (s := S2056x1024) ![1536, 0] S8x1024.size inb_S2056x1024_S8x1024_1536_0).idx (ix2 p q) = ix2 (⟨1536 + p.val, by omega⟩ : Fin 2056) q := by
  funext a
  apply Fin.ext
  match a with
  | ⟨0, _⟩ => show 1536 + 1 * p.val = 1536 + p.val; omega
  | ⟨1, _⟩ => show 0 + 1 * q.val = q.val; omega

/-- The group of rows from 1536: the step's values there. -/
theorem piece3 (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (xs : Vec Ideal S2056x1024 .f32) (acc : Vec Ideal S8x1024 .f32)
    (h : ∀ y, acc y = xs ((Rect.unit (s := S2056x1024) ![1536, 0] S8x1024.size inb_S2056x1024_S8x1024_1536_0).idx y)) (y : S8x1024.Idx) :
    k0_pay1 (k0_pay8 x5 x3) acc y = upd x0 x1 x2 x3 x4 x5 xs ((Rect.unit (s := S2056x1024) ![1536, 0] S8x1024.size inb_S2056x1024_S8x1024_1536_0).idx y) := by
  rw [eq_ix2 y]
  refine (prod3 x5 x3 acc (y 0) (y 1)).trans ?_
  have hy := h (ix2 (y 0) (y 1))
  rw [idx3 (y 0) (y 1)] at hy ⊢
  refine congrArg₂ (fun a b : EReal => a + b) hy (Finset.sum_congr rfl fun s _ => congrArg (fun a : EReal => a * x5 (ix2 s (y 1))) ?_)
  exact (pick3 (fun k => x0 (ix2 s k)) (fun k => x1 (ix2 s k)) (fun k => x2 (ix2 s k)) (fun k => x3 (ix2 s k)) (fun k => x4 (ix2 s k)) (y 0)).symm

theorem prod4 (x5 : Vec Ideal S1024x1024 .bf16) (x4 : Vec Ideal S1024x512 .bf16) (acc : Vec Ideal S512x1024 .f32) (p : Fin 512) (q : Fin 1024) :
    k0_pay2 x5 x4 acc (ix2 p q) = (acc (ix2 p q) + ∑ s : Fin 1024, x4 (ix2 s p) * x5 (ix2 s q) : EReal) := by
  unfold_payloads
  rw [shapeCast_self]
  pointwise
  try rfl

theorem idx4 (p : Fin 512) (q : Fin 1024) : (Rect.unit (s := S2056x1024) ![1544, 0] S512x1024.size inb_S2056x1024_S512x1024_1544_0).idx (ix2 p q) = ix2 (⟨1544 + p.val, by omega⟩ : Fin 2056) q := by
  funext a
  apply Fin.ext
  match a with
  | ⟨0, _⟩ => show 1544 + 1 * p.val = 1544 + p.val; omega
  | ⟨1, _⟩ => show 0 + 1 * q.val = q.val; omega

/-- The group of rows from 1544: the step's values there. -/
theorem piece4 (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16) (xs : Vec Ideal S2056x1024 .f32) (acc : Vec Ideal S512x1024 .f32)
    (h : ∀ y, acc y = xs ((Rect.unit (s := S2056x1024) ![1544, 0] S512x1024.size inb_S2056x1024_S512x1024_1544_0).idx y)) (y : S512x1024.Idx) :
    k0_pay2 x5 x4 acc y = upd x0 x1 x2 x3 x4 x5 xs ((Rect.unit (s := S2056x1024) ![1544, 0] S512x1024.size inb_S2056x1024_S512x1024_1544_0).idx y) := by
  rw [eq_ix2 y]
  refine (prod4 x5 x4 acc (y 0) (y 1)).trans ?_
  have hy := h (ix2 (y 0) (y 1))
  rw [idx4 (y 0) (y 1)] at hy ⊢
  refine congrArg₂ (fun a b : EReal => a + b) hy (Finset.sum_congr rfl fun s _ => congrArg (fun a : EReal => a * x5 (ix2 s (y 1))) ?_)
  exact (pick4 (fun k => x0 (ix2 s k)) (fun k => x1 (ix2 s k)) (fun k => x2 (ix2 s k)) (fun k => x3 (ix2 s k)) (fun k => x4 (ix2 s k)) (y 0)).symm

section Cases

variable (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x128 .bf16) (h4 : a4.IsWhole) (a5 : Memref sig .tc .vmem S1024x512 .bf16) (h5 : a5.IsWhole) (a6 : Memref sig .tc .vmem S1024x1024 .bf16) (h6 : a6.IsWhole) (a7 : Memref sig .tc .vmem S2056x1024 .bf16) (h7 : a7.IsWhole) (a8 : Memref sig .tc .vmem S2056x1024 .f32) (h8 : a8.IsWhole)
  (x0 : Vec Ideal S1024x512 .bf16) (x1 : Vec Ideal S1024x512 .bf16) (x2 : Vec Ideal S1024x512 .bf16) (x3 : Vec Ideal S1024x128 .bf16) (x4 : Vec Ideal S1024x512 .bf16) (x5 : Vec Ideal S1024x1024 .bf16)

/-- A middle point adds its products to the running sum. -/
theorem sum_B (hc0 : ¬cond0_0 i) (hc1 : ¬cond0_1 i) (xs : Vec Ideal S2056x1024 .f32) :
    sout0_B_0 c i a1 h1 a2 h2 a3 h3 a4 h4 a5 h5 a6 h6 a7 h7 a8 h8 hc0 hc1 x0 x1 x2 x3 x4 x5 xs = upd x0 x1 x2 x3 x4 x5 xs := by
  funext y
  unfold sout0_B_0
  rw [View.read_writes_eq_canon _ _ _ (scover0_B_0 c i a1 h1 a2 h2 a3 h3 a4 h4 a5 h5 a6 h6 a7 h7 a8 h8 hc0 hc1 x0 x1 x2 x3 x4 x5 xs)]
  unfold kernelRun0_B
  dsimp only
  sl_unfold_words
  simp only [View.readAt_eq_ld, h1.read_unread, h2.read_unread, h3.read_unread, h4.read_unread, h5.read_unread, h6.read_unread, h8.read_unread, View.ld_unit_zero (S := S1024x1024) hz, View.ld_unit_zero (S := S1024x128) hz, View.ld_unit_zero (S := S1024x512) hz, View.ld_unit_zero (S := S2056x1024) hz]
  refine canon_step _ _ (upd x0 x1 x2 x3 x4 x5 xs) y ?_ fun n4 => ?_
  · refine fun y => piece4 x0 x1 x2 x3 x4 x5 xs _ ?_ y
    exact fun _ => rfl
  refine canon_step _ _ (upd x0 x1 x2 x3 x4 x5 xs) y ?_ fun n3 => ?_
  · refine fun y => piece3 x0 x1 x2 x3 x4 x5 xs _ ?_ y
    exact fun _ => rfl
  refine canon_step _ _ (upd x0 x1 x2 x3 x4 x5 xs) y ?_ fun n2 => ?_
  · refine fun y => piece2 x0 x1 x2 x3 x4 x5 xs _ ?_ y
    exact fun _ => rfl
  refine canon_step _ _ (upd x0 x1 x2 x3 x4 x5 xs) y ?_ fun n1 => ?_
  · refine fun y => piece1 x0 x1 x2 x3 x4 x5 xs _ ?_ y
    exact fun _ => rfl
  refine canon_step _ _ (upd x0 x1 x2 x3 x4 x5 xs) y ?_ fun n0 => ?_
  · refine fun y => piece0 x0 x1 x2 x3 x4 x5 xs _ ?_ y
    exact fun _ => rfl
  · exfalso
    have hy : (y 0).val < 2056 := (y 0).isLt
    have m0 : ¬(0 ≤ (y 0).val ∧ (y 0).val < 512) := fun hl => n0 (mem_rows 0 512 inb_S2056x1024_S512x1024_0_0 y hl.1 hl.2)
    have m1 : ¬(512 ≤ (y 0).val ∧ (y 0).val < 1024) := fun hl => n1 (mem_rows 512 512 inb_S2056x1024_S512x1024_512_0 y hl.1 hl.2)
    have m2 : ¬(1024 ≤ (y 0).val ∧ (y 0).val < 1536) := fun hl => n2 (mem_rows 1024 512 inb_S2056x1024_S512x1024_1024_0 y hl.1 hl.2)
    have m3 : ¬(1536 ≤ (y 0).val ∧ (y 0).val < 1544) := fun hl => n3 (mem_rows 1536 8 inb_S2056x1024_S8x1024_1536_0 y hl.1 hl.2)
    have m4 : ¬(1544 ≤ (y 0).val ∧ (y 0).val < 2056) := fun hl => n4 (mem_rows 1544 512 inb_S2056x1024_S512x1024_1544_0 y hl.1 hl.2)
    omega

theorem idx_full (inb : ∀ a, (![0, 0] : Fin 2 → Nat) a + S2056x1024.size a ≤ S2056x1024.size a) (y : S2056x1024.Idx) : (Rect.unit (s := S2056x1024) ![0, 0] S2056x1024.size inb).toLoadRect.idx y = y := by
  funext a
  apply Fin.ext
  match a with
  | ⟨0, _⟩ => show 0 + 1 * (y 0).val = (y 0).val; omega
  | ⟨1, _⟩ => show 0 + 1 * (y 1).val = (y 1).val; omega

/-- What the last point holds before it writes back: the running sum with its own products added. -/
theorem sum_C (xs : Vec Ideal S2056x1024 .f32) :
    kernelRun0_C.sl.v43 c a1 h1 a2 h2 a3 h3 a4 h4 a5 h5 a6 h6 a8 h8 x0 x1 x2 x3 x4 x5 xs = upd x0 x1 x2 x3 x4 x5 xs := by
  unfold kernelRun0_C.sl.v43
  funext y
  unfold View.readCov
  rw [View.readAt_writes_junk_eq_canon]
  dsimp only
  rw [idx_full]
  sl_unfold_words
  simp only [View.readAt_eq_ld, h1.read_unread, h2.read_unread, h3.read_unread, h4.read_unread, h5.read_unread, h6.read_unread, h8.read_unread, View.ld_unit_zero (S := S1024x1024) hz, View.ld_unit_zero (S := S1024x128) hz, View.ld_unit_zero (S := S1024x512) hz, View.ld_unit_zero (S := S2056x1024) hz]
  refine canon_step _ _ (upd x0 x1 x2 x3 x4 x5 xs) y ?_ fun n4 => ?_
  · refine fun y => piece4 x0 x1 x2 x3 x4 x5 xs _ ?_ y
    exact fun _ => rfl
  refine canon_step _ _ (upd x0 x1 x2 x3 x4 x5 xs) y ?_ fun n3 => ?_
  · refine fun y => piece3 x0 x1 x2 x3 x4 x5 xs _ ?_ y
    exact fun _ => rfl
  refine canon_step _ _ (upd x0 x1 x2 x3 x4 x5 xs) y ?_ fun n2 => ?_
  · refine fun y => piece2 x0 x1 x2 x3 x4 x5 xs _ ?_ y
    exact fun _ => rfl
  refine canon_step _ _ (upd x0 x1 x2 x3 x4 x5 xs) y ?_ fun n1 => ?_
  · refine fun y => piece1 x0 x1 x2 x3 x4 x5 xs _ ?_ y
    exact fun _ => rfl
  refine canon_step _ _ (upd x0 x1 x2 x3 x4 x5 xs) y ?_ fun n0 => ?_
  · refine fun y => piece0 x0 x1 x2 x3 x4 x5 xs _ ?_ y
    exact fun _ => rfl
  · exfalso
    have hy : (y 0).val < 2056 := (y 0).isLt
    have m0 : ¬(0 ≤ (y 0).val ∧ (y 0).val < 512) := fun hl => n0 (mem_rows 0 512 inb_S2056x1024_S512x1024_0_0 y hl.1 hl.2)
    have m1 : ¬(512 ≤ (y 0).val ∧ (y 0).val < 1024) := fun hl => n1 (mem_rows 512 512 inb_S2056x1024_S512x1024_512_0 y hl.1 hl.2)
    have m2 : ¬(1024 ≤ (y 0).val ∧ (y 0).val < 1536) := fun hl => n2 (mem_rows 1024 512 inb_S2056x1024_S512x1024_1024_0 y hl.1 hl.2)
    have m3 : ¬(1536 ≤ (y 0).val ∧ (y 0).val < 1544) := fun hl => n3 (mem_rows 1536 8 inb_S2056x1024_S8x1024_1536_0 y hl.1 hl.2)
    have m4 : ¬(1544 ≤ (y 0).val ∧ (y 0).val < 2056) := fun hl => n4 (mem_rows 1544 512 inb_S2056x1024_S512x1024_1544_0 y hl.1 hl.2)
    omega

/-- The last point writes back the running sum with its own products added. -/
theorem out_C (hc0 : ¬cond0_0 i) (hc1 : cond0_1 i) (xs : Vec Ideal S2056x1024 .f32) :
    out0_C_6 c i a1 h1 a2 h2 a3 h3 a4 h4 a5 h5 a6 h6 a7 h7 a8 h8 hc0 hc1 x0 x1 x2 x3 x4 x5 xs = upd x0 x1 x2 x3 x4 x5 xs := by
  unfold out0_C_6
  rw [View.read_writes_eq_canon _ _ _ (cover0_C_6 c i a1 h1 a2 h2 a3 h3 a4 h4 a5 h5 a6 h6 a7 h7 a8 h8 hc0 hc1 x0 x1 x2 x3 x4 x5 xs)]
  unfold kernelRun0_C
  dsimp only
  rw [View.canon_unit_zero hz]
  exact sum_C c a1 h1 a2 h2 a3 h3 a4 h4 a5 h5 a6 h6 a8 h8 x0 x1 x2 x3 x4 x5 xs

/-- The running sum's start: zero everywhere. -/
def zero : Vec Ideal S2056x1024 .f32 := k0_pay4 (F := Ideal)

/-- What a group of rows holds, once groups before it are written over zeros: zeros. -/
theorem zeros {sig' : RefSig} {κ : Kind} {sp : Space} (v : View sig' κ sp S2056x1024 .f32) (L : List (View.Piece (Elt Ideal) S2056x1024 .f32)) (B : LoadRect S2056x1024)
    (h : ∀ j, View.canon L (B.idx j) = zero (B.idx j)) (j : B.shape.Idx) : v.readCov L B j = zero (B.idx j) := by
  unfold View.readCov
  rw [View.readAt_writes_junk_eq_canon]
  exact h j

/-- The first point adds its products to zero. -/
theorem sum_A (hc0 : cond0_0 i) (hc1 : ¬cond0_1 i) :
    sout0_A_0 c i a1 h1 a2 h2 a3 h3 a4 h4 a5 h5 a6 h6 a7 h7 a8 h8 hc0 hc1 x0 x1 x2 x3 x4 x5 = upd x0 x1 x2 x3 x4 x5 zero := by
  funext y
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  simp only [View.readAt_eq_ld, h1.read_unread, h2.read_unread, h3.read_unread, h4.read_unread, h5.read_unread, h6.read_unread, View.ld_unit_zero (S := S1024x1024) hz, View.ld_unit_zero (S := S1024x128) hz, View.ld_unit_zero (S := S1024x512) hz, View.ld_unit_zero (S := S2056x1024) hz]
  refine canon_step _ _ (upd x0 x1 x2 x3 x4 x5 zero) y ?_ fun n4 => ?_
  · refine fun y => piece4 x0 x1 x2 x3 x4 x5 zero _ ?_ y
    refine fun j => zeros _ _ (Rect.unit (s := S2056x1024) ![1544, 0] ![512, 1024] inb_S2056x1024_S512x1024_1544_0).toLoadRect (fun j => ?_) j
    refine (skip 1536 8 inb_S2056x1024_S8x1024_1536_0 _ _ _ (Or.inr ?_)).trans ?_
    · show 1536 + 8 ≤ 1544 + 1 * (j 0).val; omega
    refine (skip 1024 512 inb_S2056x1024_S512x1024_1024_0 _ _ _ (Or.inr ?_)).trans ?_
    · show 1024 + 512 ≤ 1544 + 1 * (j 0).val; omega
    refine (skip 512 512 inb_S2056x1024_S512x1024_512_0 _ _ _ (Or.inr ?_)).trans ?_
    · show 512 + 512 ≤ 1544 + 1 * (j 0).val; omega
    refine (skip 0 512 inb_S2056x1024_S512x1024_0_0 _ _ _ (Or.inr ?_)).trans ?_
    · show 0 + 512 ≤ 1544 + 1 * (j 0).val; omega
    exact congrFun (View.canon_unit_zero hz _ _) _
  refine canon_step _ _ (upd x0 x1 x2 x3 x4 x5 zero) y ?_ fun n3 => ?_
  · refine fun y => piece3 x0 x1 x2 x3 x4 x5 zero _ ?_ y
    refine fun j => zeros _ _ (Rect.unit (s := S2056x1024) ![1536, 0] ![8, 1024] inb_S2056x1024_S8x1024_1536_0).toLoadRect (fun j => ?_) j
    refine (skip 1024 512 inb_S2056x1024_S512x1024_1024_0 _ _ _ (Or.inr ?_)).trans ?_
    · show 1024 + 512 ≤ 1536 + 1 * (j 0).val; omega
    refine (skip 512 512 inb_S2056x1024_S512x1024_512_0 _ _ _ (Or.inr ?_)).trans ?_
    · show 512 + 512 ≤ 1536 + 1 * (j 0).val; omega
    refine (skip 0 512 inb_S2056x1024_S512x1024_0_0 _ _ _ (Or.inr ?_)).trans ?_
    · show 0 + 512 ≤ 1536 + 1 * (j 0).val; omega
    exact congrFun (View.canon_unit_zero hz _ _) _
  refine canon_step _ _ (upd x0 x1 x2 x3 x4 x5 zero) y ?_ fun n2 => ?_
  · refine fun y => piece2 x0 x1 x2 x3 x4 x5 zero _ ?_ y
    refine fun j => zeros _ _ (Rect.unit (s := S2056x1024) ![1024, 0] ![512, 1024] inb_S2056x1024_S512x1024_1024_0).toLoadRect (fun j => ?_) j
    refine (skip 512 512 inb_S2056x1024_S512x1024_512_0 _ _ _ (Or.inr ?_)).trans ?_
    · show 512 + 512 ≤ 1024 + 1 * (j 0).val; omega
    refine (skip 0 512 inb_S2056x1024_S512x1024_0_0 _ _ _ (Or.inr ?_)).trans ?_
    · show 0 + 512 ≤ 1024 + 1 * (j 0).val; omega
    exact congrFun (View.canon_unit_zero hz _ _) _
  refine canon_step _ _ (upd x0 x1 x2 x3 x4 x5 zero) y ?_ fun n1 => ?_
  · refine fun y => piece1 x0 x1 x2 x3 x4 x5 zero _ ?_ y
    refine fun j => zeros _ _ (Rect.unit (s := S2056x1024) ![512, 0] ![512, 1024] inb_S2056x1024_S512x1024_512_0).toLoadRect (fun j => ?_) j
    refine (skip 0 512 inb_S2056x1024_S512x1024_0_0 _ _ _ (Or.inr ?_)).trans ?_
    · show 0 + 512 ≤ 512 + 1 * (j 0).val; omega
    exact congrFun (View.canon_unit_zero hz _ _) _
  refine canon_step _ _ (upd x0 x1 x2 x3 x4 x5 zero) y ?_ fun n0 => ?_
  · refine fun y => piece0 x0 x1 x2 x3 x4 x5 zero _ ?_ y
    refine fun j => zeros _ _ (Rect.unit (s := S2056x1024) ![0, 0] ![512, 1024] inb_S2056x1024_S512x1024_0_0).toLoadRect (fun j => ?_) j
    exact congrFun (View.canon_unit_zero hz _ _) _
  · exfalso
    have hy : (y 0).val < 2056 := (y 0).isLt
    have m0 : ¬(0 ≤ (y 0).val ∧ (y 0).val < 512) := fun hl => n0 (mem_rows 0 512 inb_S2056x1024_S512x1024_0_0 y hl.1 hl.2)
    have m1 : ¬(512 ≤ (y 0).val ∧ (y 0).val < 1024) := fun hl => n1 (mem_rows 512 512 inb_S2056x1024_S512x1024_512_0 y hl.1 hl.2)
    have m2 : ¬(1024 ≤ (y 0).val ∧ (y 0).val < 1536) := fun hl => n2 (mem_rows 1024 512 inb_S2056x1024_S512x1024_1024_0 y hl.1 hl.2)
    have m3 : ¬(1536 ≤ (y 0).val ∧ (y 0).val < 1544) := fun hl => n3 (mem_rows 1536 8 inb_S2056x1024_S8x1024_1536_0 y hl.1 hl.2)
    have m4 : ¬(1544 ≤ (y 0).val ∧ (y 0).val < 2056) := fun hl => n4 (mem_rows 1544 512 inb_S2056x1024_S512x1024_1544_0 y hl.1 hl.2)
    omega

end Cases

variable (m : (ℓ : Loc nD τ sig) → Buf (Elt Ideal) ℓ) (ρ : Dev nD → PrngReg)

/-- Point `t`'s block of operand 0. -/
theorem iblk0 (c : Dev nD) (t : Fin cfg0.N) (k : Fin 1024) (p : Fin 512) :
    (iblk m c 0 t : Vec Ideal S1024x512 .bf16) (ix2 k p)
      = m (c.tc.loc main_arg0) (ix2 (⟨t.val * 1024 + k.val, by have := t.isLt; have : cfg0.N = 4 := N_0; omega⟩ : Fin 4096) p) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 1024 + 1 * k.val = t.val * 1024 + k.val; rw [hi.1]; omega
  | ⟨1, _⟩ => show win0_0.index t 1 * 512 + 1 * p.val = p.val; rw [hi.2]; omega

/-- Point `t`'s block of operand 1. -/
theorem iblk1 (c : Dev nD) (t : Fin cfg0.N) (k : Fin 1024) (p : Fin 512) :
    (iblk m c 1 t : Vec Ideal S1024x512 .bf16) (ix2 k p)
      = m (c.tc.loc main_arg1) (ix2 (⟨t.val * 1024 + k.val, by have := t.isLt; have : cfg0.N = 4 := N_0; omega⟩ : Fin 4096) p) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 1024 + 1 * k.val = t.val * 1024 + k.val; rw [hi.1]; omega
  | ⟨1, _⟩ => show win0_1.index t 1 * 512 + 1 * p.val = p.val; rw [hi.2]; omega

/-- Point `t`'s block of operand 2. -/
theorem iblk2 (c : Dev nD) (t : Fin cfg0.N) (k : Fin 1024) (p : Fin 512) :
    (iblk m c 2 t : Vec Ideal S1024x512 .bf16) (ix2 k p)
      = m (c.tc.loc main_arg2) (ix2 (⟨t.val * 1024 + k.val, by have := t.isLt; have : cfg0.N = 4 := N_0; omega⟩ : Fin 4096) p) := by
  have hi : win0_2.index t 0 = t.val ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 1024 + 1 * k.val = t.val * 1024 + k.val; rw [hi.1]; omega
  | ⟨1, _⟩ => show win0_2.index t 1 * 512 + 1 * p.val = p.val; rw [hi.2]; omega

/-- Point `t`'s block of operand 3. -/
theorem iblk3 (c : Dev nD) (t : Fin cfg0.N) (k : Fin 1024) (p : Fin 128) :
    (iblk m c 3 t : Vec Ideal S1024x128 .bf16) (ix2 k p)
      = m (c.tc.loc main_arg3) (ix2 (⟨t.val * 1024 + k.val, by have := t.isLt; have : cfg0.N = 4 := N_0; omega⟩ : Fin 4096) p) := by
  have hi : win0_3.index t 0 = t.val ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 1024 + 1 * k.val = t.val * 1024 + k.val; rw [hi.1]; omega
  | ⟨1, _⟩ => show win0_3.index t 1 * 128 + 1 * p.val = p.val; rw [hi.2]; omega

/-- Point `t`'s block of operand 4. -/
theorem iblk4 (c : Dev nD) (t : Fin cfg0.N) (k : Fin 1024) (p : Fin 512) :
    (iblk m c 4 t : Vec Ideal S1024x512 .bf16) (ix2 k p)
      = m (c.tc.loc main_arg4) (ix2 (⟨t.val * 1024 + k.val, by have := t.isLt; have : cfg0.N = 4 := N_0; omega⟩ : Fin 4096) p) := by
  have hi : win0_4.index t 0 = t.val ∧ win0_4.index t 1 = 0 := by revert t; decide
  unfold iblk
  rw [View.read_apply]
  show m (c.tc.loc main_arg4) _ = m (c.tc.loc main_arg4) _
  congr 1
  funext a
  apply Fin.ext
  match a with
  | ⟨0, _⟩ => show win0_4.index t 0 * 1024 + 1 * k.val = t.val * 1024 + k.val; rw [hi.1]; omega
  | ⟨1, _⟩ => show win0_4.index t 1 * 512 + 1 * p.val = p.val; rw [hi.2]; omega

/-- Point `t`'s block of operand 5. -/
theorem iblk5 (c : Dev nD) (t : Fin cfg0.N) (k : Fin 1024) (p : Fin 1024) :
    (iblk m c 5 t : Vec Ideal S1024x1024 .bf16) (ix2 k p)
      = m (c.tc.loc main_arg5) (ix2 (⟨t.val * 1024 + k.val, by have := t.isLt; have : cfg0.N = 4 := N_0; omega⟩ : Fin 4096) p) := by
  have hi : win0_5.index t 0 = t.val ∧ win0_5.index t 1 = 0 := by revert t; decide
  unfold iblk
  rw [View.read_apply]
  show m (c.tc.loc main_arg5) _ = m (c.tc.loc main_arg5) _
  congr 1
  funext a
  apply Fin.ext
  match a with
  | ⟨0, _⟩ => show win0_5.index t 0 * 1024 + 1 * k.val = t.val * 1024 + k.val; rw [hi.1]; omega
  | ⟨1, _⟩ => show win0_5.index t 1 * 1024 + 1 * p.val = p.val; rw [hi.2]; omega

theorem zero_apply (p : Fin 2056) (q : Fin 1024) : zero (ix2 p q) = (0 : EReal) := by
  unfold zero k0_pay4
  rw [shapeCast_self]
  exact Ideal.ofBits_zero_f32

/-- The result array as the four points' steps, one after the other. -/
theorem result_steps (c : Dev nD) : G6 m c = upd (iblk m c 0 t0_3) (iblk m c 1 t0_3) (iblk m c 2 t0_3) (iblk m c 3 t0_3) (iblk m c 4 t0_3) (iblk m c 5 t0_3)
      (upd (iblk m c 0 t0_2) (iblk m c 1 t0_2) (iblk m c 2 t0_2) (iblk m c 3 t0_2) (iblk m c 4 t0_2) (iblk m c 5 t0_2)
        (upd (iblk m c 0 t0_1) (iblk m c 1 t0_1) (iblk m c 2 t0_1) (iblk m c 3 t0_1) (iblk m c 4 t0_1) (iblk m c 5 t0_1) (upd (iblk m c 0 t0_0) (iblk m c 1 t0_0) (iblk m c 2 t0_0) (iblk m c 3 t0_0) (iblk m c 4 t0_0) (iblk m c 5 t0_0) zero))) := by
  rw [G6_last]
  show (stAt0 m c t0_3.val t0_3.isLt (stAt0 m c t0_2.val t0_2.isLt (stAt0 m c t0_1.val t0_1.isLt
    (stAt0 m c t0_0.val t0_0.isLt junk0)))).1 = _
  rw [stAt0_C m c t0_3 _ (by decide) (by decide)]
  dsimp only
  rw [out_C, stAt0_B m c t0_2 _ (by decide) (by decide)]
  dsimp only
  rw [sum_B, stAt0_B m c t0_1 _ (by decide) (by decide)]
  dsimp only
  rw [sum_B, stAt0_A m c t0_0 _ (by decide) (by decide)]
  dsimp only
  rw [sum_A]

/-- The products at row `s` of all 4096. -/
def term (x0 : S4096x512.Idx → EReal) (x1 : S4096x512.Idx → EReal) (x2 : S4096x512.Idx → EReal) (x3 : S4096x128.Idx → EReal) (x4 : S4096x512.Idx → EReal) (x5 : S4096x1024.Idx → EReal) (p : Fin 2056) (q : Fin 1024) (s : Fin 4096) : EReal :=
  pick (fun k => x0 (ix2 s k)) (fun k => x1 (ix2 s k)) (fun k => x2 (ix2 s k)) (fun k => x3 (ix2 s k)) (fun k => x4 (ix2 s k)) p * x5 (ix2 s q)

/-- A point's step at an index, from the whole arrays. -/
theorem upd_apply (c : Dev nD) (t : Fin cfg0.N) (acc : Vec Ideal S2056x1024 .f32) (p : Fin 2056) (q : Fin 1024) :
    upd (iblk m c 0 t) (iblk m c 1 t) (iblk m c 2 t) (iblk m c 3 t) (iblk m c 4 t) (iblk m c 5 t) acc (ix2 p q) = (acc (ix2 p q) + ∑ k : Fin 1024,
      term (m (c.tc.loc main_arg0)) (m (c.tc.loc main_arg1)) (m (c.tc.loc main_arg2)) (m (c.tc.loc main_arg3)) (m (c.tc.loc main_arg4)) (m (c.tc.loc main_arg5)) p q ⟨t.val * 1024 + k.val, by have := t.isLt; have : cfg0.N = 4 := N_0; omega⟩ : EReal) := by
  refine congrArg (fun a : EReal => acc (ix2 p q) + a) (Finset.sum_congr rfl fun k _ => ?_)
  have e0 : (fun j => (iblk m c 0 t : Vec Ideal S1024x512 .bf16) (ix2 k j)) = _ := funext fun j => iblk0 m c t k j
  have e1 : (fun j => (iblk m c 1 t : Vec Ideal S1024x512 .bf16) (ix2 k j)) = _ := funext fun j => iblk1 m c t k j
  have e2 : (fun j => (iblk m c 2 t : Vec Ideal S1024x512 .bf16) (ix2 k j)) = _ := funext fun j => iblk2 m c t k j
  have e3 : (fun j => (iblk m c 3 t : Vec Ideal S1024x128 .bf16) (ix2 k j)) = _ := funext fun j => iblk3 m c t k j
  have e4 : (fun j => (iblk m c 4 t : Vec Ideal S1024x512 .bf16) (ix2 k j)) = _ := funext fun j => iblk4 m c t k j
  refine congrArg₂ (fun a b : EReal => a * b) ?_ (iblk5 m c t k q)
  show pick (fun j => (iblk m c 0 t : Vec Ideal S1024x512 .bf16) (ix2 k j)) (fun j => (iblk m c 1 t : Vec Ideal S1024x512 .bf16) (ix2 k j)) (fun j => (iblk m c 2 t : Vec Ideal S1024x512 .bf16) (ix2 k j)) (fun j => (iblk m c 3 t : Vec Ideal S1024x128 .bf16) (ix2 k j)) (fun j => (iblk m c 4 t : Vec Ideal S1024x512 .bf16) (ix2 k j)) p = _
  rw [e0, e1, e2, e3, e4]

/-- The result at an index: the sum over all rows. -/
theorem result_apply (c : Dev nD) (p : Fin 2056) (q : Fin 1024) :
    G6 m c (ix2 p q) = ∑ s : Fin 4096, term (m (c.tc.loc main_arg0)) (m (c.tc.loc main_arg1)) (m (c.tc.loc main_arg2)) (m (c.tc.loc main_arg3)) (m (c.tc.loc main_arg4)) (m (c.tc.loc main_arg5)) p q s := by
  rw [result_steps, upd_apply, upd_apply, upd_apply, upd_apply, zero_apply, zero_add,
    Fin.sum_univ_tiles 4 1024 rfl, Fin.sum_univ_four]
  rfl

/-- The reference's operands, one beside the other. -/
theorem beside (x0 : Vec Ideal S4096x512 .bf16) (x1 : Vec Ideal S4096x512 .bf16) (x2 : Vec Ideal S4096x512 .bf16) (x3 : Vec Ideal S4096x128 .bf16) (x4 : Vec Ideal S4096x512 .bf16) (s : Fin 4096) (p : Fin 2056) :
    (concatenate Cert.InGradReferenceIdeal.S4096x2056 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1) (ix2 s p)
      = pick (fun k => x0 (ix2 s k)) (fun k => x1 (ix2 s k)) (fun k => x2 (ix2 s k)) (fun k => x3 (ix2 s k)) (fun k => x4 (ix2 s k)) p := by
  have hp := p.isLt
  unfold pick
  split
  · rename_i h0
    refine concatenate_apply_piece (t := Cert.InGradReferenceIdeal.S4096x2056) 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1 (ix2 s p) 0 (by simp) Cert.InGradReferenceIdeal.S4096x512 _ rfl rfl 0 rfl (ix2 s (⟨p.val, by omega⟩ : Fin 512)) (fun b hb => ?_) ?_
    · match b with
      | ⟨0, _⟩ => rfl
      | ⟨1, _⟩ => exact absurd rfl hb
    · show 0 + (p.val) = p.val
      omega
  rename_i h0
  split
  · rename_i h1
    refine concatenate_apply_piece (t := Cert.InGradReferenceIdeal.S4096x2056) 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1 (ix2 s p) 1 (by simp) Cert.InGradReferenceIdeal.S4096x512 _ rfl rfl 512 rfl (ix2 s (⟨p.val - 512, by omega⟩ : Fin 512)) (fun b hb => ?_) ?_
    · match b with
      | ⟨0, _⟩ => rfl
      | ⟨1, _⟩ => exact absurd rfl hb
    · show 512 + (p.val - 512) = p.val
      omega
  rename_i h1
  split
  · rename_i h2
    refine concatenate_apply_piece (t := Cert.InGradReferenceIdeal.S4096x2056) 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1 (ix2 s p) 2 (by simp) Cert.InGradReferenceIdeal.S4096x512 _ rfl rfl 1024 rfl (ix2 s (⟨p.val - 1024, by omega⟩ : Fin 512)) (fun b hb => ?_) ?_
    · match b with
      | ⟨0, _⟩ => rfl
      | ⟨1, _⟩ => exact absurd rfl hb
    · show 1024 + (p.val - 1024) = p.val
      omega
  rename_i h2
  split
  · rename_i h3
    refine Eq.trans (?_ : _ = (extractStridedSlice Cert.InGradReferenceIdeal.S4096x8 ![0, 0] x3 Cert.InGradReferenceIdeal.Gen.slices_S4096x128_S4096x8_0_0) (ix2 s (⟨p.val - 1536, by omega⟩ : Fin 8))) ?_
    swap
    · pointwise
      try rfl
    refine concatenate_apply_piece (t := Cert.InGradReferenceIdeal.S4096x2056) 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1 (ix2 s p) 3 (by simp) Cert.InGradReferenceIdeal.S4096x8 _ rfl rfl 1536 rfl (ix2 s (⟨p.val - 1536, by omega⟩ : Fin 8)) (fun b hb => ?_) ?_
    · match b with
      | ⟨0, _⟩ => rfl
      | ⟨1, _⟩ => exact absurd rfl hb
    · show 1536 + (p.val - 1536) = p.val
      omega
  rename_i h3
  refine concatenate_apply_piece (t := Cert.InGradReferenceIdeal.S4096x2056) 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1 (ix2 s p) 4 (by simp) Cert.InGradReferenceIdeal.S4096x512 _ rfl rfl 1544 rfl (ix2 s (⟨p.val - 1544, by omega⟩ : Fin 512)) (fun b hb => ?_) ?_
  · match b with
    | ⟨0, _⟩ => rfl
    | ⟨1, _⟩ => exact absurd rfl hb
  · show 1544 + (p.val - 1544) = p.val
    omega

/-- The reference's result at an index is the same sum. -/
theorem reference_apply (x0 : Vec Ideal S4096x512 .bf16) (x1 : Vec Ideal S4096x512 .bf16) (x2 : Vec Ideal S4096x512 .bf16) (x3 : Vec Ideal S4096x128 .bf16) (x4 : Vec Ideal S4096x512 .bf16) (x5 : FVec Ideal Cert.InGradReferenceIdeal.S4096x1024 .bf16) (p : Fin 2056) (q : Fin 1024) :
    (transpose Cert.InGradReferenceIdeal.S2056x1024 [1, 0] (truncf .bf16 (transpose Cert.InGradReferenceIdeal.S1024x2056 [1, 0] (Host.dotGeneral (F := Ideal) Cert.InGradReferenceIdeal.dot_S4096x2056_S4096x1024_S2056x1024_0_0_1_1_n_n none
      (extf .f32 (concatenate Cert.InGradReferenceIdeal.S4096x2056 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1) Cert.InGradReferenceIdeal.Gen.bitsLt_bf16_f32) (extf .f32 x5 Cert.InGradReferenceIdeal.Gen.bitsLt_bf16_f32)) Cert.InGradReferenceIdeal.Gen.transposes_S2056x1024_S1024x2056_1_0) Cert.InGradReferenceIdeal.Gen.bitsLt_bf16_f32) Cert.InGradReferenceIdeal.Gen.transposes_S1024x2056_S2056x1024_1_0 : FVec Ideal Cert.InGradReferenceIdeal.S2056x1024 .bf16) (ix2 p q) = (∑ s : Fin 4096, term x0 x1 x2 x3 x4 x5 p q s : EReal) := by
  have h := beside x0 x1 x2 x3 x4
  generalize (concatenate Cert.InGradReferenceIdeal.S4096x2056 1 [⟨Cert.InGradReferenceIdeal.S4096x512, x0⟩, ⟨Cert.InGradReferenceIdeal.S4096x512, x1⟩, ⟨Cert.InGradReferenceIdeal.S4096x512, x2⟩, ⟨Cert.InGradReferenceIdeal.S4096x8, (extractStridedSlice Cert.InGradReferenceIdeal.S4096x8 ![0, 0] x3 Cert.InGradReferenceIdeal.Gen.slices_S4096x128_S4096x8_0_0)⟩, ⟨Cert.InGradReferenceIdeal.S4096x512, x4⟩] Cert.InGradReferenceIdeal.Gen.concatenates_S4096x512_S4096x512_S4096x512_S4096x8_S4096x512_S4096x2056_d1) = y at h ⊢
  pointwise
  refine Finset.sum_congr rfl fun s _ => ?_
  unfold term
  rw [← h s p]

theorem agrees : algebraic_InGradIdeal_InGradReferenceIdeal := by
  intro m g m' g' _ hm
  refine ⟨fun c => G6 m c, Cert.InGradIdeal.Value.run m g, ?_⟩
  refine (θ_run Cert.InGradReferenceIdeal.defs _ _).mono (fun r h c => ⟨(h c).1.trans ?_, (h c).2⟩) (Cert.InGradReferenceIdeal.Value.run m' g')
  obtain ⟨e0, e1, e2, e3, e4, e5⟩ := hm c
  funext i
  rw [eq_ix2 i]
  refine Eq.trans ?_ (result_apply m c (i 0) (i 1)).symm
  rw [← e0, ← e1, ← e2, ← e3, ← e4, ← e5]
  exact reference_apply _ _ _ _ _ _ (i 0) (i 1)

end Cert.InGradIdeal.Hand

end
-- ==== Proof.Norm1.Value.lean ====
/-
  WHAT THE FIRST NORM'S CALL COMPUTES: its two result arrays at an index. Each of the eight points reads a block of 512 rows
  of the input and the whole scale, and writes back the same 512 rows of the normed input and of the norm's factor.
-/
module

public import proofs.«01_k».proof.Defs
public import proofs.«01_k».proof.Proof.Gen.Norm1Ideal.Value
public import proofs.«01_k».proof.Proof.Gen.Norm1ReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.Norm1Ideal.Hand

open Cert.Norm1Ideal Cert.Norm1Ideal.Gen

theorem hz : (![0, 0] : Fin 2 → Nat) = fun _ => 0 := funext fun a => by fin_cases a <;> rfl

/-- The norm's factor of a row. -/
def factor (y : Fin 1024 → EReal) : EReal :=
  Ideal.rsqrt (Ideal.div (∑ k : Fin 1024, y k * y k) (Ideal.ofBits .f32 0x44800000#32) + Ideal.ofBits .f32 0x358637BD#32)

def fac (x : S4096x1024.Idx → EReal) (i : S4096x1.Idx) : EReal := factor fun k => x (ix2 (i 0) k)

def normed (x : S4096x1024.Idx → EReal) (s : S1x1024.Idx → EReal) (i : S4096x1024.Idx) : EReal :=
  x (ix2 (i 0) (i 1)) * factor (fun k => x (ix2 (i 0) k)) * s (ix2 0 (i 1))

theorem pay1_apply (x : Vec Ideal S512x1024 .f32) (r : Fin 512) (f : Fin 1) :
    k0_pay1 x (ix2 r f) = factor fun k => x (ix2 r k) := by
  unfold_payloads
  pointwise
  rfl

theorem pay2_apply (x : Vec Ideal S512x1024 .f32) (s : Vec Ideal S1x1024 .f32) (r : Fin 512) (f : Fin 1024) :
    k0_pay2 x s (ix2 r f) = x (ix2 r f) * factor (fun k => x (ix2 r k)) * (show EReal from s (ix2 0 f)) := by
  unfold_payloads
  pointwise
  rfl

variable (m : (ℓ : Loc nD τ sig) → Buf (Elt Ideal) ℓ) (ρ : Dev nD → PrngReg)

/-- The row of the whole arrays that row `k` of point `t`'s block is. -/
def row (t : Fin cfg0.N) (k : Fin 512) : Fin 4096 := ⟨t.val * 512 + k.val, by have := t.isLt; have : cfg0.N = 8 := N_0; omega⟩

/-- Point `t`'s block of operand 0: its 512 rows. -/
theorem iblk0 (c : Dev nD) (t : Fin cfg0.N) (r : Fin 512) (k : Fin 1024) :
    (iblk m c 0 t : Vec Ideal S512x1024 .f32) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 1024 + 1 * k.val = k.val; rw [hi.2]; omega

/-- Every point's block of operand 1 is the whole operand. -/
theorem iblk1 (c : Dev nD) (t : Fin cfg0.N) (r : Fin 1) (k : Fin 1024) :
    (iblk m c 1 t : Vec Ideal S1x1024 .f32) (ix2 r k) = m (c.tc.loc main_arg1) (ix2 r k) := by
  have hi : win0_1.index t 0 = 0 ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 1 + 1 * r.val = r.val; rw [hi.1]; omega
  | ⟨1, _⟩ => show win0_1.index t 1 * 1024 + 1 * k.val = k.val; rw [hi.2]; omega

/-- Where point `t`'s block of result 0 lies: at its 512 rows. -/
theorem blk2_apply (t : Fin cfg0.N) (G : S4096x1024.Idx → EReal) (r : Fin 512) (f : Fin 1024) :
    ((win0_2.blk t).view.read (Elt Ideal) G : Vec Ideal S512x1024 .bf16) (ix2 r f) = G (ix2 (row t r) f) := by
  have hi : win0_2.index t 0 = t.val ∧ win0_2.index t 1 = 0 := by revert t; decide
  rw [View.read_apply]
  show G _ = G _
  congr 1
  funext a
  apply Fin.ext
  match a with
  | ⟨0, _⟩ => show win0_2.index t 0 * 512 + 1 * r.val = t.val * 512 + r.val; rw [hi.1]; omega
  | ⟨1, _⟩ => show win0_2.index t 1 * 1024 + 1 * f.val = f.val; rw [hi.2]; omega

/-- What the body computes for result 0 at point `t`, at an index of the block. -/
theorem point2 (c : Dev nD) (t : Fin cfg0.N) (r : Fin 512) (f : Fin 1024) :
    k0_pay2 (iblk m c 0 t) (iblk m c 1 t) (ix2 r f) = normed (m (c.tc.loc main_arg0)) (m (c.tc.loc main_arg1)) (ix2 (row t r) f) := by
  rw [pay2_apply]
  simp only [iblk0, iblk1]
  rfl

/-- What point `t` writes back of result 0. -/
theorem flushed2_eq (c : Dev nD) (t : Fin cfg0.N) :
    (dats m 0 c).flushed 2 t = (win0_2.blk t).view.read (Elt Ideal) (normed (m (c.tc.loc main_arg0)) (m (c.tc.loc main_arg1))) := by
  rw [Value.flushed2]
  unfold out0_2
  rw [View.canon_unit_zero hz]
  simp only [View.ld_unit_zero (S := S512x1024) hz, View.ld_unit_zero (S := S1x1024) hz]
  funext i
  rw [eq_ix2 i]
  refine Eq.trans ?_ (blk2_apply t _ (i 0) (i 1)).symm
  exact point2 m c t (i 0) (i 1)

theorem mem_blk2 (t : Fin cfg0.N) (i : S4096x1024.Idx) :
    i ∈ ((cfg0.win 2).blk t).view.set ↔ t.val * 512 ≤ (i 0 : Nat) ∧ (i 0 : Nat) < t.val * 512 + 512 := by
  show i ∈ ((View.whole main_v0_0).slice (win0_2.rect t)).set ↔ _
  rw [View.set_slice_whole, Rect.mem_set_unit]
  have h1 : (i 1 : Nat) < 1024 := (i 1).isLt
  have e : win0_2.index t 0 * win0_2.size 0 = t.val * 512 ∧ win0_2.xsize (grid0.coords t) 0 = 512
      ∧ win0_2.index t 1 * win0_2.size 1 = 0 ∧ win0_2.xsize (grid0.coords t) 1 = 1024 := by revert t; decide +kernel
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e.1, e.2.1] at this; exact this
  · match a with
    | ⟨0, _⟩ => show win0_2.index t 0 * win0_2.size 0 ≤ (i 0 : Nat) ∧ (i 0 : Nat) < win0_2.index t 0 * win0_2.size 0 + win0_2.xsize (grid0.coords t) 0; rw [e.1, e.2.1]; exact h
    | ⟨1, _⟩ => show win0_2.index t 1 * win0_2.size 1 ≤ (i 1 : Nat) ∧ (i 1 : Nat) < win0_2.index t 1 * win0_2.size 1 + win0_2.xsize (grid0.coords t) 1; rw [e.2.2.1, e.2.2.2]; omega

theorem cover2 (i : S4096x1024.Idx) :
    ∃ t : Fin cfg0.N, (cfg0.win 2).flush t = true ∧ i ∈ ((cfg0.win 2).blk t).view.set := by
  have h0 : (i 0 : Nat) < 4096 := (i 0).isLt
  have hN : cfg0.N = 8 := N_0
  refine ⟨⟨(i 0 : Nat) / 512, by omega⟩, flush0_2 _, ?_⟩
  rw [mem_blk2]
  dsimp only
  omega

/-- Result 0 after the run. -/
theorem final2 (c : Dev nD) : (dats m 0 c).arrAt 2 cfg0.N = normed (m (c.tc.loc main_arg0)) (m (c.tc.loc main_arg1)) :=
  (dats m 0 c).arrAt_eq_of_cover 2 _ (fun t _ => flushed2_eq m c t) cover2

/-- Where point `t`'s block of result 1 lies: at its 512 rows. -/
theorem blk3_apply (t : Fin cfg0.N) (G : S4096x1.Idx → EReal) (r : Fin 512) (f : Fin 1) :
    ((win0_3.blk t).view.read (Elt Ideal) G : Vec Ideal S512x1 .f32) (ix2 r f) = G (ix2 (row t r) f) := by
  have hi : win0_3.index t 0 = t.val ∧ win0_3.index t 1 = 0 := by revert t; decide
  rw [View.read_apply]
  show G _ = G _
  congr 1
  funext a
  apply Fin.ext
  match a with
  | ⟨0, _⟩ => show win0_3.index t 0 * 512 + 1 * r.val = t.val * 512 + r.val; rw [hi.1]; omega
  | ⟨1, _⟩ => show win0_3.index t 1 * 1 + 1 * f.val = f.val; rw [hi.2]; omega

/-- What the body computes for result 1 at point `t`, at an index of the block. -/
theorem point3 (c : Dev nD) (t : Fin cfg0.N) (r : Fin 512) (f : Fin 1) :
    k0_pay1 (iblk m c 0 t) (ix2 r f) = fac (m (c.tc.loc main_arg0)) (ix2 (row t r) f) := by
  rw [pay1_apply]
  simp only [iblk0]
  rfl

/-- What point `t` writes back of result 1. -/
theorem flushed3_eq (c : Dev nD) (t : Fin cfg0.N) :
    (dats m 0 c).flushed 3 t = (win0_3.blk t).view.read (Elt Ideal) (fac (m (c.tc.loc main_arg0))) := by
  rw [Value.flushed3]
  unfold out0_3
  rw [View.canon_unit_zero hz]
  simp only [View.ld_unit_zero (S := S512x1024) hz, View.ld_unit_zero (S := S1x1024) hz]
  funext i
  rw [eq_ix2 i]
  refine Eq.trans ?_ (blk3_apply t _ (i 0) (i 1)).symm
  exact point3 m c t (i 0) (i 1)

theorem mem_blk3 (t : Fin cfg0.N) (i : S4096x1.Idx) :
    i ∈ ((cfg0.win 3).blk t).view.set ↔ t.val * 512 ≤ (i 0 : Nat) ∧ (i 0 : Nat) < t.val * 512 + 512 := by
  show i ∈ ((View.whole main_v0_1).slice (win0_3.rect t)).set ↔ _
  rw [View.set_slice_whole, Rect.mem_set_unit]
  have h1 : (i 1 : Nat) < 1 := (i 1).isLt
  have e : win0_3.index t 0 * win0_3.size 0 = t.val * 512 ∧ win0_3.xsize (grid0.coords t) 0 = 512
      ∧ win0_3.index t 1 * win0_3.size 1 = 0 ∧ win0_3.xsize (grid0.coords t) 1 = 1 := by revert t; decide +kernel
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0; rw [e.1, e.2.1]; exact h
    | ⟨1, _⟩ => show win0_3.index t 1 * win0_3.size 1 ≤ (i 1 : Nat) ∧ (i 1 : Nat) < win0_3.index t 1 * win0_3.size 1 + win0_3.xsize (grid0.coords t) 1; rw [e.2.2.1, e.2.2.2]; omega

theorem cover3 (i : S4096x1.Idx) :
    ∃ t : Fin cfg0.N, (cfg0.win 3).flush t = true ∧ i ∈ ((cfg0.win 3).blk t).view.set := by
  have h0 : (i 0 : Nat) < 4096 := (i 0).isLt
  have hN : cfg0.N = 8 := N_0
  refine ⟨⟨(i 0 : Nat) / 512, by omega⟩, flush0_3 _, ?_⟩
  rw [mem_blk3]
  dsimp only
  omega

/-- Result 1 after the run. -/
theorem final3 (c : Dev nD) : (dats m 0 c).arrAt 3 cfg0.N = fac (m (c.tc.loc main_arg0)) :=
  (dats m 0 c).arrAt_eq_of_cover 3 _ (fun t _ => flushed3_eq m c t) cover3

theorem agrees : algebraic_Norm1Ideal_Norm1ReferenceIdeal := by
  intro m g m' g' _ hm
  refine ⟨fun c => normed (m (c.tc.loc main_arg0)) (m (c.tc.loc main_arg1)), fun c => fac (m (c.tc.loc main_arg0)),
    (θ_run defs _ _).mono (fun r h c => ⟨(h c).1.trans (final2 m c), (h c).2.1.trans (final3 m c), (h c).2.2⟩)
      (Cert.Norm1Ideal.Value.run_blocks m g), ?_⟩
  refine (θ_run Cert.Norm1ReferenceIdeal.defs _ _).mono
    (fun r h c => ⟨(h c).1.trans ?_, (h c).2.1.trans ?_, (h c).2.2⟩) (Cert.Norm1ReferenceIdeal.Value.run m' g')
  all_goals
    obtain ⟨e0, e1⟩ := hm c
    beta_reduce
    funext i
    rw [eq_ix2 i]
    generalize i 0 = p
    generalize i 1 = q
    pointwise
    simp only [e0, e1]
    rfl

end Cert.Norm1Ideal.Hand

end
-- ==== Proof.PoolGrad.Value.lean ====
module

public import proofs.«01_k».proof.Defs
public import proofs.«01_k».proof.Proof.Gen.PoolGradIdeal.Value
public import proofs.«01_k».proof.Proof.Gen.PoolGradReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.PoolGradIdeal.Hand

open Cert.PoolGradIdeal Cert.PoolGradIdeal.Gen

theorem hz : (![0, 0] : Fin 2 → Nat) = fun _ => 0 := funext fun a => by fin_cases a <;> rfl

theorem band_sum (w : ℕ) (f : ℕ → EReal) (hf : ∀ n, 4096 ≤ n → f n = 0) (s : Fin 4096) :
    ∑ t : Fin 4096, f t.val * (if s.val ≤ t.val ∧ t.val < s.val + w then 1 else 0) = ∑ j ∈ Finset.range w, f (s.val + j) := by
  rw [← Finset.sum_subset (s₁ := (Finset.range w).filter fun j => s.val + j < 4096) (Finset.filter_subset _ _)
    (fun j _ hj => hf _ (by simp_all))]
  simp only [mul_ite, mul_one, mul_zero]
  rw [← Finset.sum_filter]
  refine Finset.sum_bij' (fun t _ => t.val - s.val) (fun j hj => ⟨s.val + j, (Finset.mem_filter.1 hj).2⟩) ?_ ?_ ?_ ?_ ?_
  · intro t ht
    have := (Finset.mem_filter.1 ht).2
    have := t.isLt
    simp only [Finset.mem_filter, Finset.mem_range]
    omega
  · intro j hj
    have := Finset.mem_range.1 (Finset.mem_filter.1 hj).1
    simp only [Finset.mem_filter, Finset.mem_univ, true_and]
    omega
  · intro t ht
    have := (Finset.mem_filter.1 ht).2
    exact Fin.ext (by simp only; omega)
  · intro j hj
    simp
  · intro t ht
    have := (Finset.mem_filter.1 ht).2
    exact congrArg f (by omega)

theorem double_sum (e : ℕ → EReal) (n k : ℕ) :
    ∑ j ∈ Finset.range k, e (n + j) + ∑ j ∈ Finset.range k, e (n + k + j) = ∑ j ∈ Finset.range (2 * k), e (n + j) := by
  rw [two_mul, Finset.sum_range_add]
  simp only [add_assoc]

theorem sle_ofNat (a b : ℕ) (ha : a < 2 ^ 31) (hb : b < 2 ^ 31) : (BitVec.ofNat 32 a).sle (BitVec.ofNat 32 b) = decide (a ≤ b) := by
  rw [BitVec.sle_eq_decide, BitVec.toInt_eq_toNat_of_lt (by simp only [BitVec.toNat_ofNat]; omega), BitVec.toInt_eq_toNat_of_lt (by simp only [BitVec.toNat_ofNat]; omega)]
  simp only [BitVec.toNat_ofNat, Nat.mod_eq_of_lt (show a < 2 ^ 32 by omega), Nat.mod_eq_of_lt (show b < 2 ^ 32 by omega), Nat.cast_le]

theorem slt_ofNat (a b : ℕ) (ha : a < 2 ^ 31) (hb : b < 2 ^ 31) : (BitVec.ofNat 32 a).slt (BitVec.ofNat 32 b) = decide (a < b) := by
  rw [BitVec.slt_eq_decide, BitVec.toInt_eq_toNat_of_lt (by simp only [BitVec.toNat_ofNat]; omega), BitVec.toInt_eq_toNat_of_lt (by simp only [BitVec.toNat_ofNat]; omega)]
  simp only [BitVec.toNat_ofNat, Nat.mod_eq_of_lt (show a < 2 ^ 32 by omega), Nat.mod_eq_of_lt (show b < 2 ^ 32 by omega), Nat.cast_lt]

/-- The gradient with respect to a group's pooled rows. -/
def dpooled (v5 : Vec Ideal S1x128x128 .f32) (v9 : Vec Ideal S512x128 .f32) (v18 : Vec Ideal S1x128 .f32) : FVec Ideal S512x128 .f32 :=
  k0_pay8 (k0_pay4 v5) (k0_pay6 v9 v18) (constant S512x128 .f32 0x00000000#32)

/-- How many rows each row's window of width `w` holds, for the 512 rows from row `v4` on. -/
def counts (w v4 : BitVec 32) : FVec Ideal S512x1 .f32 :=
  sitofp .f32 (minsi (addi (addi (broadcast S512x1 v4) (iota .tc S512x1 32 [0] iota_S512x1_d0_w32)) (broadcast S512x1 1#32)) (broadcast S512x1 w))

/-- Each row of a group's gradient divided by its count. -/
def quot (w v4 : BitVec 32) (v5 : Vec Ideal S1x128x128 .f32) (v9 : Vec Ideal S512x128 .f32) (v18 : Vec Ideal S1x128 .f32) : FVec Ideal S512x128 .f32 :=
  k0_pay26 (dpooled v5 v9 v18) (counts w v4)

/-- Each row plus the row a rotation by `k` brings to it. -/
def up (k : BitVec 32) (v : FVec Ideal S528x128 .f32) : FVec Ideal S528x128 .f32 :=
  addf v (dynamicRotate 0 k none v rotates_S528x128_d0)

/-- The quotients of the block's rows and of the sixteen after it. -/
def ext (w v4 : BitVec 32) (v5 : Vec Ideal S1x128x128 .f32) (v9 : Vec Ideal S512x128 .f32) (v18 : Vec Ideal S1x128 .f32)
    (v40 : Vec Ideal S16x128 .f32) : FVec Ideal S528x128 .f32 :=
  concatenate S528x128 0 [⟨S512x128, quot w v4 v5 v9 v18⟩, ⟨S16x128, v40⟩] concatenates_S512x128_S16x128_S528x128_d0

/-- A group's result from its window sums. -/
def fin (v : FVec Ideal S528x128 .f32) (v5 : Vec Ideal S1x128x128 .f32) (v9 : Vec Ideal S512x128 .f32) (v18 : Vec Ideal S1x128 .f32) : FVec Ideal S512x128 .bf16 :=
  truncf .bf16 (subf (extractStridedSlice S512x128 ![0, 0] v slices_S528x128_o0_0_S512x128) (dpooled v5 v9 v18)) bitsLt_bf16_f32

/-- The first sixteen quotients. -/
def top (w v4 : BitVec 32) (v5 : Vec Ideal S1x128x128 .f32) (v9 : Vec Ideal S512x128 .f32) (v18 : Vec Ideal S1x128 .f32) : FVec Ideal S16x128 .f32 :=
  k0_pay27 (dpooled v5 v9 v18) (counts w v4)

section Groups
variable (v4 : BitVec 32) (v5 v22 : Vec Ideal S1x128x128 .f32) (v8 : Vec Ideal S512x128 .bf16) (v9 : Vec Ideal S512x128 .f32) (v11 v18 : Vec Ideal S1x128 .f32) (v40 : Vec Ideal S16x128 .f32)

theorem du0 : k0_pay11 v4 (k0_pay4 v5) (k0_pay6 v9 v18) (constant (F := Ideal) S512x128 .f32 0x00000000#32) v40
    = fin (up 527#32 (ext 2#32 v4 v5 v9 v18 v40)) v5 v9 v18 := rfl
theorem du1 : k0_pay19 v4 (k0_pay12 v5) v9 v18 v40 = fin (up 526#32 (up 527#32 (ext 4#32 v4 v5 v9 v18 v40))) v5 v9 v18 := rfl
theorem du2 : k0_pay28 (k0_pay24 v5 v9 v18) (k0_pay25 v4) v40 = fin (up 524#32 (up 526#32 (up 527#32 (ext 8#32 v4 v5 v9 v18 v40)))) v5 v9 v18 := rfl
theorem du3 : k0_pay37 v4 (k0_pay29 v5) v9 (k0_pay31 v18) v40
    = fin (up 520#32 (up 524#32 (up 526#32 (up 527#32 (ext 16#32 v4 v5 v9 v18 v40))))) v5 v9 v18 := rfl

theorem top0 : k0_pay10 v4 (k0_pay4 v5) (k0_pay6 v9 v18) (constant (F := Ideal) S512x128 .f32 0x00000000#32) = top 2#32 v4 v5 v9 v18 := rfl
theorem top1 : k0_pay18 v4 (k0_pay12 v5) v9 v18 = top 4#32 v4 v5 v9 v18 := rfl
theorem top2 : k0_pay27 (k0_pay24 v5 v9 v18) (k0_pay25 v4) = top 8#32 v4 v5 v9 v18 := rfl
theorem top3 : k0_pay36 v4 (k0_pay29 v5) v9 (k0_pay31 v18) = top 16#32 v4 v5 v9 v18 := rfl

theorem dw1 : k0_pay15 v8 v9 v18 v22 = k0_pay7 v8 v9 v18 v22 := rfl
theorem dw2 : k0_pay23 v8 v9 v18 v22 = k0_pay7 v8 v9 v18 v22 := rfl
theorem dw3 : k0_pay33 v8 v9 (k0_pay31 v18) v22 = k0_pay7 v8 v9 v18 v22 := rfl
theorem ds1 : k0_pay13 v5 v8 v9 v11 = k0_pay5 v5 v8 v9 v11 := rfl
theorem ds2 : k0_pay21 v5 v8 v9 v11 = k0_pay5 v5 v8 v9 v11 := rfl
theorem ds3 : k0_pay30 v5 v8 v9 v11 = k0_pay5 v5 v8 v9 v11 := rfl

theorem dpooled_apply (r : Fin 512) (k : Fin 128) : dpooled v5 v9 v18 (ix2 r k) = ∑ d : Fin 128, v9 (ix2 r d) * v18 (ix2 0 d) * v5 (ix3 0 k d) := by
  unfold dpooled
  unfold_payloads
  pointwise

theorem dw_apply (c d : Fin 128) : k0_pay7 v8 v9 v18 v22 (ix3 0 c d) = v22 (ix3 0 c d) + ∑ r : Fin 512, v8 (ix2 r c) * (v9 (ix2 r d) * v18 (ix2 0 d)) := by
  unfold_payloads
  pointwise

theorem ds_apply (k : Fin 128) : k0_pay5 v5 v8 v9 v11 (ix2 0 k) = v11 (ix2 0 k) + ∑ r : Fin 512, v9 (ix2 r k) * ∑ c : Fin 128, v8 (ix2 r c) * v5 (ix3 0 c k) := by
  unfold_payloads
  pointwise

/-- The number of rows of row `n`'s window of width `w`. -/
def cnt (w : BitVec 32) (n : ℕ) : EReal := FloatOps.sitofp (F := Ideal) .f32 (IntOp.minsi (IntOp.addi (BitVec.ofNat 32 n) 1#32) w)

theorem counts_apply (w : BitVec 32) (n : ℕ) (r : Fin 512) : counts w (BitVec.ofNat 32 n) (ix2 r 0) = cnt w (n + r.val) := by
  unfold counts cnt
  pointwise
  rw [BitVec.ofNat_add]
  rfl

theorem quot_apply (w : BitVec 32) (r : Fin 512) (k : Fin 128) : quot w v4 v5 v9 v18 (ix2 r k) = Ideal.div (dpooled v5 v9 v18 (ix2 r k)) (counts w v4 (ix2 r 0)) := by
  unfold quot
  unfold_payloads
  pointwise

theorem top_apply (w : BitVec 32) (r : Fin 16) (k : Fin 128) : top w v4 v5 v9 v18 (ix2 r k) = quot w v4 v5 v9 v18 (ix2 ⟨r.val, by omega⟩ k) := by
  unfold top quot
  unfold k0_pay27
  pointwise

theorem fin_apply (v : FVec Ideal S528x128 .f32) (r : Fin 512) (k : Fin 128) : fin v v5 v9 v18 (ix2 r k) = v (ix2 ⟨r.val, by omega⟩ k) - dpooled v5 v9 v18 (ix2 r k) := by
  unfold fin
  pointwise

theorem ext_apply (w : BitVec 32) (n : Fin 528) (k : Fin 128) : ext w v4 v5 v9 v18 v40 (ix2 n k)
    = if h : n.val < 512 then quot w v4 v5 v9 v18 (ix2 ⟨n.val, h⟩ k) else v40 (ix2 ⟨n.val - 512, by omega⟩ k) := by
  unfold ext
  pointwise

theorem up_apply (s : BitVec 32) (v : FVec Ideal S528x128 .f32) (n : Fin 528) (k : Fin 128) :
    up s v (ix2 n k) = v (ix2 n k) + v (ix2 ⟨(n.val + 528 - s.toNat % 528) % 528, Nat.mod_lt _ (by norm_num)⟩ k) := by
  unfold up
  pointwise

end Groups

/-- A rotation by `528 - k` turns sums of `k` rows into sums of `2 k`. -/
theorem up_sum (k : ℕ) (s : BitVec 32) (hs : s.toNat = 528 - k) (hk0 : 0 < k) (hk : k < 528) (v : FVec Ideal S528x128 .f32) (e : Fin 128 → ℕ → EReal)
    (hv : ∀ (n : Fin 528) (c : Fin 128), n.val + k ≤ 528 → v (ix2 n c) = ∑ j ∈ Finset.range k, e c (n.val + j))
    (n : Fin 528) (c : Fin 128) (hn : n.val + 2 * k ≤ 528) : up s v (ix2 n c) = ∑ j ∈ Finset.range (2 * k), e c (n.val + j) := by
  have hi : (⟨(n.val + 528 - s.toNat % 528) % 528, Nat.mod_lt _ (by norm_num)⟩ : Fin 528) = ⟨n.val + k, by omega⟩ :=
    Fin.ext (by simp only [hs]; omega)
  rw [up_apply, hv n c (by omega), hi, hv _ c (by simp only; omega)]
  exact double_sum (e c) n.val k

/-- The extended quotients at a row: the block's own, then the sixteen after it. -/
def extRow (q : Fin 512 → Fin 128 → EReal) (t : Fin 16 → Fin 128 → EReal) (c : Fin 128) (n : ℕ) : EReal :=
  if h : n < 512 then q ⟨n, h⟩ c else if h : n - 512 < 16 then t ⟨n - 512, h⟩ c else 0

section Sums
variable (w v4 : BitVec 32) (v5 : Vec Ideal S1x128x128 .f32) (v9 : Vec Ideal S512x128 .f32) (v18 : Vec Ideal S1x128 .f32) (v40 : Vec Ideal S16x128 .f32)

/-- The extended quotients of a group. -/
def eRow : Fin 128 → ℕ → EReal := extRow (fun r c => quot w v4 v5 v9 v18 (ix2 r c)) (fun r c => v40 (ix2 r c))

theorem ext_sum (n : Fin 528) (c : Fin 128) (hn : n.val + 1 ≤ 528) :
    ext w v4 v5 v9 v18 v40 (ix2 n c) = ∑ j ∈ Finset.range 1, eRow w v4 v5 v9 v18 v40 c (n.val + j) := by
  rw [ext_apply, Finset.sum_range_one]
  unfold eRow extRow
  simp only [Nat.add_zero]
  split_ifs with h h2
  · rfl
  · rfl
  · exact absurd n.isLt (by omega)

theorem up2 : ∀ (n : Fin 528) (c : Fin 128), n.val + 2 ≤ 528 → up 527#32 (ext w v4 v5 v9 v18 v40) (ix2 n c) = ∑ j ∈ Finset.range 2, eRow w v4 v5 v9 v18 v40 c (n.val + j) :=
  up_sum 1 _ rfl (by norm_num) (by norm_num) _ _ (ext_sum w v4 v5 v9 v18 v40)

theorem up4 : ∀ (n : Fin 528) (c : Fin 128), n.val + 4 ≤ 528 → up 526#32 (up 527#32 (ext w v4 v5 v9 v18 v40)) (ix2 n c) = ∑ j ∈ Finset.range 4, eRow w v4 v5 v9 v18 v40 c (n.val + j) :=
  up_sum 2 _ rfl (by norm_num) (by norm_num) _ _ (up2 w v4 v5 v9 v18 v40)

theorem up8 : ∀ (n : Fin 528) (c : Fin 128), n.val + 8 ≤ 528 → up 524#32 (up 526#32 (up 527#32 (ext w v4 v5 v9 v18 v40))) (ix2 n c) = ∑ j ∈ Finset.range 8, eRow w v4 v5 v9 v18 v40 c (n.val + j) :=
  up_sum 4 _ rfl (by norm_num) (by norm_num) _ _ (up4 w v4 v5 v9 v18 v40)

theorem up16 : ∀ (n : Fin 528) (c : Fin 128), n.val + 16 ≤ 528 → up 520#32 (up 524#32 (up 526#32 (up 527#32 (ext w v4 v5 v9 v18 v40)))) (ix2 n c) = ∑ j ∈ Finset.range 16, eRow w v4 v5 v9 v18 v40 c (n.val + j) :=
  up_sum 8 _ rfl (by norm_num) (by norm_num) _ _ (up8 w v4 v5 v9 v18 v40)

theorem fin_sum (k : ℕ) (hk : k ≤ 16) (v : FVec Ideal S528x128 .f32)
    (hv : ∀ (n : Fin 528) (c : Fin 128), n.val + k ≤ 528 → v (ix2 n c) = ∑ j ∈ Finset.range k, eRow w v4 v5 v9 v18 v40 c (n.val + j)) (r : Fin 512) (c : Fin 128) :
    fin v v5 v9 v18 (ix2 r c) = ∑ j ∈ Finset.range k, eRow w v4 v5 v9 v18 v40 c (r.val + j) - dpooled v5 v9 v18 (ix2 r c) := by
  rw [fin_apply, hv _ c (by simp only; omega)]

end Sums

/-! ## A block's columns by group -/

/-- Column `k` of group `g`. -/
def lane (g : Fin 4) (k : Fin 128) : Fin 512 := ⟨128 * g.val + k.val, by omega⟩

/-- The group of a column, and its place in the group. -/
def grp (f : Fin 512) : Fin 4 := ⟨f.val / 128, by omega⟩
def off (f : Fin 512) : Fin 128 := ⟨f.val % 128, by omega⟩

theorem lane_grp (f : Fin 512) : lane (grp f) (off f) = f := Fin.ext (by simp only [lane, grp, off]; omega)
theorem grp_lane (g : Fin 4) (k : Fin 128) : grp (lane g k) = g := Fin.ext (by simp only [lane, grp]; omega)
theorem off_lane (g : Fin 4) (k : Fin 128) : off (lane g k) = k := Fin.ext (by simp only [lane, off]; omega)

/-- The columns of group `g`. -/
def cols {n : ℕ} {e : EltTy} (x : Vec Ideal ⟨2, ![n, 512]⟩ e) (g : Fin 4) : Vec Ideal ⟨2, ![n, 128]⟩ e := fun j => x (ix2 (j 0) (lane g (j 1)))

/-- Matrix `g` of four. -/
def slab (x : Vec Ideal S4x128x128 .f32) (g : Fin 4) : Vec Ideal S1x128x128 .f32 := fun j => x (ix3 g (j 1) (j 2))

/-- The block whose columns of group `g` are `H g`. -/
def split {n : ℕ} {e : EltTy} (H : Fin 4 → Vec Ideal ⟨2, ![n, 128]⟩ e) : Vec Ideal ⟨2, ![n, 512]⟩ e := fun i => H (grp (i 1)) (ix2 (i 0) (off (i 1)))

theorem split_lane {n : ℕ} {e : EltTy} (H : Fin 4 → Vec Ideal ⟨2, ![n, 128]⟩ e) (g : Fin 4) (r : Fin n) (k : Fin 128) : split H (ix2 r (lane g k)) = H g (ix2 r k) := by
  show H (grp (lane g k)) (ix2 r (off (lane g k))) = _
  rw [grp_lane, off_lane]

/-- The four matrices `H g`. -/
def stack (H : Fin 4 → Vec Ideal S1x128x128 .f32) : Vec Ideal S4x128x128 .f32 := fun i => H (i 0) (ix3 0 (i 1) (i 2))

theorem idx_cols {n : ℕ} (g : Fin 4) (o : ℕ) (ho : o = 128 * g.val) (inb : ∀ a, (![0, o] : Fin 2 → Nat) a + (![n, 128] : Fin 2 → Nat) a ≤ (⟨2, ![n, 512]⟩ : Shape).size a)
    (j : (⟨2, ![n, 128]⟩ : Shape).Idx) : (Rect.unit (s := ⟨2, ![n, 512]⟩) ![0, o] ![n, 128] inb).idx j = ix2 (j 0) (lane g (j 1)) := by
  funext a
  apply Fin.ext
  match a with
  | ⟨0, _⟩ => show 0 + 1 * (j 0).val = (j 0).val; omega
  | ⟨1, _⟩ => show o + 1 * (j 1).val = 128 * g.val + (j 1).val; omega

theorem idx_slab (g : Fin 4) (o : ℕ) (ho : o = g.val) (inb : ∀ a, (![o, 0, 0] : Fin 3 → Nat) a + (![1, 128, 128] : Fin 3 → Nat) a ≤ S4x128x128.size a)
    (j : S1x128x128.Idx) : (Rect.unit (s := S4x128x128) ![o, 0, 0] ![1, 128, 128] inb).idx j = ix3 g (j 1) (j 2) := by
  have : (j 0).val < 1 := (j 0).isLt
  funext a
  apply Fin.ext
  match a with
  | ⟨0, _⟩ => show o + 1 * (j 0).val = g.val; omega
  | ⟨1, _⟩ => show 0 + 1 * (j 1).val = (j 1).val; omega
  | ⟨2, _⟩ => show 0 + 1 * (j 2).val = (j 2).val; omega

theorem ld_cols {n : ℕ} {e : EltTy} (x : Vec Ideal ⟨2, ![n, 512]⟩ e) (g : Fin 4) (o : ℕ) (ho : o = 128 * g.val)
    (inb : ∀ a, (![0, o] : Fin 2 → Nat) a + (![n, 128] : Fin 2 → Nat) a ≤ (⟨2, ![n, 512]⟩ : Shape).size a) :
    View.ld x (Rect.unit (s := ⟨2, ![n, 512]⟩) ![0, o] ![n, 128] inb) = cols x g :=
  funext fun j => congrArg x (idx_cols g o ho inb j)

theorem ld_slab (x : Vec Ideal S4x128x128 .f32) (g : Fin 4) (o : ℕ) (ho : o = g.val)
    (inb : ∀ a, (![o, 0, 0] : Fin 3 → Nat) a + (![1, 128, 128] : Fin 3 → Nat) a ≤ S4x128x128.size a) :
    View.ld x (Rect.unit (s := S4x128x128) ![o, 0, 0] ![1, 128, 128] inb) = slab x g :=
  funext fun j => congrArg x (idx_slab g o ho inb j)

/-- Reading a list of written pieces at an index: the first piece's value if it holds the index, otherwise the rest's. -/
theorem canon_step {Val : EltTy → Type} [∀ e, Nonempty (Val e)] {s : Shape} {e : EltTy} (p : View.Piece Val s e) (L : List (View.Piece Val s e))
    (G : s.Idx → Val e) (y : s.Idx) (hp : ∀ x, p.2 x = G (p.1.emb x)) (hL : y ∉ p.1.set → View.canon L y = G y) :
    View.canon (p :: L) y = G y := by
  by_cases hy : y ∈ p.1.set
  · obtain ⟨x, hx⟩ : ∃ x, p.1.emb x = y := LoadRect.exists_idx_of_mem p.1.toLoadRect hy
    subst hx
    exact (View.canon_cons_emb p.1 p.2 L x).trans (hp x)
  · exact (View.canon_cons_of_not_mem p L hy).trans (hL hy)

theorem not_mem_cols {n : ℕ} (o : ℕ) (inb : ∀ a, (![0, o] : Fin 2 → Nat) a + (![n, 128] : Fin 2 → Nat) a ≤ (⟨2, ![n, 512]⟩ : Shape).size a)
    (y : (⟨2, ![n, 512]⟩ : Shape).Idx) : y ∉ (Rect.unit (s := ⟨2, ![n, 512]⟩) ![0, o] ![n, 128] inb).set ↔ ((y 1).val < o ∨ o + 128 ≤ (y 1).val) := by
  rw [Rect.mem_set_unit]
  constructor
  · intro h
    by_contra hc
    refine h fun a => match a with
      | ⟨0, _⟩ => ⟨Nat.zero_le _, by have := (y 0).isLt; show (y 0).val < 0 + n; exact lt_of_lt_of_eq this (Nat.zero_add n).symm⟩
      | ⟨1, _⟩ => ⟨by show o ≤ (y 1).val; omega, by show (y 1).val < o + 128; omega⟩
  · intro h hm
    have hm1 : o ≤ (y 1).val ∧ (y 1).val < o + 128 := hm 1
    omega

theorem not_mem_slab (o : ℕ) (inb : ∀ a, (![o, 0, 0] : Fin 3 → Nat) a + (![1, 128, 128] : Fin 3 → Nat) a ≤ S4x128x128.size a)
    (y : S4x128x128.Idx) : y ∉ (Rect.unit (s := S4x128x128) ![o, 0, 0] ![1, 128, 128] inb).set ↔ (y 0).val ≠ o := by
  rw [Rect.mem_set_unit]
  constructor
  · intro h hc
    refine h fun a => match a with
      | ⟨0, _⟩ => ⟨by show o ≤ (y 0).val; omega, by show (y 0).val < o + 1; omega⟩
      | ⟨1, _⟩ => ⟨Nat.zero_le _, by have := (y 1).isLt; show (y 1).val < 0 + 128; exact lt_of_lt_of_eq this (Nat.zero_add 128).symm⟩
      | ⟨2, _⟩ => ⟨Nat.zero_le _, by have := (y 2).isLt; show (y 2).val < 0 + 128; exact lt_of_lt_of_eq this (Nat.zero_add 128).symm⟩
  · intro h hm
    have hm1 : o ≤ (y 0).val ∧ (y 0).val < o + 1 := hm 0
    omega

/-- Four groups of columns written one after the other. -/
theorem canon_cols {n : ℕ} {e : EltTy} (H : Fin 4 → Vec Ideal ⟨2, ![n, 128]⟩ e) {w0 w1 w2 w3 : Vec Ideal ⟨2, ![n, 128]⟩ e}
    (h0 : w0 = H 0) (h1 : w1 = H 1) (h2 : w2 = H 2) (h3 : w3 = H 3)
    (i0 : ∀ a, (![0, 0] : Fin 2 → Nat) a + (![n, 128] : Fin 2 → Nat) a ≤ (⟨2, ![n, 512]⟩ : Shape).size a)
    (i1 : ∀ a, (![0, 128] : Fin 2 → Nat) a + (![n, 128] : Fin 2 → Nat) a ≤ (⟨2, ![n, 512]⟩ : Shape).size a)
    (i2 : ∀ a, (![0, 256] : Fin 2 → Nat) a + (![n, 128] : Fin 2 → Nat) a ≤ (⟨2, ![n, 512]⟩ : Shape).size a)
    (i3 : ∀ a, (![0, 384] : Fin 2 → Nat) a + (![n, 128] : Fin 2 → Nat) a ≤ (⟨2, ![n, 512]⟩ : Shape).size a)
    (L : List (View.Piece (Elt Ideal) ⟨2, ![n, 512]⟩ e)) (y : (⟨2, ![n, 512]⟩ : Shape).Idx) :
    View.canon (⟨Rect.unit (s := ⟨2, ![n, 512]⟩) ![0, 384] ![n, 128] i3, w3⟩ :: ⟨Rect.unit (s := ⟨2, ![n, 512]⟩) ![0, 256] ![n, 128] i2, w2⟩
      :: ⟨Rect.unit (s := ⟨2, ![n, 512]⟩) ![0, 128] ![n, 128] i1, w1⟩ :: ⟨Rect.unit (s := ⟨2, ![n, 512]⟩) ![0, 0] ![n, 128] i0, w0⟩ :: L) y = split H y := by
  subst h0 h1 h2 h3
  have at_piece : ∀ (g : Fin 4) (o : ℕ) (ho : o = 128 * g.val) (inb : ∀ a, (![0, o] : Fin 2 → Nat) a + (![n, 128] : Fin 2 → Nat) a ≤ (⟨2, ![n, 512]⟩ : Shape).size a)
      (x : (⟨2, ![n, 128]⟩ : Shape).Idx), H g x = split H ((Rect.unit (s := ⟨2, ![n, 512]⟩) ![0, o] ![n, 128] inb).idx x) := by
    intro g o ho inb x
    rw [idx_cols g o ho inb x]
    exact (congrArg (H g) (eq_ix2 x)).trans (split_lane H g (x 0) (x 1)).symm
  refine canon_step _ _ (split H) y (fun x => at_piece 3 384 rfl i3 x) fun n3 => ?_
  refine canon_step _ _ (split H) y (fun x => at_piece 2 256 rfl i2 x) fun n2 => ?_
  refine canon_step _ _ (split H) y (fun x => at_piece 1 128 rfl i1 x) fun n1 => ?_
  refine canon_step _ _ (split H) y (fun x => at_piece 0 0 rfl i0 x) fun n0 => ?_
  exfalso
  have hy : (y 1).val < 512 := (y 1).isLt
  have := (not_mem_cols 384 i3 y).1 n3
  have := (not_mem_cols 256 i2 y).1 n2
  have := (not_mem_cols 128 i1 y).1 n1
  have := (not_mem_cols 0 i0 y).1 n0
  omega

/-- Four matrices written one after the other. -/
theorem canon_slab (H : Fin 4 → Vec Ideal S1x128x128 .f32) {w0 w1 w2 w3 : Vec Ideal S1x128x128 .f32}
    (h0 : w0 = H 0) (h1 : w1 = H 1) (h2 : w2 = H 2) (h3 : w3 = H 3)
    (i0 : ∀ a, (![0, 0, 0] : Fin 3 → Nat) a + (![1, 128, 128] : Fin 3 → Nat) a ≤ S4x128x128.size a)
    (i1 : ∀ a, (![1, 0, 0] : Fin 3 → Nat) a + (![1, 128, 128] : Fin 3 → Nat) a ≤ S4x128x128.size a)
    (i2 : ∀ a, (![2, 0, 0] : Fin 3 → Nat) a + (![1, 128, 128] : Fin 3 → Nat) a ≤ S4x128x128.size a)
    (i3 : ∀ a, (![3, 0, 0] : Fin 3 → Nat) a + (![1, 128, 128] : Fin 3 → Nat) a ≤ S4x128x128.size a)
    (L : List (View.Piece (Elt Ideal) S4x128x128 .f32)) (y : S4x128x128.Idx) :
    View.canon (⟨Rect.unit (s := S4x128x128) ![3, 0, 0] ![1, 128, 128] i3, w3⟩ :: ⟨Rect.unit (s := S4x128x128) ![2, 0, 0] ![1, 128, 128] i2, w2⟩
      :: ⟨Rect.unit (s := S4x128x128) ![1, 0, 0] ![1, 128, 128] i1, w1⟩ :: ⟨Rect.unit (s := S4x128x128) ![0, 0, 0] ![1, 128, 128] i0, w0⟩ :: L) y = stack H y := by
  subst h0 h1 h2 h3
  have at_piece : ∀ (g : Fin 4) (o : ℕ) (ho : o = g.val) (inb : ∀ a, (![o, 0, 0] : Fin 3 → Nat) a + (![1, 128, 128] : Fin 3 → Nat) a ≤ S4x128x128.size a)
      (x : S1x128x128.Idx), H g x = stack H ((Rect.unit (s := S4x128x128) ![o, 0, 0] ![1, 128, 128] inb).idx x) := by
    intro g o ho inb x
    rw [idx_slab g o ho inb x]
    show H g x = H g (ix3 0 (x 1) (x 2))
    have h0 : (show Fin 1 from x 0) = 0 := Subsingleton.elim _ _
    exact congrArg (H g) ((eq_ix3 x).trans (congrArg (fun z : Fin 1 => ix3 z (x 1) (x 2)) h0))
  refine canon_step _ _ (stack H) y (fun x => at_piece 3 3 rfl i3 x) fun n3 => ?_
  refine canon_step _ _ (stack H) y (fun x => at_piece 2 2 rfl i2 x) fun n2 => ?_
  refine canon_step _ _ (stack H) y (fun x => at_piece 1 1 rfl i1 x) fun n1 => ?_
  refine canon_step _ _ (stack H) y (fun x => at_piece 0 0 rfl i0 x) fun n0 => ?_
  exfalso
  have hy : (y 0).val < 4 := (y 0).isLt
  have := (not_mem_slab 3 i3 y).1 n3
  have := (not_mem_slab 2 i2 y).1 n2
  have := (not_mem_slab 1 i1 y).1 n1
  have := (not_mem_slab 0 i0 y).1 n0
  omega

/-- Pieces that leave the starting values `z` at the columns from `o` on. -/
def Keeps {n : ℕ} (z : Vec Ideal ⟨2, ![n, 512]⟩ .f32) (o : ℕ) (L : List (View.Piece (Elt Ideal) ⟨2, ![n, 512]⟩ .f32)) : Prop :=
  ∀ y : (⟨2, ![n, 512]⟩ : Shape).Idx, o ≤ (y 1).val → View.canon L y = z y

theorem keeps_base {n : ℕ} (z : Vec Ideal ⟨2, ![n, 512]⟩ .f32) (inb : ∀ a, (![0, 0] : Fin 2 → Nat) a + (![n, 512] : Fin 2 → Nat) a ≤ (⟨2, ![n, 512]⟩ : Shape).size a) :
    Keeps z 0 [⟨Rect.unit (s := ⟨2, ![n, 512]⟩) ![0, 0] ![n, 512] inb, z⟩] :=
  fun y _ => congrFun (View.canon_unit_zero hz _ _) y

theorem keeps_cons {n : ℕ} (z : Vec Ideal ⟨2, ![n, 512]⟩ .f32) (o o' : ℕ) (L : List (View.Piece (Elt Ideal) ⟨2, ![n, 512]⟩ .f32)) (h : Keeps z o L) (ho : o' = o + 128)
    (inb : ∀ a, (![0, o] : Fin 2 → Nat) a + (![n, 128] : Fin 2 → Nat) a ≤ (⟨2, ![n, 512]⟩ : Shape).size a)
    (w : (Rect.unit (s := ⟨2, ![n, 512]⟩) ![0, o] ![n, 128] inb).shape.Idx → Elt Ideal .f32)  :
    Keeps z o' (⟨Rect.unit (s := ⟨2, ![n, 512]⟩) ![0, o] ![n, 128] inb, w⟩ :: L) := by
  intro y hy
  have hn := (not_mem_cols o inb y).2 (Or.inr (by omega))
  exact (View.canon_cons_of_not_mem _ L hn).trans (h y (by omega))

theorem keeps_read {n : ℕ} (z : Vec Ideal ⟨2, ![n, 512]⟩ .f32) (g : Fin 4) (o : ℕ) (ho : o = 128 * g.val) (L : List (View.Piece (Elt Ideal) ⟨2, ![n, 512]⟩ .f32)) (h : Keeps z o L)
    {sig' : RefSig} {κ : Kind} {sp : Space} (v : View sig' κ sp ⟨2, ![n, 512]⟩ .f32)
    (inb : ∀ a, (![0, o] : Fin 2 → Nat) a + (![n, 128] : Fin 2 → Nat) a ≤ (⟨2, ![n, 512]⟩ : Shape).size a) :
    v.readCov L (Rect.unit (s := ⟨2, ![n, 512]⟩) ![0, o] ![n, 128] inb).toLoadRect = cols z g := by
  funext j
  unfold View.readCov
  rw [View.readAt_writes_junk_eq_canon]
  refine (h _ ?_).trans (congrArg z (idx_cols g o ho inb j))
  show o ≤ o + 1 * (j 1).val
  omega

/-- Pieces that leave the starting values `z` in the matrices from `o` on. -/
def KeepsSlab (z : Vec Ideal S4x128x128 .f32) (o : ℕ) (L : List (View.Piece (Elt Ideal) S4x128x128 .f32)) : Prop :=
  ∀ y : S4x128x128.Idx, o ≤ (y 0).val → View.canon L y = z y

theorem hz3 : (![0, 0, 0] : Fin 3 → Nat) = fun _ => 0 := funext fun a => by fin_cases a <;> rfl

theorem keepsSlab_base (z : Vec Ideal S4x128x128 .f32) (inb : ∀ a, (![0, 0, 0] : Fin 3 → Nat) a + (![4, 128, 128] : Fin 3 → Nat) a ≤ S4x128x128.size a) :
    KeepsSlab z 0 [⟨Rect.unit (s := S4x128x128) ![0, 0, 0] ![4, 128, 128] inb, z⟩] :=
  fun y _ => congrFun (View.canon_unit_zero hz3 _ _) y

theorem keepsSlab_cons (z : Vec Ideal S4x128x128 .f32) (o o' : ℕ) (L : List (View.Piece (Elt Ideal) S4x128x128 .f32)) (h : KeepsSlab z o L) (ho : o' = o + 1)
    (inb : ∀ a, (![o, 0, 0] : Fin 3 → Nat) a + (![1, 128, 128] : Fin 3 → Nat) a ≤ S4x128x128.size a)
    (w : (Rect.unit (s := S4x128x128) ![o, 0, 0] ![1, 128, 128] inb).shape.Idx → Elt Ideal .f32)  :
    KeepsSlab z o' (⟨Rect.unit (s := S4x128x128) ![o, 0, 0] ![1, 128, 128] inb, w⟩ :: L) := by
  intro y hy
  have hn := (not_mem_slab o inb y).2 (by omega)
  exact (View.canon_cons_of_not_mem _ L hn).trans (h y (by omega))

theorem keepsSlab_read (z : Vec Ideal S4x128x128 .f32) (g : Fin 4) (o : ℕ) (ho : o = g.val) (L : List (View.Piece (Elt Ideal) S4x128x128 .f32)) (h : KeepsSlab z o L)
    {sig' : RefSig} {κ : Kind} {sp : Space} (v : View sig' κ sp S4x128x128 .f32)
    (inb : ∀ a, (![o, 0, 0] : Fin 3 → Nat) a + (![1, 128, 128] : Fin 3 → Nat) a ≤ S4x128x128.size a) :
    v.readCov L (Rect.unit (s := S4x128x128) ![o, 0, 0] ![1, 128, 128] inb).toLoadRect = slab z g := by
  funext j
  unfold View.readCov
  rw [View.readAt_writes_junk_eq_canon]
  refine (h _ ?_).trans (congrArg z (idx_slab g o ho inb j))
  show o ≤ o + 1 * (j 0).val
  omega

/-! ## What each point leaves -/

/-- A group's window. -/
def wid (g : Fin 4) : BitVec 32 := BitVec.ofNat 32 (2 ^ (g.val + 1))

/-- A block of the input's gradient, the block's sixteen quotients kept for the next point, and the two sums' steps, by group. -/
def duG (v4 : BitVec 32) (x0 : Vec Ideal S512x512 .f32) (x2 : Vec Ideal S4x128x128 .f32) (x3 : Vec Ideal S1x512 .f32) (xs : Vec Ideal S16x512 .f32) (g : Fin 4) : Vec Ideal S512x128 .bf16 := fun j =>
  (∑ l ∈ Finset.range (2 ^ (g.val + 1)), eRow (wid g) v4 (slab x2 g) (cols x0 g) (cols x3 g) (cols xs g) (j 1) ((j 0).val + l)
    - dpooled (slab x2 g) (cols x0 g) (cols x3 g) (ix2 (j 0) (j 1)) : EReal)
def topG (v4 : BitVec 32) (x0 : Vec Ideal S512x512 .f32) (x2 : Vec Ideal S4x128x128 .f32) (x3 : Vec Ideal S1x512 .f32) (g : Fin 4) : Vec Ideal S16x128 .f32 :=
  top (wid g) v4 (slab x2 g) (cols x0 g) (cols x3 g)
def dwG (x0 : Vec Ideal S512x512 .f32) (x1 : Vec Ideal S512x512 .bf16) (x3 : Vec Ideal S1x512 .f32) (acc : Vec Ideal S4x128x128 .f32) (g : Fin 4) : Vec Ideal S1x128x128 .f32 :=
  k0_pay7 (cols x1 g) (cols x0 g) (cols x3 g) (slab acc g)
def dsG (x0 : Vec Ideal S512x512 .f32) (x1 : Vec Ideal S512x512 .bf16) (x2 : Vec Ideal S4x128x128 .f32) (acc : Vec Ideal S1x512 .f32) (g : Fin 4) : Vec Ideal S1x128 .f32 :=
  k0_pay5 (slab x2 g) (cols x1 g) (cols x0 g) (cols acc g)

section DuGroups
variable (v4 : BitVec 32) (x0 : Vec Ideal S512x512 .f32) (x2 : Vec Ideal S4x128x128 .f32) (x3 : Vec Ideal S1x512 .f32) (xs : Vec Ideal S16x512 .f32)

theorem duG0 : k0_pay11 v4 (k0_pay4 (slab x2 0)) (k0_pay6 (cols x0 0) (cols x3 0)) (constant (F := Ideal) S512x128 .f32 0x00000000#32) (cols xs 0) = duG v4 x0 x2 x3 xs 0 := by
  rw [du0]; funext j; rw [eq_ix2 j]
  exact fin_sum _ _ _ _ _ _ 2 (by norm_num) _ (up2 _ _ _ _ _ _) (j 0) (j 1)
theorem duG1 : k0_pay19 v4 (k0_pay12 (slab x2 1)) (cols x0 1) (cols x3 1) (cols xs 1) = duG v4 x0 x2 x3 xs 1 := by
  rw [du1]; funext j; rw [eq_ix2 j]
  exact fin_sum _ _ _ _ _ _ 4 (by norm_num) _ (up4 _ _ _ _ _ _) (j 0) (j 1)
theorem duG2 : k0_pay28 (k0_pay24 (slab x2 2) (cols x0 2) (cols x3 2)) (k0_pay25 v4) (cols xs 2) = duG v4 x0 x2 x3 xs 2 := by
  rw [du2]; funext j; rw [eq_ix2 j]
  exact fin_sum _ _ _ _ _ _ 8 (by norm_num) _ (up8 _ _ _ _ _ _) (j 0) (j 1)
theorem duG3 : k0_pay37 v4 (k0_pay29 (slab x2 3)) (cols x0 3) (k0_pay31 (cols x3 3)) (cols xs 3) = duG v4 x0 x2 x3 xs 3 := by
  rw [du3]; funext j; rw [eq_ix2 j]
  exact fin_sum _ _ _ _ _ _ 16 (by norm_num) _ (up16 _ _ _ _ _ _) (j 0) (j 1)

end DuGroups

section Cases

variable (c : Dev nD) (i : grid0.Coords)
  (a1 : Memref sig .tc .vmem S512x512 .f32) (h1 : a1.IsWhole)
  (a2 : Memref sig .tc .vmem S512x512 .bf16) (h2 : a2.IsWhole)
  (a3 : Memref sig .tc .vmem S4x128x128 .f32) (h3 : a3.IsWhole)
  (a4 : Memref sig .tc .vmem S1x512 .f32) (h4 : a4.IsWhole)
  (a5 : Memref sig .tc .vmem S512x512 .bf16) (h5 : a5.IsWhole)
  (a6 : Memref sig .tc .vmem S4x128x128 .f32) (h6 : a6.IsWhole)
  (a7 : Memref sig .tc .vmem S1x512 .f32) (h7 : a7.IsWhole)
  (a8 : Memref sig .tc .vmem S16x512 .f32) (h8 : a8.IsWhole)
  (x0 : Vec Ideal S512x512 .f32) (x1 : Vec Ideal S512x512 .bf16) (x2 : Vec Ideal S4x128x128 .f32) (x3 : Vec Ideal S1x512 .f32)

/-- The number of the block's first row, as the kernel computes it. -/
def pos (i : grid0.Coords) : BitVec 32 := Scalar.muli (Scalar.subi (7#32) (BitVec.ofNat 32 ↑(i 0))) 512#32

/-- The first point's block of the input's gradient. -/
theorem out_A_4 (hc0 : cond0_0 i) :
    out0_A_4 c i a1 h1 a2 h2 a3 h3 a4 h4 a5 h5 a6 h6 a7 h7 a8 h8 hc0 x0 x1 x2 x3 = split (duG (pos i) x0 x2 x3 (k0_pay1 (F := Ideal))) := by
  funext y
  unfold out0_A_4
  rw [View.read_writes_eq_canon _ _ _ (cover0_A_4 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread]
  refine canon_cols (duG (pos i) x0 x2 x3 (k0_pay1 (F := Ideal))) ?_ ?_ ?_ ?_ _ _ _ _ _ y
  · rw [ld_slab x2 0 0 rfl, ld_cols x0 0 0 rfl, ld_cols x3 0 0 rfl, keeps_read (k0_pay1 (F := Ideal)) 0 0 rfl _ (keeps_base _ _) a8.view _]; exact duG0 (pos i) x0 x2 x3 _
  · rw [ld_slab x2 1 1 rfl, ld_cols x0 1 128 rfl, ld_cols x3 1 128 rfl, keeps_read (k0_pay1 (F := Ideal)) 1 128 rfl _ (keeps_cons _ 0 128 _ (keeps_base _ _) rfl _ _) a8.view _]; exact duG1 (pos i) x0 x2 x3 _
  · rw [ld_slab x2 2 2 rfl, ld_cols x0 2 256 rfl, ld_cols x3 2 256 rfl, keeps_read (k0_pay1 (F := Ideal)) 2 256 rfl _ (keeps_cons _ 128 256 _ (keeps_cons _ 0 128 _ (keeps_base _ _) rfl _ _) rfl _ _) a8.view _]; exact duG2 (pos i) x0 x2 x3 _
  · rw [ld_slab x2 3 3 rfl, ld_cols x0 3 384 rfl, ld_cols x3 3 384 rfl, keeps_read (k0_pay1 (F := Ideal)) 3 384 rfl _ (keeps_cons _ 256 384 _ (keeps_cons _ 128 256 _ (keeps_cons _ 0 128 _ (keeps_base _ _) rfl _ _) rfl _ _) rfl _ _) a8.view _]; exact duG3 (pos i) x0 x2 x3 _

/-- The first point adds to the weight gradient's sum. -/
theorem out_A_5 (hc0 : cond0_0 i) :
    out0_A_5 c i a1 h1 a2 h2 a3 h3 a4 h4 a5 h5 a6 h6 a7 h7 a8 h8 hc0 x0 x1 x2 x3 = stack (dwG x0 x1 x3 (k0_pay2 (F := Ideal))) := by
  funext y
  unfold out0_A_5
  rw [View.read_writes_eq_canon _ _ _ (cover0_A_5 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread]
  refine canon_slab (dwG x0 x1 x3 (k0_pay2 (F := Ideal))) ?_ ?_ ?_ ?_ _ _ _ _ _ y
  · rw [ld_cols x1 0 0 rfl, ld_cols x0 0 0 rfl, ld_cols x3 0 0 rfl, keepsSlab_read (k0_pay2 (F := Ideal)) 0 0 rfl _ (keepsSlab_base _ _) a6.view _]; rfl
  · rw [ld_cols x1 1 128 rfl, ld_cols x0 1 128 rfl, ld_cols x3 1 128 rfl, keepsSlab_read (k0_pay2 (F := Ideal)) 1 1 rfl _ (keepsSlab_cons _ 0 1 _ (keepsSlab_base _ _) rfl _ _) a6.view _]; exact dw1 _ _ _ _
  · rw [ld_cols x1 2 256 rfl, ld_cols x0 2 256 rfl, ld_cols x3 2 256 rfl, keepsSlab_read (k0_pay2 (F := Ideal)) 2 2 rfl _ (keepsSlab_cons _ 1 2 _ (keepsSlab_cons _ 0 1 _ (keepsSlab_base _ _) rfl _ _) rfl _ _) a6.view _]; exact dw2 _ _ _ _
  · rw [ld_cols x1 3 384 rfl, ld_cols x0 3 384 rfl, ld_cols x3 3 384 rfl, keepsSlab_read (k0_pay2 (F := Ideal)) 3 3 rfl _ (keepsSlab_cons _ 2 3 _ (keepsSlab_cons _ 1 2 _ (keepsSlab_cons _ 0 1 _ (keepsSlab_base _ _) rfl _ _) rfl _ _) rfl _ _) a6.view _]; exact dw3 _ _ _ _

/-- The first point adds to the scale gradient's sum. -/
theorem out_A_6 (hc0 : cond0_0 i) :
    out0_A_6 c i a1 h1 a2 h2 a3 h3 a4 h4 a5 h5 a6 h6 a7 h7 a8 h8 hc0 x0 x1 x2 x3 = split (dsG x0 x1 x2 (k0_pay3 (F := Ideal))) := by
  funext y
  unfold out0_A_6
  rw [View.read_writes_eq_canon _ _ _ (cover0_A_6 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread]
  refine canon_cols (dsG x0 x1 x2 (k0_pay3 (F := Ideal))) ?_ ?_ ?_ ?_ _ _ _ _ _ y
  · rw [ld_slab x2 0 0 rfl, ld_cols x1 0 0 rfl, ld_cols x0 0 0 rfl, keeps_read (k0_pay3 (F := Ideal)) 0 0 rfl _ (keeps_base _ _) a7.view _]; rfl
  · rw [ld_slab x2 1 1 rfl, ld_cols x1 1 128 rfl, ld_cols x0 1 128 rfl, keeps_read (k0_pay3 (F := Ideal)) 1 128 rfl _ (keeps_cons _ 0 128 _ (keeps_base _ _) rfl _ _) a7.view _]; exact ds1 _ _ _ _
  · rw [ld_slab x2 2 2 rfl, ld_cols x1 2 256 rfl, ld_cols x0 2 256 rfl, keeps_read (k0_pay3 (F := Ideal)) 2 256 rfl _ (keeps_cons _ 128 256 _ (keeps_cons _ 0 128 _ (keeps_base _ _) rfl _ _) rfl _ _) a7.view _]; exact ds2 _ _ _ _
  · rw [ld_slab x2 3 3 rfl, ld_cols x1 3 384 rfl, ld_cols x0 3 384 rfl, keeps_read (k0_pay3 (F := Ideal)) 3 384 rfl _ (keeps_cons _ 256 384 _ (keeps_cons _ 128 256 _ (keeps_cons _ 0 128 _ (keeps_base _ _) rfl _ _) rfl _ _) rfl _ _) a7.view _]; exact ds3 _ _ _ _

/-- The first point keeps its first sixteen quotients. -/
theorem head_A (hc0 : cond0_0 i) :
    sout0_A_0 c i a1 h1 a2 h2 a3 h3 a4 h4 a5 h5 a6 h6 a7 h7 a8 h8 hc0 x0 x1 x2 x3 = split (topG (pos i) x0 x2 x3) := by
  funext y
  unfold sout0_A_0
  rw [View.read_writes_eq_canon _ _ _ (scover0_A_0 c i a1 h1 a2 h2 a3 h3 a4 h4 a5 h5 a6 h6 a7 h7 a8 h8 hc0 x0 x1 x2 x3)]
  unfold kernelRun0_A
  dsimp only
  sl_unfold_words
  simp only [View.readAt_eq_ld, h1.read_unread, h2.read_unread, h3.read_unread, h4.read_unread]
  refine canon_cols (topG (pos i) x0 x2 x3) ?_ ?_ ?_ ?_ _ _ _ _ _ y
  · rw [ld_slab x2 0 0 rfl, ld_cols x0 0 0 rfl, ld_cols x3 0 0 rfl]; exact top0 (pos i) _ _ _
  · rw [ld_slab x2 1 1 rfl, ld_cols x0 1 128 rfl, ld_cols x3 1 128 rfl]; exact top1 (pos i) _ _ _
  · rw [ld_slab x2 2 2 rfl, ld_cols x0 2 256 rfl, ld_cols x3 2 256 rfl]; exact top2 (pos i) _ _ _
  · rw [ld_slab x2 3 3 rfl, ld_cols x0 3 384 rfl, ld_cols x3 3 384 rfl]; exact top3 (pos i) _ _ _

/-- A later point's block of the input's gradient. -/
theorem out_B_4 (hc0 : ¬cond0_0 i) (s5 : Vec Ideal S4x128x128 .f32) (s6 : Vec Ideal S1x512 .f32) (xs : Vec Ideal S16x512 .f32) :
    out0_B_4 c i a1 h1 a2 h2 a3 h3 a4 h4 a5 h5 a6 h6 a7 h7 a8 h8 hc0 x0 x1 x2 x3 s5 s6 xs = split (duG (pos i) x0 x2 x3 xs) := by
  funext y
  unfold out0_B_4
  rw [View.read_writes_eq_canon _ _ _ (cover0_B_4 c i a1 h1 a2 h2 a3 h3 a4 h4 a5 h5 a6 h6 a7 h7 a8 h8 hc0 x0 x1 x2 x3 s5 s6 xs)]
  unfold kernelRun0_B
  dsimp only
  sl_unfold_words
  simp only [View.readAt_eq_ld, h1.read_unread, h2.read_unread, h3.read_unread, h4.read_unread, h6.read_unread, h7.read_unread, h8.read_unread]
  refine canon_cols (duG (pos i) x0 x2 x3 xs) ?_ ?_ ?_ ?_ _ _ _ _ _ y
  · rw [ld_slab x2 0 0 rfl, ld_cols x0 0 0 rfl, ld_cols x3 0 0 rfl, ld_cols xs 0 0 rfl]; exact duG0 (pos i) x0 x2 x3 _
  · rw [ld_slab x2 1 1 rfl, ld_cols x0 1 128 rfl, ld_cols x3 1 128 rfl, ld_cols xs 1 128 rfl]; exact duG1 (pos i) x0 x2 x3 _
  · rw [ld_slab x2 2 2 rfl, ld_cols x0 2 256 rfl, ld_cols x3 2 256 rfl, ld_cols xs 2 256 rfl]; exact duG2 (pos i) x0 x2 x3 _
  · rw [ld_slab x2 3 3 rfl, ld_cols x0 3 384 rfl, ld_cols x3 3 384 rfl, ld_cols xs 3 384 rfl]; exact duG3 (pos i) x0 x2 x3 _

/-- A later point adds to the weight gradient's sum. -/
theorem out_B_5 (hc0 : ¬cond0_0 i) (s5 : Vec Ideal S4x128x128 .f32) (s6 : Vec Ideal S1x512 .f32) (xs : Vec Ideal S16x512 .f32) :
    out0_B_5 c i a1 h1 a2 h2 a3 h3 a4 h4 a5 h5 a6 h6 a7 h7 a8 h8 hc0 x0 x1 x2 x3 s5 s6 xs = stack (dwG x0 x1 x3 s5) := by
  funext y
  unfold out0_B_5
  rw [View.read_writes_eq_canon _ _ _ (cover0_B_5 c i a1 h1 a2 h2 a3 h3 a4 h4 a5 h5 a6 h6 a7 h7 a8 h8 hc0 x0 x1 x2 x3 s5 s6 xs)]
  unfold kernelRun0_B
  dsimp only
  sl_unfold_words
  simp only [View.readAt_eq_ld, h1.read_unread, h2.read_unread, h3.read_unread, h4.read_unread, h6.read_unread, h7.read_unread, h8.read_unread]
  refine canon_slab (dwG x0 x1 x3 s5) ?_ ?_ ?_ ?_ _ _ _ _ _ y
  · rw [ld_cols x1 0 0 rfl, ld_cols x0 0 0 rfl, ld_cols x3 0 0 rfl, ld_slab s5 0 0 rfl]; rfl
  · rw [ld_cols x1 1 128 rfl, ld_cols x0 1 128 rfl, ld_cols x3 1 128 rfl, ld_slab s5 1 1 rfl]; exact dw1 _ _ _ _
  · rw [ld_cols x1 2 256 rfl, ld_cols x0 2 256 rfl, ld_cols x3 2 256 rfl, ld_slab s5 2 2 rfl]; exact dw2 _ _ _ _
  · rw [ld_cols x1 3 384 rfl, ld_cols x0 3 384 rfl, ld_cols x3 3 384 rfl, ld_slab s5 3 3 rfl]; exact dw3 _ _ _ _

/-- A later point adds to the scale gradient's sum. -/
theorem out_B_6 (hc0 : ¬cond0_0 i) (s5 : Vec Ideal S4x128x128 .f32) (s6 : Vec Ideal S1x512 .f32) (xs : Vec Ideal S16x512 .f32) :
    out0_B_6 c i a1 h1 a2 h2 a3 h3 a4 h4 a5 h5 a6 h6 a7 h7 a8 h8 hc0 x0 x1 x2 x3 s5 s6 xs = split (dsG x0 x1 x2 s6) := by
  funext y
  unfold out0_B_6
  rw [View.read_writes_eq_canon _ _ _ (cover0_B_6 c i a1 h1 a2 h2 a3 h3 a4 h4 a5 h5 a6 h6 a7 h7 a8 h8 hc0 x0 x1 x2 x3 s5 s6 xs)]
  unfold kernelRun0_B
  dsimp only
  sl_unfold_words
  simp only [View.readAt_eq_ld, h1.read_unread, h2.read_unread, h3.read_unread, h4.read_unread, h6.read_unread, h7.read_unread, h8.read_unread]
  refine canon_cols (dsG x0 x1 x2 s6) ?_ ?_ ?_ ?_ _ _ _ _ _ y
  · rw [ld_slab x2 0 0 rfl, ld_cols x1 0 0 rfl, ld_cols x0 0 0 rfl, ld_cols s6 0 0 rfl]; rfl
  · rw [ld_slab x2 1 1 rfl, ld_cols x1 1 128 rfl, ld_cols x0 1 128 rfl, ld_cols s6 1 128 rfl]; exact ds1 _ _ _ _
  · rw [ld_slab x2 2 2 rfl, ld_cols x1 2 256 rfl, ld_cols x0 2 256 rfl, ld_cols s6 2 256 rfl]; exact ds2 _ _ _ _
  · rw [ld_slab x2 3 3 rfl, ld_cols x1 3 384 rfl, ld_cols x0 3 384 rfl, ld_cols s6 3 384 rfl]; exact ds3 _ _ _ _

/-- A later point keeps its first sixteen quotients. -/
theorem head_B (hc0 : ¬cond0_0 i) (s5 : Vec Ideal S4x128x128 .f32) (s6 : Vec Ideal S1x512 .f32) (xs : Vec Ideal S16x512 .f32) :
    sout0_B_0 c i a1 h1 a2 h2 a3 h3 a4 h4 a5 h5 a6 h6 a7 h7 a8 h8 hc0 x0 x1 x2 x3 s5 s6 xs = split (topG (pos i) x0 x2 x3) := by
  funext y
  unfold sout0_B_0
  rw [View.read_writes_eq_canon _ _ _ (scover0_B_0 c i a1 h1 a2 h2 a3 h3 a4 h4 a5 h5 a6 h6 a7 h7 a8 h8 hc0 x0 x1 x2 x3 s5 s6 xs)]
  unfold kernelRun0_B
  dsimp only
  sl_unfold_words
  simp only [View.readAt_eq_ld, h1.read_unread, h2.read_unread, h3.read_unread, h4.read_unread, h6.read_unread, h7.read_unread, h8.read_unread]
  refine canon_cols (topG (pos i) x0 x2 x3) ?_ ?_ ?_ ?_ _ _ _ _ _ y
  · rw [ld_slab x2 0 0 rfl, ld_cols x0 0 0 rfl, ld_cols x3 0 0 rfl]; exact top0 (pos i) _ _ _
  · rw [ld_slab x2 1 1 rfl, ld_cols x0 1 128 rfl, ld_cols x3 1 128 rfl]; exact top1 (pos i) _ _ _
  · rw [ld_slab x2 2 2 rfl, ld_cols x0 2 256 rfl, ld_cols x3 2 256 rfl]; exact top2 (pos i) _ _ _
  · rw [ld_slab x2 3 3 rfl, ld_cols x0 3 384 rfl, ld_cols x3 3 384 rfl]; exact top3 (pos i) _ _ _

end Cases

/-! ## The results at an index -/

/-- Column `512 + f` of the incoming gradient: column `f` of the mixed rows' part. -/
def inner (f : Fin 512) : Fin 1024 := ⟨512 + f.val, by omega⟩

/-- The gradient with respect to the pooled rows. -/
def DP (x0 : S4096x1024.Idx → EReal) (x2 : S4x128x128.Idx → EReal) (x3 : S1x512.Idx → EReal) (s : Fin 4096) (g : Fin 4) (k : Fin 128) : EReal :=
  ∑ d : Fin 128, x0 (ix2 s (inner (lane g d))) * x3 (ix2 0 (lane g d)) * x2 (ix3 g k d)

/-- … divided by the row's count, and by row number, zero past the last row. -/
def Q (x0 : S4096x1024.Idx → EReal) (x2 : S4x128x128.Idx → EReal) (x3 : S1x512.Idx → EReal) (g : Fin 4) (k : Fin 128) (n : ℕ) : EReal :=
  if h : n < 4096 then Ideal.div (DP x0 x2 x3 ⟨n, h⟩ g k) (cnt (wid g) n) else 0

/-- The gradient with respect to the pooled rows' inputs: each row's window sum of the quotients less its own gradient. -/
def dU (x0 : S4096x1024.Idx → EReal) (x2 : S4x128x128.Idx → EReal) (x3 : S1x512.Idx → EReal) (s : Fin 4096) (g : Fin 4) (k : Fin 128) : EReal :=
  ∑ l ∈ Finset.range (2 ^ (g.val + 1)), Q x0 x2 x3 g k (s.val + l) - DP x0 x2 x3 s g k

/-- One row's part of the weight's gradient and of the scale's. -/
def dWr (x0 : S4096x1024.Idx → EReal) (x1 : S4096x512.Idx → EReal) (x3 : S1x512.Idx → EReal) (g : Fin 4) (k d : Fin 128) (s : Fin 4096) : EReal :=
  x1 (ix2 s (lane g k)) * (x0 (ix2 s (inner (lane g d))) * x3 (ix2 0 (lane g d)))
def dSr (x0 : S4096x1024.Idx → EReal) (x1 : S4096x512.Idx → EReal) (x2 : S4x128x128.Idx → EReal) (g : Fin 4) (k : Fin 128) (s : Fin 4096) : EReal :=
  x0 (ix2 s (inner (lane g k))) * ∑ q : Fin 128, x1 (ix2 s (lane g q)) * x2 (ix3 g q k)

variable (m : (ℓ : Loc nD τ sig) → Buf (Elt Ideal) ℓ) (ρ : Dev nD → PrngReg)

/-- Device `c`'s three results. -/
def res0 (c : Dev nD) : S4096x512.Idx → EReal := fun i =>
  dU (m (c.tc.loc main_arg0)) (m (c.tc.loc main_arg2)) (m (c.tc.loc main_arg3)) (i 0) (grp (i 1)) (off (i 1))
def res1 (c : Dev nD) : S4x128x128.Idx → EReal := fun i =>
  ∑ s : Fin 4096, dWr (m (c.tc.loc main_arg0)) (m (c.tc.loc main_arg1)) (m (c.tc.loc main_arg3)) (i 0) (i 1) (i 2) s
def res2 (c : Dev nD) : S1x512.Idx → EReal := fun i =>
  ∑ s : Fin 4096, dSr (m (c.tc.loc main_arg0)) (m (c.tc.loc main_arg1)) (m (c.tc.loc main_arg2)) (grp (i 1)) (off (i 1)) s

/-- The points take the blocks of 512 rows from the last to the first. -/
def start (t : Fin cfg0.N) : ℕ := (7 - t.val) * 512

/-- The row of the whole arrays that row `k` of point `t`'s block is. -/
def row (t : Fin cfg0.N) (k : Fin 512) : Fin 4096 := ⟨start t + k.val, by unfold start; omega⟩

theorem pos_eq (t : Fin cfg0.N) : pos (grid0.coords t) = BitVec.ofNat 32 (start t) := by
  revert t; decide

/-- Point `t`'s block of the incoming gradient: its 512 rows, the last 512 columns. -/
theorem iblk0 (c : Dev nD) (t : Fin cfg0.N) (r : Fin 512) (k : Fin 512) :
    (iblk m c 0 t : Vec Ideal S512x512 .f32) (ix2 r k) = m (c.tc.loc main_arg0) (ix2 (row t r) (inner k)) := by
  have hi : win0_0.index t 0 = 7 - t.val ∧ win0_0.index t 1 = 1 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = (7 - t.val) * 512 + r.val; rw [hi.1]; omega
  | ⟨1, _⟩ => show win0_0.index t 1 * 512 + 1 * k.val = 512 + k.val; rw [hi.2]; omega

/-- Point `t`'s block of the pooled rows: its 512 rows. -/
theorem iblk1 (c : Dev nD) (t : Fin cfg0.N) (r : Fin 512) (k : Fin 512) :
    (iblk m c 1 t : Vec Ideal S512x512 .bf16) (ix2 r k) = m (c.tc.loc main_arg1) (ix2 (row t r) k) := by
  have hi : win0_1.index t 0 = 7 - t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 512 + 1 * r.val = (7 - t.val) * 512 + r.val; rw [hi.1]; omega
  | ⟨1, _⟩ => show win0_1.index t 1 * 512 + 1 * k.val = k.val; rw [hi.2]; omega

/-- Every point's block of the weights is the whole array. -/
theorem iblk2 (c : Dev nD) (t : Fin cfg0.N) (g : Fin 4) (k d : Fin 128) :
    (iblk m c 2 t : Vec Ideal S4x128x128 .f32) (ix3 g k d) = m (c.tc.loc main_arg2) (ix3 g k d) := by
  have hi : win0_2.index t 0 = 0 ∧ win0_2.index t 1 = 0 ∧ win0_2.index t 2 = 0 := by revert t; decide
  unfold iblk
  rw [View.read_apply]
  show m (c.tc.loc main_arg2) _ = m (c.tc.loc main_arg2) _
  congr 1
  funext a
  apply Fin.ext
  match a with
  | ⟨0, _⟩ => show win0_2.index t 0 * 4 + 1 * g.val = g.val; rw [hi.1]; omega
  | ⟨1, _⟩ => show win0_2.index t 1 * 128 + 1 * k.val = k.val; rw [hi.2.1]; omega
  | ⟨2, _⟩ => show win0_2.index t 2 * 128 + 1 * d.val = d.val; rw [hi.2.2]; omega

/-- Every point's block of the scale is the whole array. -/
theorem iblk3 (c : Dev nD) (t : Fin cfg0.N) (r : Fin 1) (k : Fin 512) :
    (iblk m c 3 t : Vec Ideal S1x512 .f32) (ix2 r k) = m (c.tc.loc main_arg3) (ix2 r k) := by
  have hi : win0_3.index t 0 = 0 ∧ win0_3.index t 1 = 0 := by revert t; decide
  unfold iblk
  rw [View.read_apply]
  show m (c.tc.loc main_arg3) _ = m (c.tc.loc main_arg3) _
  congr 1
  funext a
  apply Fin.ext
  match a with
  | ⟨0, _⟩ => show win0_3.index t 0 * 1 + 1 * r.val = r.val; rw [hi.1]; omega
  | ⟨1, _⟩ => show win0_3.index t 1 * 512 + 1 * k.val = k.val; rw [hi.2]; omega

theorem mulE {a b a' b' : EReal} (h : a = a') (h' : b = b') : a * b = a' * b' := by rw [h, h']

theorem dp_blk (c : Dev nD) (t : Fin cfg0.N) (g : Fin 4) (r : Fin 512) (k : Fin 128) :
    dpooled (slab (iblk m c 2 t) g) (cols (iblk m c 0 t) g) (cols (iblk m c 3 t) g) (ix2 r k)
      = DP (m (c.tc.loc main_arg0)) (m (c.tc.loc main_arg2)) (m (c.tc.loc main_arg3)) (row t r) g k :=
  (dpooled_apply _ _ _ r k).trans (Finset.sum_congr rfl fun d _ =>
    mulE (mulE (iblk0 m c t r (lane g d)) (iblk3 m c t 0 (lane g d))) (iblk2 m c t g k d))

theorem quot_blk (c : Dev nD) (t : Fin cfg0.N) (g : Fin 4) (r : Fin 512) (k : Fin 128) :
    quot (wid g) (pos (grid0.coords t)) (slab (iblk m c 2 t) g) (cols (iblk m c 0 t) g) (cols (iblk m c 3 t) g) (ix2 r k)
      = Q (m (c.tc.loc main_arg0)) (m (c.tc.loc main_arg2)) (m (c.tc.loc main_arg3)) g k (start t + r.val) := by
  rw [quot_apply, dp_blk, pos_eq, counts_apply]
  unfold Q
  rw [dif_pos (show start t + r.val < 4096 from (row t r).isLt)]
  rfl

/-- What a point keeps for the next: the quotients of its first sixteen rows. -/
theorem head_eq (c : Dev nD) (t : Fin cfg0.N) (g : Fin 4) (r : Fin 16) (k : Fin 128) :
    (outsAt0 m c t.val t.isLt).2.2.2 (ix2 r (lane g k))
      = Q (m (c.tc.loc main_arg0)) (m (c.tc.loc main_arg2)) (m (c.tc.loc main_arg3)) g k (start t + r.val) := by
  have h : (outsAt0 m c t.val t.isLt).2.2.2 = split (topG (pos (grid0.coords t)) (iblk m c 0 t) (iblk m c 2 t) (iblk m c 3 t)) := by
    by_cases h0 : t.val % 8 = 0
    · rw [outsAt0_A m c t h0]
      dsimp only
      rw [head_A]
    · rw [outsAt0_B m c t h0]
      dsimp only
      rw [head_B]
  rw [h, split_lane]
  exact (top_apply _ _ _ _ _ r k).trans (quot_blk m c t g ⟨r.val, by omega⟩ k)

/-- A group's block of the first result, given the quotients of the sixteen rows after it. -/
theorem du_blk (c : Dev nD) (t : Fin cfg0.N) (xs : Vec Ideal S16x512 .f32)
    (hxs : ∀ (g : Fin 4) (r : Fin 16) (k : Fin 128), xs (ix2 r (lane g k))
      = Q (m (c.tc.loc main_arg0)) (m (c.tc.loc main_arg2)) (m (c.tc.loc main_arg3)) g k (start t + 512 + r.val))
    (r : Fin 512) (f : Fin 512) :
    split (duG (pos (grid0.coords t)) (iblk m c 0 t) (iblk m c 2 t) (iblk m c 3 t) xs) (ix2 r f) = res0 m c (ix2 (row t r) f) := by
  show (_ - _ : EReal) = (_ - _ : EReal)
  refine congrArg₂ (fun a b : EReal => a - b) (Finset.sum_congr rfl fun l hl => ?_) (dp_blk m c t (grp f) r (off f))
  show eRow _ _ _ _ _ _ (off f) (r.val + l) = Q _ _ _ (grp f) (off f) (start t + r.val + l)
  have hl2 : l < 2 ^ ((grp f).val + 1) := Finset.mem_range.1 hl
  have hp : 2 ^ ((grp f).val + 1) ≤ 2 ^ 4 := Nat.pow_le_pow_right (by norm_num) (by have := (grp f).isLt; omega)
  unfold eRow extRow
  split_ifs with h h2
  · exact (quot_blk m c t (grp f) ⟨r.val + l, h⟩ (off f)).trans (congrArg (Q _ _ _ _ _) (by simp only; omega))
  · exact (hxs (grp f) ⟨r.val + l - 512, h2⟩ (off f)).trans (congrArg (Q _ _ _ _ _) (by simp only; omega))
  · omega

theorem zero16 (i : S16x512.Idx) : (k0_pay1 (F := Ideal)) i = (0 : EReal) := by
  rw [eq_ix2 i]
  unfold_payloads
  pointwise

theorem zeroW (i : S4x128x128.Idx) : (k0_pay2 (F := Ideal)) i = (0 : EReal) := by
  rw [eq_ix3 i]
  unfold_payloads
  pointwise

theorem zeroS (i : S1x512.Idx) : (k0_pay3 (F := Ideal)) i = (0 : EReal) := by
  rw [eq_ix2 i]
  unfold_payloads
  pointwise

/-- What each point leaves of the first result. -/
theorem outs4 (c : Dev nD) (r : Fin 512) (f : Fin 512) : ∀ (n : ℕ) (h : n < cfg0.N),
    (outsAt0 m c n h).1 (ix2 r f) = res0 m c (ix2 (row ⟨n, h⟩ r) f)
  | 0, h => by
    rw [show outsAt0 m c 0 h = _ from outsAt0_A m c ⟨0, h⟩ (Nat.zero_mod _)]
    dsimp only
    rw [out_A_4]
    refine du_blk m c ⟨0, h⟩ _ (fun g r k => ?_) r f
    rw [zero16]
    unfold Q
    rw [dif_neg (by unfold start; simp only; omega)]
  | n + 1, h => by
    have hN : cfg0.N = 8 := N_0
    rw [show outsAt0 m c (n + 1) h = _ from outsAt0_B m c ⟨n + 1, h⟩ (by show ¬(n + 1) % 8 = 0; omega)]
    dsimp only
    rw [out_B_4]
    refine du_blk m c ⟨n + 1, h⟩ _ (fun g r k => ?_) r f
    exact (head_eq m c ⟨n, Nat.lt_of_succ_lt h⟩ g r k).trans (congrArg (Q _ _ _ _ _) (by unfold start; simp only; omega))

/-- Where point `t`'s block of the first result lies. -/
theorem blk4_apply (t : Fin cfg0.N) (G : S4096x512.Idx → EReal) (r : Fin 512) (f : Fin 512) :
    ((win0_4.blk t).view.read (Elt Ideal) G : Vec Ideal S512x512 .bf16) (ix2 r f) = G (ix2 (row t r) f) := by
  have hi : win0_4.index t 0 = 7 - t.val ∧ win0_4.index t 1 = 0 := by revert t; decide
  rw [View.read_apply]
  show G _ = G _
  congr 1
  funext a
  apply Fin.ext
  match a with
  | ⟨0, _⟩ => show win0_4.index t 0 * 512 + 1 * r.val = (7 - t.val) * 512 + r.val; rw [hi.1]; omega
  | ⟨1, _⟩ => show win0_4.index t 1 * 512 + 1 * f.val = f.val; rw [hi.2]; omega

/-- What point `t` writes back of the first result. -/
theorem flushed4_eq (c : Dev nD) (t : Fin cfg0.N) :
    (dats m 0 c).flushed 4 t = (win0_4.blk t).view.read (Elt Ideal) (res0 m c) := by
  rw [Value.flushed4]
  funext i
  rw [eq_ix2 i]
  refine Eq.trans ?_ (blk4_apply t _ (i 0) (i 1)).symm
  exact outs4 m c (i 0) (i 1) t.val t.isLt

theorem mem_blk4 (t : Fin cfg0.N) (i : S4096x512.Idx) :
    i ∈ ((cfg0.win 4).blk t).view.set ↔ start t ≤ (i 0 : Nat) ∧ (i 0 : Nat) < start t + 512 := by
  show i ∈ ((View.whole main_v0_0).slice (win0_4.rect t)).set ↔ _
  rw [View.set_slice_whole, Rect.mem_set_unit]
  have h1 : (i 1 : Nat) < 512 := (i 1).isLt
  have e : win0_4.index t 0 * win0_4.size 0 = start t ∧ win0_4.xsize (grid0.coords t) 0 = 512
      ∧ win0_4.index t 1 * win0_4.size 1 = 0 ∧ win0_4.xsize (grid0.coords t) 1 = 512 := by revert t; decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0; rw [e.1, e.2.1]; exact h
    | ⟨1, _⟩ => show win0_4.index t 1 * win0_4.size 1 ≤ (i 1 : Nat) ∧ (i 1 : Nat) < win0_4.index t 1 * win0_4.size 1 + win0_4.xsize (grid0.coords t) 1; rw [e.2.2.1, e.2.2.2]; omega

theorem cover4 (i : S4096x512.Idx) :
    ∃ t : Fin cfg0.N, (cfg0.win 4).flush t = true ∧ i ∈ ((cfg0.win 4).blk t).view.set := by
  have h0 : (i 0 : Nat) < 4096 := (i 0).isLt
  have hN : cfg0.N = 8 := N_0
  refine ⟨⟨7 - (i 0 : Nat) / 512, by omega⟩, flush0_4 _, ?_⟩
  rw [mem_blk4]
  unfold start
  dsimp only
  omega

/-- The first result after the run. -/
theorem final4 (c : Dev nD) : (dats m 0 c).arrAt 4 cfg0.N = res0 m c :=
  (dats m 0 c).arrAt_eq_of_cover 4 _ (fun t _ => flushed4_eq m c t) cover4

/-- A sum over all rows is the points' sums over their blocks. -/
theorem sum_points (F : Fin 4096 → EReal) (P : ℕ → EReal) (hP : ∀ (t : Fin cfg0.N), P t.val = ∑ r : Fin 512, F (row t r)) :
    ∑ t ∈ Finset.range 8, P t = ∑ s : Fin 4096, F s := by
  have hN : cfg0.N = 8 := N_0
  rw [Fin.sum_univ_tiles 8 512 rfl, ← Finset.sum_range_reflect, Finset.sum_range]
  refine Finset.sum_congr rfl fun t _ => ?_
  refine (hP ⟨8 - 1 - t.val, by omega⟩).trans (Finset.sum_congr rfl fun r _ => congrArg F (Fin.ext ?_))
  show (7 - (8 - 1 - t.val)) * 512 + r.val = _
  rw [show 7 - (8 - 1 - t.val) = t.val by omega]

/-- One point's part of the weight gradient, by the point's number. -/
def part5 (c : Dev nD) (g : Fin 4) (k d : Fin 128) (n : ℕ) : EReal :=
  if h : n < cfg0.N then ∑ r : Fin 512, dWr (m (c.tc.loc main_arg0)) (m (c.tc.loc main_arg1)) (m (c.tc.loc main_arg3)) g k d (row ⟨n, h⟩ r) else 0

theorem point5 (c : Dev nD) (t : Fin cfg0.N) (acc : Vec Ideal S4x128x128 .f32) (g : Fin 4) (k d : Fin 128) :
    stack (dwG (iblk m c 0 t) (iblk m c 1 t) (iblk m c 3 t) acc) (ix3 g k d) = (show EReal from acc (ix3 g k d)) + part5 m c g k d t.val := by
  rw [part5, dif_pos t.isLt]
  exact (dw_apply _ _ _ _ k d).trans (congrArg (fun y : EReal => (show EReal from acc (ix3 g k d)) + y) (Finset.sum_congr rfl fun r _ =>
    mulE (iblk1 m c t r (lane g k)) (mulE (iblk0 m c t r (lane g d)) (iblk3 m c t 0 (lane g d)))))

/-- After point `n` the running sum holds the parts of the points up to it. -/
theorem sums5 (c : Dev nD) (g : Fin 4) (k d : Fin 128) : ∀ (n : ℕ) (h : n < cfg0.N),
    (outsAt0 m c n h).2.1 (ix3 g k d) = ∑ t ∈ Finset.range (n + 1), part5 m c g k d t
  | 0, h => by
    rw [show outsAt0 m c 0 h = _ from outsAt0_A m c ⟨0, h⟩ (Nat.zero_mod _)]
    dsimp only
    rw [out_A_5, point5, zeroW, zero_add, Finset.sum_range_one]
  | n + 1, h => by
    have hN : cfg0.N = 8 := N_0
    rw [show outsAt0 m c (n + 1) h = _ from outsAt0_B m c ⟨n + 1, h⟩ (by show ¬(n + 1) % 8 = 0; omega)]
    dsimp only
    rw [out_B_5, point5, Finset.sum_range_succ]
    congr 1
    exact sums5 c g k d n (Nat.lt_of_succ_lt h)

theorem parts5 (c : Dev nD) (g : Fin 4) (k d : Fin 128) : (∑ t ∈ Finset.range 8, part5 m c g k d t) = res1 m c (ix3 g k d) :=
  sum_points _ _ fun t => by rw [part5, dif_pos t.isLt]; rfl

/-- What the last point writes back of the weight gradient. -/
theorem flushed5_eq (c : Dev nD) (t : Fin cfg0.N) (ht : (cfg0.win 5).flush t = true) :
    (dats m 0 c).flushed 5 t = (win0_5.blk t).view.read (Elt Ideal) (res1 m c) := by
  have hN : cfg0.N = 8 := N_0
  have hl : t = t0_7 := Fin.ext (by have := (flush0_5 t).mp ht; have := t.isLt; show t.val = 7; omega)
  subst hl
  rw [Value.flushed5]
  funext i
  rw [eq_ix3 i]
  have hi : win0_5.index t0_7 0 = 0 ∧ win0_5.index t0_7 1 = 0 ∧ win0_5.index t0_7 2 = 0 := by decide
  refine (sums5 m c (i 0) (i 1) (i 2) 7 t0_7.isLt).trans ?_
  rw [View.read_apply]
  show _ = res1 m c _
  have e : res1 m c ((win0_5.blk t0_7).view.emb (ix3 (i 0) (i 1) (i 2))) = res1 m c (ix3 (i 0) (i 1) (i 2)) := by
    congr 1
    funext a
    apply Fin.ext
    match a with
    | ⟨0, _⟩ => show win0_5.index t0_7 0 * 4 + 1 * (i 0).val = (i 0).val; rw [hi.1]; omega
    | ⟨1, _⟩ => show win0_5.index t0_7 1 * 128 + 1 * (i 1).val = (i 1).val; rw [hi.2.1]; omega
    | ⟨2, _⟩ => show win0_5.index t0_7 2 * 128 + 1 * (i 2).val = (i 2).val; rw [hi.2.2]; omega
  refine Eq.trans ?_ e.symm
  exact parts5 m c (i 0) (i 1) (i 2)

theorem cover5 (i : S4x128x128.Idx) :
    ∃ t : Fin cfg0.N, (cfg0.win 5).flush t = true ∧ i ∈ ((cfg0.win 5).blk t).view.set := by
  have h0 : (i 0 : Nat) < 4 := (i 0).isLt
  have h1 : (i 1 : Nat) < 128 := (i 1).isLt
  have h2 : (i 2 : Nat) < 128 := (i 2).isLt
  have hN : cfg0.N = 8 := N_0
  refine ⟨t0_7, (flush0_5 _).mpr rfl, ?_⟩
  show i ∈ ((View.whole main_v0_1).slice (win0_5.rect t0_7)).set
  rw [View.set_slice_whole, Rect.mem_set_unit]
  have e : (win0_5.index t0_7 0 * win0_5.size 0 = 0 ∧ win0_5.xsize (grid0.coords t0_7) 0 = 4)
      ∧ (win0_5.index t0_7 1 * win0_5.size 1 = 0 ∧ win0_5.xsize (grid0.coords t0_7) 1 = 128)
      ∧ (win0_5.index t0_7 2 * win0_5.size 2 = 0 ∧ win0_5.xsize (grid0.coords t0_7) 2 = 128) := by decide +kernel
  intro a
  match a with
  | ⟨0, _⟩ => show win0_5.index t0_7 0 * win0_5.size 0 ≤ (i 0 : Nat) ∧ (i 0 : Nat) < win0_5.index t0_7 0 * win0_5.size 0 + win0_5.xsize (grid0.coords t0_7) 0; rw [e.1.1, e.1.2]; omega
  | ⟨1, _⟩ => show win0_5.index t0_7 1 * win0_5.size 1 ≤ (i 1 : Nat) ∧ (i 1 : Nat) < win0_5.index t0_7 1 * win0_5.size 1 + win0_5.xsize (grid0.coords t0_7) 1; rw [e.2.1.1, e.2.1.2]; omega
  | ⟨2, _⟩ => show win0_5.index t0_7 2 * win0_5.size 2 ≤ (i 2 : Nat) ∧ (i 2 : Nat) < win0_5.index t0_7 2 * win0_5.size 2 + win0_5.xsize (grid0.coords t0_7) 2; rw [e.2.2.1, e.2.2.2]; omega

/-- The weight gradient after the run. -/
theorem final5 (c : Dev nD) : (dats m 0 c).arrAt 5 cfg0.N = res1 m c :=
  (dats m 0 c).arrAt_eq_of_cover 5 _ (fun t ht => flushed5_eq m c t ht) cover5

/-- One point's part of the scale gradient, by the point's number. -/
def part6 (c : Dev nD) (g : Fin 4) (k : Fin 128) (n : ℕ) : EReal :=
  if h : n < cfg0.N then ∑ r : Fin 512, dSr (m (c.tc.loc main_arg0)) (m (c.tc.loc main_arg1)) (m (c.tc.loc main_arg2)) g k (row ⟨n, h⟩ r) else 0

theorem point6 (c : Dev nD) (t : Fin cfg0.N) (acc : Vec Ideal S1x512 .f32) (f : Fin 512) :
    split (dsG (iblk m c 0 t) (iblk m c 1 t) (iblk m c 2 t) acc) (ix2 0 f) = (show EReal from acc (ix2 0 f)) + part6 m c (grp f) (off f) t.val := by
  rw [part6, dif_pos t.isLt]
  refine (ds_apply _ _ _ _ (off f)).trans (congrArg₂ (fun x y : EReal => x + y) ?_ (Finset.sum_congr rfl fun r _ =>
    mulE (iblk0 m c t r (lane (grp f) (off f))) (Finset.sum_congr rfl fun q _ => mulE (iblk1 m c t r (lane (grp f) q)) (iblk2 m c t (grp f) q (off f)))))
  exact congrArg (fun z : Fin 512 => acc (ix2 0 z)) (lane_grp f)

/-- After point `n` the running sum holds the parts of the points up to it. -/
theorem sums6 (c : Dev nD) (f : Fin 512) : ∀ (n : ℕ) (h : n < cfg0.N),
    (outsAt0 m c n h).2.2.1 (ix2 0 f) = ∑ t ∈ Finset.range (n + 1), part6 m c (grp f) (off f) t
  | 0, h => by
    rw [show outsAt0 m c 0 h = _ from outsAt0_A m c ⟨0, h⟩ (Nat.zero_mod _)]
    dsimp only
    rw [out_A_6, point6, zeroS, zero_add, Finset.sum_range_one]
  | n + 1, h => by
    have hN : cfg0.N = 8 := N_0
    rw [show outsAt0 m c (n + 1) h = _ from outsAt0_B m c ⟨n + 1, h⟩ (by show ¬(n + 1) % 8 = 0; omega)]
    dsimp only
    rw [out_B_6, point6, Finset.sum_range_succ]
    congr 1
    exact sums6 c f n (Nat.lt_of_succ_lt h)

theorem parts6 (c : Dev nD) (f : Fin 512) : (∑ t ∈ Finset.range 8, part6 m c (grp f) (off f) t) = res2 m c (ix2 0 f) :=
  sum_points _ _ fun t => by rw [part6, dif_pos t.isLt]; rfl

/-- The last point's block of the scale gradient is the whole array. -/
theorem blk6_apply (G : S1x512.Idx → EReal) (f : Fin 512) :
    ((win0_6.blk t0_7).view.read (Elt Ideal) G : Vec Ideal S1x512 .f32) (ix2 0 f) = G (ix2 0 f) := by
  have hi : win0_6.index t0_7 0 = 0 ∧ win0_6.index t0_7 1 = 0 := by decide
  rw [View.read_apply]
  show G _ = G _
  congr 1
  funext a
  apply Fin.ext
  match a with
  | ⟨0, _⟩ => show win0_6.index t0_7 0 * 1 + 1 * 0 = 0; rw [hi.1]
  | ⟨1, _⟩ => show win0_6.index t0_7 1 * 512 + 1 * f.val = f.val; rw [hi.2]; omega

/-- What the last point writes back of the scale gradient. -/
theorem flushed6_eq (c : Dev nD) (t : Fin cfg0.N) (ht : (cfg0.win 6).flush t = true) :
    (dats m 0 c).flushed 6 t = (win0_6.blk t).view.read (Elt Ideal) (res2 m c) := by
  have hN : cfg0.N = 8 := N_0
  have hl : t = t0_7 := Fin.ext (by have := (flush0_6 t).mp ht; have := t.isLt; show t.val = 7; omega)
  subst hl
  rw [Value.flushed6]
  refine funext fun (i : S1x512.Idx) => ?_
  have hz0 : (show Fin 1 from i 0) = 0 := Subsingleton.elim _ _
  have hii : i = ix2 (0 : Fin 1) (i 1) := (eq_ix2 i).trans (congrArg (fun z : Fin 1 => ix2 z (i 1)) hz0)
  rw [hii]
  exact ((sums6 m c (i 1) 7 t0_7.isLt).trans (parts6 m c (i 1))).trans (blk6_apply (res2 m c) (i 1)).symm

theorem cover6 (i : S1x512.Idx) :
    ∃ t : Fin cfg0.N, (cfg0.win 6).flush t = true ∧ i ∈ ((cfg0.win 6).blk t).view.set := by
  have h0 : (i 0 : Nat) < 1 := (i 0).isLt
  have h1 : (i 1 : Nat) < 512 := (i 1).isLt
  have hN : cfg0.N = 8 := N_0
  refine ⟨t0_7, (flush0_6 _).mpr rfl, ?_⟩
  show i ∈ ((View.whole main_v0_2).slice (win0_6.rect t0_7)).set
  rw [View.set_slice_whole, Rect.mem_set_unit]
  have e : win0_6.index t0_7 0 * win0_6.size 0 = 0 ∧ win0_6.xsize (grid0.coords t0_7) 0 = 1
      ∧ win0_6.index t0_7 1 * win0_6.size 1 = 0 ∧ win0_6.xsize (grid0.coords t0_7) 1 = 512 := by decide +kernel
  intro a
  match a with
  | ⟨0, _⟩ => show win0_6.index t0_7 0 * win0_6.size 0 ≤ (i 0 : Nat) ∧ (i 0 : Nat) < win0_6.index t0_7 0 * win0_6.size 0 + win0_6.xsize (grid0.coords t0_7) 0; rw [e.1, e.2.1]; omega
  | ⟨1, _⟩ => show win0_6.index t0_7 1 * win0_6.size 1 ≤ (i 1 : Nat) ∧ (i 1 : Nat) < win0_6.index t0_7 1 * win0_6.size 1 + win0_6.xsize (grid0.coords t0_7) 1; rw [e.2.2.1, e.2.2.2]; omega

/-- The scale gradient after the run. -/
theorem final6 (c : Dev nD) : (dats m 0 c).arrAt 6 cfg0.N = res2 m c :=
  (dats m 0 c).arrAt_eq_of_cover 6 _ (fun t ht => flushed6_eq m c t ht) cover6

/-! ## The reference's term -/

section Reference

open Cert.PoolGradReferenceIdeal.Value
open Cert.PoolGradReferenceIdeal (S4x128x4096 S4096x4x128 S4096x4096 S4096x1 S4096x128)

variable (V : Valuation Cert.PoolGradReferenceIdeal.τ Cert.PoolGradReferenceIdeal.sig (Elt Ideal))

/-- A group's block of 128 columns padded with zeros to the full width, at an index. -/
theorem pad_at (o hi : ℕ) (x : S4096x128.Idx → EReal) (z : Cert.PoolGradReferenceIdeal.S_.Idx → EReal)
    (h : S4096x128.Pads (![0, o] : Fin 2 → Nat) ![0, hi] ![0, 0] S4096x512) (hu : 0 < Cert.PoolGradReferenceIdeal.S_.numel)
    (hz : ∀ i, z i = 0) (s : Fin 4096) (f : Fin 512) :
    pad S4096x512 ![0, o] ![0, hi] ![0, 0] x z h hu (ix2 s f)
      = if hf : o ≤ f.val ∧ f.val < o + 128 then x (ix2 s ⟨f.val - o, by omega⟩) else 0 := by
  have iff1 : (∀ a : Fin 2, (![0, o] : Fin 2 → Nat) a ≤ ((ix2 s f : S4096x512.Idx) (a.cast h.1)).val
      ∧ (((ix2 s f : S4096x512.Idx) (a.cast h.1)).val - (![0, o] : Fin 2 → Nat) a) % ((![0, 0] : Fin 2 → Nat) a + 1) = 0
      ∧ (((ix2 s f : S4096x512.Idx) (a.cast h.1)).val - (![0, o] : Fin 2 → Nat) a) / ((![0, 0] : Fin 2 → Nat) a + 1) < S4096x128.size a)
      ↔ o ≤ f.val ∧ f.val < o + 128 := by
    constructor
    · intro hh
      have h1 : o ≤ f.val ∧ (f.val - o) % (0 + 1) = 0 ∧ (f.val - o) / (0 + 1) < 128 := hh 1
      omega
    · intro hh a
      match a with
      | ⟨0, _⟩ => show 0 ≤ s.val ∧ (s.val - 0) % (0 + 1) = 0 ∧ (s.val - 0) / (0 + 1) < 4096; omega
      | ⟨1, _⟩ => show o ≤ f.val ∧ (f.val - o) % (0 + 1) = 0 ∧ (f.val - o) / (0 + 1) < 128; omega
  unfold pad
  by_cases hf : o ≤ f.val ∧ f.val < o + 128
  · rw [dif_pos hf]
    refine (dif_pos (iff1.2 hf)).trans (congrArg x (funext fun a => Fin.ext ?_))
    match a with
    | ⟨0, _⟩ => show (s.val - 0) / (0 + 1) = s.val; omega
    | ⟨1, _⟩ => show (f.val - o) / (0 + 1) = f.val - o; omega
  · rw [dif_neg hf]
    exact (dif_neg fun hh => hf (iff1.1 hh)).trans (hz _)

theorem t14 (g : Fin 4) (k : Fin 128) (s : Fin 4096) : (show EReal from (res_main_v14 V : S4x128x4096.Idx → EReal) (ix3 g k s))
    = (show EReal from V (Proc.devRef .tc Cert.PoolGradReferenceIdeal.main_arg0) (ix2 s (inner (lane g k)))) * V (Proc.devRef .tc Cert.PoolGradReferenceIdeal.main_arg3) (ix2 0 (lane g k)) := by
  unfold res_main_v14 res_main_v7
  pointwise
  have hl : (⟨g.val * 128 + k.val, by omega⟩ : Fin 512) = lane g k := Fin.ext (by simp only [lane]; omega)
  exact congrArg (fun f : Fin 512 => (show EReal from V (Proc.devRef .tc Cert.PoolGradReferenceIdeal.main_arg0) (ix2 s (inner f))) * V (Proc.devRef .tc Cert.PoolGradReferenceIdeal.main_arg3) (ix2 0 f)) hl

theorem t19 (s : Fin 4096) (f : Fin 512) : (show EReal from (res_main_v19 V : S4096x512.Idx → EReal) (ix2 s f))
    = DP (V (Proc.devRef .tc Cert.PoolGradReferenceIdeal.main_arg0)) (V (Proc.devRef .tc Cert.PoolGradReferenceIdeal.main_arg2)) (V (Proc.devRef .tc Cert.PoolGradReferenceIdeal.main_arg3)) s (grp f) (off f) := by
  unfold res_main_v19
  pointwise
  exact Finset.sum_congr rfl fun d _ => congrArg (fun y : EReal => y * V (Proc.devRef .tc Cert.PoolGradReferenceIdeal.main_arg2) (ix3 (grp f) (off f) d)) (t14 V (grp f) d s)

/-- A group's columns of the gradient with respect to the pooled rows. -/
theorem t19_lane (s : Fin 4096) (g : Fin 4) (k : Fin 128) (f : Fin 512) (hf : f = lane g k) : (show EReal from (res_main_v19 V : S4096x512.Idx → EReal) (ix2 s f))
    = DP (V (Proc.devRef .tc Cert.PoolGradReferenceIdeal.main_arg0)) (V (Proc.devRef .tc Cert.PoolGradReferenceIdeal.main_arg2)) (V (Proc.devRef .tc Cert.PoolGradReferenceIdeal.main_arg3)) s g k := by
  rw [t19, hf, grp_lane, off_lane]

/-- An entry of the band: whether row `t` counts row `s`. -/
theorem band_at (w : ℕ) (hw : w < 2 ^ 16) (s t : Fin 4096) :
    (Scalar.select (IntOp.andi (IntOp.cmpi .sle (BitVec.ofNat 32 s.val) (BitVec.ofNat 32 t.val))
        (IntOp.cmpi .slt (BitVec.ofNat 32 t.val) (IntOp.addi (BitVec.ofNat 32 s.val) (BitVec.ofNat 32 w)))) 1 0 : EReal)
      = if s.val ≤ t.val ∧ t.val < s.val + w then 1 else 0 := by
  have e : IntOp.addi (BitVec.ofNat 32 s.val) (BitVec.ofNat 32 w) = BitVec.ofNat 32 (s.val + w) := (BitVec.ofNat_add _ _).symm
  rw [e]
  unfold IntOp.cmpi
  dsimp only
  rw [sle_ofNat _ _ (by omega) (by omega), slt_ofNat _ _ (by omega) (by omega)]
  by_cases h1 : s.val ≤ t.val <;> by_cases h2 : t.val < s.val + w <;> simp [h1, h2] <;> rfl

/-- A group's term: the band's product with the quotients less the gradient is the window sums less the gradient. -/
theorem window (x0 : S4096x1024.Idx → EReal) (x2 : S4x128x128.Idx → EReal) (x3 : S1x512.Idx → EReal) (s : Fin 4096) (g : Fin 4) (k : Fin 128)
    (v n b : Fin 4096 → EReal) (hv : ∀ t, v t = DP x0 x2 x3 t g k) (hn : ∀ t, n t = cnt (wid g) t.val)
    (hb : ∀ t, b t = if s.val ≤ t.val ∧ t.val < s.val + 2 ^ (g.val + 1) then 1 else 0) :
    -(v s) + ∑ t, Ideal.div (v t) (n t) * b t = dU x0 x2 x3 s g k := by
  unfold dU
  rw [← band_sum (2 ^ (g.val + 1)) (Q x0 x2 x3 g k) (fun j hj => dif_neg (by omega)) s, sub_eq_add_neg, add_comm, hv s]
  refine congrArg (fun y : EReal => y + -DP x0 x2 x3 s g k) (Finset.sum_congr rfl fun t _ => ?_)
  rw [hv, hn, hb]
  unfold Q
  rw [dif_pos t.isLt]

end Reference

/-- The results by equal operands. -/
theorem res0_eq (m : (ℓ : Loc nD τ sig) → Buf (Elt Ideal) ℓ) (c : Dev nD) (x0 : S4096x1024.Idx → EReal) (x2 : S4x128x128.Idx → EReal) (x3 : S1x512.Idx → EReal)
    (e0 : x0 = m (c.tc.loc main_arg0)) (e2 : x2 = m (c.tc.loc main_arg2)) (e3 : x3 = m (c.tc.loc main_arg3)) :
    (fun i : S4096x512.Idx => dU x0 x2 x3 (i 0) (grp (i 1)) (off (i 1))) = res0 m c := by subst e0 e2 e3; rfl
theorem res1_eq (m : (ℓ : Loc nD τ sig) → Buf (Elt Ideal) ℓ) (c : Dev nD) (x0 : S4096x1024.Idx → EReal) (x1 : S4096x512.Idx → EReal) (x3 : S1x512.Idx → EReal)
    (e0 : x0 = m (c.tc.loc main_arg0)) (e1 : x1 = m (c.tc.loc main_arg1)) (e3 : x3 = m (c.tc.loc main_arg3)) :
    (fun i : S4x128x128.Idx => ∑ s : Fin 4096, dWr x0 x1 x3 (i 0) (i 1) (i 2) s) = res1 m c := by subst e0 e1 e3; rfl
theorem res2_eq (m : (ℓ : Loc nD τ sig) → Buf (Elt Ideal) ℓ) (c : Dev nD) (x0 : S4096x1024.Idx → EReal) (x1 : S4096x512.Idx → EReal) (x2 : S4x128x128.Idx → EReal)
    (e0 : x0 = m (c.tc.loc main_arg0)) (e1 : x1 = m (c.tc.loc main_arg1)) (e2 : x2 = m (c.tc.loc main_arg2)) :
    (fun i : S1x512.Idx => ∑ s : Fin 4096, dSr x0 x1 x2 (grp (i 1)) (off (i 1)) s) = res2 m c := by subst e0 e1 e2; rfl

/-- The two programs' results are equal. -/
theorem agrees : algebraic_PoolGradIdeal_PoolGradReferenceIdeal := by
  intro m g m' g' hpre hm
  refine ⟨fun c => res0 m c, fun c => res1 m c, fun c => res2 m c,
    (θ_run defs _ _).mono (fun r h c => ⟨(h c).1.trans (final4 m c), (h c).2.1.trans (final5 m c), (h c).2.2.1.trans (final6 m c), (h c).2.2.2⟩)
      (Cert.PoolGradIdeal.Value.run_blocks m g), ?_⟩
  refine (θ_run Cert.PoolGradReferenceIdeal.defs _ _).mono (fun r h c => ⟨(h c).1.trans ?_, (h c).2.1.trans ?_, (h c).2.2.1.trans ?_, (h c).2.2.2⟩)
    (Cert.PoolGradReferenceIdeal.Value.run m' g')
  · obtain ⟨e0, e1, e2, e3⟩ := hm c
    clear h
    refine Eq.trans ?_ (res0_eq m c (StableHlo.launchContents m' c (Proc.devRef .tc Cert.PoolGradReferenceIdeal.main_arg0))
      (StableHlo.launchContents m' c (Proc.devRef .tc Cert.PoolGradReferenceIdeal.main_arg2)) (StableHlo.launchContents m' c (Proc.devRef .tc Cert.PoolGradReferenceIdeal.main_arg3)) e0 e2 e3)
    generalize StableHlo.launchContents m' c = V
    refine funext fun (i : S4096x512.Idx) => ?_
    rw [eq_ix2 i]
    generalize i 0 = s
    generalize i 1 = f
    change Fin 4096 at s
    change Fin 512 at f
    have hz : ∀ j : Cert.PoolGradReferenceIdeal.S_.Idx, (show EReal from constant (F := Ideal) Cert.PoolGradReferenceIdeal.S_ .f32 0x00000000#32 j) = 0 := fun j => by pointwise
    refine Eq.trans (congrArg₂ (fun x y : EReal => x + y) (congrArg₂ (fun x y : EReal => x + y) (congrArg₂ (fun x y : EReal => x + y)
      (pad_at 384 0 _ _ _ _ hz s f) (pad_at 256 128 _ _ _ _ hz s f)) (pad_at 128 256 _ _ _ _ hz s f)) (pad_at 0 384 _ _ _ _ hz s f)) ?_
    show _ = dU _ _ _ s (grp f) (off f)
    have hc : f.val / 128 = 0 ∨ f.val / 128 = 1 ∨ f.val / 128 = 2 ∨ f.val / 128 = 3 := by omega
    rcases hc with hc | hc | hc | hc
    · rw [dif_neg (by omega), dif_neg (by omega), dif_neg (by omega), dif_pos (by omega), zero_add, zero_add, zero_add, show grp f = 0 from Fin.ext hc]
      pointwise
      refine window _ _ _ s 0 (off f) (fun t => Cert.PoolGradReferenceIdeal.Value.res_main_v123 V (ix2 t ⟨f.val - 0, by omega⟩))
        (fun t => Cert.PoolGradReferenceIdeal.Value.res_main_v43 V (ix2 t 0)) (fun t => Cert.PoolGradReferenceIdeal.Value.res_main_v36 V (ix2 t s)) (fun t => ?_) (fun t => ?_) (fun t => ?_)
      · try dsimp only
        unfold Cert.PoolGradReferenceIdeal.Value.res_main_v123
        pointwise
        exact t19_lane V t 0 (off f) _ (Fin.ext (by simp only [lane, off]; omega))
      · try dsimp only
        unfold Cert.PoolGradReferenceIdeal.Value.res_main_v43 Cert.PoolGradReferenceIdeal.Value.res_main_v21
        pointwise
        rfl
      · try dsimp only
        unfold Cert.PoolGradReferenceIdeal.Value.res_main_v36 Cert.PoolGradReferenceIdeal.Value.res_main_v21
        pointwise
        exact band_at 2 (by norm_num) s t
    · rw [dif_neg (by omega), dif_neg (by omega), dif_pos (by omega), dif_neg (by omega), zero_add, zero_add, add_zero, show grp f = 1 from Fin.ext hc]
      pointwise
      refine window _ _ _ s 1 (off f) (fun t => Cert.PoolGradReferenceIdeal.Value.res_main_v124 V (ix2 t ⟨f.val - 128, by omega⟩))
        (fun t => Cert.PoolGradReferenceIdeal.Value.res_main_v68 V (ix2 t 0)) (fun t => Cert.PoolGradReferenceIdeal.Value.res_main_v61 V (ix2 t s)) (fun t => ?_) (fun t => ?_) (fun t => ?_)
      · try dsimp only
        unfold Cert.PoolGradReferenceIdeal.Value.res_main_v124
        pointwise
        exact t19_lane V t 1 (off f) _ (Fin.ext (by simp only [lane, off]; omega))
      · try dsimp only
        unfold Cert.PoolGradReferenceIdeal.Value.res_main_v68 Cert.PoolGradReferenceIdeal.Value.res_main_v21
        pointwise
        rfl
      · try dsimp only
        unfold Cert.PoolGradReferenceIdeal.Value.res_main_v61 Cert.PoolGradReferenceIdeal.Value.res_main_v21
        pointwise
        exact band_at 4 (by norm_num) s t
    · rw [dif_neg (by omega), dif_pos (by omega), dif_neg (by omega), dif_neg (by omega), zero_add, add_zero, add_zero, show grp f = 2 from Fin.ext hc]
      pointwise
      refine window _ _ _ s 2 (off f) (fun t => Cert.PoolGradReferenceIdeal.Value.res_main_v125 V (ix2 t ⟨f.val - 256, by omega⟩))
        (fun t => Cert.PoolGradReferenceIdeal.Value.res_main_v93 V (ix2 t 0)) (fun t => Cert.PoolGradReferenceIdeal.Value.res_main_v86 V (ix2 t s)) (fun t => ?_) (fun t => ?_) (fun t => ?_)
      · try dsimp only
        unfold Cert.PoolGradReferenceIdeal.Value.res_main_v125
        pointwise
        exact t19_lane V t 2 (off f) _ (Fin.ext (by simp only [lane, off]; omega))
      · try dsimp only
        unfold Cert.PoolGradReferenceIdeal.Value.res_main_v93 Cert.PoolGradReferenceIdeal.Value.res_main_v21
        pointwise
        rfl
      · try dsimp only
        unfold Cert.PoolGradReferenceIdeal.Value.res_main_v86 Cert.PoolGradReferenceIdeal.Value.res_main_v21
        pointwise
        exact band_at 8 (by norm_num) s t
    · rw [dif_pos (by omega), dif_neg (by omega), dif_neg (by omega), dif_neg (by omega), add_zero, add_zero, add_zero, show grp f = 3 from Fin.ext hc]
      pointwise
      refine window _ _ _ s 3 (off f) (fun t => Cert.PoolGradReferenceIdeal.Value.res_main_v126 V (ix2 t ⟨f.val - 384, by omega⟩))
        (fun t => Cert.PoolGradReferenceIdeal.Value.res_main_v118 V (ix2 t 0)) (fun t => Cert.PoolGradReferenceIdeal.Value.res_main_v111 V (ix2 t s)) (fun t => ?_) (fun t => ?_) (fun t => ?_)
      · try dsimp only
        unfold Cert.PoolGradReferenceIdeal.Value.res_main_v126
        pointwise
        exact t19_lane V t 3 (off f) _ (Fin.ext (by simp only [lane, off]; omega))
      · try dsimp only
        unfold Cert.PoolGradReferenceIdeal.Value.res_main_v118 Cert.PoolGradReferenceIdeal.Value.res_main_v21
        pointwise
        rfl
      · try dsimp only
        unfold Cert.PoolGradReferenceIdeal.Value.res_main_v111 Cert.PoolGradReferenceIdeal.Value.res_main_v21
        pointwise
        exact band_at 16 (by norm_num) s t
  · obtain ⟨e0, e1, e2, e3⟩ := hm c
    clear h
    refine Eq.trans ?_ (res1_eq m c (StableHlo.launchContents m' c (Proc.devRef .tc Cert.PoolGradReferenceIdeal.main_arg0))
      (StableHlo.launchContents m' c (Proc.devRef .tc Cert.PoolGradReferenceIdeal.main_arg1)) (StableHlo.launchContents m' c (Proc.devRef .tc Cert.PoolGradReferenceIdeal.main_arg3)) e0 e1 e3)
    generalize StableHlo.launchContents m' c = V
    refine funext fun (i : S4x128x128.Idx) => ?_
    rw [eq_ix3 i]
    generalize i 0 = a
    generalize i 1 = b
    generalize i 2 = d
    unfold Cert.PoolGradReferenceIdeal.Value.res_main_v1
    pointwise
    refine Finset.sum_congr rfl fun s _ => (mul_comm _ _).trans (mulE ?_ (t14 V a d s))
    exact congrArg (fun f : Fin 512 => (show EReal from V (Proc.devRef .tc Cert.PoolGradReferenceIdeal.main_arg1) (ix2 s f))) (Fin.ext (by simp only [lane]; omega))
  · obtain ⟨e0, e1, e2, e3⟩ := hm c
    clear h
    refine Eq.trans ?_ (res2_eq m c (StableHlo.launchContents m' c (Proc.devRef .tc Cert.PoolGradReferenceIdeal.main_arg0))
      (StableHlo.launchContents m' c (Proc.devRef .tc Cert.PoolGradReferenceIdeal.main_arg1)) (StableHlo.launchContents m' c (Proc.devRef .tc Cert.PoolGradReferenceIdeal.main_arg2)) e0 e1 e2)
    generalize StableHlo.launchContents m' c = V
    refine funext fun (i : S1x512.Idx) => ?_
    rw [eq_ix2 i]
    generalize i 1 = f
    unfold Cert.PoolGradReferenceIdeal.Value.res_main_v4 Cert.PoolGradReferenceIdeal.Value.res_main_v7 Cert.PoolGradReferenceIdeal.Value.res_main_v1
    pointwise
    refine Finset.sum_congr rfl fun s _ => (mul_comm _ _).trans (mulE ?_ (Finset.sum_congr rfl fun q _ => (mul_comm _ _).trans (mulE ?_ rfl)))
    · exact congrArg (fun f : Fin 512 => (show EReal from V (Proc.devRef .tc Cert.PoolGradReferenceIdeal.main_arg0) (ix2 s (inner f)))) (lane_grp f).symm
    · exact congrArg (fun f : Fin 512 => (show EReal from V (Proc.devRef .tc Cert.PoolGradReferenceIdeal.main_arg1) (ix2 s f))) (Fin.ext (by simp only [lane, grp]; omega))

end Cert.PoolGradIdeal.Hand

end
-- ==== Proof.Pool.Value.lean ====
module

public import proofs.«01_k».proof.Proof.PoolGrad.Value
public import proofs.«01_k».proof.Proof.Gen.PoolIdeal.Value
public import proofs.«01_k».proof.Proof.Gen.PoolReferenceIdeal.Run

@[expose] public section

noncomputable section

open Idealize.ShloMosaic Idealize.ShloMosaic.TcCoe Idealize.SL.Sem
open Idealize.ShloMosaic.Pipeline (Dat)

namespace Cert.PoolIdeal.Hand

open Cert.PoolIdeal Cert.PoolIdeal.Gen
open Cert.PoolGradIdeal.Hand (hz lane grp off lane_grp grp_lane off_lane cols slab split split_lane ld_cols ld_slab canon_cols counts counts_apply cnt wid up up_apply band_at mulE)

/-- A group's pooled rows: the window sums from row 16 on by their counts, less the rows themselves. -/
def mean (w p : BitVec 32) (v : FVec Ideal S528x128 .f32) (x : FVec Ideal S512x128 .f32) : FVec Ideal S512x128 .bf16 :=
  truncf .bf16 (subf (divf (extractStridedSlice S512x128 ![16, 0] v slices_S528x128_o16_0_S512x128) (broadcastTo S512x128 (counts w p) broadcasts_S512x1_S512x128)) x) bitsLt_bf16_f32

/-- A group's mixed rows. -/
def mix (p : FVec Ideal S512x128 .bf16) (w : Vec Ideal S1x128x128 .f32) (s : Vec Ideal S1x128 .f32) : FVec Ideal S512x128 .bf16 :=
  truncf .bf16 (mulf (matmul dot_S512x128_S128x128_S512x128_1_0_0_1_n_n none p (truncf .bf16 (shapeCast S128x128 w shapeCasts_S1x128x128_S128x128) bitsLt_bf16_f32) (constant S512x128 .f32 0x00000000#32))
    (broadcastTo S512x128 s broadcasts_S1x128_S512x128)) bitsLt_bf16_f32

/-- The number of a block's first row, as the kernel computes it. -/
def pos (i : grid0.Coords) : BitVec 32 := Scalar.muli (BitVec.ofNat 32 ↑(i 0)) 512#32

/-- The columns of group `g` of a block of rows, and of the block with the sixteen rows before it. -/
def colsF (x : FVec Ideal S512x512 .f32) (g : Fin 4) : FVec Ideal S512x128 .f32 := fun j => x (ix2 (j 0) (lane g (j 1)))
def colsE (x : FVec Ideal S528x512 .f32) (g : Fin 4) : FVec Ideal S528x128 .f32 := fun j => x (ix2 (j 0) (lane g (j 1)))

section Groups
variable (i : grid0.Coords) (v3 : Vec Ideal S512x512 .f32) (v4 : Vec Ideal S16x512 .f32) (w : Vec Ideal S1x128x128 .f32) (s : Vec Ideal S1x128 .f32)

theorem slice528 (x : FVec Ideal S528x512 .f32) (g : Fin 4) (o : ℕ) (ho : o = 128 * g.val) (h : S528x512.Slices ![0, o] S528x128) :
    extractStridedSlice S528x128 ![0, o] x h = colsE x g := by
  subst ho
  funext j
  rw [eq_ix2 j]
  pointwise
  exact congrArg (fun k : Fin 512 => x (ix2 (j 0) k)) (Fin.ext (by simp only [lane]))

theorem slice512 (x : FVec Ideal S512x512 .f32) (g : Fin 4) (o : ℕ) (ho : o = 128 * g.val) (h : S512x512.Slices ![0, o] S512x128) :
    extractStridedSlice S512x128 ![0, o] x h = colsF x g := by
  subst ho
  funext j
  rw [eq_ix2 j]
  pointwise
  exact congrArg (fun k : Fin 512 => x (ix2 (j 0) k)) (Fin.ext (by simp only [lane]))

theorem pay0 : k0_pay6 i v3 v4 = mean 2#32 (pos i) (up 1#32 (colsE (k0_pay4 v3 v4) 0)) (colsF v3 0) := by
  rw [← slice528 _ 0 0 rfl slices_S528x512_o0_0_S528x128, ← slice512 _ 0 0 rfl slices_S512x512_o0_0_S512x128]; rfl
theorem pay1 : k0_pay9 (BitVec.ofNat 32 ↑(i 0)) v3 (k0_pay4 v3 v4) = mean 4#32 (pos i) (up 2#32 (up 1#32 (colsE (k0_pay4 v3 v4) 1))) (colsF v3 1) := by
  rw [← slice528 _ 1 128 rfl slices_S528x512_o0_128_S528x128, ← slice512 _ 1 128 rfl slices_S512x512_o0_128_S512x128]; rfl
theorem pay2 : k0_pay12 (BitVec.ofNat 32 ↑(i 0)) v3 (k0_pay11 (k0_pay4 v3 v4)) 4#32 = mean 8#32 (pos i) (up 4#32 (up 2#32 (up 1#32 (colsE (k0_pay4 v3 v4) 2)))) (colsF v3 2) := by
  rw [← slice528 _ 2 256 rfl slices_S528x512_o0_256_S528x128, ← slice512 _ 2 256 rfl slices_S512x512_o0_256_S512x128]; rfl
theorem pay3 : k0_pay1 v3 (k0_pay14 (k0_pay4 v3 v4)) (iota .tc S512x1 32 [0] iota_S512x1_d0_w32) (k0_pay15 (BitVec.ofNat 32 ↑(i 0)))
    = mean 16#32 (pos i) (up 8#32 (up 4#32 (up 2#32 (up 1#32 (colsE (k0_pay4 v3 v4) 3))))) (colsF v3 3) := by
  rw [← slice528 _ 3 384 rfl slices_S528x512_o0_384_S528x128, ← slice512 _ 3 384 rfl slices_S512x512_o0_384_S512x128]; rfl

theorem mix0 : k0_pay8 (k0_pay7 i v3 v4 w s) = mix (k0_pay6 i v3 v4) w s := rfl
theorem mix1 (a : BitVec 32) (v5 : FVec Ideal S528x512 .f32) : k0_pay10 a v3 v5 w s = mix (k0_pay9 a v3 v5) w s := rfl
theorem mix2 (a k : BitVec 32) (v : FVec Ideal S528x128 .f32) : k0_pay13 a v3 v k w s = mix (k0_pay12 a v3 v k) w s := rfl
theorem mix3 (v : FVec Ideal S512x128 .f32) (a b : IVec S512x1 32) : k0_pay2 v3 v a b w s = mix (k0_pay1 v3 v a b) w s := rfl

theorem mix_apply (p : FVec Ideal S512x128 .bf16) (r : Fin 512) (d : Fin 128) :
    mix p w s (ix2 r d) = (∑ k : Fin 128, p (ix2 r k) * w (ix3 0 k d)) * s (ix2 0 d) := by
  unfold mix
  pointwise

theorem mean_apply (n p : BitVec 32) (v : FVec Ideal S528x128 .f32) (x : FVec Ideal S512x128 .f32) (r : Fin 512) (k : Fin 128) :
    mean n p v x (ix2 r k) = Ideal.div (v (ix2 ⟨16 + r.val, by omega⟩ k)) (counts n p (ix2 r 0)) - x (ix2 r k) := by
  unfold mean
  pointwise

theorem ext_apply (n : Fin 528) (f : Fin 512) : k0_pay4 v3 v4 (ix2 n f)
    = if h : n.val < 16 then v4 (ix2 ⟨n.val, h⟩ f) else v3 (ix2 ⟨n.val - 16, by omega⟩ f) := by
  unfold_payloads
  pointwise

theorem last_apply (r : Fin 16) (f : Fin 512) : k0_pay5 v3 (ix2 r f) = v3 (ix2 ⟨496 + r.val, by omega⟩ f) := by
  unfold_payloads
  pointwise

end Groups

/-- A rotation by `k` turns sums of `k` rows backwards into sums of `2 k`. -/
theorem up_sum (k : ℕ) (s : BitVec 32) (hs : s.toNat = k) (hk0 : 0 < k) (hk : k < 528) (v : FVec Ideal S528x128 .f32) (e : Fin 128 → ℕ → EReal)
    (hv : ∀ (n : Fin 528) (c : Fin 128), k ≤ n.val + 1 → v (ix2 n c) = ∑ j ∈ Finset.range k, e c (n.val - j))
    (n : Fin 528) (c : Fin 128) (hn : 2 * k ≤ n.val + 1) : up s v (ix2 n c) = ∑ j ∈ Finset.range (2 * k), e c (n.val - j) := by
  have hi : (⟨(n.val + 528 - s.toNat % 528) % 528, Nat.mod_lt _ (by norm_num)⟩ : Fin 528) = ⟨n.val - k, by omega⟩ :=
    Fin.ext (by simp only [hs]; omega)
  rw [up_apply, hv n c (by omega), hi, hv _ c (by simp only; omega), two_mul, Finset.sum_range_add]
  simp only [Nat.sub_sub]

/-- The extended rows: sixteen before the block, then the block's. -/
def eRow (v3 : Vec Ideal S512x512 .f32) (v4 : Vec Ideal S16x512 .f32) (g : Fin 4) (c : Fin 128) (n : ℕ) : EReal :=
  if h : n < 16 then v4 (ix2 ⟨n, h⟩ (lane g c)) else if h : n - 16 < 512 then v3 (ix2 ⟨n - 16, h⟩ (lane g c)) else 0

section Sums
variable (v3 : Vec Ideal S512x512 .f32) (v4 : Vec Ideal S16x512 .f32) (g : Fin 4)

theorem ext_sum (n : Fin 528) (c : Fin 128) (hn : 1 ≤ n.val + 1) : colsE (k0_pay4 v3 v4) g (ix2 n c) = ∑ j ∈ Finset.range 1, eRow v3 v4 g c (n.val - j) := by
  refine (ext_apply v3 v4 n (lane g c)).trans ?_
  rw [Finset.sum_range_one]
  unfold eRow
  simp only [Nat.sub_zero]
  split_ifs with h h2
  · rfl
  · rfl
  · exact absurd n.isLt (by omega)

theorem up2 : ∀ (n : Fin 528) (c : Fin 128), 2 ≤ n.val + 1 → up 1#32 (colsE (k0_pay4 v3 v4) g) (ix2 n c) = ∑ j ∈ Finset.range 2, eRow v3 v4 g c (n.val - j) :=
  up_sum 1 _ rfl (by norm_num) (by norm_num) _ _ (ext_sum v3 v4 g)
theorem up4 : ∀ (n : Fin 528) (c : Fin 128), 4 ≤ n.val + 1 → up 2#32 (up 1#32 (colsE (k0_pay4 v3 v4) g)) (ix2 n c) = ∑ j ∈ Finset.range 4, eRow v3 v4 g c (n.val - j) :=
  up_sum 2 _ rfl (by norm_num) (by norm_num) _ _ (up2 v3 v4 g)
theorem up8 : ∀ (n : Fin 528) (c : Fin 128), 8 ≤ n.val + 1 → up 4#32 (up 2#32 (up 1#32 (colsE (k0_pay4 v3 v4) g))) (ix2 n c) = ∑ j ∈ Finset.range 8, eRow v3 v4 g c (n.val - j) :=
  up_sum 4 _ rfl (by norm_num) (by norm_num) _ _ (up4 v3 v4 g)
theorem up16 : ∀ (n : Fin 528) (c : Fin 128), 16 ≤ n.val + 1 → up 8#32 (up 4#32 (up 2#32 (up 1#32 (colsE (k0_pay4 v3 v4) g)))) (ix2 n c) = ∑ j ∈ Finset.range 16, eRow v3 v4 g c (n.val - j) :=
  up_sum 8 _ rfl (by norm_num) (by norm_num) _ _ (up8 v3 v4 g)

/-- A group's pooled rows of a block, given the sixteen rows before it. -/
def meanG (p : BitVec 32) (g : Fin 4) : Vec Ideal S512x128 .bf16 := fun j =>
  (Ideal.div (∑ l ∈ Finset.range (2 ^ (g.val + 1)), eRow v3 v4 g (j 1) (16 + (j 0).val - l)) (counts (wid g) p (ix2 (j 0) 0)) - v3 (ix2 (j 0) (lane g (j 1))) : EReal)

theorem mean_sum (p : BitVec 32) (g : Fin 4) (v : FVec Ideal S528x128 .f32)
    (hv : ∀ (n : Fin 528) (c : Fin 128), 2 ^ (g.val + 1) ≤ n.val + 1 → v (ix2 n c) = ∑ j ∈ Finset.range (2 ^ (g.val + 1)), eRow v3 v4 g c (n.val - j)) :
    mean (wid g) p v (colsF v3 g) = meanG v3 v4 p g := by
  funext j
  rw [eq_ix2 j]
  refine (mean_apply _ _ _ _ (j 0) (j 1)).trans ?_
  have hp : 2 ^ (g.val + 1) ≤ 2 ^ 4 := Nat.pow_le_pow_right (by norm_num) (by have := g.isLt; omega)
  rw [hv _ (j 1) (by simp only; omega)]
  rfl

variable (i : grid0.Coords)

theorem meanG0 : k0_pay6 i v3 v4 = meanG v3 v4 (pos i) 0 := (pay0 i v3 v4).trans (mean_sum v3 v4 _ 0 _ (up2 v3 v4 0))
theorem meanG1 : k0_pay9 (BitVec.ofNat 32 ↑(i 0)) v3 (k0_pay4 v3 v4) = meanG v3 v4 (pos i) 1 := (pay1 i v3 v4).trans (mean_sum v3 v4 _ 1 _ (up4 v3 v4 1))
theorem meanG2 : k0_pay12 (BitVec.ofNat 32 ↑(i 0)) v3 (k0_pay11 (k0_pay4 v3 v4)) 4#32 = meanG v3 v4 (pos i) 2 := (pay2 i v3 v4).trans (mean_sum v3 v4 _ 2 _ (up8 v3 v4 2))
theorem meanG3 : k0_pay1 v3 (k0_pay14 (k0_pay4 v3 v4)) (iota .tc S512x1 32 [0] iota_S512x1_d0_w32) (k0_pay15 (BitVec.ofNat 32 ↑(i 0))) = meanG v3 v4 (pos i) 3 :=
  (pay3 i v3 v4).trans (mean_sum v3 v4 _ 3 _ (up16 v3 v4 3))

end Sums

/-- A group's mixed rows of a block. -/
def mixG (x0 : Vec Ideal S512x512 .f32) (x1 : Vec Ideal S4x128x128 .f32) (x2 : Vec Ideal S1x512 .f32) (xs : Vec Ideal S16x512 .f32) (p : BitVec 32) (g : Fin 4) : Vec Ideal S512x128 .bf16 :=
  mix (meanG x0 xs p g) (slab x1 g) (cols x2 g)

section Cases

variable (c : Dev nD) (i : grid0.Coords)
  (a1 : Memref sig .tc .vmem S512x512 .f32) (h1 : a1.IsWhole)
  (a2 : Memref sig .tc .vmem S4x128x128 .f32) (h2 : a2.IsWhole)
  (a3 : Memref sig .tc .vmem S1x512 .f32) (h3 : a3.IsWhole)
  (a4 : Memref sig .tc .vmem S512x512 .bf16) (h4 : a4.IsWhole)
  (a5 : Memref sig .tc .vmem S512x512 .bf16) (h5 : a5.IsWhole)
  (a6 : Memref sig .tc .vmem S16x512 .f32) (h6 : a6.IsWhole)
  (x0 : Vec Ideal S512x512 .f32) (x1 : Vec Ideal S4x128x128 .f32) (x2 : Vec Ideal S1x512 .f32)

/-- The first point's block of the pooled rows. -/
theorem out_A_3 (hc0 : cond0_0 i) :
    out0_A_3 c i a1 h1 a2 h2 a3 h3 a4 h4 a5 h5 a6 h6 hc0 x0 x1 x2 = split (meanG x0 (k0_pay3 (F := Ideal)) (pos i)) := by
  funext y
  unfold out0_A_3
  rw [View.read_writes_eq_canon _ _ _ (cover0_A_3 c i a1 h1 a2 h2 a3 h3 a4 h4 a5 h5 a6 h6 hc0 x0 x1 x2)]
  unfold kernelRun0_A
  dsimp only
  sl_unfold_words
  simp only [View.readAt_eq_ld, h1.read_unread, h2.read_unread, h3.read_unread, View.ld_unit_zero (S := S512x512) hz, View.readCov_unit_zero (S := S16x512) _ hz]
  exact canon_cols (meanG x0 (k0_pay3 (F := Ideal)) (pos i)) (meanG0 _ _ _) (meanG1 _ _ _) (meanG2 _ _ _) (meanG3 _ _ _) _ _ _ _ _ y

/-- The first point's block of the mixed rows. -/
theorem out_A_4 (hc0 : cond0_0 i) :
    out0_A_4 c i a1 h1 a2 h2 a3 h3 a4 h4 a5 h5 a6 h6 hc0 x0 x1 x2 = split (mixG x0 x1 x2 (k0_pay3 (F := Ideal)) (pos i)) := by
  funext y
  unfold out0_A_4
  rw [View.read_writes_eq_canon _ _ _ (cover0_A_4 c i a1 h1 a2 h2 a3 h3 a4 h4 a5 h5 a6 h6 hc0 x0 x1 x2)]
  unfold kernelRun0_A
  dsimp only
  sl_unfold_words
  simp only [View.readAt_eq_ld, h1.read_unread, h2.read_unread, h3.read_unread, View.ld_unit_zero (S := S512x512) hz, View.readCov_unit_zero (S := S16x512) _ hz]
  refine canon_cols (mixG x0 x1 x2 (k0_pay3 (F := Ideal)) (pos i)) ?_ ?_ ?_ ?_ _ _ _ _ _ y
  · rw [ld_slab x1 0 0 rfl, ld_cols x2 0 0 rfl, mix0, meanG0]; rfl
  · rw [ld_slab x1 1 1 rfl, ld_cols x2 1 128 rfl, mix1, meanG1]; rfl
  · rw [ld_slab x1 2 2 rfl, ld_cols x2 2 256 rfl, mix2, meanG2]; rfl
  · rw [ld_slab x1 3 3 rfl, ld_cols x2 3 384 rfl, mix3]; exact congrArg (fun p => mix p (slab x1 3) (cols x2 3)) (meanG3 _ _ _)

/-- The first point keeps its last sixteen rows. -/
theorem tail_A (hc0 : cond0_0 i) : sout0_A_0 c i a1 h1 a2 h2 a3 h3 a4 h4 a5 h5 a6 h6 hc0 x0 x1 x2 = k0_pay5 x0 := by
  funext y
  unfold sout0_A_0
  rw [View.read_writes_eq_canon _ _ _ (scover0_A_0 c i a1 h1 a2 h2 a3 h3 a4 h4 a5 h5 a6 h6 hc0 x0 x1 x2)]
  unfold kernelRun0_A
  dsimp only
  sl_unfold_words
  rw [View.canon_cons_unit_zero (S := S16x512) hz]
  simp only [View.readAt_eq_ld, h1.read_unread, View.ld_unit_zero (S := S512x512) hz]

/-- A later point's block of the pooled rows. -/
theorem out_B_3 (hc0 : ¬cond0_0 i) (xs : Vec Ideal S16x512 .f32) :
    out0_B_3 c i a1 h1 a2 h2 a3 h3 a4 h4 a5 h5 a6 h6 hc0 x0 x1 x2 xs = split (meanG x0 xs (pos i)) := by
  funext y
  unfold out0_B_3
  rw [View.read_writes_eq_canon _ _ _ (cover0_B_3 c i a1 h1 a2 h2 a3 h3 a4 h4 a5 h5 a6 h6 hc0 x0 x1 x2 xs)]
  unfold kernelRun0_B
  dsimp only
  sl_unfold_words
  simp only [View.readAt_eq_ld, h1.read_unread, h2.read_unread, h3.read_unread, h6.read_unread, View.ld_unit_zero (S := S512x512) hz, View.ld_unit_zero (S := S16x512) hz]
  exact canon_cols (meanG x0 xs (pos i)) (meanG0 _ _ _) (meanG1 _ _ _) (meanG2 _ _ _) (meanG3 _ _ _) _ _ _ _ _ y

/-- A later point's block of the mixed rows. -/
theorem out_B_4 (hc0 : ¬cond0_0 i) (xs : Vec Ideal S16x512 .f32) :
    out0_B_4 c i a1 h1 a2 h2 a3 h3 a4 h4 a5 h5 a6 h6 hc0 x0 x1 x2 xs = split (mixG x0 x1 x2 xs (pos i)) := by
  funext y
  unfold out0_B_4
  rw [View.read_writes_eq_canon _ _ _ (cover0_B_4 c i a1 h1 a2 h2 a3 h3 a4 h4 a5 h5 a6 h6 hc0 x0 x1 x2 xs)]
  unfold kernelRun0_B
  dsimp only
  sl_unfold_words
  simp only [View.readAt_eq_ld, h1.read_unread, h2.read_unread, h3.read_unread, h6.read_unread, View.ld_unit_zero (S := S512x512) hz, View.ld_unit_zero (S := S16x512) hz]
  refine canon_cols (mixG x0 x1 x2 xs (pos i)) ?_ ?_ ?_ ?_ _ _ _ _ _ y
  · rw [ld_slab x1 0 0 rfl, ld_cols x2 0 0 rfl, mix0, meanG0]; rfl
  · rw [ld_slab x1 1 1 rfl, ld_cols x2 1 128 rfl, mix1, meanG1]; rfl
  · rw [ld_slab x1 2 2 rfl, ld_cols x2 2 256 rfl, mix2, meanG2]; rfl
  · rw [ld_slab x1 3 3 rfl, ld_cols x2 3 384 rfl, mix3]; exact congrArg (fun p => mix p (slab x1 3) (cols x2 3)) (meanG3 _ _ _)

/-- A later point keeps its last sixteen rows. -/
theorem tail_B (hc0 : ¬cond0_0 i) (xs : Vec Ideal S16x512 .f32) : sout0_B_0 c i a1 h1 a2 h2 a3 h3 a4 h4 a5 h5 a6 h6 hc0 x0 x1 x2 xs = k0_pay5 x0 := by
  funext y
  unfold sout0_B_0
  rw [View.read_writes_eq_canon _ _ _ (scover0_B_0 c i a1 h1 a2 h2 a3 h3 a4 h4 a5 h5 a6 h6 hc0 x0 x1 x2 xs)]
  unfold kernelRun0_B
  dsimp only
  sl_unfold_words
  rw [View.canon_cons_unit_zero (S := S16x512) hz]
  simp only [View.readAt_eq_ld, h1.read_unread, View.ld_unit_zero (S := S512x512) hz]

end Cases

/-! ## The results at an index -/

/-- Row `n - 16` of a group's column, zero before the first row. -/
def E (u : S4096x512.Idx → EReal) (g : Fin 4) (k : Fin 128) (n : ℕ) : EReal :=
  if h : 16 ≤ n ∧ n - 16 < 4096 then u (ix2 ⟨n - 16, h.2⟩ (lane g k)) else 0

/-- A pooled row: the window's sum by its count, less the row. -/
def PL (u : S4096x512.Idx → EReal) (s : Fin 4096) (g : Fin 4) (k : Fin 128) : EReal :=
  Ideal.div (∑ l ∈ Finset.range (2 ^ (g.val + 1)), E u g k (s.val + 16 - l)) (cnt (wid g) s.val) - u (ix2 s (lane g k))

/-- A mixed row: the pooled row's product with its group's matrix, scaled. -/
def MX (u : S4096x512.Idx → EReal) (w : S4x128x128.Idx → EReal) (p : S1x512.Idx → EReal) (s : Fin 4096) (g : Fin 4) (d : Fin 128) : EReal :=
  (∑ k : Fin 128, PL u s g k * w (ix3 g k d)) * p (ix2 0 (lane g d))

variable (m : (ℓ : Loc nD τ sig) → Buf (Elt Ideal) ℓ) (ρ : Dev nD → PrngReg)

/-- Device `c`'s two results. -/
def res0 (c : Dev nD) : S4096x512.Idx → EReal := fun i => PL (m (c.tc.loc main_arg0)) (i 0) (grp (i 1)) (off (i 1))
def res1 (c : Dev nD) : S4096x512.Idx → EReal := fun i =>
  MX (m (c.tc.loc main_arg0)) (m (c.tc.loc main_arg1)) (m (c.tc.loc main_arg2)) (i 0) (grp (i 1)) (off (i 1))

/-- The row of the whole arrays that row `k` of point `t`'s block is. -/
def row (t : Fin cfg0.N) (k : Fin 512) : Fin 4096 := ⟨t.val * 512 + k.val, by have := t.isLt; have : cfg0.N = 8 := N_0; omega⟩

theorem pos_eq (t : Fin cfg0.N) : pos (grid0.coords t) = BitVec.ofNat 32 (t.val * 512) := by
  revert t; decide

/-- Point `t`'s block of the input: its 512 rows. -/
theorem iblk0 (c : Dev nD) (t : Fin cfg0.N) (r : Fin 512) (k : Fin 512) :
    (iblk m c 0 t : Vec Ideal S512x512 .f32) (ix2 r k) = m (c.tc.loc main_arg0) (ix2 (row t r) k) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- Every point's block of the weights is the whole array. -/
theorem iblk1 (c : Dev nD) (t : Fin cfg0.N) (g : Fin 4) (k d : Fin 128) :
    (iblk m c 1 t : Vec Ideal S4x128x128 .f32) (ix3 g k d) = m (c.tc.loc main_arg1) (ix3 g k d) := by
  have hi : win0_1.index t 0 = 0 ∧ win0_1.index t 1 = 0 ∧ win0_1.index t 2 = 0 := by revert t; decide
  unfold iblk
  rw [View.read_apply]
  show m (c.tc.loc main_arg1) _ = m (c.tc.loc main_arg1) _
  congr 1
  funext a
  apply Fin.ext
  match a with
  | ⟨0, _⟩ => show win0_1.index t 0 * 4 + 1 * g.val = g.val; rw [hi.1]; omega
  | ⟨1, _⟩ => show win0_1.index t 1 * 128 + 1 * k.val = k.val; rw [hi.2.1]; omega
  | ⟨2, _⟩ => show win0_1.index t 2 * 128 + 1 * d.val = d.val; rw [hi.2.2]; omega

/-- Every point's block of the scale is the whole array. -/
theorem iblk2 (c : Dev nD) (t : Fin cfg0.N) (r : Fin 1) (k : Fin 512) :
    (iblk m c 2 t : Vec Ideal S1x512 .f32) (ix2 r k) = m (c.tc.loc main_arg2) (ix2 r k) := by
  have hi : win0_2.index t 0 = 0 ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 1 + 1 * r.val = r.val; rw [hi.1]; omega
  | ⟨1, _⟩ => show win0_2.index t 1 * 512 + 1 * k.val = k.val; rw [hi.2]; omega

/-- What a point keeps for the next: the last sixteen rows of its block. -/
theorem tail_eq (c : Dev nD) (t : Fin cfg0.N) (g : Fin 4) (r : Fin 16) (k : Fin 128) :
    (outsAt0 m c t.val t.isLt).2.2 (ix2 r (lane g k)) = E (m (c.tc.loc main_arg0)) g k ((t.val + 1) * 512 + r.val) := by
  have hN : cfg0.N = 8 := N_0
  have ht := t.isLt
  have h : (outsAt0 m c t.val t.isLt).2.2 = k0_pay5 (iblk m c 0 t) := by
    by_cases h0 : t.val % 8 = 0
    · rw [outsAt0_A m c t h0]
      dsimp only
      rw [tail_A]
    · rw [outsAt0_B m c t h0]
      dsimp only
      rw [tail_B]
  rw [h]
  refine (last_apply _ r (lane g k)).trans ((iblk0 m c t _ _).trans ?_)
  unfold E
  rw [dif_pos (by omega)]
  exact congrArg (fun s : Fin 4096 => m (c.tc.loc main_arg0) (ix2 s (lane g k))) (Fin.ext (by simp only [row]; omega))

section Blocks
variable (c : Dev nD) (t : Fin cfg0.N) (xs : Vec Ideal S16x512 .f32)
  (hxs : ∀ (g : Fin 4) (r : Fin 16) (k : Fin 128), xs (ix2 r (lane g k)) = E (m (c.tc.loc main_arg0)) g k (t.val * 512 + r.val))
include hxs

/-- A group's block of the pooled rows, given the sixteen rows before it. -/
theorem mean_blk (g : Fin 4) (r : Fin 512) (k : Fin 128) :
    meanG (iblk m c 0 t) xs (pos (grid0.coords t)) g (ix2 r k) = PL (m (c.tc.loc main_arg0)) (row t r) g k := by
  have hN : cfg0.N = 8 := N_0
  have ht := t.isLt
  have hp : 2 ^ (g.val + 1) ≤ 2 ^ 4 := Nat.pow_le_pow_right (by norm_num) (by have := g.isLt; omega)
  unfold meanG PL
  refine congrArg₂ (fun a b : EReal => a - b) (congrArg₂ Ideal.div (Finset.sum_congr rfl fun l hl => ?_) ?_) (iblk0 m c t r (lane g k))
  · have hl2 : l < 2 ^ (g.val + 1) := Finset.mem_range.1 hl
    show eRow _ _ g k (16 + r.val - l) = E _ g k (t.val * 512 + r.val + 16 - l)
    unfold eRow
    split_ifs with h h2
    · exact (hxs g ⟨16 + r.val - l, h⟩ k).trans (congrArg (E _ g k) (by simp only; omega))
    · refine (iblk0 m c t ⟨16 + r.val - l - 16, h2⟩ (lane g k)).trans ?_
      unfold E
      rw [dif_pos (by omega)]
      exact congrArg (fun s : Fin 4096 => m (c.tc.loc main_arg0) (ix2 s (lane g k))) (Fin.ext (by simp only [row]; omega))
    · omega
  · show counts (wid g) (pos (grid0.coords t)) (ix2 r 0) = _
    rw [pos_eq, counts_apply]
    rfl

/-- A group's block of the mixed rows. -/
theorem mix_blk (g : Fin 4) (r : Fin 512) (d : Fin 128) :
    mixG (iblk m c 0 t) (iblk m c 1 t) (iblk m c 2 t) xs (pos (grid0.coords t)) g (ix2 r d)
      = MX (m (c.tc.loc main_arg0)) (m (c.tc.loc main_arg1)) (m (c.tc.loc main_arg2)) (row t r) g d :=
  (mix_apply _ _ _ r d).trans (congrArg₂ (fun a b : EReal => a * b)
    (Finset.sum_congr rfl fun k _ => congrArg₂ (fun a b : EReal => a * b) (mean_blk m c t xs hxs g r k) (iblk1 m c t g k d)) (iblk2 m c t 0 (lane g d)))

end Blocks

theorem zero16 (i : S16x512.Idx) : (k0_pay3 (F := Ideal)) i = (0 : EReal) := by
  rw [eq_ix2 i]
  unfold_payloads
  pointwise

/-- What each point leaves of the two results. -/
theorem outs (c : Dev nD) (t : Fin cfg0.N) (r : Fin 512) (f : Fin 512) :
    (outsAt0 m c t.val t.isLt).1 (ix2 r f) = res0 m c (ix2 (row t r) f) ∧ (outsAt0 m c t.val t.isLt).2.1 (ix2 r f) = res1 m c (ix2 (row t r) f) := by
  have hN : cfg0.N = 8 := N_0
  have ht := t.isLt
  by_cases h0 : t.val % 8 = 0
  · have hxs : ∀ (g : Fin 4) (r : Fin 16) (k : Fin 128), (k0_pay3 (F := Ideal)) (ix2 r (lane g k)) = E (m (c.tc.loc main_arg0)) g k (t.val * 512 + r.val) := by
      intro g r k
      rw [zero16]
      unfold E
      rw [dif_neg (by omega)]
    rw [outsAt0_A m c t h0]
    dsimp only
    rw [out_A_3, out_A_4]
    exact ⟨mean_blk m c t _ hxs (grp f) r (off f), mix_blk m c t _ hxs (grp f) r (off f)⟩
  · have hxs : ∀ (g : Fin 4) (r : Fin 16) (k : Fin 128), (outsAt0 m c (t.val - 1) (Nat.lt_of_le_of_lt (Nat.sub_le _ _) t.isLt)).2.2 (ix2 r (lane g k)) = E (m (c.tc.loc main_arg0)) g k (t.val * 512 + r.val) := by
      intro g r k
      exact (tail_eq m c ⟨t.val - 1, Nat.lt_of_le_of_lt (Nat.sub_le _ _) t.isLt⟩ g r k).trans (congrArg (E _ g k) (by simp only; omega))
    rw [outsAt0_B m c t h0]
    dsimp only
    rw [out_B_3, out_B_4]
    exact ⟨mean_blk m c t _ hxs (grp f) r (off f), mix_blk m c t _ hxs (grp f) r (off f)⟩

/-- Where point `t`'s block of a result lies. -/
theorem blk3_apply (t : Fin cfg0.N) (G : S4096x512.Idx → EReal) (r : Fin 512) (f : Fin 512) :
    ((win0_3.blk t).view.read (Elt Ideal) G : Vec Ideal S512x512 .bf16) (ix2 r f) = G (ix2 (row t r) f) := by
  have hi : win0_3.index t 0 = t.val ∧ win0_3.index t 1 = 0 := by revert t; decide
  rw [View.read_apply]
  show G _ = G _
  congr 1
  funext a
  apply Fin.ext
  match a with
  | ⟨0, _⟩ => show win0_3.index t 0 * 512 + 1 * r.val = t.val * 512 + r.val; rw [hi.1]; omega
  | ⟨1, _⟩ => show win0_3.index t 1 * 512 + 1 * f.val = f.val; rw [hi.2]; omega

theorem blk4_apply (t : Fin cfg0.N) (G : S4096x512.Idx → EReal) (r : Fin 512) (f : Fin 512) :
    ((win0_4.blk t).view.read (Elt Ideal) G : Vec Ideal S512x512 .bf16) (ix2 r f) = G (ix2 (row t r) f) := by
  have hi : win0_4.index t 0 = t.val ∧ win0_4.index t 1 = 0 := by revert t; decide
  rw [View.read_apply]
  show G _ = G _
  congr 1
  funext a
  apply Fin.ext
  match a with
  | ⟨0, _⟩ => show win0_4.index t 0 * 512 + 1 * r.val = t.val * 512 + r.val; rw [hi.1]; omega
  | ⟨1, _⟩ => show win0_4.index t 1 * 512 + 1 * f.val = f.val; rw [hi.2]; omega

/-- What point `t` writes back. -/
theorem flushed3_eq (c : Dev nD) (t : Fin cfg0.N) :
    (dats m 0 c).flushed 3 t = (win0_3.blk t).view.read (Elt Ideal) (res0 m c) := by
  rw [Value.flushed3]
  funext i
  rw [eq_ix2 i]
  exact (outs m c t (i 0) (i 1)).1.trans (blk3_apply t _ (i 0) (i 1)).symm

theorem flushed4_eq (c : Dev nD) (t : Fin cfg0.N) :
    (dats m 0 c).flushed 4 t = (win0_4.blk t).view.read (Elt Ideal) (res1 m c) := by
  rw [Value.flushed4]
  funext i
  rw [eq_ix2 i]
  exact (outs m c t (i 0) (i 1)).2.trans (blk4_apply t _ (i 0) (i 1)).symm

theorem cover3 (i : S4096x512.Idx) :
    ∃ t : Fin cfg0.N, (cfg0.win 3).flush t = true ∧ i ∈ ((cfg0.win 3).blk t).view.set := by
  have h0 : (i 0 : Nat) < 4096 := (i 0).isLt
  have h1 : (i 1 : Nat) < 512 := (i 1).isLt
  have hN : cfg0.N = 8 := N_0
  obtain ⟨t, ht⟩ : ∃ t : Fin cfg0.N, t.val = (i 0 : Nat) / 512 := ⟨⟨(i 0 : Nat) / 512, by omega⟩, rfl⟩
  refine ⟨t, flush0_3 _, ?_⟩
  show i ∈ ((View.whole main_v0_0).slice (win0_3.rect t)).set
  rw [View.set_slice_whole, Rect.mem_set_unit]
  have e : win0_3.index t 0 * win0_3.size 0 = t.val * 512 ∧ win0_3.xsize (grid0.coords t) 0 = 512
      ∧ win0_3.index t 1 * win0_3.size 1 = 0 ∧ win0_3.xsize (grid0.coords t) 1 = 512 := by rcases fin_N0 t with rfl|rfl|rfl|rfl|rfl|rfl|rfl|rfl <;> decide +kernel
  intro a
  match a with
  | ⟨0, _⟩ => show win0_3.index t 0 * win0_3.size 0 ≤ (i 0 : Nat) ∧ (i 0 : Nat) < win0_3.index t 0 * win0_3.size 0 + win0_3.xsize (grid0.coords t) 0; rw [e.1, e.2.1]; omega
  | ⟨1, _⟩ => show win0_3.index t 1 * win0_3.size 1 ≤ (i 1 : Nat) ∧ (i 1 : Nat) < win0_3.index t 1 * win0_3.size 1 + win0_3.xsize (grid0.coords t) 1; rw [e.2.2.1, e.2.2.2]; omega

theorem cover4 (i : S4096x512.Idx) :
    ∃ t : Fin cfg0.N, (cfg0.win 4).flush t = true ∧ i ∈ ((cfg0.win 4).blk t).view.set := by
  have h0 : (i 0 : Nat) < 4096 := (i 0).isLt
  have h1 : (i 1 : Nat) < 512 := (i 1).isLt
  have hN : cfg0.N = 8 := N_0
  obtain ⟨t, ht⟩ : ∃ t : Fin cfg0.N, t.val = (i 0 : Nat) / 512 := ⟨⟨(i 0 : Nat) / 512, by omega⟩, rfl⟩
  refine ⟨t, flush0_4 _, ?_⟩
  show i ∈ ((View.whole main_v0_1).slice (win0_4.rect t)).set
  rw [View.set_slice_whole, Rect.mem_set_unit]
  have e : win0_4.index t 0 * win0_4.size 0 = t.val * 512 ∧ win0_4.xsize (grid0.coords t) 0 = 512
      ∧ win0_4.index t 1 * win0_4.size 1 = 0 ∧ win0_4.xsize (grid0.coords t) 1 = 512 := by rcases fin_N0 t with rfl|rfl|rfl|rfl|rfl|rfl|rfl|rfl <;> decide +kernel
  intro a
  match a with
  | ⟨0, _⟩ => show win0_4.index t 0 * win0_4.size 0 ≤ (i 0 : Nat) ∧ (i 0 : Nat) < win0_4.index t 0 * win0_4.size 0 + win0_4.xsize (grid0.coords t) 0; rw [e.1, e.2.1]; omega
  | ⟨1, _⟩ => show win0_4.index t 1 * win0_4.size 1 ≤ (i 1 : Nat) ∧ (i 1 : Nat) < win0_4.index t 1 * win0_4.size 1 + win0_4.xsize (grid0.coords t) 1; rw [e.2.2.1, e.2.2.2]; omega

/-- The two results after the run. -/
theorem final3 (c : Dev nD) : (dats m 0 c).arrAt 3 cfg0.N = res0 m c :=
  (dats m 0 c).arrAt_eq_of_cover 3 _ (fun t _ => flushed3_eq m c t) cover3
theorem final4 (c : Dev nD) : (dats m 0 c).arrAt 4 cfg0.N = res1 m c :=
  (dats m 0 c).arrAt_eq_of_cover 4 _ (fun t _ => flushed4_eq m c t) cover4

/-! ## The reference's terms -/

section Reference

open Cert.PoolReferenceIdeal.Value
open Cert.PoolReferenceIdeal Cert.PoolReferenceIdeal.Gen

/-- Multiplying by a band of zeros and ones sums a row and the rows before it. -/
theorem band_back (u : S4096x512.Idx → EReal) (g : Fin 4) (k : Fin 128) (t : Fin 4096) (w : ℕ) (hw : w ≤ 16) :
    (∑ s : Fin 4096, (if s.val ≤ t.val ∧ t.val < s.val + w then 1 else 0) * u (ix2 s (lane g k)) : EReal) = ∑ j ∈ Finset.range w, E u g k (t.val + 16 - j) := by
  rw [← Finset.sum_subset (s₁ := (Finset.range w).filter fun j => j ≤ t.val) (Finset.filter_subset _ _)
    (fun j hj hn => dif_neg (by simp only [Finset.mem_filter, not_and] at hn; have := hn hj; omega))]
  simp only [ite_mul, one_mul, zero_mul]
  rw [← Finset.sum_filter]
  refine Finset.sum_bij' (fun s _ => t.val - s.val) (fun j hj => (⟨t.val - j, by omega⟩ : Fin 4096)) ?_ ?_ ?_ ?_ ?_
  · intro s hs
    have := (Finset.mem_filter.1 hs).2
    simp only [Finset.mem_filter, Finset.mem_range]
    omega
  · intro j hj
    have h1 := Finset.mem_range.1 (Finset.mem_filter.1 hj).1
    have h2 := (Finset.mem_filter.1 hj).2
    simp only [Finset.mem_filter, Finset.mem_univ, true_and]
    omega
  · intro s hs
    have := (Finset.mem_filter.1 hs).2
    exact Fin.ext (by simp only; omega)
  · intro j hj
    have h2 := (Finset.mem_filter.1 hj).2
    simp only
    omega
  · intro s hs
    have := (Finset.mem_filter.1 hs).2
    have := t.isLt
    unfold E
    rw [dif_pos (by omega)]
    exact congrArg (fun z : Fin 4096 => u (ix2 z (lane g k))) (Fin.ext (by simp only; omega))

/-- A group's window means less its rows, as the reference writes them. -/
def meanR (w : BitVec 32) (x : FVec Ideal S4096x128 .f32) : FVec Ideal S4096x128 .f32 :=
  subf (Host.divf (Host.dotGeneral dot_S4096x4096_S4096x128_S4096x128_1_0_0_1_n_n none (select (andi (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (cmpi .slt (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (addi (broadcastInDim S1x4096 ![1] bcast_S4096_S1x4096_1 (iotaInDim S4096 32 0)) (broadcastInDim S1x4096 ![] bcast_S_S1x4096 (constantI S_ 32 w)))))) (broadcastInDim S4096x4096 ![] bcast_S_S4096x4096 (constant S_ .f32 0x3F800000#32)) (broadcastInDim S4096x4096 ![] bcast_S_S4096x4096 (constant S_ .f32 0x00000000#32))) x) (broadcastInDim S4096x128 ![0, 1] bcast_S4096x1_S4096x128_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 w))))))) x

/-- The pooled rows, group by group. -/
def poolR (u : FVec Ideal S4096x512 .f32) : FVec Ideal S4096x512 .f32 :=
  concatenate S4096x512 1 [⟨S4096x128, meanR 2#32 (extractStridedSlice S4096x128 ![0, 0] u slices_S4096x512_S4096x128_0_0)⟩, ⟨S4096x128, meanR 4#32 (extractStridedSlice S4096x128 ![0, 128] u slices_S4096x512_S4096x128_0_128)⟩,
    ⟨S4096x128, meanR 8#32 (extractStridedSlice S4096x128 ![0, 256] u slices_S4096x512_S4096x128_0_256)⟩, ⟨S4096x128, meanR 16#32 (extractStridedSlice S4096x128 ![0, 384] u slices_S4096x512_S4096x128_0_384)⟩] concatenates_S4096x128_S4096x128_S4096x128_S4096x128_S4096x512_d1

theorem select_mul (p : BitVec 1) (x : EReal) : Scalar.select p x 0 = (Scalar.select p 1 0 : EReal) * x := by
  unfold Scalar.select
  split <;> simp

theorem meanR_apply (W : ℕ) (hW : W < 2 ^ 16) (x : FVec Ideal S4096x128 .f32) (t : Fin 4096) (k : Fin 128) :
    (show EReal from meanR (BitVec.ofNat 32 W) x (ix2 t k))
      = Ideal.div (∑ s : Fin 4096, (if s.val ≤ t.val ∧ t.val < s.val + W then 1 else 0) * x (ix2 s k)) (cnt (BitVec.ofNat 32 W) t.val) - x (ix2 t k) := by
  unfold meanR
  pointwise
  refine congrArg₂ (fun a b : EReal => a - b) (congrArg₂ Ideal.div (Finset.sum_congr rfl fun s _ => (select_mul _ _).trans (congrArg (fun b : EReal => b * x (ix2 s k)) (band_at W hW s t))) rfl) rfl

theorem slice4096 (x : FVec Ideal S4096x512 .f32) (g : Fin 4) (o : ℕ) (ho : o = 128 * g.val) (h : S4096x512.Slices ![0, o] S4096x128) (s : Fin 4096) (k : Fin 128) :
    extractStridedSlice S4096x128 ![0, o] x h (ix2 s k) = x (ix2 s (lane g k)) := by
  subst ho
  pointwise
  exact congrArg (fun k : Fin 512 => x (ix2 s k)) (Fin.ext (by simp only [lane]))

/-- A group's window means are the pooled rows' columns of that group. -/
theorem meanR_PL (u : FVec Ideal S4096x512 .f32) (g : Fin 4) (o : ℕ) (ho : o = 128 * g.val) (h : S4096x512.Slices ![0, o] S4096x128) (t : Fin 4096) (k : Fin 128) :
    (show EReal from meanR (BitVec.ofNat 32 (2 ^ (g.val + 1))) (extractStridedSlice S4096x128 ![0, o] u h) (ix2 t k)) = PL u t g k := by
  have hp : 2 ^ (g.val + 1) ≤ 2 ^ 4 := Nat.pow_le_pow_right (by norm_num) (by have := g.isLt; omega)
  rw [meanR_apply _ (by omega)]
  simp only [slice4096 u g o ho h]
  unfold PL
  rw [← band_back u g k t _ (by omega)]
  rfl

/-- Four groups of columns one beside the other, at an index. -/
theorem cat_at (P : Fin 4 → Fin 128 → EReal) (a0 a1 a2 a3 : FVec Ideal S4096x128 .f32) (h : Shape.Concatenates [S4096x128, S4096x128, S4096x128, S4096x128] S4096x512 1)
    (s : Fin 4096) (h0 : ∀ k, a0 (ix2 s k) = P 0 k) (h1 : ∀ k, a1 (ix2 s k) = P 1 k) (h2 : ∀ k, a2 (ix2 s k) = P 2 k) (h3 : ∀ k, a3 (ix2 s k) = P 3 k) (f : Fin 512) :
    concatenate S4096x512 1 [⟨S4096x128, a0⟩, ⟨S4096x128, a1⟩, ⟨S4096x128, a2⟩, ⟨S4096x128, a3⟩] h (ix2 s f) = P (grp f) (off f) := by
  pointwise
  have hf := f.isLt
  by_cases c1 : f.val < 128
  · rw [dif_pos c1, h0]
    exact congrArg₂ P (Fin.ext (by simp only [grp, Fin.val_zero]; omega)) (Fin.ext (by simp only [off]; omega))
  by_cases c2 : f.val - 128 < 128
  · rw [dif_neg c1, dif_pos c2, h1]
    exact congrArg₂ P (Fin.ext (show 1 = f.val / 128 by omega)) (Fin.ext (by simp only [off]; omega))
  by_cases c3 : f.val - 128 - 128 < 128
  · rw [dif_neg c1, dif_neg c2, dif_pos c3, h2]
    exact congrArg₂ P (Fin.ext (show 2 = f.val / 128 by omega)) (Fin.ext (by simp only [off]; omega))
  · rw [dif_neg c1, dif_neg c2, dif_neg c3, h3]
    exact congrArg₂ P (Fin.ext (show 3 = f.val / 128 by omega)) (Fin.ext (by simp only [off]; omega))

theorem poolR_apply (u : FVec Ideal S4096x512 .f32) (s : Fin 4096) (f : Fin 512) : poolR u (ix2 s f) = PL u s (grp f) (off f) :=
  cat_at (PL u s) _ _ _ _ _ s (fun k => meanR_PL u 0 0 rfl _ s k) (fun k => meanR_PL u 1 128 rfl _ s k) (fun k => meanR_PL u 2 256 rfl _ s k) (fun k => meanR_PL u 3 384 rfl _ s k) f

/-- The mixed rows, as the reference writes them. -/
def mixR (u : FVec Ideal S4096x512 .f32) (w : FVec Ideal S4x128x128 .f32) (p : FVec Ideal S1x512 .f32) : FVec Ideal S4096x512 .f32 :=
  mulf (shapeCast _ (transpose S4096x4x128 [2, 0, 1] (Host.dotGeneral dot_S4x128x128_S4096x4x128_S4x128x4096_1_2_2_0_0_1 none w (shapeCast _ (poolR u) shapeCasts_S4096x512_S4096x4x128)) transposes_S4x128x4096_S4096x4x128_2_0_1) shapeCasts_S4096x4x128_S4096x512) (broadcastInDim S4096x512 ![0, 1] bcast_S1x512_S4096x512_0_1 p)

theorem mixR_apply (u : FVec Ideal S4096x512 .f32) (w : FVec Ideal S4x128x128 .f32) (p : FVec Ideal S1x512 .f32) (s : Fin 4096) (f : Fin 512) :
    mixR u w p (ix2 s f) = MX u w p s (grp f) (off f) := by
  unfold mixR MX
  pointwise
  refine mulE (Finset.sum_congr rfl fun k _ => (mul_comm _ _).trans (mulE ?_ rfl)) (congrArg (fun f : Fin 512 => p (ix2 0 f)) (lane_grp f).symm)
  have e : (⟨f.val / 128 * 128 + k.val, by have := f.isLt; omega⟩ : Fin 512) = lane (grp f) k := Fin.ext (by simp only [lane, grp]; omega)
  refine (congrArg (fun f : Fin 512 => poolR u (ix2 s f)) e).trans ?_
  rw [poolR_apply, grp_lane, off_lane]

theorem res102 (m' : (ℓ : Loc Cert.PoolReferenceIdeal.nD Cert.PoolReferenceIdeal.τ Cert.PoolReferenceIdeal.sig) → Buf (Elt Ideal) ℓ) (c : Dev Cert.PoolReferenceIdeal.nD) :
    (res_main_v102 m' c : S4096x512.Idx → EReal) = poolR (m' ((c.tc : Thread Cert.PoolReferenceIdeal.nD Cert.PoolReferenceIdeal.τ).loc Cert.PoolReferenceIdeal.main_arg0)) := rfl
theorem res109 (m' : (ℓ : Loc Cert.PoolReferenceIdeal.nD Cert.PoolReferenceIdeal.τ Cert.PoolReferenceIdeal.sig) → Buf (Elt Ideal) ℓ) (c : Dev Cert.PoolReferenceIdeal.nD) :
    (res_main_v109 m' c : S4096x512.Idx → EReal)
      = mixR (m' ((c.tc : Thread Cert.PoolReferenceIdeal.nD Cert.PoolReferenceIdeal.τ).loc Cert.PoolReferenceIdeal.main_arg0))
          (m' ((c.tc : Thread Cert.PoolReferenceIdeal.nD Cert.PoolReferenceIdeal.τ).loc Cert.PoolReferenceIdeal.main_arg1))
          (m' ((c.tc : Thread Cert.PoolReferenceIdeal.nD Cert.PoolReferenceIdeal.τ).loc Cert.PoolReferenceIdeal.main_arg2)) := rfl

end Reference

/-- The results by equal operands. -/
theorem res0_eq (m : (ℓ : Loc nD τ sig) → Buf (Elt Ideal) ℓ) (c : Dev nD) (u : S4096x512.Idx → EReal) (e0 : u = m (c.tc.loc main_arg0)) :
    (poolR u : S4096x512.Idx → EReal) = res0 m c := by
  subst e0
  refine funext fun (i : S4096x512.Idx) => ?_
  rw [eq_ix2 i]
  exact poolR_apply _ (i 0) (i 1)
theorem res1_eq (m : (ℓ : Loc nD τ sig) → Buf (Elt Ideal) ℓ) (c : Dev nD) (u : S4096x512.Idx → EReal) (w : S4x128x128.Idx → EReal) (p : S1x512.Idx → EReal)
    (e0 : u = m (c.tc.loc main_arg0)) (e1 : w = m (c.tc.loc main_arg1)) (e2 : p = m (c.tc.loc main_arg2)) :
    (mixR u w p : S4096x512.Idx → EReal) = res1 m c := by
  subst e0 e1 e2
  refine funext fun (i : S4096x512.Idx) => ?_
  rw [eq_ix2 i]
  exact mixR_apply _ _ _ (i 0) (i 1)

/-- The two programs' results are equal. -/
theorem agrees : algebraic_PoolIdeal_PoolReferenceIdeal := by
  intro m g m' g' hpre hm
  refine ⟨fun c => res0 m c, fun c => res1 m c,
    (θ_run defs _ _).mono (fun r h c => ⟨(h c).1.trans (final3 m c), (h c).2.1.trans (final4 m c), (h c).2.2⟩)
      (Cert.PoolIdeal.Value.run_blocks m g), ?_⟩
  refine (θ_run Cert.PoolReferenceIdeal.defs _ _).mono (fun r h c => ⟨(h c).1.trans ?_, (h c).2.1.trans ?_, (h c).2.2⟩)
    (Cert.PoolReferenceIdeal.Value.run m' g')
  · obtain ⟨e0, e1, e2⟩ := hm c
    clear h
    exact (res102 m' c).trans (res0_eq m c _ e0)
  · obtain ⟨e0, e1, e2⟩ := hm c
    clear h
    exact (res109 m' c).trans (res1_eq m c _ _ _ e0 e1 e2)

end Cert.PoolIdeal.Hand

end
-- ==== Proof.Scan.lean ====
/-
  RUNNING SUMS OF A FORGET GATE'S LOGARITHMS: what the two calls about the forget gate and their references share. A number
  split into three parts, the sum over the times up to one (or from one on) by blocks of 128, the window that spells a
  running sum, and the logarithm of the logistic function with its derivative.
-/
module

public import Idealize.ShloMosaic.Lib.Pointwise
public import Idealize.ShloMosaic.Lib.StableHlo
public import Idealize.ShloMosaic.Lib.Routing.Ops
public import Idealize.ShloMosaic.Lib.WordCmp

@[expose] public section

noncomputable section

open Idealize.ShloMosaic Idealize.ShloMosaic.WordCmp

namespace Cert.Scan

/-- The three parts a number is split into add up to the number, unless it is infinity. -/
theorem three (a : EReal) (h : a ≠ ⊤) : a + (a - a) + (a - a - (a - a)) = a := by
  induction a with
  | bot => rfl
  | top => exact absurd rfl h
  | coe r =>
    rw [← EReal.coe_sub, ← EReal.coe_sub, ← EReal.coe_add, ← EReal.coe_add]
    congr 1
    ring

/-- Three sums of the parts, over the chosen entries, are the sum of the numbers chosen. -/
theorem three_sum {ι : Type} [Fintype ι] (a : ι → EReal) (s : ι → Prop) [DecidablePred s] (h : ∀ i, a i ≠ ⊤) :
    (∑ i, if s i then a i else 0) + (∑ i, if s i then a i - a i else 0) + (∑ i, if s i then a i - a i - (a i - a i) else 0)
      = ∑ i, if s i then a i else 0 := by
  rw [← Finset.sum_add_distrib, ← Finset.sum_add_distrib]
  refine Finset.sum_congr rfl fun i _ => ?_
  split
  · exact three _ (h i)
  · simp

/-- A sum of numbers that are not infinity is not infinity. -/
theorem sum_ne_top {ι : Type} (s : Finset ι) (a : ι → EReal) (h : ∀ i, a i ≠ ⊤) : ∑ i ∈ s, a i ≠ ⊤ := by
  induction s using Finset.cons_induction with
  | empty => simp
  | cons k s hk ih => rw [Finset.sum_cons]; exact EReal.add_ne_top (h k) ih

/-- A sum over `M` blocks of `N`. -/
theorem sum_blocks (K M N : Nat) (hK : K = M * N) (f : Fin K → EReal) :
    ∑ s, f s = ∑ a : Fin M, ∑ b : Fin N, f ⟨a.val * N + b.val, by
      have := a.isLt; have := b.isLt; have : (a.val + 1) * N ≤ M * N := Nat.mul_le_mul_right N a.isLt
      rw [hK]; rw [Nat.add_mul, Nat.one_mul] at this; omega⟩ := by
  subst hK
  rw [← Fintype.sum_prod_type', ← Equiv.sum_comp finProdFinEquiv]
  refine Finset.sum_congr rfl fun p _ => congrArg f (Fin.ext ?_)
  simp [finProdFinEquiv, Nat.mul_comm, Nat.add_comm]

/-- Time `s` of 4096 as its block of 128 and its place there. -/
def blockOf (s : Fin 4096) : Fin 32 := ⟨s.val / 128, by omega⟩
def placeOf (s : Fin 4096) : Fin 128 := ⟨s.val % 128, by omega⟩

/-- A sum over the times `r` picks, when `r` picks whole blocks by `r1` and, of block `b`, the places by `r2`. -/
theorem scan (F : Fin 32 → Fin 128 → EReal) (b : Fin 32) (r : Fin 4096 → Prop) (r1 : Fin 32 → Prop) (r2 : Fin 128 → Prop)
    [DecidablePred r] [DecidablePred r1] [DecidablePred r2] (hb : ¬ r1 b)
    (hr : ∀ s, r s ↔ r1 (blockOf s) ∨ (blockOf s = b ∧ r2 (placeOf s))) :
    (∑ s, if r s then F (blockOf s) (placeOf s) else 0)
      = (∑ j, if r2 j then F b j else 0) + ∑ b', if r1 b' then ∑ j, F b' j else 0 := by
  rw [sum_blocks 4096 32 128 rfl]
  have e1 : (∑ j, if r2 j then F b j else 0) = ∑ b' : Fin 32, if b' = b then (∑ j, if r2 j then F b j else 0) else 0 := by
    rw [Finset.sum_ite_eq' Finset.univ b]; simp
  rw [e1, ← Finset.sum_add_distrib]
  refine Finset.sum_congr rfl fun b' _ => ?_
  have hs : ∀ j : Fin 128, blockOf ⟨b'.val * 128 + j.val, by omega⟩ = b' ∧ placeOf ⟨b'.val * 128 + j.val, by omega⟩ = j :=
    fun j => ⟨Fin.ext (by show (b'.val * 128 + j.val) / 128 = b'.val; omega), Fin.ext (by show (b'.val * 128 + j.val) % 128 = j.val; omega)⟩
  simp only [hr, (hs _).1, (hs _).2]
  by_cases h : b' = b
  · subst h; simp [hb]
  · by_cases h1 : r1 b' <;> simp [h, h1]

/-- The head of a row of 256 and its block. -/
def headOf (ρ : Fin 256) : Fin 8 := ⟨ρ.val / 32, by omega⟩
def blkOf (ρ : Fin 256) : Fin 32 := ⟨ρ.val % 32, by omega⟩
def rowOf (h : Fin 8) (b : Fin 32) : Fin 256 := ⟨h.val * 32 + b.val, by omega⟩

/-- A sum over the rows of head `h` whose block `r1` picks. -/
theorem of_head (T : Fin 256 → EReal) (h : Fin 8) (r1 : Fin 32 → Prop) [DecidablePred r1] (p : Fin 256 → Prop) [DecidablePred p]
    (hp : ∀ ρ, p ρ ↔ headOf ρ = h ∧ r1 (blkOf ρ)) :
    (∑ ρ, if p ρ then T ρ else 0) = ∑ b', if r1 b' then T (rowOf h b') else 0 := by
  rw [sum_blocks 256 8 32 rfl]
  have hs : ∀ (a : Fin 8) (b : Fin 32), headOf ⟨a.val * 32 + b.val, by omega⟩ = a ∧ blkOf ⟨a.val * 32 + b.val, by omega⟩ = b :=
    fun a b => ⟨Fin.ext (by show (a.val * 32 + b.val) / 32 = a.val; omega), Fin.ext (by show (a.val * 32 + b.val) % 32 = b.val; omega)⟩
  simp only [hp, (hs _ _).1, (hs _ _).2]
  rw [Finset.sum_eq_single h]
  · simp only [true_and]; rfl
  · intro a _ ha; simp [ha]
  · simp

/-- Adding along a list is the start plus the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

abbrev R8 : Shape := ⟨2, ![8, 4096]⟩

/-- A window of the whole length, padded low by `lo` and read at its places, as a sum over those places. -/
theorem window_fold (x : R8.Idx → EReal) (lo hi : Nat) (h : R8.ReduceWindows (![1, 4096] : Fin 2 → Nat) ![1, 1] ![0, lo] ![0, hi] R8)
    (a : Fin 8) (t : Fin 4096) :
    Ideal.hostReduceWindowAdd ![1, 4096] ![1, 1] ![0, lo] ![0, hi] h x 0 (ix2 a t)
      = ∑ n : Fin 4096, if hn : lo ≤ t.val + n.val ∧ t.val + n.val - lo < 4096 then x (ix2 a ⟨t.val + n.val - lo, hn.2⟩) else 0 := by
  unfold Ideal.hostReduceWindowAdd Host.reduceWindow
  refine (foldl_add _ _ _).trans ?_
  rw [zero_add, ← Fin.sum_univ_def, ← Equiv.sum_comp (finCongr (Routing.numel2 4096).symm)]
  refine Finset.sum_congr rfl fun n _ => ?_
  have e : (Shape.rowMajor ⟨2, ![1, 4096]⟩).symm (finCongr (Routing.numel2 4096).symm n) = ix2 (0 : Fin 1) n := Routing.symm2 _
  have e0 : ((Shape.rowMajor ⟨2, ![1, 4096]⟩).symm (finCongr (Routing.numel2 4096).symm n) 0).val = 0 := by rw [e]; rfl
  have e1 : ((Shape.rowMajor ⟨2, ![1, 4096]⟩).symm (finCongr (Routing.numel2 4096).symm n) 1).val = n.val := by rw [e]; rfl
  have ha := a.isLt
  by_cases hn : lo ≤ t.val + n.val ∧ t.val + n.val - lo < 4096
  · rw [dif_pos hn, dif_pos]
    · refine congrArg x (funext fun q => Fin.ext ?_)
      match q with
      | ⟨0, _⟩ => show a.val * 1 + ((Shape.rowMajor ⟨2, ![1, 4096]⟩).symm (finCongr (Routing.numel2 4096).symm n) 0).val - 0 = a.val; rw [e0]; omega
      | ⟨1, _⟩ => show t.val * 1 + ((Shape.rowMajor ⟨2, ![1, 4096]⟩).symm (finCongr (Routing.numel2 4096).symm n) 1).val - lo = t.val + n.val - lo; rw [e1, Nat.mul_one]
    · intro q
      match q with
      | ⟨0, _⟩ => show 0 ≤ a.val * 1 + ((Shape.rowMajor ⟨2, ![1, 4096]⟩).symm (finCongr (Routing.numel2 4096).symm n) 0).val ∧ a.val * 1 + ((Shape.rowMajor ⟨2, ![1, 4096]⟩).symm (finCongr (Routing.numel2 4096).symm n) 0).val - 0 < 8; rw [e0]; omega
      | ⟨1, _⟩ => show lo ≤ t.val * 1 + ((Shape.rowMajor ⟨2, ![1, 4096]⟩).symm (finCongr (Routing.numel2 4096).symm n) 1).val ∧ t.val * 1 + ((Shape.rowMajor ⟨2, ![1, 4096]⟩).symm (finCongr (Routing.numel2 4096).symm n) 1).val - lo < 4096; rw [e1]; omega
  · rw [dif_neg hn, dif_neg]
    intro hin
    have h1 : lo ≤ t.val * 1 + ((Shape.rowMajor ⟨2, ![1, 4096]⟩).symm (finCongr (Routing.numel2 4096).symm n) 1).val ∧ t.val * 1 + ((Shape.rowMajor ⟨2, ![1, 4096]⟩).symm (finCongr (Routing.numel2 4096).symm n) 1).val - lo < 4096 := hin 1
    rw [e1] at h1
    omega

/-- The running sum along the times: entry `t` is the sum of the entries up to it. -/
theorem running (x : R8.Idx → EReal) (h : R8.ReduceWindows (![1, 4096] : Fin 2 → Nat) ![1, 1] ![0, 4095] ![0, 0] R8) (a : Fin 8) (t : Fin 4096) :
    Ideal.hostReduceWindowAdd ![1, 4096] ![1, 1] ![0, 4095] ![0, 0] h x 0 (ix2 a t) = ∑ s : Fin 4096, if s ≤ t then x (ix2 a s) else 0 := by
  rw [window_fold, ← Finset.sum_filter]
  refine (Finset.sum_filter_of_ne (p := fun n : Fin 4096 => 4095 ≤ t.val + n.val) fun n _ h0 => ?_).symm.trans ?_
  · by_contra hc; exact h0 (dif_neg fun h => hc h.1)
  refine Finset.sum_bij' (fun n hn => ⟨t.val + n.val - 4095, by have := t.isLt; have := n.isLt; omega⟩)
    (fun s hs => ⟨s.val + 4095 - t.val, by have := (Finset.mem_filter.1 hs).2; have : s.val ≤ t.val := this; omega⟩) ?_ ?_ ?_ ?_ ?_
  · intro n hn; refine Finset.mem_filter.2 ⟨Finset.mem_univ _, ?_⟩; show t.val + n.val - 4095 ≤ t.val; have := n.isLt; omega
  · intro s hs; refine Finset.mem_filter.2 ⟨Finset.mem_univ _, ?_⟩; show 4095 ≤ t.val + (s.val + 4095 - t.val); omega
  · intro n hn; have := (Finset.mem_filter.1 hn).2; apply Fin.ext; show t.val + n.val - 4095 + 4095 - t.val = n.val; omega
  · intro s hs; have : s.val ≤ t.val := (Finset.mem_filter.1 hs).2; apply Fin.ext; show t.val + (s.val + 4095 - t.val) - 4095 = s.val; omega
  · intro n hn; have := (Finset.mem_filter.1 hn).2; rw [dif_pos ⟨this, by have := t.isLt; have := n.isLt; omega⟩]

/-- The running sum from the end: entry `t` is the sum of the entries from it on. -/
theorem running_back (x : R8.Idx → EReal) (h : R8.ReduceWindows (![1, 4096] : Fin 2 → Nat) ![1, 1] ![0, 0] ![0, 4095] R8) (a : Fin 8) (t : Fin 4096) :
    Ideal.hostReduceWindowAdd ![1, 4096] ![1, 1] ![0, 0] ![0, 4095] h x 0 (ix2 a t) = ∑ s : Fin 4096, if t ≤ s then x (ix2 a s) else 0 := by
  rw [window_fold, ← Finset.sum_filter]
  refine (Finset.sum_filter_of_ne (p := fun n : Fin 4096 => t.val + n.val < 4096) fun n _ h0 => ?_).symm.trans ?_
  · by_contra hc; exact h0 (dif_neg fun h => hc h.2)
  refine Finset.sum_bij' (fun n hn => ⟨t.val + n.val, (Finset.mem_filter.1 hn).2⟩)
    (fun s hs => ⟨s.val - t.val, by have := s.isLt; omega⟩) ?_ ?_ ?_ ?_ ?_
  · intro n hn; refine Finset.mem_filter.2 ⟨Finset.mem_univ _, ?_⟩; show t.val ≤ t.val + n.val; omega
  · intro s hs; have : t.val ≤ s.val := (Finset.mem_filter.1 hs).2; refine Finset.mem_filter.2 ⟨Finset.mem_univ _, ?_⟩; show t.val + (s.val - t.val) < 4096; have := s.isLt; omega
  · intro n hn; apply Fin.ext; show t.val + n.val - t.val = n.val; omega
  · intro s hs; have : t.val ≤ s.val := (Finset.mem_filter.1 hs).2; apply Fin.ext; show t.val + (s.val - t.val) = s.val; omega
  · intro n hn; have := (Finset.mem_filter.1 hn).2; rw [dif_pos ⟨Nat.zero_le _, this⟩]; rfl

theorem running_host {u : Shape} (x : FVec Ideal R8 .f32) (init : u.Idx → EReal)
    (h : R8.ReduceWindows (![1, 4096] : Fin 2 → Nat) ![1, 1] ![0, 4095] ![0, 0] R8) (hu : 0 < u.numel) (hi : ∀ i, init i = 0) (a : Fin 8) (t : Fin 4096) :
    Host.reduceWindowAdd (F := Ideal) (φ := .f32) ![1, 4096] ![1, 1] ![0, 4095] ![0, 0] x init h hu (ix2 a t) = ∑ s : Fin 4096, if s ≤ t then x (ix2 a s) else 0 := by
  have e : init (Shape.Idx.first hu) = 0 := hi _
  refine Eq.trans ?_ (running x h a t)
  unfold Host.reduceWindowAdd
  rw [e]
  rfl

theorem running_back_host {u : Shape} (x : FVec Ideal R8 .f32) (init : u.Idx → EReal)
    (h : R8.ReduceWindows (![1, 4096] : Fin 2 → Nat) ![1, 1] ![0, 0] ![0, 4095] R8) (hu : 0 < u.numel) (hi : ∀ i, init i = 0) (a : Fin 8) (t : Fin 4096) :
    Host.reduceWindowAdd (F := Ideal) (φ := .f32) ![1, 4096] ![1, 1] ![0, 0] ![0, 4095] x init h hu (ix2 a t) = ∑ s : Fin 4096, if t ≤ s then x (ix2 a s) else 0 := by
  have e : init (Shape.Idx.first hu) = 0 := hi _
  refine Eq.trans ?_ (running_back x h a t)
  unfold Host.reduceWindowAdd
  rw [e]
  rfl

/-! ## The masks of zeros and ones -/

theorem bit (p : Prop) [Decidable p] :
    FloatOps.sitofp (F := Ideal) .f32 (BitVec.setWidth 32 (BitVec.ofBool (decide p))) = if p then (1 : EReal) else 0 := by
  show ((((BitVec.setWidth 32 (BitVec.ofBool (decide p))).toInt : ℝ)) : EReal) = _
  by_cases h : p <;> simp [h]

/-- A word's number shifted right by five places is divided by 32. -/
theorem shr (a : Nat) (h : a < 2 ^ 32) : IntOp.shrui ArithUnit.vector (BitVec.ofNat 32 a) 5#32 = BitVec.ofNat 32 (a / 32) := by
  have e : (5#32 : BitVec 32).toNat = 5 := rfl
  unfold IntOp.shrui
  rw [if_pos (by decide)]
  apply BitVec.eq_of_toNat_eq
  rw [BitVec.ushiftRight_eq', BitVec.toNat_ushiftRight, e, Nat.shiftRight_eq_div_pow, BitVec.toNat_ofNat, BitVec.toNat_ofNat, Nat.mod_eq_of_lt h,
    Nat.mod_eq_of_lt (by omega)]

/-- The mask of the places up to `b`. -/
theorem mask_le (a b : Nat) (ha : a < 256) (hb : b < 256) :
    FloatOps.sitofp (F := Ideal) .f32 (BitVec.setWidth 32 (IntOp.cmpi .sle (BitVec.ofNat 32 a) (BitVec.ofNat 32 b))) = if a ≤ b then (1 : EReal) else 0 := by
  rw [cmpi_sle_ofNat (by omega) (by omega), bit]

/-- The mask of the places from `b` on. -/
theorem mask_ge (a b : Nat) (ha : a < 256) (hb : b < 256) :
    FloatOps.sitofp (F := Ideal) .f32 (BitVec.setWidth 32 (IntOp.cmpi .sge (BitVec.ofNat 32 a) (BitVec.ofNat 32 b))) = if b ≤ a then (1 : EReal) else 0 := by
  rw [cmpi_sge_ofNat (by omega) (by omega), bit]

/-- The mask of the same head's earlier rows. -/
theorem mask_before (r x : Nat) (hr : r < 256) (hx : x < 256) :
    FloatOps.sitofp (F := Ideal) .f32 (BitVec.setWidth 32 (IntOp.andi
      (IntOp.cmpi .eq (IntOp.shrui ArithUnit.vector (BitVec.ofNat 32 r) 5#32) (IntOp.shrui ArithUnit.vector (BitVec.ofNat 32 x) 5#32))
      (IntOp.cmpi .slt (BitVec.ofNat 32 x) (BitVec.ofNat 32 r)))) = if r / 32 = x / 32 ∧ x < r then (1 : EReal) else 0 := by
  rw [shr _ (by omega), shr _ (by omega), cmpi_slt_ofNat (by omega) (by omega), cmpi_eq_eq_toNat, toNat_ofNat_of_lt (by omega), toNat_ofNat_of_lt (by omega),
    andi_ofBool, ← Bool.decide_and, bit]

/-- The mask of the same head's later rows. -/
theorem mask_after (r x : Nat) (hr : r < 256) (hx : x < 256) :
    FloatOps.sitofp (F := Ideal) .f32 (BitVec.setWidth 32 (IntOp.andi
      (IntOp.cmpi .eq (IntOp.shrui ArithUnit.vector (BitVec.ofNat 32 r) 5#32) (IntOp.shrui ArithUnit.vector (BitVec.ofNat 32 x) 5#32))
      (IntOp.cmpi .sgt (BitVec.ofNat 32 x) (BitVec.ofNat 32 r)))) = if r / 32 = x / 32 ∧ r < x then (1 : EReal) else 0 := by
  rw [shr _ (by omega), shr _ (by omega), cmpi_sgt_ofNat (by omega) (by omega), cmpi_eq_eq_toNat, toNat_ofNat_of_lt (by omega), toNat_ofNat_of_lt (by omega),
    andi_ofBool, ← Bool.decide_and, bit]

/-- The mask of a head's rows. -/
theorem mask_head (x a : Nat) (hx : x < 256) (ha : a < 8) :
    FloatOps.sitofp (F := Ideal) .f32 (BitVec.setWidth 32
      (IntOp.cmpi .eq (IntOp.shrui ArithUnit.vector (BitVec.ofNat 32 x) 5#32) (BitVec.ofNat 32 a))) = if x / 32 = a then (1 : EReal) else 0 := by
  rw [shr _ (by omega), cmpi_eq_eq_toNat, toNat_ofNat_of_lt (by omega), toNat_ofNat_of_lt (by omega), bit]

/-- Three sums of the parts are the sum of the numbers. -/
theorem three_all {ι : Type} [Fintype ι] (a : ι → EReal) (h : ∀ i, a i ≠ ⊤) :
    (∑ i, a i) + (∑ i, (a i - a i)) + (∑ i, (a i - a i - (a i - a i))) = ∑ i, a i := by
  simpa using three_sum a (fun _ => True) h

/-- Three products of the parts with a mask are the sum of the numbers it picks. -/
theorem three_right {ι : Type} [Fintype ι] (a s : ι → EReal) (p : ι → Prop) [DecidablePred p] (hs : ∀ i, s i = if p i then 1 else 0)
    (h : ∀ i, a i ≠ ⊤) :
    (∑ i, a i * s i) + (∑ i, (a i - a i) * s i) + (∑ i, (a i - a i - (a i - a i)) * s i) = ∑ i, if p i then a i else 0 := by
  simp only [hs, mul_ite, mul_one, mul_zero]
  exact three_sum a p h

theorem three_left {ι : Type} [Fintype ι] (a s : ι → EReal) (p : ι → Prop) [DecidablePred p] (hs : ∀ i, s i = if p i then 1 else 0)
    (h : ∀ i, a i ≠ ⊤) :
    (∑ i, s i * a i) + (∑ i, s i * (a i - a i)) + (∑ i, s i * (a i - a i - (a i - a i))) = ∑ i, if p i then a i else 0 := by
  simp only [mul_comm (s _)]
  exact three_right a s p hs h

/-- The time of a place of a row. -/
def timeOf (r : Fin 256) (l : Fin 128) : Fin 4096 := ⟨r.val % 32 * 128 + l.val, by omega⟩

/-- The places of a row up to one and the whole of the head's earlier rows are the times up to it. -/
theorem upto (A : Fin 256 → Fin 128 → EReal) (r : Fin 256) (l : Fin 128) :
    (∑ k : Fin 128, if k.val ≤ l.val then A r k else 0) + (∑ x : Fin 256, if r.val / 32 = x.val / 32 ∧ x.val < r.val then ∑ k, A x k else 0)
      = ∑ s : Fin 4096, if s ≤ timeOf r l then A (rowOf (headOf r) (blockOf s)) (placeOf s) else 0 := by
  have hr : rowOf (headOf r) (blkOf r) = r := Fin.ext (by show r.val / 32 * 32 + r.val % 32 = r.val; omega)
  rw [of_head (fun x => ∑ k, A x k) (headOf r) (fun b => b < blkOf r) _ fun x => by
      rw [Fin.ext_iff, Fin.lt_def]; show _ ↔ x.val / 32 = r.val / 32 ∧ x.val % 32 < r.val % 32; omega,
    scan (fun b k => A (rowOf (headOf r) b) k) (blkOf r) (fun s => s ≤ timeOf r l) (fun b => b < blkOf r) (fun k => k.val ≤ l.val) (lt_irrefl _) fun s => by
      rw [Fin.le_def, Fin.lt_def, Fin.ext_iff]
      show s.val ≤ r.val % 32 * 128 + l.val ↔ s.val / 128 < r.val % 32 ∨ (s.val / 128 = r.val % 32 ∧ s.val % 128 ≤ l.val)
      have := l.isLt; omega,
    hr]

/-- The places of a row from one on and the whole of the head's later rows are the times from it on. -/
theorem onward (A : Fin 256 → Fin 128 → EReal) (r : Fin 256) (l : Fin 128) :
    (∑ k : Fin 128, if l.val ≤ k.val then A r k else 0) + (∑ x : Fin 256, if r.val / 32 = x.val / 32 ∧ r.val < x.val then ∑ k, A x k else 0)
      = ∑ s : Fin 4096, if timeOf r l ≤ s then A (rowOf (headOf r) (blockOf s)) (placeOf s) else 0 := by
  have hr : rowOf (headOf r) (blkOf r) = r := Fin.ext (by show r.val / 32 * 32 + r.val % 32 = r.val; omega)
  rw [of_head (fun x => ∑ k, A x k) (headOf r) (fun b => blkOf r < b) _ fun x => by
      rw [Fin.ext_iff, Fin.lt_def]; show _ ↔ x.val / 32 = r.val / 32 ∧ r.val % 32 < x.val % 32; omega,
    scan (fun b k => A (rowOf (headOf r) b) k) (blkOf r) (fun s => timeOf r l ≤ s) (fun b => blkOf r < b) (fun k => l.val ≤ k.val) (lt_irrefl _) fun s => by
      rw [Fin.le_def, Fin.lt_def, Fin.ext_iff]
      show r.val % 32 * 128 + l.val ≤ s.val ↔ r.val % 32 < s.val / 128 ∨ (s.val / 128 = r.val % 32 ∧ l.val ≤ s.val % 128)
      have := l.isLt; omega,
    hr]

/-- The rows of a head, each summed, are the times summed. -/
theorem whole (A : Fin 256 → Fin 128 → EReal) (h : Fin 8) :
    (∑ x : Fin 256, if x.val / 32 = h.val then ∑ k, A x k else 0) = ∑ s : Fin 4096, A (rowOf h (blockOf s)) (placeOf s) := by
  rw [of_head (fun x => ∑ k, A x k) h (fun _ => True) _ fun x => by rw [Fin.ext_iff, and_true]; rfl, sum_blocks 4096 32 128 rfl]
  simp only [if_true]
  refine Finset.sum_congr rfl fun b _ => Finset.sum_congr rfl fun k _ => ?_
  congr 1
  · exact congrArg _ (Fin.ext (by show b.val = (b.val * 128 + k.val) / 128; omega))
  · exact Fin.ext (by show k.val = (b.val * 128 + k.val) % 128; omega)

/-! ## The logarithm of the logistic function -/

/-- The logarithm of the logistic function, as the call computes it. -/
def logsig (z : EReal) : EReal := min z 0 - Ideal.log1p (Ideal.exp (0 - max z (-z)))

/-- The softplus, as the reference computes it. -/
def soft (y : EReal) : EReal := max y 0 + Ideal.log1p (Ideal.exp (-(max y (-y))))

theorem log1p_exp (r : ℝ) : Ideal.log1p (Ideal.exp (r : EReal)) = ((Real.log (1 + Real.exp r) : ℝ) : EReal) := by
  have h : 0 < 1 + Real.exp r := by positivity
  show Ideal.log (1 + ((Real.exp r : ℝ) : EReal)) = _
  rw [← EReal.coe_one, ← EReal.coe_add]
  show (if 1 + Real.exp r ≤ 0 then (⊥ : EReal) else ((Real.log (1 + Real.exp r) : ℝ) : EReal)) = _
  rw [if_neg (not_le.2 h)]

theorem log1p_exp_bot : Ideal.log1p (Ideal.exp ⊥) = 0 := by
  show Ideal.log (1 + 0) = 0
  rw [add_zero, ← EReal.coe_one]
  show (if (1 : ℝ) ≤ 0 then (⊥ : EReal) else ((Real.log 1 : ℝ) : EReal)) = 0
  rw [if_neg (by norm_num), Real.log_one, EReal.coe_zero]

theorem coe_max (r s : ℝ) : ((max r s : ℝ) : EReal) = max (r : EReal) s := EReal.coe_strictMono.monotone.map_max

theorem coe_min (r s : ℝ) : ((min r s : ℝ) : EReal) = min (r : EReal) s := EReal.coe_strictMono.monotone.map_min

theorem abs_coe (r : ℝ) : max (r : EReal) (-(r : EReal)) = ((|r| : ℝ) : EReal) := by
  rw [← EReal.coe_neg, ← coe_max]; rfl

theorem logsig_coe (r : ℝ) : logsig (r : EReal) = ((min r 0 - Real.log (1 + Real.exp (-|r|)) : ℝ) : EReal) := by
  unfold logsig
  rw [abs_coe, zero_sub, ← EReal.coe_neg, log1p_exp, EReal.coe_sub, coe_min, EReal.coe_zero]

theorem soft_coe (r : ℝ) : soft (r : EReal) = ((max r 0 + Real.log (1 + Real.exp (-|r|)) : ℝ) : EReal) := by
  unfold soft
  rw [abs_coe, ← EReal.coe_neg, log1p_exp, EReal.coe_add, coe_max, EReal.coe_zero]

theorem logsig_top : logsig ⊤ = 0 := by
  unfold logsig
  have e : (0 : EReal) - ⊤ = ⊥ := by rw [sub_eq_add_neg, EReal.neg_top, EReal.add_bot]
  rw [EReal.neg_top, max_eq_left bot_le, e, log1p_exp_bot, sub_zero, min_eq_right le_top]

theorem logsig_bot : logsig ⊥ = ⊥ := by
  unfold logsig
  rw [min_eq_left bot_le, EReal.bot_sub]

theorem soft_bot : soft ⊥ = 0 := by
  unfold soft
  rw [EReal.neg_bot, max_eq_right bot_le, max_eq_right (bot_le : (⊥ : EReal) ≤ ⊤), EReal.neg_top, log1p_exp_bot, add_zero]

theorem soft_top : soft ⊤ = ⊤ := by
  unfold soft
  rw [EReal.neg_top, max_eq_left (le_top : (0 : EReal) ≤ ⊤), max_eq_left (bot_le : (⊥ : EReal) ≤ ⊤), EReal.neg_top, log1p_exp_bot, add_zero]

/-- The two agree: the logarithm of the logistic function is minus the softplus of the negative. -/
theorem logsig_eq (z : EReal) : logsig z = -soft (-z) := by
  induction z with
  | bot => rw [logsig_bot, EReal.neg_bot, soft_top, EReal.neg_top]
  | top => rw [logsig_top, EReal.neg_top, soft_bot, neg_zero]
  | coe r =>
    rw [logsig_coe, ← EReal.coe_neg, soft_coe, ← EReal.coe_neg, abs_neg]
    congr 1
    rw [neg_add, ← min_neg_neg, neg_neg, neg_zero]
    ring

theorem logsig_ne_top (z : EReal) : logsig z ≠ ⊤ := by
  induction z with
  | bot => rw [logsig_bot]; exact bot_ne_top
  | top => rw [logsig_top]; exact EReal.zero_ne_top
  | coe r => rw [logsig_coe]; exact EReal.coe_ne_top _

/-- The softplus of a real number is the logarithm of one plus its exponential. -/
theorem soft_real (r : ℝ) : max r 0 + Real.log (1 + Real.exp (-|r|)) = Real.log (1 + Real.exp r) := by
  rcases le_total r 0 with h | h
  · rw [max_eq_right h, abs_of_nonpos h, neg_neg, zero_add]
  · rw [max_eq_left h, abs_of_nonneg h]
    have e : 1 + Real.exp r = Real.exp r * (1 + Real.exp (-r)) := by rw [mul_add, ← Real.exp_add]; simp [add_comm]
    rw [e, Real.log_mul (Real.exp_pos r).ne' (by positivity), Real.log_exp]

/-- The derivative's factor, as the reference's derivative computes it. -/
def slope (z : EReal) : EReal := Ideal.exp ((if -z = ⊤ then 0 else -z) - (if soft (-z) = ⊤ then 0 else soft (-z)))

theorem slope_coe (r : ℝ) : slope (r : EReal) = (((1 + Real.exp r)⁻¹ : ℝ) : EReal) := by
  have h : 0 < 1 + Real.exp (-r) := by positivity
  have h' : 0 < 1 + Real.exp r := by positivity
  unfold slope
  rw [← EReal.coe_neg, soft_coe, soft_real, if_neg (EReal.coe_ne_top _), if_neg (EReal.coe_ne_top _), ← EReal.coe_sub]
  show ((Real.exp (-r - Real.log (1 + Real.exp (-r))) : ℝ) : EReal) = _
  congr 1
  rw [Real.exp_sub, Real.exp_log h, Real.exp_neg]
  have : Real.exp r ≠ 0 := (Real.exp_pos r).ne'
  field_simp
  ring

theorem slope_top : slope ⊤ = 0 := by
  unfold slope
  rw [EReal.neg_top, soft_bot, if_neg bot_ne_top, if_neg EReal.zero_ne_top, EReal.bot_sub]; rfl

theorem slope_bot : slope ⊥ = 1 := by
  unfold slope
  rw [EReal.neg_bot, soft_top, if_pos rfl, sub_zero, ← EReal.coe_zero]
  show ((Real.exp 0 : ℝ) : EReal) = 1
  rw [Real.exp_zero, EReal.coe_one]

/-- Dividing by one plus the exponential is multiplying by the factor. -/
theorem div_eq (d z : EReal) : Ideal.div d (1 + Ideal.exp z) = d * slope z := by
  induction z with
  | bot =>
    rw [slope_bot]
    show Ideal.div d (1 + 0) = _
    rw [add_zero]; unfold Ideal.div
    rw [if_neg one_ne_zero, ← EReal.coe_one, ← EReal.coe_inv, inv_one]
  | top =>
    rw [slope_top]
    show Ideal.div d (1 + ⊤) = _
    have e : (1 : EReal) + ⊤ = ⊤ := EReal.add_top_of_ne_bot (by rw [← EReal.coe_one]; exact EReal.coe_ne_bot 1)
    rw [e]; unfold Ideal.div
    rw [if_neg EReal.top_ne_zero, EReal.inv_top]
  | coe r =>
    have h : 0 < 1 + Real.exp r := by positivity
    rw [slope_coe]
    show Ideal.div d (1 + ((Real.exp r : ℝ) : EReal)) = _
    rw [← EReal.coe_one, ← EReal.coe_add]; unfold Ideal.div
    rw [if_neg (by rw [← EReal.coe_zero]; exact fun e => h.ne' (EReal.coe_injective e)), ← EReal.coe_inv]

theorem slope_real (z : EReal) : ∃ r : ℝ, 0 ≤ r ∧ slope z = r := by
  induction z with
  | bot => exact ⟨1, zero_le_one, by rw [slope_bot, EReal.coe_one]⟩
  | top => exact ⟨0, le_refl _, by rw [slope_top, EReal.coe_zero]⟩
  | coe r => exact ⟨_, by positivity, slope_coe r⟩

theorem mul_slope_ne_top (d z : EReal) (h : d ≠ ⊤) : d * slope z ≠ ⊤ := by
  obtain ⟨r, h0, e⟩ := slope_real z
  rw [e]
  induction d with
  | bot =>
    rcases h0.eq_or_lt with h0 | h0
    · rw [← h0, EReal.coe_zero, mul_zero]; exact EReal.zero_ne_top
    · rw [EReal.bot_mul_coe_of_pos h0]; exact bot_ne_top
  | top => exact absurd rfl h
  | coe s => rw [← EReal.coe_mul]; exact EReal.coe_ne_top _

/-- A time's row among a head's, and its place in it, give the time back. -/
theorem time_row (h : Fin 8) (s : Fin 4096) : timeOf (rowOf h (blockOf s)) (placeOf s) = s ∧ headOf (rowOf h (blockOf s)) = h := by
  have := s.isLt
  refine ⟨Fin.ext ?_, Fin.ext ?_⟩
  · show (h.val * 32 + s.val / 128) % 32 * 128 + s.val % 128 = s.val; omega
  · show (h.val * 32 + s.val / 128) / 32 = h.val; omega

end Cert.Scan

end
-- ==== Proof.Forget.Value.lean ====
/-
  WHAT THE FORGET GATE'S CALL COMPUTES: its result at an index. The call lays the gate's input out by heads, 32 rows of 128
  times each, takes the logarithm of the logistic function, and sums within a row by a triangular mask and over the head's
  earlier rows by a second mask, each product done on a number split into three parts; together it is the running sum over
  the head's 4096 times that the reference spells as a window.
-/
module

public import proofs.«01_k».proof.Defs
public import proofs.«01_k».proof.Proof.Gen.ForgetIdeal.Value
public import proofs.«01_k».proof.Proof.Gen.ForgetReferenceIdeal.Run
public import proofs.«01_k».proof.Proof.Scan
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.ForgetIdeal.Hand
open Cert.ForgetIdeal Cert.ForgetIdeal.Gen
open Cert.Scan

theorem hz : (![0, 0] : Fin 2 → Nat) = fun _ => 0 := funext fun a => by fin_cases a <;> rfl

/-- A head's forget gate at a time, as a logarithm: the call reads the first eight lanes. -/
def gate (fl : S4096x128.Idx → EReal) (b : S1x8.Idx → EReal) (h : Fin 8) (s : Fin 4096) : EReal :=
  logsig (fl (ix2 s ⟨h.val, by omega⟩) + b (ix2 0 h))

/-- The result: the head's logarithms summed up to a time. -/
def sums (fl : S4096x128.Idx → EReal) (b : S1x8.Idx → EReal) (i : S256x128.Idx) : EReal :=
  ∑ s : Fin 4096, if s ≤ timeOf (i 0) (i 1) then gate fl b (headOf (i 0)) s else 0

/-- The logarithms, row by row. -/
theorem pay2_apply (v0 : Vec Ideal S256x128 .f32) (v2 : Vec Ideal S256x1 .f32) (r : Fin 256) (l : Fin 128) :
    k0_pay2 v0 v2 (ix2 r l) = logsig (v0 (ix2 r l) + (show EReal from v2 (ix2 r 0))) := by
  unfold_payloads
  pointwise
  rfl

theorem pay3_apply (v0 : Vec Ideal S256x128 .f32) (v2 : Vec Ideal S256x1 .f32) (r : Fin 256) (l : Fin 128) :
    k0_pay3 v0 v2 (ix2 r l) = ∑ k : Fin 128, if k.val ≤ l.val then logsig (v0 (ix2 r k) + (show EReal from v2 (ix2 r 0))) else 0 := by
  have hA : ∀ r l, k0_pay2 v0 v2 (ix2 r l) = _ := pay2_apply v0 v2
  unfold k0_pay3
  generalize k0_pay2 v0 v2 = A at hA ⊢
  pointwise
  simp only [hA]
  exact three_right (fun k : Fin 128 => logsig (v0 (ix2 r k) + (show EReal from v2 (ix2 r 0)))) _ (fun k => k.val ≤ l.val)
    (fun k => mask_le k.val l.val (by omega) (by omega)) fun k => logsig_ne_top _

theorem pay1_apply (v0 : Vec Ideal S256x128 .f32) (v2 : Vec Ideal S256x1 .f32) (r : Fin 256) (l : Fin 128) :
    k0_pay1 (k0_pay3 v0 v2) k0_pay4 (k0_pay7 v0 v2) (k0_pay8 v0 v2) (k0_pay9 v0 v2) (constant S256x128 .f32 0x00000000#32) (ix2 r l)
      = ∑ s : Fin 4096, if s ≤ timeOf r l then
          logsig (v0 (ix2 (rowOf (headOf r) (blockOf s)) (placeOf s)) + (show EReal from v2 (ix2 (rowOf (headOf r) (blockOf s)) 0))) else 0 := by
  have hA : ∀ r l, k0_pay2 v0 v2 (ix2 r l) = _ := pay2_apply v0 v2
  have hB := pay3_apply v0 v2 r l
  unfold k0_pay1 k0_pay9 k0_pay8 k0_pay7 k0_pay6 k0_pay5 k0_pay4
  generalize k0_pay3 v0 v2 = B at hB ⊢
  generalize k0_pay2 v0 v2 = A at hA ⊢
  pointwise
  have hT : ∀ x : Fin 256, (∑ k, A (ix2 x k)) + (∑ k, (A (ix2 x k) - A (ix2 x k))) + (∑ k, (A (ix2 x k) - A (ix2 x k) - (A (ix2 x k) - A (ix2 x k))))
      = ∑ k : Fin 128, logsig (v0 (ix2 x k) + (show EReal from v2 (ix2 x 0))) := fun x => by
    simp only [hA]
    exact three_all _ fun k => logsig_ne_top _
  simp only [hT, hB]
  rw [three_left (fun x : Fin 256 => ∑ k : Fin 128, logsig (v0 (ix2 x k) + (show EReal from v2 (ix2 x 0)))) _ (fun x => r.val / 32 = x.val / 32 ∧ x.val < r.val)
    (fun x => mask_before r.val x.val (by omega) (by omega)) fun x => sum_ne_top _ _ fun k => logsig_ne_top _]
  exact upto (fun x k => logsig (v0 (ix2 x k) + (show EReal from v2 (ix2 x 0)))) r l

variable (m : (ℓ : Loc nD τ sig) → Buf (Elt Ideal) ℓ) (ρ : Dev nD → PrngReg)

/-- The host lays the gate's input out by heads: 32 rows of 128 times each. -/
theorem host_fl (c : Dev nD) (r : Fin 256) (l : Fin 128) :
    V m c main_v2 (ix2 r l) = m (c.tc.loc main_arg0) (ix2 (timeOf r l) ⟨(headOf r).val, by omega⟩) := by
  have h : V m c main_v2 = shapeCast S256x128 (transpose S8x4096 [1, 0] (extractStridedSlice S4096x8 ![0, 0] (m (c.tc.loc main_arg0)) slices_S4096x128_S4096x8_0_0) transposes_S4096x8_S8x4096_1_0) shapeCasts_S8x4096_S256x128 := by
    show StableHlo.after hostOps0 _ _ = _
    after_results
    rfl
  rw [h]
  generalize m (c.tc.loc main_arg0) = x
  pointwise
  rfl

/-- The host repeats a head's bias on its 32 rows. -/
theorem host_b (c : Dev nD) (r : Fin 256) (z : Fin 1) :
    V m c main_v6 (ix2 r z) = m (c.tc.loc main_arg1) (ix2 0 (headOf r)) := by
  have h : V m c main_v6 = shapeCast S256x1 (shapeCast S256 (broadcastInDim S8x32 ![0] bcast_S8_S8x32_0 (shapeCast S8 (m (c.tc.loc main_arg1)) shapeCasts_S1x8_S8)) shapeCasts_S8x32_S256) shapeCasts_S256_S256x1 := by
    show StableHlo.after hostOps0 _ _ = _
    after_results
    rfl
  rw [h]
  generalize m (c.tc.loc main_arg1) = x
  pointwise
  rfl

/-- The one block of operand 0 is the whole array. -/
theorem iblk0 (c : Dev nD) (t : Fin cfg0.N) (r : Fin 256) (k : Fin 128) :
    (iblk m c 0 t : Vec Ideal S256x128 .f32) (ix2 r k) = m (c.tc.loc main_arg0) (ix2 (timeOf r k) ⟨(headOf r).val, by omega⟩) := by
  have hi : win0_0.index t 0 = 0 ∧ win0_0.index t 1 = 0 := by
    rcases fin_N0 t with rfl <;> decide
  refine Eq.trans ?_ (host_fl m c r k)
  unfold iblk
  rw [View.read_apply]
  show V m c main_v2 _ = V m c main_v2 _
  congr 1
  funext a
  apply Fin.ext
  match a with
  | ⟨0, _⟩ => show win0_0.index t 0 * 256 + 1 * r.val = r.val; rw [hi.1]; omega
  | ⟨1, _⟩ => show win0_0.index t 1 * 128 + 1 * k.val = k.val; rw [hi.2]; omega

/-- The one block of operand 1 is the whole array. -/
theorem iblk1 (c : Dev nD) (t : Fin cfg0.N) (r : Fin 256) (k : Fin 1) :
    (iblk m c 1 t : Vec Ideal S256x1 .f32) (ix2 r k) = m (c.tc.loc main_arg1) (ix2 0 (headOf r)) := by
  have hi : win0_1.index t 0 = 0 ∧ win0_1.index t 1 = 0 := by
    rcases fin_N0 t with rfl <;> decide
  refine Eq.trans ?_ (host_b m c r k)
  unfold iblk
  rw [View.read_apply]
  show V m c main_v6 _ = V m c main_v6 _
  congr 1
  funext a
  apply Fin.ext
  match a with
  | ⟨0, _⟩ => show win0_1.index t 0 * 256 + 1 * r.val = r.val; rw [hi.1]; omega
  | ⟨1, _⟩ => show win0_1.index t 1 * 1 + 1 * k.val = k.val; rw [hi.2]; omega

/-- Where the result's block lies: it is the whole array. -/
theorem blk2_apply (t : Fin cfg0.N) (G : S256x128.Idx → EReal) (r : Fin 256) (f : Fin 128) :
    ((win0_2.blk t).view.read (Elt Ideal) G : Vec Ideal S256x128 .f32) (ix2 r f) = G (ix2 r f) := by
  have hi : win0_2.index t 0 = 0 ∧ win0_2.index t 1 = 0 := by
    rcases fin_N0 t with rfl <;> decide
  rw [View.read_apply]
  show G _ = G _
  congr 1
  funext a
  apply Fin.ext
  match a with
  | ⟨0, _⟩ => show win0_2.index t 0 * 256 + 1 * r.val = r.val; rw [hi.1]; omega
  | ⟨1, _⟩ => show win0_2.index t 1 * 128 + 1 * f.val = f.val; rw [hi.2]; omega

/-- What the body computes at its one point. -/
theorem point2 (c : Dev nD) (t : Fin cfg0.N) (r : Fin 256) (l : Fin 128) :
    k0_pay1 (k0_pay3 (iblk m c 0 t) (iblk m c 1 t)) k0_pay4 (k0_pay7 (iblk m c 0 t) (iblk m c 1 t)) (k0_pay8 (iblk m c 0 t) (iblk m c 1 t))
        (k0_pay9 (iblk m c 0 t) (iblk m c 1 t)) (constant S256x128 .f32 0x00000000#32) (ix2 r l)
      = sums (m (c.tc.loc main_arg0)) (m (c.tc.loc main_arg1)) (ix2 r l) := by
  rw [pay1_apply]
  refine Finset.sum_congr rfl fun s _ => ?_
  simp only [iblk0, iblk1, (time_row _ s).1, (time_row _ s).2]
  rfl

/-- What the point writes back. -/
theorem flushed2_eq (c : Dev nD) (t : Fin cfg0.N) :
    (dats m 0 c).flushed 2 t = (win0_2.blk t).view.read (Elt Ideal) (sums (m (c.tc.loc main_arg0)) (m (c.tc.loc main_arg1))) := by
  rw [Value.flushed2]
  unfold out0_2
  rw [View.canon_unit_zero hz]
  simp only [View.ld_unit_zero (S := S256x128) hz, View.ld_unit_zero (S := S256x1) hz]
  funext i
  rw [eq_ix2 i]
  refine Eq.trans ?_ (blk2_apply t _ (i 0) (i 1)).symm
  exact point2 m c t (i 0) (i 1)

theorem cover2 (i : S256x128.Idx) : ∃ t : Fin cfg0.N, (cfg0.win 2).flush t = true ∧ i ∈ ((cfg0.win 2).blk t).view.set := by
  refine ⟨t0_0, flush0_2 _, ?_⟩
  show i ∈ ((View.whole main_v7).slice (win0_2.rect t0_0)).set
  rw [View.set_slice_whole, Rect.mem_set_unit]
  have h0 : (i 0 : Nat) < 256 := (i 0).isLt
  have h1 : (i 1 : Nat) < 128 := (i 1).isLt
  have e : win0_2.index t0_0 0 * win0_2.size 0 = 0 ∧ win0_2.xsize (grid0.coords t0_0) 0 = 256
      ∧ win0_2.index t0_0 1 * win0_2.size 1 = 0 ∧ win0_2.xsize (grid0.coords t0_0) 1 = 128 := by decide +kernel
  intro a
  match a with
  | ⟨0, _⟩ => show win0_2.index t0_0 0 * win0_2.size 0 ≤ (i 0 : Nat) ∧ (i 0 : Nat) < win0_2.index t0_0 0 * win0_2.size 0 + win0_2.xsize (grid0.coords t0_0) 0; rw [e.1, e.2.1]; omega
  | ⟨1, _⟩ => show win0_2.index t0_0 1 * win0_2.size 1 ≤ (i 1 : Nat) ∧ (i 1 : Nat) < win0_2.index t0_0 1 * win0_2.size 1 + win0_2.xsize (grid0.coords t0_0) 1; rw [e.2.2.1, e.2.2.2]; omega

/-- The result after the run. -/
theorem final2 (c : Dev nD) : (dats m 0 c).arrAt 2 cfg0.N = sums (m (c.tc.loc main_arg0)) (m (c.tc.loc main_arg1)) :=
  (dats m 0 c).arrAt_eq_of_cover 2 _ (fun t _ => flushed2_eq m c t) cover2

theorem agrees : algebraic_ForgetIdeal_ForgetReferenceIdeal := by
  intro m g m' g' _ hm
  refine ⟨fun c => sums (m (c.tc.loc main_arg0)) (m (c.tc.loc main_arg1)),
    (θ_run defs _ _).mono (fun r h c => ⟨(h c).1.trans (final2 m c), (h c).2⟩) (Cert.ForgetIdeal.Value.run_blocks m g), ?_⟩
  refine (θ_run Cert.ForgetReferenceIdeal.defs _ _).mono
    (fun r h c => ⟨(h c).1.trans ?_, (h c).2⟩) (Cert.ForgetReferenceIdeal.Value.run m' g')
  obtain ⟨e0, e1⟩ := hm c
  rw [e0, e1]
  beta_reduce
  funext i
  rw [eq_ix2 i]
  generalize i 0 = p
  generalize i 1 = q
  generalize m (c.tc.loc main_arg0) = x
  generalize m (c.tc.loc main_arg1) = b
  pointwise
  refine (running_host _ _ _ _ (fun i => ?_) _ _).trans ?_
  · pointwise
  refine Finset.sum_congr rfl fun s _ => if_congr Iff.rfl ?_ rfl
  pointwise
  rw [if_neg fun h => h rfl]
  exact (logsig_eq _).symm

end Cert.ForgetIdeal.Hand

end
-- ==== Proof.ForgetGrad.Value.lean ====
/-
  WHAT THE FORGET GATE'S BACKWARD CALL COMPUTES: its two results at an index. The call sums the gradient from a time on, by
  masks as the forward call does, on numbers split into three parts, divides by one plus the exponential of the gate's input,
  and sums a head's rows for the bias. The reference is the derivative of the running sum of the logarithms.
-/
module

public import proofs.«01_k».proof.Defs
public import proofs.«01_k».proof.Proof.Gen.ForgetGradIdeal.Value
public import proofs.«01_k».proof.Proof.Gen.ForgetGradReferenceIdeal.Run
public import proofs.«01_k».proof.Proof.Scan
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.ForgetGradIdeal.Hand
open Cert.ForgetGradIdeal Cert.ForgetGradIdeal.Gen
open Cert.Scan

instance preFacts : Cert.Pre_forget_gradient_below_infinity.Facts := ⟨by decide⟩

theorem hz : (![0, 0] : Fin 2 → Nat) = fun _ => 0 := funext fun a => by fin_cases a <;> rfl

/-- The gradient of a head's logarithm at a time: the gradients from that time on, summed. -/
def back (dc : S8x4096.Idx → EReal) (h : Fin 8) (t : Fin 4096) : EReal := ∑ s : Fin 4096, if t ≤ s then dc (ix2 h s) else 0

/-- The gradient of the gate's input. -/
def dgate (dc : S8x4096.Idx → EReal) (fl : S4096x128.Idx → EReal) (b : S1x8.Idx → EReal) (h : Fin 8) (t : Fin 4096) : EReal :=
  back dc h t * slope (fl (ix2 t ⟨h.val, by omega⟩) + b (ix2 0 h))

def dfl (dc : S8x4096.Idx → EReal) (fl : S4096x128.Idx → EReal) (b : S1x8.Idx → EReal) (i : S256x128.Idx) : EReal :=
  dgate dc fl b (headOf (i 0)) (timeOf (i 0) (i 1))

/-- The gradient of a head's bias, the same in every lane. -/
def dbias (dc : S8x4096.Idx → EReal) (fl : S4096x128.Idx → EReal) (b : S1x8.Idx → EReal) (i : S8x128.Idx) : EReal :=
  ∑ t : Fin 4096, dgate dc fl b (i 0) t

theorem pay4_apply (v0 : Vec Ideal S256x128 .f32) (h : ∀ i, v0 i ≠ (⊤ : EReal)) (r : Fin 256) (l : Fin 128) :
    k0_pay4 v0 (ix2 r l) = ∑ k : Fin 128, if l.val ≤ k.val then (show EReal from v0 (ix2 r k)) else 0 := by
  unfold_payloads
  pointwise
  exact three_right (fun k : Fin 128 => (show EReal from v0 (ix2 r k))) _ (fun k => l.val ≤ k.val)
    (fun k => mask_ge k.val l.val (by omega) (by omega)) fun k => h _

theorem pay6_apply (v0 : Vec Ideal S256x128 .f32) (h : ∀ i, v0 i ≠ (⊤ : EReal)) (r : Fin 256) (l : Fin 128) :
    k0_pay6 v0 (ix2 r l) = ∑ k : Fin 128, (show EReal from v0 (ix2 r k)) := by
  unfold_payloads
  pointwise
  exact three_all (fun k : Fin 128 => (show EReal from v0 (ix2 r k))) fun k => h _

theorem pay7_apply (v0 v65 : Vec Ideal S256x128 .f32) (v67 : Vec Ideal S256x1 .f32) (h : ∀ i, v0 i ≠ (⊤ : EReal)) (r : Fin 256) (l : Fin 128) :
    k0_pay7 (k0_pay4 v0) k0_pay5 (k0_pay6 v0) v65 v67 (ix2 r l)
      = (∑ s : Fin 4096, if timeOf r l ≤ s then (show EReal from v0 (ix2 (rowOf (headOf r) (blockOf s)) (placeOf s))) else 0)
        * slope (v65 (ix2 r l) + (show EReal from v67 (ix2 r 0))) := by
  have hB := pay4_apply v0 h r l
  have hC : ∀ r l, k0_pay6 v0 (ix2 r l) = _ := pay6_apply v0 h
  unfold k0_pay7 k0_pay5
  generalize k0_pay4 v0 = B at hB ⊢
  generalize k0_pay6 v0 = C at hC ⊢
  pointwise
  simp only [hC, hB]
  rw [three_left (fun x : Fin 256 => ∑ k : Fin 128, (show EReal from v0 (ix2 x k))) _ (fun x => r.val / 32 = x.val / 32 ∧ r.val < x.val)
    (fun x => mask_after r.val x.val (by omega) (by omega)) fun x => sum_ne_top _ _ fun k => h _]
  rw [onward (fun x k => (show EReal from v0 (ix2 x k))) r l]
  exact div_eq _ _

theorem pay1_apply (D : FVec Ideal S256x128 .f32) (v29 : FVec Ideal S256x128 .f32) (v31 : IVec S256x256 1) (v46 : FVec Ideal S256x128 .f32)
    (v65 : Vec Ideal S256x128 .f32) (v67 : Vec Ideal S256x1 .f32) (e : k0_pay7 v29 v31 v46 v65 v67 = D) (h : ∀ r l, D (ix2 r l) ≠ (⊤ : EReal)) (a : Fin 8) (l : Fin 128) :
    k0_pay1 k0_pay8 (k0_pay9 k0_pay3) (k0_pay12 v29 v31 v46 v65 v67) (k0_pay13 v29 v31 v46 v65 v67) (k0_pay14 k0_pay3 v29 v31 v46 v65 v67) (ix2 a l)
      = ∑ s : Fin 4096, (show EReal from D (ix2 (rowOf a (blockOf s)) (placeOf s))) := by
  unfold k0_pay1 k0_pay14 k0_pay13 k0_pay12 k0_pay11 k0_pay10 k0_pay9 k0_pay8 k0_pay3
  rw [e]
  pointwise
  have hT : ∀ x : Fin 256, (∑ k, D (ix2 x k)) + (∑ k, (D (ix2 x k) - D (ix2 x k))) + (∑ k, (D (ix2 x k) - D (ix2 x k) - (D (ix2 x k) - D (ix2 x k))))
      = ∑ k : Fin 128, D (ix2 x k) := fun x => three_all _ fun k => h x k
  simp only [hT]
  rw [three_left (fun x : Fin 256 => ∑ k : Fin 128, (show EReal from D (ix2 x k))) _ (fun x => x.val / 32 = a.val)
    (fun x => mask_head x.val a.val (by omega) (by omega)) fun x => sum_ne_top _ _ fun k => h x k]
  exact whole (fun x k => (show EReal from D (ix2 x k))) a

variable (m : (ℓ : Loc nD τ sig) → Buf (Elt Ideal) ℓ) (ρ : Dev nD → PrngReg)

theorem lay (x : S8x4096.Idx → EReal) (h : S8x4096.ShapeCasts S256x128) (r : Fin 256) (l : Fin 128) :
    shapeCast S256x128 x h (ix2 r l) = x (ix2 (headOf r) (timeOf r l)) := by
  pointwise
  rfl

/-- The host lays the gradient out by heads: 32 rows of 128 times each. -/
theorem host_dc (c : Dev nD) (r : Fin 256) (l : Fin 128) :
    V m c main_v0 (ix2 r l) = m (c.tc.loc main_arg0) (ix2 (headOf r) (timeOf r l)) := by
  have h : V m c main_v0 = shapeCast S256x128 (m (c.tc.loc main_arg0)) shapeCasts_S8x4096_S256x128 := by
    show StableHlo.after hostOps0 _ _ = _
    after_results
    rfl
  rw [h]
  exact lay _ _ r l

/-- The host lays the gate's input out by heads: 32 rows of 128 times each. -/
theorem host_fl (c : Dev nD) (r : Fin 256) (l : Fin 128) :
    V m c main_v3 (ix2 r l) = m (c.tc.loc main_arg1) (ix2 (timeOf r l) ⟨(headOf r).val, by omega⟩) := by
  have h : V m c main_v3 = shapeCast S256x128 (transpose S8x4096 [1, 0] (extractStridedSlice S4096x8 ![0, 0] (m (c.tc.loc main_arg1)) slices_S4096x128_S4096x8_0_0) transposes_S4096x8_S8x4096_1_0) shapeCasts_S8x4096_S256x128 := by
    show StableHlo.after hostOps0 _ _ = _
    after_results
    rfl
  rw [h]
  generalize m (c.tc.loc main_arg1) = x
  pointwise
  rfl

/-- The host repeats a head's bias on its 32 rows. -/
theorem host_b (c : Dev nD) (r : Fin 256) (z : Fin 1) :
    V m c main_v7 (ix2 r z) = m (c.tc.loc main_arg2) (ix2 0 (headOf r)) := by
  have h : V m c main_v7 = shapeCast S256x1 (shapeCast S256 (broadcastInDim S8x32 ![0] bcast_S8_S8x32_0 (shapeCast S8 (m (c.tc.loc main_arg2)) shapeCasts_S1x8_S8)) shapeCasts_S8x32_S256) shapeCasts_S256_S256x1 := by
    show StableHlo.after hostOps0 _ _ = _
    after_results
    rfl
  rw [h]
  generalize m (c.tc.loc main_arg2) = x
  pointwise
  rfl

/-- The one block of operand 0 is the whole array. -/
theorem iblk0 (c : Dev nD) (t : Fin cfg0.N) (r : Fin 256) (k : Fin 128) :
    (iblk m c 0 t : Vec Ideal S256x128 .f32) (ix2 r k) = m (c.tc.loc main_arg0) (ix2 (headOf r) (timeOf r k)) := by
  have hi : win0_0.index t 0 = 0 ∧ win0_0.index t 1 = 0 := by
    rcases fin_N0 t with rfl <;> decide
  refine Eq.trans ?_ (host_dc m c r k)
  unfold iblk
  rw [View.read_apply]
  show V m c main_v0 _ = V m c main_v0 _
  congr 1
  funext a
  apply Fin.ext
  match a with
  | ⟨0, _⟩ => show win0_0.index t 0 * 256 + 1 * r.val = r.val; rw [hi.1]; omega
  | ⟨1, _⟩ => show win0_0.index t 1 * 128 + 1 * k.val = k.val; rw [hi.2]; omega

/-- The one block of operand 1. -/
theorem iblk1 (c : Dev nD) (t : Fin cfg0.N) (r : Fin 256) (k : Fin 128) :
    (iblk m c 1 t : Vec Ideal S256x128 .f32) (ix2 r k) = m (c.tc.loc main_arg1) (ix2 (timeOf r k) ⟨(headOf r).val, by omega⟩) := by
  have hi : win0_1.index t 0 = 0 ∧ win0_1.index t 1 = 0 := by
    rcases fin_N0 t with rfl <;> decide
  refine Eq.trans ?_ (host_fl m c r k)
  unfold iblk
  rw [View.read_apply]
  show V m c main_v3 _ = V m c main_v3 _
  congr 1
  funext a
  apply Fin.ext
  match a with
  | ⟨0, _⟩ => show win0_1.index t 0 * 256 + 1 * r.val = r.val; rw [hi.1]; omega
  | ⟨1, _⟩ => show win0_1.index t 1 * 128 + 1 * k.val = k.val; rw [hi.2]; omega

/-- The one block of operand 2. -/
theorem iblk2 (c : Dev nD) (t : Fin cfg0.N) (r : Fin 256) (k : Fin 1) :
    (iblk m c 2 t : Vec Ideal S256x1 .f32) (ix2 r k) = m (c.tc.loc main_arg2) (ix2 0 (headOf r)) := by
  have hi : win0_2.index t 0 = 0 ∧ win0_2.index t 1 = 0 := by
    rcases fin_N0 t with rfl <;> decide
  refine Eq.trans ?_ (host_b m c r k)
  unfold iblk
  rw [View.read_apply]
  show V m c main_v7 _ = V m c main_v7 _
  congr 1
  funext a
  apply Fin.ext
  match a with
  | ⟨0, _⟩ => show win0_2.index t 0 * 256 + 1 * r.val = r.val; rw [hi.1]; omega
  | ⟨1, _⟩ => show win0_2.index t 1 * 1 + 1 * k.val = k.val; rw [hi.2]; omega

/-- What the body computes for the gate's input, where the gradient is below infinity. -/
theorem point3 (c : Dev nD) (t : Fin cfg0.N) (h : ∀ i, m (c.tc.loc main_arg0) i ≠ (⊤ : EReal)) (r : Fin 256) (l : Fin 128) :
    k0_pay7 (k0_pay4 (iblk m c 0 t)) k0_pay5 (k0_pay6 (iblk m c 0 t)) (iblk m c 1 t) (iblk m c 2 t) (ix2 r l)
      = dfl (m (c.tc.loc main_arg0)) (m (c.tc.loc main_arg1)) (m (c.tc.loc main_arg2)) (ix2 r l) := by
  have h0 : ∀ i, (iblk m c 0 t : Vec Ideal S256x128 .f32) i ≠ (⊤ : EReal) := fun i => by
    rw [eq_ix2 i]; exact fun e => h _ ((iblk0 m c t (i 0) (i 1)).symm.trans e)
  rw [pay7_apply _ _ _ h0]
  simp only [iblk0, iblk1, iblk2, (time_row _ _).1, (time_row _ _).2]
  rfl

theorem dgate_ne_top (dc : S8x4096.Idx → EReal) (fl : S4096x128.Idx → EReal) (b : S1x8.Idx → EReal) (h : ∀ i, dc i ≠ ⊤) (a : Fin 8) (t : Fin 4096) :
    dgate dc fl b a t ≠ ⊤ :=
  mul_slope_ne_top _ _ (sum_ne_top _ _ fun s => by split; exacts [h _, EReal.zero_ne_top])

/-- What the body computes for the bias. -/
theorem point4 (c : Dev nD) (t : Fin cfg0.N) (h : ∀ i, m (c.tc.loc main_arg0) i ≠ (⊤ : EReal)) (a : Fin 8) (l : Fin 128) :
    k0_pay1 k0_pay8 (k0_pay9 k0_pay3) (k0_pay12 (k0_pay4 (iblk m c 0 t)) k0_pay5 (k0_pay6 (iblk m c 0 t)) (iblk m c 1 t) (iblk m c 2 t))
        (k0_pay13 (k0_pay4 (iblk m c 0 t)) k0_pay5 (k0_pay6 (iblk m c 0 t)) (iblk m c 1 t) (iblk m c 2 t))
        (k0_pay14 k0_pay3 (k0_pay4 (iblk m c 0 t)) k0_pay5 (k0_pay6 (iblk m c 0 t)) (iblk m c 1 t) (iblk m c 2 t)) (ix2 a l)
      = dbias (m (c.tc.loc main_arg0)) (m (c.tc.loc main_arg1)) (m (c.tc.loc main_arg2)) (ix2 a l) := by
  rw [pay1_apply _ _ _ _ _ _ rfl fun r k => by rw [point3 m c t h]; exact dgate_ne_top _ _ _ h _ _]
  refine Finset.sum_congr rfl fun s _ => ?_
  refine (point3 m c t h _ _).trans ?_
  show dgate _ _ _ (headOf (rowOf a (blockOf s))) (timeOf (rowOf a (blockOf s)) (placeOf s)) = _
  rw [(time_row _ s).1, (time_row _ s).2]
  rfl

/-- Where result 0's block lies: it is the whole array. -/
theorem blk3_apply (t : Fin cfg0.N) (G : S256x128.Idx → EReal) (r : Fin 256) (f : Fin 128) :
    ((win0_3.blk t).view.read (Elt Ideal) G : Vec Ideal S256x128 .f32) (ix2 r f) = G (ix2 r f) := by
  have hi : win0_3.index t 0 = 0 ∧ win0_3.index t 1 = 0 := by
    rcases fin_N0 t with rfl <;> decide
  rw [View.read_apply]
  show G _ = G _
  congr 1
  funext a
  apply Fin.ext
  match a with
  | ⟨0, _⟩ => show win0_3.index t 0 * 256 + 1 * r.val = r.val; rw [hi.1]; omega
  | ⟨1, _⟩ => show win0_3.index t 1 * 128 + 1 * f.val = f.val; rw [hi.2]; omega

theorem flushed3_eq (c : Dev nD) (t : Fin cfg0.N) (h : ∀ i, m (c.tc.loc main_arg0) i ≠ (⊤ : EReal)) :
    (dats m 0 c).flushed 3 t = (win0_3.blk t).view.read (Elt Ideal) (dfl (m (c.tc.loc main_arg0)) (m (c.tc.loc main_arg1)) (m (c.tc.loc main_arg2))) := by
  rw [Value.flushed3]
  unfold out0_3 k0_pay18 k0_pay17 k0_pay16
  rw [View.canon_unit_zero hz]
  simp only [View.ld_unit_zero (S := S256x128) hz, View.ld_unit_zero (S := S256x1) hz]
  funext i
  rw [eq_ix2 i]
  refine Eq.trans ?_ (blk3_apply t _ (i 0) (i 1)).symm
  exact point3 m c t h (i 0) (i 1)

theorem cover3 (i : S256x128.Idx) : ∃ t : Fin cfg0.N, (cfg0.win 3).flush t = true ∧ i ∈ ((cfg0.win 3).blk t).view.set := by
  refine ⟨t0_0, flush0_3 _, ?_⟩
  show i ∈ ((View.whole main_v8_0).slice (win0_3.rect t0_0)).set
  rw [View.set_slice_whole, Rect.mem_set_unit]
  have h0 : (i 0 : Nat) < 256 := (i 0).isLt
  have h1 : (i 1 : Nat) < 128 := (i 1).isLt
  have e : win0_3.index t0_0 0 * win0_3.size 0 = 0 ∧ win0_3.xsize (grid0.coords t0_0) 0 = 256
      ∧ win0_3.index t0_0 1 * win0_3.size 1 = 0 ∧ win0_3.xsize (grid0.coords t0_0) 1 = 128 := by decide +kernel
  intro a
  match a with
  | ⟨0, _⟩ => show win0_3.index t0_0 0 * win0_3.size 0 ≤ (i 0 : Nat) ∧ (i 0 : Nat) < win0_3.index t0_0 0 * win0_3.size 0 + win0_3.xsize (grid0.coords t0_0) 0; rw [e.1, e.2.1]; omega
  | ⟨1, _⟩ => show win0_3.index t0_0 1 * win0_3.size 1 ≤ (i 1 : Nat) ∧ (i 1 : Nat) < win0_3.index t0_0 1 * win0_3.size 1 + win0_3.xsize (grid0.coords t0_0) 1; rw [e.2.2.1, e.2.2.2]; omega

/-- Result 0 after the run. -/
theorem final3 (c : Dev nD) (h : ∀ i, m (c.tc.loc main_arg0) i ≠ (⊤ : EReal)) :
    (dats m 0 c).arrAt 3 cfg0.N = dfl (m (c.tc.loc main_arg0)) (m (c.tc.loc main_arg1)) (m (c.tc.loc main_arg2)) :=
  (dats m 0 c).arrAt_eq_of_cover 3 _ (fun t _ => flushed3_eq m c t h) cover3

/-- Where result 1's block lies: it is the whole array. -/
theorem blk4_apply (t : Fin cfg0.N) (G : S8x128.Idx → EReal) (r : Fin 8) (f : Fin 128) :
    ((win0_4.blk t).view.read (Elt Ideal) G : Vec Ideal S8x128 .f32) (ix2 r f) = G (ix2 r f) := by
  have hi : win0_4.index t 0 = 0 ∧ win0_4.index t 1 = 0 := by
    rcases fin_N0 t with rfl <;> decide
  rw [View.read_apply]
  show G _ = G _
  congr 1
  funext a
  apply Fin.ext
  match a with
  | ⟨0, _⟩ => show win0_4.index t 0 * 8 + 1 * r.val = r.val; rw [hi.1]; omega
  | ⟨1, _⟩ => show win0_4.index t 1 * 128 + 1 * f.val = f.val; rw [hi.2]; omega

theorem flushed4_eq (c : Dev nD) (t : Fin cfg0.N) (h : ∀ i, m (c.tc.loc main_arg0) i ≠ (⊤ : EReal)) :
    (dats m 0 c).flushed 4 t = (win0_4.blk t).view.read (Elt Ideal) (dbias (m (c.tc.loc main_arg0)) (m (c.tc.loc main_arg1)) (m (c.tc.loc main_arg2))) := by
  rw [Value.flushed4]
  unfold out0_4 k0_pay18 k0_pay17 k0_pay16 k0_pay15
  rw [View.canon_unit_zero hz]
  simp only [View.ld_unit_zero (S := S256x128) hz, View.ld_unit_zero (S := S256x1) hz]
  funext i
  rw [eq_ix2 i]
  refine Eq.trans ?_ (blk4_apply t _ (i 0) (i 1)).symm
  exact point4 m c t h (i 0) (i 1)

theorem cover4 (i : S8x128.Idx) : ∃ t : Fin cfg0.N, (cfg0.win 4).flush t = true ∧ i ∈ ((cfg0.win 4).blk t).view.set := by
  refine ⟨t0_0, flush0_4 _, ?_⟩
  show i ∈ ((View.whole main_v8_1).slice (win0_4.rect t0_0)).set
  rw [View.set_slice_whole, Rect.mem_set_unit]
  have h0 : (i 0 : Nat) < 8 := (i 0).isLt
  have h1 : (i 1 : Nat) < 128 := (i 1).isLt
  have e : win0_4.index t0_0 0 * win0_4.size 0 = 0 ∧ win0_4.xsize (grid0.coords t0_0) 0 = 8
      ∧ win0_4.index t0_0 1 * win0_4.size 1 = 0 ∧ win0_4.xsize (grid0.coords t0_0) 1 = 128 := by decide +kernel
  intro a
  match a with
  | ⟨0, _⟩ => show win0_4.index t0_0 0 * win0_4.size 0 ≤ (i 0 : Nat) ∧ (i 0 : Nat) < win0_4.index t0_0 0 * win0_4.size 0 + win0_4.xsize (grid0.coords t0_0) 0; rw [e.1, e.2.1]; omega
  | ⟨1, _⟩ => show win0_4.index t0_0 1 * win0_4.size 1 ≤ (i 1 : Nat) ∧ (i 1 : Nat) < win0_4.index t0_0 1 * win0_4.size 1 + win0_4.xsize (grid0.coords t0_0) 1; rw [e.2.2.1, e.2.2.2]; omega

/-- Result 1 after the run. -/
theorem final4 (c : Dev nD) (h : ∀ i, m (c.tc.loc main_arg0) i ≠ (⊤ : EReal)) :
    (dats m 0 c).arrAt 4 cfg0.N = dbias (m (c.tc.loc main_arg0)) (m (c.tc.loc main_arg1)) (m (c.tc.loc main_arg2)) :=
  (dats m 0 c).arrAt_eq_of_cover 4 _ (fun t _ => flushed4_eq m c t h) cover4

theorem ref_of {u : Shape} (d : S8x4096.Idx → EReal) (x : S4096x128.Idx → EReal) (b : S1x8.Idx → EReal) (init : u.Idx → EReal)
    (w : S8x4096.ReduceWindows (![1, 4096] : Fin 2 → Nat) ![1, 1] ![0, 0] ![0, 4095] S8x4096) (hi : ∀ i, init i = 0) (hu : 0 < u.numel) (h : Fin 8) (t : Fin 4096)
    (i : S8x4096.Idx) (e : EReal) (hx : i = ix2 h t) (he : e = slope (x (ix2 t ⟨h.val, by omega⟩) + b (ix2 0 h))) :
    Host.reduceWindowAdd (F := Ideal) (φ := .f32) ![1, 4096] ![1, 1] ![0, 0] ![0, 4095] d init w hu i * e = dgate d x b h t := by
  rw [hx, he, running_back_host d init w hu hi h t]
  rfl

theorem agrees : algebraic_ForgetGradIdeal_ForgetGradReferenceIdeal_pre_forget_gradient_below_infinity := by
  intro m g m' g' hpre hm
  have hb : Ideal.ofBits .f32 2139095040#32 = ⊤ := by simp [Ideal.ofBits, Ideal.ieee]
  have hn : ∀ (c : Dev nD) i, m (c.tc.loc main_arg0) i ≠ (⊤ : EReal) := fun c i e => by
    have h : Ideal.cmp .olt (m (c.tc.loc main_arg0) i) (Ideal.ofBits .f32 0x7F800000#32) = 1#1 := congrFun (hpre c) i
    rw [e] at h
    simp [Ideal.cmp] at h
  refine ⟨fun c => dfl (m (c.tc.loc main_arg0)) (m (c.tc.loc main_arg1)) (m (c.tc.loc main_arg2)),
    fun c => dbias (m (c.tc.loc main_arg0)) (m (c.tc.loc main_arg1)) (m (c.tc.loc main_arg2)),
    (θ_run defs _ _).mono (fun r h c => ⟨(h c).1.trans (final3 m c (hn c)), (h c).2.1.trans (final4 m c (hn c)), (h c).2.2⟩)
      (Cert.ForgetGradIdeal.Value.run_blocks m g), ?_⟩
  refine (θ_run Cert.ForgetGradReferenceIdeal.defs _ _).mono
    (fun r h c => ⟨(h c).1.trans ?_, (h c).2.1.trans ?_, (h c).2.2⟩) (Cert.ForgetGradReferenceIdeal.Value.run m' g')
  all_goals
    obtain ⟨e0, e1, e2⟩ := hm c
    clear h
    first | unfold Cert.ForgetGradReferenceIdeal.Value.res_main_v12 | unfold Cert.ForgetGradReferenceIdeal.Value.res_main_v14
    rw [e0, e1, e2]
    clear e0 e1 e2 hm hpre
    beta_reduce
    funext i
    rw [eq_ix2 i]
    generalize i 0 = p
    generalize i 1 = q
    generalize m (c.tc.loc main_arg0) = d
    generalize m (c.tc.loc main_arg1) = x
    generalize m (c.tc.loc main_arg2) = b
    pointwise
    simp only [ne_eq, not_true_eq_false, if_false, hb, EReal.neg_mul, neg_neg]
  · exact ref_of d x b _ _ (fun i => by pointwise) _ _ _ _ _ rfl rfl
  · exact Finset.sum_congr (M := EReal) rfl fun s _ => ref_of d x b _ _ (fun i => by pointwise) _ _ _ _ _ rfl rfl

end Cert.ForgetGradIdeal.Hand

end
-- ==== Proof.Out.Value.lean ====
/-
  WHAT THE OUTPUT WEIGHT'S GRADIENT CALL COMPUTES: the result at an index is the sum, over all 4096 rows, of the products of the
  operands' entries there. The rows of the result are stacked: both mixers' outputs, one after the other.
  Each of the four points adds the product of its 1024 rows, one group of the result's rows at a time, to the running sum that
  the kernel carries between points, starting from zero; the last point writes the sum back. The reference is the one product
  of all operands, one beside the other.
-/
module

public import proofs.«01_k».proof.Defs
public import proofs.«01_k».proof.Proof.Gen.OutGradIdeal.Value
public import proofs.«01_k».proof.Proof.Gen.OutGradReferenceIdeal.Run
public import Idealize.ShloMosaic.Lib.Pointwise
public import Idealize.ShloMosaic.Lib.Pipeline.Value

@[expose] public section

noncomputable section

open Idealize.ShloMosaic Idealize.ShloMosaic.TcCoe Idealize.SL.Sem
open Idealize.ShloMosaic.Pipeline (Dat)

namespace Cert.OutGradIdeal.Hand

open Cert.OutGradIdeal Cert.OutGradIdeal.Gen Cert.OutGradIdeal.Value

theorem hz : (![0, 0] : Fin 2 → Nat) = fun _ => 0 := funext fun a => by fin_cases a <;> rfl

/-- Reading an array of pieces, the latest first: at an index in the latest, its value; at any other, what the rest gives. -/
theorem canon_step {Val : EltTy → Type} [∀ e, Nonempty (Val e)] {s : Shape} {e : EltTy} (p : View.Piece Val s e) (L : List (View.Piece Val s e))
    (G : s.Idx → Val e) (y : s.Idx) (hp : ∀ x, p.2 x = G (p.1.emb x)) (hL : y ∉ p.1.set → View.canon L y = G y) :
    View.canon (p :: L) y = G y := by
  by_cases hy : y ∈ p.1.set
  · obtain ⟨x, hx⟩ : ∃ x, p.1.emb x = y := LoadRect.exists_idx_of_mem p.1.toLoadRect hy
    subst hx
    exact (View.canon_cons_emb p.1 p.2 L x).trans (hp x)
  · exact (View.canon_cons_of_not_mem p L hy).trans (hL hy)

/-- The entry of the stacked row `p`, from one row of each operand. -/
def pick (x0 : Fin 512 → EReal) (x1 : Fin 512 → EReal) (p : Fin 1024) : EReal :=
  if h0 : p.val < 512 then x0 ⟨p.val, by omega⟩
  else x1 ⟨p.val - 512, by omega⟩

theorem pick0 (x0 : Fin 512 → EReal) (x1 : Fin 512 → EReal) (k : Fin 512) :
    pick x0 x1 ⟨k.val, by omega⟩ = x0 ⟨k.val, by omega⟩ := by
  have := k.isLt
  unfold pick
  rw [dif_pos (by dsimp only; omega)]

theorem pick1 (x0 : Fin 512 → EReal) (x1 : Fin 512 → EReal) (k : Fin 512) :
    pick x0 x1 ⟨512 + k.val, by omega⟩ = x1 ⟨k.val, by omega⟩ := by
  have := k.isLt
  unfold pick
  rw [dif_neg (by dsimp only; omega)]
  exact congrArg x1 (Fin.ext (by dsimp only; omega))

/-- A point's step: the products of its 1024 rows added to the running sum. -/
def upd (x0 : Vec Ideal S1024x512 .bf16) (x1 : Vec Ideal S1024x512 .bf16) (x2 : Vec Ideal S1024x1024 .f32) (acc : Vec Ideal S1024x1024 .f32) : Vec Ideal S1024x1024 .f32 := fun i =>
  (acc i + ∑ s : Fin 1024, pick (fun k => x0 (ix2 s k)) (fun k => x1 (ix2 s k)) (i 0) * x2 (ix2 s (i 1)) : EReal)

theorem mem_rows (o h : Nat) (inb : ∀ a, (![o, 0] : Fin 2 → Nat) a + (![h, 1024] : Fin 2 → Nat) a ≤ S1024x1024.size a) (y : S1024x1024.Idx) (h0 : o ≤ (y 0).val)
    (h1 : (y 0).val < o + h) : y ∈ (Rect.unit (s := S1024x1024) ![o, 0] ![h, 1024] inb).set :=
  Rect.mem_set_unit.mpr fun a => match a with
    | ⟨0, _⟩ => ⟨h0, h1⟩
    | ⟨1, _⟩ => ⟨Nat.zero_le _, (y 1).isLt⟩

theorem not_mem_rows (o h : Nat) (inb : ∀ a, (![o, 0] : Fin 2 → Nat) a + (![h, 1024] : Fin 2 → Nat) a ≤ S1024x1024.size a) (y : S1024x1024.Idx)
    (hy : (y 0).val < o ∨ o + h ≤ (y 0).val) : y ∉ (Rect.unit (s := S1024x1024) ![o, 0] ![h, 1024] inb).set := fun hm => by
  have h : o ≤ (y 0).val ∧ (y 0).val < o + h := Rect.mem_set_unit.mp hm 0
  omega

theorem skip (o h : Nat) (inb : ∀ a, (![o, 0] : Fin 2 → Nat) a + (![h, 1024] : Fin 2 → Nat) a ≤ S1024x1024.size a)
    (w : (Rect.unit (s := S1024x1024) ![o, 0] ![h, 1024] inb).shape.Idx → Elt Ideal .f32) (L : List (View.Piece (Elt Ideal) S1024x1024 .f32)) (y : S1024x1024.Idx)
    (hy : (y 0).val < o ∨ o + h ≤ (y 0).val) : View.canon (⟨Rect.unit (s := S1024x1024) ![o, 0] ![h, 1024] inb, w⟩ :: L) y = View.canon L y :=
  View.canon_cons_of_not_mem _ L (not_mem_rows o h inb y hy)

theorem prod0 (x2 : Vec Ideal S1024x1024 .f32) (x0 : Vec Ideal S1024x512 .bf16) (acc : Vec Ideal S512x1024 .f32) (p : Fin 512) (q : Fin 1024) :
    k0_pay3 x2 x0 acc (ix2 p q) = (acc (ix2 p q) + ∑ s : Fin 1024, x0 (ix2 s p) * x2 (ix2 s q) : EReal) := by
  unfold_payloads
  rw [shapeCast_self]
  pointwise
  try rfl

theorem idx0 (p : Fin 512) (q : Fin 1024) : (Rect.unit (s := S1024x1024) ![0, 0] S512x1024.size inb_S1024x1024_S512x1024_0_0).idx (ix2 p q) = ix2 (⟨p.val, by omega⟩ : Fin 1024) q := by
  funext a
  apply Fin.ext
  match a with
  | ⟨0, _⟩ => show 0 + 1 * p.val = p.val; omega
  | ⟨1, _⟩ => show 0 + 1 * q.val = q.val; omega

/-- The group of rows from 0: the step's values there. -/
theorem piece0 (x0 : Vec Ideal S1024x512 .bf16) (x1 : Vec Ideal S1024x512 .bf16) (x2 : Vec Ideal S1024x1024 .f32) (xs : Vec Ideal S1024x1024 .f32) (acc : Vec Ideal S512x1024 .f32)
    (h : ∀ y, acc y = xs ((Rect.unit (s := S1024x1024) ![0, 0] S512x1024.size inb_S1024x1024_S512x1024_0_0).idx y)) (y : S512x1024.Idx) :
    k0_pay3 x2 x0 acc y = upd x0 x1 x2 xs ((Rect.unit (s := S1024x1024) ![0, 0] S512x1024.size inb_S1024x1024_S512x1024_0_0).idx y) := by
  rw [eq_ix2 y]
  refine (prod0 x2 x0 acc (y 0) (y 1)).trans ?_
  have hy := h (ix2 (y 0) (y 1))
  rw [idx0 (y 0) (y 1)] at hy ⊢
  refine congrArg₂ (fun a b : EReal => a + b) hy (Finset.sum_congr rfl fun s _ => congrArg (fun a : EReal => a * x2 (ix2 s (y 1))) ?_)
  exact (pick0 (fun k => x0 (ix2 s k)) (fun k => x1 (ix2 s k)) (y 0)).symm

theorem prod1 (x2 : Vec Ideal S1024x1024 .f32) (x1 : Vec Ideal S1024x512 .bf16) (acc : Vec Ideal S512x1024 .f32) (p : Fin 512) (q : Fin 1024) :
    k0_pay4 x2 x1 acc (ix2 p q) = (acc (ix2 p q) + ∑ s : Fin 1024, x1 (ix2 s p) * x2 (ix2 s q) : EReal) := by
  unfold_payloads
  rw [shapeCast_self]
  pointwise
  try rfl

theorem idx1 (p : Fin 512) (q : Fin 1024) : (Rect.unit (s := S1024x1024) ![512, 0] S512x1024.size inb_S1024x1024_S512x1024_512_0).idx (ix2 p q) = ix2 (⟨512 + p.val, by omega⟩ : Fin 1024) q := by
  funext a
  apply Fin.ext
  match a with
  | ⟨0, _⟩ => show 512 + 1 * p.val = 512 + p.val; omega
  | ⟨1, _⟩ => show 0 + 1 * q.val = q.val; omega

/-- The group of rows from 512: the step's values there. -/
theorem piece1 (x0 : Vec Ideal S1024x512 .bf16) (x1 : Vec Ideal S1024x512 .bf16) (x2 : Vec Ideal S1024x1024 .f32) (xs : Vec Ideal S1024x1024 .f32) (acc : Vec Ideal S512x1024 .f32)
    (h : ∀ y, acc y = xs ((Rect.unit (s := S1024x1024) ![512, 0] S512x1024.size inb_S1024x1024_S512x1024_512_0).idx y)) (y : S512x1024.Idx) :
    k0_pay4 x2 x1 acc y = upd x0 x1 x2 xs ((Rect.unit (s := S1024x1024) ![512, 0] S512x1024.size inb_S1024x1024_S512x1024_512_0).idx y) := by
  rw [eq_ix2 y]
  refine (prod1 x2 x1 acc (y 0) (y 1)).trans ?_
  have hy := h (ix2 (y 0) (y 1))
  rw [idx1 (y 0) (y 1)] at hy ⊢
  refine congrArg₂ (fun a b : EReal => a + b) hy (Finset.sum_congr rfl fun s _ => congrArg (fun a : EReal => a * x2 (ix2 s (y 1))) ?_)
  exact (pick1 (fun k => x0 (ix2 s k)) (fun k => x1 (ix2 s k)) (y 0)).symm

section Cases

variable (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole)
  (x0 : Vec Ideal S1024x512 .bf16) (x1 : Vec Ideal S1024x512 .bf16) (x2 : Vec Ideal S1024x1024 .f32)

/-- A middle point adds its products to the running sum. -/
theorem sum_B (hc0 : ¬cond0_0 i) (hc1 : ¬cond0_1 i) (xs : Vec Ideal S1024x1024 .f32) :
    sout0_B_0 c i a1 h1 a2 h2 a3 h3 a4 h4 a5 h5 hc0 hc1 x0 x1 x2 xs = upd x0 x1 x2 xs := by
  funext y
  unfold sout0_B_0
  rw [View.read_writes_eq_canon _ _ _ (scover0_B_0 c i a1 h1 a2 h2 a3 h3 a4 h4 a5 h5 hc0 hc1 x0 x1 x2 xs)]
  unfold kernelRun0_B
  dsimp only
  sl_unfold_words
  simp only [View.readAt_eq_ld, h1.read_unread, h2.read_unread, h3.read_unread, h5.read_unread, View.ld_unit_zero (S := S1024x1024) hz, View.ld_unit_zero (S := S1024x512) hz]
  refine canon_step _ _ (upd x0 x1 x2 xs) y ?_ fun n1 => ?_
  · refine fun y => piece1 x0 x1 x2 xs _ ?_ y
    exact fun _ => rfl
  refine canon_step _ _ (upd x0 x1 x2 xs) y ?_ fun n0 => ?_
  · refine fun y => piece0 x0 x1 x2 xs _ ?_ y
    exact fun _ => rfl
  · exfalso
    have hy : (y 0).val < 1024 := (y 0).isLt
    have m0 : ¬(0 ≤ (y 0).val ∧ (y 0).val < 512) := fun hl => n0 (mem_rows 0 512 inb_S1024x1024_S512x1024_0_0 y hl.1 hl.2)
    have m1 : ¬(512 ≤ (y 0).val ∧ (y 0).val < 1024) := fun hl => n1 (mem_rows 512 512 inb_S1024x1024_S512x1024_512_0 y hl.1 hl.2)
    omega

theorem idx_full (inb : ∀ a, (![0, 0] : Fin 2 → Nat) a + S1024x1024.size a ≤ S1024x1024.size a) (y : S1024x1024.Idx) : (Rect.unit (s := S1024x1024) ![0, 0] S1024x1024.size inb).toLoadRect.idx y = y := by
  funext a
  apply Fin.ext
  match a with
  | ⟨0, _⟩ => show 0 + 1 * (y 0).val = (y 0).val; omega
  | ⟨1, _⟩ => show 0 + 1 * (y 1).val = (y 1).val; omega

/-- What the last point holds before it writes back: the running sum with its own products added. -/
theorem sum_C (xs : Vec Ideal S1024x1024 .f32) :
    kernelRun0_C.sl.v22 c a1 h1 a2 h2 a3 h3 a5 h5 x0 x1 x2 xs = upd x0 x1 x2 xs := by
  unfold kernelRun0_C.sl.v22
  funext y
  unfold View.readCov
  rw [View.readAt_writes_junk_eq_canon]
  dsimp only
  rw [idx_full]
  sl_unfold_words
  simp only [View.readAt_eq_ld, h1.read_unread, h2.read_unread, h3.read_unread, h5.read_unread, View.ld_unit_zero (S := S1024x1024) hz, View.ld_unit_zero (S := S1024x512) hz]
  refine canon_step _ _ (upd x0 x1 x2 xs) y ?_ fun n1 => ?_
  · refine fun y => piece1 x0 x1 x2 xs _ ?_ y
    exact fun _ => rfl
  refine canon_step _ _ (upd x0 x1 x2 xs) y ?_ fun n0 => ?_
  · refine fun y => piece0 x0 x1 x2 xs _ ?_ y
    exact fun _ => rfl
  · exfalso
    have hy : (y 0).val < 1024 := (y 0).isLt
    have m0 : ¬(0 ≤ (y 0).val ∧ (y 0).val < 512) := fun hl => n0 (mem_rows 0 512 inb_S1024x1024_S512x1024_0_0 y hl.1 hl.2)
    have m1 : ¬(512 ≤ (y 0).val ∧ (y 0).val < 1024) := fun hl => n1 (mem_rows 512 512 inb_S1024x1024_S512x1024_512_0 y hl.1 hl.2)
    omega

/-- The last point writes back the running sum with its own products added. -/
theorem out_C (hc0 : ¬cond0_0 i) (hc1 : cond0_1 i) (xs : Vec Ideal S1024x1024 .f32) :
    out0_C_3 c i a1 h1 a2 h2 a3 h3 a4 h4 a5 h5 hc0 hc1 x0 x1 x2 xs = upd x0 x1 x2 xs := by
  unfold out0_C_3
  rw [View.read_writes_eq_canon _ _ _ (cover0_C_3 c i a1 h1 a2 h2 a3 h3 a4 h4 a5 h5 hc0 hc1 x0 x1 x2 xs)]
  unfold kernelRun0_C
  dsimp only
  rw [View.canon_unit_zero hz]
  exact sum_C c a1 h1 a2 h2 a3 h3 a5 h5 x0 x1 x2 xs

/-- The running sum's start: zero everywhere. -/
def zero : Vec Ideal S1024x1024 .f32 := k0_pay1 (F := Ideal)

/-- What a group of rows holds, once groups before it are written over zeros: zeros. -/
theorem zeros {sig' : RefSig} {κ : Kind} {sp : Space} (v : View sig' κ sp S1024x1024 .f32) (L : List (View.Piece (Elt Ideal) S1024x1024 .f32)) (B : LoadRect S1024x1024)
    (h : ∀ j, View.canon L (B.idx j) = zero (B.idx j)) (j : B.shape.Idx) : v.readCov L B j = zero (B.idx j) := by
  unfold View.readCov
  rw [View.readAt_writes_junk_eq_canon]
  exact h j

/-- The first point adds its products to zero. -/
theorem sum_A (hc0 : cond0_0 i) (hc1 : ¬cond0_1 i) :
    sout0_A_0 c i a1 h1 a2 h2 a3 h3 a4 h4 a5 h5 hc0 hc1 x0 x1 x2 = upd x0 x1 x2 zero := by
  funext y
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  simp only [View.readAt_eq_ld, h1.read_unread, h2.read_unread, h3.read_unread, View.ld_unit_zero (S := S1024x1024) hz, View.ld_unit_zero (S := S1024x512) hz]
  refine canon_step _ _ (upd x0 x1 x2 zero) y ?_ fun n1 => ?_
  · refine fun y => piece1 x0 x1 x2 zero _ ?_ y
    refine fun j => zeros _ _ (Rect.unit (s := S1024x1024) ![512, 0] ![512, 1024] inb_S1024x1024_S512x1024_512_0).toLoadRect (fun j => ?_) j
    refine (skip 0 512 inb_S1024x1024_S512x1024_0_0 _ _ _ (Or.inr ?_)).trans ?_
    · show 0 + 512 ≤ 512 + 1 * (j 0).val; omega
    exact congrFun (View.canon_unit_zero hz _ _) _
  refine canon_step _ _ (upd x0 x1 x2 zero) y ?_ fun n0 => ?_
  · refine fun y => piece0 x0 x1 x2 zero _ ?_ y
    refine fun j => zeros _ _ (Rect.unit (s := S1024x1024) ![0, 0] ![512, 1024] inb_S1024x1024_S512x1024_0_0).toLoadRect (fun j => ?_) j
    exact congrFun (View.canon_unit_zero hz _ _) _
  · exfalso
    have hy : (y 0).val < 1024 := (y 0).isLt
    have m0 : ¬(0 ≤ (y 0).val ∧ (y 0).val < 512) := fun hl => n0 (mem_rows 0 512 inb_S1024x1024_S512x1024_0_0 y hl.1 hl.2)
    have m1 : ¬(512 ≤ (y 0).val ∧ (y 0).val < 1024) := fun hl => n1 (mem_rows 512 512 inb_S1024x1024_S512x1024_512_0 y hl.1 hl.2)
    omega

end Cases

variable (m : (ℓ : Loc nD τ sig) → Buf (Elt Ideal) ℓ) (ρ : Dev nD → PrngReg)

/-- Point `t`'s block of operand 0. -/
theorem iblk0 (c : Dev nD) (t : Fin cfg0.N) (k : Fin 1024) (p : Fin 512) :
    (iblk m c 0 t : Vec Ideal S1024x512 .bf16) (ix2 k p)
      = m (c.tc.loc main_arg0) (ix2 (⟨t.val * 1024 + k.val, by have := t.isLt; have : cfg0.N = 4 := N_0; omega⟩ : Fin 4096) p) := by
  have hi : win0_0.index t 0 = t.val ∧ win0_0.index t 1 = 0 := by revert t; decide
  unfold iblk
  rw [View.read_apply]
  show m (c.tc.loc main_arg0) _ = m (c.tc.loc main_arg0) _
  congr 1
  funext a
  apply Fin.ext
  match a with
  | ⟨0, _⟩ => show win0_0.index t 0 * 1024 + 1 * k.val = t.val * 1024 + k.val; rw [hi.1]; omega
  | ⟨1, _⟩ => show win0_0.index t 1 * 512 + 1 * p.val = p.val; rw [hi.2]; omega

/-- Point `t`'s block of operand 1. -/
theorem iblk1 (c : Dev nD) (t : Fin cfg0.N) (k : Fin 1024) (p : Fin 512) :
    (iblk m c 1 t : Vec Ideal S1024x512 .bf16) (ix2 k p)
      = m (c.tc.loc main_arg1) (ix2 (⟨t.val * 1024 + k.val, by have := t.isLt; have : cfg0.N = 4 := N_0; omega⟩ : Fin 4096) p) := by
  have hi : win0_1.index t 0 = t.val ∧ win0_1.index t 1 = 0 := by revert t; decide
  unfold iblk
  rw [View.read_apply]
  show m (c.tc.loc main_arg1) _ = m (c.tc.loc main_arg1) _
  congr 1
  funext a
  apply Fin.ext
  match a with
  | ⟨0, _⟩ => show win0_1.index t 0 * 1024 + 1 * k.val = t.val * 1024 + k.val; rw [hi.1]; omega
  | ⟨1, _⟩ => show win0_1.index t 1 * 512 + 1 * p.val = p.val; rw [hi.2]; omega

/-- Point `t`'s block of operand 2. -/
theorem iblk2 (c : Dev nD) (t : Fin cfg0.N) (k : Fin 1024) (p : Fin 1024) :
    (iblk m c 2 t : Vec Ideal S1024x1024 .f32) (ix2 k p)
      = m (c.tc.loc main_arg2) (ix2 (⟨t.val * 1024 + k.val, by have := t.isLt; have : cfg0.N = 4 := N_0; omega⟩ : Fin 4096) p) := by
  have hi : win0_2.index t 0 = t.val ∧ win0_2.index t 1 = 0 := by revert t; decide
  unfold iblk
  rw [View.read_apply]
  show m (c.tc.loc main_arg2) _ = m (c.tc.loc main_arg2) _
  congr 1
  funext a
  apply Fin.ext
  match a with
  | ⟨0, _⟩ => show win0_2.index t 0 * 1024 + 1 * k.val = t.val * 1024 + k.val; rw [hi.1]; omega
  | ⟨1, _⟩ => show win0_2.index t 1 * 1024 + 1 * p.val = p.val; rw [hi.2]; omega

theorem zero_apply (p : Fin 1024) (q : Fin 1024) : zero (ix2 p q) = (0 : EReal) := by
  unfold zero k0_pay1
  rw [shapeCast_self]
  exact Ideal.ofBits_zero_f32

/-- The result array as the four points' steps, one after the other. -/
theorem result_steps (c : Dev nD) : G3 m c = upd (iblk m c 0 t0_3) (iblk m c 1 t0_3) (iblk m c 2 t0_3)
      (upd (iblk m c 0 t0_2) (iblk m c 1 t0_2) (iblk m c 2 t0_2)
        (upd (iblk m c 0 t0_1) (iblk m c 1 t0_1) (iblk m c 2 t0_1) (upd (iblk m c 0 t0_0) (iblk m c 1 t0_0) (iblk m c 2 t0_0) zero))) := by
  rw [G3_last]
  show (stAt0 m c t0_3.val t0_3.isLt (stAt0 m c t0_2.val t0_2.isLt (stAt0 m c t0_1.val t0_1.isLt
    (stAt0 m c t0_0.val t0_0.isLt junk0)))).1 = _
  rw [stAt0_C m c t0_3 _ (by decide) (by decide)]
  dsimp only
  rw [out_C, stAt0_B m c t0_2 _ (by decide) (by decide)]
  dsimp only
  rw [sum_B, stAt0_B m c t0_1 _ (by decide) (by decide)]
  dsimp only
  rw [sum_B, stAt0_A m c t0_0 _ (by decide) (by decide)]
  dsimp only
  rw [sum_A]

/-- The products at row `s` of all 4096. -/
def term (x0 : S4096x512.Idx → EReal) (x1 : S4096x512.Idx → EReal) (x2 : S4096x1024.Idx → EReal) (p : Fin 1024) (q : Fin 1024) (s : Fin 4096) : EReal :=
  pick (fun k => x0 (ix2 s k)) (fun k => x1 (ix2 s k)) p * x2 (ix2 s q)

/-- A point's step at an index, from the whole arrays. -/
theorem upd_apply (c : Dev nD) (t : Fin cfg0.N) (acc : Vec Ideal S1024x1024 .f32) (p : Fin 1024) (q : Fin 1024) :
    upd (iblk m c 0 t) (iblk m c 1 t) (iblk m c 2 t) acc (ix2 p q) = (acc (ix2 p q) + ∑ k : Fin 1024,
      term (m (c.tc.loc main_arg0)) (m (c.tc.loc main_arg1)) (m (c.tc.loc main_arg2)) p q ⟨t.val * 1024 + k.val, by have := t.isLt; have : cfg0.N = 4 := N_0; omega⟩ : EReal) := by
  refine congrArg (fun a : EReal => acc (ix2 p q) + a) (Finset.sum_congr rfl fun k _ => ?_)
  have e0 : (fun j => (iblk m c 0 t : Vec Ideal S1024x512 .bf16) (ix2 k j)) = _ := funext fun j => iblk0 m c t k j
  have e1 : (fun j => (iblk m c 1 t : Vec Ideal S1024x512 .bf16) (ix2 k j)) = _ := funext fun j => iblk1 m c t k j
  refine congrArg₂ (fun a b : EReal => a * b) ?_ (iblk2 m c t k q)
  show pick (fun j => (iblk m c 0 t : Vec Ideal S1024x512 .bf16) (ix2 k j)) (fun j => (iblk m c 1 t : Vec Ideal S1024x512 .bf16) (ix2 k j)) p = _
  rw [e0, e1]

/-- The result at an index: the sum over all rows. -/
theorem result_apply (c : Dev nD) (p : Fin 1024) (q : Fin 1024) :
    G3 m c (ix2 p q) = ∑ s : Fin 4096, term (m (c.tc.loc main_arg0)) (m (c.tc.loc main_arg1)) (m (c.tc.loc main_arg2)) p q s := by
  rw [result_steps, upd_apply, upd_apply, upd_apply, upd_apply, zero_apply, zero_add,
    Fin.sum_univ_tiles 4 1024 rfl, Fin.sum_univ_four]
  rfl

/-- The reference's operands, one beside the other. -/
theorem beside (x0 : Vec Ideal S4096x512 .bf16) (x1 : Vec Ideal S4096x512 .bf16) (s : Fin 4096) (p : Fin 1024) :
    (concatenate S4096x1024 1 [⟨S4096x512, x0⟩, ⟨S4096x512, x1⟩] Cert.OutGradReferenceIdeal.Gen.concatenates_S4096x512_S4096x512_S4096x1024_d1) (ix2 s p)
      = pick (fun k => x0 (ix2 s k)) (fun k => x1 (ix2 s k)) p := by
  have hp := p.isLt
  unfold pick
  split
  · rename_i h0
    refine concatenate_apply_piece (t := S4096x1024) 1 [⟨S4096x512, x0⟩, ⟨S4096x512, x1⟩] Cert.OutGradReferenceIdeal.Gen.concatenates_S4096x512_S4096x512_S4096x1024_d1 (ix2 s p) 0 (by simp) S4096x512 _ rfl rfl 0 rfl (ix2 s (⟨p.val, by omega⟩ : Fin 512)) (fun b hb => ?_) ?_
    · match b with
      | ⟨0, _⟩ => rfl
      | ⟨1, _⟩ => exact absurd rfl hb
    · show 0 + (p.val) = p.val
      omega
  rename_i h0
  refine concatenate_apply_piece (t := S4096x1024) 1 [⟨S4096x512, x0⟩, ⟨S4096x512, x1⟩] Cert.OutGradReferenceIdeal.Gen.concatenates_S4096x512_S4096x512_S4096x1024_d1 (ix2 s p) 1 (by simp) S4096x512 _ rfl rfl 512 rfl (ix2 s (⟨p.val - 512, by omega⟩ : Fin 512)) (fun b hb => ?_) ?_
  · match b with
    | ⟨0, _⟩ => rfl
    | ⟨1, _⟩ => exact absurd rfl hb
  · show 512 + (p.val - 512) = p.val
    omega

/-- The reference's result at an index is the same sum. -/
theorem reference_apply (x0 : Vec Ideal S4096x512 .bf16) (x1 : Vec Ideal S4096x512 .bf16) (x2 : FVec Ideal Cert.OutGradReferenceIdeal.S4096x1024 .f32) (p : Fin 1024) (q : Fin 1024) :
    (truncf .bf16 (transpose Cert.OutGradReferenceIdeal.S1024x1024 [1, 0] (Host.dotGeneral (F := Ideal) Cert.OutGradReferenceIdeal.dot_S4096x1024_S4096x1024_S1024x1024_0_0_1_1_n_n none x2
      (extf .f32 (concatenate S4096x1024 1 [⟨S4096x512, x0⟩, ⟨S4096x512, x1⟩] Cert.OutGradReferenceIdeal.Gen.concatenates_S4096x512_S4096x512_S4096x1024_d1) Cert.OutGradReferenceIdeal.Gen.bitsLt_bf16_f32)) Cert.OutGradReferenceIdeal.Gen.transposes_S1024x1024_S1024x1024_1_0) Cert.OutGradReferenceIdeal.Gen.bitsLt_bf16_f32 : FVec Ideal Cert.OutGradReferenceIdeal.S1024x1024 .bf16) (ix2 p q) = (∑ s : Fin 4096, term x0 x1 x2 p q s : EReal) := by
  have h := beside x0 x1
  generalize (concatenate S4096x1024 1 [⟨S4096x512, x0⟩, ⟨S4096x512, x1⟩] Cert.OutGradReferenceIdeal.Gen.concatenates_S4096x512_S4096x512_S4096x1024_d1) = y at h ⊢
  pointwise
  refine Finset.sum_congr rfl fun s _ => ?_
  unfold term
  rw [← h s p]
  exact mul_comm _ _

theorem agrees : algebraic_OutGradIdeal_OutGradReferenceIdeal := by
  intro m g m' g' _ hm
  refine ⟨fun c => G3 m c, Cert.OutGradIdeal.Value.run m g, ?_⟩
  refine (θ_run Cert.OutGradReferenceIdeal.defs _ _).mono (fun r h c => ⟨(h c).1.trans ?_, (h c).2⟩) (Cert.OutGradReferenceIdeal.Value.run m' g')
  obtain ⟨e0, e1, e2⟩ := hm c
  funext i
  rw [eq_ix2 i]
  refine Eq.trans ?_ (result_apply m c (i 0) (i 1)).symm
  rw [← e0, ← e1, ← e2]
  exact reference_apply _ _ _ (i 0) (i 1)

end Cert.OutGradIdeal.Hand

end
-- ==== Proof.Attn.Offsets.lean ====
/- Where the trips of the inner loop of `attn_bwd` read and write, as closed forms of the key block and the trip. -/
module

public import proofs.«01_k».proof.Proof.Gen.KernelIdeal.Loops

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- An inner trip's first query block `j + 1 + 2 t` is always one of the sixteen. -/
theorem trip_lt : ∀ (j : Fin k0_t2_loop.trips) (t : Fin (k0_t3_loop j).trips), j.val + 1 + 2 * t.val < 16 := by
  decide +kernel

/-- The remainder loop of the inner loop makes no trip. -/
theorem no_remainder : ∀ j : Fin k0_t2_loop.trips, (k0_t4_loop j).trips = 0 := by decide +kernel

theorem off20_1_eq : ∀ (j : Fin k0_t2_loop.trips) (t : Fin (k0_t3_loop j).trips), k0_off20 j t (BitVec.ofNat 32 1) = ![256 * (min (j.val + 2 + 2 * t.val) 15), 0] := by decide +kernel
instance (j : Fin k0_t2_loop.trips) (t : Fin (k0_t3_loop j).trips) : ClosedOff (k0_off20 j t (BitVec.ofNat 32 1)) := ⟨![256 * (min (j.val + 2 + 2 * t.val) 15), 0], off20_1_eq j t⟩

theorem off22_0_1_eq : ∀ (j : Fin k0_t2_loop.trips) (t : Fin (k0_t3_loop j).trips), k0_off22 j t (BitVec.ofNat 32 0) (BitVec.ofNat 32 1) = ![0 + (min (j.val + 2 + 2 * t.val) 15), 0, 0] := by decide +kernel
instance (j : Fin k0_t2_loop.trips) (t : Fin (k0_t3_loop j).trips) : ClosedOff (k0_off22 j t (BitVec.ofNat 32 0) (BitVec.ofNat 32 1)) := ⟨![0 + (min (j.val + 2 + 2 * t.val) 15), 0, 0], off22_0_1_eq j t⟩

theorem off22_16_1_eq : ∀ (j : Fin k0_t2_loop.trips) (t : Fin (k0_t3_loop j).trips), k0_off22 j t (BitVec.ofNat 32 16) (BitVec.ofNat 32 1) = ![16 + (min (j.val + 2 + 2 * t.val) 15), 0, 0] := by decide +kernel
instance (j : Fin k0_t2_loop.trips) (t : Fin (k0_t3_loop j).trips) : ClosedOff (k0_off22 j t (BitVec.ofNat 32 16) (BitVec.ofNat 32 1)) := ⟨![16 + (min (j.val + 2 + 2 * t.val) 15), 0, 0], off22_16_1_eq j t⟩

theorem off20_2_eq : ∀ (j : Fin k0_t2_loop.trips) (t : Fin (k0_t3_loop j).trips), k0_off20 j t (BitVec.ofNat 32 2) = ![256 * (min (j.val + 3 + 2 * t.val) 15), 0] := by decide +kernel
instance (j : Fin k0_t2_loop.trips) (t : Fin (k0_t3_loop j).trips) : ClosedOff (k0_off20 j t (BitVec.ofNat 32 2)) := ⟨![256 * (min (j.val + 3 + 2 * t.val) 15), 0], off20_2_eq j t⟩

theorem off22_0_2_eq : ∀ (j : Fin k0_t2_loop.trips) (t : Fin (k0_t3_loop j).trips), k0_off22 j t (BitVec.ofNat 32 0) (BitVec.ofNat 32 2) = ![0 + (min (j.val + 3 + 2 * t.val) 15), 0, 0] := by decide +kernel
instance (j : Fin k0_t2_loop.trips) (t : Fin (k0_t3_loop j).trips) : ClosedOff (k0_off22 j t (BitVec.ofNat 32 0) (BitVec.ofNat 32 2)) := ⟨![0 + (min (j.val + 3 + 2 * t.val) 15), 0, 0], off22_0_2_eq j t⟩

theorem off22_16_2_eq : ∀ (j : Fin k0_t2_loop.trips) (t : Fin (k0_t3_loop j).trips), k0_off22 j t (BitVec.ofNat 32 16) (BitVec.ofNat 32 2) = ![16 + (min (j.val + 3 + 2 * t.val) 15), 0, 0] := by decide +kernel
instance (j : Fin k0_t2_loop.trips) (t : Fin (k0_t3_loop j).trips) : ClosedOff (k0_off22 j t (BitVec.ofNat 32 16) (BitVec.ofNat 32 2)) := ⟨![16 + (min (j.val + 3 + 2 * t.val) 15), 0, 0], off22_16_2_eq j t⟩

theorem off23_eq : ∀ (j : Fin k0_t2_loop.trips) (t : Fin (k0_t3_loop j).trips), k0_off23 j t = ![0, j.val + 1 + 2 * t.val, 0, 0] := by decide +kernel
instance (j : Fin k0_t2_loop.trips) (t : Fin (k0_t3_loop j).trips) : ClosedOff (k0_off23 j t) := ⟨![0, j.val + 1 + 2 * t.val, 0, 0], off23_eq j t⟩

theorem off24_eq : ∀ (j : Fin k0_t2_loop.trips) (t : Fin (k0_t3_loop j).trips), k0_off24 j t = ![j.val + 1 + 2 * t.val, 0, 0] := by decide +kernel
instance (j : Fin k0_t2_loop.trips) (t : Fin (k0_t3_loop j).trips) : ClosedOff (k0_off24 j t) := ⟨![j.val + 1 + 2 * t.val, 0, 0], off24_eq j t⟩

theorem off25_eq : ∀ (j : Fin k0_t2_loop.trips) (t : Fin (k0_t3_loop j).trips), k0_off25 j t = ![j.val + 1 + 2 * t.val, 0, 0] := by decide +kernel
instance (j : Fin k0_t2_loop.trips) (t : Fin (k0_t3_loop j).trips) : ClosedOff (k0_off25 j t) := ⟨![j.val + 1 + 2 * t.val, 0, 0], off25_eq j t⟩

theorem off26_eq : ∀ (j : Fin k0_t2_loop.trips) (t : Fin (k0_t3_loop j).trips), k0_off26 j t = ![j.val + 1 + 2 * t.val, 0, 0] := by decide +kernel
instance (j : Fin k0_t2_loop.trips) (t : Fin (k0_t3_loop j).trips) : ClosedOff (k0_off26 j t) := ⟨![j.val + 1 + 2 * t.val, 0, 0], off26_eq j t⟩

theorem off27_eq : ∀ (j : Fin k0_t2_loop.trips) (t : Fin (k0_t3_loop j).trips), k0_off27 j t = ![j.val + 1 + 2 * t.val, 0, 0] := by decide +kernel
instance (j : Fin k0_t2_loop.trips) (t : Fin (k0_t3_loop j).trips) : ClosedOff (k0_off27 j t) := ⟨![j.val + 1 + 2 * t.val, 0, 0], off27_eq j t⟩

theorem off28_eq : ∀ (j : Fin k0_t2_loop.trips) (t : Fin (k0_t3_loop j).trips), k0_off28 j t = ![0, (min (j.val + 2 + 2 * t.val) 15), 0, 0] := by decide +kernel
instance (j : Fin k0_t2_loop.trips) (t : Fin (k0_t3_loop j).trips) : ClosedOff (k0_off28 j t) := ⟨![0, (min (j.val + 2 + 2 * t.val) 15), 0, 0], off28_eq j t⟩

theorem off29_eq : ∀ (j : Fin k0_t2_loop.trips) (t : Fin (k0_t3_loop j).trips), k0_off29 j t = ![(min (j.val + 2 + 2 * t.val) 15), 0, 0] := by decide +kernel
instance (j : Fin k0_t2_loop.trips) (t : Fin (k0_t3_loop j).trips) : ClosedOff (k0_off29 j t) := ⟨![(min (j.val + 2 + 2 * t.val) 15), 0, 0], off29_eq j t⟩

theorem off30_eq : ∀ (j : Fin k0_t2_loop.trips) (t : Fin (k0_t3_loop j).trips), k0_off30 j t = ![(min (j.val + 2 + 2 * t.val) 15), 0, 0] := by decide +kernel
instance (j : Fin k0_t2_loop.trips) (t : Fin (k0_t3_loop j).trips) : ClosedOff (k0_off30 j t) := ⟨![(min (j.val + 2 + 2 * t.val) 15), 0, 0], off30_eq j t⟩

theorem off31_eq : ∀ (j : Fin k0_t2_loop.trips) (t : Fin (k0_t3_loop j).trips), k0_off31 j t = ![(min (j.val + 2 + 2 * t.val) 15), 0, 0] := by decide +kernel
instance (j : Fin k0_t2_loop.trips) (t : Fin (k0_t3_loop j).trips) : ClosedOff (k0_off31 j t) := ⟨![(min (j.val + 2 + 2 * t.val) 15), 0, 0], off31_eq j t⟩

theorem off32_eq : ∀ (j : Fin k0_t2_loop.trips) (t : Fin (k0_t3_loop j).trips), k0_off32 j t = ![(min (j.val + 2 + 2 * t.val) 15), 0, 0] := by decide +kernel
instance (j : Fin k0_t2_loop.trips) (t : Fin (k0_t3_loop j).trips) : ClosedOff (k0_off32 j t) := ⟨![(min (j.val + 2 + 2 * t.val) 15), 0, 0], off32_eq j t⟩

end Cert.KernelIdeal.Attn

end
-- ==== Proof.Attn.Inner.lean ====
/- One trip of the inner loop of `attn_bwd` over the query blocks, and the two inner loops by their invariants. -/
module

public import proofs.«01_k».proof.Proof.Attn.Offsets

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords) (a1 : Memref sig .tc .vmem S4096x128 .bf16) (q1 : a1.IsWhole)
  (a2 : Memref sig .tc .vmem S4096x128 .bf16) (q2 : a2.IsWhole) (a3 : Memref sig .tc .vmem S4096x128
  .bf16) (q3 : a3.IsWhole) (a4 : Memref sig .tc .vmem S4096x128 .bf16) (q4 : a4.IsWhole) (a5 :
  Memref sig .tc .vmem S4096x128 .f32) (q5 : a5.IsWhole) (a6 : Memref sig .tc .vmem S1x16x2x256 .f32)
  (q6 : a6.IsWhole) (a7 : Memref sig .tc .vmem S1x4096x2 .f32) (q7 : a7.IsWhole) (a8 : Memref
  sig .tc .vmem S4096x128 .bf16) (q8 : a8.IsWhole) (a9 : Memref sig .tc .vmem S4096x128 .bf16) (q9 :
  a9.IsWhole) (a10 : Memref sig .tc .vmem S4096x128 .bf16) (q10 : a10.IsWhole) (a11 : Memref sig
  .tc .vmem S1x16x8x256 .f32) (q11 : a11.IsWhole) (a12 : Memref sig .tc .vmem S1x16x8x256 .f32) (q12
  : a12.IsWhole) (a13 : Memref sig .tc .vmem S16x144x256 .f32) (q13 : a13.IsWhole) (a14 : Memref
  sig .tc .vmem S16x8x256 .f32) (q14 : a14.IsWhole) (a15 : Memref sig .tc .vmem S32x256x128 .bf16)
  (q15 : a15.IsWhole) (a16 : Memref sig .tc .vmem S32x256x128 .bf16) (q16 : a16.IsWhole) (a17 :
  Memref sig .tc .vmem S4096x128 .bf16) (q17 : a17.IsWhole) (a18 : Memref sig .tc .vmem S16x144x512
  .bf16) (q18 : a18.IsWhole) (a19 : Memref sig .tc .vmem S16x144x512 .bf16) (q19 : a19.IsWhole)
  (a20 : Memref sig .tc .vmem S16x128x512 .bf16) (q20 : a20.IsWhole) (a21 : Memref sig .tc .vmem
  S8x256x256 .f32) (q21 : a21.IsWhole)
variable (X6 : BufTy.Contents (Elt F) a6.view.ty) (X14 : BufTy.Contents (Elt F) a14.view.ty) (X15 :
  BufTy.Contents (Elt F) a15.view.ty) (X16 : BufTy.Contents (Elt F) a16.view.ty) (X17 : BufTy.Contents
  (Elt F) a17.view.ty) (X18 : BufTy.Contents (Elt F) a18.view.ty) (X20 : BufTy.Contents (Elt F)
  a20.view.ty)

/-- What a trip reads and leaves alone. -/
abbrev Read : sProp 𝕄 :=
  iprop((a6.view.loc c.tc ↦[a6.view.set]{fullShare} X6)
    ∗ (a14.view.loc c.tc ↦[a14.view.set]{fullShare} X14)
    ∗ (a15.view.loc c.tc ↦[a15.view.set]{fullShare} X15)
    ∗ (a16.view.loc c.tc ↦[a16.view.set]{fullShare} X16)
    ∗ (a17.view.loc c.tc ↦[a17.view.set]{fullShare} X17)
    ∗ (a18.view.loc c.tc ↦[a18.view.set]{fullShare} X18)
    ∗ (a20.view.loc c.tc ↦[a20.view.set]{fullShare} X20))

set_option maxRecDepth 65536 in
set_option maxHeartbeats 0 in
/-- One trip of the inner loop, run: the pieces it writes and what it carries on are found by the run. -/
@[irreducible] def trip (j : Fin k0_t2_loop.trips) (w22 w20 : BitVec 32) (v24 : Vec F S256x128 .bf16) (v25 : FVec F S256x128 .bf16) (v28 : FVec F S144x512 .bf16) (v104 : FVec F S144x256 .f32) (v105 : FVec F S128x256 .f32) (w106 : BitVec 32) (v128 v135 v147 v154 : FVec F S256x256 .bf16)
    (t : Fin (k0_t3_loop j).trips) (f13 : BufTy.Contents (Elt F) a13.view.ty) (f21 : BufTy.Contents (Elt F) a21.view.ty) (acc : FVec F S144x256 .f32 × FVec F S128x256 .f32) :
    Σ' (L13 : List (View.Piece (Elt F) S16x144x256 .f32)) (L21 : List (View.Piece (Elt F) S8x256x256 .f32)),
      { y : FVec F S144x256 .f32 × FVec F S128x256 .f32 // ∀ E : Set ℕ,
        iprop(Read (F := F) c a6 a14 a15 a16 a17 a18 a20 X6 X14 X15 X16 X17 X18 X20 ∗ (a13.view.loc c.tc ↦[a13.view.set]{fullShare} f13) ∗ (a21.view.loc c.tc ↦[a21.view.set]{fullShare} f21))
        ⊢ wp Idealize.ShloMosaic.frame (wpE (defs₀ (F := F)) Variants.none c.tc none) E
            (k0_t3_body (F := F) i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 j w22 w20 v24 v25 v28 v104 v105 w106 v128 v135 v147 v154 t acc)
            (fun y' => iprop(Read (F := F) c a6 a14 a15 a16 a17 a18 a20 X6 X14 X15 X16 X17 X18 X20 ∗ (a13.view.loc c.tc ↦[a13.view.set]{fullShare} (a13.view.writes (Elt F) f13 L13)) ∗ (a21.view.loc c.tc ↦[a21.view.set]{fullShare} (a21.view.writes (Elt F) f21 L21)) ∗ ⌜y' = y⌝)) } := by
  refine ⟨?_, ?_, ?_, fun E => ?run⟩
  case run =>
    unfold k0_t3_body
    iintro ⟨⟨H6, H14, H15, H16, H17, H18, H20⟩, H13, H21⟩
    sl_exec
    sl_step
    sl_close

/-- What the inner loop's trips thread through: the pieces written to the query gradients and to the products, the sums carried. -/
abbrev St := List (View.Piece (Elt F) S16x144x256 .f32) × List (View.Piece (Elt F) S8x256x256 .f32) × (FVec F S144x256 .f32 × FVec F S128x256 .f32)

/-- The state before trip `n` of the inner loop. -/
def innerSt (j : Fin k0_t2_loop.trips) (w22 w20 : BitVec 32) (v24 : Vec F S256x128 .bf16) (v25 : FVec F S256x128 .bf16) (v28 : FVec F S144x512 .bf16) (v104 : FVec F S144x256 .f32) (v105 : FVec F S128x256 .f32) (w106 : BitVec 32) (v128 v135 v147 v154 : FVec F S256x256 .bf16) (G13 : BufTy.Contents (Elt F) a13.view.ty) (G21 : BufTy.Contents (Elt F) a21.view.ty) (init : FVec F S144x256 .f32 × FVec F S128x256 .f32) : ℕ → St (F := F)
  | 0 => ([], [], init)
  | n + 1 =>
    let p := innerSt j w22 w20 v24 v25 v28 v104 v105 w106 v128 v135 v147 v154 G13 G21 init n
    if h : n < (k0_t3_loop j).trips then
      let r := trip (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 ⟨n, h⟩ (a13.view.writes (Elt F) G13 p.1) (a21.view.writes (Elt F) G21 p.2.1) p.2.2
      (r.1 ++ p.1, r.2.1 ++ p.2.1, r.2.2.1)
    else p

abbrev innerInv (j : Fin k0_t2_loop.trips) (w22 w20 : BitVec 32) (v24 : Vec F S256x128 .bf16) (v25 : FVec F S256x128 .bf16) (v28 : FVec F S144x512 .bf16) (v104 : FVec F S144x256 .f32) (v105 : FVec F S128x256 .f32) (w106 : BitVec 32) (v128 v135 v147 v154 : FVec F S256x256 .bf16) (G13 : BufTy.Contents (Elt F) a13.view.ty) (G21 : BufTy.Contents (Elt F) a21.view.ty) (init : FVec F S144x256 .f32 × FVec F S128x256 .f32) (n : ℕ) (acc : FVec F S144x256 .f32 × FVec F S128x256 .f32) : sProp 𝕄 :=
  iprop(Read (F := F) c a6 a14 a15 a16 a17 a18 a20 X6 X14 X15 X16 X17 X18 X20
    ∗ (∃ f, (a13.view.loc c.tc ↦[a13.view.set]{fullShare} f) ∗ ⌜f = a13.view.writes (Elt F) G13 (innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init n).1⌝)
    ∗ (∃ f, (a21.view.loc c.tc ↦[a21.view.set]{fullShare} f) ∗ ⌜f = a21.view.writes (Elt F) G21 (innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init n).2.1⌝)
    ∗ ⌜acc = (innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init n).2.2⌝)

set_option warn.classDefReducibility false in
/-- The inner loop, two query blocks a trip. -/
@[sl_loop] def loopInv_t3 (j : Fin k0_t2_loop.trips) (w22 w20 : BitVec 32) (v24 : Vec F S256x128 .bf16) (v25 : FVec F S256x128 .bf16) (v28 : FVec F S144x512 .bf16) (v104 : FVec F S144x256 .f32) (v105 : FVec F S128x256 .f32) (w106 : BitVec 32) (v128 v135 v147 v154 : FVec F S256x256 .bf16) (G13 : BufTy.Contents (Elt F) a13.view.ty) (G21 : BufTy.Contents (Elt F) a21.view.ty) (init : FVec F S144x256 .f32 × FVec F S128x256 .f32) :
    LoopInvTy_k0_t3 (F := F) Unit ℕ (UR sig nD τ) ℕ Variants.none c none Set.univ i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 j w22 w20 v24 v25 v28 v104 v105 w106 v128 v135 v147 v154 init where
  inv := innerInv (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init
  step t acc := by
    iintro ⟨HR, ⟨%f13, H13, %h13⟩, ⟨%f21, H21, %h21⟩, %hacc⟩
    iapply (wp_wand_r Idealize.ShloMosaic.frame (wpE (defs₀ (F := F)) Variants.none c.tc none) Set.univ)
    isplitl [HR H13 H21]
    · iapply ((trip (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 t f13 f21 acc).2.2.2 Set.univ)
      isplitl [HR]; · iexact HR
      isplitl [H13]; · iexact H13
      iexact H21
    · iintro %y ⟨HR, H13, H21, %hy⟩
      have e : innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init (t.val + 1)
          = ((trip (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 t f13 f21 acc).1 ++ (innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init t.val).1,
            (trip (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 t f13 f21 acc).2.1 ++ (innerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 G13 G21 init t.val).2.1,
            (trip (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X6 X14 X15 X16 X17 X18 X20 j w22 w20 v24 v25 v28 v104 v105 w106 v128 v135 v147 v154 t f13 f21 acc).2.2.1) := by
        subst h13 h21 hacc; exact dif_pos t.isLt
      isplitl [HR]; · iexact HR
      isplitl [H13]
      · iexists _; isplitl [H13]; · iexact H13
        ipureintro; rw [e]; simp only [View.writes_append, ← h13]
      isplitl [H21]
      · iexists _; isplitl [H21]; · iexact H21
        ipureintro; rw [e]; simp only [View.writes_append, ← h21]
      ipureintro; rw [e]; exact hy

set_option warn.classDefReducibility false in
/-- The remainder loop, which makes no trip. -/
@[sl_loop] def loopInv_t4 (j : Fin k0_t2_loop.trips) (w22 w20 : BitVec 32) (v24 : Vec F S256x128 .bf16) (v25 : FVec F S256x128 .bf16) (v28 : FVec F S144x512 .bf16) (v104 : FVec F S144x256 .f32) (v105 : FVec F S128x256 .f32) (w106 : BitVec 32) (v128 v135 v147 v154 : FVec F S256x256 .bf16) (w183 : BitVec 32) (G13 : BufTy.Contents (Elt F) a13.view.ty) (G21 : BufTy.Contents (Elt F) a21.view.ty) (init : FVec F S144x256 .f32 × FVec F S128x256 .f32) :
    LoopInvTy_k0_t4 (F := F) Unit ℕ (UR sig nD τ) ℕ Variants.none c none Set.univ i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 j w22 w20 v24 v25 v28 v104 v105 w106 v128 v135 v147 v154 w183 init where
  inv := fun _ acc => iprop((∃ f, (a13.view.loc c.tc ↦[a13.view.set]{fullShare} f) ∗ ⌜f = G13⌝) ∗ (∃ f, (a21.view.loc c.tc ↦[a21.view.set]{fullShare} f) ∗ ⌜f = G21⌝) ∗ ⌜acc = init⌝)
  step t acc := by
    have h : t.val < (k0_t4_loop j).trips := t.isLt
    rw [no_remainder] at h
    exact absurd h (Nat.not_lt_zero _)

end Cert.KernelIdeal.Attn

end
-- ==== Proof.Attn.Outer.lean ====
/- One key block of `attn_bwd`: the trip of the outer loop, and the outer loop by its invariant. -/
module

public import proofs.«01_k».proof.Proof.Attn.Inner

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords) (a1 : Memref sig .tc .vmem S4096x128 .bf16) (q1 : a1.IsWhole)
  (a2 : Memref sig .tc .vmem S4096x128 .bf16) (q2 : a2.IsWhole) (a3 : Memref sig .tc .vmem S4096x128
  .bf16) (q3 : a3.IsWhole) (a4 : Memref sig .tc .vmem S4096x128 .bf16) (q4 : a4.IsWhole) (a5 :
  Memref sig .tc .vmem S4096x128 .f32) (q5 : a5.IsWhole) (a6 : Memref sig .tc .vmem S1x16x2x256 .f32)
  (q6 : a6.IsWhole) (a7 : Memref sig .tc .vmem S1x4096x2 .f32) (q7 : a7.IsWhole) (a8 : Memref
  sig .tc .vmem S4096x128 .bf16) (q8 : a8.IsWhole) (a9 : Memref sig .tc .vmem S4096x128 .bf16) (q9 :
  a9.IsWhole) (a10 : Memref sig .tc .vmem S4096x128 .bf16) (q10 : a10.IsWhole) (a11 : Memref sig
  .tc .vmem S1x16x8x256 .f32) (q11 : a11.IsWhole) (a12 : Memref sig .tc .vmem S1x16x8x256 .f32) (q12
  : a12.IsWhole) (a13 : Memref sig .tc .vmem S16x144x256 .f32) (q13 : a13.IsWhole) (a14 : Memref
  sig .tc .vmem S16x8x256 .f32) (q14 : a14.IsWhole) (a15 : Memref sig .tc .vmem S32x256x128 .bf16)
  (q15 : a15.IsWhole) (a16 : Memref sig .tc .vmem S32x256x128 .bf16) (q16 : a16.IsWhole) (a17 :
  Memref sig .tc .vmem S4096x128 .bf16) (q17 : a17.IsWhole) (a18 : Memref sig .tc .vmem S16x144x512
  .bf16) (q18 : a18.IsWhole) (a19 : Memref sig .tc .vmem S16x144x512 .bf16) (q19 : a19.IsWhole)
  (a20 : Memref sig .tc .vmem S16x128x512 .bf16) (q20 : a20.IsWhole) (a21 : Memref sig .tc .vmem
  S8x256x256 .f32) (q21 : a21.IsWhole)
variable (X3 : BufTy.Contents (Elt F) a3.view.ty) (X6 : BufTy.Contents (Elt F) a6.view.ty) (X14 :
  BufTy.Contents (Elt F) a14.view.ty) (X15 : BufTy.Contents (Elt F) a15.view.ty) (X16 : BufTy.Contents
  (Elt F) a16.view.ty) (X17 : BufTy.Contents (Elt F) a17.view.ty) (X18 : BufTy.Contents (Elt F)
  a18.view.ty) (X19 : BufTy.Contents (Elt F) a19.view.ty) (X20 : BufTy.Contents (Elt F) a20.view.ty)

/-- What the outer loop reads and leaves alone. -/
abbrev Reads : sProp 𝕄 :=
  iprop((a3.view.loc c.tc ↦[a3.view.set]{fullShare} X3)
    ∗ (a6.view.loc c.tc ↦[a6.view.set]{fullShare} X6)
    ∗ (a14.view.loc c.tc ↦[a14.view.set]{fullShare} X14)
    ∗ (a15.view.loc c.tc ↦[a15.view.set]{fullShare} X15)
    ∗ (a16.view.loc c.tc ↦[a16.view.set]{fullShare} X16)
    ∗ (a17.view.loc c.tc ↦[a17.view.set]{fullShare} X17)
    ∗ (a18.view.loc c.tc ↦[a18.view.set]{fullShare} X18)
    ∗ (a19.view.loc c.tc ↦[a19.view.set]{fullShare} X19)
    ∗ (a20.view.loc c.tc ↦[a20.view.set]{fullShare} X20))

set_option maxRecDepth 65536 in
set_option maxHeartbeats 0 in
/-- One trip of the outer loop, run: the pieces of the results it writes, and what it leaves in the buffer of query
gradients and in the one of products. -/
@[irreducible] def trip2 (j : Fin k0_t2_loop.trips) (f13 : BufTy.Contents (Elt F) a13.view.ty) :
    Σ' (L9 : List (View.Piece (Elt F) S4096x128 .bf16)) (L10 : List (View.Piece (Elt F) S4096x128 .bf16)) (L11 : List (View.Piece (Elt F) S1x16x8x256 .f32)),
      { g13 : BufTy.Contents (Elt F) a13.view.ty // ∀ (f21 : BufTy.Contents (Elt F) a21.view.ty) (f9 : BufTy.Contents (Elt F) a9.view.ty) (f10 : BufTy.Contents (Elt F) a10.view.ty) (f11 : BufTy.Contents (Elt F) a11.view.ty),
        iprop(Reads (F := F) c a3 a6 a14 a15 a16 a17 a18 a19 a20 X3 X6 X14 X15 X16 X17 X18 X19 X20 ∗ (a13.view.loc c.tc ↦[a13.view.set]{fullShare} f13) ∗ (a21.view.loc c.tc ↦[a21.view.set]{fullShare} f21) ∗ (a9.view.loc c.tc ↦[a9.view.set]{fullShare} f9) ∗ (a10.view.loc c.tc ↦[a10.view.set]{fullShare} f10) ∗ (a11.view.loc c.tc ↦[a11.view.set]{fullShare} f11))
        ⊢ wp Idealize.ShloMosaic.frame (wpE (defs₀ (F := F)) Variants.none c.tc none) Set.univ
            (k0_t2_body (F := F) i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 j PUnit.unit)
            (fun _ => iprop(Reads (F := F) c a3 a6 a14 a15 a16 a17 a18 a19 a20 X3 X6 X14 X15 X16 X17 X18 X19 X20 ∗ (a13.view.loc c.tc ↦[a13.view.set]{fullShare} g13) ∗ (∃ g21, (a21.view.loc c.tc ↦[a21.view.set]{fullShare} g21)) ∗ (a9.view.loc c.tc ↦[a9.view.set]{fullShare} (a9.view.writes (Elt F) f9 L9)) ∗ (a10.view.loc c.tc ↦[a10.view.set]{fullShare} (a10.view.writes (Elt F) f10 L10)) ∗ (a11.view.loc c.tc ↦[a11.view.set]{fullShare} (a11.view.writes (Elt F) f11 L11)))) } := by
  have hj : j.val < 16 := Nat.lt_of_lt_of_le j.isLt (by decide +kernel)
  refine ⟨?_, ?_, ?_, ?_, fun f21 f9 f10 f11 => ?run⟩
  case run =>
    unfold k0_t2_body
    iintro ⟨⟨H3, H6, H14, H15, H16, H17, H18, H19, H20⟩, H13, H21, H9, H10, H11⟩
    sl_exec
    sl_step
    sl_close

/-- What the outer loop's trips thread through: the pieces written to `dk`, `dv` and the key columns' gradients, the query
gradients. -/
abbrev St2 := List (View.Piece (Elt F) S4096x128 .bf16) × List (View.Piece (Elt F) S4096x128 .bf16) × List (View.Piece (Elt F) S1x16x8x256 .f32) × BufTy.Contents (Elt F) a13.view.ty

/-- The state before key block `n`. -/
def outerSt (G13 : BufTy.Contents (Elt F) a13.view.ty) : ℕ → St2 (F := F) a13
  | 0 => ([], [], [], G13)
  | n + 1 =>
    let p := outerSt G13 n
    if h : n < k0_t2_loop.trips then
      let r := trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 ⟨n, h⟩ p.2.2.2
      (r.1 ++ p.1, r.2.1 ++ p.2.1, r.2.2.1 ++ p.2.2.1, r.2.2.2.1)
    else p

abbrev outerInv (G9 : BufTy.Contents (Elt F) a9.view.ty) (G10 : BufTy.Contents (Elt F) a10.view.ty) (G11 : BufTy.Contents (Elt F) a11.view.ty) (G13 : BufTy.Contents (Elt F) a13.view.ty) (n : ℕ) (_u : PUnit) : sProp 𝕄 :=
  iprop(Reads (F := F) c a3 a6 a14 a15 a16 a17 a18 a19 a20 X3 X6 X14 X15 X16 X17 X18 X19 X20
    ∗ (∃ f, (a13.view.loc c.tc ↦[a13.view.set]{fullShare} f) ∗ ⌜f = (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 n).2.2.2⌝)
    ∗ (∃ f, (a21.view.loc c.tc ↦[a21.view.set]{fullShare} f))
    ∗ (∃ f, (a9.view.loc c.tc ↦[a9.view.set]{fullShare} f) ∗ ⌜f = a9.view.writes (Elt F) G9 (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 n).1⌝)
    ∗ (∃ f, (a10.view.loc c.tc ↦[a10.view.set]{fullShare} f) ∗ ⌜f = a10.view.writes (Elt F) G10 (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 n).2.1⌝)
    ∗ (∃ f, (a11.view.loc c.tc ↦[a11.view.set]{fullShare} f) ∗ ⌜f = a11.view.writes (Elt F) G11 (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 n).2.2.1⌝))

set_option maxHeartbeats 0 in
set_option warn.classDefReducibility false in
/-- The loop over the key blocks. -/
@[sl_loop] def loopInv_t2 (G9 : BufTy.Contents (Elt F) a9.view.ty) (G10 : BufTy.Contents (Elt F) a10.view.ty) (G11 : BufTy.Contents (Elt F) a11.view.ty) (G13 : BufTy.Contents (Elt F) a13.view.ty) :
    LoopInvTy_k0_t2 (F := F) Unit ℕ (UR sig nD τ) ℕ Variants.none c none Set.univ i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 where
  inv := outerInv (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G9 G10 G11 G13
  step j acc := by
    iintro ⟨HR, ⟨%f13, H13, %h13⟩, ⟨%f21, H21⟩, ⟨%f9, H9, %h9⟩, ⟨%f10, H10, %h10⟩, ⟨%f11, H11, %h11⟩⟩
    iapply (wp_wand_r Idealize.ShloMosaic.frame (wpE (defs₀ (F := F)) Variants.none c.tc none) Set.univ)
    isplitl [HR H13 H21 H9 H10 H11]
    · iapply ((trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 j f13).2.2.2.2 f21 f9 f10 f11)
      isplitl [HR]; · iexact HR
      isplitl [H13]; · iexact H13
      isplitl [H21]; · iexact H21
      isplitl [H9]; · iexact H9
      isplitl [H10]; · iexact H10
      iexact H11
    · iintro %y ⟨HR, H13, H21, H9, H10, H11⟩
      have e : outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 (j.val + 1)
          = ((trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 j f13).1 ++ (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 j.val).1,
            (trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 j f13).2.1 ++ (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 j.val).2.1,
            (trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 j f13).2.2.1 ++ (outerSt (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 G13 j.val).2.2.1,
            (trip2 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X3 X6 X14 X15 X16 X17 X18 X19 X20 j f13).2.2.2.1) := by
        subst h13; exact dif_pos j.isLt
      isplitl [HR]; · iexact HR
      isplitl [H13]
      · iexists _; isplitl [H13]; · iexact H13
        ipureintro; rw [e]
      isplitl [H21]
      · iexact H21
      isplitl [H9]
      · iexists _; isplitl [H9]; · iexact H9
        ipureintro; rw [e]; simp only [View.writes_append, ← h9]
      isplitl [H10]
      · iexists _; isplitl [H10]; · iexact H10
        ipureintro; rw [e]; simp only [View.writes_append, ← h10]
      iexists _; isplitl [H11]; · iexact H11
      ipureintro; rw [e]; simp only [View.writes_append, ← h11]

end Cert.KernelIdeal.Attn

end
-- ==== Proof.Attn.Body.lean ====
/- The body of `attn_bwd`: its three loops in a row, run once. -/
module

public import proofs.«01_k».proof.Proof.Attn.Outer
public import Idealize.ShloMosaic.Lib.Ring
public import Idealize.ShloMosaic.Lib.Tactic

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords) (a1 : Memref sig .tc .vmem S4096x128 .bf16) (q1 : a1.IsWhole)
  (a2 : Memref sig .tc .vmem S4096x128 .bf16) (q2 : a2.IsWhole) (a3 : Memref sig .tc .vmem S4096x128
  .bf16) (q3 : a3.IsWhole) (a4 : Memref sig .tc .vmem S4096x128 .bf16) (q4 : a4.IsWhole) (a5 :
  Memref sig .tc .vmem S4096x128 .f32) (q5 : a5.IsWhole) (a6 : Memref sig .tc .vmem S1x16x2x256 .f32)
  (q6 : a6.IsWhole) (a7 : Memref sig .tc .vmem S1x4096x2 .f32) (q7 : a7.IsWhole) (a8 : Memref
  sig .tc .vmem S4096x128 .bf16) (q8 : a8.IsWhole) (a9 : Memref sig .tc .vmem S4096x128 .bf16) (q9 :
  a9.IsWhole) (a10 : Memref sig .tc .vmem S4096x128 .bf16) (q10 : a10.IsWhole) (a11 : Memref sig
  .tc .vmem S1x16x8x256 .f32) (q11 : a11.IsWhole) (a12 : Memref sig .tc .vmem S1x16x8x256 .f32) (q12
  : a12.IsWhole) (a13 : Memref sig .tc .vmem S16x144x256 .f32) (q13 : a13.IsWhole) (a14 : Memref
  sig .tc .vmem S16x8x256 .f32) (q14 : a14.IsWhole) (a15 : Memref sig .tc .vmem S32x256x128 .bf16)
  (q15 : a15.IsWhole) (a16 : Memref sig .tc .vmem S32x256x128 .bf16) (q16 : a16.IsWhole) (a17 :
  Memref sig .tc .vmem S4096x128 .bf16) (q17 : a17.IsWhole) (a18 : Memref sig .tc .vmem S16x144x512
  .bf16) (q18 : a18.IsWhole) (a19 : Memref sig .tc .vmem S16x144x512 .bf16) (q19 : a19.IsWhole)
  (a20 : Memref sig .tc .vmem S16x128x512 .bf16) (q20 : a20.IsWhole) (a21 : Memref sig .tc .vmem
  S8x256x256 .f32) (q21 : a21.IsWhole)
variable (X1 : BufTy.Contents (Elt F) a1.view.ty) (X2 : BufTy.Contents (Elt F) a2.view.ty) (X4 :
  BufTy.Contents (Elt F) a4.view.ty) (X5 : BufTy.Contents (Elt F) a5.view.ty) (X7 : BufTy.Contents (Elt F)
  a7.view.ty)

/-- The pieces that the preparing loop writes, all sixteen trips. -/
abbrev prep := pb_k0_t1 (F := F) Variants.none c none i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7 k0_t1_loop.trips

theorem prep_cover13 (y : Shape.Idx S16x144x256) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).1, y ∈ pc.1.set :=
  View.cover_of_tiledL _ ![1, 144, 256] (by sl_kernel_rfl) y

theorem prep_cover14 (y : Shape.Idx S16x8x256) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.1, y ∈ pc.1.set :=
  View.cover_of_tiledL _ ![1, 8, 256] (by sl_kernel_rfl) y

theorem prep_cover15 (y : Shape.Idx S32x256x128) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.1, y ∈ pc.1.set :=
  View.cover_of_tiledL _ ![1, 256, 128] (by sl_kernel_rfl) y

theorem prep_cover16 (y : Shape.Idx S32x256x128) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.1, y ∈ pc.1.set :=
  View.cover_of_tiledL _ ![1, 256, 128] (by sl_kernel_rfl) y

theorem prep_cover17 (y : Shape.Idx S4096x128) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.1, y ∈ pc.1.set :=
  View.cover_of_tiledL _ ![256, 128] (by sl_kernel_rfl) y

theorem prep_cover18 (y : Shape.Idx S16x144x512) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.1, y ∈ pc.1.set :=
  View.cover_of_tiledL _ ![1, 144, 512] (by sl_kernel_rfl) y

theorem prep_cover19 (y : Shape.Idx S16x144x512) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.2.1, y ∈ pc.1.set :=
  View.cover_of_tiledL _ ![1, 144, 512] (by sl_kernel_rfl) y

theorem prep_cover20 (y : Shape.Idx S16x128x512) : ∃ pc ∈ (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.2.2, y ∈ pc.1.set :=
  View.cover_of_tiledL _ ![1, 128, 512] (by sl_kernel_rfl) y

/-- A buffer all of whose elements were written holds nothing of what it held before. -/
theorem own_junk {s : Shape} {e : EltTy} (m : Memref sig .tc .vmem s e) (f : BufTy.Contents (Elt F) m.view.ty)
    (L : List (View.Piece (Elt F) s e)) (hL : ∀ y, ∃ pc ∈ L, y ∈ pc.1.set) :
    (m.view.loc c.tc ↦[m.view.set]{fullShare} m.view.writes (Elt F) f L : sProp 𝕄)
      = m.view.loc c.tc ↦[m.view.set]{fullShare} m.view.writes (Elt F) m.view.junk L :=
  pointsTo_congr fun i hi => by
    obtain ⟨y, -, rfl⟩ := Finset.mem_map.mp hi
    have h := View.read_writes_apply_eq m.view f m.view m.view.junk y L (hL y)
    rw [View.read_apply, View.read_apply] at h
    simpa only [cast_cast, cast_eq] using congrArg (_root_.cast (congrArg (Elt F) m.view.elt_eq).symm) h

set_option maxHeartbeats 0 in
/-- After the preparing loop its buffers hold its pieces alone. -/
instance prepExit (G13 : BufTy.Contents (Elt F) a13.view.ty) (G14 : BufTy.Contents (Elt F) a14.view.ty) (G15 : BufTy.Contents (Elt F) a15.view.ty) (G16 : BufTy.Contents (Elt F) a16.view.ty) (G17 : BufTy.Contents (Elt F) a17.view.ty) (G18 : BufTy.Contents (Elt F) a18.view.ty) (G19 : BufTy.Contents (Elt F) a19.view.ty) (G20 : BufTy.Contents (Elt F) a20.view.ty) :
    LoopExit (loopInv_k0_t1 (F := F) Variants.none c none Set.univ i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7 G13 G14 G15 G16 G17 G18 G19 G20) where
  post _ := iprop((a1.view.loc c.tc ↦[a1.view.set]{fullShare} X1) ∗ (a2.view.loc c.tc ↦[a2.view.set]{fullShare} X2) ∗ (a4.view.loc c.tc ↦[a4.view.set]{fullShare} X4) ∗ (a5.view.loc c.tc ↦[a5.view.set]{fullShare} X5) ∗ (a7.view.loc c.tc ↦[a7.view.set]{fullShare} X7) ∗ (a13.view.loc c.tc ↦[a13.view.set]{fullShare} (a13.view.writes (Elt F) a13.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).1)) ∗ (a14.view.loc c.tc ↦[a14.view.set]{fullShare} (a14.view.writes (Elt F) a14.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.1)) ∗ (a15.view.loc c.tc ↦[a15.view.set]{fullShare} (a15.view.writes (Elt F) a15.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.1)) ∗ (a16.view.loc c.tc ↦[a16.view.set]{fullShare} (a16.view.writes (Elt F) a16.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.1)) ∗ (a17.view.loc c.tc ↦[a17.view.set]{fullShare} (a17.view.writes (Elt F) a17.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.1)) ∗ (a18.view.loc c.tc ↦[a18.view.set]{fullShare} (a18.view.writes (Elt F) a18.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.1)) ∗ (a19.view.loc c.tc ↦[a19.view.set]{fullShare} (a19.view.writes (Elt F) a19.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.2.1)) ∗ (a20.view.loc c.tc ↦[a20.view.set]{fullShare} (a20.view.writes (Elt F) a20.view.junk (prep (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7).2.2.2.2.2.2.2)))
  exit acc := by
    show inv_k0_t1 (F := F) Variants.none c none i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7 G13 G14 G15 G16 G17 G18 G19 G20 k0_t1_loop.trips acc ⊢ _
    iintro ⟨H1, H2, H4, H5, H7, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩, ⟨%f20, H20, %h20⟩⟩
    subst h13 h14 h15 h16 h17 h18 h19 h20
    simp only [own_junk c a13 G13 _ (prep_cover13 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a14 G14 _ (prep_cover14 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a15 G15 _ (prep_cover15 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a16 G16 _ (prep_cover16 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a17 G17 _ (prep_cover17 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a18 G18 _ (prep_cover18 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a19 G19 _ (prep_cover19 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7), own_junk c a20 G20 _ (prep_cover20 (F := F) c i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21 X1 X2 X4 X5 X7)]
    isplitl [H1]; · iexact H1
    isplitl [H2]; · iexact H2
    isplitl [H4]; · iexact H4
    isplitl [H5]; · iexact H5
    isplitl [H7]; · iexact H7
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Attn

end
-- ==== Proof.Attn.Run.lean ====
/- The body of `attn_bwd` from its operands to its results, and the pieces that cover each result. -/
module

public import proofs.«01_k».proof.Proof.Attn.Body
public import Idealize.ShloMosaic.Lib.Pipeline.FrameBody

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords) (a1 : Memref sig .tc .vmem S4096x128 .bf16) (q1 : a1.IsWhole)
  (a2 : Memref sig .tc .vmem S4096x128 .bf16) (q2 : a2.IsWhole) (a3 : Memref sig .tc .vmem S4096x128
  .bf16) (q3 : a3.IsWhole) (a4 : Memref sig .tc .vmem S4096x128 .bf16) (q4 : a4.IsWhole) (a5 :
  Memref sig .tc .vmem S4096x128 .f32) (q5 : a5.IsWhole) (a6 : Memref sig .tc .vmem S1x16x2x256 .f32)
  (q6 : a6.IsWhole) (a7 : Memref sig .tc .vmem S1x4096x2 .f32) (q7 : a7.IsWhole) (a8 : Memref
  sig .tc .vmem S4096x128 .bf16) (q8 : a8.IsWhole) (a9 : Memref sig .tc .vmem S4096x128 .bf16) (q9 :
  a9.IsWhole) (a10 : Memref sig .tc .vmem S4096x128 .bf16) (q10 : a10.IsWhole) (a11 : Memref sig
  .tc .vmem S1x16x8x256 .f32) (q11 : a11.IsWhole) (a12 : Memref sig .tc .vmem S1x16x8x256 .f32) (q12
  : a12.IsWhole) (a13 : Memref sig .tc .vmem S16x144x256 .f32) (q13 : a13.IsWhole) (a14 : Memref
  sig .tc .vmem S16x8x256 .f32) (q14 : a14.IsWhole) (a15 : Memref sig .tc .vmem S32x256x128 .bf16)
  (q15 : a15.IsWhole) (a16 : Memref sig .tc .vmem S32x256x128 .bf16) (q16 : a16.IsWhole) (a17 :
  Memref sig .tc .vmem S4096x128 .bf16) (q17 : a17.IsWhole) (a18 : Memref sig .tc .vmem S16x144x512
  .bf16) (q18 : a18.IsWhole) (a19 : Memref sig .tc .vmem S16x144x512 .bf16) (q19 : a19.IsWhole)
  (a20 : Memref sig .tc .vmem S16x128x512 .bf16) (q20 : a20.IsWhole) (a21 : Memref sig .tc .vmem
  S8x256x256 .f32) (q21 : a21.IsWhole)
variable (x1 : Vec F S4096x128 .bf16) (x2 : Vec F S4096x128 .bf16) (x3 : Vec F S4096x128 .bf16) (x4 : Vec F
  S4096x128 .bf16) (x5 : Vec F S4096x128 .f32) (x6 : Vec F S1x16x2x256 .f32) (x7 : Vec F S1x4096x2 .f32)

/-- The scratch buffers, at any contents. -/
abbrev Scratch (c : Dev nD) (a13 : Memref sig .tc .vmem S16x144x256 .f32) (a14 : Memref sig .tc .vmem S16x8x256 .f32) (a15 : Memref sig .tc .vmem S32x256x128 .bf16) (a16 : Memref sig .tc .vmem S32x256x128 .bf16) (a17 : Memref sig .tc .vmem S4096x128 .bf16) (a18 : Memref sig .tc .vmem S16x144x512 .bf16) (a19 : Memref sig .tc .vmem S16x144x512 .bf16) (a20 : Memref sig .tc .vmem S16x128x512 .bf16) (a21 : Memref sig .tc .vmem S8x256x256 .f32) : sProp 𝕄 :=
  iprop((∃ f, (a13.view.loc c.tc ↦[a13.view.set]{fullShare} f)) ∗ (∃ f, (a14.view.loc c.tc ↦[a14.view.set]{fullShare} f)) ∗ (∃ f, (a15.view.loc c.tc ↦[a15.view.set]{fullShare} f)) ∗ (∃ f, (a16.view.loc c.tc ↦[a16.view.set]{fullShare} f)) ∗ (∃ f, (a17.view.loc c.tc ↦[a17.view.set]{fullShare} f)) ∗ (∃ f, (a18.view.loc c.tc ↦[a18.view.set]{fullShare} f)) ∗ (∃ f, (a19.view.loc c.tc ↦[a19.view.set]{fullShare} f)) ∗ (∃ f, (a20.view.loc c.tc ↦[a20.view.set]{fullShare} f)) ∗ (∃ f, (a21.view.loc c.tc ↦[a21.view.set]{fullShare} f)))

set_option maxRecDepth 65536 in
set_option maxHeartbeats 0 in
/-- The body, run: what it writes to its five results does not depend on what the results or the scratch held. -/
@[irreducible] def bodyRun :
    Σ' (L8 : List (View.Piece (Elt F) S4096x128 .bf16)) (L9 : List (View.Piece (Elt F) S4096x128 .bf16)) (L10 : List (View.Piece (Elt F) S4096x128 .bf16)) (L11 : List (View.Piece (Elt F) S1x16x8x256 .f32)),
      { L12 : List (View.Piece (Elt F) S1x16x8x256 .f32) // ∀ (K : PUnit → sProp 𝕄),
        iprop(owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7
            ∗ (∃ d, owns c.tc a8 fullShare d) ∗ (∃ d, owns c.tc a9 fullShare d) ∗ (∃ d, owns c.tc a10 fullShare d) ∗ (∃ d, owns c.tc a11 fullShare d) ∗ (∃ d, owns c.tc a12 fullShare d)
            ∗ Scratch (F := F) c a13 a14 a15 a16 a17 a18 a19 a20 a21
            ∗ (iprop(owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7
                ∗ (∃ f, (a8.view.loc c.tc ↦[a8.view.set]{fullShare} (a8.view.writes (Elt F) f L8))) ∗ (∃ f, (a9.view.loc c.tc ↦[a9.view.set]{fullShare} (a9.view.writes (Elt F) f L9))) ∗ (∃ f, (a10.view.loc c.tc ↦[a10.view.set]{fullShare} (a10.view.writes (Elt F) f L10))) ∗ (∃ f, (a11.view.loc c.tc ↦[a11.view.set]{fullShare} (a11.view.writes (Elt F) f L11))) ∗ (∃ f, (a12.view.loc c.tc ↦[a12.view.set]{fullShare} (a12.view.writes (Elt F) f L12)))
                ∗ Scratch (F := F) c a13 a14 a15 a16 a17 a18 a19 a20 a21) -∗ K ⟨⟩))
        ⊢ wp Idealize.ShloMosaic.frame (wpE (defs₀ (F := F)) Variants.none c.tc none) Set.univ
            (cc0_attn_bwd (F := F) i a1 q1 a2 q2 a3 q3 a4 q4 a5 q5 a6 q6 a7 q7 a8 q8 a9 q9 a10 q10 a11 q11 a12 q12 a13 q13 a14 q14 a15 q15 a16 q16 a17 q17 a18 q18 a19 q19 a20 q20 a21 q21) K } := by
  refine ⟨?_, ?_, ?_, ?_, ?_, fun K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hk⟩
    obtain rfl := q1.eq_unread hf1
    obtain rfl := q2.eq_unread hf2
    obtain rfl := q3.eq_unread hf3
    obtain rfl := q4.eq_unread hf4
    obtain rfl := q5.eq_unread hf5
    obtain rfl := q6.eq_unread hf6
    obtain rfl := q7.eq_unread hf7
    sl_exec
    sl_step
    iapply Hk
    isplitl [HL0]
    · iexists _; isplitr; · ipureintro; exact q1.read_unread _
      iexact HL0
    isplitl [HL1]
    · iexists _; isplitr; · ipureintro; exact q2.read_unread _
      iexact HL1
    isplitl [H3]
    · iexists _; isplitr; · ipureintro; exact q3.read_unread _
      iexact H3
    isplitl [HL2]
    · iexists _; isplitr; · ipureintro; exact q4.read_unread _
      iexact HL2
    isplitl [HL3]
    · iexists _; isplitr; · ipureintro; exact q5.read_unread _
      iexact HL3
    isplitl [H6]
    · iexists _; isplitr; · ipureintro; exact q6.read_unread _
      iexact H6
    isplitl [HL4]
    · iexists _; isplitr; · ipureintro; exact q7.read_unread _
      iexact HL4
    isplitl [H8]; · iexists _; iexact H8
    isplitl [H9]; · iexists _; iexact H9
    isplitl [H10]; · iexists _; iexact H10
    isplitl [H11]; · iexists _; iexact H11
    isplitl [H12]; · iexists _; iexact H12
    isplitl [HL5]; · iexists _; iexact HL5
    isplitl [HL6]; · iexists _; iexact HL6
    isplitl [HL7]; · iexists _; iexact HL7
    isplitl [HL8]; · iexists _; iexact HL8
    isplitl [HL9]; · iexists _; iexact HL9
    isplitl [HL10]; · iexists _; iexact HL10
    isplitl [HL11]; · iexists _; iexact HL11
    isplitl [HL12]; · iexists _; iexact HL12
    iexists _; iexact H21

end Cert.KernelIdeal.Attn

end
-- ==== Proof.Attn.Launch.lean ====
/- The launch of `attn_bwd`: what each grid point leaves in its results, and the whole run. -/
module

public import proofs.«01_k».proof.Proof.Attn.Run
public import proofs.«01_k».proof.Proof.Gen.KernelIdeal.Frame
public import Idealize.ShloMosaic.Lib.Claim

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The run at grid point `t`, on the blocks that the point's windows hold. -/
@[irreducible] def runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
    (iblk m c 0 t) (iblk m c 1 t) (iblk m c 2 t) (iblk m c 3 t) (iblk m c 4 t) (iblk m c 5 t) (iblk m c 6 t)

theorem cover7 (c : Dev nD) (t : Fin cfg0.N) (y : Shape.Idx S4096x128) : ∃ pc ∈ (runAt m c t).1, y ∈ pc.1.set :=
  View.cover_of_tiledL (runAt m c t).1 ![256, 128] (by sl_kernel_rfl) y

/-- What point `t` leaves in result window 7. -/
def out7 (c : Dev nD) (t : Fin cfg0.N) : Vec F S4096x128 .bf16 :=
  (win0_7.stage (cfg0.slots t 7)).view.read (Elt F)
    ((win0_7.stage (cfg0.slots t 7)).view.writes (Elt F) (win0_7.stage (cfg0.slots t 7)).view.junk (runAt m c t).1)

theorem cover8 (c : Dev nD) (t : Fin cfg0.N) (y : Shape.Idx S4096x128) : ∃ pc ∈ (runAt m c t).2.1, y ∈ pc.1.set :=
  View.cover_of_tiledL (runAt m c t).2.1 ![256, 128] (by sl_kernel_rfl) y

/-- What point `t` leaves in result window 8. -/
def out8 (c : Dev nD) (t : Fin cfg0.N) : Vec F S4096x128 .bf16 :=
  (win0_8.stage (cfg0.slots t 8)).view.read (Elt F)
    ((win0_8.stage (cfg0.slots t 8)).view.writes (Elt F) (win0_8.stage (cfg0.slots t 8)).view.junk (runAt m c t).2.1)

theorem cover9 (c : Dev nD) (t : Fin cfg0.N) (y : Shape.Idx S4096x128) : ∃ pc ∈ (runAt m c t).2.2.1, y ∈ pc.1.set :=
  View.cover_of_tiledL (runAt m c t).2.2.1 ![256, 128] (by sl_kernel_rfl) y

/-- What point `t` leaves in result window 9. -/
def out9 (c : Dev nD) (t : Fin cfg0.N) : Vec F S4096x128 .bf16 :=
  (win0_9.stage (cfg0.slots t 9)).view.read (Elt F)
    ((win0_9.stage (cfg0.slots t 9)).view.writes (Elt F) (win0_9.stage (cfg0.slots t 9)).view.junk (runAt m c t).2.2.1)

theorem cover10 (c : Dev nD) (t : Fin cfg0.N) (y : Shape.Idx S1x16x8x256) : ∃ pc ∈ (runAt m c t).2.2.2.1, y ∈ pc.1.set :=
  View.cover_of_tiledL (runAt m c t).2.2.2.1 ![1, 1, 8, 256] (by sl_kernel_rfl) y

/-- What point `t` leaves in result window 10. -/
def out10 (c : Dev nD) (t : Fin cfg0.N) : Vec F S1x16x8x256 .f32 :=
  (win0_10.stage (cfg0.slots t 10)).view.read (Elt F)
    ((win0_10.stage (cfg0.slots t 10)).view.writes (Elt F) (win0_10.stage (cfg0.slots t 10)).view.junk (runAt m c t).2.2.2.1)

theorem cover11 (c : Dev nD) (t : Fin cfg0.N) (y : Shape.Idx S1x16x8x256) : ∃ pc ∈ (runAt m c t).2.2.2.2.1, y ∈ pc.1.set :=
  View.cover_of_tiledL (runAt m c t).2.2.2.2.1 ![1, 1, 8, 256] (by sl_kernel_rfl) y

/-- What point `t` leaves in result window 11. -/
def out11 (c : Dev nD) (t : Fin cfg0.N) : Vec F S1x16x8x256 .f32 :=
  (win0_11.stage (cfg0.slots t 11)).view.read (Elt F)
    ((win0_11.stage (cfg0.slots t 11)).view.writes (Elt F) (win0_11.stage (cfg0.slots t 11)).view.junk (runAt m c t).2.2.2.2.1)

/-- The proof data of the pipeline: inputs stay as they are, each result window ends at the run's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
    | ⟨11, _⟩ => out11 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d))
    ∗ (∃ d, owns c.tc (win0_9.stage (cfg0.slots t 9)) fullShare ((dats m 0 c).before 9 t d))
    ∗ (∃ d, owns c.tc (win0_10.stage (cfg0.slots t 10)) fullShare ((dats m 0 c).before 10 t d))
    ∗ (∃ d, owns c.tc (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t)
    ∗ owns c.tc (win0_9.stage (cfg0.slots t 9)) fullShare ((dats m 0 c).after 9 t)
    ∗ owns c.tc (win0_10.stage (cfg0.slots t 10)) fullShare ((dats m 0 c).after 10 t)
    ∗ owns c.tc (win0_11.stage (cfg0.slots t 11)) fullShare ((dats m 0 c).after 11 t))

/-- The scratch buffers as the pipeline hands them over. -/
theorem scratch_eq (c : Dev nD) :
    Scratch (F := F) c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)
      = Pipeline.scopedRest (Ix := Unit) (Name := ℕ) (U := UR sig nD τ) (Lvl := ℕ) (Val := Elt F) spec0 c := by
  rw [scopedRest0_eq]; unfold Scratch; simp only [Memref.view_whole, View.set_whole]; try rfl

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0, after1, after2, after3, after4, after5, after6, after7, after8, after9, after10, after11]
  unfold Pipeline.ΦA; rw [← scratch_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have key := (runAt m c t).2.2.2.2.2
  iapply (key _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [Hs]; · iexact Hs
  iintro ⟨H0, H1, H2, H3, H4, H5, H6, ⟨%e7, H7⟩, ⟨%e8, H8⟩, ⟨%e9, H9⟩, ⟨%e10, H10⟩, ⟨%e11, H11⟩, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 m c t)
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  unfold owns; iexists _; isplitr
  swap; · iexact H11
  ipureintro; exact View.read_writes_of_cover _ _ _ _ _ (cover11 m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every run of the program ends with the pipeline's arrays at what the proof data say and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.Gen.GateGrad.Frame
public import proofs.«01_k».proof.Proof.Gate.Value
public import proofs.«01_k».proof.Proof.Gen.DownGrad.Frame
public import proofs.«01_k».proof.Proof.Down.Value
public import proofs.«01_k».proof.Proof.Gen.FfGrad.Frame
public import proofs.«01_k».proof.Proof.Ff.Value
public import proofs.«01_k».proof.Proof.Gen.MlpGrad.Frame
public import proofs.«01_k».proof.Proof.Mlp.Value
public import proofs.«01_k».proof.Proof.Gen.InNormGrad.Frame
public import proofs.«01_k».proof.Proof.InNorm.Value
public import proofs.«01_k».proof.Proof.Gen.DownFinal.Frame
public import proofs.«01_k».proof.Proof.DownFinal.Value
public import proofs.«01_k».proof.Proof.Gen.GateUp.Frame
public import proofs.«01_k».proof.Proof.GateUp.Value
public import proofs.«01_k».proof.Proof.Gen.InProj.Frame
public import proofs.«01_k».proof.Proof.InProj.Value
public import proofs.«01_k».proof.Proof.Gen.OutNorm.Frame
public import proofs.«01_k».proof.Proof.OutNorm.Value
public import proofs.«01_k».proof.Proof.Gen.InGrad.Frame
public import proofs.«01_k».proof.Proof.In.Value
public import proofs.«01_k».proof.Proof.Gen.Norm1.Frame
public import proofs.«01_k».proof.Proof.Norm1.Value
public import proofs.«01_k».proof.Proof.Gen.PoolGrad.Frame
public import proofs.«01_k».proof.Proof.PoolGrad.Value
public import proofs.«01_k».proof.Proof.Gen.Pool.Frame
public import proofs.«01_k».proof.Proof.Pool.Value
public import proofs.«01_k».proof.Proof.Gen.Forget.Frame
public import proofs.«01_k».proof.Proof.Forget.Value
public import proofs.«01_k».proof.Proof.Gen.ForgetGrad.Frame
public import proofs.«01_k».proof.Proof.ForgetGrad.Value
public import proofs.«01_k».proof.Proof.Gen.OutGrad.Frame
public import proofs.«01_k».proof.Proof.Out.Value
public import proofs.«01_k».proof.Proof.Attn.Launch
public import proofs.«01_k».proof.Proof.AttnBits.Launch

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.GateGrad.Gen.facts,
  Cert.GateGradIdeal.Gen.facts,
  Cert.GateGradReferenceIdeal.Gen.facts,
  Cert.DownGrad.Gen.facts,
  Cert.DownGradIdeal.Gen.facts,
  Cert.DownGradReferenceIdeal.Gen.facts,
  Cert.FfGrad.Gen.facts,
  Cert.FfGradIdeal.Gen.facts,
  Cert.FfGradReferenceIdeal.Gen.facts,
  Cert.MlpGrad.Gen.facts,
  Cert.MlpGradIdeal.Gen.facts,
  Cert.MlpGradReferenceIdeal.Gen.facts,
  Cert.InNormGrad.Gen.facts,
  Cert.InNormGradIdeal.Gen.facts,
  Cert.InNormGradReferenceIdeal.Gen.facts,
  Cert.DownFinal.Gen.facts,
  Cert.DownFinalIdeal.Gen.facts,
  Cert.DownFinalReferenceIdeal.Gen.facts,
  Cert.GateUp.Gen.facts,
  Cert.GateUpIdeal.Gen.facts,
  Cert.GateUpReferenceIdeal.Gen.facts,
  Cert.InProj.Gen.facts,
  Cert.InProjIdeal.Gen.facts,
  Cert.InProjReferenceIdeal.Gen.facts,
  Cert.OutNorm.Gen.facts,
  Cert.OutNormIdeal.Gen.facts,
  Cert.OutNormReferenceIdeal.Gen.facts,
  Cert.InGrad.Gen.facts,
  Cert.InGradIdeal.Gen.facts,
  Cert.InGradReferenceIdeal.Gen.facts,
  Cert.Norm1.Gen.facts,
  Cert.Norm1Ideal.Gen.facts,
  Cert.Norm1ReferenceIdeal.Gen.facts,
  Cert.PoolGrad.Gen.facts,
  Cert.PoolGradIdeal.Gen.facts,
  Cert.PoolGradReferenceIdeal.Gen.facts,
  Cert.Pool.Gen.facts,
  Cert.PoolIdeal.Gen.facts,
  Cert.PoolReferenceIdeal.Gen.facts,
  Cert.Forget.Gen.facts,
  Cert.ForgetIdeal.Gen.facts,
  Cert.ForgetReferenceIdeal.Gen.facts,
  Cert.ForgetGrad.Gen.facts,
  Cert.ForgetGradIdeal.Gen.facts,
  Cert.ForgetGradReferenceIdeal.Gen.facts,
  Cert.OutGrad.Gen.facts,
  Cert.OutGradIdeal.Gen.facts,
  Cert.OutGradReferenceIdeal.Gen.facts,
  Cert.GateGradIdeal.Hand.preFacts,
  Cert.MlpGradIdeal.Hand.preFacts,
  Cert.InNormGradIdeal.Hand.preFacts,
  Cert.DownFinalIdeal.Hand.preFacts,
  Cert.ForgetGradIdeal.Hand.preFacts,
  fun m ρ _ => Cert.Kernel.Attn.frame m ρ, fun m ρ _ => Cert.KernelIdeal.Attn.frame m ρ,
  fun m ρ _ => (θ_run Cert.ReferenceIdeal.defs _ _).mono (fun r h => ⟨fun c => (h c).2.2.2.2.2,
    sem_eq_zero_of_no_sems (by decide) r.2⟩) (Cert.ReferenceIdeal.Value.run m ρ),
  fun m ρ _ => Cert.GateGrad.Gen.frame m ρ,
  fun m ρ _ => Cert.GateGradIdeal.Gen.frame m ρ,
  fun m ρ _ => Cert.GateGradIdeal.Gen.frame m ρ,
  fun m ρ _ => (θ_run Cert.GateGradReferenceIdeal.defs _ _).mono (fun r h => ⟨fun c => (h c).2.2,
    sem_eq_zero_of_no_sems (by decide) r.2⟩) (Cert.GateGradReferenceIdeal.Value.run m ρ),
  fun m ρ _ => (θ_run Cert.GateGradReferenceIdeal.defs _ _).mono (fun r h => ⟨fun c => (h c).2.2,
    sem_eq_zero_of_no_sems (by decide) r.2⟩) (Cert.GateGradReferenceIdeal.Value.run m ρ),
  fun m ρ _ => Cert.DownGrad.Gen.frame m ρ,
  fun m ρ _ => Cert.DownGradIdeal.Gen.frame m ρ,
  fun m ρ _ => (θ_run Cert.DownGradReferenceIdeal.defs _ _).mono (fun r h => ⟨fun c => (h c).2,
    sem_eq_zero_of_no_sems (by decide) r.2⟩) (Cert.DownGradReferenceIdeal.Value.run m ρ),
  fun m ρ _ => Cert.FfGrad.Gen.frame m ρ,
  fun m ρ _ => Cert.FfGradIdeal.Gen.frame m ρ,
  fun m ρ _ => (θ_run Cert.FfGradReferenceIdeal.defs _ _).mono (fun r h => ⟨fun c => (h c).2,
    sem_eq_zero_of_no_sems (by decide) r.2⟩) (Cert.FfGradReferenceIdeal.Value.run m ρ),
  fun m ρ _ => Cert.MlpGrad.Gen.frame m ρ,
  fun m ρ _ => Cert.MlpGradIdeal.Gen.frame m ρ,
  fun m ρ _ => Cert.MlpGradIdeal.Gen.frame m ρ,
  fun m ρ _ => (θ_run Cert.MlpGradReferenceIdeal.defs _ _).mono (fun r h => ⟨fun c => (h c).2.2.2,
    sem_eq_zero_of_no_sems (by decide) r.2⟩) (Cert.MlpGradReferenceIdeal.Value.run m ρ),
  fun m ρ _ => (θ_run Cert.MlpGradReferenceIdeal.defs _ _).mono (fun r h => ⟨fun c => (h c).2.2.2,
    sem_eq_zero_of_no_sems (by decide) r.2⟩) (Cert.MlpGradReferenceIdeal.Value.run m ρ),
  fun m ρ _ => Cert.InNormGrad.Gen.frame m ρ,
  fun m ρ _ => Cert.InNormGradIdeal.Gen.frame m ρ,
  fun m ρ _ => Cert.InNormGradIdeal.Gen.frame m ρ,
  fun m ρ _ => (θ_run Cert.InNormGradReferenceIdeal.defs _ _).mono (fun r h => ⟨fun c => (h c).2.2,
    sem_eq_zero_of_no_sems (by decide) r.2⟩) (Cert.InNormGradReferenceIdeal.Value.run m ρ),
  fun m ρ _ => (θ_run Cert.InNormGradReferenceIdeal.defs _ _).mono (fun r h => ⟨fun c => (h c).2.2,
    sem_eq_zero_of_no_sems (by decide) r.2⟩) (Cert.InNormGradReferenceIdeal.Value.run m ρ),
  fun m ρ _ => Cert.DownFinal.Gen.frame m ρ,
  fun m ρ _ => Cert.DownFinalIdeal.Gen.frame m ρ,
  fun m ρ _ => Cert.DownFinalIdeal.Gen.frame m ρ,
  fun m ρ _ => (θ_run Cert.DownFinalReferenceIdeal.defs _ _).mono (fun r h => ⟨fun c => (h c).2.2.2,
    sem_eq_zero_of_no_sems (by decide) r.2⟩) (Cert.DownFinalReferenceIdeal.Value.run m ρ),
  fun m ρ _ => (θ_run Cert.DownFinalReferenceIdeal.defs _ _).mono (fun r h => ⟨fun c => (h c).2.2.2,
    sem_eq_zero_of_no_sems (by decide) r.2⟩) (Cert.DownFinalReferenceIdeal.Value.run m ρ),
  fun m ρ _ => Cert.GateUp.Gen.frame m ρ,
  fun m ρ _ => Cert.GateUpIdeal.Gen.frame m ρ,
  fun m ρ _ => (θ_run Cert.GateUpReferenceIdeal.defs _ _).mono (fun r h => ⟨fun c => (h c).2.2.2,
    sem_eq_zero_of_no_sems (by decide) r.2⟩) (Cert.GateUpReferenceIdeal.Value.run m ρ),
  fun m ρ _ => Cert.InProj.Gen.frame m ρ,
  fun m ρ _ => Cert.InProjIdeal.Gen.frame m ρ,
  fun m ρ _ => (θ_run Cert.InProjReferenceIdeal.defs _ _).mono (fun r h => ⟨fun c => (h c).2.2.2,
    sem_eq_zero_of_no_sems (by decide) r.2⟩) (Cert.InProjReferenceIdeal.Value.run m ρ),
  fun m ρ _ => Cert.OutNorm.Gen.frame m ρ,
  fun m ρ _ => Cert.OutNormIdeal.Gen.frame m ρ,
  fun m ρ _ => (θ_run Cert.OutNormReferenceIdeal.defs _ _).mono (fun r h => ⟨fun c => (h c).2.2.2,
    sem_eq_zero_of_no_sems (by decide) r.2⟩) (Cert.OutNormReferenceIdeal.Value.run m ρ),
  fun m ρ _ => Cert.InGrad.Gen.frame m ρ,
  fun m ρ _ => Cert.InGradIdeal.Gen.frame m ρ,
  fun m ρ _ => (θ_run Cert.InGradReferenceIdeal.defs _ _).mono (fun r h => ⟨fun c => (h c).2,
    sem_eq_zero_of_no_sems (by decide) r.2⟩) (Cert.InGradReferenceIdeal.Value.run m ρ),
  fun m ρ _ => Cert.Norm1.Gen.frame m ρ,
  fun m ρ _ => Cert.Norm1Ideal.Gen.frame m ρ,
  fun m ρ _ => (θ_run Cert.Norm1ReferenceIdeal.defs _ _).mono (fun r h => ⟨fun c => (h c).2.2,
    sem_eq_zero_of_no_sems (by decide) r.2⟩) (Cert.Norm1ReferenceIdeal.Value.run m ρ),
  fun m ρ _ => Cert.PoolGrad.Gen.frame m ρ,
  fun m ρ _ => Cert.PoolGradIdeal.Gen.frame m ρ,
  fun m ρ _ => (θ_run Cert.PoolGradReferenceIdeal.defs _ _).mono (fun r h => ⟨fun c => (h c).2.2.2,
    sem_eq_zero_of_no_sems (by decide) r.2⟩) (Cert.PoolGradReferenceIdeal.Value.run m ρ),
  fun m ρ _ => Cert.Pool.Gen.frame m ρ,
  fun m ρ _ => Cert.PoolIdeal.Gen.frame m ρ,
  fun m ρ _ => (θ_run Cert.PoolReferenceIdeal.defs _ _).mono (fun r h => ⟨fun c => (h c).2.2,
    sem_eq_zero_of_no_sems (by decide) r.2⟩) (Cert.PoolReferenceIdeal.Value.run m ρ),
  fun m ρ _ => Cert.Forget.Gen.frame m ρ,
  fun m ρ _ => Cert.ForgetIdeal.Gen.frame m ρ,
  fun m ρ _ => (θ_run Cert.ForgetReferenceIdeal.defs _ _).mono (fun r h => ⟨fun c => (h c).2,
    sem_eq_zero_of_no_sems (by decide) r.2⟩) (Cert.ForgetReferenceIdeal.Value.run m ρ),
  fun m ρ _ => Cert.ForgetGrad.Gen.frame m ρ,
  fun m ρ _ => Cert.ForgetGradIdeal.Gen.frame m ρ,
  fun m ρ _ => Cert.ForgetGradIdeal.Gen.frame m ρ,
  fun m ρ _ => (θ_run Cert.ForgetGradReferenceIdeal.defs _ _).mono (fun r h => ⟨fun c => (h c).2.2,
    sem_eq_zero_of_no_sems (by decide) r.2⟩) (Cert.ForgetGradReferenceIdeal.Value.run m ρ),
  fun m ρ _ => (θ_run Cert.ForgetGradReferenceIdeal.defs _ _).mono (fun r h => ⟨fun c => (h c).2.2,
    sem_eq_zero_of_no_sems (by decide) r.2⟩) (Cert.ForgetGradReferenceIdeal.Value.run m ρ),
  fun m ρ _ => Cert.OutGrad.Gen.frame m ρ,
  fun m ρ _ => Cert.OutGradIdeal.Gen.frame m ρ,
  fun m ρ _ => (θ_run Cert.OutGradReferenceIdeal.defs _ _).mono (fun r h => ⟨fun c => (h c).2,
    sem_eq_zero_of_no_sems (by decide) r.2⟩) (Cert.OutGradReferenceIdeal.Value.run m ρ),
  IdealRules.named_const.statement Cert.KernelIdeal.κ "mask" .f32 0xF149F2CA#32 ⊥ rfl,
  trivial,
  Cert.GateGradIdeal.Hand.agrees,
  trivial,
  Cert.DownGradIdeal.Hand.agrees,
  trivial,
  Cert.FfGradIdeal.Hand.agrees,
  trivial,
  Cert.MlpGradIdeal.Hand.agrees,
  trivial,
  Cert.InNormGradIdeal.Hand.agrees,
  trivial,
  Cert.DownFinalIdeal.Hand.agrees,
  trivial,
  Cert.GateUpIdeal.Hand.agrees,
  trivial,
  Cert.InProjIdeal.Hand.agrees,
  trivial,
  Cert.OutNormIdeal.Hand.agrees,
  trivial,
  Cert.InGradIdeal.Hand.agrees,
  trivial,
  Cert.Norm1Ideal.Hand.agrees,
  trivial,
  Cert.PoolGradIdeal.Hand.agrees,
  trivial,
  Cert.PoolIdeal.Hand.agrees,
  trivial,
  Cert.ForgetIdeal.Hand.agrees,
  trivial,
  Cert.ForgetGradIdeal.Hand.agrees,
  trivial,
  Cert.OutGradIdeal.Hand.agrees⟩

end Cert.Proof

end
